-- ==== Defs.lean ====
def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxIdeal_finite_logits [hPre_finite_logits : Cert.Pre_finite_logits.Facts] (m : (ℓ : Loc Cert.CtxIdeal.nD Cert.CtxIdeal.τ Cert.CtxIdeal.sig) → Buf (Elt Ideal) ℓ) : Prop :=
  ∀ c : Dev Cert.CtxIdeal.nD,
    (Cert.Pre_finite_logits.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3))) = (fun _ => 1#1)

def Pre_CtxRefIdeal (m : (ℓ : Loc Cert.CtxRefIdeal.nD Cert.CtxRefIdeal.τ Cert.CtxRefIdeal.sig) → Buf (Elt Ideal) ℓ) : Prop :=
  True

def Pre_CtxRefIdeal_finite_logits [hPre_finite_logits : Cert.Pre_finite_logits.Facts] (m : (ℓ : Loc Cert.CtxRefIdeal.nD Cert.CtxRefIdeal.τ Cert.CtxRefIdeal.sig) → Buf (Elt Ideal) ℓ) : Prop :=
  ∀ c : Dev Cert.CtxRefIdeal.nD,
    (Cert.Pre_finite_logits.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Half30 (m : (ℓ : Loc Cert.Half30.nD Cert.Half30.τ Cert.Half30.sig) → Buf (Elt Bits) ℓ) : Prop :=
  True

def Pre_Half30Ideal (m : (ℓ : Loc Cert.Half30Ideal.nD Cert.Half30Ideal.τ Cert.Half30Ideal.sig) → Buf (Elt Ideal) ℓ) : Prop :=
  True

def Pre_Half30RefIdeal (m : (ℓ : Loc Cert.Half30RefIdeal.nD Cert.Half30RefIdeal.τ Cert.Half30RefIdeal.sig) → Buf (Elt Ideal) ℓ) : Prop :=
  True

def Pre_Half11 (m : (ℓ : Loc Cert.Half11.nD Cert.Half11.τ Cert.Half11.sig) → Buf (Elt Bits) ℓ) : Prop :=
  True

def Pre_Half11Ideal (m : (ℓ : Loc Cert.Half11Ideal.nD Cert.Half11Ideal.τ Cert.Half11Ideal.sig) → Buf (Elt Ideal) ℓ) : Prop :=
  True

def Pre_Half11RefIdeal (m : (ℓ : Loc Cert.Half11RefIdeal.nD Cert.Half11RefIdeal.τ Cert.Half11RefIdeal.sig) → Buf (Elt Ideal) ℓ) : Prop :=
  True

def Pre_Half10 (m : (ℓ : Loc Cert.Half10.nD Cert.Half10.τ Cert.Half10.sig) → Buf (Elt Bits) ℓ) : Prop :=
  True

def Pre_Half10Ideal (m : (ℓ : Loc Cert.Half10Ideal.nD Cert.Half10Ideal.τ Cert.Half10Ideal.sig) → Buf (Elt Ideal) ℓ) : Prop :=
  True

def Pre_Half10RefIdeal (m : (ℓ : Loc Cert.Half10RefIdeal.nD Cert.Half10RefIdeal.τ Cert.Half10RefIdeal.sig) → Buf (Elt Ideal) ℓ) : Prop :=
  True

def Pre_Half20 (m : (ℓ : Loc Cert.Half20.nD Cert.Half20.τ Cert.Half20.sig) → Buf (Elt Bits) ℓ) : Prop :=
  True

def Pre_Half20Ideal (m : (ℓ : Loc Cert.Half20Ideal.nD Cert.Half20Ideal.τ Cert.Half20Ideal.sig) → Buf (Elt Ideal) ℓ) : Prop :=
  True

def Pre_Half20RefIdeal (m : (ℓ : Loc Cert.Half20RefIdeal.nD Cert.Half20RefIdeal.τ Cert.Half20RefIdeal.sig) → Buf (Elt Ideal) ℓ) : Prop :=
  True

def Pre_Half00 (m : (ℓ : Loc Cert.Half00.nD Cert.Half00.τ Cert.Half00.sig) → Buf (Elt Bits) ℓ) : Prop :=
  True

def Pre_Half00Ideal (m : (ℓ : Loc Cert.Half00Ideal.nD Cert.Half00Ideal.τ Cert.Half00Ideal.sig) → Buf (Elt Ideal) ℓ) : Prop :=
  True

def Pre_Half00RefIdeal (m : (ℓ : Loc Cert.Half00RefIdeal.nD Cert.Half00RefIdeal.τ Cert.Half00RefIdeal.sig) → Buf (Elt Ideal) ℓ) : Prop :=
  True

def Pre_Half01 (m : (ℓ : Loc Cert.Half01.nD Cert.Half01.τ Cert.Half01.sig) → Buf (Elt Bits) ℓ) : Prop :=
  True

def Pre_Half01Ideal (m : (ℓ : Loc Cert.Half01Ideal.nD Cert.Half01Ideal.τ Cert.Half01Ideal.sig) → Buf (Elt Ideal) ℓ) : Prop :=
  True

def Pre_Half01RefIdeal (m : (ℓ : Loc Cert.Half01RefIdeal.nD Cert.Half01RefIdeal.τ Cert.Half01RefIdeal.sig) → Buf (Elt Ideal) ℓ) : Prop :=
  True

def Pre_Half21 (m : (ℓ : Loc Cert.Half21.nD Cert.Half21.τ Cert.Half21.sig) → Buf (Elt Bits) ℓ) : Prop :=
  True

def Pre_Half21Ideal (m : (ℓ : Loc Cert.Half21Ideal.nD Cert.Half21Ideal.τ Cert.Half21Ideal.sig) → Buf (Elt Ideal) ℓ) : Prop :=
  True

def Pre_Half21RefIdeal (m : (ℓ : Loc Cert.Half21RefIdeal.nD Cert.Half21RefIdeal.τ Cert.Half21RefIdeal.sig) → Buf (Elt Ideal) ℓ) : Prop :=
  True

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1)
      ∧ r.2.mem ((c.tc : Thread Cert.Ctx.nD Cert.Ctx.τ).loc Cert.Ctx.main_arg2) = m ((c.tc : Thread Cert.Ctx.nD Cert.Ctx.τ).loc Cert.Ctx.main_arg2)
      ∧ r.2.mem ((c.tc : Thread Cert.Ctx.nD Cert.Ctx.τ).loc Cert.Ctx.main_arg3) = m ((c.tc : Thread Cert.Ctx.nD Cert.Ctx.τ).loc Cert.Ctx.main_arg3))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
      ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3))
      ∧ r.2.sem = fun _ => 0)

def quiescent_CtxIdeal_pre_finite_logits [hCtxIdeal : Cert.CtxIdeal.Facts] [hPre_finite_logits : Cert.Pre_finite_logits.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal_finite_logits m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
      ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2)
      ∧ r.2.mem ((c.tc : Thread Cert.CtxRefIdeal.nD Cert.CtxRefIdeal.τ).loc Cert.CtxRefIdeal.main_arg3) = m ((c.tc : Thread Cert.CtxRefIdeal.nD Cert.CtxRefIdeal.τ).loc Cert.CtxRefIdeal.main_arg3))
      ∧ r.2.sem = fun _ => 0)

def quiescent_CtxRefIdeal_pre_finite_logits [hCtxRefIdeal : Cert.CtxRefIdeal.Facts] [hPre_finite_logits : Cert.Pre_finite_logits.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal_finite_logits m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2)
      ∧ r.2.mem ((c.tc : Thread Cert.CtxRefIdeal.nD Cert.CtxRefIdeal.τ).loc Cert.CtxRefIdeal.main_arg3) = m ((c.tc : Thread Cert.CtxRefIdeal.nD Cert.CtxRefIdeal.τ).loc Cert.CtxRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6)
      ∧ r.2.mem ((c.tc : Thread Cert.Conv.nD Cert.Conv.τ).loc Cert.Conv.main_arg7) = m ((c.tc : Thread Cert.Conv.nD Cert.Conv.τ).loc Cert.Conv.main_arg7)
      ∧ r.2.mem ((c.tc : Thread Cert.Conv.nD Cert.Conv.τ).loc Cert.Conv.main_arg8) = m ((c.tc : Thread Cert.Conv.nD Cert.Conv.τ).loc Cert.Conv.main_arg8))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
      ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
      ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6)
      ∧ r.2.mem ((c.tc : Thread Cert.ConvRefIdeal.nD Cert.ConvRefIdeal.τ).loc Cert.ConvRefIdeal.main_arg7) = m ((c.tc : Thread Cert.ConvRefIdeal.nD Cert.ConvRefIdeal.τ).loc Cert.ConvRefIdeal.main_arg7)
      ∧ r.2.mem ((c.tc : Thread Cert.ConvRefIdeal.nD Cert.ConvRefIdeal.τ).loc Cert.ConvRefIdeal.main_arg8) = m ((c.tc : Thread Cert.ConvRefIdeal.nD Cert.ConvRefIdeal.τ).loc Cert.ConvRefIdeal.main_arg8))
      ∧ r.2.sem = fun _ => 0)

def quiescent_Half30 [hHalf30 : Cert.Half30.Facts] : Prop :=
  ∀ (m : (ℓ : Loc Cert.Half30.nD Cert.Half30.τ Cert.Half30.sig) → Buf (Elt Bits) ℓ) (g : Dev Cert.Half30.nD → PrngReg), Pre_Half30 m →
    θ_run (Cert.Half30.defs (F := Bits)) (onTc (τ := Cert.Half30.τ) (Cert.Half30.main (F := Bits))) ⟨m, fun _ => 0, g⟩ (fun r => (∀ c : Dev Cert.Half30.nD,
      r.2.mem ((c.tc : Thread Cert.Half30.nD Cert.Half30.τ).loc Cert.Half30.main_arg0) = m ((c.tc : Thread Cert.Half30.nD Cert.Half30.τ).loc Cert.Half30.main_arg0)
      ∧ r.2.mem ((c.tc : Thread Cert.Half30.nD Cert.Half30.τ).loc Cert.Half30.main_arg1) = m ((c.tc : Thread Cert.Half30.nD Cert.Half30.τ).loc Cert.Half30.main_arg1)
      ∧ r.2.mem ((c.tc : Thread Cert.Half30.nD Cert.Half30.τ).loc Cert.Half30.main_arg2) = m ((c.tc : Thread Cert.Half30.nD Cert.Half30.τ).loc Cert.Half30.main_arg2)
      ∧ r.2.mem ((c.tc : Thread Cert.Half30.nD Cert.Half30.τ).loc Cert.Half30.main_arg3) = m ((c.tc : Thread Cert.Half30.nD Cert.Half30.τ).loc Cert.Half30.main_arg3)
      ∧ r.2.mem ((c.tc : Thread Cert.Half30.nD Cert.Half30.τ).loc Cert.Half30.main_arg4) = m ((c.tc : Thread Cert.Half30.nD Cert.Half30.τ).loc Cert.Half30.main_arg4)
      ∧ r.2.mem ((c.tc : Thread Cert.Half30.nD Cert.Half30.τ).loc Cert.Half30.main_arg5) = m ((c.tc : Thread Cert.Half30.nD Cert.Half30.τ).loc Cert.Half30.main_arg5)
      ∧ r.2.mem ((c.tc : Thread Cert.Half30.nD Cert.Half30.τ).loc Cert.Half30.main_arg6) = m ((c.tc : Thread Cert.Half30.nD Cert.Half30.τ).loc Cert.Half30.main_arg6))
      ∧ r.2.sem = fun _ => 0)

def quiescent_Half30Ideal [hHalf30Ideal : Cert.Half30Ideal.Facts] : Prop :=
  ∀ (m : (ℓ : Loc Cert.Half30Ideal.nD Cert.Half30Ideal.τ Cert.Half30Ideal.sig) → Buf (Elt Ideal) ℓ) (g : Dev Cert.Half30Ideal.nD → PrngReg), Pre_Half30Ideal m →
    θ_run (Cert.Half30Ideal.defs (F := Ideal)) (onTc (τ := Cert.Half30Ideal.τ) (Cert.Half30Ideal.main (F := Ideal))) ⟨m, fun _ => 0, g⟩ (fun r => (∀ c : Dev Cert.Half30Ideal.nD,
      r.2.mem ((c.tc : Thread Cert.Half30Ideal.nD Cert.Half30Ideal.τ).loc Cert.Half30Ideal.main_arg0) = m ((c.tc : Thread Cert.Half30Ideal.nD Cert.Half30Ideal.τ).loc Cert.Half30Ideal.main_arg0)
      ∧ r.2.mem ((c.tc : Thread Cert.Half30Ideal.nD Cert.Half30Ideal.τ).loc Cert.Half30Ideal.main_arg1) = m ((c.tc : Thread Cert.Half30Ideal.nD Cert.Half30Ideal.τ).loc Cert.Half30Ideal.main_arg1)
      ∧ r.2.mem ((c.tc : Thread Cert.Half30Ideal.nD Cert.Half30Ideal.τ).loc Cert.Half30Ideal.main_arg2) = m ((c.tc : Thread Cert.Half30Ideal.nD Cert.Half30Ideal.τ).loc Cert.Half30Ideal.main_arg2)
      ∧ r.2.mem ((c.tc : Thread Cert.Half30Ideal.nD Cert.Half30Ideal.τ).loc Cert.Half30Ideal.main_arg3) = m ((c.tc : Thread Cert.Half30Ideal.nD Cert.Half30Ideal.τ).loc Cert.Half30Ideal.main_arg3)
      ∧ r.2.mem ((c.tc : Thread Cert.Half30Ideal.nD Cert.Half30Ideal.τ).loc Cert.Half30Ideal.main_arg4) = m ((c.tc : Thread Cert.Half30Ideal.nD Cert.Half30Ideal.τ).loc Cert.Half30Ideal.main_arg4)
      ∧ r.2.mem ((c.tc : Thread Cert.Half30Ideal.nD Cert.Half30Ideal.τ).loc Cert.Half30Ideal.main_arg5) = m ((c.tc : Thread Cert.Half30Ideal.nD Cert.Half30Ideal.τ).loc Cert.Half30Ideal.main_arg5)
      ∧ r.2.mem ((c.tc : Thread Cert.Half30Ideal.nD Cert.Half30Ideal.τ).loc Cert.Half30Ideal.main_arg6) = m ((c.tc : Thread Cert.Half30Ideal.nD Cert.Half30Ideal.τ).loc Cert.Half30Ideal.main_arg6))
      ∧ r.2.sem = fun _ => 0)

def quiescent_Half30RefIdeal [hHalf30RefIdeal : Cert.Half30RefIdeal.Facts] : Prop :=
  ∀ (m : (ℓ : Loc Cert.Half30RefIdeal.nD Cert.Half30RefIdeal.τ Cert.Half30RefIdeal.sig) → Buf (Elt Ideal) ℓ) (g : Dev Cert.Half30RefIdeal.nD → PrngReg), Pre_Half30RefIdeal m →
    θ_run (Cert.Half30RefIdeal.defs (F := Ideal)) (onTc (τ := Cert.Half30RefIdeal.τ) (Cert.Half30RefIdeal.main (F := Ideal))) ⟨m, fun _ => 0, g⟩ (fun r => (∀ c : Dev Cert.Half30RefIdeal.nD,
      r.2.mem ((c.tc : Thread Cert.Half30RefIdeal.nD Cert.Half30RefIdeal.τ).loc Cert.Half30RefIdeal.main_arg0) = m ((c.tc : Thread Cert.Half30RefIdeal.nD Cert.Half30RefIdeal.τ).loc Cert.Half30RefIdeal.main_arg0)
      ∧ r.2.mem ((c.tc : Thread Cert.Half30RefIdeal.nD Cert.Half30RefIdeal.τ).loc Cert.Half30RefIdeal.main_arg1) = m ((c.tc : Thread Cert.Half30RefIdeal.nD Cert.Half30RefIdeal.τ).loc Cert.Half30RefIdeal.main_arg1)
      ∧ r.2.mem ((c.tc : Thread Cert.Half30RefIdeal.nD Cert.Half30RefIdeal.τ).loc Cert.Half30RefIdeal.main_arg2) = m ((c.tc : Thread Cert.Half30RefIdeal.nD Cert.Half30RefIdeal.τ).loc Cert.Half30RefIdeal.main_arg2)
      ∧ r.2.mem ((c.tc : Thread Cert.Half30RefIdeal.nD Cert.Half30RefIdeal.τ).loc Cert.Half30RefIdeal.main_arg3) = m ((c.tc : Thread Cert.Half30RefIdeal.nD Cert.Half30RefIdeal.τ).loc Cert.Half30RefIdeal.main_arg3)
      ∧ r.2.mem ((c.tc : Thread Cert.Half30RefIdeal.nD Cert.Half30RefIdeal.τ).loc Cert.Half30RefIdeal.main_arg4) = m ((c.tc : Thread Cert.Half30RefIdeal.nD Cert.Half30RefIdeal.τ).loc Cert.Half30RefIdeal.main_arg4)
      ∧ r.2.mem ((c.tc : Thread Cert.Half30RefIdeal.nD Cert.Half30RefIdeal.τ).loc Cert.Half30RefIdeal.main_arg5) = m ((c.tc : Thread Cert.Half30RefIdeal.nD Cert.Half30RefIdeal.τ).loc Cert.Half30RefIdeal.main_arg5)
      ∧ r.2.mem ((c.tc : Thread Cert.Half30RefIdeal.nD Cert.Half30RefIdeal.τ).loc Cert.Half30RefIdeal.main_arg6) = m ((c.tc : Thread Cert.Half30RefIdeal.nD Cert.Half30RefIdeal.τ).loc Cert.Half30RefIdeal.main_arg6))
      ∧ r.2.sem = fun _ => 0)

def quiescent_Half11 [hHalf11 : Cert.Half11.Facts] : Prop :=
  ∀ (m : (ℓ : Loc Cert.Half11.nD Cert.Half11.τ Cert.Half11.sig) → Buf (Elt Bits) ℓ) (g : Dev Cert.Half11.nD → PrngReg), Pre_Half11 m →
    θ_run (Cert.Half11.defs (F := Bits)) (onTc (τ := Cert.Half11.τ) (Cert.Half11.main (F := Bits))) ⟨m, fun _ => 0, g⟩ (fun r => (∀ c : Dev Cert.Half11.nD,
      r.2.mem ((c.tc : Thread Cert.Half11.nD Cert.Half11.τ).loc Cert.Half11.main_arg0) = m ((c.tc : Thread Cert.Half11.nD Cert.Half11.τ).loc Cert.Half11.main_arg0)
      ∧ r.2.mem ((c.tc : Thread Cert.Half11.nD Cert.Half11.τ).loc Cert.Half11.main_arg1) = m ((c.tc : Thread Cert.Half11.nD Cert.Half11.τ).loc Cert.Half11.main_arg1)
      ∧ r.2.mem ((c.tc : Thread Cert.Half11.nD Cert.Half11.τ).loc Cert.Half11.main_arg2) = m ((c.tc : Thread Cert.Half11.nD Cert.Half11.τ).loc Cert.Half11.main_arg2)
      ∧ r.2.mem ((c.tc : Thread Cert.Half11.nD Cert.Half11.τ).loc Cert.Half11.main_arg3) = m ((c.tc : Thread Cert.Half11.nD Cert.Half11.τ).loc Cert.Half11.main_arg3)
      ∧ r.2.mem ((c.tc : Thread Cert.Half11.nD Cert.Half11.τ).loc Cert.Half11.main_arg4) = m ((c.tc : Thread Cert.Half11.nD Cert.Half11.τ).loc Cert.Half11.main_arg4)
      ∧ r.2.mem ((c.tc : Thread Cert.Half11.nD Cert.Half11.τ).loc Cert.Half11.main_arg5) = m ((c.tc : Thread Cert.Half11.nD Cert.Half11.τ).loc Cert.Half11.main_arg5)
      ∧ r.2.mem ((c.tc : Thread Cert.Half11.nD Cert.Half11.τ).loc Cert.Half11.main_arg6) = m ((c.tc : Thread Cert.Half11.nD Cert.Half11.τ).loc Cert.Half11.main_arg6))
      ∧ r.2.sem = fun _ => 0)

def quiescent_Half11Ideal [hHalf11Ideal : Cert.Half11Ideal.Facts] : Prop :=
  ∀ (m : (ℓ : Loc Cert.Half11Ideal.nD Cert.Half11Ideal.τ Cert.Half11Ideal.sig) → Buf (Elt Ideal) ℓ) (g : Dev Cert.Half11Ideal.nD → PrngReg), Pre_Half11Ideal m →
    θ_run (Cert.Half11Ideal.defs (F := Ideal)) (onTc (τ := Cert.Half11Ideal.τ) (Cert.Half11Ideal.main (F := Ideal))) ⟨m, fun _ => 0, g⟩ (fun r => (∀ c : Dev Cert.Half11Ideal.nD,
      r.2.mem ((c.tc : Thread Cert.Half11Ideal.nD Cert.Half11Ideal.τ).loc Cert.Half11Ideal.main_arg0) = m ((c.tc : Thread Cert.Half11Ideal.nD Cert.Half11Ideal.τ).loc Cert.Half11Ideal.main_arg0)
      ∧ r.2.mem ((c.tc : Thread Cert.Half11Ideal.nD Cert.Half11Ideal.τ).loc Cert.Half11Ideal.main_arg1) = m ((c.tc : Thread Cert.Half11Ideal.nD Cert.Half11Ideal.τ).loc Cert.Half11Ideal.main_arg1)
      ∧ r.2.mem ((c.tc : Thread Cert.Half11Ideal.nD Cert.Half11Ideal.τ).loc Cert.Half11Ideal.main_arg2) = m ((c.tc : Thread Cert.Half11Ideal.nD Cert.Half11Ideal.τ).loc Cert.Half11Ideal.main_arg2)
      ∧ r.2.mem ((c.tc : Thread Cert.Half11Ideal.nD Cert.Half11Ideal.τ).loc Cert.Half11Ideal.main_arg3) = m ((c.tc : Thread Cert.Half11Ideal.nD Cert.Half11Ideal.τ).loc Cert.Half11Ideal.main_arg3)
      ∧ r.2.mem ((c.tc : Thread Cert.Half11Ideal.nD Cert.Half11Ideal.τ).loc Cert.Half11Ideal.main_arg4) = m ((c.tc : Thread Cert.Half11Ideal.nD Cert.Half11Ideal.τ).loc Cert.Half11Ideal.main_arg4)
      ∧ r.2.mem ((c.tc : Thread Cert.Half11Ideal.nD Cert.Half11Ideal.τ).loc Cert.Half11Ideal.main_arg5) = m ((c.tc : Thread Cert.Half11Ideal.nD Cert.Half11Ideal.τ).loc Cert.Half11Ideal.main_arg5)
      ∧ r.2.mem ((c.tc : Thread Cert.Half11Ideal.nD Cert.Half11Ideal.τ).loc Cert.Half11Ideal.main_arg6) = m ((c.tc : Thread Cert.Half11Ideal.nD Cert.Half11Ideal.τ).loc Cert.Half11Ideal.main_arg6))
      ∧ r.2.sem = fun _ => 0)

def quiescent_Half11RefIdeal [hHalf11RefIdeal : Cert.Half11RefIdeal.Facts] : Prop :=
  ∀ (m : (ℓ : Loc Cert.Half11RefIdeal.nD Cert.Half11RefIdeal.τ Cert.Half11RefIdeal.sig) → Buf (Elt Ideal) ℓ) (g : Dev Cert.Half11RefIdeal.nD → PrngReg), Pre_Half11RefIdeal m →
    θ_run (Cert.Half11RefIdeal.defs (F := Ideal)) (onTc (τ := Cert.Half11RefIdeal.τ) (Cert.Half11RefIdeal.main (F := Ideal))) ⟨m, fun _ => 0, g⟩ (fun r => (∀ c : Dev Cert.Half11RefIdeal.nD,
      r.2.mem ((c.tc : Thread Cert.Half11RefIdeal.nD Cert.Half11RefIdeal.τ).loc Cert.Half11RefIdeal.main_arg0) = m ((c.tc : Thread Cert.Half11RefIdeal.nD Cert.Half11RefIdeal.τ).loc Cert.Half11RefIdeal.main_arg0)
      ∧ r.2.mem ((c.tc : Thread Cert.Half11RefIdeal.nD Cert.Half11RefIdeal.τ).loc Cert.Half11RefIdeal.main_arg1) = m ((c.tc : Thread Cert.Half11RefIdeal.nD Cert.Half11RefIdeal.τ).loc Cert.Half11RefIdeal.main_arg1)
      ∧ r.2.mem ((c.tc : Thread Cert.Half11RefIdeal.nD Cert.Half11RefIdeal.τ).loc Cert.Half11RefIdeal.main_arg2) = m ((c.tc : Thread Cert.Half11RefIdeal.nD Cert.Half11RefIdeal.τ).loc Cert.Half11RefIdeal.main_arg2)
      ∧ r.2.mem ((c.tc : Thread Cert.Half11RefIdeal.nD Cert.Half11RefIdeal.τ).loc Cert.Half11RefIdeal.main_arg3) = m ((c.tc : Thread Cert.Half11RefIdeal.nD Cert.Half11RefIdeal.τ).loc Cert.Half11RefIdeal.main_arg3)
      ∧ r.2.mem ((c.tc : Thread Cert.Half11RefIdeal.nD Cert.Half11RefIdeal.τ).loc Cert.Half11RefIdeal.main_arg4) = m ((c.tc : Thread Cert.Half11RefIdeal.nD Cert.Half11RefIdeal.τ).loc Cert.Half11RefIdeal.main_arg4)
      ∧ r.2.mem ((c.tc : Thread Cert.Half11RefIdeal.nD Cert.Half11RefIdeal.τ).loc Cert.Half11RefIdeal.main_arg5) = m ((c.tc : Thread Cert.Half11RefIdeal.nD Cert.Half11RefIdeal.τ).loc Cert.Half11RefIdeal.main_arg5)
      ∧ r.2.mem ((c.tc : Thread Cert.Half11RefIdeal.nD Cert.Half11RefIdeal.τ).loc Cert.Half11RefIdeal.main_arg6) = m ((c.tc : Thread Cert.Half11RefIdeal.nD Cert.Half11RefIdeal.τ).loc Cert.Half11RefIdeal.main_arg6))
      ∧ r.2.sem = fun _ => 0)

def quiescent_Half10 [hHalf10 : Cert.Half10.Facts] : Prop :=
  ∀ (m : (ℓ : Loc Cert.Half10.nD Cert.Half10.τ Cert.Half10.sig) → Buf (Elt Bits) ℓ) (g : Dev Cert.Half10.nD → PrngReg), Pre_Half10 m →
    θ_run (Cert.Half10.defs (F := Bits)) (onTc (τ := Cert.Half10.τ) (Cert.Half10.main (F := Bits))) ⟨m, fun _ => 0, g⟩ (fun r => (∀ c : Dev Cert.Half10.nD,
      r.2.mem ((c.tc : Thread Cert.Half10.nD Cert.Half10.τ).loc Cert.Half10.main_arg0) = m ((c.tc : Thread Cert.Half10.nD Cert.Half10.τ).loc Cert.Half10.main_arg0)
      ∧ r.2.mem ((c.tc : Thread Cert.Half10.nD Cert.Half10.τ).loc Cert.Half10.main_arg1) = m ((c.tc : Thread Cert.Half10.nD Cert.Half10.τ).loc Cert.Half10.main_arg1)
      ∧ r.2.mem ((c.tc : Thread Cert.Half10.nD Cert.Half10.τ).loc Cert.Half10.main_arg2) = m ((c.tc : Thread Cert.Half10.nD Cert.Half10.τ).loc Cert.Half10.main_arg2)
      ∧ r.2.mem ((c.tc : Thread Cert.Half10.nD Cert.Half10.τ).loc Cert.Half10.main_arg3) = m ((c.tc : Thread Cert.Half10.nD Cert.Half10.τ).loc Cert.Half10.main_arg3)
      ∧ r.2.mem ((c.tc : Thread Cert.Half10.nD Cert.Half10.τ).loc Cert.Half10.main_arg4) = m ((c.tc : Thread Cert.Half10.nD Cert.Half10.τ).loc Cert.Half10.main_arg4)
      ∧ r.2.mem ((c.tc : Thread Cert.Half10.nD Cert.Half10.τ).loc Cert.Half10.main_arg5) = m ((c.tc : Thread Cert.Half10.nD Cert.Half10.τ).loc Cert.Half10.main_arg5)
      ∧ r.2.mem ((c.tc : Thread Cert.Half10.nD Cert.Half10.τ).loc Cert.Half10.main_arg6) = m ((c.tc : Thread Cert.Half10.nD Cert.Half10.τ).loc Cert.Half10.main_arg6)
      ∧ r.2.mem ((c.tc : Thread Cert.Half10.nD Cert.Half10.τ).loc Cert.Half10.main_arg7) = m ((c.tc : Thread Cert.Half10.nD Cert.Half10.τ).loc Cert.Half10.main_arg7)
      ∧ r.2.mem ((c.tc : Thread Cert.Half10.nD Cert.Half10.τ).loc Cert.Half10.main_arg8) = m ((c.tc : Thread Cert.Half10.nD Cert.Half10.τ).loc Cert.Half10.main_arg8)
      ∧ r.2.mem ((c.tc : Thread Cert.Half10.nD Cert.Half10.τ).loc Cert.Half10.main_arg9) = m ((c.tc : Thread Cert.Half10.nD Cert.Half10.τ).loc Cert.Half10.main_arg9)
      ∧ r.2.mem ((c.tc : Thread Cert.Half10.nD Cert.Half10.τ).loc Cert.Half10.main_arg10) = m ((c.tc : Thread Cert.Half10.nD Cert.Half10.τ).loc Cert.Half10.main_arg10))
      ∧ r.2.sem = fun _ => 0)

def quiescent_Half10Ideal [hHalf10Ideal : Cert.Half10Ideal.Facts] : Prop :=
  ∀ (m : (ℓ : Loc Cert.Half10Ideal.nD Cert.Half10Ideal.τ Cert.Half10Ideal.sig) → Buf (Elt Ideal) ℓ) (g : Dev Cert.Half10Ideal.nD → PrngReg), Pre_Half10Ideal m →
    θ_run (Cert.Half10Ideal.defs (F := Ideal)) (onTc (τ := Cert.Half10Ideal.τ) (Cert.Half10Ideal.main (F := Ideal))) ⟨m, fun _ => 0, g⟩ (fun r => (∀ c : Dev Cert.Half10Ideal.nD,
      r.2.mem ((c.tc : Thread Cert.Half10Ideal.nD Cert.Half10Ideal.τ).loc Cert.Half10Ideal.main_arg0) = m ((c.tc : Thread Cert.Half10Ideal.nD Cert.Half10Ideal.τ).loc Cert.Half10Ideal.main_arg0)
      ∧ r.2.mem ((c.tc : Thread Cert.Half10Ideal.nD Cert.Half10Ideal.τ).loc Cert.Half10Ideal.main_arg1) = m ((c.tc : Thread Cert.Half10Ideal.nD Cert.Half10Ideal.τ).loc Cert.Half10Ideal.main_arg1)
      ∧ r.2.mem ((c.tc : Thread Cert.Half10Ideal.nD Cert.Half10Ideal.τ).loc Cert.Half10Ideal.main_arg2) = m ((c.tc : Thread Cert.Half10Ideal.nD Cert.Half10Ideal.τ).loc Cert.Half10Ideal.main_arg2)
      ∧ r.2.mem ((c.tc : Thread Cert.Half10Ideal.nD Cert.Half10Ideal.τ).loc Cert.Half10Ideal.main_arg3) = m ((c.tc : Thread Cert.Half10Ideal.nD Cert.Half10Ideal.τ).loc Cert.Half10Ideal.main_arg3)
      ∧ r.2.mem ((c.tc : Thread Cert.Half10Ideal.nD Cert.Half10Ideal.τ).loc Cert.Half10Ideal.main_arg4) = m ((c.tc : Thread Cert.Half10Ideal.nD Cert.Half10Ideal.τ).loc Cert.Half10Ideal.main_arg4)
      ∧ r.2.mem ((c.tc : Thread Cert.Half10Ideal.nD Cert.Half10Ideal.τ).loc Cert.Half10Ideal.main_arg5) = m ((c.tc : Thread Cert.Half10Ideal.nD Cert.Half10Ideal.τ).loc Cert.Half10Ideal.main_arg5)
      ∧ r.2.mem ((c.tc : Thread Cert.Half10Ideal.nD Cert.Half10Ideal.τ).loc Cert.Half10Ideal.main_arg6) = m ((c.tc : Thread Cert.Half10Ideal.nD Cert.Half10Ideal.τ).loc Cert.Half10Ideal.main_arg6)
      ∧ r.2.mem ((c.tc : Thread Cert.Half10Ideal.nD Cert.Half10Ideal.τ).loc Cert.Half10Ideal.main_arg7) = m ((c.tc : Thread Cert.Half10Ideal.nD Cert.Half10Ideal.τ).loc Cert.Half10Ideal.main_arg7)
      ∧ r.2.mem ((c.tc : Thread Cert.Half10Ideal.nD Cert.Half10Ideal.τ).loc Cert.Half10Ideal.main_arg8) = m ((c.tc : Thread Cert.Half10Ideal.nD Cert.Half10Ideal.τ).loc Cert.Half10Ideal.main_arg8)
      ∧ r.2.mem ((c.tc : Thread Cert.Half10Ideal.nD Cert.Half10Ideal.τ).loc Cert.Half10Ideal.main_arg9) = m ((c.tc : Thread Cert.Half10Ideal.nD Cert.Half10Ideal.τ).loc Cert.Half10Ideal.main_arg9)
      ∧ r.2.mem ((c.tc : Thread Cert.Half10Ideal.nD Cert.Half10Ideal.τ).loc Cert.Half10Ideal.main_arg10) = m ((c.tc : Thread Cert.Half10Ideal.nD Cert.Half10Ideal.τ).loc Cert.Half10Ideal.main_arg10))
      ∧ r.2.sem = fun _ => 0)

def quiescent_Half10RefIdeal [hHalf10RefIdeal : Cert.Half10RefIdeal.Facts] : Prop :=
  ∀ (m : (ℓ : Loc Cert.Half10RefIdeal.nD Cert.Half10RefIdeal.τ Cert.Half10RefIdeal.sig) → Buf (Elt Ideal) ℓ) (g : Dev Cert.Half10RefIdeal.nD → PrngReg), Pre_Half10RefIdeal m →
    θ_run (Cert.Half10RefIdeal.defs (F := Ideal)) (onTc (τ := Cert.Half10RefIdeal.τ) (Cert.Half10RefIdeal.main (F := Ideal))) ⟨m, fun _ => 0, g⟩ (fun r => (∀ c : Dev Cert.Half10RefIdeal.nD,
      r.2.mem ((c.tc : Thread Cert.Half10RefIdeal.nD Cert.Half10RefIdeal.τ).loc Cert.Half10RefIdeal.main_arg0) = m ((c.tc : Thread Cert.Half10RefIdeal.nD Cert.Half10RefIdeal.τ).loc Cert.Half10RefIdeal.main_arg0)
      ∧ r.2.mem ((c.tc : Thread Cert.Half10RefIdeal.nD Cert.Half10RefIdeal.τ).loc Cert.Half10RefIdeal.main_arg1) = m ((c.tc : Thread Cert.Half10RefIdeal.nD Cert.Half10RefIdeal.τ).loc Cert.Half10RefIdeal.main_arg1)
      ∧ r.2.mem ((c.tc : Thread Cert.Half10RefIdeal.nD Cert.Half10RefIdeal.τ).loc Cert.Half10RefIdeal.main_arg2) = m ((c.tc : Thread Cert.Half10RefIdeal.nD Cert.Half10RefIdeal.τ).loc Cert.Half10RefIdeal.main_arg2)
      ∧ r.2.mem ((c.tc : Thread Cert.Half10RefIdeal.nD Cert.Half10RefIdeal.τ).loc Cert.Half10RefIdeal.main_arg3) = m ((c.tc : Thread Cert.Half10RefIdeal.nD Cert.Half10RefIdeal.τ).loc Cert.Half10RefIdeal.main_arg3)
      ∧ r.2.mem ((c.tc : Thread Cert.Half10RefIdeal.nD Cert.Half10RefIdeal.τ).loc Cert.Half10RefIdeal.main_arg4) = m ((c.tc : Thread Cert.Half10RefIdeal.nD Cert.Half10RefIdeal.τ).loc Cert.Half10RefIdeal.main_arg4)
      ∧ r.2.mem ((c.tc : Thread Cert.Half10RefIdeal.nD Cert.Half10RefIdeal.τ).loc Cert.Half10RefIdeal.main_arg5) = m ((c.tc : Thread Cert.Half10RefIdeal.nD Cert.Half10RefIdeal.τ).loc Cert.Half10RefIdeal.main_arg5)
      ∧ r.2.mem ((c.tc : Thread Cert.Half10RefIdeal.nD Cert.Half10RefIdeal.τ).loc Cert.Half10RefIdeal.main_arg6) = m ((c.tc : Thread Cert.Half10RefIdeal.nD Cert.Half10RefIdeal.τ).loc Cert.Half10RefIdeal.main_arg6)
      ∧ r.2.mem ((c.tc : Thread Cert.Half10RefIdeal.nD Cert.Half10RefIdeal.τ).loc Cert.Half10RefIdeal.main_arg7) = m ((c.tc : Thread Cert.Half10RefIdeal.nD Cert.Half10RefIdeal.τ).loc Cert.Half10RefIdeal.main_arg7)
      ∧ r.2.mem ((c.tc : Thread Cert.Half10RefIdeal.nD Cert.Half10RefIdeal.τ).loc Cert.Half10RefIdeal.main_arg8) = m ((c.tc : Thread Cert.Half10RefIdeal.nD Cert.Half10RefIdeal.τ).loc Cert.Half10RefIdeal.main_arg8)
      ∧ r.2.mem ((c.tc : Thread Cert.Half10RefIdeal.nD Cert.Half10RefIdeal.τ).loc Cert.Half10RefIdeal.main_arg9) = m ((c.tc : Thread Cert.Half10RefIdeal.nD Cert.Half10RefIdeal.τ).loc Cert.Half10RefIdeal.main_arg9)
      ∧ r.2.mem ((c.tc : Thread Cert.Half10RefIdeal.nD Cert.Half10RefIdeal.τ).loc Cert.Half10RefIdeal.main_arg10) = m ((c.tc : Thread Cert.Half10RefIdeal.nD Cert.Half10RefIdeal.τ).loc Cert.Half10RefIdeal.main_arg10))
      ∧ r.2.sem = fun _ => 0)

def quiescent_Half20 [hHalf20 : Cert.Half20.Facts] : Prop :=
  ∀ (m : (ℓ : Loc Cert.Half20.nD Cert.Half20.τ Cert.Half20.sig) → Buf (Elt Bits) ℓ) (g : Dev Cert.Half20.nD → PrngReg), Pre_Half20 m →
    θ_run (Cert.Half20.defs (F := Bits)) (onTc (τ := Cert.Half20.τ) (Cert.Half20.main (F := Bits))) ⟨m, fun _ => 0, g⟩ (fun r => (∀ c : Dev Cert.Half20.nD,
      r.2.mem ((c.tc : Thread Cert.Half20.nD Cert.Half20.τ).loc Cert.Half20.main_arg0) = m ((c.tc : Thread Cert.Half20.nD Cert.Half20.τ).loc Cert.Half20.main_arg0)
      ∧ r.2.mem ((c.tc : Thread Cert.Half20.nD Cert.Half20.τ).loc Cert.Half20.main_arg1) = m ((c.tc : Thread Cert.Half20.nD Cert.Half20.τ).loc Cert.Half20.main_arg1)
      ∧ r.2.mem ((c.tc : Thread Cert.Half20.nD Cert.Half20.τ).loc Cert.Half20.main_arg2) = m ((c.tc : Thread Cert.Half20.nD Cert.Half20.τ).loc Cert.Half20.main_arg2)
      ∧ r.2.mem ((c.tc : Thread Cert.Half20.nD Cert.Half20.τ).loc Cert.Half20.main_arg3) = m ((c.tc : Thread Cert.Half20.nD Cert.Half20.τ).loc Cert.Half20.main_arg3)
      ∧ r.2.mem ((c.tc : Thread Cert.Half20.nD Cert.Half20.τ).loc Cert.Half20.main_arg4) = m ((c.tc : Thread Cert.Half20.nD Cert.Half20.τ).loc Cert.Half20.main_arg4)
      ∧ r.2.mem ((c.tc : Thread Cert.Half20.nD Cert.Half20.τ).loc Cert.Half20.main_arg5) = m ((c.tc : Thread Cert.Half20.nD Cert.Half20.τ).loc Cert.Half20.main_arg5)
      ∧ r.2.mem ((c.tc : Thread Cert.Half20.nD Cert.Half20.τ).loc Cert.Half20.main_arg6) = m ((c.tc : Thread Cert.Half20.nD Cert.Half20.τ).loc Cert.Half20.main_arg6)
      ∧ r.2.mem ((c.tc : Thread Cert.Half20.nD Cert.Half20.τ).loc Cert.Half20.main_arg7) = m ((c.tc : Thread Cert.Half20.nD Cert.Half20.τ).loc Cert.Half20.main_arg7)
      ∧ r.2.mem ((c.tc : Thread Cert.Half20.nD Cert.Half20.τ).loc Cert.Half20.main_arg8) = m ((c.tc : Thread Cert.Half20.nD Cert.Half20.τ).loc Cert.Half20.main_arg8)
      ∧ r.2.mem ((c.tc : Thread Cert.Half20.nD Cert.Half20.τ).loc Cert.Half20.main_arg9) = m ((c.tc : Thread Cert.Half20.nD Cert.Half20.τ).loc Cert.Half20.main_arg9)
      ∧ r.2.mem ((c.tc : Thread Cert.Half20.nD Cert.Half20.τ).loc Cert.Half20.main_arg10) = m ((c.tc : Thread Cert.Half20.nD Cert.Half20.τ).loc Cert.Half20.main_arg10))
      ∧ r.2.sem = fun _ => 0)

def quiescent_Half20Ideal [hHalf20Ideal : Cert.Half20Ideal.Facts] : Prop :=
  ∀ (m : (ℓ : Loc Cert.Half20Ideal.nD Cert.Half20Ideal.τ Cert.Half20Ideal.sig) → Buf (Elt Ideal) ℓ) (g : Dev Cert.Half20Ideal.nD → PrngReg), Pre_Half20Ideal m →
    θ_run (Cert.Half20Ideal.defs (F := Ideal)) (onTc (τ := Cert.Half20Ideal.τ) (Cert.Half20Ideal.main (F := Ideal))) ⟨m, fun _ => 0, g⟩ (fun r => (∀ c : Dev Cert.Half20Ideal.nD,
      r.2.mem ((c.tc : Thread Cert.Half20Ideal.nD Cert.Half20Ideal.τ).loc Cert.Half20Ideal.main_arg0) = m ((c.tc : Thread Cert.Half20Ideal.nD Cert.Half20Ideal.τ).loc Cert.Half20Ideal.main_arg0)
      ∧ r.2.mem ((c.tc : Thread Cert.Half20Ideal.nD Cert.Half20Ideal.τ).loc Cert.Half20Ideal.main_arg1) = m ((c.tc : Thread Cert.Half20Ideal.nD Cert.Half20Ideal.τ).loc Cert.Half20Ideal.main_arg1)
      ∧ r.2.mem ((c.tc : Thread Cert.Half20Ideal.nD Cert.Half20Ideal.τ).loc Cert.Half20Ideal.main_arg2) = m ((c.tc : Thread Cert.Half20Ideal.nD Cert.Half20Ideal.τ).loc Cert.Half20Ideal.main_arg2)
      ∧ r.2.mem ((c.tc : Thread Cert.Half20Ideal.nD Cert.Half20Ideal.τ).loc Cert.Half20Ideal.main_arg3) = m ((c.tc : Thread Cert.Half20Ideal.nD Cert.Half20Ideal.τ).loc Cert.Half20Ideal.main_arg3)
      ∧ r.2.mem ((c.tc : Thread Cert.Half20Ideal.nD Cert.Half20Ideal.τ).loc Cert.Half20Ideal.main_arg4) = m ((c.tc : Thread Cert.Half20Ideal.nD Cert.Half20Ideal.τ).loc Cert.Half20Ideal.main_arg4)
      ∧ r.2.mem ((c.tc : Thread Cert.Half20Ideal.nD Cert.Half20Ideal.τ).loc Cert.Half20Ideal.main_arg5) = m ((c.tc : Thread Cert.Half20Ideal.nD Cert.Half20Ideal.τ).loc Cert.Half20Ideal.main_arg5)
      ∧ r.2.mem ((c.tc : Thread Cert.Half20Ideal.nD Cert.Half20Ideal.τ).loc Cert.Half20Ideal.main_arg6) = m ((c.tc : Thread Cert.Half20Ideal.nD Cert.Half20Ideal.τ).loc Cert.Half20Ideal.main_arg6)
      ∧ r.2.mem ((c.tc : Thread Cert.Half20Ideal.nD Cert.Half20Ideal.τ).loc Cert.Half20Ideal.main_arg7) = m ((c.tc : Thread Cert.Half20Ideal.nD Cert.Half20Ideal.τ).loc Cert.Half20Ideal.main_arg7)
      ∧ r.2.mem ((c.tc : Thread Cert.Half20Ideal.nD Cert.Half20Ideal.τ).loc Cert.Half20Ideal.main_arg8) = m ((c.tc : Thread Cert.Half20Ideal.nD Cert.Half20Ideal.τ).loc Cert.Half20Ideal.main_arg8)
      ∧ r.2.mem ((c.tc : Thread Cert.Half20Ideal.nD Cert.Half20Ideal.τ).loc Cert.Half20Ideal.main_arg9) = m ((c.tc : Thread Cert.Half20Ideal.nD Cert.Half20Ideal.τ).loc Cert.Half20Ideal.main_arg9)
      ∧ r.2.mem ((c.tc : Thread Cert.Half20Ideal.nD Cert.Half20Ideal.τ).loc Cert.Half20Ideal.main_arg10) = m ((c.tc : Thread Cert.Half20Ideal.nD Cert.Half20Ideal.τ).loc Cert.Half20Ideal.main_arg10))
      ∧ r.2.sem = fun _ => 0)

def quiescent_Half20RefIdeal [hHalf20RefIdeal : Cert.Half20RefIdeal.Facts] : Prop :=
  ∀ (m : (ℓ : Loc Cert.Half20RefIdeal.nD Cert.Half20RefIdeal.τ Cert.Half20RefIdeal.sig) → Buf (Elt Ideal) ℓ) (g : Dev Cert.Half20RefIdeal.nD → PrngReg), Pre_Half20RefIdeal m →
    θ_run (Cert.Half20RefIdeal.defs (F := Ideal)) (onTc (τ := Cert.Half20RefIdeal.τ) (Cert.Half20RefIdeal.main (F := Ideal))) ⟨m, fun _ => 0, g⟩ (fun r => (∀ c : Dev Cert.Half20RefIdeal.nD,
      r.2.mem ((c.tc : Thread Cert.Half20RefIdeal.nD Cert.Half20RefIdeal.τ).loc Cert.Half20RefIdeal.main_arg0) = m ((c.tc : Thread Cert.Half20RefIdeal.nD Cert.Half20RefIdeal.τ).loc Cert.Half20RefIdeal.main_arg0)
      ∧ r.2.mem ((c.tc : Thread Cert.Half20RefIdeal.nD Cert.Half20RefIdeal.τ).loc Cert.Half20RefIdeal.main_arg1) = m ((c.tc : Thread Cert.Half20RefIdeal.nD Cert.Half20RefIdeal.τ).loc Cert.Half20RefIdeal.main_arg1)
      ∧ r.2.mem ((c.tc : Thread Cert.Half20RefIdeal.nD Cert.Half20RefIdeal.τ).loc Cert.Half20RefIdeal.main_arg2) = m ((c.tc : Thread Cert.Half20RefIdeal.nD Cert.Half20RefIdeal.τ).loc Cert.Half20RefIdeal.main_arg2)
      ∧ r.2.mem ((c.tc : Thread Cert.Half20RefIdeal.nD Cert.Half20RefIdeal.τ).loc Cert.Half20RefIdeal.main_arg3) = m ((c.tc : Thread Cert.Half20RefIdeal.nD Cert.Half20RefIdeal.τ).loc Cert.Half20RefIdeal.main_arg3)
      ∧ r.2.mem ((c.tc : Thread Cert.Half20RefIdeal.nD Cert.Half20RefIdeal.τ).loc Cert.Half20RefIdeal.main_arg4) = m ((c.tc : Thread Cert.Half20RefIdeal.nD Cert.Half20RefIdeal.τ).loc Cert.Half20RefIdeal.main_arg4)
      ∧ r.2.mem ((c.tc : Thread Cert.Half20RefIdeal.nD Cert.Half20RefIdeal.τ).loc Cert.Half20RefIdeal.main_arg5) = m ((c.tc : Thread Cert.Half20RefIdeal.nD Cert.Half20RefIdeal.τ).loc Cert.Half20RefIdeal.main_arg5)
      ∧ r.2.mem ((c.tc : Thread Cert.Half20RefIdeal.nD Cert.Half20RefIdeal.τ).loc Cert.Half20RefIdeal.main_arg6) = m ((c.tc : Thread Cert.Half20RefIdeal.nD Cert.Half20RefIdeal.τ).loc Cert.Half20RefIdeal.main_arg6)
      ∧ r.2.mem ((c.tc : Thread Cert.Half20RefIdeal.nD Cert.Half20RefIdeal.τ).loc Cert.Half20RefIdeal.main_arg7) = m ((c.tc : Thread Cert.Half20RefIdeal.nD Cert.Half20RefIdeal.τ).loc Cert.Half20RefIdeal.main_arg7)
      ∧ r.2.mem ((c.tc : Thread Cert.Half20RefIdeal.nD Cert.Half20RefIdeal.τ).loc Cert.Half20RefIdeal.main_arg8) = m ((c.tc : Thread Cert.Half20RefIdeal.nD Cert.Half20RefIdeal.τ).loc Cert.Half20RefIdeal.main_arg8)
      ∧ r.2.mem ((c.tc : Thread Cert.Half20RefIdeal.nD Cert.Half20RefIdeal.τ).loc Cert.Half20RefIdeal.main_arg9) = m ((c.tc : Thread Cert.Half20RefIdeal.nD Cert.Half20RefIdeal.τ).loc Cert.Half20RefIdeal.main_arg9)
      ∧ r.2.mem ((c.tc : Thread Cert.Half20RefIdeal.nD Cert.Half20RefIdeal.τ).loc Cert.Half20RefIdeal.main_arg10) = m ((c.tc : Thread Cert.Half20RefIdeal.nD Cert.Half20RefIdeal.τ).loc Cert.Half20RefIdeal.main_arg10))
      ∧ r.2.sem = fun _ => 0)

def quiescent_Half00 [hHalf00 : Cert.Half00.Facts] : Prop :=
  ∀ (m : (ℓ : Loc Cert.Half00.nD Cert.Half00.τ Cert.Half00.sig) → Buf (Elt Bits) ℓ) (g : Dev Cert.Half00.nD → PrngReg), Pre_Half00 m →
    θ_run (Cert.Half00.defs (F := Bits)) (onTc (τ := Cert.Half00.τ) (Cert.Half00.main (F := Bits))) ⟨m, fun _ => 0, g⟩ (fun r => (∀ c : Dev Cert.Half00.nD,
      r.2.mem ((c.tc : Thread Cert.Half00.nD Cert.Half00.τ).loc Cert.Half00.main_arg0) = m ((c.tc : Thread Cert.Half00.nD Cert.Half00.τ).loc Cert.Half00.main_arg0)
      ∧ r.2.mem ((c.tc : Thread Cert.Half00.nD Cert.Half00.τ).loc Cert.Half00.main_arg1) = m ((c.tc : Thread Cert.Half00.nD Cert.Half00.τ).loc Cert.Half00.main_arg1)
      ∧ r.2.mem ((c.tc : Thread Cert.Half00.nD Cert.Half00.τ).loc Cert.Half00.main_arg2) = m ((c.tc : Thread Cert.Half00.nD Cert.Half00.τ).loc Cert.Half00.main_arg2)
      ∧ r.2.mem ((c.tc : Thread Cert.Half00.nD Cert.Half00.τ).loc Cert.Half00.main_arg3) = m ((c.tc : Thread Cert.Half00.nD Cert.Half00.τ).loc Cert.Half00.main_arg3)
      ∧ r.2.mem ((c.tc : Thread Cert.Half00.nD Cert.Half00.τ).loc Cert.Half00.main_arg4) = m ((c.tc : Thread Cert.Half00.nD Cert.Half00.τ).loc Cert.Half00.main_arg4)
      ∧ r.2.mem ((c.tc : Thread Cert.Half00.nD Cert.Half00.τ).loc Cert.Half00.main_arg5) = m ((c.tc : Thread Cert.Half00.nD Cert.Half00.τ).loc Cert.Half00.main_arg5)
      ∧ r.2.mem ((c.tc : Thread Cert.Half00.nD Cert.Half00.τ).loc Cert.Half00.main_arg6) = m ((c.tc : Thread Cert.Half00.nD Cert.Half00.τ).loc Cert.Half00.main_arg6)
      ∧ r.2.mem ((c.tc : Thread Cert.Half00.nD Cert.Half00.τ).loc Cert.Half00.main_arg7) = m ((c.tc : Thread Cert.Half00.nD Cert.Half00.τ).loc Cert.Half00.main_arg7)
      ∧ r.2.mem ((c.tc : Thread Cert.Half00.nD Cert.Half00.τ).loc Cert.Half00.main_arg8) = m ((c.tc : Thread Cert.Half00.nD Cert.Half00.τ).loc Cert.Half00.main_arg8)
      ∧ r.2.mem ((c.tc : Thread Cert.Half00.nD Cert.Half00.τ).loc Cert.Half00.main_arg9) = m ((c.tc : Thread Cert.Half00.nD Cert.Half00.τ).loc Cert.Half00.main_arg9)
      ∧ r.2.mem ((c.tc : Thread Cert.Half00.nD Cert.Half00.τ).loc Cert.Half00.main_arg10) = m ((c.tc : Thread Cert.Half00.nD Cert.Half00.τ).loc Cert.Half00.main_arg10))
      ∧ r.2.sem = fun _ => 0)

def quiescent_Half00Ideal [hHalf00Ideal : Cert.Half00Ideal.Facts] : Prop :=
  ∀ (m : (ℓ : Loc Cert.Half00Ideal.nD Cert.Half00Ideal.τ Cert.Half00Ideal.sig) → Buf (Elt Ideal) ℓ) (g : Dev Cert.Half00Ideal.nD → PrngReg), Pre_Half00Ideal m →
    θ_run (Cert.Half00Ideal.defs (F := Ideal)) (onTc (τ := Cert.Half00Ideal.τ) (Cert.Half00Ideal.main (F := Ideal))) ⟨m, fun _ => 0, g⟩ (fun r => (∀ c : Dev Cert.Half00Ideal.nD,
      r.2.mem ((c.tc : Thread Cert.Half00Ideal.nD Cert.Half00Ideal.τ).loc Cert.Half00Ideal.main_arg0) = m ((c.tc : Thread Cert.Half00Ideal.nD Cert.Half00Ideal.τ).loc Cert.Half00Ideal.main_arg0)
      ∧ r.2.mem ((c.tc : Thread Cert.Half00Ideal.nD Cert.Half00Ideal.τ).loc Cert.Half00Ideal.main_arg1) = m ((c.tc : Thread Cert.Half00Ideal.nD Cert.Half00Ideal.τ).loc Cert.Half00Ideal.main_arg1)
      ∧ r.2.mem ((c.tc : Thread Cert.Half00Ideal.nD Cert.Half00Ideal.τ).loc Cert.Half00Ideal.main_arg2) = m ((c.tc : Thread Cert.Half00Ideal.nD Cert.Half00Ideal.τ).loc Cert.Half00Ideal.main_arg2)
      ∧ r.2.mem ((c.tc : Thread Cert.Half00Ideal.nD Cert.Half00Ideal.τ).loc Cert.Half00Ideal.main_arg3) = m ((c.tc : Thread Cert.Half00Ideal.nD Cert.Half00Ideal.τ).loc Cert.Half00Ideal.main_arg3)
      ∧ r.2.mem ((c.tc : Thread Cert.Half00Ideal.nD Cert.Half00Ideal.τ).loc Cert.Half00Ideal.main_arg4) = m ((c.tc : Thread Cert.Half00Ideal.nD Cert.Half00Ideal.τ).loc Cert.Half00Ideal.main_arg4)
      ∧ r.2.mem ((c.tc : Thread Cert.Half00Ideal.nD Cert.Half00Ideal.τ).loc Cert.Half00Ideal.main_arg5) = m ((c.tc : Thread Cert.Half00Ideal.nD Cert.Half00Ideal.τ).loc Cert.Half00Ideal.main_arg5)
      ∧ r.2.mem ((c.tc : Thread Cert.Half00Ideal.nD Cert.Half00Ideal.τ).loc Cert.Half00Ideal.main_arg6) = m ((c.tc : Thread Cert.Half00Ideal.nD Cert.Half00Ideal.τ).loc Cert.Half00Ideal.main_arg6)
      ∧ r.2.mem ((c.tc : Thread Cert.Half00Ideal.nD Cert.Half00Ideal.τ).loc Cert.Half00Ideal.main_arg7) = m ((c.tc : Thread Cert.Half00Ideal.nD Cert.Half00Ideal.τ).loc Cert.Half00Ideal.main_arg7)
      ∧ r.2.mem ((c.tc : Thread Cert.Half00Ideal.nD Cert.Half00Ideal.τ).loc Cert.Half00Ideal.main_arg8) = m ((c.tc : Thread Cert.Half00Ideal.nD Cert.Half00Ideal.τ).loc Cert.Half00Ideal.main_arg8)
      ∧ r.2.mem ((c.tc : Thread Cert.Half00Ideal.nD Cert.Half00Ideal.τ).loc Cert.Half00Ideal.main_arg9) = m ((c.tc : Thread Cert.Half00Ideal.nD Cert.Half00Ideal.τ).loc Cert.Half00Ideal.main_arg9)
      ∧ r.2.mem ((c.tc : Thread Cert.Half00Ideal.nD Cert.Half00Ideal.τ).loc Cert.Half00Ideal.main_arg10) = m ((c.tc : Thread Cert.Half00Ideal.nD Cert.Half00Ideal.τ).loc Cert.Half00Ideal.main_arg10))
      ∧ r.2.sem = fun _ => 0)

def quiescent_Half00RefIdeal [hHalf00RefIdeal : Cert.Half00RefIdeal.Facts] : Prop :=
  ∀ (m : (ℓ : Loc Cert.Half00RefIdeal.nD Cert.Half00RefIdeal.τ Cert.Half00RefIdeal.sig) → Buf (Elt Ideal) ℓ) (g : Dev Cert.Half00RefIdeal.nD → PrngReg), Pre_Half00RefIdeal m →
    θ_run (Cert.Half00RefIdeal.defs (F := Ideal)) (onTc (τ := Cert.Half00RefIdeal.τ) (Cert.Half00RefIdeal.main (F := Ideal))) ⟨m, fun _ => 0, g⟩ (fun r => (∀ c : Dev Cert.Half00RefIdeal.nD,
      r.2.mem ((c.tc : Thread Cert.Half00RefIdeal.nD Cert.Half00RefIdeal.τ).loc Cert.Half00RefIdeal.main_arg0) = m ((c.tc : Thread Cert.Half00RefIdeal.nD Cert.Half00RefIdeal.τ).loc Cert.Half00RefIdeal.main_arg0)
      ∧ r.2.mem ((c.tc : Thread Cert.Half00RefIdeal.nD Cert.Half00RefIdeal.τ).loc Cert.Half00RefIdeal.main_arg1) = m ((c.tc : Thread Cert.Half00RefIdeal.nD Cert.Half00RefIdeal.τ).loc Cert.Half00RefIdeal.main_arg1)
      ∧ r.2.mem ((c.tc : Thread Cert.Half00RefIdeal.nD Cert.Half00RefIdeal.τ).loc Cert.Half00RefIdeal.main_arg2) = m ((c.tc : Thread Cert.Half00RefIdeal.nD Cert.Half00RefIdeal.τ).loc Cert.Half00RefIdeal.main_arg2)
      ∧ r.2.mem ((c.tc : Thread Cert.Half00RefIdeal.nD Cert.Half00RefIdeal.τ).loc Cert.Half00RefIdeal.main_arg3) = m ((c.tc : Thread Cert.Half00RefIdeal.nD Cert.Half00RefIdeal.τ).loc Cert.Half00RefIdeal.main_arg3)
      ∧ r.2.mem ((c.tc : Thread Cert.Half00RefIdeal.nD Cert.Half00RefIdeal.τ).loc Cert.Half00RefIdeal.main_arg4) = m ((c.tc : Thread Cert.Half00RefIdeal.nD Cert.Half00RefIdeal.τ).loc Cert.Half00RefIdeal.main_arg4)
      ∧ r.2.mem ((c.tc : Thread Cert.Half00RefIdeal.nD Cert.Half00RefIdeal.τ).loc Cert.Half00RefIdeal.main_arg5) = m ((c.tc : Thread Cert.Half00RefIdeal.nD Cert.Half00RefIdeal.τ).loc Cert.Half00RefIdeal.main_arg5)
      ∧ r.2.mem ((c.tc : Thread Cert.Half00RefIdeal.nD Cert.Half00RefIdeal.τ).loc Cert.Half00RefIdeal.main_arg6) = m ((c.tc : Thread Cert.Half00RefIdeal.nD Cert.Half00RefIdeal.τ).loc Cert.Half00RefIdeal.main_arg6)
      ∧ r.2.mem ((c.tc : Thread Cert.Half00RefIdeal.nD Cert.Half00RefIdeal.τ).loc Cert.Half00RefIdeal.main_arg7) = m ((c.tc : Thread Cert.Half00RefIdeal.nD Cert.Half00RefIdeal.τ).loc Cert.Half00RefIdeal.main_arg7)
      ∧ r.2.mem ((c.tc : Thread Cert.Half00RefIdeal.nD Cert.Half00RefIdeal.τ).loc Cert.Half00RefIdeal.main_arg8) = m ((c.tc : Thread Cert.Half00RefIdeal.nD Cert.Half00RefIdeal.τ).loc Cert.Half00RefIdeal.main_arg8)
      ∧ r.2.mem ((c.tc : Thread Cert.Half00RefIdeal.nD Cert.Half00RefIdeal.τ).loc Cert.Half00RefIdeal.main_arg9) = m ((c.tc : Thread Cert.Half00RefIdeal.nD Cert.Half00RefIdeal.τ).loc Cert.Half00RefIdeal.main_arg9)
      ∧ r.2.mem ((c.tc : Thread Cert.Half00RefIdeal.nD Cert.Half00RefIdeal.τ).loc Cert.Half00RefIdeal.main_arg10) = m ((c.tc : Thread Cert.Half00RefIdeal.nD Cert.Half00RefIdeal.τ).loc Cert.Half00RefIdeal.main_arg10))
      ∧ r.2.sem = fun _ => 0)

def quiescent_Half01 [hHalf01 : Cert.Half01.Facts] : Prop :=
  ∀ (m : (ℓ : Loc Cert.Half01.nD Cert.Half01.τ Cert.Half01.sig) → Buf (Elt Bits) ℓ) (g : Dev Cert.Half01.nD → PrngReg), Pre_Half01 m →
    θ_run (Cert.Half01.defs (F := Bits)) (onTc (τ := Cert.Half01.τ) (Cert.Half01.main (F := Bits))) ⟨m, fun _ => 0, g⟩ (fun r => (∀ c : Dev Cert.Half01.nD,
      r.2.mem ((c.tc : Thread Cert.Half01.nD Cert.Half01.τ).loc Cert.Half01.main_arg0) = m ((c.tc : Thread Cert.Half01.nD Cert.Half01.τ).loc Cert.Half01.main_arg0)
      ∧ r.2.mem ((c.tc : Thread Cert.Half01.nD Cert.Half01.τ).loc Cert.Half01.main_arg1) = m ((c.tc : Thread Cert.Half01.nD Cert.Half01.τ).loc Cert.Half01.main_arg1)
      ∧ r.2.mem ((c.tc : Thread Cert.Half01.nD Cert.Half01.τ).loc Cert.Half01.main_arg2) = m ((c.tc : Thread Cert.Half01.nD Cert.Half01.τ).loc Cert.Half01.main_arg2)
      ∧ r.2.mem ((c.tc : Thread Cert.Half01.nD Cert.Half01.τ).loc Cert.Half01.main_arg3) = m ((c.tc : Thread Cert.Half01.nD Cert.Half01.τ).loc Cert.Half01.main_arg3)
      ∧ r.2.mem ((c.tc : Thread Cert.Half01.nD Cert.Half01.τ).loc Cert.Half01.main_arg4) = m ((c.tc : Thread Cert.Half01.nD Cert.Half01.τ).loc Cert.Half01.main_arg4)
      ∧ r.2.mem ((c.tc : Thread Cert.Half01.nD Cert.Half01.τ).loc Cert.Half01.main_arg5) = m ((c.tc : Thread Cert.Half01.nD Cert.Half01.τ).loc Cert.Half01.main_arg5)
      ∧ r.2.mem ((c.tc : Thread Cert.Half01.nD Cert.Half01.τ).loc Cert.Half01.main_arg6) = m ((c.tc : Thread Cert.Half01.nD Cert.Half01.τ).loc Cert.Half01.main_arg6)
      ∧ r.2.mem ((c.tc : Thread Cert.Half01.nD Cert.Half01.τ).loc Cert.Half01.main_arg7) = m ((c.tc : Thread Cert.Half01.nD Cert.Half01.τ).loc Cert.Half01.main_arg7)
      ∧ r.2.mem ((c.tc : Thread Cert.Half01.nD Cert.Half01.τ).loc Cert.Half01.main_arg8) = m ((c.tc : Thread Cert.Half01.nD Cert.Half01.τ).loc Cert.Half01.main_arg8)
      ∧ r.2.mem ((c.tc : Thread Cert.Half01.nD Cert.Half01.τ).loc Cert.Half01.main_arg9) = m ((c.tc : Thread Cert.Half01.nD Cert.Half01.τ).loc Cert.Half01.main_arg9))
      ∧ r.2.sem = fun _ => 0)

def quiescent_Half01Ideal [hHalf01Ideal : Cert.Half01Ideal.Facts] : Prop :=
  ∀ (m : (ℓ : Loc Cert.Half01Ideal.nD Cert.Half01Ideal.τ Cert.Half01Ideal.sig) → Buf (Elt Ideal) ℓ) (g : Dev Cert.Half01Ideal.nD → PrngReg), Pre_Half01Ideal m →
    θ_run (Cert.Half01Ideal.defs (F := Ideal)) (onTc (τ := Cert.Half01Ideal.τ) (Cert.Half01Ideal.main (F := Ideal))) ⟨m, fun _ => 0, g⟩ (fun r => (∀ c : Dev Cert.Half01Ideal.nD,
      r.2.mem ((c.tc : Thread Cert.Half01Ideal.nD Cert.Half01Ideal.τ).loc Cert.Half01Ideal.main_arg0) = m ((c.tc : Thread Cert.Half01Ideal.nD Cert.Half01Ideal.τ).loc Cert.Half01Ideal.main_arg0)
      ∧ r.2.mem ((c.tc : Thread Cert.Half01Ideal.nD Cert.Half01Ideal.τ).loc Cert.Half01Ideal.main_arg1) = m ((c.tc : Thread Cert.Half01Ideal.nD Cert.Half01Ideal.τ).loc Cert.Half01Ideal.main_arg1)
      ∧ r.2.mem ((c.tc : Thread Cert.Half01Ideal.nD Cert.Half01Ideal.τ).loc Cert.Half01Ideal.main_arg2) = m ((c.tc : Thread Cert.Half01Ideal.nD Cert.Half01Ideal.τ).loc Cert.Half01Ideal.main_arg2)
      ∧ r.2.mem ((c.tc : Thread Cert.Half01Ideal.nD Cert.Half01Ideal.τ).loc Cert.Half01Ideal.main_arg3) = m ((c.tc : Thread Cert.Half01Ideal.nD Cert.Half01Ideal.τ).loc Cert.Half01Ideal.main_arg3)
      ∧ r.2.mem ((c.tc : Thread Cert.Half01Ideal.nD Cert.Half01Ideal.τ).loc Cert.Half01Ideal.main_arg4) = m ((c.tc : Thread Cert.Half01Ideal.nD Cert.Half01Ideal.τ).loc Cert.Half01Ideal.main_arg4)
      ∧ r.2.mem ((c.tc : Thread Cert.Half01Ideal.nD Cert.Half01Ideal.τ).loc Cert.Half01Ideal.main_arg5) = m ((c.tc : Thread Cert.Half01Ideal.nD Cert.Half01Ideal.τ).loc Cert.Half01Ideal.main_arg5)
      ∧ r.2.mem ((c.tc : Thread Cert.Half01Ideal.nD Cert.Half01Ideal.τ).loc Cert.Half01Ideal.main_arg6) = m ((c.tc : Thread Cert.Half01Ideal.nD Cert.Half01Ideal.τ).loc Cert.Half01Ideal.main_arg6)
      ∧ r.2.mem ((c.tc : Thread Cert.Half01Ideal.nD Cert.Half01Ideal.τ).loc Cert.Half01Ideal.main_arg7) = m ((c.tc : Thread Cert.Half01Ideal.nD Cert.Half01Ideal.τ).loc Cert.Half01Ideal.main_arg7)
      ∧ r.2.mem ((c.tc : Thread Cert.Half01Ideal.nD Cert.Half01Ideal.τ).loc Cert.Half01Ideal.main_arg8) = m ((c.tc : Thread Cert.Half01Ideal.nD Cert.Half01Ideal.τ).loc Cert.Half01Ideal.main_arg8)
      ∧ r.2.mem ((c.tc : Thread Cert.Half01Ideal.nD Cert.Half01Ideal.τ).loc Cert.Half01Ideal.main_arg9) = m ((c.tc : Thread Cert.Half01Ideal.nD Cert.Half01Ideal.τ).loc Cert.Half01Ideal.main_arg9))
      ∧ r.2.sem = fun _ => 0)

def quiescent_Half01RefIdeal [hHalf01RefIdeal : Cert.Half01RefIdeal.Facts] : Prop :=
  ∀ (m : (ℓ : Loc Cert.Half01RefIdeal.nD Cert.Half01RefIdeal.τ Cert.Half01RefIdeal.sig) → Buf (Elt Ideal) ℓ) (g : Dev Cert.Half01RefIdeal.nD → PrngReg), Pre_Half01RefIdeal m →
    θ_run (Cert.Half01RefIdeal.defs (F := Ideal)) (onTc (τ := Cert.Half01RefIdeal.τ) (Cert.Half01RefIdeal.main (F := Ideal))) ⟨m, fun _ => 0, g⟩ (fun r => (∀ c : Dev Cert.Half01RefIdeal.nD,
      r.2.mem ((c.tc : Thread Cert.Half01RefIdeal.nD Cert.Half01RefIdeal.τ).loc Cert.Half01RefIdeal.main_arg0) = m ((c.tc : Thread Cert.Half01RefIdeal.nD Cert.Half01RefIdeal.τ).loc Cert.Half01RefIdeal.main_arg0)
      ∧ r.2.mem ((c.tc : Thread Cert.Half01RefIdeal.nD Cert.Half01RefIdeal.τ).loc Cert.Half01RefIdeal.main_arg1) = m ((c.tc : Thread Cert.Half01RefIdeal.nD Cert.Half01RefIdeal.τ).loc Cert.Half01RefIdeal.main_arg1)
      ∧ r.2.mem ((c.tc : Thread Cert.Half01RefIdeal.nD Cert.Half01RefIdeal.τ).loc Cert.Half01RefIdeal.main_arg2) = m ((c.tc : Thread Cert.Half01RefIdeal.nD Cert.Half01RefIdeal.τ).loc Cert.Half01RefIdeal.main_arg2)
      ∧ r.2.mem ((c.tc : Thread Cert.Half01RefIdeal.nD Cert.Half01RefIdeal.τ).loc Cert.Half01RefIdeal.main_arg3) = m ((c.tc : Thread Cert.Half01RefIdeal.nD Cert.Half01RefIdeal.τ).loc Cert.Half01RefIdeal.main_arg3)
      ∧ r.2.mem ((c.tc : Thread Cert.Half01RefIdeal.nD Cert.Half01RefIdeal.τ).loc Cert.Half01RefIdeal.main_arg4) = m ((c.tc : Thread Cert.Half01RefIdeal.nD Cert.Half01RefIdeal.τ).loc Cert.Half01RefIdeal.main_arg4)
      ∧ r.2.mem ((c.tc : Thread Cert.Half01RefIdeal.nD Cert.Half01RefIdeal.τ).loc Cert.Half01RefIdeal.main_arg5) = m ((c.tc : Thread Cert.Half01RefIdeal.nD Cert.Half01RefIdeal.τ).loc Cert.Half01RefIdeal.main_arg5)
      ∧ r.2.mem ((c.tc : Thread Cert.Half01RefIdeal.nD Cert.Half01RefIdeal.τ).loc Cert.Half01RefIdeal.main_arg6) = m ((c.tc : Thread Cert.Half01RefIdeal.nD Cert.Half01RefIdeal.τ).loc Cert.Half01RefIdeal.main_arg6)
      ∧ r.2.mem ((c.tc : Thread Cert.Half01RefIdeal.nD Cert.Half01RefIdeal.τ).loc Cert.Half01RefIdeal.main_arg7) = m ((c.tc : Thread Cert.Half01RefIdeal.nD Cert.Half01RefIdeal.τ).loc Cert.Half01RefIdeal.main_arg7)
      ∧ r.2.mem ((c.tc : Thread Cert.Half01RefIdeal.nD Cert.Half01RefIdeal.τ).loc Cert.Half01RefIdeal.main_arg8) = m ((c.tc : Thread Cert.Half01RefIdeal.nD Cert.Half01RefIdeal.τ).loc Cert.Half01RefIdeal.main_arg8)
      ∧ r.2.mem ((c.tc : Thread Cert.Half01RefIdeal.nD Cert.Half01RefIdeal.τ).loc Cert.Half01RefIdeal.main_arg9) = m ((c.tc : Thread Cert.Half01RefIdeal.nD Cert.Half01RefIdeal.τ).loc Cert.Half01RefIdeal.main_arg9))
      ∧ r.2.sem = fun _ => 0)

def quiescent_Half21 [hHalf21 : Cert.Half21.Facts] : Prop :=
  ∀ (m : (ℓ : Loc Cert.Half21.nD Cert.Half21.τ Cert.Half21.sig) → Buf (Elt Bits) ℓ) (g : Dev Cert.Half21.nD → PrngReg), Pre_Half21 m →
    θ_run (Cert.Half21.defs (F := Bits)) (onTc (τ := Cert.Half21.τ) (Cert.Half21.main (F := Bits))) ⟨m, fun _ => 0, g⟩ (fun r => (∀ c : Dev Cert.Half21.nD,
      r.2.mem ((c.tc : Thread Cert.Half21.nD Cert.Half21.τ).loc Cert.Half21.main_arg0) = m ((c.tc : Thread Cert.Half21.nD Cert.Half21.τ).loc Cert.Half21.main_arg0)
      ∧ r.2.mem ((c.tc : Thread Cert.Half21.nD Cert.Half21.τ).loc Cert.Half21.main_arg1) = m ((c.tc : Thread Cert.Half21.nD Cert.Half21.τ).loc Cert.Half21.main_arg1)
      ∧ r.2.mem ((c.tc : Thread Cert.Half21.nD Cert.Half21.τ).loc Cert.Half21.main_arg2) = m ((c.tc : Thread Cert.Half21.nD Cert.Half21.τ).loc Cert.Half21.main_arg2)
      ∧ r.2.mem ((c.tc : Thread Cert.Half21.nD Cert.Half21.τ).loc Cert.Half21.main_arg3) = m ((c.tc : Thread Cert.Half21.nD Cert.Half21.τ).loc Cert.Half21.main_arg3)
      ∧ r.2.mem ((c.tc : Thread Cert.Half21.nD Cert.Half21.τ).loc Cert.Half21.main_arg4) = m ((c.tc : Thread Cert.Half21.nD Cert.Half21.τ).loc Cert.Half21.main_arg4)
      ∧ r.2.mem ((c.tc : Thread Cert.Half21.nD Cert.Half21.τ).loc Cert.Half21.main_arg5) = m ((c.tc : Thread Cert.Half21.nD Cert.Half21.τ).loc Cert.Half21.main_arg5)
      ∧ r.2.mem ((c.tc : Thread Cert.Half21.nD Cert.Half21.τ).loc Cert.Half21.main_arg6) = m ((c.tc : Thread Cert.Half21.nD Cert.Half21.τ).loc Cert.Half21.main_arg6)
      ∧ r.2.mem ((c.tc : Thread Cert.Half21.nD Cert.Half21.τ).loc Cert.Half21.main_arg7) = m ((c.tc : Thread Cert.Half21.nD Cert.Half21.τ).loc Cert.Half21.main_arg7)
      ∧ r.2.mem ((c.tc : Thread Cert.Half21.nD Cert.Half21.τ).loc Cert.Half21.main_arg8) = m ((c.tc : Thread Cert.Half21.nD Cert.Half21.τ).loc Cert.Half21.main_arg8)
      ∧ r.2.mem ((c.tc : Thread Cert.Half21.nD Cert.Half21.τ).loc Cert.Half21.main_arg9) = m ((c.tc : Thread Cert.Half21.nD Cert.Half21.τ).loc Cert.Half21.main_arg9))
      ∧ r.2.sem = fun _ => 0)

def quiescent_Half21Ideal [hHalf21Ideal : Cert.Half21Ideal.Facts] : Prop :=
  ∀ (m : (ℓ : Loc Cert.Half21Ideal.nD Cert.Half21Ideal.τ Cert.Half21Ideal.sig) → Buf (Elt Ideal) ℓ) (g : Dev Cert.Half21Ideal.nD → PrngReg), Pre_Half21Ideal m →
    θ_run (Cert.Half21Ideal.defs (F := Ideal)) (onTc (τ := Cert.Half21Ideal.τ) (Cert.Half21Ideal.main (F := Ideal))) ⟨m, fun _ => 0, g⟩ (fun r => (∀ c : Dev Cert.Half21Ideal.nD,
      r.2.mem ((c.tc : Thread Cert.Half21Ideal.nD Cert.Half21Ideal.τ).loc Cert.Half21Ideal.main_arg0) = m ((c.tc : Thread Cert.Half21Ideal.nD Cert.Half21Ideal.τ).loc Cert.Half21Ideal.main_arg0)
      ∧ r.2.mem ((c.tc : Thread Cert.Half21Ideal.nD Cert.Half21Ideal.τ).loc Cert.Half21Ideal.main_arg1) = m ((c.tc : Thread Cert.Half21Ideal.nD Cert.Half21Ideal.τ).loc Cert.Half21Ideal.main_arg1)
      ∧ r.2.mem ((c.tc : Thread Cert.Half21Ideal.nD Cert.Half21Ideal.τ).loc Cert.Half21Ideal.main_arg2) = m ((c.tc : Thread Cert.Half21Ideal.nD Cert.Half21Ideal.τ).loc Cert.Half21Ideal.main_arg2)
      ∧ r.2.mem ((c.tc : Thread Cert.Half21Ideal.nD Cert.Half21Ideal.τ).loc Cert.Half21Ideal.main_arg3) = m ((c.tc : Thread Cert.Half21Ideal.nD Cert.Half21Ideal.τ).loc Cert.Half21Ideal.main_arg3)
      ∧ r.2.mem ((c.tc : Thread Cert.Half21Ideal.nD Cert.Half21Ideal.τ).loc Cert.Half21Ideal.main_arg4) = m ((c.tc : Thread Cert.Half21Ideal.nD Cert.Half21Ideal.τ).loc Cert.Half21Ideal.main_arg4)
      ∧ r.2.mem ((c.tc : Thread Cert.Half21Ideal.nD Cert.Half21Ideal.τ).loc Cert.Half21Ideal.main_arg5) = m ((c.tc : Thread Cert.Half21Ideal.nD Cert.Half21Ideal.τ).loc Cert.Half21Ideal.main_arg5)
      ∧ r.2.mem ((c.tc : Thread Cert.Half21Ideal.nD Cert.Half21Ideal.τ).loc Cert.Half21Ideal.main_arg6) = m ((c.tc : Thread Cert.Half21Ideal.nD Cert.Half21Ideal.τ).loc Cert.Half21Ideal.main_arg6)
      ∧ r.2.mem ((c.tc : Thread Cert.Half21Ideal.nD Cert.Half21Ideal.τ).loc Cert.Half21Ideal.main_arg7) = m ((c.tc : Thread Cert.Half21Ideal.nD Cert.Half21Ideal.τ).loc Cert.Half21Ideal.main_arg7)
      ∧ r.2.mem ((c.tc : Thread Cert.Half21Ideal.nD Cert.Half21Ideal.τ).loc Cert.Half21Ideal.main_arg8) = m ((c.tc : Thread Cert.Half21Ideal.nD Cert.Half21Ideal.τ).loc Cert.Half21Ideal.main_arg8)
      ∧ r.2.mem ((c.tc : Thread Cert.Half21Ideal.nD Cert.Half21Ideal.τ).loc Cert.Half21Ideal.main_arg9) = m ((c.tc : Thread Cert.Half21Ideal.nD Cert.Half21Ideal.τ).loc Cert.Half21Ideal.main_arg9))
      ∧ r.2.sem = fun _ => 0)

def quiescent_Half21RefIdeal [hHalf21RefIdeal : Cert.Half21RefIdeal.Facts] : Prop :=
  ∀ (m : (ℓ : Loc Cert.Half21RefIdeal.nD Cert.Half21RefIdeal.τ Cert.Half21RefIdeal.sig) → Buf (Elt Ideal) ℓ) (g : Dev Cert.Half21RefIdeal.nD → PrngReg), Pre_Half21RefIdeal m →
    θ_run (Cert.Half21RefIdeal.defs (F := Ideal)) (onTc (τ := Cert.Half21RefIdeal.τ) (Cert.Half21RefIdeal.main (F := Ideal))) ⟨m, fun _ => 0, g⟩ (fun r => (∀ c : Dev Cert.Half21RefIdeal.nD,
      r.2.mem ((c.tc : Thread Cert.Half21RefIdeal.nD Cert.Half21RefIdeal.τ).loc Cert.Half21RefIdeal.main_arg0) = m ((c.tc : Thread Cert.Half21RefIdeal.nD Cert.Half21RefIdeal.τ).loc Cert.Half21RefIdeal.main_arg0)
      ∧ r.2.mem ((c.tc : Thread Cert.Half21RefIdeal.nD Cert.Half21RefIdeal.τ).loc Cert.Half21RefIdeal.main_arg1) = m ((c.tc : Thread Cert.Half21RefIdeal.nD Cert.Half21RefIdeal.τ).loc Cert.Half21RefIdeal.main_arg1)
      ∧ r.2.mem ((c.tc : Thread Cert.Half21RefIdeal.nD Cert.Half21RefIdeal.τ).loc Cert.Half21RefIdeal.main_arg2) = m ((c.tc : Thread Cert.Half21RefIdeal.nD Cert.Half21RefIdeal.τ).loc Cert.Half21RefIdeal.main_arg2)
      ∧ r.2.mem ((c.tc : Thread Cert.Half21RefIdeal.nD Cert.Half21RefIdeal.τ).loc Cert.Half21RefIdeal.main_arg3) = m ((c.tc : Thread Cert.Half21RefIdeal.nD Cert.Half21RefIdeal.τ).loc Cert.Half21RefIdeal.main_arg3)
      ∧ r.2.mem ((c.tc : Thread Cert.Half21RefIdeal.nD Cert.Half21RefIdeal.τ).loc Cert.Half21RefIdeal.main_arg4) = m ((c.tc : Thread Cert.Half21RefIdeal.nD Cert.Half21RefIdeal.τ).loc Cert.Half21RefIdeal.main_arg4)
      ∧ r.2.mem ((c.tc : Thread Cert.Half21RefIdeal.nD Cert.Half21RefIdeal.τ).loc Cert.Half21RefIdeal.main_arg5) = m ((c.tc : Thread Cert.Half21RefIdeal.nD Cert.Half21RefIdeal.τ).loc Cert.Half21RefIdeal.main_arg5)
      ∧ r.2.mem ((c.tc : Thread Cert.Half21RefIdeal.nD Cert.Half21RefIdeal.τ).loc Cert.Half21RefIdeal.main_arg6) = m ((c.tc : Thread Cert.Half21RefIdeal.nD Cert.Half21RefIdeal.τ).loc Cert.Half21RefIdeal.main_arg6)
      ∧ r.2.mem ((c.tc : Thread Cert.Half21RefIdeal.nD Cert.Half21RefIdeal.τ).loc Cert.Half21RefIdeal.main_arg7) = m ((c.tc : Thread Cert.Half21RefIdeal.nD Cert.Half21RefIdeal.τ).loc Cert.Half21RefIdeal.main_arg7)
      ∧ r.2.mem ((c.tc : Thread Cert.Half21RefIdeal.nD Cert.Half21RefIdeal.τ).loc Cert.Half21RefIdeal.main_arg8) = m ((c.tc : Thread Cert.Half21RefIdeal.nD Cert.Half21RefIdeal.τ).loc Cert.Half21RefIdeal.main_arg8)
      ∧ r.2.mem ((c.tc : Thread Cert.Half21RefIdeal.nD Cert.Half21RefIdeal.τ).loc Cert.Half21RefIdeal.main_arg9) = m ((c.tc : Thread Cert.Half21RefIdeal.nD Cert.Half21RefIdeal.τ).loc Cert.Half21RefIdeal.main_arg9))
      ∧ r.2.sem = fun _ => 0)

def preserves_Ctx_CtxIdeal : Prop :=
  IdealRules.named_const.Statement Cert.CtxIdeal.κ "scale" .f32 0x3E38AA3B#32 (((1 / 8) * (Real.log 2)⁻¹ : ℝ) : EReal)
  ∧ IdealRules.named_const.Statement Cert.CtxIdeal.κ "log2e" .f32 0x3FB8AA3B#32 (((Real.log 2)⁻¹ : ℝ) : EReal)

def algebraic_CtxIdeal_CtxRefIdeal_pre_finite_logits [hCtxIdeal : Cert.CtxIdeal.Facts] [hCtxRefIdeal : Cert.CtxRefIdeal.Facts] [hPre_finite_logits : Cert.Pre_finite_logits.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxIdeal_finite_logits m →
    (∀ c : Dev Cert.CtxIdeal.nD,
      m' ((c.tc : Thread Cert.CtxRefIdeal.nD Cert.CtxRefIdeal.τ).loc Cert.CtxRefIdeal.main_arg0) = m ((c.tc : Thread Cert.CtxIdeal.nD Cert.CtxIdeal.τ).loc Cert.CtxIdeal.main_arg0)
      ∧ m' ((c.tc : Thread Cert.CtxRefIdeal.nD Cert.CtxRefIdeal.τ).loc Cert.CtxRefIdeal.main_arg1) = m ((c.tc : Thread Cert.CtxIdeal.nD Cert.CtxIdeal.τ).loc Cert.CtxIdeal.main_arg1)
      ∧ m' ((c.tc : Thread Cert.CtxRefIdeal.nD Cert.CtxRefIdeal.τ).loc Cert.CtxRefIdeal.main_arg2) = m ((c.tc : Thread Cert.CtxIdeal.nD Cert.CtxIdeal.τ).loc Cert.CtxIdeal.main_arg2)
      ∧ m' ((c.tc : Thread Cert.CtxRefIdeal.nD Cert.CtxRefIdeal.τ).loc Cert.CtxRefIdeal.main_arg3) = m ((c.tc : Thread Cert.CtxIdeal.nD Cert.CtxIdeal.τ).loc Cert.CtxIdeal.main_arg3)) →
    ∃ (v0 : (c : Dev Cert.CtxIdeal.nD) → Buf (Elt Ideal) ((c.tc : Thread Cert.CtxIdeal.nD Cert.CtxIdeal.τ).loc Cert.CtxIdeal.main_v2)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v2) = v0 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
          ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
          ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v28) = v0 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0)
          ∧ r.2.mem ((c.tc : Thread Cert.CtxRefIdeal.nD Cert.CtxRefIdeal.τ).loc Cert.CtxRefIdeal.main_arg1) = m' ((c.tc : Thread Cert.CtxRefIdeal.nD Cert.CtxRefIdeal.τ).loc Cert.CtxRefIdeal.main_arg1)
          ∧ r.2.mem ((c.tc : Thread Cert.CtxRefIdeal.nD Cert.CtxRefIdeal.τ).loc Cert.CtxRefIdeal.main_arg2) = m' ((c.tc : Thread Cert.CtxRefIdeal.nD Cert.CtxRefIdeal.τ).loc Cert.CtxRefIdeal.main_arg2)
          ∧ r.2.mem ((c.tc : Thread Cert.CtxRefIdeal.nD Cert.CtxRefIdeal.τ).loc Cert.CtxRefIdeal.main_arg3) = m' ((c.tc : Thread Cert.CtxRefIdeal.nD Cert.CtxRefIdeal.τ).loc Cert.CtxRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)) →
    ∃ (v0 : (c : Dev Cert.FfnIdeal.nD) → Buf (Elt Ideal) ((c.tc : Thread Cert.FfnIdeal.nD Cert.FfnIdeal.τ).loc Cert.FfnIdeal.main_v15_0)) (v1 : (c : Dev Cert.FfnIdeal.nD) → Buf (Elt Ideal) ((c.tc : Thread Cert.FfnIdeal.nD Cert.FfnIdeal.τ).loc Cert.FfnIdeal.main_v15_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v15_0) = v0 c
          ∧ r.2.mem ((c.tc : Thread Cert.FfnIdeal.nD Cert.FfnIdeal.τ).loc Cert.FfnIdeal.main_v15_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v83) = v0 c
          ∧ r.2.mem ((c.tc : Thread Cert.FfnRefIdeal.nD Cert.FfnRefIdeal.τ).loc Cert.FfnRefIdeal.main_v165) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)) →
    ∃ (v0 : (c : Dev Cert.ProjIdeal.nD) → Buf (Elt Ideal) ((c.tc : Thread Cert.ProjIdeal.nD Cert.ProjIdeal.τ).loc Cert.ProjIdeal.main_v5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v5) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v68) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)
      ∧ m' ((c.tc : Thread Cert.ConvRefIdeal.nD Cert.ConvRefIdeal.τ).loc Cert.ConvRefIdeal.main_arg6) = m ((c.tc : Thread Cert.ConvIdeal.nD Cert.ConvIdeal.τ).loc Cert.ConvIdeal.main_arg6)
      ∧ m' ((c.tc : Thread Cert.ConvRefIdeal.nD Cert.ConvRefIdeal.τ).loc Cert.ConvRefIdeal.main_arg7) = m ((c.tc : Thread Cert.ConvIdeal.nD Cert.ConvIdeal.τ).loc Cert.ConvIdeal.main_arg7)
      ∧ m' ((c.tc : Thread Cert.ConvRefIdeal.nD Cert.ConvRefIdeal.τ).loc Cert.ConvRefIdeal.main_arg8) = m ((c.tc : Thread Cert.ConvIdeal.nD Cert.ConvIdeal.τ).loc Cert.ConvIdeal.main_arg8)) →
    ∃ (v0 : (c : Dev Cert.ConvIdeal.nD) → Buf (Elt Ideal) ((c.tc : Thread Cert.ConvIdeal.nD Cert.ConvIdeal.τ).loc Cert.ConvIdeal.main_v6)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v6) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
          ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
          ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v174) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5)
          ∧ r.2.mem ((c.tc : Thread Cert.ConvRefIdeal.nD Cert.ConvRefIdeal.τ).loc Cert.ConvRefIdeal.main_arg6) = m' ((c.tc : Thread Cert.ConvRefIdeal.nD Cert.ConvRefIdeal.τ).loc Cert.ConvRefIdeal.main_arg6)
          ∧ r.2.mem ((c.tc : Thread Cert.ConvRefIdeal.nD Cert.ConvRefIdeal.τ).loc Cert.ConvRefIdeal.main_arg7) = m' ((c.tc : Thread Cert.ConvRefIdeal.nD Cert.ConvRefIdeal.τ).loc Cert.ConvRefIdeal.main_arg7)
          ∧ r.2.mem ((c.tc : Thread Cert.ConvRefIdeal.nD Cert.ConvRefIdeal.τ).loc Cert.ConvRefIdeal.main_arg8) = m' ((c.tc : Thread Cert.ConvRefIdeal.nD Cert.ConvRefIdeal.τ).loc Cert.ConvRefIdeal.main_arg8))

def preserves_Half30_Half30Ideal : Prop :=
  True

def algebraic_Half30Ideal_Half30RefIdeal [hHalf30Ideal : Cert.Half30Ideal.Facts] [hHalf30RefIdeal : Cert.Half30RefIdeal.Facts] : Prop :=
  ∀ (m : (ℓ : Loc Cert.Half30Ideal.nD Cert.Half30Ideal.τ Cert.Half30Ideal.sig) → Buf (Elt Ideal) ℓ) (g : Dev Cert.Half30Ideal.nD → PrngReg)
    (m' : (ℓ : Loc Cert.Half30RefIdeal.nD Cert.Half30RefIdeal.τ Cert.Half30RefIdeal.sig) → Buf (Elt Ideal) ℓ) (g' : Dev Cert.Half30RefIdeal.nD → PrngReg), Pre_Half30Ideal m →
    (∀ c : Dev Cert.Half30Ideal.nD,
      m' ((c.tc : Thread Cert.Half30RefIdeal.nD Cert.Half30RefIdeal.τ).loc Cert.Half30RefIdeal.main_arg0) = m ((c.tc : Thread Cert.Half30Ideal.nD Cert.Half30Ideal.τ).loc Cert.Half30Ideal.main_arg0)
      ∧ m' ((c.tc : Thread Cert.Half30RefIdeal.nD Cert.Half30RefIdeal.τ).loc Cert.Half30RefIdeal.main_arg1) = m ((c.tc : Thread Cert.Half30Ideal.nD Cert.Half30Ideal.τ).loc Cert.Half30Ideal.main_arg1)
      ∧ m' ((c.tc : Thread Cert.Half30RefIdeal.nD Cert.Half30RefIdeal.τ).loc Cert.Half30RefIdeal.main_arg2) = m ((c.tc : Thread Cert.Half30Ideal.nD Cert.Half30Ideal.τ).loc Cert.Half30Ideal.main_arg2)
      ∧ m' ((c.tc : Thread Cert.Half30RefIdeal.nD Cert.Half30RefIdeal.τ).loc Cert.Half30RefIdeal.main_arg3) = m ((c.tc : Thread Cert.Half30Ideal.nD Cert.Half30Ideal.τ).loc Cert.Half30Ideal.main_arg3)
      ∧ m' ((c.tc : Thread Cert.Half30RefIdeal.nD Cert.Half30RefIdeal.τ).loc Cert.Half30RefIdeal.main_arg4) = m ((c.tc : Thread Cert.Half30Ideal.nD Cert.Half30Ideal.τ).loc Cert.Half30Ideal.main_arg4)
      ∧ m' ((c.tc : Thread Cert.Half30RefIdeal.nD Cert.Half30RefIdeal.τ).loc Cert.Half30RefIdeal.main_arg5) = m ((c.tc : Thread Cert.Half30Ideal.nD Cert.Half30Ideal.τ).loc Cert.Half30Ideal.main_arg5)
      ∧ m' ((c.tc : Thread Cert.Half30RefIdeal.nD Cert.Half30RefIdeal.τ).loc Cert.Half30RefIdeal.main_arg6) = m ((c.tc : Thread Cert.Half30Ideal.nD Cert.Half30Ideal.τ).loc Cert.Half30Ideal.main_arg6)) →
    ∃ (v0 : (c : Dev Cert.Half30Ideal.nD) → Buf (Elt Ideal) ((c.tc : Thread Cert.Half30Ideal.nD Cert.Half30Ideal.τ).loc Cert.Half30Ideal.main_v11_0)),
      θ_run (Cert.Half30Ideal.defs (F := Ideal)) (onTc (τ := Cert.Half30Ideal.τ) (Cert.Half30Ideal.main (F := Ideal))) ⟨m, fun _ => 0, g⟩ (fun r => ∀ c : Dev Cert.Half30Ideal.nD,
          r.2.mem ((c.tc : Thread Cert.Half30Ideal.nD Cert.Half30Ideal.τ).loc Cert.Half30Ideal.main_v11_0) = v0 c
          ∧ r.2.mem ((c.tc : Thread Cert.Half30Ideal.nD Cert.Half30Ideal.τ).loc Cert.Half30Ideal.main_arg0) = m ((c.tc : Thread Cert.Half30Ideal.nD Cert.Half30Ideal.τ).loc Cert.Half30Ideal.main_arg0)
          ∧ r.2.mem ((c.tc : Thread Cert.Half30Ideal.nD Cert.Half30Ideal.τ).loc Cert.Half30Ideal.main_arg1) = m ((c.tc : Thread Cert.Half30Ideal.nD Cert.Half30Ideal.τ).loc Cert.Half30Ideal.main_arg1)
          ∧ r.2.mem ((c.tc : Thread Cert.Half30Ideal.nD Cert.Half30Ideal.τ).loc Cert.Half30Ideal.main_arg2) = m ((c.tc : Thread Cert.Half30Ideal.nD Cert.Half30Ideal.τ).loc Cert.Half30Ideal.main_arg2)
          ∧ r.2.mem ((c.tc : Thread Cert.Half30Ideal.nD Cert.Half30Ideal.τ).loc Cert.Half30Ideal.main_arg3) = m ((c.tc : Thread Cert.Half30Ideal.nD Cert.Half30Ideal.τ).loc Cert.Half30Ideal.main_arg3)
          ∧ r.2.mem ((c.tc : Thread Cert.Half30Ideal.nD Cert.Half30Ideal.τ).loc Cert.Half30Ideal.main_arg4) = m ((c.tc : Thread Cert.Half30Ideal.nD Cert.Half30Ideal.τ).loc Cert.Half30Ideal.main_arg4)
          ∧ r.2.mem ((c.tc : Thread Cert.Half30Ideal.nD Cert.Half30Ideal.τ).loc Cert.Half30Ideal.main_arg5) = m ((c.tc : Thread Cert.Half30Ideal.nD Cert.Half30Ideal.τ).loc Cert.Half30Ideal.main_arg5)
          ∧ r.2.mem ((c.tc : Thread Cert.Half30Ideal.nD Cert.Half30Ideal.τ).loc Cert.Half30Ideal.main_arg6) = m ((c.tc : Thread Cert.Half30Ideal.nD Cert.Half30Ideal.τ).loc Cert.Half30Ideal.main_arg6))
      ∧ θ_run (Cert.Half30RefIdeal.defs (F := Ideal)) (onTc (τ := Cert.Half30RefIdeal.τ) (Cert.Half30RefIdeal.main (F := Ideal))) ⟨m', fun _ => 0, g'⟩ (fun r => ∀ c : Dev Cert.Half30RefIdeal.nD,
          r.2.mem ((c.tc : Thread Cert.Half30RefIdeal.nD Cert.Half30RefIdeal.τ).loc Cert.Half30RefIdeal.main_v124) = v0 c
          ∧ r.2.mem ((c.tc : Thread Cert.Half30RefIdeal.nD Cert.Half30RefIdeal.τ).loc Cert.Half30RefIdeal.main_arg0) = m' ((c.tc : Thread Cert.Half30RefIdeal.nD Cert.Half30RefIdeal.τ).loc Cert.Half30RefIdeal.main_arg0)
          ∧ r.2.mem ((c.tc : Thread Cert.Half30RefIdeal.nD Cert.Half30RefIdeal.τ).loc Cert.Half30RefIdeal.main_arg1) = m' ((c.tc : Thread Cert.Half30RefIdeal.nD Cert.Half30RefIdeal.τ).loc Cert.Half30RefIdeal.main_arg1)
          ∧ r.2.mem ((c.tc : Thread Cert.Half30RefIdeal.nD Cert.Half30RefIdeal.τ).loc Cert.Half30RefIdeal.main_arg2) = m' ((c.tc : Thread Cert.Half30RefIdeal.nD Cert.Half30RefIdeal.τ).loc Cert.Half30RefIdeal.main_arg2)
          ∧ r.2.mem ((c.tc : Thread Cert.Half30RefIdeal.nD Cert.Half30RefIdeal.τ).loc Cert.Half30RefIdeal.main_arg3) = m' ((c.tc : Thread Cert.Half30RefIdeal.nD Cert.Half30RefIdeal.τ).loc Cert.Half30RefIdeal.main_arg3)
          ∧ r.2.mem ((c.tc : Thread Cert.Half30RefIdeal.nD Cert.Half30RefIdeal.τ).loc Cert.Half30RefIdeal.main_arg4) = m' ((c.tc : Thread Cert.Half30RefIdeal.nD Cert.Half30RefIdeal.τ).loc Cert.Half30RefIdeal.main_arg4)
          ∧ r.2.mem ((c.tc : Thread Cert.Half30RefIdeal.nD Cert.Half30RefIdeal.τ).loc Cert.Half30RefIdeal.main_arg5) = m' ((c.tc : Thread Cert.Half30RefIdeal.nD Cert.Half30RefIdeal.τ).loc Cert.Half30RefIdeal.main_arg5)
          ∧ r.2.mem ((c.tc : Thread Cert.Half30RefIdeal.nD Cert.Half30RefIdeal.τ).loc Cert.Half30RefIdeal.main_arg6) = m' ((c.tc : Thread Cert.Half30RefIdeal.nD Cert.Half30RefIdeal.τ).loc Cert.Half30RefIdeal.main_arg6))

def preserves_Half11_Half11Ideal : Prop :=
  True

def algebraic_Half11Ideal_Half11RefIdeal [hHalf11Ideal : Cert.Half11Ideal.Facts] [hHalf11RefIdeal : Cert.Half11RefIdeal.Facts] : Prop :=
  ∀ (m : (ℓ : Loc Cert.Half11Ideal.nD Cert.Half11Ideal.τ Cert.Half11Ideal.sig) → Buf (Elt Ideal) ℓ) (g : Dev Cert.Half11Ideal.nD → PrngReg)
    (m' : (ℓ : Loc Cert.Half11RefIdeal.nD Cert.Half11RefIdeal.τ Cert.Half11RefIdeal.sig) → Buf (Elt Ideal) ℓ) (g' : Dev Cert.Half11RefIdeal.nD → PrngReg), Pre_Half11Ideal m →
    (∀ c : Dev Cert.Half11Ideal.nD,
      m' ((c.tc : Thread Cert.Half11RefIdeal.nD Cert.Half11RefIdeal.τ).loc Cert.Half11RefIdeal.main_arg0) = m ((c.tc : Thread Cert.Half11Ideal.nD Cert.Half11Ideal.τ).loc Cert.Half11Ideal.main_arg0)
      ∧ m' ((c.tc : Thread Cert.Half11RefIdeal.nD Cert.Half11RefIdeal.τ).loc Cert.Half11RefIdeal.main_arg1) = m ((c.tc : Thread Cert.Half11Ideal.nD Cert.Half11Ideal.τ).loc Cert.Half11Ideal.main_arg1)
      ∧ m' ((c.tc : Thread Cert.Half11RefIdeal.nD Cert.Half11RefIdeal.τ).loc Cert.Half11RefIdeal.main_arg2) = m ((c.tc : Thread Cert.Half11Ideal.nD Cert.Half11Ideal.τ).loc Cert.Half11Ideal.main_arg2)
      ∧ m' ((c.tc : Thread Cert.Half11RefIdeal.nD Cert.Half11RefIdeal.τ).loc Cert.Half11RefIdeal.main_arg3) = m ((c.tc : Thread Cert.Half11Ideal.nD Cert.Half11Ideal.τ).loc Cert.Half11Ideal.main_arg3)
      ∧ m' ((c.tc : Thread Cert.Half11RefIdeal.nD Cert.Half11RefIdeal.τ).loc Cert.Half11RefIdeal.main_arg4) = m ((c.tc : Thread Cert.Half11Ideal.nD Cert.Half11Ideal.τ).loc Cert.Half11Ideal.main_arg4)
      ∧ m' ((c.tc : Thread Cert.Half11RefIdeal.nD Cert.Half11RefIdeal.τ).loc Cert.Half11RefIdeal.main_arg5) = m ((c.tc : Thread Cert.Half11Ideal.nD Cert.Half11Ideal.τ).loc Cert.Half11Ideal.main_arg5)
      ∧ m' ((c.tc : Thread Cert.Half11RefIdeal.nD Cert.Half11RefIdeal.τ).loc Cert.Half11RefIdeal.main_arg6) = m ((c.tc : Thread Cert.Half11Ideal.nD Cert.Half11Ideal.τ).loc Cert.Half11Ideal.main_arg6)) →
    ∃ (v0 : (c : Dev Cert.Half11Ideal.nD) → Buf (Elt Ideal) ((c.tc : Thread Cert.Half11Ideal.nD Cert.Half11Ideal.τ).loc Cert.Half11Ideal.main_v11_0)),
      θ_run (Cert.Half11Ideal.defs (F := Ideal)) (onTc (τ := Cert.Half11Ideal.τ) (Cert.Half11Ideal.main (F := Ideal))) ⟨m, fun _ => 0, g⟩ (fun r => ∀ c : Dev Cert.Half11Ideal.nD,
          r.2.mem ((c.tc : Thread Cert.Half11Ideal.nD Cert.Half11Ideal.τ).loc Cert.Half11Ideal.main_v11_0) = v0 c
          ∧ r.2.mem ((c.tc : Thread Cert.Half11Ideal.nD Cert.Half11Ideal.τ).loc Cert.Half11Ideal.main_arg0) = m ((c.tc : Thread Cert.Half11Ideal.nD Cert.Half11Ideal.τ).loc Cert.Half11Ideal.main_arg0)
          ∧ r.2.mem ((c.tc : Thread Cert.Half11Ideal.nD Cert.Half11Ideal.τ).loc Cert.Half11Ideal.main_arg1) = m ((c.tc : Thread Cert.Half11Ideal.nD Cert.Half11Ideal.τ).loc Cert.Half11Ideal.main_arg1)
          ∧ r.2.mem ((c.tc : Thread Cert.Half11Ideal.nD Cert.Half11Ideal.τ).loc Cert.Half11Ideal.main_arg2) = m ((c.tc : Thread Cert.Half11Ideal.nD Cert.Half11Ideal.τ).loc Cert.Half11Ideal.main_arg2)
          ∧ r.2.mem ((c.tc : Thread Cert.Half11Ideal.nD Cert.Half11Ideal.τ).loc Cert.Half11Ideal.main_arg3) = m ((c.tc : Thread Cert.Half11Ideal.nD Cert.Half11Ideal.τ).loc Cert.Half11Ideal.main_arg3)
          ∧ r.2.mem ((c.tc : Thread Cert.Half11Ideal.nD Cert.Half11Ideal.τ).loc Cert.Half11Ideal.main_arg4) = m ((c.tc : Thread Cert.Half11Ideal.nD Cert.Half11Ideal.τ).loc Cert.Half11Ideal.main_arg4)
          ∧ r.2.mem ((c.tc : Thread Cert.Half11Ideal.nD Cert.Half11Ideal.τ).loc Cert.Half11Ideal.main_arg5) = m ((c.tc : Thread Cert.Half11Ideal.nD Cert.Half11Ideal.τ).loc Cert.Half11Ideal.main_arg5)
          ∧ r.2.mem ((c.tc : Thread Cert.Half11Ideal.nD Cert.Half11Ideal.τ).loc Cert.Half11Ideal.main_arg6) = m ((c.tc : Thread Cert.Half11Ideal.nD Cert.Half11Ideal.τ).loc Cert.Half11Ideal.main_arg6))
      ∧ θ_run (Cert.Half11RefIdeal.defs (F := Ideal)) (onTc (τ := Cert.Half11RefIdeal.τ) (Cert.Half11RefIdeal.main (F := Ideal))) ⟨m', fun _ => 0, g'⟩ (fun r => ∀ c : Dev Cert.Half11RefIdeal.nD,
          r.2.mem ((c.tc : Thread Cert.Half11RefIdeal.nD Cert.Half11RefIdeal.τ).loc Cert.Half11RefIdeal.main_v124) = v0 c
          ∧ r.2.mem ((c.tc : Thread Cert.Half11RefIdeal.nD Cert.Half11RefIdeal.τ).loc Cert.Half11RefIdeal.main_arg0) = m' ((c.tc : Thread Cert.Half11RefIdeal.nD Cert.Half11RefIdeal.τ).loc Cert.Half11RefIdeal.main_arg0)
          ∧ r.2.mem ((c.tc : Thread Cert.Half11RefIdeal.nD Cert.Half11RefIdeal.τ).loc Cert.Half11RefIdeal.main_arg1) = m' ((c.tc : Thread Cert.Half11RefIdeal.nD Cert.Half11RefIdeal.τ).loc Cert.Half11RefIdeal.main_arg1)
          ∧ r.2.mem ((c.tc : Thread Cert.Half11RefIdeal.nD Cert.Half11RefIdeal.τ).loc Cert.Half11RefIdeal.main_arg2) = m' ((c.tc : Thread Cert.Half11RefIdeal.nD Cert.Half11RefIdeal.τ).loc Cert.Half11RefIdeal.main_arg2)
          ∧ r.2.mem ((c.tc : Thread Cert.Half11RefIdeal.nD Cert.Half11RefIdeal.τ).loc Cert.Half11RefIdeal.main_arg3) = m' ((c.tc : Thread Cert.Half11RefIdeal.nD Cert.Half11RefIdeal.τ).loc Cert.Half11RefIdeal.main_arg3)
          ∧ r.2.mem ((c.tc : Thread Cert.Half11RefIdeal.nD Cert.Half11RefIdeal.τ).loc Cert.Half11RefIdeal.main_arg4) = m' ((c.tc : Thread Cert.Half11RefIdeal.nD Cert.Half11RefIdeal.τ).loc Cert.Half11RefIdeal.main_arg4)
          ∧ r.2.mem ((c.tc : Thread Cert.Half11RefIdeal.nD Cert.Half11RefIdeal.τ).loc Cert.Half11RefIdeal.main_arg5) = m' ((c.tc : Thread Cert.Half11RefIdeal.nD Cert.Half11RefIdeal.τ).loc Cert.Half11RefIdeal.main_arg5)
          ∧ r.2.mem ((c.tc : Thread Cert.Half11RefIdeal.nD Cert.Half11RefIdeal.τ).loc Cert.Half11RefIdeal.main_arg6) = m' ((c.tc : Thread Cert.Half11RefIdeal.nD Cert.Half11RefIdeal.τ).loc Cert.Half11RefIdeal.main_arg6))

def preserves_Half10_Half10Ideal : Prop :=
  True

def algebraic_Half10Ideal_Half10RefIdeal [hHalf10Ideal : Cert.Half10Ideal.Facts] [hHalf10RefIdeal : Cert.Half10RefIdeal.Facts] : Prop :=
  ∀ (m : (ℓ : Loc Cert.Half10Ideal.nD Cert.Half10Ideal.τ Cert.Half10Ideal.sig) → Buf (Elt Ideal) ℓ) (g : Dev Cert.Half10Ideal.nD → PrngReg)
    (m' : (ℓ : Loc Cert.Half10RefIdeal.nD Cert.Half10RefIdeal.τ Cert.Half10RefIdeal.sig) → Buf (Elt Ideal) ℓ) (g' : Dev Cert.Half10RefIdeal.nD → PrngReg), Pre_Half10Ideal m →
    (∀ c : Dev Cert.Half10Ideal.nD,
      m' ((c.tc : Thread Cert.Half10RefIdeal.nD Cert.Half10RefIdeal.τ).loc Cert.Half10RefIdeal.main_arg0) = m ((c.tc : Thread Cert.Half10Ideal.nD Cert.Half10Ideal.τ).loc Cert.Half10Ideal.main_arg0)
      ∧ m' ((c.tc : Thread Cert.Half10RefIdeal.nD Cert.Half10RefIdeal.τ).loc Cert.Half10RefIdeal.main_arg1) = m ((c.tc : Thread Cert.Half10Ideal.nD Cert.Half10Ideal.τ).loc Cert.Half10Ideal.main_arg1)
      ∧ m' ((c.tc : Thread Cert.Half10RefIdeal.nD Cert.Half10RefIdeal.τ).loc Cert.Half10RefIdeal.main_arg2) = m ((c.tc : Thread Cert.Half10Ideal.nD Cert.Half10Ideal.τ).loc Cert.Half10Ideal.main_arg2)
      ∧ m' ((c.tc : Thread Cert.Half10RefIdeal.nD Cert.Half10RefIdeal.τ).loc Cert.Half10RefIdeal.main_arg3) = m ((c.tc : Thread Cert.Half10Ideal.nD Cert.Half10Ideal.τ).loc Cert.Half10Ideal.main_arg3)
      ∧ m' ((c.tc : Thread Cert.Half10RefIdeal.nD Cert.Half10RefIdeal.τ).loc Cert.Half10RefIdeal.main_arg4) = m ((c.tc : Thread Cert.Half10Ideal.nD Cert.Half10Ideal.τ).loc Cert.Half10Ideal.main_arg4)
      ∧ m' ((c.tc : Thread Cert.Half10RefIdeal.nD Cert.Half10RefIdeal.τ).loc Cert.Half10RefIdeal.main_arg5) = m ((c.tc : Thread Cert.Half10Ideal.nD Cert.Half10Ideal.τ).loc Cert.Half10Ideal.main_arg5)
      ∧ m' ((c.tc : Thread Cert.Half10RefIdeal.nD Cert.Half10RefIdeal.τ).loc Cert.Half10RefIdeal.main_arg6) = m ((c.tc : Thread Cert.Half10Ideal.nD Cert.Half10Ideal.τ).loc Cert.Half10Ideal.main_arg6)
      ∧ m' ((c.tc : Thread Cert.Half10RefIdeal.nD Cert.Half10RefIdeal.τ).loc Cert.Half10RefIdeal.main_arg7) = m ((c.tc : Thread Cert.Half10Ideal.nD Cert.Half10Ideal.τ).loc Cert.Half10Ideal.main_arg7)
      ∧ m' ((c.tc : Thread Cert.Half10RefIdeal.nD Cert.Half10RefIdeal.τ).loc Cert.Half10RefIdeal.main_arg8) = m ((c.tc : Thread Cert.Half10Ideal.nD Cert.Half10Ideal.τ).loc Cert.Half10Ideal.main_arg8)
      ∧ m' ((c.tc : Thread Cert.Half10RefIdeal.nD Cert.Half10RefIdeal.τ).loc Cert.Half10RefIdeal.main_arg9) = m ((c.tc : Thread Cert.Half10Ideal.nD Cert.Half10Ideal.τ).loc Cert.Half10Ideal.main_arg9)
      ∧ m' ((c.tc : Thread Cert.Half10RefIdeal.nD Cert.Half10RefIdeal.τ).loc Cert.Half10RefIdeal.main_arg10) = m ((c.tc : Thread Cert.Half10Ideal.nD Cert.Half10Ideal.τ).loc Cert.Half10Ideal.main_arg10)) →
    ∃ (v0 : (c : Dev Cert.Half10Ideal.nD) → Buf (Elt Ideal) ((c.tc : Thread Cert.Half10Ideal.nD Cert.Half10Ideal.τ).loc Cert.Half10Ideal.main_v15_0)),
      θ_run (Cert.Half10Ideal.defs (F := Ideal)) (onTc (τ := Cert.Half10Ideal.τ) (Cert.Half10Ideal.main (F := Ideal))) ⟨m, fun _ => 0, g⟩ (fun r => ∀ c : Dev Cert.Half10Ideal.nD,
          r.2.mem ((c.tc : Thread Cert.Half10Ideal.nD Cert.Half10Ideal.τ).loc Cert.Half10Ideal.main_v15_0) = v0 c
          ∧ r.2.mem ((c.tc : Thread Cert.Half10Ideal.nD Cert.Half10Ideal.τ).loc Cert.Half10Ideal.main_arg0) = m ((c.tc : Thread Cert.Half10Ideal.nD Cert.Half10Ideal.τ).loc Cert.Half10Ideal.main_arg0)
          ∧ r.2.mem ((c.tc : Thread Cert.Half10Ideal.nD Cert.Half10Ideal.τ).loc Cert.Half10Ideal.main_arg1) = m ((c.tc : Thread Cert.Half10Ideal.nD Cert.Half10Ideal.τ).loc Cert.Half10Ideal.main_arg1)
          ∧ r.2.mem ((c.tc : Thread Cert.Half10Ideal.nD Cert.Half10Ideal.τ).loc Cert.Half10Ideal.main_arg2) = m ((c.tc : Thread Cert.Half10Ideal.nD Cert.Half10Ideal.τ).loc Cert.Half10Ideal.main_arg2)
          ∧ r.2.mem ((c.tc : Thread Cert.Half10Ideal.nD Cert.Half10Ideal.τ).loc Cert.Half10Ideal.main_arg3) = m ((c.tc : Thread Cert.Half10Ideal.nD Cert.Half10Ideal.τ).loc Cert.Half10Ideal.main_arg3)
          ∧ r.2.mem ((c.tc : Thread Cert.Half10Ideal.nD Cert.Half10Ideal.τ).loc Cert.Half10Ideal.main_arg4) = m ((c.tc : Thread Cert.Half10Ideal.nD Cert.Half10Ideal.τ).loc Cert.Half10Ideal.main_arg4)
          ∧ r.2.mem ((c.tc : Thread Cert.Half10Ideal.nD Cert.Half10Ideal.τ).loc Cert.Half10Ideal.main_arg5) = m ((c.tc : Thread Cert.Half10Ideal.nD Cert.Half10Ideal.τ).loc Cert.Half10Ideal.main_arg5)
          ∧ r.2.mem ((c.tc : Thread Cert.Half10Ideal.nD Cert.Half10Ideal.τ).loc Cert.Half10Ideal.main_arg6) = m ((c.tc : Thread Cert.Half10Ideal.nD Cert.Half10Ideal.τ).loc Cert.Half10Ideal.main_arg6)
          ∧ r.2.mem ((c.tc : Thread Cert.Half10Ideal.nD Cert.Half10Ideal.τ).loc Cert.Half10Ideal.main_arg7) = m ((c.tc : Thread Cert.Half10Ideal.nD Cert.Half10Ideal.τ).loc Cert.Half10Ideal.main_arg7)
          ∧ r.2.mem ((c.tc : Thread Cert.Half10Ideal.nD Cert.Half10Ideal.τ).loc Cert.Half10Ideal.main_arg8) = m ((c.tc : Thread Cert.Half10Ideal.nD Cert.Half10Ideal.τ).loc Cert.Half10Ideal.main_arg8)
          ∧ r.2.mem ((c.tc : Thread Cert.Half10Ideal.nD Cert.Half10Ideal.τ).loc Cert.Half10Ideal.main_arg9) = m ((c.tc : Thread Cert.Half10Ideal.nD Cert.Half10Ideal.τ).loc Cert.Half10Ideal.main_arg9)
          ∧ r.2.mem ((c.tc : Thread Cert.Half10Ideal.nD Cert.Half10Ideal.τ).loc Cert.Half10Ideal.main_arg10) = m ((c.tc : Thread Cert.Half10Ideal.nD Cert.Half10Ideal.τ).loc Cert.Half10Ideal.main_arg10))
      ∧ θ_run (Cert.Half10RefIdeal.defs (F := Ideal)) (onTc (τ := Cert.Half10RefIdeal.τ) (Cert.Half10RefIdeal.main (F := Ideal))) ⟨m', fun _ => 0, g'⟩ (fun r => ∀ c : Dev Cert.Half10RefIdeal.nD,
          r.2.mem ((c.tc : Thread Cert.Half10RefIdeal.nD Cert.Half10RefIdeal.τ).loc Cert.Half10RefIdeal.main_v124) = v0 c
          ∧ r.2.mem ((c.tc : Thread Cert.Half10RefIdeal.nD Cert.Half10RefIdeal.τ).loc Cert.Half10RefIdeal.main_arg0) = m' ((c.tc : Thread Cert.Half10RefIdeal.nD Cert.Half10RefIdeal.τ).loc Cert.Half10RefIdeal.main_arg0)
          ∧ r.2.mem ((c.tc : Thread Cert.Half10RefIdeal.nD Cert.Half10RefIdeal.τ).loc Cert.Half10RefIdeal.main_arg1) = m' ((c.tc : Thread Cert.Half10RefIdeal.nD Cert.Half10RefIdeal.τ).loc Cert.Half10RefIdeal.main_arg1)
          ∧ r.2.mem ((c.tc : Thread Cert.Half10RefIdeal.nD Cert.Half10RefIdeal.τ).loc Cert.Half10RefIdeal.main_arg2) = m' ((c.tc : Thread Cert.Half10RefIdeal.nD Cert.Half10RefIdeal.τ).loc Cert.Half10RefIdeal.main_arg2)
          ∧ r.2.mem ((c.tc : Thread Cert.Half10RefIdeal.nD Cert.Half10RefIdeal.τ).loc Cert.Half10RefIdeal.main_arg3) = m' ((c.tc : Thread Cert.Half10RefIdeal.nD Cert.Half10RefIdeal.τ).loc Cert.Half10RefIdeal.main_arg3)
          ∧ r.2.mem ((c.tc : Thread Cert.Half10RefIdeal.nD Cert.Half10RefIdeal.τ).loc Cert.Half10RefIdeal.main_arg4) = m' ((c.tc : Thread Cert.Half10RefIdeal.nD Cert.Half10RefIdeal.τ).loc Cert.Half10RefIdeal.main_arg4)
          ∧ r.2.mem ((c.tc : Thread Cert.Half10RefIdeal.nD Cert.Half10RefIdeal.τ).loc Cert.Half10RefIdeal.main_arg5) = m' ((c.tc : Thread Cert.Half10RefIdeal.nD Cert.Half10RefIdeal.τ).loc Cert.Half10RefIdeal.main_arg5)
          ∧ r.2.mem ((c.tc : Thread Cert.Half10RefIdeal.nD Cert.Half10RefIdeal.τ).loc Cert.Half10RefIdeal.main_arg6) = m' ((c.tc : Thread Cert.Half10RefIdeal.nD Cert.Half10RefIdeal.τ).loc Cert.Half10RefIdeal.main_arg6)
          ∧ r.2.mem ((c.tc : Thread Cert.Half10RefIdeal.nD Cert.Half10RefIdeal.τ).loc Cert.Half10RefIdeal.main_arg7) = m' ((c.tc : Thread Cert.Half10RefIdeal.nD Cert.Half10RefIdeal.τ).loc Cert.Half10RefIdeal.main_arg7)
          ∧ r.2.mem ((c.tc : Thread Cert.Half10RefIdeal.nD Cert.Half10RefIdeal.τ).loc Cert.Half10RefIdeal.main_arg8) = m' ((c.tc : Thread Cert.Half10RefIdeal.nD Cert.Half10RefIdeal.τ).loc Cert.Half10RefIdeal.main_arg8)
          ∧ r.2.mem ((c.tc : Thread Cert.Half10RefIdeal.nD Cert.Half10RefIdeal.τ).loc Cert.Half10RefIdeal.main_arg9) = m' ((c.tc : Thread Cert.Half10RefIdeal.nD Cert.Half10RefIdeal.τ).loc Cert.Half10RefIdeal.main_arg9)
          ∧ r.2.mem ((c.tc : Thread Cert.Half10RefIdeal.nD Cert.Half10RefIdeal.τ).loc Cert.Half10RefIdeal.main_arg10) = m' ((c.tc : Thread Cert.Half10RefIdeal.nD Cert.Half10RefIdeal.τ).loc Cert.Half10RefIdeal.main_arg10))

def preserves_Half20_Half20Ideal : Prop :=
  True

def algebraic_Half20Ideal_Half20RefIdeal [hHalf20Ideal : Cert.Half20Ideal.Facts] [hHalf20RefIdeal : Cert.Half20RefIdeal.Facts] : Prop :=
  ∀ (m : (ℓ : Loc Cert.Half20Ideal.nD Cert.Half20Ideal.τ Cert.Half20Ideal.sig) → Buf (Elt Ideal) ℓ) (g : Dev Cert.Half20Ideal.nD → PrngReg)
    (m' : (ℓ : Loc Cert.Half20RefIdeal.nD Cert.Half20RefIdeal.τ Cert.Half20RefIdeal.sig) → Buf (Elt Ideal) ℓ) (g' : Dev Cert.Half20RefIdeal.nD → PrngReg), Pre_Half20Ideal m →
    (∀ c : Dev Cert.Half20Ideal.nD,
      m' ((c.tc : Thread Cert.Half20RefIdeal.nD Cert.Half20RefIdeal.τ).loc Cert.Half20RefIdeal.main_arg0) = m ((c.tc : Thread Cert.Half20Ideal.nD Cert.Half20Ideal.τ).loc Cert.Half20Ideal.main_arg0)
      ∧ m' ((c.tc : Thread Cert.Half20RefIdeal.nD Cert.Half20RefIdeal.τ).loc Cert.Half20RefIdeal.main_arg1) = m ((c.tc : Thread Cert.Half20Ideal.nD Cert.Half20Ideal.τ).loc Cert.Half20Ideal.main_arg1)
      ∧ m' ((c.tc : Thread Cert.Half20RefIdeal.nD Cert.Half20RefIdeal.τ).loc Cert.Half20RefIdeal.main_arg2) = m ((c.tc : Thread Cert.Half20Ideal.nD Cert.Half20Ideal.τ).loc Cert.Half20Ideal.main_arg2)
      ∧ m' ((c.tc : Thread Cert.Half20RefIdeal.nD Cert.Half20RefIdeal.τ).loc Cert.Half20RefIdeal.main_arg3) = m ((c.tc : Thread Cert.Half20Ideal.nD Cert.Half20Ideal.τ).loc Cert.Half20Ideal.main_arg3)
      ∧ m' ((c.tc : Thread Cert.Half20RefIdeal.nD Cert.Half20RefIdeal.τ).loc Cert.Half20RefIdeal.main_arg4) = m ((c.tc : Thread Cert.Half20Ideal.nD Cert.Half20Ideal.τ).loc Cert.Half20Ideal.main_arg4)
      ∧ m' ((c.tc : Thread Cert.Half20RefIdeal.nD Cert.Half20RefIdeal.τ).loc Cert.Half20RefIdeal.main_arg5) = m ((c.tc : Thread Cert.Half20Ideal.nD Cert.Half20Ideal.τ).loc Cert.Half20Ideal.main_arg5)
      ∧ m' ((c.tc : Thread Cert.Half20RefIdeal.nD Cert.Half20RefIdeal.τ).loc Cert.Half20RefIdeal.main_arg6) = m ((c.tc : Thread Cert.Half20Ideal.nD Cert.Half20Ideal.τ).loc Cert.Half20Ideal.main_arg6)
      ∧ m' ((c.tc : Thread Cert.Half20RefIdeal.nD Cert.Half20RefIdeal.τ).loc Cert.Half20RefIdeal.main_arg7) = m ((c.tc : Thread Cert.Half20Ideal.nD Cert.Half20Ideal.τ).loc Cert.Half20Ideal.main_arg7)
      ∧ m' ((c.tc : Thread Cert.Half20RefIdeal.nD Cert.Half20RefIdeal.τ).loc Cert.Half20RefIdeal.main_arg8) = m ((c.tc : Thread Cert.Half20Ideal.nD Cert.Half20Ideal.τ).loc Cert.Half20Ideal.main_arg8)
      ∧ m' ((c.tc : Thread Cert.Half20RefIdeal.nD Cert.Half20RefIdeal.τ).loc Cert.Half20RefIdeal.main_arg9) = m ((c.tc : Thread Cert.Half20Ideal.nD Cert.Half20Ideal.τ).loc Cert.Half20Ideal.main_arg9)
      ∧ m' ((c.tc : Thread Cert.Half20RefIdeal.nD Cert.Half20RefIdeal.τ).loc Cert.Half20RefIdeal.main_arg10) = m ((c.tc : Thread Cert.Half20Ideal.nD Cert.Half20Ideal.τ).loc Cert.Half20Ideal.main_arg10)) →
    ∃ (v0 : (c : Dev Cert.Half20Ideal.nD) → Buf (Elt Ideal) ((c.tc : Thread Cert.Half20Ideal.nD Cert.Half20Ideal.τ).loc Cert.Half20Ideal.main_v15_0)),
      θ_run (Cert.Half20Ideal.defs (F := Ideal)) (onTc (τ := Cert.Half20Ideal.τ) (Cert.Half20Ideal.main (F := Ideal))) ⟨m, fun _ => 0, g⟩ (fun r => ∀ c : Dev Cert.Half20Ideal.nD,
          r.2.mem ((c.tc : Thread Cert.Half20Ideal.nD Cert.Half20Ideal.τ).loc Cert.Half20Ideal.main_v15_0) = v0 c
          ∧ r.2.mem ((c.tc : Thread Cert.Half20Ideal.nD Cert.Half20Ideal.τ).loc Cert.Half20Ideal.main_arg0) = m ((c.tc : Thread Cert.Half20Ideal.nD Cert.Half20Ideal.τ).loc Cert.Half20Ideal.main_arg0)
          ∧ r.2.mem ((c.tc : Thread Cert.Half20Ideal.nD Cert.Half20Ideal.τ).loc Cert.Half20Ideal.main_arg1) = m ((c.tc : Thread Cert.Half20Ideal.nD Cert.Half20Ideal.τ).loc Cert.Half20Ideal.main_arg1)
          ∧ r.2.mem ((c.tc : Thread Cert.Half20Ideal.nD Cert.Half20Ideal.τ).loc Cert.Half20Ideal.main_arg2) = m ((c.tc : Thread Cert.Half20Ideal.nD Cert.Half20Ideal.τ).loc Cert.Half20Ideal.main_arg2)
          ∧ r.2.mem ((c.tc : Thread Cert.Half20Ideal.nD Cert.Half20Ideal.τ).loc Cert.Half20Ideal.main_arg3) = m ((c.tc : Thread Cert.Half20Ideal.nD Cert.Half20Ideal.τ).loc Cert.Half20Ideal.main_arg3)
          ∧ r.2.mem ((c.tc : Thread Cert.Half20Ideal.nD Cert.Half20Ideal.τ).loc Cert.Half20Ideal.main_arg4) = m ((c.tc : Thread Cert.Half20Ideal.nD Cert.Half20Ideal.τ).loc Cert.Half20Ideal.main_arg4)
          ∧ r.2.mem ((c.tc : Thread Cert.Half20Ideal.nD Cert.Half20Ideal.τ).loc Cert.Half20Ideal.main_arg5) = m ((c.tc : Thread Cert.Half20Ideal.nD Cert.Half20Ideal.τ).loc Cert.Half20Ideal.main_arg5)
          ∧ r.2.mem ((c.tc : Thread Cert.Half20Ideal.nD Cert.Half20Ideal.τ).loc Cert.Half20Ideal.main_arg6) = m ((c.tc : Thread Cert.Half20Ideal.nD Cert.Half20Ideal.τ).loc Cert.Half20Ideal.main_arg6)
          ∧ r.2.mem ((c.tc : Thread Cert.Half20Ideal.nD Cert.Half20Ideal.τ).loc Cert.Half20Ideal.main_arg7) = m ((c.tc : Thread Cert.Half20Ideal.nD Cert.Half20Ideal.τ).loc Cert.Half20Ideal.main_arg7)
          ∧ r.2.mem ((c.tc : Thread Cert.Half20Ideal.nD Cert.Half20Ideal.τ).loc Cert.Half20Ideal.main_arg8) = m ((c.tc : Thread Cert.Half20Ideal.nD Cert.Half20Ideal.τ).loc Cert.Half20Ideal.main_arg8)
          ∧ r.2.mem ((c.tc : Thread Cert.Half20Ideal.nD Cert.Half20Ideal.τ).loc Cert.Half20Ideal.main_arg9) = m ((c.tc : Thread Cert.Half20Ideal.nD Cert.Half20Ideal.τ).loc Cert.Half20Ideal.main_arg9)
          ∧ r.2.mem ((c.tc : Thread Cert.Half20Ideal.nD Cert.Half20Ideal.τ).loc Cert.Half20Ideal.main_arg10) = m ((c.tc : Thread Cert.Half20Ideal.nD Cert.Half20Ideal.τ).loc Cert.Half20Ideal.main_arg10))
      ∧ θ_run (Cert.Half20RefIdeal.defs (F := Ideal)) (onTc (τ := Cert.Half20RefIdeal.τ) (Cert.Half20RefIdeal.main (F := Ideal))) ⟨m', fun _ => 0, g'⟩ (fun r => ∀ c : Dev Cert.Half20RefIdeal.nD,
          r.2.mem ((c.tc : Thread Cert.Half20RefIdeal.nD Cert.Half20RefIdeal.τ).loc Cert.Half20RefIdeal.main_v124) = v0 c
          ∧ r.2.mem ((c.tc : Thread Cert.Half20RefIdeal.nD Cert.Half20RefIdeal.τ).loc Cert.Half20RefIdeal.main_arg0) = m' ((c.tc : Thread Cert.Half20RefIdeal.nD Cert.Half20RefIdeal.τ).loc Cert.Half20RefIdeal.main_arg0)
          ∧ r.2.mem ((c.tc : Thread Cert.Half20RefIdeal.nD Cert.Half20RefIdeal.τ).loc Cert.Half20RefIdeal.main_arg1) = m' ((c.tc : Thread Cert.Half20RefIdeal.nD Cert.Half20RefIdeal.τ).loc Cert.Half20RefIdeal.main_arg1)
          ∧ r.2.mem ((c.tc : Thread Cert.Half20RefIdeal.nD Cert.Half20RefIdeal.τ).loc Cert.Half20RefIdeal.main_arg2) = m' ((c.tc : Thread Cert.Half20RefIdeal.nD Cert.Half20RefIdeal.τ).loc Cert.Half20RefIdeal.main_arg2)
          ∧ r.2.mem ((c.tc : Thread Cert.Half20RefIdeal.nD Cert.Half20RefIdeal.τ).loc Cert.Half20RefIdeal.main_arg3) = m' ((c.tc : Thread Cert.Half20RefIdeal.nD Cert.Half20RefIdeal.τ).loc Cert.Half20RefIdeal.main_arg3)
          ∧ r.2.mem ((c.tc : Thread Cert.Half20RefIdeal.nD Cert.Half20RefIdeal.τ).loc Cert.Half20RefIdeal.main_arg4) = m' ((c.tc : Thread Cert.Half20RefIdeal.nD Cert.Half20RefIdeal.τ).loc Cert.Half20RefIdeal.main_arg4)
          ∧ r.2.mem ((c.tc : Thread Cert.Half20RefIdeal.nD Cert.Half20RefIdeal.τ).loc Cert.Half20RefIdeal.main_arg5) = m' ((c.tc : Thread Cert.Half20RefIdeal.nD Cert.Half20RefIdeal.τ).loc Cert.Half20RefIdeal.main_arg5)
          ∧ r.2.mem ((c.tc : Thread Cert.Half20RefIdeal.nD Cert.Half20RefIdeal.τ).loc Cert.Half20RefIdeal.main_arg6) = m' ((c.tc : Thread Cert.Half20RefIdeal.nD Cert.Half20RefIdeal.τ).loc Cert.Half20RefIdeal.main_arg6)
          ∧ r.2.mem ((c.tc : Thread Cert.Half20RefIdeal.nD Cert.Half20RefIdeal.τ).loc Cert.Half20RefIdeal.main_arg7) = m' ((c.tc : Thread Cert.Half20RefIdeal.nD Cert.Half20RefIdeal.τ).loc Cert.Half20RefIdeal.main_arg7)
          ∧ r.2.mem ((c.tc : Thread Cert.Half20RefIdeal.nD Cert.Half20RefIdeal.τ).loc Cert.Half20RefIdeal.main_arg8) = m' ((c.tc : Thread Cert.Half20RefIdeal.nD Cert.Half20RefIdeal.τ).loc Cert.Half20RefIdeal.main_arg8)
          ∧ r.2.mem ((c.tc : Thread Cert.Half20RefIdeal.nD Cert.Half20RefIdeal.τ).loc Cert.Half20RefIdeal.main_arg9) = m' ((c.tc : Thread Cert.Half20RefIdeal.nD Cert.Half20RefIdeal.τ).loc Cert.Half20RefIdeal.main_arg9)
          ∧ r.2.mem ((c.tc : Thread Cert.Half20RefIdeal.nD Cert.Half20RefIdeal.τ).loc Cert.Half20RefIdeal.main_arg10) = m' ((c.tc : Thread Cert.Half20RefIdeal.nD Cert.Half20RefIdeal.τ).loc Cert.Half20RefIdeal.main_arg10))

def preserves_Half00_Half00Ideal : Prop :=
  True

def algebraic_Half00Ideal_Half00RefIdeal [hHalf00Ideal : Cert.Half00Ideal.Facts] [hHalf00RefIdeal : Cert.Half00RefIdeal.Facts] : Prop :=
  ∀ (m : (ℓ : Loc Cert.Half00Ideal.nD Cert.Half00Ideal.τ Cert.Half00Ideal.sig) → Buf (Elt Ideal) ℓ) (g : Dev Cert.Half00Ideal.nD → PrngReg)
    (m' : (ℓ : Loc Cert.Half00RefIdeal.nD Cert.Half00RefIdeal.τ Cert.Half00RefIdeal.sig) → Buf (Elt Ideal) ℓ) (g' : Dev Cert.Half00RefIdeal.nD → PrngReg), Pre_Half00Ideal m →
    (∀ c : Dev Cert.Half00Ideal.nD,
      m' ((c.tc : Thread Cert.Half00RefIdeal.nD Cert.Half00RefIdeal.τ).loc Cert.Half00RefIdeal.main_arg0) = m ((c.tc : Thread Cert.Half00Ideal.nD Cert.Half00Ideal.τ).loc Cert.Half00Ideal.main_arg0)
      ∧ m' ((c.tc : Thread Cert.Half00RefIdeal.nD Cert.Half00RefIdeal.τ).loc Cert.Half00RefIdeal.main_arg1) = m ((c.tc : Thread Cert.Half00Ideal.nD Cert.Half00Ideal.τ).loc Cert.Half00Ideal.main_arg1)
      ∧ m' ((c.tc : Thread Cert.Half00RefIdeal.nD Cert.Half00RefIdeal.τ).loc Cert.Half00RefIdeal.main_arg2) = m ((c.tc : Thread Cert.Half00Ideal.nD Cert.Half00Ideal.τ).loc Cert.Half00Ideal.main_arg2)
      ∧ m' ((c.tc : Thread Cert.Half00RefIdeal.nD Cert.Half00RefIdeal.τ).loc Cert.Half00RefIdeal.main_arg3) = m ((c.tc : Thread Cert.Half00Ideal.nD Cert.Half00Ideal.τ).loc Cert.Half00Ideal.main_arg3)
      ∧ m' ((c.tc : Thread Cert.Half00RefIdeal.nD Cert.Half00RefIdeal.τ).loc Cert.Half00RefIdeal.main_arg4) = m ((c.tc : Thread Cert.Half00Ideal.nD Cert.Half00Ideal.τ).loc Cert.Half00Ideal.main_arg4)
      ∧ m' ((c.tc : Thread Cert.Half00RefIdeal.nD Cert.Half00RefIdeal.τ).loc Cert.Half00RefIdeal.main_arg5) = m ((c.tc : Thread Cert.Half00Ideal.nD Cert.Half00Ideal.τ).loc Cert.Half00Ideal.main_arg5)
      ∧ m' ((c.tc : Thread Cert.Half00RefIdeal.nD Cert.Half00RefIdeal.τ).loc Cert.Half00RefIdeal.main_arg6) = m ((c.tc : Thread Cert.Half00Ideal.nD Cert.Half00Ideal.τ).loc Cert.Half00Ideal.main_arg6)
      ∧ m' ((c.tc : Thread Cert.Half00RefIdeal.nD Cert.Half00RefIdeal.τ).loc Cert.Half00RefIdeal.main_arg7) = m ((c.tc : Thread Cert.Half00Ideal.nD Cert.Half00Ideal.τ).loc Cert.Half00Ideal.main_arg7)
      ∧ m' ((c.tc : Thread Cert.Half00RefIdeal.nD Cert.Half00RefIdeal.τ).loc Cert.Half00RefIdeal.main_arg8) = m ((c.tc : Thread Cert.Half00Ideal.nD Cert.Half00Ideal.τ).loc Cert.Half00Ideal.main_arg8)
      ∧ m' ((c.tc : Thread Cert.Half00RefIdeal.nD Cert.Half00RefIdeal.τ).loc Cert.Half00RefIdeal.main_arg9) = m ((c.tc : Thread Cert.Half00Ideal.nD Cert.Half00Ideal.τ).loc Cert.Half00Ideal.main_arg9)
      ∧ m' ((c.tc : Thread Cert.Half00RefIdeal.nD Cert.Half00RefIdeal.τ).loc Cert.Half00RefIdeal.main_arg10) = m ((c.tc : Thread Cert.Half00Ideal.nD Cert.Half00Ideal.τ).loc Cert.Half00Ideal.main_arg10)) →
    ∃ (v0 : (c : Dev Cert.Half00Ideal.nD) → Buf (Elt Ideal) ((c.tc : Thread Cert.Half00Ideal.nD Cert.Half00Ideal.τ).loc Cert.Half00Ideal.main_v14_0)),
      θ_run (Cert.Half00Ideal.defs (F := Ideal)) (onTc (τ := Cert.Half00Ideal.τ) (Cert.Half00Ideal.main (F := Ideal))) ⟨m, fun _ => 0, g⟩ (fun r => ∀ c : Dev Cert.Half00Ideal.nD,
          r.2.mem ((c.tc : Thread Cert.Half00Ideal.nD Cert.Half00Ideal.τ).loc Cert.Half00Ideal.main_v14_0) = v0 c
          ∧ r.2.mem ((c.tc : Thread Cert.Half00Ideal.nD Cert.Half00Ideal.τ).loc Cert.Half00Ideal.main_arg0) = m ((c.tc : Thread Cert.Half00Ideal.nD Cert.Half00Ideal.τ).loc Cert.Half00Ideal.main_arg0)
          ∧ r.2.mem ((c.tc : Thread Cert.Half00Ideal.nD Cert.Half00Ideal.τ).loc Cert.Half00Ideal.main_arg1) = m ((c.tc : Thread Cert.Half00Ideal.nD Cert.Half00Ideal.τ).loc Cert.Half00Ideal.main_arg1)
          ∧ r.2.mem ((c.tc : Thread Cert.Half00Ideal.nD Cert.Half00Ideal.τ).loc Cert.Half00Ideal.main_arg2) = m ((c.tc : Thread Cert.Half00Ideal.nD Cert.Half00Ideal.τ).loc Cert.Half00Ideal.main_arg2)
          ∧ r.2.mem ((c.tc : Thread Cert.Half00Ideal.nD Cert.Half00Ideal.τ).loc Cert.Half00Ideal.main_arg3) = m ((c.tc : Thread Cert.Half00Ideal.nD Cert.Half00Ideal.τ).loc Cert.Half00Ideal.main_arg3)
          ∧ r.2.mem ((c.tc : Thread Cert.Half00Ideal.nD Cert.Half00Ideal.τ).loc Cert.Half00Ideal.main_arg4) = m ((c.tc : Thread Cert.Half00Ideal.nD Cert.Half00Ideal.τ).loc Cert.Half00Ideal.main_arg4)
          ∧ r.2.mem ((c.tc : Thread Cert.Half00Ideal.nD Cert.Half00Ideal.τ).loc Cert.Half00Ideal.main_arg5) = m ((c.tc : Thread Cert.Half00Ideal.nD Cert.Half00Ideal.τ).loc Cert.Half00Ideal.main_arg5)
          ∧ r.2.mem ((c.tc : Thread Cert.Half00Ideal.nD Cert.Half00Ideal.τ).loc Cert.Half00Ideal.main_arg6) = m ((c.tc : Thread Cert.Half00Ideal.nD Cert.Half00Ideal.τ).loc Cert.Half00Ideal.main_arg6)
          ∧ r.2.mem ((c.tc : Thread Cert.Half00Ideal.nD Cert.Half00Ideal.τ).loc Cert.Half00Ideal.main_arg7) = m ((c.tc : Thread Cert.Half00Ideal.nD Cert.Half00Ideal.τ).loc Cert.Half00Ideal.main_arg7)
          ∧ r.2.mem ((c.tc : Thread Cert.Half00Ideal.nD Cert.Half00Ideal.τ).loc Cert.Half00Ideal.main_arg8) = m ((c.tc : Thread Cert.Half00Ideal.nD Cert.Half00Ideal.τ).loc Cert.Half00Ideal.main_arg8)
          ∧ r.2.mem ((c.tc : Thread Cert.Half00Ideal.nD Cert.Half00Ideal.τ).loc Cert.Half00Ideal.main_arg9) = m ((c.tc : Thread Cert.Half00Ideal.nD Cert.Half00Ideal.τ).loc Cert.Half00Ideal.main_arg9)
          ∧ r.2.mem ((c.tc : Thread Cert.Half00Ideal.nD Cert.Half00Ideal.τ).loc Cert.Half00Ideal.main_arg10) = m ((c.tc : Thread Cert.Half00Ideal.nD Cert.Half00Ideal.τ).loc Cert.Half00Ideal.main_arg10))
      ∧ θ_run (Cert.Half00RefIdeal.defs (F := Ideal)) (onTc (τ := Cert.Half00RefIdeal.τ) (Cert.Half00RefIdeal.main (F := Ideal))) ⟨m', fun _ => 0, g'⟩ (fun r => ∀ c : Dev Cert.Half00RefIdeal.nD,
          r.2.mem ((c.tc : Thread Cert.Half00RefIdeal.nD Cert.Half00RefIdeal.τ).loc Cert.Half00RefIdeal.main_v124) = v0 c
          ∧ r.2.mem ((c.tc : Thread Cert.Half00RefIdeal.nD Cert.Half00RefIdeal.τ).loc Cert.Half00RefIdeal.main_arg0) = m' ((c.tc : Thread Cert.Half00RefIdeal.nD Cert.Half00RefIdeal.τ).loc Cert.Half00RefIdeal.main_arg0)
          ∧ r.2.mem ((c.tc : Thread Cert.Half00RefIdeal.nD Cert.Half00RefIdeal.τ).loc Cert.Half00RefIdeal.main_arg1) = m' ((c.tc : Thread Cert.Half00RefIdeal.nD Cert.Half00RefIdeal.τ).loc Cert.Half00RefIdeal.main_arg1)
          ∧ r.2.mem ((c.tc : Thread Cert.Half00RefIdeal.nD Cert.Half00RefIdeal.τ).loc Cert.Half00RefIdeal.main_arg2) = m' ((c.tc : Thread Cert.Half00RefIdeal.nD Cert.Half00RefIdeal.τ).loc Cert.Half00RefIdeal.main_arg2)
          ∧ r.2.mem ((c.tc : Thread Cert.Half00RefIdeal.nD Cert.Half00RefIdeal.τ).loc Cert.Half00RefIdeal.main_arg3) = m' ((c.tc : Thread Cert.Half00RefIdeal.nD Cert.Half00RefIdeal.τ).loc Cert.Half00RefIdeal.main_arg3)
          ∧ r.2.mem ((c.tc : Thread Cert.Half00RefIdeal.nD Cert.Half00RefIdeal.τ).loc Cert.Half00RefIdeal.main_arg4) = m' ((c.tc : Thread Cert.Half00RefIdeal.nD Cert.Half00RefIdeal.τ).loc Cert.Half00RefIdeal.main_arg4)
          ∧ r.2.mem ((c.tc : Thread Cert.Half00RefIdeal.nD Cert.Half00RefIdeal.τ).loc Cert.Half00RefIdeal.main_arg5) = m' ((c.tc : Thread Cert.Half00RefIdeal.nD Cert.Half00RefIdeal.τ).loc Cert.Half00RefIdeal.main_arg5)
          ∧ r.2.mem ((c.tc : Thread Cert.Half00RefIdeal.nD Cert.Half00RefIdeal.τ).loc Cert.Half00RefIdeal.main_arg6) = m' ((c.tc : Thread Cert.Half00RefIdeal.nD Cert.Half00RefIdeal.τ).loc Cert.Half00RefIdeal.main_arg6)
          ∧ r.2.mem ((c.tc : Thread Cert.Half00RefIdeal.nD Cert.Half00RefIdeal.τ).loc Cert.Half00RefIdeal.main_arg7) = m' ((c.tc : Thread Cert.Half00RefIdeal.nD Cert.Half00RefIdeal.τ).loc Cert.Half00RefIdeal.main_arg7)
          ∧ r.2.mem ((c.tc : Thread Cert.Half00RefIdeal.nD Cert.Half00RefIdeal.τ).loc Cert.Half00RefIdeal.main_arg8) = m' ((c.tc : Thread Cert.Half00RefIdeal.nD Cert.Half00RefIdeal.τ).loc Cert.Half00RefIdeal.main_arg8)
          ∧ r.2.mem ((c.tc : Thread Cert.Half00RefIdeal.nD Cert.Half00RefIdeal.τ).loc Cert.Half00RefIdeal.main_arg9) = m' ((c.tc : Thread Cert.Half00RefIdeal.nD Cert.Half00RefIdeal.τ).loc Cert.Half00RefIdeal.main_arg9)
          ∧ r.2.mem ((c.tc : Thread Cert.Half00RefIdeal.nD Cert.Half00RefIdeal.τ).loc Cert.Half00RefIdeal.main_arg10) = m' ((c.tc : Thread Cert.Half00RefIdeal.nD Cert.Half00RefIdeal.τ).loc Cert.Half00RefIdeal.main_arg10))

def preserves_Half01_Half01Ideal : Prop :=
  True

def algebraic_Half01Ideal_Half01RefIdeal [hHalf01Ideal : Cert.Half01Ideal.Facts] [hHalf01RefIdeal : Cert.Half01RefIdeal.Facts] : Prop :=
  ∀ (m : (ℓ : Loc Cert.Half01Ideal.nD Cert.Half01Ideal.τ Cert.Half01Ideal.sig) → Buf (Elt Ideal) ℓ) (g : Dev Cert.Half01Ideal.nD → PrngReg)
    (m' : (ℓ : Loc Cert.Half01RefIdeal.nD Cert.Half01RefIdeal.τ Cert.Half01RefIdeal.sig) → Buf (Elt Ideal) ℓ) (g' : Dev Cert.Half01RefIdeal.nD → PrngReg), Pre_Half01Ideal m →
    (∀ c : Dev Cert.Half01Ideal.nD,
      m' ((c.tc : Thread Cert.Half01RefIdeal.nD Cert.Half01RefIdeal.τ).loc Cert.Half01RefIdeal.main_arg0) = m ((c.tc : Thread Cert.Half01Ideal.nD Cert.Half01Ideal.τ).loc Cert.Half01Ideal.main_arg0)
      ∧ m' ((c.tc : Thread Cert.Half01RefIdeal.nD Cert.Half01RefIdeal.τ).loc Cert.Half01RefIdeal.main_arg1) = m ((c.tc : Thread Cert.Half01Ideal.nD Cert.Half01Ideal.τ).loc Cert.Half01Ideal.main_arg1)
      ∧ m' ((c.tc : Thread Cert.Half01RefIdeal.nD Cert.Half01RefIdeal.τ).loc Cert.Half01RefIdeal.main_arg2) = m ((c.tc : Thread Cert.Half01Ideal.nD Cert.Half01Ideal.τ).loc Cert.Half01Ideal.main_arg2)
      ∧ m' ((c.tc : Thread Cert.Half01RefIdeal.nD Cert.Half01RefIdeal.τ).loc Cert.Half01RefIdeal.main_arg3) = m ((c.tc : Thread Cert.Half01Ideal.nD Cert.Half01Ideal.τ).loc Cert.Half01Ideal.main_arg3)
      ∧ m' ((c.tc : Thread Cert.Half01RefIdeal.nD Cert.Half01RefIdeal.τ).loc Cert.Half01RefIdeal.main_arg4) = m ((c.tc : Thread Cert.Half01Ideal.nD Cert.Half01Ideal.τ).loc Cert.Half01Ideal.main_arg4)
      ∧ m' ((c.tc : Thread Cert.Half01RefIdeal.nD Cert.Half01RefIdeal.τ).loc Cert.Half01RefIdeal.main_arg5) = m ((c.tc : Thread Cert.Half01Ideal.nD Cert.Half01Ideal.τ).loc Cert.Half01Ideal.main_arg5)
      ∧ m' ((c.tc : Thread Cert.Half01RefIdeal.nD Cert.Half01RefIdeal.τ).loc Cert.Half01RefIdeal.main_arg6) = m ((c.tc : Thread Cert.Half01Ideal.nD Cert.Half01Ideal.τ).loc Cert.Half01Ideal.main_arg6)
      ∧ m' ((c.tc : Thread Cert.Half01RefIdeal.nD Cert.Half01RefIdeal.τ).loc Cert.Half01RefIdeal.main_arg7) = m ((c.tc : Thread Cert.Half01Ideal.nD Cert.Half01Ideal.τ).loc Cert.Half01Ideal.main_arg7)
      ∧ m' ((c.tc : Thread Cert.Half01RefIdeal.nD Cert.Half01RefIdeal.τ).loc Cert.Half01RefIdeal.main_arg8) = m ((c.tc : Thread Cert.Half01Ideal.nD Cert.Half01Ideal.τ).loc Cert.Half01Ideal.main_arg8)
      ∧ m' ((c.tc : Thread Cert.Half01RefIdeal.nD Cert.Half01RefIdeal.τ).loc Cert.Half01RefIdeal.main_arg9) = m ((c.tc : Thread Cert.Half01Ideal.nD Cert.Half01Ideal.τ).loc Cert.Half01Ideal.main_arg9)) →
    ∃ (v0 : (c : Dev Cert.Half01Ideal.nD) → Buf (Elt Ideal) ((c.tc : Thread Cert.Half01Ideal.nD Cert.Half01Ideal.τ).loc Cert.Half01Ideal.main_v15_0)),
      θ_run (Cert.Half01Ideal.defs (F := Ideal)) (onTc (τ := Cert.Half01Ideal.τ) (Cert.Half01Ideal.main (F := Ideal))) ⟨m, fun _ => 0, g⟩ (fun r => ∀ c : Dev Cert.Half01Ideal.nD,
          r.2.mem ((c.tc : Thread Cert.Half01Ideal.nD Cert.Half01Ideal.τ).loc Cert.Half01Ideal.main_v15_0) = v0 c
          ∧ r.2.mem ((c.tc : Thread Cert.Half01Ideal.nD Cert.Half01Ideal.τ).loc Cert.Half01Ideal.main_arg0) = m ((c.tc : Thread Cert.Half01Ideal.nD Cert.Half01Ideal.τ).loc Cert.Half01Ideal.main_arg0)
          ∧ r.2.mem ((c.tc : Thread Cert.Half01Ideal.nD Cert.Half01Ideal.τ).loc Cert.Half01Ideal.main_arg1) = m ((c.tc : Thread Cert.Half01Ideal.nD Cert.Half01Ideal.τ).loc Cert.Half01Ideal.main_arg1)
          ∧ r.2.mem ((c.tc : Thread Cert.Half01Ideal.nD Cert.Half01Ideal.τ).loc Cert.Half01Ideal.main_arg2) = m ((c.tc : Thread Cert.Half01Ideal.nD Cert.Half01Ideal.τ).loc Cert.Half01Ideal.main_arg2)
          ∧ r.2.mem ((c.tc : Thread Cert.Half01Ideal.nD Cert.Half01Ideal.τ).loc Cert.Half01Ideal.main_arg3) = m ((c.tc : Thread Cert.Half01Ideal.nD Cert.Half01Ideal.τ).loc Cert.Half01Ideal.main_arg3)
          ∧ r.2.mem ((c.tc : Thread Cert.Half01Ideal.nD Cert.Half01Ideal.τ).loc Cert.Half01Ideal.main_arg4) = m ((c.tc : Thread Cert.Half01Ideal.nD Cert.Half01Ideal.τ).loc Cert.Half01Ideal.main_arg4)
          ∧ r.2.mem ((c.tc : Thread Cert.Half01Ideal.nD Cert.Half01Ideal.τ).loc Cert.Half01Ideal.main_arg5) = m ((c.tc : Thread Cert.Half01Ideal.nD Cert.Half01Ideal.τ).loc Cert.Half01Ideal.main_arg5)
          ∧ r.2.mem ((c.tc : Thread Cert.Half01Ideal.nD Cert.Half01Ideal.τ).loc Cert.Half01Ideal.main_arg6) = m ((c.tc : Thread Cert.Half01Ideal.nD Cert.Half01Ideal.τ).loc Cert.Half01Ideal.main_arg6)
          ∧ r.2.mem ((c.tc : Thread Cert.Half01Ideal.nD Cert.Half01Ideal.τ).loc Cert.Half01Ideal.main_arg7) = m ((c.tc : Thread Cert.Half01Ideal.nD Cert.Half01Ideal.τ).loc Cert.Half01Ideal.main_arg7)
          ∧ r.2.mem ((c.tc : Thread Cert.Half01Ideal.nD Cert.Half01Ideal.τ).loc Cert.Half01Ideal.main_arg8) = m ((c.tc : Thread Cert.Half01Ideal.nD Cert.Half01Ideal.τ).loc Cert.Half01Ideal.main_arg8)
          ∧ r.2.mem ((c.tc : Thread Cert.Half01Ideal.nD Cert.Half01Ideal.τ).loc Cert.Half01Ideal.main_arg9) = m ((c.tc : Thread Cert.Half01Ideal.nD Cert.Half01Ideal.τ).loc Cert.Half01Ideal.main_arg9))
      ∧ θ_run (Cert.Half01RefIdeal.defs (F := Ideal)) (onTc (τ := Cert.Half01RefIdeal.τ) (Cert.Half01RefIdeal.main (F := Ideal))) ⟨m', fun _ => 0, g'⟩ (fun r => ∀ c : Dev Cert.Half01RefIdeal.nD,
          r.2.mem ((c.tc : Thread Cert.Half01RefIdeal.nD Cert.Half01RefIdeal.τ).loc Cert.Half01RefIdeal.main_v166) = v0 c
          ∧ r.2.mem ((c.tc : Thread Cert.Half01RefIdeal.nD Cert.Half01RefIdeal.τ).loc Cert.Half01RefIdeal.main_arg0) = m' ((c.tc : Thread Cert.Half01RefIdeal.nD Cert.Half01RefIdeal.τ).loc Cert.Half01RefIdeal.main_arg0)
          ∧ r.2.mem ((c.tc : Thread Cert.Half01RefIdeal.nD Cert.Half01RefIdeal.τ).loc Cert.Half01RefIdeal.main_arg1) = m' ((c.tc : Thread Cert.Half01RefIdeal.nD Cert.Half01RefIdeal.τ).loc Cert.Half01RefIdeal.main_arg1)
          ∧ r.2.mem ((c.tc : Thread Cert.Half01RefIdeal.nD Cert.Half01RefIdeal.τ).loc Cert.Half01RefIdeal.main_arg2) = m' ((c.tc : Thread Cert.Half01RefIdeal.nD Cert.Half01RefIdeal.τ).loc Cert.Half01RefIdeal.main_arg2)
          ∧ r.2.mem ((c.tc : Thread Cert.Half01RefIdeal.nD Cert.Half01RefIdeal.τ).loc Cert.Half01RefIdeal.main_arg3) = m' ((c.tc : Thread Cert.Half01RefIdeal.nD Cert.Half01RefIdeal.τ).loc Cert.Half01RefIdeal.main_arg3)
          ∧ r.2.mem ((c.tc : Thread Cert.Half01RefIdeal.nD Cert.Half01RefIdeal.τ).loc Cert.Half01RefIdeal.main_arg4) = m' ((c.tc : Thread Cert.Half01RefIdeal.nD Cert.Half01RefIdeal.τ).loc Cert.Half01RefIdeal.main_arg4)
          ∧ r.2.mem ((c.tc : Thread Cert.Half01RefIdeal.nD Cert.Half01RefIdeal.τ).loc Cert.Half01RefIdeal.main_arg5) = m' ((c.tc : Thread Cert.Half01RefIdeal.nD Cert.Half01RefIdeal.τ).loc Cert.Half01RefIdeal.main_arg5)
          ∧ r.2.mem ((c.tc : Thread Cert.Half01RefIdeal.nD Cert.Half01RefIdeal.τ).loc Cert.Half01RefIdeal.main_arg6) = m' ((c.tc : Thread Cert.Half01RefIdeal.nD Cert.Half01RefIdeal.τ).loc Cert.Half01RefIdeal.main_arg6)
          ∧ r.2.mem ((c.tc : Thread Cert.Half01RefIdeal.nD Cert.Half01RefIdeal.τ).loc Cert.Half01RefIdeal.main_arg7) = m' ((c.tc : Thread Cert.Half01RefIdeal.nD Cert.Half01RefIdeal.τ).loc Cert.Half01RefIdeal.main_arg7)
          ∧ r.2.mem ((c.tc : Thread Cert.Half01RefIdeal.nD Cert.Half01RefIdeal.τ).loc Cert.Half01RefIdeal.main_arg8) = m' ((c.tc : Thread Cert.Half01RefIdeal.nD Cert.Half01RefIdeal.τ).loc Cert.Half01RefIdeal.main_arg8)
          ∧ r.2.mem ((c.tc : Thread Cert.Half01RefIdeal.nD Cert.Half01RefIdeal.τ).loc Cert.Half01RefIdeal.main_arg9) = m' ((c.tc : Thread Cert.Half01RefIdeal.nD Cert.Half01RefIdeal.τ).loc Cert.Half01RefIdeal.main_arg9))

def preserves_Half21_Half21Ideal : Prop :=
  True

def algebraic_Half21Ideal_Half21RefIdeal [hHalf21Ideal : Cert.Half21Ideal.Facts] [hHalf21RefIdeal : Cert.Half21RefIdeal.Facts] : Prop :=
  ∀ (m : (ℓ : Loc Cert.Half21Ideal.nD Cert.Half21Ideal.τ Cert.Half21Ideal.sig) → Buf (Elt Ideal) ℓ) (g : Dev Cert.Half21Ideal.nD → PrngReg)
    (m' : (ℓ : Loc Cert.Half21RefIdeal.nD Cert.Half21RefIdeal.τ Cert.Half21RefIdeal.sig) → Buf (Elt Ideal) ℓ) (g' : Dev Cert.Half21RefIdeal.nD → PrngReg), Pre_Half21Ideal m →
    (∀ c : Dev Cert.Half21Ideal.nD,
      m' ((c.tc : Thread Cert.Half21RefIdeal.nD Cert.Half21RefIdeal.τ).loc Cert.Half21RefIdeal.main_arg0) = m ((c.tc : Thread Cert.Half21Ideal.nD Cert.Half21Ideal.τ).loc Cert.Half21Ideal.main_arg0)
      ∧ m' ((c.tc : Thread Cert.Half21RefIdeal.nD Cert.Half21RefIdeal.τ).loc Cert.Half21RefIdeal.main_arg1) = m ((c.tc : Thread Cert.Half21Ideal.nD Cert.Half21Ideal.τ).loc Cert.Half21Ideal.main_arg1)
      ∧ m' ((c.tc : Thread Cert.Half21RefIdeal.nD Cert.Half21RefIdeal.τ).loc Cert.Half21RefIdeal.main_arg2) = m ((c.tc : Thread Cert.Half21Ideal.nD Cert.Half21Ideal.τ).loc Cert.Half21Ideal.main_arg2)
      ∧ m' ((c.tc : Thread Cert.Half21RefIdeal.nD Cert.Half21RefIdeal.τ).loc Cert.Half21RefIdeal.main_arg3) = m ((c.tc : Thread Cert.Half21Ideal.nD Cert.Half21Ideal.τ).loc Cert.Half21Ideal.main_arg3)
      ∧ m' ((c.tc : Thread Cert.Half21RefIdeal.nD Cert.Half21RefIdeal.τ).loc Cert.Half21RefIdeal.main_arg4) = m ((c.tc : Thread Cert.Half21Ideal.nD Cert.Half21Ideal.τ).loc Cert.Half21Ideal.main_arg4)
      ∧ m' ((c.tc : Thread Cert.Half21RefIdeal.nD Cert.Half21RefIdeal.τ).loc Cert.Half21RefIdeal.main_arg5) = m ((c.tc : Thread Cert.Half21Ideal.nD Cert.Half21Ideal.τ).loc Cert.Half21Ideal.main_arg5)
      ∧ m' ((c.tc : Thread Cert.Half21RefIdeal.nD Cert.Half21RefIdeal.τ).loc Cert.Half21RefIdeal.main_arg6) = m ((c.tc : Thread Cert.Half21Ideal.nD Cert.Half21Ideal.τ).loc Cert.Half21Ideal.main_arg6)
      ∧ m' ((c.tc : Thread Cert.Half21RefIdeal.nD Cert.Half21RefIdeal.τ).loc Cert.Half21RefIdeal.main_arg7) = m ((c.tc : Thread Cert.Half21Ideal.nD Cert.Half21Ideal.τ).loc Cert.Half21Ideal.main_arg7)
      ∧ m' ((c.tc : Thread Cert.Half21RefIdeal.nD Cert.Half21RefIdeal.τ).loc Cert.Half21RefIdeal.main_arg8) = m ((c.tc : Thread Cert.Half21Ideal.nD Cert.Half21Ideal.τ).loc Cert.Half21Ideal.main_arg8)
      ∧ m' ((c.tc : Thread Cert.Half21RefIdeal.nD Cert.Half21RefIdeal.τ).loc Cert.Half21RefIdeal.main_arg9) = m ((c.tc : Thread Cert.Half21Ideal.nD Cert.Half21Ideal.τ).loc Cert.Half21Ideal.main_arg9)) →
    ∃ (v0 : (c : Dev Cert.Half21Ideal.nD) → Buf (Elt Ideal) ((c.tc : Thread Cert.Half21Ideal.nD Cert.Half21Ideal.τ).loc Cert.Half21Ideal.main_v15_0)),
      θ_run (Cert.Half21Ideal.defs (F := Ideal)) (onTc (τ := Cert.Half21Ideal.τ) (Cert.Half21Ideal.main (F := Ideal))) ⟨m, fun _ => 0, g⟩ (fun r => ∀ c : Dev Cert.Half21Ideal.nD,
          r.2.mem ((c.tc : Thread Cert.Half21Ideal.nD Cert.Half21Ideal.τ).loc Cert.Half21Ideal.main_v15_0) = v0 c
          ∧ r.2.mem ((c.tc : Thread Cert.Half21Ideal.nD Cert.Half21Ideal.τ).loc Cert.Half21Ideal.main_arg0) = m ((c.tc : Thread Cert.Half21Ideal.nD Cert.Half21Ideal.τ).loc Cert.Half21Ideal.main_arg0)
          ∧ r.2.mem ((c.tc : Thread Cert.Half21Ideal.nD Cert.Half21Ideal.τ).loc Cert.Half21Ideal.main_arg1) = m ((c.tc : Thread Cert.Half21Ideal.nD Cert.Half21Ideal.τ).loc Cert.Half21Ideal.main_arg1)
          ∧ r.2.mem ((c.tc : Thread Cert.Half21Ideal.nD Cert.Half21Ideal.τ).loc Cert.Half21Ideal.main_arg2) = m ((c.tc : Thread Cert.Half21Ideal.nD Cert.Half21Ideal.τ).loc Cert.Half21Ideal.main_arg2)
          ∧ r.2.mem ((c.tc : Thread Cert.Half21Ideal.nD Cert.Half21Ideal.τ).loc Cert.Half21Ideal.main_arg3) = m ((c.tc : Thread Cert.Half21Ideal.nD Cert.Half21Ideal.τ).loc Cert.Half21Ideal.main_arg3)
          ∧ r.2.mem ((c.tc : Thread Cert.Half21Ideal.nD Cert.Half21Ideal.τ).loc Cert.Half21Ideal.main_arg4) = m ((c.tc : Thread Cert.Half21Ideal.nD Cert.Half21Ideal.τ).loc Cert.Half21Ideal.main_arg4)
          ∧ r.2.mem ((c.tc : Thread Cert.Half21Ideal.nD Cert.Half21Ideal.τ).loc Cert.Half21Ideal.main_arg5) = m ((c.tc : Thread Cert.Half21Ideal.nD Cert.Half21Ideal.τ).loc Cert.Half21Ideal.main_arg5)
          ∧ r.2.mem ((c.tc : Thread Cert.Half21Ideal.nD Cert.Half21Ideal.τ).loc Cert.Half21Ideal.main_arg6) = m ((c.tc : Thread Cert.Half21Ideal.nD Cert.Half21Ideal.τ).loc Cert.Half21Ideal.main_arg6)
          ∧ r.2.mem ((c.tc : Thread Cert.Half21Ideal.nD Cert.Half21Ideal.τ).loc Cert.Half21Ideal.main_arg7) = m ((c.tc : Thread Cert.Half21Ideal.nD Cert.Half21Ideal.τ).loc Cert.Half21Ideal.main_arg7)
          ∧ r.2.mem ((c.tc : Thread Cert.Half21Ideal.nD Cert.Half21Ideal.τ).loc Cert.Half21Ideal.main_arg8) = m ((c.tc : Thread Cert.Half21Ideal.nD Cert.Half21Ideal.τ).loc Cert.Half21Ideal.main_arg8)
          ∧ r.2.mem ((c.tc : Thread Cert.Half21Ideal.nD Cert.Half21Ideal.τ).loc Cert.Half21Ideal.main_arg9) = m ((c.tc : Thread Cert.Half21Ideal.nD Cert.Half21Ideal.τ).loc Cert.Half21Ideal.main_arg9))
      ∧ θ_run (Cert.Half21RefIdeal.defs (F := Ideal)) (onTc (τ := Cert.Half21RefIdeal.τ) (Cert.Half21RefIdeal.main (F := Ideal))) ⟨m', fun _ => 0, g'⟩ (fun r => ∀ c : Dev Cert.Half21RefIdeal.nD,
          r.2.mem ((c.tc : Thread Cert.Half21RefIdeal.nD Cert.Half21RefIdeal.τ).loc Cert.Half21RefIdeal.main_v164) = v0 c
          ∧ r.2.mem ((c.tc : Thread Cert.Half21RefIdeal.nD Cert.Half21RefIdeal.τ).loc Cert.Half21RefIdeal.main_arg0) = m' ((c.tc : Thread Cert.Half21RefIdeal.nD Cert.Half21RefIdeal.τ).loc Cert.Half21RefIdeal.main_arg0)
          ∧ r.2.mem ((c.tc : Thread Cert.Half21RefIdeal.nD Cert.Half21RefIdeal.τ).loc Cert.Half21RefIdeal.main_arg1) = m' ((c.tc : Thread Cert.Half21RefIdeal.nD Cert.Half21RefIdeal.τ).loc Cert.Half21RefIdeal.main_arg1)
          ∧ r.2.mem ((c.tc : Thread Cert.Half21RefIdeal.nD Cert.Half21RefIdeal.τ).loc Cert.Half21RefIdeal.main_arg2) = m' ((c.tc : Thread Cert.Half21RefIdeal.nD Cert.Half21RefIdeal.τ).loc Cert.Half21RefIdeal.main_arg2)
          ∧ r.2.mem ((c.tc : Thread Cert.Half21RefIdeal.nD Cert.Half21RefIdeal.τ).loc Cert.Half21RefIdeal.main_arg3) = m' ((c.tc : Thread Cert.Half21RefIdeal.nD Cert.Half21RefIdeal.τ).loc Cert.Half21RefIdeal.main_arg3)
          ∧ r.2.mem ((c.tc : Thread Cert.Half21RefIdeal.nD Cert.Half21RefIdeal.τ).loc Cert.Half21RefIdeal.main_arg4) = m' ((c.tc : Thread Cert.Half21RefIdeal.nD Cert.Half21RefIdeal.τ).loc Cert.Half21RefIdeal.main_arg4)
          ∧ r.2.mem ((c.tc : Thread Cert.Half21RefIdeal.nD Cert.Half21RefIdeal.τ).loc Cert.Half21RefIdeal.main_arg5) = m' ((c.tc : Thread Cert.Half21RefIdeal.nD Cert.Half21RefIdeal.τ).loc Cert.Half21RefIdeal.main_arg5)
          ∧ r.2.mem ((c.tc : Thread Cert.Half21RefIdeal.nD Cert.Half21RefIdeal.τ).loc Cert.Half21RefIdeal.main_arg6) = m' ((c.tc : Thread Cert.Half21RefIdeal.nD Cert.Half21RefIdeal.τ).loc Cert.Half21RefIdeal.main_arg6)
          ∧ r.2.mem ((c.tc : Thread Cert.Half21RefIdeal.nD Cert.Half21RefIdeal.τ).loc Cert.Half21RefIdeal.main_arg7) = m' ((c.tc : Thread Cert.Half21RefIdeal.nD Cert.Half21RefIdeal.τ).loc Cert.Half21RefIdeal.main_arg7)
          ∧ r.2.mem ((c.tc : Thread Cert.Half21RefIdeal.nD Cert.Half21RefIdeal.τ).loc Cert.Half21RefIdeal.main_arg8) = m' ((c.tc : Thread Cert.Half21RefIdeal.nD Cert.Half21RefIdeal.τ).loc Cert.Half21RefIdeal.main_arg8)
          ∧ r.2.mem ((c.tc : Thread Cert.Half21RefIdeal.nD Cert.Half21RefIdeal.τ).loc Cert.Half21RefIdeal.main_arg9) = m' ((c.tc : Thread Cert.Half21RefIdeal.nD Cert.Half21RefIdeal.τ).loc Cert.Half21RefIdeal.main_arg9))

def Claim : Prop :=
  ∃ (hCtx : Cert.Ctx.Facts) (hCtxIdeal : Cert.CtxIdeal.Facts) (hCtxRefIdeal : Cert.CtxRefIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hConv : Cert.Conv.Facts) (hConvIdeal : Cert.ConvIdeal.Facts) (hConvRefIdeal : Cert.ConvRefIdeal.Facts) (hHalf30 : Cert.Half30.Facts) (hHalf30Ideal : Cert.Half30Ideal.Facts) (hHalf30RefIdeal : Cert.Half30RefIdeal.Facts) (hHalf11 : Cert.Half11.Facts) (hHalf11Ideal : Cert.Half11Ideal.Facts) (hHalf11RefIdeal : Cert.Half11RefIdeal.Facts) (hHalf10 : Cert.Half10.Facts) (hHalf10Ideal : Cert.Half10Ideal.Facts) (hHalf10RefIdeal : Cert.Half10RefIdeal.Facts) (hHalf20 : Cert.Half20.Facts) (hHalf20Ideal : Cert.Half20Ideal.Facts) (hHalf20RefIdeal : Cert.Half20RefIdeal.Facts) (hHalf00 : Cert.Half00.Facts) (hHalf00Ideal : Cert.Half00Ideal.Facts) (hHalf00RefIdeal : Cert.Half00RefIdeal.Facts) (hHalf01 : Cert.Half01.Facts) (hHalf01Ideal : Cert.Half01Ideal.Facts) (hHalf01RefIdeal : Cert.Half01RefIdeal.Facts) (hHalf21 : Cert.Half21.Facts) (hHalf21Ideal : Cert.Half21Ideal.Facts) (hHalf21RefIdeal : Cert.Half21RefIdeal.Facts) (hPre_finite_logits : Cert.Pre_finite_logits.Facts),
    quiescent_Ctx (hCtx := hCtx)
    ∧ quiescent_CtxIdeal (hCtxIdeal := hCtxIdeal)
    ∧ quiescent_CtxIdeal_pre_finite_logits (hCtxIdeal := hCtxIdeal) (hPre_finite_logits := hPre_finite_logits)
    ∧ quiescent_CtxRefIdeal (hCtxRefIdeal := hCtxRefIdeal)
    ∧ quiescent_CtxRefIdeal_pre_finite_logits (hCtxRefIdeal := hCtxRefIdeal) (hPre_finite_logits := hPre_finite_logits)
    ∧ quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ quiescent_Conv (hConv := hConv)
    ∧ quiescent_ConvIdeal (hConvIdeal := hConvIdeal)
    ∧ quiescent_ConvRefIdeal (hConvRefIdeal := hConvRefIdeal)
    ∧ quiescent_Half30 (hHalf30 := hHalf30)
    ∧ quiescent_Half30Ideal (hHalf30Ideal := hHalf30Ideal)
    ∧ quiescent_Half30RefIdeal (hHalf30RefIdeal := hHalf30RefIdeal)
    ∧ quiescent_Half11 (hHalf11 := hHalf11)
    ∧ quiescent_Half11Ideal (hHalf11Ideal := hHalf11Ideal)
    ∧ quiescent_Half11RefIdeal (hHalf11RefIdeal := hHalf11RefIdeal)
    ∧ quiescent_Half10 (hHalf10 := hHalf10)
    ∧ quiescent_Half10Ideal (hHalf10Ideal := hHalf10Ideal)
    ∧ quiescent_Half10RefIdeal (hHalf10RefIdeal := hHalf10RefIdeal)
    ∧ quiescent_Half20 (hHalf20 := hHalf20)
    ∧ quiescent_Half20Ideal (hHalf20Ideal := hHalf20Ideal)
    ∧ quiescent_Half20RefIdeal (hHalf20RefIdeal := hHalf20RefIdeal)
    ∧ quiescent_Half00 (hHalf00 := hHalf00)
    ∧ quiescent_Half00Ideal (hHalf00Ideal := hHalf00Ideal)
    ∧ quiescent_Half00RefIdeal (hHalf00RefIdeal := hHalf00RefIdeal)
    ∧ quiescent_Half01 (hHalf01 := hHalf01)
    ∧ quiescent_Half01Ideal (hHalf01Ideal := hHalf01Ideal)
    ∧ quiescent_Half01RefIdeal (hHalf01RefIdeal := hHalf01RefIdeal)
    ∧ quiescent_Half21 (hHalf21 := hHalf21)
    ∧ quiescent_Half21Ideal (hHalf21Ideal := hHalf21Ideal)
    ∧ quiescent_Half21RefIdeal (hHalf21RefIdeal := hHalf21RefIdeal)
    ∧ preserves_Ctx_CtxIdeal
    ∧ algebraic_CtxIdeal_CtxRefIdeal_pre_finite_logits (hCtxIdeal := hCtxIdeal) (hCtxRefIdeal := hCtxRefIdeal) (hPre_finite_logits := hPre_finite_logits)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal (hProjIdeal := hProjIdeal) (hProjRefIdeal := hProjRefIdeal)
    ∧ preserves_Conv_ConvIdeal
    ∧ algebraic_ConvIdeal_ConvRefIdeal (hConvIdeal := hConvIdeal) (hConvRefIdeal := hConvRefIdeal)
    ∧ preserves_Half30_Half30Ideal
    ∧ algebraic_Half30Ideal_Half30RefIdeal (hHalf30Ideal := hHalf30Ideal) (hHalf30RefIdeal := hHalf30RefIdeal)
    ∧ preserves_Half11_Half11Ideal
    ∧ algebraic_Half11Ideal_Half11RefIdeal (hHalf11Ideal := hHalf11Ideal) (hHalf11RefIdeal := hHalf11RefIdeal)
    ∧ preserves_Half10_Half10Ideal
    ∧ algebraic_Half10Ideal_Half10RefIdeal (hHalf10Ideal := hHalf10Ideal) (hHalf10RefIdeal := hHalf10RefIdeal)
    ∧ preserves_Half20_Half20Ideal
    ∧ algebraic_Half20Ideal_Half20RefIdeal (hHalf20Ideal := hHalf20Ideal) (hHalf20RefIdeal := hHalf20RefIdeal)
    ∧ preserves_Half00_Half00Ideal
    ∧ algebraic_Half00Ideal_Half00RefIdeal (hHalf00Ideal := hHalf00Ideal) (hHalf00RefIdeal := hHalf00RefIdeal)
    ∧ preserves_Half01_Half01Ideal
    ∧ algebraic_Half01Ideal_Half01RefIdeal (hHalf01Ideal := hHalf01Ideal) (hHalf01RefIdeal := hHalf01RefIdeal)
    ∧ preserves_Half21_Half21Ideal
    ∧ algebraic_Half21Ideal_Half21RefIdeal (hHalf21Ideal := hHalf21Ideal) (hHalf21RefIdeal := hHalf21RefIdeal)
-- ==== Pre_finite_logits.lean ====
abbrev S16 : Shape := ⟨1, ![16]⟩
abbrev S12288x1024 : Shape := ⟨2, ![12288, 1024]⟩
abbrev S12288x256 : Shape := ⟨2, ![12288, 256]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel
  bcast_S_S12288x1024 : S_.BroadcastsInDim S12288x1024 (![] : Fin 0 → Fin S12288x1024.rank)
  reducesTo_S12288x1024_S_d0_1 : S12288x1024.ReducesTo [0, 1] S_
  bcast_S_S12288x256 : S_.BroadcastsInDim S12288x256 (![] : Fin 0 → Fin S12288x256.rank)
  reducesTo_S12288x256_S_d0_1 : S12288x256.ReducesTo [0, 1] S_

variable [Facts]

def fn {F : FTy → Type} [FloatOps F] (main_arg0 : FVec F S16 .f32) (main_arg1 : FVec F S12288x1024 .f32) (main_arg2 : FVec F S12288x256 .f32) (main_arg3 : FVec F S12288x256 .f32) : IVec S_ 1 :=
  let main_v0 : FVec F S16 .f32 := Host.absf main_arg0
  let main_cst : FVec F S_ .f32 := constant S_ .f32 0x7F800000#32
  let main_v1 : FVec F S16 .f32 := broadcastInDim S16 ![] bcast_S_S16 main_cst
  let main_v2 : IVec S16 1 := cmpf .olt main_v0 main_v1
  let main_c : IVec S_ 1 := constantI S_ 1 1#1
  let main_v3 : IVec S_ 1 := (fun x v => Host.reduce IntOp.andi x v reducesTo_S16_S_d0 h_S_) main_v2 main_c
  let main_v4 : FVec F S12288x1024 .f32 := Host.absf main_arg1
  let main_cst_0 : FVec F S_ .f32 := constant S_ .f32 0x7F800000#32
  let main_v5 : FVec F S12288x1024 .f32 := broadcastInDim S12288x1024 ![] bcast_S_S12288x1024 main_cst_0
  let main_v6 : IVec S12288x1024 1 := cmpf .olt main_v4 main_v5
  let main_c_1 : IVec S_ 1 := constantI S_ 1 1#1
  let main_v7 : IVec S_ 1 := (fun x v => Host.reduce IntOp.andi x v reducesTo_S12288x1024_S_d0_1 h_S_) main_v6 main_c_1
  let main_v8 : IVec S_ 1 := andi main_v3 main_v7
  let main_v9 : FVec F S12288x256 .f32 := Host.absf main_arg2
  let main_cst_2 : FVec F S_ .f32 := constant S_ .f32 0x7F800000#32
  let main_v10 : FVec F S12288x256 .f32 := broadcastInDim S12288x256 ![] bcast_S_S12288x256 main_cst_2
  let main_v11 : IVec S12288x256 1 := cmpf .olt main_v9 main_v10
  let main_c_3 : IVec S_ 1 := constantI S_ 1 1#1
  let main_v12 : IVec S_ 1 := (fun x v => Host.reduce IntOp.andi x v reducesTo_S12288x256_S_d0_1 h_S_) main_v11 main_c_3
  let main_v13 : IVec S_ 1 := andi main_v8 main_v12
  main_v13
-- ==== Ctx.lean ====
abbrev S16 : Shape := ⟨1, ![16]⟩
abbrev S12288x1024 : Shape := ⟨2, ![12288, 1024]⟩
abbrev S12288x256 : Shape := ⟨2, ![12288, 256]⟩
abbrev S4096x1024 : Shape := ⟨2, ![4096, 1024]⟩
abbrev S256x1024 : Shape := ⟨2, ![256, 1024]⟩
abbrev S256x256 : Shape := ⟨2, ![256, 256]⟩
abbrev S8x256x128 : Shape := ⟨3, ![8, 256, 128]⟩
abbrev S8x512x256 : Shape := ⟨3, ![8, 512, 256]⟩
abbrev S256x128 : Shape := ⟨2, ![256, 128]⟩
abbrev S1x256x128 : Shape := ⟨3, ![1, 256, 128]⟩
abbrev S512x1 : Shape := ⟨2, ![512, 1]⟩
abbrev S512x128 : Shape := ⟨2, ![512, 128]⟩
abbrev S1 : Shape := ⟨1, ![1]⟩
abbrev S512x256 : Shape := ⟨2, ![512, 256]⟩
abbrev S1x512x256 : Shape := ⟨3, ![1, 512, 256]⟩
abbrev S512 : Shape := ⟨1, ![512]⟩

abbrev nBuf : Space → Nat
  | .hbm => 7
  | .vmem => 12
  | .smem => 1
  | _ => 0

abbrev bufTy : (tb : Table) → Fin (tcTables nBuf tb) → BufTy
  | .hbm, ⟨0, _⟩ => ⟨S16, .f32⟩
  | .hbm, ⟨1, _⟩ => ⟨S12288x1024, .f32⟩
  | .hbm, ⟨2, _⟩ => ⟨S12288x256, .f32⟩
  | .hbm, ⟨3, _⟩ => ⟨S12288x256, .f32⟩
  | .hbm, ⟨4, _⟩ => ⟨S12288x256, .bf16⟩
  | .hbm, ⟨5, _⟩ => ⟨S12288x256, .bf16⟩
  | .hbm, ⟨6, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x1024, .bf16⟩
  | .local _ .vmem, ⟨7, _⟩ => ⟨S256x1024, .bf16⟩
  | .local _ .vmem, ⟨8, _⟩ => ⟨S8x256x128, .bf16⟩
  | .local _ .vmem, ⟨9, _⟩ => ⟨S8x256x128, .bf16⟩
  | .local _ .vmem, ⟨10, _⟩ => ⟨S8x512x256, .f32⟩
  | .local _ .vmem, ⟨11, _⟩ => ⟨S8x512x256, .bf16⟩
  | .local _ .smem, ⟨0, _⟩ => ⟨S16, .f32⟩
  | _, _ => ⟨S16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CtxIdeal.lean ====
variable {F : FTy → Type} [FloatOps F] [Named F]
def κ : String → Option EReal := fun
  | "log2e" => some (((Real.log 2)⁻¹ : ℝ) : EReal)
  | "scale" => some (((1 / 8) * (Real.log 2)⁻¹ : ℝ) : EReal)
  | _ => none
-- ==== CtxRefIdeal.lean ====
abbrev S16 : Shape := ⟨1, ![16]⟩
abbrev S12288x1024 : Shape := ⟨2, ![12288, 1024]⟩
abbrev S12288x256 : Shape := ⟨2, ![12288, 256]⟩
abbrev S4096x1024 : Shape := ⟨2, ![4096, 1024]⟩
abbrev S16x256x4x4x64 : Shape := ⟨5, ![16, 256, 4, 4, 64]⟩
abbrev S4096x256 : Shape := ⟨2, ![4096, 256]⟩
abbrev S16x256x4x64 : Shape := ⟨4, ![16, 256, 4, 64]⟩
abbrev S16x4x256x256x4 : Shape := ⟨5, ![16, 4, 256, 256, 4]⟩
abbrev S16x4x4x256x256 : Shape := ⟨5, ![16, 4, 4, 256, 256]⟩
abbrev S_ : Shape := ⟨0, ![]⟩
abbrev S1x4x4x1x1 : Shape := ⟨5, ![1, 4, 4, 1, 1]⟩
abbrev S16x4x4x256x1 : Shape := ⟨5, ![16, 4, 4, 256, 1]⟩
abbrev S16x4x4x256x257 : Shape := ⟨5, ![16, 4, 4, 256, 257]⟩
abbrev S16x4x4x256 : Shape := ⟨4, ![16, 4, 4, 256]⟩
abbrev S16x4x64x4x256 : Shape := ⟨5, ![16, 4, 64, 4, 256]⟩

abbrev nBuf : Space → Nat
  | .hbm => 37
  | .vmem => 0
  | .smem => 0
  | _ => 0

abbrev bufTy : (tb : Table) → Fin (tcTables nBuf tb) → BufTy
  | .hbm, ⟨0, _⟩ => ⟨S16, .f32⟩
  | .hbm, ⟨1, _⟩ => ⟨S12288x1024, .f32⟩
  | .hbm, ⟨2, _⟩ => ⟨S12288x256, .f32⟩
  | .hbm, ⟨3, _⟩ => ⟨S12288x256, .f32⟩
  | .hbm, ⟨4, _⟩ => ⟨S4096x1024, .f32⟩
  | .hbm, ⟨5, _⟩ => ⟨S16x256x4x4x64, .f32⟩
  | .hbm, ⟨6, _⟩ => ⟨S4096x256, .f32⟩
  | .hbm, ⟨7, _⟩ => ⟨S16x256x4x64, .f32⟩
  | .hbm, ⟨8, _⟩ => ⟨S4096x256, .f32⟩
  | .hbm, ⟨9, _⟩ => ⟨S16x256x4x64, .f32⟩
  | .hbm, ⟨10, _⟩ => ⟨S16x4x256x256x4, .f32⟩
  | .hbm, ⟨11, _⟩ => ⟨S16x4x4x256x256, .f32⟩
  | .hbm, ⟨12, _⟩ => ⟨S_, .f32⟩
  | .hbm, ⟨13, _⟩ => ⟨S16x4x4x256x256, .f32⟩
  | .hbm, ⟨14, _⟩ => ⟨S16x4x4x256x256, .f32⟩
  | .hbm, ⟨15, _⟩ => ⟨S1x4x4x1x1, .f32⟩
  | .hbm, ⟨16, _⟩ => ⟨S16x4x4x256x1, .f32⟩
  | .hbm, ⟨17, _⟩ => ⟨S16x4x4x256x257, .f32⟩
  | .hbm, ⟨18, _⟩ => ⟨S_, .f32⟩
  | .hbm, ⟨19, _⟩ => ⟨S16x4x4x256, .f32⟩
  | .hbm, ⟨20, _⟩ => ⟨S_, .f32⟩
  | .hbm, ⟨21, _⟩ => ⟨S16x4x4x256, .f32⟩
  | .hbm, ⟨22, _⟩ => ⟨S16x4x4x256, .f32⟩
  | .hbm, ⟨23, _⟩ => ⟨S16x4x4x256x1, .f32⟩
  | .hbm, ⟨24, _⟩ => ⟨S16x4x4x256x257, .f32⟩
  | .hbm, ⟨25, _⟩ => ⟨S16x4x4x256x257, .f32⟩
  | .hbm, ⟨26, _⟩ => ⟨S16x4x4x256x257, .f32⟩
  | .hbm, ⟨27, _⟩ => ⟨S_, .f32⟩
  | .hbm, ⟨28, _⟩ => ⟨S16x4x4x256, .f32⟩
  | .hbm, ⟨29, _⟩ => ⟨S16x4x4x256x1, .f32⟩
  | .hbm, ⟨30, _⟩ => ⟨S16x4x4x256x257, .f32⟩
  | .hbm, ⟨31, _⟩ => ⟨S16x4x4x256x257, .f32⟩
  | .hbm, ⟨32, _⟩ => ⟨S16x4x4x256x256, .f32⟩
  | .hbm, ⟨33, _⟩ => ⟨S16x4x64x4x256, .f32⟩
  | .hbm, ⟨34, _⟩ => ⟨S16x256x4x4x64, .f32⟩
  | .hbm, ⟨35, _⟩ => ⟨S4096x1024, .f32⟩
  | .hbm, ⟨36, _⟩ => ⟨S4096x1024, .bf16⟩
  | _, _ => ⟨S16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Ffn.lean ====
abbrev S16x256x1024 : Shape := ⟨3, ![16, 256, 1024]⟩
abbrev S8x1024x1024 : Shape := ⟨3, ![8, 1024, 1024]⟩
abbrev S1x9x1024 : Shape := ⟨3, ![1, 9, 1024]⟩
abbrev S8x9x1024 : Shape := ⟨3, ![8, 9, 1024]⟩
abbrev S4x6x1024 : Shape := ⟨3, ![4, 6, 1024]⟩
abbrev S4x2x1024x5632 : Shape := ⟨4, ![4, 2, 1024, 5632]⟩
abbrev S4x2x2816x1024 : Shape := ⟨4, ![4, 2, 2816, 1024]⟩
abbrev S2x1024x1024 : Shape := ⟨3, ![2, 1024, 1024]⟩
abbrev S8192x1024 : Shape := ⟨2, ![8192, 1024]⟩
abbrev S4096x1024 : Shape := ⟨2, ![4096, 1024]⟩
abbrev S12288x1024 : Shape := ⟨2, ![12288, 1024]⟩
abbrev S_ : Shape := ⟨0, ![]⟩
abbrev S7x9x1024 : Shape := ⟨3, ![7, 9, 1024]⟩
abbrev S16x9x1024 : Shape := ⟨3, ![16, 9, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S512x1024 : Shape := ⟨2, ![512, 1024]⟩
abbrev S1x1024x1024 : Shape := ⟨3, ![1, 1024, 1024]⟩
abbrev S1x6x1024 : Shape := ⟨3, ![1, 6, 1024]⟩
abbrev S9x1024 : Shape := ⟨2, ![9, 1024]⟩
abbrev S6x1024 : Shape := ⟨2, ![6, 1024]⟩
abbrev S1024x1024 : Shape := ⟨2, ![1024, 1024]⟩
abbrev S1x1024 : Shape := ⟨2, ![1, 1024]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S768x1024 : Shape := ⟨2, ![768, 1024]⟩

abbrev nBuf : Space → Nat
  | .hbm => 28
  | .vmem => 16
  | .smem => 0
  | _ => 0

abbrev bufTy : (tb : Table) → Fin (tcTables nBuf tb) → BufTy
  | .hbm, ⟨0, _⟩ => ⟨S16x256x1024, .f32⟩
  | .hbm, ⟨1, _⟩ => ⟨S8x1024x1024, .f32⟩
  | .hbm, ⟨2, _⟩ => ⟨S16x256x1024, .f32⟩
  | .hbm, ⟨3, _⟩ => ⟨S8x1024x1024, .f32⟩
  | .hbm, ⟨4, _⟩ => ⟨S1x9x1024, .f32⟩
  | .hbm, ⟨5, _⟩ => ⟨S8x9x1024, .f32⟩
  | .hbm, ⟨6, _⟩ => ⟨S4x6x1024, .f32⟩
  | .hbm, ⟨7, _⟩ => ⟨S4x2x1024x5632, .f32⟩
  | .hbm, ⟨8, _⟩ => ⟨S4x2x2816x1024, .f32⟩
  | .hbm, ⟨9, _⟩ => ⟨S2x1024x1024, .f32⟩
  | .hbm, ⟨10, _⟩ => ⟨S8192x1024, .f32⟩
  | .hbm, ⟨11, _⟩ => ⟨S4096x1024, .f32⟩
  | .hbm, ⟨12, _⟩ => ⟨S12288x1024, .f32⟩
  | .hbm, ⟨13, _⟩ => ⟨S_, .f32⟩
  | .hbm, ⟨14, _⟩ => ⟨S7x9x1024, .f32⟩
  | .hbm, ⟨15, _⟩ => ⟨S16x9x1024, .f32⟩
  | .hbm, ⟨16, _⟩ => ⟨S8192x1024, .f32⟩
  | .hbm, ⟨17, _⟩ => ⟨S8192x1024, .bf16⟩
  | .hbm, ⟨18, _⟩ => ⟨S4096x1024, .f32⟩
  | .hbm, ⟨19, _⟩ => ⟨S4096x1024, .bf16⟩
  | .hbm, ⟨20, _⟩ => ⟨S1x1x1024x5632, .f32⟩
  | .hbm, ⟨21, _⟩ => ⟨S1024x5632, .f32⟩
  | .hbm, ⟨22, _⟩ => ⟨S1024x5632, .bf16⟩
  | .hbm, ⟨23, _⟩ => ⟨S1x1x2816x1024, .f32⟩
  | .hbm, ⟨24, _⟩ => ⟨S2816x1024, .f32⟩
  | .hbm, ⟨25, _⟩ => ⟨S2816x1024, .bf16⟩
  | .hbm, ⟨26, _⟩ => ⟨S8192x1024, .f32⟩
  | .hbm, ⟨27, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024x1024, .f32⟩
  | .local _ .vmem, ⟨7, _⟩ => ⟨S1x9x1024, .f32⟩
  | .local _ .vmem, ⟨8, _⟩ => ⟨S1x9x1024, .f32⟩
  | .local _ .vmem, ⟨9, _⟩ => ⟨S1x6x1024, .f32⟩
  | .local _ .vmem, ⟨10, _⟩ => ⟨S1024x5632, .bf16⟩
  | .local _ .vmem, ⟨11, _⟩ => ⟨S2816x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c16_i32_47 : BitVec 32 := 16#32
  let v115 : BitVec 1 := Scalar.cmpi .slt arg0 c16_i32_47
  let v116 : BitVec 32 := Scalar.extui v115
  let c0_i32 : BitVec 32 := 0#32
  let v117 : BitVec 1 := Scalar.cmpi .ne v116 c0_i32
  v117

def k0_cond2 (i : grid0.Coords) : BitVec 1 :=
  let arg0 : BitVec 32 := BitVec.ofNat 32 (i 0).val
  let c16_i32_48 : BitVec 32 := 16#32
  let v118 : BitVec 1 := Scalar.cmpi .sge arg0 c16_i32_48
  let v119 : BitVec 32 := Scalar.extui v118
  let c0_i32_49 : BitVec 32 := 0#32
  let v120 : BitVec 1 := Scalar.cmpi .ne v119 c0_i32_49
  v120

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.minsi v16 c8_i32
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x9x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x6x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnRefIdeal.lean ====
abbrev S16x256x1024 : Shape := ⟨3, ![16, 256, 1024]⟩
abbrev S8x1024x1024 : Shape := ⟨3, ![8, 1024, 1024]⟩
abbrev S1x9x1024 : Shape := ⟨3, ![1, 9, 1024]⟩
abbrev S8x9x1024 : Shape := ⟨3, ![8, 9, 1024]⟩
abbrev S4x6x1024 : Shape := ⟨3, ![4, 6, 1024]⟩
abbrev S4x2x1024x5632 : Shape := ⟨4, ![4, 2, 1024, 5632]⟩
abbrev S4x2x2816x1024 : Shape := ⟨4, ![4, 2, 2816, 1024]⟩
abbrev S2x1024x1024 : Shape := ⟨3, ![2, 1024, 1024]⟩
abbrev S1x6x1024 : Shape := ⟨3, ![1, 6, 1024]⟩
abbrev S6x1024 : Shape := ⟨2, ![6, 1024]⟩
abbrev S8x1x1024 : Shape := ⟨3, ![8, 1, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8x1024 : Shape := ⟨2, ![8, 1024]⟩
abbrev S8x1024x1 : Shape := ⟨3, ![8, 1024, 1]⟩
abbrev S1x1x1024 : Shape := ⟨3, ![1, 1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S8x1024x5632 : Shape := ⟨3, ![8, 1024, 5632]⟩
abbrev S8x1024x2816 : Shape := ⟨3, ![8, 1024, 2816]⟩
abbrev S8192x1024 : Shape := ⟨2, ![8192, 1024]⟩
abbrev S16x256 : Shape := ⟨2, ![16, 256]⟩
abbrev S16x256x1 : Shape := ⟨3, ![16, 256, 1]⟩
abbrev S16x256x5632 : Shape := ⟨3, ![16, 256, 5632]⟩
abbrev S16x256x2816 : Shape := ⟨3, ![16, 256, 2816]⟩
abbrev S4096x1024 : Shape := ⟨2, ![4096, 1024]⟩

abbrev nBuf : Space → Nat
  | .hbm => 214
  | .vmem => 0
  | .smem => 0
  | _ => 0

abbrev hbmTy0_0 (i : Nat) : BufTy := match i % 128 with
  | 0 => ⟨S16x256x1024, .f32⟩
  | 1 => ⟨S8x1024x1024, .f32⟩
  | 2 => ⟨S16x256x1024, .f32⟩
  | 3 => ⟨S8x1024x1024, .f32⟩
  | 4 => ⟨S1x9x1024, .f32⟩
  | 5 => ⟨S8x9x1024, .f32⟩
  | 6 => ⟨S4x6x1024, .f32⟩
  | 7 => ⟨S4x2x1024x5632, .f32⟩
  | 8 => ⟨S4x2x2816x1024, .f32⟩
  | 9 => ⟨S2x1024x1024, .f32⟩
  | 10 => ⟨S1x6x1024, .f32⟩
  | 11 => ⟨S6x1024, .f32⟩
  | 12 => ⟨S8x1x1024, .f32⟩
  | 13 => ⟨S8x1x1024, .f32⟩
  | 14 => ⟨S8x1x1024, .f32⟩
  | 15 => ⟨S8x1x1024, .f32⟩
  | 16 => ⟨S8x1x1024, .f32⟩
  | 17 => ⟨S8x1x1024, .f32⟩
  | 18 => ⟨S8x1x1024, .f32⟩
  | 19 => ⟨S8x1x1024, .f32⟩
  | 20 => ⟨S8x1x1024, .f32⟩
  | 21 => ⟨S1x1024x1024, .f32⟩
  | 22 => ⟨S1024x1024, .f32⟩
  | 23 => ⟨S8x1024x1024, .f32⟩
  | 24 => ⟨S1x1024, .f32⟩
  | 25 => ⟨S1024, .f32⟩
  | 26 => ⟨S8x1024x1024, .f32⟩
  | 27 => ⟨S_, .f32⟩
  | 28 => ⟨S8x1024, .f32⟩
  | 29 => ⟨S8x1024x1, .f32⟩
  | 30 => ⟨S_, .f32⟩
  | 31 => ⟨S8x1024x1, .f32⟩
  | 32 => ⟨S8x1024x1, .f32⟩
  | 33 => ⟨S_, .f32⟩
  | 34 => ⟨S8x1024x1, .f32⟩
  | 35 => ⟨S8x1024x1, .f32⟩
  | 36 => ⟨S8x1024x1, .f32⟩
  | 37 => ⟨S8x1024x1024, .f32⟩
  | 38 => ⟨S8x1024x1024, .f32⟩
  | 39 => ⟨S1x1x1024, .f32⟩
  | 40 => ⟨S8x1024x1024, .f32⟩
  | 41 => ⟨S8x1024x1024, .f32⟩
  | 42 => ⟨S8x1024x1024, .f32⟩
  | 43 => ⟨S8x1024x1024, .f32⟩
  | 44 => ⟨S8x1024x1024, .f32⟩
  | 45 => ⟨S1x1024, .f32⟩
  | 46 => ⟨S1024, .f32⟩
  | 47 => ⟨S1x1024, .f32⟩
  | 48 => ⟨S1024, .f32⟩
  | 49 => ⟨S1x1x1024x5632, .f32⟩
  | 50 => ⟨S1024x5632, .f32⟩
  | 51 => ⟨S1x1x2816x1024, .f32⟩
  | 52 => ⟨S2816x1024, .f32⟩
  | 53 => ⟨S8x1024x1024, .f32⟩
  | 54 => ⟨S_, .f32⟩
  | 55 => ⟨S8x1024, .f32⟩
  | 56 => ⟨S8x1024x1, .f32⟩
  | 57 => ⟨S_, .f32⟩
  | 58 => ⟨S8x1024x1, .f32⟩
  | 59 => ⟨S8x1024x1, .f32⟩
  | 60 => ⟨S_, .f32⟩
  | 61 => ⟨S8x1024x1, .f32⟩
  | 62 => ⟨S8x1024x1, .f32⟩
  | 63 => ⟨S8x1024x1, .f32⟩
  | 64 => ⟨S8x1024x1024, .f32⟩
  | 65 => ⟨S8x1024x1024, .f32⟩
  | 66 => ⟨S1x1x1024, .f32⟩
  | 67 => ⟨S8x1024x1024, .f32⟩
  | 68 => ⟨S8x1024x1024, .f32⟩
  | 69 => ⟨S_, .f32⟩
  | 70 => ⟨S8x1x1024, .f32⟩
  | 71 => ⟨S8x1x1024, .f32⟩
  | 72 => ⟨S8x1024x1024, .f32⟩
  | 73 => ⟨S8x1024x1024, .f32⟩
  | 74 => ⟨S8x1024x1024, .f32⟩
  | 75 => ⟨S8x1024x1024, .f32⟩
  | 76 => ⟨S8x1024x5632, .f32⟩
  | 77 => ⟨S8x1024x2816, .f32⟩
  | 78 => ⟨S8x1024x2816, .f32⟩
  | 79 => ⟨S8x1024x2816, .f32⟩
  | 80 => ⟨S8x1024x2816, .f32⟩
  | 81 => ⟨S_, .f32⟩
  | 82 => ⟨S8x1024x2816, .f32⟩
  | 83 => ⟨S8x1024x2816, .f32⟩
  | 84 => ⟨S_, .f32⟩
  | 85 => ⟨S8x1024x2816, .f32⟩
  | 86 => ⟨S8x1024x2816, .f32⟩
  | 87 => ⟨S8x1024x2816, .f32⟩
  | 88 => ⟨S8x1024x2816, .f32⟩
  | 89 => ⟨S8x1024x1024, .f32⟩
  | 90 => ⟨S_, .f32⟩
  | 91 => ⟨S8x1x1024, .f32⟩
  | 92 => ⟨S8x1x1024, .f32⟩
  | 93 => ⟨S8x1024x1024, .f32⟩
  | 94 => ⟨S_, .f32⟩
  | 95 => ⟨S8x1024, .f32⟩
  | 96 => ⟨S8x1024x1, .f32⟩
  | 97 => ⟨S_, .f32⟩
  | 98 => ⟨S8x1024x1, .f32⟩
  | 99 => ⟨S8x1024x1, .f32⟩
  | 100 => ⟨S_, .f32⟩
  | 101 => ⟨S8x1024x1, .f32⟩
  | 102 => ⟨S8x1024x1, .f32⟩
  | 103 => ⟨S8x1024x1, .f32⟩
  | 104 => ⟨S8x1024x1024, .f32⟩
  | 105 => ⟨S8x1024x1024, .f32⟩
  | 106 => ⟨S1x1x1024, .f32⟩
  | 107 => ⟨S8x1024x1024, .f32⟩
  | 108 => ⟨S8x1024x1024, .f32⟩
  | 109 => ⟨S8x1024x1024, .f32⟩
  | 110 => ⟨S8x1024x1024, .f32⟩
  | 111 => ⟨S8x1024x1024, .f32⟩
  | 112 => ⟨S8192x1024, .f32⟩
  | 113 => ⟨S1x1x1024, .f32⟩
  | 114 => ⟨S1x1x1024, .f32⟩
  | 115 => ⟨S1x1x1024, .f32⟩
  | 116 => ⟨S1x1x1024, .f32⟩
  | 117 => ⟨S1x1x1024, .f32⟩
  | 118 => ⟨S1x1x1024, .f32⟩
  | 119 => ⟨S1x1x1024, .f32⟩
  | 120 => ⟨S1x1x1024, .f32⟩
  | 121 => ⟨S1x1x1024, .f32⟩
  | 122 => ⟨S1x1024x1024, .f32⟩
  | 123 => ⟨S1024x1024, .f32⟩
  | 124 => ⟨S16x256x1024, .f32⟩
  | 125 => ⟨S1x1024, .f32⟩
  | 126 => ⟨S1024, .f32⟩
  | 127 => ⟨S16x256x1024, .f32⟩
  | _ => ⟨S16x256x1024, .f32⟩

abbrev hbmTy0_1 (i : Nat) : BufTy := match i % 128 with
  | 0 => ⟨S_, .f32⟩
  | 1 => ⟨S16x256, .f32⟩
  | 2 => ⟨S16x256x1, .f32⟩
  | 3 => ⟨S_, .f32⟩
  | 4 => ⟨S16x256x1, .f32⟩
  | 5 => ⟨S16x256x1, .f32⟩
  | 6 => ⟨S_, .f32⟩
  | 7 => ⟨S16x256x1, .f32⟩
  | 8 => ⟨S16x256x1, .f32⟩
  | 9 => ⟨S16x256x1, .f32⟩
  | 10 => ⟨S16x256x1024, .f32⟩
  | 11 => ⟨S16x256x1024, .f32⟩
  | 12 => ⟨S1x1x1024, .f32⟩
  | 13 => ⟨S16x256x1024, .f32⟩
  | 14 => ⟨S16x256x1024, .f32⟩
  | 15 => ⟨S16x256x1024, .f32⟩
  | 16 => ⟨S16x256x1024, .f32⟩
  | 17 => ⟨S16x256x1024, .f32⟩
  | 18 => ⟨S1x1024, .f32⟩
  | 19 => ⟨S1024, .f32⟩
  | 20 => ⟨S1x1024, .f32⟩
  | 21 => ⟨S1024, .f32⟩
  | 22 => ⟨S1x1x1024x5632, .f32⟩
  | 23 => ⟨S1024x5632, .f32⟩
  | 24 => ⟨S1x1x2816x1024, .f32⟩
  | 25 => ⟨S2816x1024, .f32⟩
  | 26 => ⟨S16x256x1024, .f32⟩
  | 27 => ⟨S_, .f32⟩
  | 28 => ⟨S16x256, .f32⟩
  | 29 => ⟨S16x256x1, .f32⟩
  | 30 => ⟨S_, .f32⟩
  | 31 => ⟨S16x256x1, .f32⟩
  | 32 => ⟨S16x256x1, .f32⟩
  | 33 => ⟨S_, .f32⟩
  | 34 => ⟨S16x256x1, .f32⟩
  | 35 => ⟨S16x256x1, .f32⟩
  | 36 => ⟨S16x256x1, .f32⟩
  | 37 => ⟨S16x256x1024, .f32⟩
  | 38 => ⟨S16x256x1024, .f32⟩
  | 39 => ⟨S1x1x1024, .f32⟩
  | 40 => ⟨S16x256x1024, .f32⟩
  | 41 => ⟨S16x256x1024, .f32⟩
  | 42 => ⟨S_, .f32⟩
  | 43 => ⟨S1x1x1024, .f32⟩
  | 44 => ⟨S1x1x1024, .f32⟩
  | 45 => ⟨S16x256x1024, .f32⟩
  | 46 => ⟨S16x256x1024, .f32⟩
  | 47 => ⟨S16x256x1024, .f32⟩
  | 48 => ⟨S16x256x1024, .f32⟩
  | 49 => ⟨S16x256x5632, .f32⟩
  | 50 => ⟨S16x256x2816, .f32⟩
  | 51 => ⟨S16x256x2816, .f32⟩
  | 52 => ⟨S16x256x2816, .f32⟩
  | 53 => ⟨S16x256x2816, .f32⟩
  | 54 => ⟨S_, .f32⟩
  | 55 => ⟨S16x256x2816, .f32⟩
  | 56 => ⟨S16x256x2816, .f32⟩
  | 57 => ⟨S_, .f32⟩
  | 58 => ⟨S16x256x2816, .f32⟩
  | 59 => ⟨S16x256x2816, .f32⟩
  | 60 => ⟨S16x256x2816, .f32⟩
  | 61 => ⟨S16x256x2816, .f32⟩
  | 62 => ⟨S16x256x1024, .f32⟩
  | 63 => ⟨S_, .f32⟩
  | 64 => ⟨S1x1x1024, .f32⟩
  | 65 => ⟨S1x1x1024, .f32⟩
  | 66 => ⟨S16x256x1024, .f32⟩
  | 67 => ⟨S_, .f32⟩
  | 68 => ⟨S16x256, .f32⟩
  | 69 => ⟨S16x256x1, .f32⟩
  | 70 => ⟨S_, .f32⟩
  | 71 => ⟨S16x256x1, .f32⟩
  | 72 => ⟨S16x256x1, .f32⟩
  | 73 => ⟨S_, .f32⟩
  | 74 => ⟨S16x256x1, .f32⟩
  | 75 => ⟨S16x256x1, .f32⟩
  | 76 => ⟨S16x256x1, .f32⟩
  | 77 => ⟨S16x256x1024, .f32⟩
  | 78 => ⟨S16x256x1024, .f32⟩
  | 79 => ⟨S1x1x1024, .f32⟩
  | 80 => ⟨S16x256x1024, .f32⟩
  | 81 => ⟨S16x256x1024, .f32⟩
  | 82 => ⟨S16x256x1024, .f32⟩
  | 83 => ⟨S16x256x1024, .f32⟩
  | 84 => ⟨S16x256x1024, .f32⟩
  | 85 => ⟨S4096x1024, .f32⟩
  | _ => ⟨S16x256x1024, .f32⟩

abbrev hbmTy (i : Nat) : BufTy := match i / 128 with
  | 0 => hbmTy0_0 i
  | 1 => hbmTy0_1 i
  | _ => ⟨S16x256x1024, .f32⟩

abbrev bufTy : (tb : Table) → Fin (tcTables nBuf tb) → BufTy
  | .hbm, ⟨i, _⟩ => hbmTy i
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_2 : Ref sig .tc := ⟨.hbm, 54, rfl⟩
abbrev main_v41 : Ref sig .tc := ⟨.hbm, 55, rfl⟩
abbrev main_v42 : Ref sig .tc := ⟨.hbm, 56, rfl⟩
abbrev main_cst_3 : Ref sig .tc := ⟨.hbm, 57, rfl⟩
abbrev main_v43 : Ref sig .tc := ⟨.hbm, 58, rfl⟩
abbrev main_v44 : Ref sig .tc := ⟨.hbm, 59, rfl⟩
abbrev main_cst_4 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_5 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_call0_v0 : Ref sig .tc := ⟨.hbm, 79, rfl⟩
abbrev main_call0_v1 : Ref sig .tc := ⟨.hbm, 80, rfl⟩
abbrev main_call0_cst : Ref sig .tc := ⟨.hbm, 81, rfl⟩
abbrev main_call0_v2 : Ref sig .tc := ⟨.hbm, 82, rfl⟩
abbrev main_call0_v3 : Ref sig .tc := ⟨.hbm, 83, rfl⟩
abbrev main_call0_cst_0 : Ref sig .tc := ⟨.hbm, 84, rfl⟩
abbrev main_call0_v4 : Ref sig .tc := ⟨.hbm, 85, rfl⟩
abbrev main_call0_v5 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_6 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_7 : Ref sig .tc := ⟨.hbm, 94, rfl⟩
abbrev main_v68 : Ref sig .tc := ⟨.hbm, 95, rfl⟩
abbrev main_v69 : Ref sig .tc := ⟨.hbm, 96, rfl⟩
abbrev main_cst_8 : Ref sig .tc := ⟨.hbm, 97, rfl⟩
abbrev main_v70 : Ref sig .tc := ⟨.hbm, 98, rfl⟩
abbrev main_v71 : Ref sig .tc := ⟨.hbm, 99, rfl⟩
abbrev main_cst_9 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_10 : Ref sig .tc := ⟨.hbm, 128, rfl⟩
abbrev main_v99 : Ref sig .tc := ⟨.hbm, 129, rfl⟩
abbrev main_v100 : Ref sig .tc := ⟨.hbm, 130, rfl⟩
abbrev main_cst_11 : Ref sig .tc := ⟨.hbm, 131, rfl⟩
abbrev main_v101 : Ref sig .tc := ⟨.hbm, 132, rfl⟩
abbrev main_v102 : Ref sig .tc := ⟨.hbm, 133, rfl⟩
abbrev main_cst_12 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_cst_13 : Ref sig .tc := ⟨.hbm, 155, rfl⟩
abbrev main_v123 : Ref sig .tc := ⟨.hbm, 156, rfl⟩
abbrev main_v124 : Ref sig .tc := ⟨.hbm, 157, rfl⟩
abbrev main_cst_14 : Ref sig .tc := ⟨.hbm, 158, rfl⟩
abbrev main_v125 : Ref sig .tc := ⟨.hbm, 159, rfl⟩
abbrev main_v126 : Ref sig .tc := ⟨.hbm, 160, rfl⟩
abbrev main_cst_15 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_cst_16 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_call1_v0 : Ref sig .tc := ⟨.hbm, 180, rfl⟩
abbrev main_call1_v1 : Ref sig .tc := ⟨.hbm, 181, rfl⟩
abbrev main_call1_cst : Ref sig .tc := ⟨.hbm, 182, rfl⟩
abbrev main_call1_v2 : Ref sig .tc := ⟨.hbm, 183, rfl⟩
abbrev main_call1_v3 : Ref sig .tc := ⟨.hbm, 184, rfl⟩
abbrev main_call1_cst_0 : Ref sig .tc := ⟨.hbm, 185, rfl⟩
abbrev main_call1_v4 : Ref sig .tc := ⟨.hbm, 186, rfl⟩
abbrev main_call1_v5 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_cst_17 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_cst_18 : Ref sig .tc := ⟨.hbm, 195, rfl⟩
abbrev main_v150 : Ref sig .tc := ⟨.hbm, 196, rfl⟩
abbrev main_v151 : Ref sig .tc := ⟨.hbm, 197, rfl⟩
abbrev main_cst_19 : Ref sig .tc := ⟨.hbm, 198, rfl⟩
abbrev main_v152 : Ref sig .tc := ⟨.hbm, 199, rfl⟩
abbrev main_v153 : Ref sig .tc := ⟨.hbm, 200, rfl⟩
abbrev main_cst_20 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩

abbrev nD : Nat := 1
abbrev τ : Topo := Topo.v7x

variable {F : FTy → Type} [FloatOps F]
-- ==== Proj.lean ====
abbrev S16x256x1024 : Shape := ⟨3, ![16, 256, 1024]⟩
abbrev S8x1024x1024 : Shape := ⟨3, ![8, 1024, 1024]⟩
abbrev S1x9x1024 : Shape := ⟨3, ![1, 9, 1024]⟩
abbrev S8x9x1024 : Shape := ⟨3, ![8, 9, 1024]⟩
abbrev S4x6x1024 : Shape := ⟨3, ![4, 6, 1024]⟩
abbrev S1x1024x5120 : Shape := ⟨3, ![1, 1024, 5120]⟩
abbrev S_ : Shape := ⟨0, ![]⟩
abbrev S7x9x1024 : Shape := ⟨3, ![7, 9, 1024]⟩
abbrev S16x9x1024 : Shape := ⟨3, ![16, 9, 1024]⟩
abbrev S8192x1024 : Shape := ⟨2, ![8192, 1024]⟩
abbrev S4096x1024 : Shape := ⟨2, ![4096, 1024]⟩
abbrev S12288x1024 : Shape := ⟨2, ![12288, 1024]⟩
abbrev S12288x5120 : Shape := ⟨2, ![12288, 5120]⟩
abbrev S512x1024 : Shape := ⟨2, ![512, 1024]⟩
abbrev S1x6x1024 : Shape := ⟨3, ![1, 6, 1024]⟩
abbrev S512x5120 : Shape := ⟨2, ![512, 5120]⟩
abbrev S9x1024 : Shape := ⟨2, ![9, 1024]⟩
abbrev S512 : Shape := ⟨1, ![512]⟩
abbrev S512x1 : Shape := ⟨2, ![512, 1]⟩
abbrev S1x1x1024 : Shape := ⟨3, ![1, 1, 1024]⟩
abbrev S1x1024 : Shape := ⟨2, ![1, 1024]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 13
  | .vmem => 8
  | .smem => 0
  | _ => 0

abbrev bufTy : (tb : Table) → Fin (tcTables nBuf tb) → BufTy
  | .hbm, ⟨0, _⟩ => ⟨S16x256x1024, .f32⟩
  | .hbm, ⟨1, _⟩ => ⟨S8x1024x1024, .f32⟩
  | .hbm, ⟨2, _⟩ => ⟨S1x9x1024, .f32⟩
  | .hbm, ⟨3, _⟩ => ⟨S8x9x1024, .f32⟩
  | .hbm, ⟨4, _⟩ => ⟨S4x6x1024, .f32⟩
  | .hbm, ⟨5, _⟩ => ⟨S1x1024x5120, .f32⟩
  | .hbm, ⟨6, _⟩ => ⟨S_, .f32⟩
  | .hbm, ⟨7, _⟩ => ⟨S7x9x1024, .f32⟩
  | .hbm, ⟨8, _⟩ => ⟨S16x9x1024, .f32⟩
  | .hbm, ⟨9, _⟩ => ⟨S8192x1024, .f32⟩
  | .hbm, ⟨10, _⟩ => ⟨S4096x1024, .f32⟩
  | .hbm, ⟨11, _⟩ => ⟨S12288x1024, .f32⟩
  | .hbm, ⟨12, _⟩ => ⟨S12288x5120, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x6x1024, .f32⟩
  | .local _ .vmem, ⟨5, _⟩ => ⟨S1x1024x5120, .f32⟩
  | .local _ .vmem, ⟨6, _⟩ => ⟨S512x5120, .f32⟩
  | .local _ .vmem, ⟨7, _⟩ => ⟨S512x5120, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.minsi v16 c8_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x5120 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjRefIdeal.lean ====
abbrev S16x256x1024 : Shape := ⟨3, ![16, 256, 1024]⟩
abbrev S8x1024x1024 : Shape := ⟨3, ![8, 1024, 1024]⟩
abbrev S1x9x1024 : Shape := ⟨3, ![1, 9, 1024]⟩
abbrev S8x9x1024 : Shape := ⟨3, ![8, 9, 1024]⟩
abbrev S4x6x1024 : Shape := ⟨3, ![4, 6, 1024]⟩
abbrev S1x1024x5120 : Shape := ⟨3, ![1, 1024, 5120]⟩
abbrev S1x6x1024 : Shape := ⟨3, ![1, 6, 1024]⟩
abbrev S6x1024 : Shape := ⟨2, ![6, 1024]⟩
abbrev S8x1x1024 : Shape := ⟨3, ![8, 1, 1024]⟩
abbrev S1x1024 : Shape := ⟨2, ![1, 1024]⟩
abbrev S1024 : Shape := ⟨1, ![1024]⟩
abbrev S_ : Shape := ⟨0, ![]⟩
abbrev S8x1024 : Shape := ⟨2, ![8, 1024]⟩
abbrev S8x1024x1 : Shape := ⟨3, ![8, 1024, 1]⟩
abbrev S1x1x1024 : Shape := ⟨3, ![1, 1, 1024]⟩
abbrev S1024x5120 : Shape := ⟨2, ![1024, 5120]⟩
abbrev S8x1024x5120 : Shape := ⟨3, ![8, 1024, 5120]⟩
abbrev S8192x5120 : Shape := ⟨2, ![8192, 5120]⟩
abbrev S16x256 : Shape := ⟨2, ![16, 256]⟩
abbrev S16x256x1 : Shape := ⟨3, ![16, 256, 1]⟩
abbrev S16x256x5120 : Shape := ⟨3, ![16, 256, 5120]⟩
abbrev S4096x5120 : Shape := ⟨2, ![4096, 5120]⟩
abbrev S12288x5120 : Shape := ⟨2, ![12288, 5120]⟩

abbrev nBuf : Space → Nat
  | .hbm => 83
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S8x1024x1024, .f32⟩
  | .hbm, ⟨2, _⟩ => ⟨S1x9x1024, .f32⟩
  | .hbm, ⟨3, _⟩ => ⟨S8x9x1024, .f32⟩
  | .hbm, ⟨4, _⟩ => ⟨S4x6x1024, .f32⟩
  | .hbm, ⟨5, _⟩ => ⟨S1x1024x5120, .f32⟩
  | .hbm, ⟨6, _⟩ => ⟨S1x6x1024, .f32⟩
  | .hbm, ⟨7, _⟩ => ⟨S6x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S1x1024, .f32⟩
  | .hbm, ⟨18, _⟩ => ⟨S1024, .f32⟩
  | .hbm, ⟨19, _⟩ => ⟨S8x1024x1024, .f32⟩
  | .hbm, ⟨20, _⟩ => ⟨S_, .f32⟩
  | .hbm, ⟨21, _⟩ => ⟨S8x1024, .f32⟩
  | .hbm, ⟨22, _⟩ => ⟨S8x1024x1, .f32⟩
  | .hbm, ⟨23, _⟩ => ⟨S_, .f32⟩
  | .hbm, ⟨24, _⟩ => ⟨S8x1024x1, .f32⟩
  | .hbm, ⟨25, _⟩ => ⟨S8x1024x1, .f32⟩
  | .hbm, ⟨26, _⟩ => ⟨S_, .f32⟩
  | .hbm, ⟨27, _⟩ => ⟨S8x1024x1, .f32⟩
  | .hbm, ⟨28, _⟩ => ⟨S8x1024x1, .f32⟩
  | .hbm, ⟨29, _⟩ => ⟨S8x1024x1, .f32⟩
  | .hbm, ⟨30, _⟩ => ⟨S8x1024x1024, .f32⟩
  | .hbm, ⟨31, _⟩ => ⟨S8x1024x1024, .f32⟩
  | .hbm, ⟨32, _⟩ => ⟨S1x1x1024, .f32⟩
  | .hbm, ⟨33, _⟩ => ⟨S8x1024x1024, .f32⟩
  | .hbm, ⟨34, _⟩ => ⟨S8x1024x1024, .f32⟩
  | .hbm, ⟨35, _⟩ => ⟨S_, .f32⟩
  | .hbm, ⟨36, _⟩ => ⟨S8x1x1024, .f32⟩
  | .hbm, ⟨37, _⟩ => ⟨S8x1x1024, .f32⟩
  | .hbm, ⟨38, _⟩ => ⟨S8x1024x1024, .f32⟩
  | .hbm, ⟨39, _⟩ => ⟨S8x1024x1024, .f32⟩
  | .hbm, ⟨40, _⟩ => ⟨S8x1024x1024, .f32⟩
  | .hbm, ⟨41, _⟩ => ⟨S8x1024x1024, .f32⟩
  | .hbm, ⟨42, _⟩ => ⟨S1024x5120, .f32⟩
  | .hbm, ⟨43, _⟩ => ⟨S8x1024x5120, .f32⟩
  | .hbm, ⟨44, _⟩ => ⟨S8192x5120, .f32⟩
  | .hbm, ⟨45, _⟩ => ⟨S1x1x1024, .f32⟩
  | .hbm, ⟨46, _⟩ => ⟨S1x1x1024, .f32⟩
  | .hbm, ⟨47, _⟩ => ⟨S1x1x1024, .f32⟩
  | .hbm, ⟨48, _⟩ => ⟨S1x1x1024, .f32⟩
  | .hbm, ⟨49, _⟩ => ⟨S1x1x1024, .f32⟩
  | .hbm, ⟨50, _⟩ => ⟨S1x1x1024, .f32⟩
  | .hbm, ⟨51, _⟩ => ⟨S1x1x1024, .f32⟩
  | .hbm, ⟨52, _⟩ => ⟨S1x1x1024, .f32⟩
  | .hbm, ⟨53, _⟩ => ⟨S1x1x1024, .f32⟩
  | .hbm, ⟨54, _⟩ => ⟨S1x1024, .f32⟩
  | .hbm, ⟨55, _⟩ => ⟨S1024, .f32⟩
  | .hbm, ⟨56, _⟩ => ⟨S16x256x1024, .f32⟩
  | .hbm, ⟨57, _⟩ => ⟨S_, .f32⟩
  | .hbm, ⟨58, _⟩ => ⟨S16x256, .f32⟩
  | .hbm, ⟨59, _⟩ => ⟨S16x256x1, .f32⟩
  | .hbm, ⟨60, _⟩ => ⟨S_, .f32⟩
  | .hbm, ⟨61, _⟩ => ⟨S16x256x1, .f32⟩
  | .hbm, ⟨62, _⟩ => ⟨S16x256x1, .f32⟩
  | .hbm, ⟨63, _⟩ => ⟨S_, .f32⟩
  | .hbm, ⟨64, _⟩ => ⟨S16x256x1, .f32⟩
  | .hbm, ⟨65, _⟩ => ⟨S16x256x1, .f32⟩
  | .hbm, ⟨66, _⟩ => ⟨S16x256x1, .f32⟩
  | .hbm, ⟨67, _⟩ => ⟨S16x256x1024, .f32⟩
  | .hbm, ⟨68, _⟩ => ⟨S16x256x1024, .f32⟩
  | .hbm, ⟨69, _⟩ => ⟨S1x1x1024, .f32⟩
  | .hbm, ⟨70, _⟩ => ⟨S16x256x1024, .f32⟩
  | .hbm, ⟨71, _⟩ => ⟨S16x256x1024, .f32⟩
  | .hbm, ⟨72, _⟩ => ⟨S_, .f32⟩
  | .hbm, ⟨73, _⟩ => ⟨S1x1x1024, .f32⟩
  | .hbm, ⟨74, _⟩ => ⟨S1x1x1024, .f32⟩
  | .hbm, ⟨75, _⟩ => ⟨S16x256x1024, .f32⟩
  | .hbm, ⟨76, _⟩ => ⟨S16x256x1024, .f32⟩
  | .hbm, ⟨77, _⟩ => ⟨S16x256x1024, .f32⟩
  | .hbm, ⟨78, _⟩ => ⟨S16x256x1024, .f32⟩
  | .hbm, ⟨79, _⟩ => ⟨S1024x5120, .f32⟩
  | .hbm, ⟨80, _⟩ => ⟨S16x256x5120, .f32⟩
  | .hbm, ⟨81, _⟩ => ⟨S4096x5120, .f32⟩
  | .hbm, ⟨82, _⟩ => ⟨S12288x5120, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_3 : Ref sig .tc := ⟨.hbm, 57, rfl⟩
abbrev main_v47 : Ref sig .tc := ⟨.hbm, 58, rfl⟩
abbrev main_v48 : Ref sig .tc := ⟨.hbm, 59, rfl⟩
abbrev main_cst_4 : Ref sig .tc := ⟨.hbm, 60, rfl⟩
abbrev main_v49 : Ref sig .tc := ⟨.hbm, 61, rfl⟩
abbrev main_v50 : Ref sig .tc := ⟨.hbm, 62, rfl⟩
abbrev main_cst_5 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_6 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩

abbrev nD : Nat := 1
abbrev τ : Topo := Topo.v7x

variable {F : FTy → Type} [FloatOps F]
-- ==== Conv.lean ====
abbrev S16x256x1024 : Shape := ⟨3, ![16, 256, 1024]⟩
abbrev S8x1024x1024 : Shape := ⟨3, ![8, 1024, 1024]⟩
abbrev S1x9x1024 : Shape := ⟨3, ![1, 9, 1024]⟩
abbrev S8x9x1024 : Shape := ⟨3, ![8, 9, 1024]⟩
abbrev S4x6x1024 : Shape := ⟨3, ![4, 6, 1024]⟩
abbrev S1x1024x3072 : Shape := ⟨3, ![1, 1024, 3072]⟩
abbrev S1x3x1024 : Shape := ⟨3, ![1, 3, 1024]⟩
abbrev S1x1024 : Shape := ⟨2, ![1, 1024]⟩
abbrev S1x1024x1024 : Shape := ⟨3, ![1, 1024, 1024]⟩
abbrev S8192x1024 : Shape := ⟨2, ![8192, 1024]⟩
abbrev S4096x1024 : Shape := ⟨2, ![4096, 1024]⟩
abbrev S12288x1024 : Shape := ⟨2, ![12288, 1024]⟩
abbrev S_ : Shape := ⟨0, ![]⟩
abbrev S7x9x1024 : Shape := ⟨3, ![7, 9, 1024]⟩
abbrev S16x9x1024 : Shape := ⟨3, ![16, 9, 1024]⟩
abbrev S1x1x1024 : Shape := ⟨3, ![1, 1, 1024]⟩
abbrev S1024x1024 : Shape := ⟨2, ![1024, 1024]⟩
abbrev S1x6x1024 : Shape := ⟨3, ![1, 6, 1024]⟩
abbrev S9x1024 : Shape := ⟨2, ![9, 1024]⟩
abbrev S1024 : Shape := ⟨1, ![1024]⟩
abbrev S1024x1 : Shape := ⟨2, ![1024, 1]⟩
abbrev S1024x256 : Shape := ⟨2, ![1024, 256]⟩
abbrev S3x1024 : Shape := ⟨2, ![3, 1024]⟩
abbrev S1x1024x256 : Shape := ⟨3, ![1, 1024, 256]⟩
abbrev S1x256 : Shape := ⟨2, ![1, 256]⟩

abbrev nBuf : Space → Nat
  | .hbm => 17
  | .vmem => 12
  | .smem => 0
  | _ => 0

abbrev bufTy : (tb : Table) → Fin (tcTables nBuf tb) → BufTy
  | .hbm, ⟨0, _⟩ => ⟨S16x256x1024, .f32⟩
  | .hbm, ⟨1, _⟩ => ⟨S8x1024x1024, .f32⟩
  | .hbm, ⟨2, _⟩ => ⟨S1x9x1024, .f32⟩
  | .hbm, ⟨3, _⟩ => ⟨S8x9x1024, .f32⟩
  | .hbm, ⟨4, _⟩ => ⟨S4x6x1024, .f32⟩
  | .hbm, ⟨5, _⟩ => ⟨S1x1024x3072, .f32⟩
  | .hbm, ⟨6, _⟩ => ⟨S1x3x1024, .f32⟩
  | .hbm, ⟨7, _⟩ => ⟨S1x1024, .f32⟩
  | .hbm, ⟨8, _⟩ => ⟨S1x1024x1024, .f32⟩
  | .hbm, ⟨9, _⟩ => ⟨S8192x1024, .f32⟩
  | .hbm, ⟨10, _⟩ => ⟨S4096x1024, .f32⟩
  | .hbm, ⟨11, _⟩ => ⟨S12288x1024, .f32⟩
  | .hbm, ⟨12, _⟩ => ⟨S_, .f32⟩
  | .hbm, ⟨13, _⟩ => ⟨S7x9x1024, .f32⟩
  | .hbm, ⟨14, _⟩ => ⟨S16x9x1024, .f32⟩
  | .hbm, ⟨15, _⟩ => ⟨S1x1x1024, .f32⟩
  | .hbm, ⟨16, _⟩ => ⟨S12288x1024, .f32⟩
  | .local _ .vmem, ⟨0, _⟩ => ⟨S1024x1024, .f32⟩
  | .local _ .vmem, ⟨1, _⟩ => ⟨S1024x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x6x1024, .f32⟩
  | .local _ .vmem, ⟨5, _⟩ => ⟨S1x1024x3072, .f32⟩
  | .local _ .vmem, ⟨6, _⟩ => ⟨S1x3x1024, .f32⟩
  | .local _ .vmem, ⟨7, _⟩ => ⟨S1x1x1024, .f32⟩
  | .local _ .vmem, ⟨8, _⟩ => ⟨S1x1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c8_i32 : BitVec 32 := 8#32
  let v17 : BitVec 32 := Scalar.minsi v16 c8_i32
  let c0_i32_5 : BitVec 32 := 0#32
  let c0_i32_6 : BitVec 32 := 0#32
  let c0_i32_7 : BitVec 32 := 0#32
  ![v17.toNat, c0_i32_5.toNat, c0_i32_6.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ConvRefIdeal.lean ====
abbrev S16x256x1024 : Shape := ⟨3, ![16, 256, 1024]⟩
abbrev S8x1024x1024 : Shape := ⟨3, ![8, 1024, 1024]⟩
abbrev S1x9x1024 : Shape := ⟨3, ![1, 9, 1024]⟩
abbrev S8x9x1024 : Shape := ⟨3, ![8, 9, 1024]⟩
abbrev S4x6x1024 : Shape := ⟨3, ![4, 6, 1024]⟩
abbrev S1x1024x3072 : Shape := ⟨3, ![1, 1024, 3072]⟩
abbrev S1x3x1024 : Shape := ⟨3, ![1, 3, 1024]⟩
abbrev S1x1024 : Shape := ⟨2, ![1, 1024]⟩
abbrev S1x1024x1024 : Shape := ⟨3, ![1, 1024, 1024]⟩
abbrev S1x6x1024 : Shape := ⟨3, ![1, 6, 1024]⟩
abbrev S6x1024 : Shape := ⟨2, ![6, 1024]⟩
abbrev S8x1x1024 : Shape := ⟨3, ![8, 1, 1024]⟩
abbrev S1024 : Shape := ⟨1, ![1024]⟩
abbrev S_ : Shape := ⟨0, ![]⟩
abbrev S8x1024 : Shape := ⟨2, ![8, 1024]⟩
abbrev S8x1024x1 : Shape := ⟨3, ![8, 1024, 1]⟩
abbrev S1x1x1024 : Shape := ⟨3, ![1, 1, 1024]⟩
abbrev S1024x3072 : Shape := ⟨2, ![1024, 3072]⟩
abbrev S3x1024 : Shape := ⟨2, ![3, 1024]⟩
abbrev S1024x1024 : Shape := ⟨2, ![1024, 1024]⟩
abbrev S8x1024x3072 : Shape := ⟨3, ![8, 1024, 3072]⟩
abbrev S8x1026x1024 : Shape := ⟨3, ![8, 1026, 1024]⟩
abbrev S8192x1024 : Shape := ⟨2, ![8192, 1024]⟩
abbrev S16x256 : Shape := ⟨2, ![16, 256]⟩
abbrev S16x256x1 : Shape := ⟨3, ![16, 256, 1]⟩
abbrev S16x256x3072 : Shape := ⟨3, ![16, 256, 3072]⟩
abbrev S16x258x1024 : Shape := ⟨3, ![16, 258, 1024]⟩
abbrev S4096x1024 : Shape := ⟨2, ![4096, 1024]⟩
abbrev S12288x1024 : Shape := ⟨2, ![12288, 1024]⟩

abbrev nBuf : Space → Nat
  | .hbm => 204
  | .vmem => 0
  | .smem => 0
  | _ => 0

abbrev hbmTy0_0 (i : Nat) : BufTy := match i % 128 with
  | 0 => ⟨S16x256x1024, .f32⟩
  | 1 => ⟨S8x1024x1024, .f32⟩
  | 2 => ⟨S1x9x1024, .f32⟩
  | 3 => ⟨S8x9x1024, .f32⟩
  | 4 => ⟨S4x6x1024, .f32⟩
  | 5 => ⟨S1x1024x3072, .f32⟩
  | 6 => ⟨S1x3x1024, .f32⟩
  | 7 => ⟨S1x1024, .f32⟩
  | 8 => ⟨S1x1024x1024, .f32⟩
  | 9 => ⟨S1x6x1024, .f32⟩
  | 10 => ⟨S6x1024, .f32⟩
  | 11 => ⟨S8x1x1024, .f32⟩
  | 12 => ⟨S8x1x1024, .f32⟩
  | 13 => ⟨S8x1x1024, .f32⟩
  | 14 => ⟨S8x1x1024, .f32⟩
  | 15 => ⟨S8x1x1024, .f32⟩
  | 16 => ⟨S8x1x1024, .f32⟩
  | 17 => ⟨S8x1x1024, .f32⟩
  | 18 => ⟨S8x1x1024, .f32⟩
  | 19 => ⟨S8x1x1024, .f32⟩
  | 20 => ⟨S1x1024, .f32⟩
  | 21 => ⟨S1024, .f32⟩
  | 22 => ⟨S8x1024x1024, .f32⟩
  | 23 => ⟨S_, .f32⟩
  | 24 => ⟨S8x1024, .f32⟩
  | 25 => ⟨S8x1024x1, .f32⟩
  | 26 => ⟨S_, .f32⟩
  | 27 => ⟨S8x1024x1, .f32⟩
  | 28 => ⟨S8x1024x1, .f32⟩
  | 29 => ⟨S_, .f32⟩
  | 30 => ⟨S8x1024x1, .f32⟩
  | 31 => ⟨S8x1024x1, .f32⟩
  | 32 => ⟨S8x1024x1, .f32⟩
  | 33 => ⟨S8x1024x1024, .f32⟩
  | 34 => ⟨S8x1024x1024, .f32⟩
  | 35 => ⟨S1x1x1024, .f32⟩
  | 36 => ⟨S8x1024x1024, .f32⟩
  | 37 => ⟨S8x1024x1024, .f32⟩
  | 38 => ⟨S_, .f32⟩
  | 39 => ⟨S8x1x1024, .f32⟩
  | 40 => ⟨S8x1x1024, .f32⟩
  | 41 => ⟨S8x1024x1024, .f32⟩
  | 42 => ⟨S8x1024x1024, .f32⟩
  | 43 => ⟨S8x1024x1024, .f32⟩
  | 44 => ⟨S8x1024x1024, .f32⟩
  | 45 => ⟨S1024x3072, .f32⟩
  | 46 => ⟨S3x1024, .f32⟩
  | 47 => ⟨S1024, .f32⟩
  | 48 => ⟨S1024x1024, .f32⟩
  | 49 => ⟨S8x1024x3072, .f32⟩
  | 50 => ⟨S8x1024x1024, .f32⟩
  | 51 => ⟨S8x1024x1024, .f32⟩
  | 52 => ⟨S8x1024x1024, .f32⟩
  | 53 => ⟨S8x1024x1024, .f32⟩
  | 54 => ⟨S_, .i32⟩
  | 55 => ⟨S_, .f32⟩
  | 56 => ⟨S8x1026x1024, .f32⟩
  | 57 => ⟨S8x1024x1024, .f32⟩
  | 58 => ⟨S1x1024, .f32⟩
  | 59 => ⟨S1024, .f32⟩
  | 60 => ⟨S1x1x1024, .f32⟩
  | 61 => ⟨S8x1024x1024, .f32⟩
  | 62 => ⟨S8x1024x1024, .f32⟩
  | 63 => ⟨S_, .f32⟩
  | 64 => ⟨S8x1024x1024, .f32⟩
  | 65 => ⟨S8x1024x1024, .f32⟩
  | 66 => ⟨S8x1024x1024, .f32⟩
  | 67 => ⟨S1x1024, .f32⟩
  | 68 => ⟨S1024, .f32⟩
  | 69 => ⟨S1x1x1024, .f32⟩
  | 70 => ⟨S8x1024x1024, .f32⟩
  | 71 => ⟨S8x1024x1024, .f32⟩
  | 72 => ⟨S8x1024x1024, .f32⟩
  | 73 => ⟨S8x1024x1024, .f32⟩
  | 74 => ⟨S1x1024, .f32⟩
  | 75 => ⟨S1024, .f32⟩
  | 76 => ⟨S1x1x1024, .f32⟩
  | 77 => ⟨S8x1024x1024, .f32⟩
  | 78 => ⟨S8x1024x1024, .f32⟩
  | 79 => ⟨S8x1024x1024, .f32⟩
  | 80 => ⟨S1x1x1024, .f32⟩
  | 81 => ⟨S8x1024x1024, .f32⟩
  | 82 => ⟨S8x1024x1024, .f32⟩
  | 83 => ⟨S8x1024x1024, .f32⟩
  | 84 => ⟨S8x1024x1024, .f32⟩
  | 85 => ⟨S1x1024, .f32⟩
  | 86 => ⟨S1024, .f32⟩
  | 87 => ⟨S8x1024x1024, .f32⟩
  | 88 => ⟨S_, .f32⟩
  | 89 => ⟨S8x1024, .f32⟩
  | 90 => ⟨S8x1024x1, .f32⟩
  | 91 => ⟨S_, .f32⟩
  | 92 => ⟨S8x1024x1, .f32⟩
  | 93 => ⟨S8x1024x1, .f32⟩
  | 94 => ⟨S_, .f32⟩
  | 95 => ⟨S8x1024x1, .f32⟩
  | 96 => ⟨S8x1024x1, .f32⟩
  | 97 => ⟨S8x1024x1, .f32⟩
  | 98 => ⟨S8x1024x1024, .f32⟩
  | 99 => ⟨S8x1024x1024, .f32⟩
  | 100 => ⟨S1x1x1024, .f32⟩
  | 101 => ⟨S8x1024x1024, .f32⟩
  | 102 => ⟨S8x1024x1024, .f32⟩
  | 103 => ⟨S8x1024x1024, .f32⟩
  | 104 => ⟨S8x1024x1024, .f32⟩
  | 105 => ⟨S8x1024x1024, .f32⟩
  | 106 => ⟨S8192x1024, .f32⟩
  | 107 => ⟨S1x1x1024, .f32⟩
  | 108 => ⟨S1x1x1024, .f32⟩
  | 109 => ⟨S1x1x1024, .f32⟩
  | 110 => ⟨S1x1x1024, .f32⟩
  | 111 => ⟨S1x1x1024, .f32⟩
  | 112 => ⟨S1x1x1024, .f32⟩
  | 113 => ⟨S1x1x1024, .f32⟩
  | 114 => ⟨S1x1x1024, .f32⟩
  | 115 => ⟨S1x1x1024, .f32⟩
  | 116 => ⟨S1x1024, .f32⟩
  | 117 => ⟨S1024, .f32⟩
  | 118 => ⟨S16x256x1024, .f32⟩
  | 119 => ⟨S_, .f32⟩
  | 120 => ⟨S16x256, .f32⟩
  | 121 => ⟨S16x256x1, .f32⟩
  | 122 => ⟨S_, .f32⟩
  | 123 => ⟨S16x256x1, .f32⟩
  | 124 => ⟨S16x256x1, .f32⟩
  | 125 => ⟨S_, .f32⟩
  | 126 => ⟨S16x256x1, .f32⟩
  | 127 => ⟨S16x256x1, .f32⟩
  | _ => ⟨S16x256x1024, .f32⟩

abbrev hbmTy0_1 (i : Nat) : BufTy := match i % 128 with
  | 0 => ⟨S16x256x1, .f32⟩
  | 1 => ⟨S16x256x1024, .f32⟩
  | 2 => ⟨S16x256x1024, .f32⟩
  | 3 => ⟨S1x1x1024, .f32⟩
  | 4 => ⟨S16x256x1024, .f32⟩
  | 5 => ⟨S16x256x1024, .f32⟩
  | 6 => ⟨S_, .f32⟩
  | 7 => ⟨S1x1x1024, .f32⟩
  | 8 => ⟨S1x1x1024, .f32⟩
  | 9 => ⟨S16x256x1024, .f32⟩
  | 10 => ⟨S16x256x1024, .f32⟩
  | 11 => ⟨S16x256x1024, .f32⟩
  | 12 => ⟨S16x256x1024, .f32⟩
  | 13 => ⟨S1024x3072, .f32⟩
  | 14 => ⟨S3x1024, .f32⟩
  | 15 => ⟨S1024, .f32⟩
  | 16 => ⟨S1024x1024, .f32⟩
  | 17 => ⟨S16x256x3072, .f32⟩
  | 18 => ⟨S16x256x1024, .f32⟩
  | 19 => ⟨S16x256x1024, .f32⟩
  | 20 => ⟨S16x256x1024, .f32⟩
  | 21 => ⟨S16x256x1024, .f32⟩
  | 22 => ⟨S_, .i32⟩
  | 23 => ⟨S_, .f32⟩
  | 24 => ⟨S16x258x1024, .f32⟩
  | 25 => ⟨S16x256x1024, .f32⟩
  | 26 => ⟨S1x1024, .f32⟩
  | 27 => ⟨S1024, .f32⟩
  | 28 => ⟨S1x1x1024, .f32⟩
  | 29 => ⟨S16x256x1024, .f32⟩
  | 30 => ⟨S16x256x1024, .f32⟩
  | 31 => ⟨S_, .f32⟩
  | 32 => ⟨S16x256x1024, .f32⟩
  | 33 => ⟨S16x256x1024, .f32⟩
  | 34 => ⟨S16x256x1024, .f32⟩
  | 35 => ⟨S1x1024, .f32⟩
  | 36 => ⟨S1024, .f32⟩
  | 37 => ⟨S1x1x1024, .f32⟩
  | 38 => ⟨S16x256x1024, .f32⟩
  | 39 => ⟨S16x256x1024, .f32⟩
  | 40 => ⟨S16x256x1024, .f32⟩
  | 41 => ⟨S16x256x1024, .f32⟩
  | 42 => ⟨S1x1024, .f32⟩
  | 43 => ⟨S1024, .f32⟩
  | 44 => ⟨S1x1x1024, .f32⟩
  | 45 => ⟨S16x256x1024, .f32⟩
  | 46 => ⟨S16x256x1024, .f32⟩
  | 47 => ⟨S16x256x1024, .f32⟩
  | 48 => ⟨S1x1x1024, .f32⟩
  | 49 => ⟨S16x256x1024, .f32⟩
  | 50 => ⟨S16x256x1024, .f32⟩
  | 51 => ⟨S16x256x1024, .f32⟩
  | 52 => ⟨S16x256x1024, .f32⟩
  | 53 => ⟨S1x1024, .f32⟩
  | 54 => ⟨S1024, .f32⟩
  | 55 => ⟨S16x256x1024, .f32⟩
  | 56 => ⟨S_, .f32⟩
  | 57 => ⟨S16x256, .f32⟩
  | 58 => ⟨S16x256x1, .f32⟩
  | 59 => ⟨S_, .f32⟩
  | 60 => ⟨S16x256x1, .f32⟩
  | 61 => ⟨S16x256x1, .f32⟩
  | 62 => ⟨S_, .f32⟩
  | 63 => ⟨S16x256x1, .f32⟩
  | 64 => ⟨S16x256x1, .f32⟩
  | 65 => ⟨S16x256x1, .f32⟩
  | 66 => ⟨S16x256x1024, .f32⟩
  | 67 => ⟨S16x256x1024, .f32⟩
  | 68 => ⟨S1x1x1024, .f32⟩
  | 69 => ⟨S16x256x1024, .f32⟩
  | 70 => ⟨S16x256x1024, .f32⟩
  | 71 => ⟨S16x256x1024, .f32⟩
  | 72 => ⟨S16x256x1024, .f32⟩
  | 73 => ⟨S16x256x1024, .f32⟩
  | 74 => ⟨S4096x1024, .f32⟩
  | 75 => ⟨S12288x1024, .f32⟩
  | _ => ⟨S16x256x1024, .f32⟩

abbrev hbmTy (i : Nat) : BufTy := match i / 128 with
  | 0 => hbmTy0_0 i
  | 1 => hbmTy0_1 i
  | _ => ⟨S16x256x1024, .f32⟩

abbrev bufTy : (tb : Table) → Fin (tcTables nBuf tb) → BufTy
  | .hbm, ⟨i, _⟩ => hbmTy i
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c : Ref sig .tc := ⟨.hbm, 54, rfl⟩
abbrev main_call0_v0 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_3 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_4 : Ref sig .tc := ⟨.hbm, 88, rfl⟩
abbrev main_v72 : Ref sig .tc := ⟨.hbm, 89, rfl⟩
abbrev main_v73 : Ref sig .tc := ⟨.hbm, 90, rfl⟩
abbrev main_cst_5 : Ref sig .tc := ⟨.hbm, 91, rfl⟩
abbrev main_v74 : Ref sig .tc := ⟨.hbm, 92, rfl⟩
abbrev main_v75 : Ref sig .tc := ⟨.hbm, 93, rfl⟩
abbrev main_cst_6 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_cst_7 : Ref sig .tc := ⟨.hbm, 119, rfl⟩
abbrev main_v100 : Ref sig .tc := ⟨.hbm, 120, rfl⟩
abbrev main_v101 : Ref sig .tc := ⟨.hbm, 121, rfl⟩
abbrev main_cst_8 : Ref sig .tc := ⟨.hbm, 122, rfl⟩
abbrev main_v102 : Ref sig .tc := ⟨.hbm, 123, rfl⟩
abbrev main_v103 : Ref sig .tc := ⟨.hbm, 124, rfl⟩
abbrev main_cst_9 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_cst_10 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_c_11 : Ref sig .tc := ⟨.hbm, 150, rfl⟩
abbrev main_call1_v0 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_cst_12 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_cst_13 : Ref sig .tc := ⟨.hbm, 184, rfl⟩
abbrev main_v158 : Ref sig .tc := ⟨.hbm, 185, rfl⟩
abbrev main_v159 : Ref sig .tc := ⟨.hbm, 186, rfl⟩
abbrev main_cst_14 : Ref sig .tc := ⟨.hbm, 187, rfl⟩
abbrev main_v160 : Ref sig .tc := ⟨.hbm, 188, rfl⟩
abbrev main_v161 : Ref sig .tc := ⟨.hbm, 189, rfl⟩
abbrev main_cst_15 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩

abbrev nD : Nat := 1
abbrev τ : Topo := Topo.v7x

variable {F : FTy → Type} [FloatOps F]
-- ==== Half30.lean ====
abbrev S16x256x1024 : Shape := ⟨3, ![16, 256, 1024]⟩
abbrev S8x1024x1024 : Shape := ⟨3, ![8, 1024, 1024]⟩
abbrev S1x9x1024 : Shape := ⟨3, ![1, 9, 1024]⟩
abbrev S8x9x1024 : Shape := ⟨3, ![8, 9, 1024]⟩
abbrev S4x6x1024 : Shape := ⟨3, ![4, 6, 1024]⟩
abbrev S4x2x1024x5632 : Shape := ⟨4, ![4, 2, 1024, 5632]⟩
abbrev S4x2x2816x1024 : Shape := ⟨4, ![4, 2, 2816, 1024]⟩
abbrev S8192x1024 : Shape := ⟨2, ![8192, 1024]⟩
abbrev S4096x1024 : Shape := ⟨2, ![4096, 1024]⟩
abbrev S12288x1024 : Shape := ⟨2, ![12288, 1024]⟩
abbrev S_ : Shape := ⟨0, ![]⟩
abbrev S7x9x1024 : Shape := ⟨3, ![7, 9, 1024]⟩
abbrev S16x9x1024 : Shape := ⟨3, ![16, 9, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S512x1024 : Shape := ⟨2, ![512, 1024]⟩
abbrev S1x6x1024 : Shape := ⟨3, ![1, 6, 1024]⟩
abbrev S1x1x64x5632 : Shape := ⟨4, ![1, 1, 64, 5632]⟩
abbrev S1x1x128x1024 : Shape := ⟨4, ![1, 1, 128, 1024]⟩
abbrev S64x5632 : Shape := ⟨2, ![64, 5632]⟩
abbrev S128x1024 : Shape := ⟨2, ![128, 1024]⟩
abbrev S9x1024 : Shape := ⟨2, ![9, 1024]⟩
abbrev S6x1024 : Shape := ⟨2, ![6, 1024]⟩
abbrev S512 : Shape := ⟨1, ![512]⟩
abbrev S512x1 : Shape := ⟨2, ![512, 1]⟩
abbrev S1x1024 : Shape := ⟨2, ![1, 1024]⟩
abbrev S1024x1024 : Shape := ⟨2, ![1024, 1024]⟩
abbrev S1024x768 : Shape := ⟨2, ![1024, 768]⟩
abbrev S512x768 : Shape := ⟨2, ![512, 768]⟩
abbrev S768x1024 : Shape := ⟨2, ![768, 1024]⟩

abbrev nBuf : Space → Nat
  | .hbm => 22
  | .vmem => 17
  | .smem => 0
  | _ => 0

abbrev bufTy : (tb : Table) → Fin (tcTables nBuf tb) → BufTy
  | .hbm, ⟨0, _⟩ => ⟨S16x256x1024, .f32⟩
  | .hbm, ⟨1, _⟩ => ⟨S8x1024x1024, .f32⟩
  | .hbm, ⟨2, _⟩ => ⟨S1x9x1024, .f32⟩
  | .hbm, ⟨3, _⟩ => ⟨S8x9x1024, .f32⟩
  | .hbm, ⟨4, _⟩ => ⟨S4x6x1024, .f32⟩
  | .hbm, ⟨5, _⟩ => ⟨S4x2x1024x5632, .f32⟩
  | .hbm, ⟨6, _⟩ => ⟨S4x2x2816x1024, .f32⟩
  | .hbm, ⟨7, _⟩ => ⟨S8192x1024, .f32⟩
  | .hbm, ⟨8, _⟩ => ⟨S4096x1024, .f32⟩
  | .hbm, ⟨9, _⟩ => ⟨S12288x1024, .f32⟩
  | .hbm, ⟨10, _⟩ => ⟨S_, .f32⟩
  | .hbm, ⟨11, _⟩ => ⟨S7x9x1024, .f32⟩
  | .hbm, ⟨12, _⟩ => ⟨S16x9x1024, .f32⟩
  | .hbm, ⟨13, _⟩ => ⟨S1x1x1024x5632, .f32⟩
  | .hbm, ⟨14, _⟩ => ⟨S1024x5632, .f32⟩
  | .hbm, ⟨15, _⟩ => ⟨S1024x5632, .bf16⟩
  | .hbm, ⟨16, _⟩ => ⟨S1x1x2816x1024, .f32⟩
  | .hbm, ⟨17, _⟩ => ⟨S2816x1024, .f32⟩
  | .hbm, ⟨18, _⟩ => ⟨S2816x1024, .bf16⟩
  | .hbm, ⟨19, _⟩ => ⟨S12288x1024, .f32⟩
  | .hbm, ⟨20, _⟩ => ⟨S1024x5632, .bf16⟩
  | .hbm, ⟨21, _⟩ => ⟨S2816x1024, .bf16⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x6x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x1x64x5632, .f32⟩
  | .local _ .vmem, ⟨8, _⟩ => ⟨S1x1x64x5632, .f32⟩
  | .local _ .vmem, ⟨9, _⟩ => ⟨S1x1x128x1024, .f32⟩
  | .local _ .vmem, ⟨10, _⟩ => ⟨S1x1x128x1024, .f32⟩
  | .local _ .vmem, ⟨11, _⟩ => ⟨S512x1024, .f32⟩
  | .local _ .vmem, ⟨12, _⟩ => ⟨S512x1024, .f32⟩
  | .local _ .vmem, ⟨13, _⟩ => ⟨S64x5632, .bf16⟩
  | .local _ .vmem, ⟨14, _⟩ => ⟨S64x5632, .bf16⟩
  | .local _ .vmem, ⟨15, _⟩ => ⟨S128x1024, .bf16⟩
  | .local _ .vmem, ⟨16, _⟩ => ⟨S128x1024, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.minsi v16 c8_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c15_i32 : BitVec 32 := 15#32
  let v0 : BitVec 32 := Scalar.minsi arg0 c15_i32
  let c3_i32 : BitVec 32 := 3#32
  let c1_i32 : BitVec 32 := 1#32
  let c0_i32 : BitVec 32 := 0#32
  let c0_i32_0 : BitVec 32 := 0#32
  ![c3_i32.toNat, c1_i32.toNat, v0.toNat, c0_i32.toNat]

def cc0_transform_6 (i : grid0.Coords) : Fin 4 → Nat :=
  let arg0 : BitVec 32 := BitVec.ofNat 32 (i 0).val
  let c21_i32 : BitVec 32 := 21#32
  let v0 : BitVec 32 := Scalar.minsi arg0 c21_i32
  let c3_i32 : BitVec 32 := 3#32
  let c1_i32 : BitVec 32 := 1#32
  let c0_i32 : BitVec 32 := 0#32
  let c0_i32_0 : BitVec 32 := 0#32
  ![c3_i32.toNat, c1_i32.toNat, v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c21_i32 : BitVec 32 := 21#32
  let v0 : BitVec 32 := Scalar.minsi arg0 c21_i32
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x64x5632 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Half30RefIdeal.lean ====
abbrev S16x256x1024 : Shape := ⟨3, ![16, 256, 1024]⟩
abbrev S8x1024x1024 : Shape := ⟨3, ![8, 1024, 1024]⟩
abbrev S1x9x1024 : Shape := ⟨3, ![1, 9, 1024]⟩
abbrev S8x9x1024 : Shape := ⟨3, ![8, 9, 1024]⟩
abbrev S4x6x1024 : Shape := ⟨3, ![4, 6, 1024]⟩
abbrev S4x2x1024x5632 : Shape := ⟨4, ![4, 2, 1024, 5632]⟩
abbrev S4x2x2816x1024 : Shape := ⟨4, ![4, 2, 2816, 1024]⟩
abbrev S1x6x1024 : Shape := ⟨3, ![1, 6, 1024]⟩
abbrev S6x1024 : Shape := ⟨2, ![6, 1024]⟩
abbrev S8x1x1024 : Shape := ⟨3, ![8, 1, 1024]⟩
abbrev S1x1024 : Shape := ⟨2, ![1, 1024]⟩
abbrev S1024 : Shape := ⟨1, ![1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S_ : Shape := ⟨0, ![]⟩
abbrev S8x1024 : Shape := ⟨2, ![8, 1024]⟩
abbrev S8x1024x1 : Shape := ⟨3, ![8, 1024, 1]⟩
abbrev S1x1x1024 : Shape := ⟨3, ![1, 1, 1024]⟩
abbrev S8x1024x5632 : Shape := ⟨3, ![8, 1024, 5632]⟩
abbrev S8x1024x2816 : Shape := ⟨3, ![8, 1024, 2816]⟩
abbrev S16x256 : Shape := ⟨2, ![16, 256]⟩
abbrev S16x256x1 : Shape := ⟨3, ![16, 256, 1]⟩
abbrev S16x256x5632 : Shape := ⟨3, ![16, 256, 5632]⟩
abbrev S16x256x2816 : Shape := ⟨3, ![16, 256, 2816]⟩
abbrev S8192x1024 : Shape := ⟨2, ![8192, 1024]⟩
abbrev S4096x1024 : Shape := ⟨2, ![4096, 1024]⟩
abbrev S12288x1024 : Shape := ⟨2, ![12288, 1024]⟩

abbrev nBuf : Space → Nat
  | .hbm => 164
  | .vmem => 0
  | .smem => 0
  | _ => 0

abbrev hbmTy0_0 (i : Nat) : BufTy := match i % 128 with
  | 0 => ⟨S16x256x1024, .f32⟩
  | 1 => ⟨S8x1024x1024, .f32⟩
  | 2 => ⟨S1x9x1024, .f32⟩
  | 3 => ⟨S8x9x1024, .f32⟩
  | 4 => ⟨S4x6x1024, .f32⟩
  | 5 => ⟨S4x2x1024x5632, .f32⟩
  | 6 => ⟨S4x2x2816x1024, .f32⟩
  | 7 => ⟨S1x6x1024, .f32⟩
  | 8 => ⟨S6x1024, .f32⟩
  | 9 => ⟨S8x1x1024, .f32⟩
  | 10 => ⟨S8x1x1024, .f32⟩
  | 11 => ⟨S8x1x1024, .f32⟩
  | 12 => ⟨S8x1x1024, .f32⟩
  | 13 => ⟨S8x1x1024, .f32⟩
  | 14 => ⟨S8x1x1024, .f32⟩
  | 15 => ⟨S8x1x1024, .f32⟩
  | 16 => ⟨S8x1x1024, .f32⟩
  | 17 => ⟨S8x1x1024, .f32⟩
  | 18 => ⟨S1x1024, .f32⟩
  | 19 => ⟨S1024, .f32⟩
  | 20 => ⟨S1x1024, .f32⟩
  | 21 => ⟨S1024, .f32⟩
  | 22 => ⟨S1x1x1024x5632, .f32⟩
  | 23 => ⟨S1024x5632, .f32⟩
  | 24 => ⟨S1x1x2816x1024, .f32⟩
  | 25 => ⟨S2816x1024, .f32⟩
  | 26 => ⟨S8x1024x1024, .f32⟩
  | 27 => ⟨S_, .f32⟩
  | 28 => ⟨S8x1024, .f32⟩
  | 29 => ⟨S8x1024x1, .f32⟩
  | 30 => ⟨S_, .f32⟩
  | 31 => ⟨S8x1024x1, .f32⟩
  | 32 => ⟨S8x1024x1, .f32⟩
  | 33 => ⟨S_, .f32⟩
  | 34 => ⟨S8x1024x1, .f32⟩
  | 35 => ⟨S8x1024x1, .f32⟩
  | 36 => ⟨S8x1024x1, .f32⟩
  | 37 => ⟨S8x1024x1024, .f32⟩
  | 38 => ⟨S8x1024x1024, .f32⟩
  | 39 => ⟨S1x1x1024, .f32⟩
  | 40 => ⟨S8x1024x1024, .f32⟩
  | 41 => ⟨S8x1024x1024, .f32⟩
  | 42 => ⟨S_, .f32⟩
  | 43 => ⟨S8x1x1024, .f32⟩
  | 44 => ⟨S8x1x1024, .f32⟩
  | 45 => ⟨S8x1024x1024, .f32⟩
  | 46 => ⟨S8x1024x1024, .f32⟩
  | 47 => ⟨S8x1024x1024, .f32⟩
  | 48 => ⟨S8x1024x1024, .f32⟩
  | 49 => ⟨S8x1024x5632, .f32⟩
  | 50 => ⟨S8x1024x2816, .f32⟩
  | 51 => ⟨S8x1024x2816, .f32⟩
  | 52 => ⟨S8x1024x2816, .f32⟩
  | 53 => ⟨S8x1024x2816, .f32⟩
  | 54 => ⟨S_, .f32⟩
  | 55 => ⟨S8x1024x2816, .f32⟩
  | 56 => ⟨S8x1024x2816, .f32⟩
  | 57 => ⟨S_, .f32⟩
  | 58 => ⟨S8x1024x2816, .f32⟩
  | 59 => ⟨S8x1024x2816, .f32⟩
  | 60 => ⟨S8x1024x2816, .f32⟩
  | 61 => ⟨S8x1024x2816, .f32⟩
  | 62 => ⟨S8x1024x1024, .f32⟩
  | 63 => ⟨S_, .f32⟩
  | 64 => ⟨S8x1x1024, .f32⟩
  | 65 => ⟨S8x1x1024, .f32⟩
  | 66 => ⟨S8x1024x1024, .f32⟩
  | 67 => ⟨S_, .f32⟩
  | 68 => ⟨S8x1024, .f32⟩
  | 69 => ⟨S8x1024x1, .f32⟩
  | 70 => ⟨S_, .f32⟩
  | 71 => ⟨S8x1024x1, .f32⟩
  | 72 => ⟨S8x1024x1, .f32⟩
  | 73 => ⟨S_, .f32⟩
  | 74 => ⟨S8x1024x1, .f32⟩
  | 75 => ⟨S8x1024x1, .f32⟩
  | 76 => ⟨S8x1024x1, .f32⟩
  | 77 => ⟨S8x1024x1024, .f32⟩
  | 78 => ⟨S8x1024x1024, .f32⟩
  | 79 => ⟨S1x1x1024, .f32⟩
  | 80 => ⟨S8x1024x1024, .f32⟩
  | 81 => ⟨S8x1024x1024, .f32⟩
  | 82 => ⟨S8x1024x1024, .f32⟩
  | 83 => ⟨S8x1024x1024, .f32⟩
  | 84 => ⟨S8x1024x1024, .f32⟩
  | 85 => ⟨S1x1x1024, .f32⟩
  | 86 => ⟨S1x1x1024, .f32⟩
  | 87 => ⟨S1x1x1024, .f32⟩
  | 88 => ⟨S1x1x1024, .f32⟩
  | 89 => ⟨S1x1x1024, .f32⟩
  | 90 => ⟨S1x1x1024, .f32⟩
  | 91 => ⟨S1x1x1024, .f32⟩
  | 92 => ⟨S1x1x1024, .f32⟩
  | 93 => ⟨S1x1x1024, .f32⟩
  | 94 => ⟨S1x1024, .f32⟩
  | 95 => ⟨S1024, .f32⟩
  | 96 => ⟨S1x1024, .f32⟩
  | 97 => ⟨S1024, .f32⟩
  | 98 => ⟨S1x1x1024x5632, .f32⟩
  | 99 => ⟨S1024x5632, .f32⟩
  | 100 => ⟨S1x1x2816x1024, .f32⟩
  | 101 => ⟨S2816x1024, .f32⟩
  | 102 => ⟨S16x256x1024, .f32⟩
  | 103 => ⟨S_, .f32⟩
  | 104 => ⟨S16x256, .f32⟩
  | 105 => ⟨S16x256x1, .f32⟩
  | 106 => ⟨S_, .f32⟩
  | 107 => ⟨S16x256x1, .f32⟩
  | 108 => ⟨S16x256x1, .f32⟩
  | 109 => ⟨S_, .f32⟩
  | 110 => ⟨S16x256x1, .f32⟩
  | 111 => ⟨S16x256x1, .f32⟩
  | 112 => ⟨S16x256x1, .f32⟩
  | 113 => ⟨S16x256x1024, .f32⟩
  | 114 => ⟨S16x256x1024, .f32⟩
  | 115 => ⟨S1x1x1024, .f32⟩
  | 116 => ⟨S16x256x1024, .f32⟩
  | 117 => ⟨S16x256x1024, .f32⟩
  | 118 => ⟨S_, .f32⟩
  | 119 => ⟨S1x1x1024, .f32⟩
  | 120 => ⟨S1x1x1024, .f32⟩
  | 121 => ⟨S16x256x1024, .f32⟩
  | 122 => ⟨S16x256x1024, .f32⟩
  | 123 => ⟨S16x256x1024, .f32⟩
  | 124 => ⟨S16x256x1024, .f32⟩
  | 125 => ⟨S16x256x5632, .f32⟩
  | 126 => ⟨S16x256x2816, .f32⟩
  | 127 => ⟨S16x256x2816, .f32⟩
  | _ => ⟨S16x256x1024, .f32⟩

abbrev hbmTy0_1 (i : Nat) : BufTy := match i % 128 with
  | 0 => ⟨S16x256x2816, .f32⟩
  | 1 => ⟨S16x256x2816, .f32⟩
  | 2 => ⟨S_, .f32⟩
  | 3 => ⟨S16x256x2816, .f32⟩
  | 4 => ⟨S16x256x2816, .f32⟩
  | 5 => ⟨S_, .f32⟩
  | 6 => ⟨S16x256x2816, .f32⟩
  | 7 => ⟨S16x256x2816, .f32⟩
  | 8 => ⟨S16x256x2816, .f32⟩
  | 9 => ⟨S16x256x2816, .f32⟩
  | 10 => ⟨S16x256x1024, .f32⟩
  | 11 => ⟨S_, .f32⟩
  | 12 => ⟨S1x1x1024, .f32⟩
  | 13 => ⟨S1x1x1024, .f32⟩
  | 14 => ⟨S16x256x1024, .f32⟩
  | 15 => ⟨S_, .f32⟩
  | 16 => ⟨S16x256, .f32⟩
  | 17 => ⟨S16x256x1, .f32⟩
  | 18 => ⟨S_, .f32⟩
  | 19 => ⟨S16x256x1, .f32⟩
  | 20 => ⟨S16x256x1, .f32⟩
  | 21 => ⟨S_, .f32⟩
  | 22 => ⟨S16x256x1, .f32⟩
  | 23 => ⟨S16x256x1, .f32⟩
  | 24 => ⟨S16x256x1, .f32⟩
  | 25 => ⟨S16x256x1024, .f32⟩
  | 26 => ⟨S16x256x1024, .f32⟩
  | 27 => ⟨S1x1x1024, .f32⟩
  | 28 => ⟨S16x256x1024, .f32⟩
  | 29 => ⟨S16x256x1024, .f32⟩
  | 30 => ⟨S16x256x1024, .f32⟩
  | 31 => ⟨S16x256x1024, .f32⟩
  | 32 => ⟨S16x256x1024, .f32⟩
  | 33 => ⟨S8192x1024, .f32⟩
  | 34 => ⟨S4096x1024, .f32⟩
  | 35 => ⟨S12288x1024, .f32⟩
  | _ => ⟨S16x256x1024, .f32⟩

abbrev hbmTy (i : Nat) : BufTy := match i / 128 with
  | 0 => hbmTy0_0 i
  | 1 => hbmTy0_1 i
  | _ => ⟨S16x256x1024, .f32⟩

abbrev bufTy : (tb : Table) → Fin (tcTables nBuf tb) → BufTy
  | .hbm, ⟨i, _⟩ => hbmTy i
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_3 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_4 : Ref sig .tc := ⟨.hbm, 67, rfl⟩
abbrev main_v47 : Ref sig .tc := ⟨.hbm, 68, rfl⟩
abbrev main_v48 : Ref sig .tc := ⟨.hbm, 69, rfl⟩
abbrev main_cst_5 : Ref sig .tc := ⟨.hbm, 70, rfl⟩
abbrev main_v49 : Ref sig .tc := ⟨.hbm, 71, rfl⟩
abbrev main_v50 : Ref sig .tc := ⟨.hbm, 72, rfl⟩
abbrev main_cst_6 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_7 : Ref sig .tc := ⟨.hbm, 103, rfl⟩
abbrev main_v80 : Ref sig .tc := ⟨.hbm, 104, rfl⟩
abbrev main_v81 : Ref sig .tc := ⟨.hbm, 105, rfl⟩
abbrev main_cst_8 : Ref sig .tc := ⟨.hbm, 106, rfl⟩
abbrev main_v82 : Ref sig .tc := ⟨.hbm, 107, rfl⟩
abbrev main_v83 : Ref sig .tc := ⟨.hbm, 108, rfl⟩
abbrev main_cst_9 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_10 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_call1_v0 : Ref sig .tc := ⟨.hbm, 128, rfl⟩
abbrev main_call1_v1 : Ref sig .tc := ⟨.hbm, 129, rfl⟩
abbrev main_call1_cst : Ref sig .tc := ⟨.hbm, 130, rfl⟩
abbrev main_call1_v2 : Ref sig .tc := ⟨.hbm, 131, rfl⟩
abbrev main_call1_v3 : Ref sig .tc := ⟨.hbm, 132, rfl⟩
abbrev main_call1_cst_0 : Ref sig .tc := ⟨.hbm, 133, rfl⟩
abbrev main_call1_v4 : Ref sig .tc := ⟨.hbm, 134, rfl⟩
abbrev main_call1_v5 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_11 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_cst_12 : Ref sig .tc := ⟨.hbm, 143, rfl⟩
abbrev main_v107 : Ref sig .tc := ⟨.hbm, 144, rfl⟩
abbrev main_v108 : Ref sig .tc := ⟨.hbm, 145, rfl⟩
abbrev main_cst_13 : Ref sig .tc := ⟨.hbm, 146, rfl⟩
abbrev main_v109 : Ref sig .tc := ⟨.hbm, 147, rfl⟩
abbrev main_v110 : Ref sig .tc := ⟨.hbm, 148, rfl⟩
abbrev main_cst_14 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩

abbrev nD : Nat := 1
abbrev τ : Topo := Topo.v7x

variable {F : FTy → Type} [FloatOps F]
-- ==== Half11.lean ====
abbrev S16x256x1024 : Shape := ⟨3, ![16, 256, 1024]⟩
abbrev S8x1024x1024 : Shape := ⟨3, ![8, 1024, 1024]⟩
abbrev S1x9x1024 : Shape := ⟨3, ![1, 9, 1024]⟩
abbrev S8x9x1024 : Shape := ⟨3, ![8, 9, 1024]⟩
abbrev S4x6x1024 : Shape := ⟨3, ![4, 6, 1024]⟩
abbrev S4x2x1024x5632 : Shape := ⟨4, ![4, 2, 1024, 5632]⟩
abbrev S4x2x2816x1024 : Shape := ⟨4, ![4, 2, 2816, 1024]⟩
abbrev S8192x1024 : Shape := ⟨2, ![8192, 1024]⟩
abbrev S4096x1024 : Shape := ⟨2, ![4096, 1024]⟩
abbrev S12288x1024 : Shape := ⟨2, ![12288, 1024]⟩
abbrev S_ : Shape := ⟨0, ![]⟩
abbrev S7x9x1024 : Shape := ⟨3, ![7, 9, 1024]⟩
abbrev S16x9x1024 : Shape := ⟨3, ![16, 9, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S512x1024 : Shape := ⟨2, ![512, 1024]⟩
abbrev S1x6x1024 : Shape := ⟨3, ![1, 6, 1024]⟩
abbrev S1x1x64x5632 : Shape := ⟨4, ![1, 1, 64, 5632]⟩
abbrev S1x1x128x1024 : Shape := ⟨4, ![1, 1, 128, 1024]⟩
abbrev S64x5632 : Shape := ⟨2, ![64, 5632]⟩
abbrev S128x1024 : Shape := ⟨2, ![128, 1024]⟩
abbrev S9x1024 : Shape := ⟨2, ![9, 1024]⟩
abbrev S6x1024 : Shape := ⟨2, ![6, 1024]⟩
abbrev S512 : Shape := ⟨1, ![512]⟩
abbrev S512x1 : Shape := ⟨2, ![512, 1]⟩
abbrev S1x1024 : Shape := ⟨2, ![1, 1024]⟩
abbrev S1024x1024 : Shape := ⟨2, ![1024, 1024]⟩
abbrev S1024x768 : Shape := ⟨2, ![1024, 768]⟩
abbrev S512x768 : Shape := ⟨2, ![512, 768]⟩
abbrev S768x1024 : Shape := ⟨2, ![768, 1024]⟩

abbrev nBuf : Space → Nat
  | .hbm => 22
  | .vmem => 17
  | .smem => 0
  | _ => 0

abbrev bufTy : (tb : Table) → Fin (tcTables nBuf tb) → BufTy
  | .hbm, ⟨0, _⟩ => ⟨S16x256x1024, .f32⟩
  | .hbm, ⟨1, _⟩ => ⟨S8x1024x1024, .f32⟩
  | .hbm, ⟨2, _⟩ => ⟨S1x9x1024, .f32⟩
  | .hbm, ⟨3, _⟩ => ⟨S8x9x1024, .f32⟩
  | .hbm, ⟨4, _⟩ => ⟨S4x6x1024, .f32⟩
  | .hbm, ⟨5, _⟩ => ⟨S4x2x1024x5632, .f32⟩
  | .hbm, ⟨6, _⟩ => ⟨S4x2x2816x1024, .f32⟩
  | .hbm, ⟨7, _⟩ => ⟨S8192x1024, .f32⟩
  | .hbm, ⟨8, _⟩ => ⟨S4096x1024, .f32⟩
  | .hbm, ⟨9, _⟩ => ⟨S12288x1024, .f32⟩
  | .hbm, ⟨10, _⟩ => ⟨S_, .f32⟩
  | .hbm, ⟨11, _⟩ => ⟨S7x9x1024, .f32⟩
  | .hbm, ⟨12, _⟩ => ⟨S16x9x1024, .f32⟩
  | .hbm, ⟨13, _⟩ => ⟨S1x1x1024x5632, .f32⟩
  | .hbm, ⟨14, _⟩ => ⟨S1024x5632, .f32⟩
  | .hbm, ⟨15, _⟩ => ⟨S1024x5632, .bf16⟩
  | .hbm, ⟨16, _⟩ => ⟨S1x1x2816x1024, .f32⟩
  | .hbm, ⟨17, _⟩ => ⟨S2816x1024, .f32⟩
  | .hbm, ⟨18, _⟩ => ⟨S2816x1024, .bf16⟩
  | .hbm, ⟨19, _⟩ => ⟨S12288x1024, .f32⟩
  | .hbm, ⟨20, _⟩ => ⟨S1024x5632, .bf16⟩
  | .hbm, ⟨21, _⟩ => ⟨S2816x1024, .bf16⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x6x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x1x64x5632, .f32⟩
  | .local _ .vmem, ⟨8, _⟩ => ⟨S1x1x64x5632, .f32⟩
  | .local _ .vmem, ⟨9, _⟩ => ⟨S1x1x128x1024, .f32⟩
  | .local _ .vmem, ⟨10, _⟩ => ⟨S1x1x128x1024, .f32⟩
  | .local _ .vmem, ⟨11, _⟩ => ⟨S512x1024, .f32⟩
  | .local _ .vmem, ⟨12, _⟩ => ⟨S512x1024, .f32⟩
  | .local _ .vmem, ⟨13, _⟩ => ⟨S64x5632, .bf16⟩
  | .local _ .vmem, ⟨14, _⟩ => ⟨S64x5632, .bf16⟩
  | .local _ .vmem, ⟨15, _⟩ => ⟨S128x1024, .bf16⟩
  | .local _ .vmem, ⟨16, _⟩ => ⟨S128x1024, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.minsi v16 c8_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c15_i32 : BitVec 32 := 15#32
  let v0 : BitVec 32 := Scalar.minsi arg0 c15_i32
  let c2_i32 : BitVec 32 := 2#32
  let c0_i32 : BitVec 32 := 0#32
  let c0_i32_0 : BitVec 32 := 0#32
  let c0_i32_1 : BitVec 32 := 0#32
  ![c2_i32.toNat, c0_i32.toNat, v0.toNat, c0_i32_0.toNat]

def cc0_transform_6 (i : grid0.Coords) : Fin 4 → Nat :=
  let arg0 : BitVec 32 := BitVec.ofNat 32 (i 0).val
  let c21_i32 : BitVec 32 := 21#32
  let v0 : BitVec 32 := Scalar.minsi arg0 c21_i32
  let c2_i32 : BitVec 32 := 2#32
  let c0_i32 : BitVec 32 := 0#32
  let c0_i32_0 : BitVec 32 := 0#32
  let c0_i32_1 : BitVec 32 := 0#32
  ![c2_i32.toNat, c0_i32.toNat, v0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c21_i32 : BitVec 32 := 21#32
  let v0 : BitVec 32 := Scalar.minsi arg0 c21_i32
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x64x5632 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Half11RefIdeal.lean ====
abbrev S16x256x1024 : Shape := ⟨3, ![16, 256, 1024]⟩
abbrev S8x1024x1024 : Shape := ⟨3, ![8, 1024, 1024]⟩
abbrev S1x9x1024 : Shape := ⟨3, ![1, 9, 1024]⟩
abbrev S8x9x1024 : Shape := ⟨3, ![8, 9, 1024]⟩
abbrev S4x6x1024 : Shape := ⟨3, ![4, 6, 1024]⟩
abbrev S4x2x1024x5632 : Shape := ⟨4, ![4, 2, 1024, 5632]⟩
abbrev S4x2x2816x1024 : Shape := ⟨4, ![4, 2, 2816, 1024]⟩
abbrev S1x6x1024 : Shape := ⟨3, ![1, 6, 1024]⟩
abbrev S6x1024 : Shape := ⟨2, ![6, 1024]⟩
abbrev S8x1x1024 : Shape := ⟨3, ![8, 1, 1024]⟩
abbrev S1x1024 : Shape := ⟨2, ![1, 1024]⟩
abbrev S1024 : Shape := ⟨1, ![1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S_ : Shape := ⟨0, ![]⟩
abbrev S8x1024 : Shape := ⟨2, ![8, 1024]⟩
abbrev S8x1024x1 : Shape := ⟨3, ![8, 1024, 1]⟩
abbrev S1x1x1024 : Shape := ⟨3, ![1, 1, 1024]⟩
abbrev S8x1024x5632 : Shape := ⟨3, ![8, 1024, 5632]⟩
abbrev S8x1024x2816 : Shape := ⟨3, ![8, 1024, 2816]⟩
abbrev S16x256 : Shape := ⟨2, ![16, 256]⟩
abbrev S16x256x1 : Shape := ⟨3, ![16, 256, 1]⟩
abbrev S16x256x5632 : Shape := ⟨3, ![16, 256, 5632]⟩
abbrev S16x256x2816 : Shape := ⟨3, ![16, 256, 2816]⟩
abbrev S8192x1024 : Shape := ⟨2, ![8192, 1024]⟩
abbrev S4096x1024 : Shape := ⟨2, ![4096, 1024]⟩
abbrev S12288x1024 : Shape := ⟨2, ![12288, 1024]⟩

abbrev nBuf : Space → Nat
  | .hbm => 164
  | .vmem => 0
  | .smem => 0
  | _ => 0

abbrev hbmTy0_0 (i : Nat) : BufTy := match i % 128 with
  | 0 => ⟨S16x256x1024, .f32⟩
  | 1 => ⟨S8x1024x1024, .f32⟩
  | 2 => ⟨S1x9x1024, .f32⟩
  | 3 => ⟨S8x9x1024, .f32⟩
  | 4 => ⟨S4x6x1024, .f32⟩
  | 5 => ⟨S4x2x1024x5632, .f32⟩
  | 6 => ⟨S4x2x2816x1024, .f32⟩
  | 7 => ⟨S1x6x1024, .f32⟩
  | 8 => ⟨S6x1024, .f32⟩
  | 9 => ⟨S8x1x1024, .f32⟩
  | 10 => ⟨S8x1x1024, .f32⟩
  | 11 => ⟨S8x1x1024, .f32⟩
  | 12 => ⟨S8x1x1024, .f32⟩
  | 13 => ⟨S8x1x1024, .f32⟩
  | 14 => ⟨S8x1x1024, .f32⟩
  | 15 => ⟨S8x1x1024, .f32⟩
  | 16 => ⟨S8x1x1024, .f32⟩
  | 17 => ⟨S8x1x1024, .f32⟩
  | 18 => ⟨S1x1024, .f32⟩
  | 19 => ⟨S1024, .f32⟩
  | 20 => ⟨S1x1024, .f32⟩
  | 21 => ⟨S1024, .f32⟩
  | 22 => ⟨S1x1x1024x5632, .f32⟩
  | 23 => ⟨S1024x5632, .f32⟩
  | 24 => ⟨S1x1x2816x1024, .f32⟩
  | 25 => ⟨S2816x1024, .f32⟩
  | 26 => ⟨S8x1024x1024, .f32⟩
  | 27 => ⟨S_, .f32⟩
  | 28 => ⟨S8x1024, .f32⟩
  | 29 => ⟨S8x1024x1, .f32⟩
  | 30 => ⟨S_, .f32⟩
  | 31 => ⟨S8x1024x1, .f32⟩
  | 32 => ⟨S8x1024x1, .f32⟩
  | 33 => ⟨S_, .f32⟩
  | 34 => ⟨S8x1024x1, .f32⟩
  | 35 => ⟨S8x1024x1, .f32⟩
  | 36 => ⟨S8x1024x1, .f32⟩
  | 37 => ⟨S8x1024x1024, .f32⟩
  | 38 => ⟨S8x1024x1024, .f32⟩
  | 39 => ⟨S1x1x1024, .f32⟩
  | 40 => ⟨S8x1024x1024, .f32⟩
  | 41 => ⟨S8x1024x1024, .f32⟩
  | 42 => ⟨S_, .f32⟩
  | 43 => ⟨S8x1x1024, .f32⟩
  | 44 => ⟨S8x1x1024, .f32⟩
  | 45 => ⟨S8x1024x1024, .f32⟩
  | 46 => ⟨S8x1024x1024, .f32⟩
  | 47 => ⟨S8x1024x1024, .f32⟩
  | 48 => ⟨S8x1024x1024, .f32⟩
  | 49 => ⟨S8x1024x5632, .f32⟩
  | 50 => ⟨S8x1024x2816, .f32⟩
  | 51 => ⟨S8x1024x2816, .f32⟩
  | 52 => ⟨S8x1024x2816, .f32⟩
  | 53 => ⟨S8x1024x2816, .f32⟩
  | 54 => ⟨S_, .f32⟩
  | 55 => ⟨S8x1024x2816, .f32⟩
  | 56 => ⟨S8x1024x2816, .f32⟩
  | 57 => ⟨S_, .f32⟩
  | 58 => ⟨S8x1024x2816, .f32⟩
  | 59 => ⟨S8x1024x2816, .f32⟩
  | 60 => ⟨S8x1024x2816, .f32⟩
  | 61 => ⟨S8x1024x2816, .f32⟩
  | 62 => ⟨S8x1024x1024, .f32⟩
  | 63 => ⟨S_, .f32⟩
  | 64 => ⟨S8x1x1024, .f32⟩
  | 65 => ⟨S8x1x1024, .f32⟩
  | 66 => ⟨S8x1024x1024, .f32⟩
  | 67 => ⟨S_, .f32⟩
  | 68 => ⟨S8x1024, .f32⟩
  | 69 => ⟨S8x1024x1, .f32⟩
  | 70 => ⟨S_, .f32⟩
  | 71 => ⟨S8x1024x1, .f32⟩
  | 72 => ⟨S8x1024x1, .f32⟩
  | 73 => ⟨S_, .f32⟩
  | 74 => ⟨S8x1024x1, .f32⟩
  | 75 => ⟨S8x1024x1, .f32⟩
  | 76 => ⟨S8x1024x1, .f32⟩
  | 77 => ⟨S8x1024x1024, .f32⟩
  | 78 => ⟨S8x1024x1024, .f32⟩
  | 79 => ⟨S1x1x1024, .f32⟩
  | 80 => ⟨S8x1024x1024, .f32⟩
  | 81 => ⟨S8x1024x1024, .f32⟩
  | 82 => ⟨S8x1024x1024, .f32⟩
  | 83 => ⟨S8x1024x1024, .f32⟩
  | 84 => ⟨S8x1024x1024, .f32⟩
  | 85 => ⟨S1x1x1024, .f32⟩
  | 86 => ⟨S1x1x1024, .f32⟩
  | 87 => ⟨S1x1x1024, .f32⟩
  | 88 => ⟨S1x1x1024, .f32⟩
  | 89 => ⟨S1x1x1024, .f32⟩
  | 90 => ⟨S1x1x1024, .f32⟩
  | 91 => ⟨S1x1x1024, .f32⟩
  | 92 => ⟨S1x1x1024, .f32⟩
  | 93 => ⟨S1x1x1024, .f32⟩
  | 94 => ⟨S1x1024, .f32⟩
  | 95 => ⟨S1024, .f32⟩
  | 96 => ⟨S1x1024, .f32⟩
  | 97 => ⟨S1024, .f32⟩
  | 98 => ⟨S1x1x1024x5632, .f32⟩
  | 99 => ⟨S1024x5632, .f32⟩
  | 100 => ⟨S1x1x2816x1024, .f32⟩
  | 101 => ⟨S2816x1024, .f32⟩
  | 102 => ⟨S16x256x1024, .f32⟩
  | 103 => ⟨S_, .f32⟩
  | 104 => ⟨S16x256, .f32⟩
  | 105 => ⟨S16x256x1, .f32⟩
  | 106 => ⟨S_, .f32⟩
  | 107 => ⟨S16x256x1, .f32⟩
  | 108 => ⟨S16x256x1, .f32⟩
  | 109 => ⟨S_, .f32⟩
  | 110 => ⟨S16x256x1, .f32⟩
  | 111 => ⟨S16x256x1, .f32⟩
  | 112 => ⟨S16x256x1, .f32⟩
  | 113 => ⟨S16x256x1024, .f32⟩
  | 114 => ⟨S16x256x1024, .f32⟩
  | 115 => ⟨S1x1x1024, .f32⟩
  | 116 => ⟨S16x256x1024, .f32⟩
  | 117 => ⟨S16x256x1024, .f32⟩
  | 118 => ⟨S_, .f32⟩
  | 119 => ⟨S1x1x1024, .f32⟩
  | 120 => ⟨S1x1x1024, .f32⟩
  | 121 => ⟨S16x256x1024, .f32⟩
  | 122 => ⟨S16x256x1024, .f32⟩
  | 123 => ⟨S16x256x1024, .f32⟩
  | 124 => ⟨S16x256x1024, .f32⟩
  | 125 => ⟨S16x256x5632, .f32⟩
  | 126 => ⟨S16x256x2816, .f32⟩
  | 127 => ⟨S16x256x2816, .f32⟩
  | _ => ⟨S16x256x1024, .f32⟩

abbrev hbmTy0_1 (i : Nat) : BufTy := match i % 128 with
  | 0 => ⟨S16x256x2816, .f32⟩
  | 1 => ⟨S16x256x2816, .f32⟩
  | 2 => ⟨S_, .f32⟩
  | 3 => ⟨S16x256x2816, .f32⟩
  | 4 => ⟨S16x256x2816, .f32⟩
  | 5 => ⟨S_, .f32⟩
  | 6 => ⟨S16x256x2816, .f32⟩
  | 7 => ⟨S16x256x2816, .f32⟩
  | 8 => ⟨S16x256x2816, .f32⟩
  | 9 => ⟨S16x256x2816, .f32⟩
  | 10 => ⟨S16x256x1024, .f32⟩
  | 11 => ⟨S_, .f32⟩
  | 12 => ⟨S1x1x1024, .f32⟩
  | 13 => ⟨S1x1x1024, .f32⟩
  | 14 => ⟨S16x256x1024, .f32⟩
  | 15 => ⟨S_, .f32⟩
  | 16 => ⟨S16x256, .f32⟩
  | 17 => ⟨S16x256x1, .f32⟩
  | 18 => ⟨S_, .f32⟩
  | 19 => ⟨S16x256x1, .f32⟩
  | 20 => ⟨S16x256x1, .f32⟩
  | 21 => ⟨S_, .f32⟩
  | 22 => ⟨S16x256x1, .f32⟩
  | 23 => ⟨S16x256x1, .f32⟩
  | 24 => ⟨S16x256x1, .f32⟩
  | 25 => ⟨S16x256x1024, .f32⟩
  | 26 => ⟨S16x256x1024, .f32⟩
  | 27 => ⟨S1x1x1024, .f32⟩
  | 28 => ⟨S16x256x1024, .f32⟩
  | 29 => ⟨S16x256x1024, .f32⟩
  | 30 => ⟨S16x256x1024, .f32⟩
  | 31 => ⟨S16x256x1024, .f32⟩
  | 32 => ⟨S16x256x1024, .f32⟩
  | 33 => ⟨S8192x1024, .f32⟩
  | 34 => ⟨S4096x1024, .f32⟩
  | 35 => ⟨S12288x1024, .f32⟩
  | _ => ⟨S16x256x1024, .f32⟩

abbrev hbmTy (i : Nat) : BufTy := match i / 128 with
  | 0 => hbmTy0_0 i
  | 1 => hbmTy0_1 i
  | _ => ⟨S16x256x1024, .f32⟩

abbrev bufTy : (tb : Table) → Fin (tcTables nBuf tb) → BufTy
  | .hbm, ⟨i, _⟩ => hbmTy i
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_3 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_4 : Ref sig .tc := ⟨.hbm, 67, rfl⟩
abbrev main_v47 : Ref sig .tc := ⟨.hbm, 68, rfl⟩
abbrev main_v48 : Ref sig .tc := ⟨.hbm, 69, rfl⟩
abbrev main_cst_5 : Ref sig .tc := ⟨.hbm, 70, rfl⟩
abbrev main_v49 : Ref sig .tc := ⟨.hbm, 71, rfl⟩
abbrev main_v50 : Ref sig .tc := ⟨.hbm, 72, rfl⟩
abbrev main_cst_6 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_7 : Ref sig .tc := ⟨.hbm, 103, rfl⟩
abbrev main_v80 : Ref sig .tc := ⟨.hbm, 104, rfl⟩
abbrev main_v81 : Ref sig .tc := ⟨.hbm, 105, rfl⟩
abbrev main_cst_8 : Ref sig .tc := ⟨.hbm, 106, rfl⟩
abbrev main_v82 : Ref sig .tc := ⟨.hbm, 107, rfl⟩
abbrev main_v83 : Ref sig .tc := ⟨.hbm, 108, rfl⟩
abbrev main_cst_9 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_10 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_call1_v0 : Ref sig .tc := ⟨.hbm, 128, rfl⟩
abbrev main_call1_v1 : Ref sig .tc := ⟨.hbm, 129, rfl⟩
abbrev main_call1_cst : Ref sig .tc := ⟨.hbm, 130, rfl⟩
abbrev main_call1_v2 : Ref sig .tc := ⟨.hbm, 131, rfl⟩
abbrev main_call1_v3 : Ref sig .tc := ⟨.hbm, 132, rfl⟩
abbrev main_call1_cst_0 : Ref sig .tc := ⟨.hbm, 133, rfl⟩
abbrev main_call1_v4 : Ref sig .tc := ⟨.hbm, 134, rfl⟩
abbrev main_call1_v5 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_11 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_cst_12 : Ref sig .tc := ⟨.hbm, 143, rfl⟩
abbrev main_v107 : Ref sig .tc := ⟨.hbm, 144, rfl⟩
abbrev main_v108 : Ref sig .tc := ⟨.hbm, 145, rfl⟩
abbrev main_cst_13 : Ref sig .tc := ⟨.hbm, 146, rfl⟩
abbrev main_v109 : Ref sig .tc := ⟨.hbm, 147, rfl⟩
abbrev main_v110 : Ref sig .tc := ⟨.hbm, 148, rfl⟩
abbrev main_cst_14 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩

abbrev nD : Nat := 1
abbrev τ : Topo := Topo.v7x

variable {F : FTy → Type} [FloatOps F]
-- ==== Half10.lean ====
abbrev S16x256x1024 : Shape := ⟨3, ![16, 256, 1024]⟩
abbrev S8x1024x1024 : Shape := ⟨3, ![8, 1024, 1024]⟩
abbrev S1x9x1024 : Shape := ⟨3, ![1, 9, 1024]⟩
abbrev S8x9x1024 : Shape := ⟨3, ![8, 9, 1024]⟩
abbrev S4x6x1024 : Shape := ⟨3, ![4, 6, 1024]⟩
abbrev S4x2x1024x5632 : Shape := ⟨4, ![4, 2, 1024, 5632]⟩
abbrev S4x2x2816x1024 : Shape := ⟨4, ![4, 2, 2816, 1024]⟩
abbrev S8x1024 : Shape := ⟨2, ![8, 1024]⟩
abbrev S1024 : Shape := ⟨1, ![1024]⟩
abbrev S4x1024x9216 : Shape := ⟨3, ![4, 1024, 9216]⟩
abbrev S4x9216 : Shape := ⟨2, ![4, 9216]⟩
abbrev S8192x1024 : Shape := ⟨2, ![8192, 1024]⟩
abbrev S4096x1024 : Shape := ⟨2, ![4096, 1024]⟩
abbrev S12288x1024 : Shape := ⟨2, ![12288, 1024]⟩
abbrev S_ : Shape := ⟨0, ![]⟩
abbrev S7x9x1024 : Shape := ⟨3, ![7, 9, 1024]⟩
abbrev S16x9x1024 : Shape := ⟨3, ![16, 9, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S1x1024 : Shape := ⟨2, ![1, 1024]⟩
abbrev S7x1024 : Shape := ⟨2, ![7, 1024]⟩
abbrev S16x1024 : Shape := ⟨2, ![16, 1024]⟩
abbrev S4x1x9216 : Shape := ⟨3, ![4, 1, 9216]⟩
abbrev S16x9216 : Shape := ⟨2, ![16, 9216]⟩
abbrev S512x1024 : Shape := ⟨2, ![512, 1024]⟩
abbrev S1x6x1024 : Shape := ⟨3, ![1, 6, 1024]⟩
abbrev S1x1x64x5632 : Shape := ⟨4, ![1, 1, 64, 5632]⟩
abbrev S1x1x128x1024 : Shape := ⟨4, ![1, 1, 128, 1024]⟩
abbrev S1x1024x384 : Shape := ⟨3, ![1, 1024, 384]⟩
abbrev S1x1x384 : Shape := ⟨3, ![1, 1, 384]⟩
abbrev S64x5632 : Shape := ⟨2, ![64, 5632]⟩
abbrev S128x1024 : Shape := ⟨2, ![128, 1024]⟩
abbrev S16x384 : Shape := ⟨2, ![16, 384]⟩
abbrev S1024x384 : Shape := ⟨2, ![1024, 384]⟩
abbrev S1x384 : Shape := ⟨2, ![1, 384]⟩
abbrev S9x1024 : Shape := ⟨2, ![9, 1024]⟩
abbrev S6x1024 : Shape := ⟨2, ![6, 1024]⟩
abbrev S512 : Shape := ⟨1, ![512]⟩
abbrev S512x1 : Shape := ⟨2, ![512, 1]⟩
abbrev S1024x1024 : Shape := ⟨2, ![1024, 1024]⟩
abbrev S1024x768 : Shape := ⟨2, ![1024, 768]⟩
abbrev S512x768 : Shape := ⟨2, ![512, 768]⟩
abbrev S768x1024 : Shape := ⟨2, ![768, 1024]⟩

abbrev nBuf : Space → Nat
  | .hbm => 32
  | .vmem => 24
  | .smem => 0
  | _ => 0

abbrev bufTy : (tb : Table) → Fin (tcTables nBuf tb) → BufTy
  | .hbm, ⟨0, _⟩ => ⟨S16x256x1024, .f32⟩
  | .hbm, ⟨1, _⟩ => ⟨S8x1024x1024, .f32⟩
  | .hbm, ⟨2, _⟩ => ⟨S1x9x1024, .f32⟩
  | .hbm, ⟨3, _⟩ => ⟨S8x9x1024, .f32⟩
  | .hbm, ⟨4, _⟩ => ⟨S4x6x1024, .f32⟩
  | .hbm, ⟨5, _⟩ => ⟨S4x2x1024x5632, .f32⟩
  | .hbm, ⟨6, _⟩ => ⟨S4x2x2816x1024, .f32⟩
  | .hbm, ⟨7, _⟩ => ⟨S8x1024, .f32⟩
  | .hbm, ⟨8, _⟩ => ⟨S1024, .f32⟩
  | .hbm, ⟨9, _⟩ => ⟨S4x1024x9216, .f32⟩
  | .hbm, ⟨10, _⟩ => ⟨S4x9216, .f32⟩
  | .hbm, ⟨11, _⟩ => ⟨S8192x1024, .f32⟩
  | .hbm, ⟨12, _⟩ => ⟨S4096x1024, .f32⟩
  | .hbm, ⟨13, _⟩ => ⟨S12288x1024, .f32⟩
  | .hbm, ⟨14, _⟩ => ⟨S_, .f32⟩
  | .hbm, ⟨15, _⟩ => ⟨S7x9x1024, .f32⟩
  | .hbm, ⟨16, _⟩ => ⟨S16x9x1024, .f32⟩
  | .hbm, ⟨17, _⟩ => ⟨S1x1x1024x5632, .f32⟩
  | .hbm, ⟨18, _⟩ => ⟨S1024x5632, .f32⟩
  | .hbm, ⟨19, _⟩ => ⟨S1024x5632, .bf16⟩
  | .hbm, ⟨20, _⟩ => ⟨S1x1x2816x1024, .f32⟩
  | .hbm, ⟨21, _⟩ => ⟨S2816x1024, .f32⟩
  | .hbm, ⟨22, _⟩ => ⟨S2816x1024, .bf16⟩
  | .hbm, ⟨23, _⟩ => ⟨S1x1024, .f32⟩
  | .hbm, ⟨24, _⟩ => ⟨S_, .f32⟩
  | .hbm, ⟨25, _⟩ => ⟨S7x1024, .f32⟩
  | .hbm, ⟨26, _⟩ => ⟨S16x1024, .f32⟩
  | .hbm, ⟨27, _⟩ => ⟨S4x1x9216, .f32⟩
  | .hbm, ⟨28, _⟩ => ⟨S12288x1024, .f32⟩
  | .hbm, ⟨29, _⟩ => ⟨S1024x5632, .bf16⟩
  | .hbm, ⟨30, _⟩ => ⟨S2816x1024, .bf16⟩
  | .hbm, ⟨31, _⟩ => ⟨S16x9216, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x6x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x1x64x5632, .f32⟩
  | .local _ .vmem, ⟨8, _⟩ => ⟨S1x1x64x5632, .f32⟩
  | .local _ .vmem, ⟨9, _⟩ => ⟨S1x1x128x1024, .f32⟩
  | .local _ .vmem, ⟨10, _⟩ => ⟨S1x1x128x1024, .f32⟩
  | .local _ .vmem, ⟨11, _⟩ => ⟨S16x1024, .f32⟩
  | .local _ .vmem, ⟨12, _⟩ => ⟨S1x1024x384, .f32⟩
  | .local _ .vmem, ⟨13, _⟩ => ⟨S1x1024x384, .f32⟩
  | .local _ .vmem, ⟨14, _⟩ => ⟨S1x1x384, .f32⟩
  | .local _ .vmem, ⟨15, _⟩ => ⟨S1x1x384, .f32⟩
  | .local _ .vmem, ⟨16, _⟩ => ⟨S512x1024, .f32⟩
  | .local _ .vmem, ⟨17, _⟩ => ⟨S512x1024, .f32⟩
  | .local _ .vmem, ⟨18, _⟩ => ⟨S64x5632, .bf16⟩
  | .local _ .vmem, ⟨19, _⟩ => ⟨S64x5632, .bf16⟩
  | .local _ .vmem, ⟨20, _⟩ => ⟨S128x1024, .bf16⟩
  | .local _ .vmem, ⟨21, _⟩ => ⟨S128x1024, .bf16⟩
  | .local _ .vmem, ⟨22, _⟩ => ⟨S16x384, .f32⟩
  | .local _ .vmem, ⟨23, _⟩ => ⟨S16x384, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_v15_2 : Ref sig .tc := ⟨.hbm, 30, rfl⟩
abbrev main_v15_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.minsi v16 c8_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c15_i32 : BitVec 32 := 15#32
  let v0 : BitVec 32 := Scalar.minsi arg0 c15_i32
  let c1_i32 : BitVec 32 := 1#32
  let c1_i32_0 : BitVec 32 := 1#32
  let c0_i32 : BitVec 32 := 0#32
  let c0_i32_1 : BitVec 32 := 0#32
  ![c1_i32.toNat, c1_i32_0.toNat, v0.toNat, c0_i32.toNat]

def cc0_transform_6 (i : grid0.Coords) : Fin 4 → Nat :=
  let arg0 : BitVec 32 := BitVec.ofNat 32 (i 0).val
  let c21_i32 : BitVec 32 := 21#32
  let v0 : BitVec 32 := Scalar.minsi arg0 c21_i32
  let c1_i32 : BitVec 32 := 1#32
  let c1_i32_0 : BitVec 32 := 1#32
  let c0_i32 : BitVec 32 := 0#32
  let c0_i32_1 : BitVec 32 := 0#32
  ![c1_i32.toNat, c1_i32_0.toNat, v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c21_i32 : BitVec 32 := 21#32
  let v0 : BitVec 32 := Scalar.minsi arg0 c21_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x64x5632 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1024x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x384 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Half10RefIdeal.lean ====
abbrev S16x256x1024 : Shape := ⟨3, ![16, 256, 1024]⟩
abbrev S8x1024x1024 : Shape := ⟨3, ![8, 1024, 1024]⟩
abbrev S1x9x1024 : Shape := ⟨3, ![1, 9, 1024]⟩
abbrev S8x9x1024 : Shape := ⟨3, ![8, 9, 1024]⟩
abbrev S4x6x1024 : Shape := ⟨3, ![4, 6, 1024]⟩
abbrev S4x2x1024x5632 : Shape := ⟨4, ![4, 2, 1024, 5632]⟩
abbrev S4x2x2816x1024 : Shape := ⟨4, ![4, 2, 2816, 1024]⟩
abbrev S8x1024 : Shape := ⟨2, ![8, 1024]⟩
abbrev S1024 : Shape := ⟨1, ![1024]⟩
abbrev S4x1024x9216 : Shape := ⟨3, ![4, 1024, 9216]⟩
abbrev S4x9216 : Shape := ⟨2, ![4, 9216]⟩
abbrev S1x6x1024 : Shape := ⟨3, ![1, 6, 1024]⟩
abbrev S6x1024 : Shape := ⟨2, ![6, 1024]⟩
abbrev S8x1x1024 : Shape := ⟨3, ![8, 1, 1024]⟩
abbrev S1x1024 : Shape := ⟨2, ![1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S_ : Shape := ⟨0, ![]⟩
abbrev S8x1024x1 : Shape := ⟨3, ![8, 1024, 1]⟩
abbrev S1x1x1024 : Shape := ⟨3, ![1, 1, 1024]⟩
abbrev S8x1024x5632 : Shape := ⟨3, ![8, 1024, 5632]⟩
abbrev S8x1024x2816 : Shape := ⟨3, ![8, 1024, 2816]⟩
abbrev S16x256 : Shape := ⟨2, ![16, 256]⟩
abbrev S16x256x1 : Shape := ⟨3, ![16, 256, 1]⟩
abbrev S16x256x5632 : Shape := ⟨3, ![16, 256, 5632]⟩
abbrev S16x256x2816 : Shape := ⟨3, ![16, 256, 2816]⟩
abbrev S8192x1024 : Shape := ⟨2, ![8192, 1024]⟩
abbrev S4096x1024 : Shape := ⟨2, ![4096, 1024]⟩
abbrev S12288x1024 : Shape := ⟨2, ![12288, 1024]⟩

abbrev nBuf : Space → Nat
  | .hbm => 168
  | .vmem => 0
  | .smem => 0
  | _ => 0

abbrev hbmTy0_0 (i : Nat) : BufTy := match i % 128 with
  | 0 => ⟨S16x256x1024, .f32⟩
  | 1 => ⟨S8x1024x1024, .f32⟩
  | 2 => ⟨S1x9x1024, .f32⟩
  | 3 => ⟨S8x9x1024, .f32⟩
  | 4 => ⟨S4x6x1024, .f32⟩
  | 5 => ⟨S4x2x1024x5632, .f32⟩
  | 6 => ⟨S4x2x2816x1024, .f32⟩
  | 7 => ⟨S8x1024, .f32⟩
  | 8 => ⟨S1024, .f32⟩
  | 9 => ⟨S4x1024x9216, .f32⟩
  | 10 => ⟨S4x9216, .f32⟩
  | 11 => ⟨S1x6x1024, .f32⟩
  | 12 => ⟨S6x1024, .f32⟩
  | 13 => ⟨S8x1x1024, .f32⟩
  | 14 => ⟨S8x1x1024, .f32⟩
  | 15 => ⟨S8x1x1024, .f32⟩
  | 16 => ⟨S8x1x1024, .f32⟩
  | 17 => ⟨S8x1x1024, .f32⟩
  | 18 => ⟨S8x1x1024, .f32⟩
  | 19 => ⟨S8x1x1024, .f32⟩
  | 20 => ⟨S8x1x1024, .f32⟩
  | 21 => ⟨S8x1x1024, .f32⟩
  | 22 => ⟨S1x1024, .f32⟩
  | 23 => ⟨S1024, .f32⟩
  | 24 => ⟨S1x1024, .f32⟩
  | 25 => ⟨S1024, .f32⟩
  | 26 => ⟨S1x1x1024x5632, .f32⟩
  | 27 => ⟨S1024x5632, .f32⟩
  | 28 => ⟨S1x1x2816x1024, .f32⟩
  | 29 => ⟨S2816x1024, .f32⟩
  | 30 => ⟨S8x1024x1024, .f32⟩
  | 31 => ⟨S_, .f32⟩
  | 32 => ⟨S8x1024, .f32⟩
  | 33 => ⟨S8x1024x1, .f32⟩
  | 34 => ⟨S_, .f32⟩
  | 35 => ⟨S8x1024x1, .f32⟩
  | 36 => ⟨S8x1024x1, .f32⟩
  | 37 => ⟨S_, .f32⟩
  | 38 => ⟨S8x1024x1, .f32⟩
  | 39 => ⟨S8x1024x1, .f32⟩
  | 40 => ⟨S8x1024x1, .f32⟩
  | 41 => ⟨S8x1024x1024, .f32⟩
  | 42 => ⟨S8x1024x1024, .f32⟩
  | 43 => ⟨S1x1x1024, .f32⟩
  | 44 => ⟨S8x1024x1024, .f32⟩
  | 45 => ⟨S8x1024x1024, .f32⟩
  | 46 => ⟨S_, .f32⟩
  | 47 => ⟨S8x1x1024, .f32⟩
  | 48 => ⟨S8x1x1024, .f32⟩
  | 49 => ⟨S8x1024x1024, .f32⟩
  | 50 => ⟨S8x1024x1024, .f32⟩
  | 51 => ⟨S8x1024x1024, .f32⟩
  | 52 => ⟨S8x1024x1024, .f32⟩
  | 53 => ⟨S8x1024x5632, .f32⟩
  | 54 => ⟨S8x1024x2816, .f32⟩
  | 55 => ⟨S8x1024x2816, .f32⟩
  | 56 => ⟨S8x1024x2816, .f32⟩
  | 57 => ⟨S8x1024x2816, .f32⟩
  | 58 => ⟨S_, .f32⟩
  | 59 => ⟨S8x1024x2816, .f32⟩
  | 60 => ⟨S8x1024x2816, .f32⟩
  | 61 => ⟨S_, .f32⟩
  | 62 => ⟨S8x1024x2816, .f32⟩
  | 63 => ⟨S8x1024x2816, .f32⟩
  | 64 => ⟨S8x1024x2816, .f32⟩
  | 65 => ⟨S8x1024x2816, .f32⟩
  | 66 => ⟨S8x1024x1024, .f32⟩
  | 67 => ⟨S_, .f32⟩
  | 68 => ⟨S8x1x1024, .f32⟩
  | 69 => ⟨S8x1x1024, .f32⟩
  | 70 => ⟨S8x1024x1024, .f32⟩
  | 71 => ⟨S_, .f32⟩
  | 72 => ⟨S8x1024, .f32⟩
  | 73 => ⟨S8x1024x1, .f32⟩
  | 74 => ⟨S_, .f32⟩
  | 75 => ⟨S8x1024x1, .f32⟩
  | 76 => ⟨S8x1024x1, .f32⟩
  | 77 => ⟨S_, .f32⟩
  | 78 => ⟨S8x1024x1, .f32⟩
  | 79 => ⟨S8x1024x1, .f32⟩
  | 80 => ⟨S8x1024x1, .f32⟩
  | 81 => ⟨S8x1024x1024, .f32⟩
  | 82 => ⟨S8x1024x1024, .f32⟩
  | 83 => ⟨S1x1x1024, .f32⟩
  | 84 => ⟨S8x1024x1024, .f32⟩
  | 85 => ⟨S8x1024x1024, .f32⟩
  | 86 => ⟨S8x1024x1024, .f32⟩
  | 87 => ⟨S8x1024x1024, .f32⟩
  | 88 => ⟨S8x1024x1024, .f32⟩
  | 89 => ⟨S1x1x1024, .f32⟩
  | 90 => ⟨S1x1x1024, .f32⟩
  | 91 => ⟨S1x1x1024, .f32⟩
  | 92 => ⟨S1x1x1024, .f32⟩
  | 93 => ⟨S1x1x1024, .f32⟩
  | 94 => ⟨S1x1x1024, .f32⟩
  | 95 => ⟨S1x1x1024, .f32⟩
  | 96 => ⟨S1x1x1024, .f32⟩
  | 97 => ⟨S1x1x1024, .f32⟩
  | 98 => ⟨S1x1024, .f32⟩
  | 99 => ⟨S1024, .f32⟩
  | 100 => ⟨S1x1024, .f32⟩
  | 101 => ⟨S1024, .f32⟩
  | 102 => ⟨S1x1x1024x5632, .f32⟩
  | 103 => ⟨S1024x5632, .f32⟩
  | 104 => ⟨S1x1x2816x1024, .f32⟩
  | 105 => ⟨S2816x1024, .f32⟩
  | 106 => ⟨S16x256x1024, .f32⟩
  | 107 => ⟨S_, .f32⟩
  | 108 => ⟨S16x256, .f32⟩
  | 109 => ⟨S16x256x1, .f32⟩
  | 110 => ⟨S_, .f32⟩
  | 111 => ⟨S16x256x1, .f32⟩
  | 112 => ⟨S16x256x1, .f32⟩
  | 113 => ⟨S_, .f32⟩
  | 114 => ⟨S16x256x1, .f32⟩
  | 115 => ⟨S16x256x1, .f32⟩
  | 116 => ⟨S16x256x1, .f32⟩
  | 117 => ⟨S16x256x1024, .f32⟩
  | 118 => ⟨S16x256x1024, .f32⟩
  | 119 => ⟨S1x1x1024, .f32⟩
  | 120 => ⟨S16x256x1024, .f32⟩
  | 121 => ⟨S16x256x1024, .f32⟩
  | 122 => ⟨S_, .f32⟩
  | 123 => ⟨S1x1x1024, .f32⟩
  | 124 => ⟨S1x1x1024, .f32⟩
  | 125 => ⟨S16x256x1024, .f32⟩
  | 126 => ⟨S16x256x1024, .f32⟩
  | 127 => ⟨S16x256x1024, .f32⟩
  | _ => ⟨S16x256x1024, .f32⟩

abbrev hbmTy0_1 (i : Nat) : BufTy := match i % 128 with
  | 0 => ⟨S16x256x1024, .f32⟩
  | 1 => ⟨S16x256x5632, .f32⟩
  | 2 => ⟨S16x256x2816, .f32⟩
  | 3 => ⟨S16x256x2816, .f32⟩
  | 4 => ⟨S16x256x2816, .f32⟩
  | 5 => ⟨S16x256x2816, .f32⟩
  | 6 => ⟨S_, .f32⟩
  | 7 => ⟨S16x256x2816, .f32⟩
  | 8 => ⟨S16x256x2816, .f32⟩
  | 9 => ⟨S_, .f32⟩
  | 10 => ⟨S16x256x2816, .f32⟩
  | 11 => ⟨S16x256x2816, .f32⟩
  | 12 => ⟨S16x256x2816, .f32⟩
  | 13 => ⟨S16x256x2816, .f32⟩
  | 14 => ⟨S16x256x1024, .f32⟩
  | 15 => ⟨S_, .f32⟩
  | 16 => ⟨S1x1x1024, .f32⟩
  | 17 => ⟨S1x1x1024, .f32⟩
  | 18 => ⟨S16x256x1024, .f32⟩
  | 19 => ⟨S_, .f32⟩
  | 20 => ⟨S16x256, .f32⟩
  | 21 => ⟨S16x256x1, .f32⟩
  | 22 => ⟨S_, .f32⟩
  | 23 => ⟨S16x256x1, .f32⟩
  | 24 => ⟨S16x256x1, .f32⟩
  | 25 => ⟨S_, .f32⟩
  | 26 => ⟨S16x256x1, .f32⟩
  | 27 => ⟨S16x256x1, .f32⟩
  | 28 => ⟨S16x256x1, .f32⟩
  | 29 => ⟨S16x256x1024, .f32⟩
  | 30 => ⟨S16x256x1024, .f32⟩
  | 31 => ⟨S1x1x1024, .f32⟩
  | 32 => ⟨S16x256x1024, .f32⟩
  | 33 => ⟨S16x256x1024, .f32⟩
  | 34 => ⟨S16x256x1024, .f32⟩
  | 35 => ⟨S16x256x1024, .f32⟩
  | 36 => ⟨S16x256x1024, .f32⟩
  | 37 => ⟨S8192x1024, .f32⟩
  | 38 => ⟨S4096x1024, .f32⟩
  | 39 => ⟨S12288x1024, .f32⟩
  | _ => ⟨S16x256x1024, .f32⟩

abbrev hbmTy (i : Nat) : BufTy := match i / 128 with
  | 0 => hbmTy0_0 i
  | 1 => hbmTy0_1 i
  | _ => ⟨S16x256x1024, .f32⟩

abbrev bufTy : (tb : Table) → Fin (tcTables nBuf tb) → BufTy
  | .hbm, ⟨i, _⟩ => hbmTy i
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_3 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_4 : Ref sig .tc := ⟨.hbm, 71, rfl⟩
abbrev main_v47 : Ref sig .tc := ⟨.hbm, 72, rfl⟩
abbrev main_v48 : Ref sig .tc := ⟨.hbm, 73, rfl⟩
abbrev main_cst_5 : Ref sig .tc := ⟨.hbm, 74, rfl⟩
abbrev main_v49 : Ref sig .tc := ⟨.hbm, 75, rfl⟩
abbrev main_v50 : Ref sig .tc := ⟨.hbm, 76, rfl⟩
abbrev main_cst_6 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_7 : Ref sig .tc := ⟨.hbm, 107, rfl⟩
abbrev main_v80 : Ref sig .tc := ⟨.hbm, 108, rfl⟩
abbrev main_v81 : Ref sig .tc := ⟨.hbm, 109, rfl⟩
abbrev main_cst_8 : Ref sig .tc := ⟨.hbm, 110, rfl⟩
abbrev main_v82 : Ref sig .tc := ⟨.hbm, 111, rfl⟩
abbrev main_v83 : Ref sig .tc := ⟨.hbm, 112, rfl⟩
abbrev main_cst_9 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_10 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_call1_v0 : Ref sig .tc := ⟨.hbm, 132, rfl⟩
abbrev main_call1_v1 : Ref sig .tc := ⟨.hbm, 133, rfl⟩
abbrev main_call1_cst : Ref sig .tc := ⟨.hbm, 134, rfl⟩
abbrev main_call1_v2 : Ref sig .tc := ⟨.hbm, 135, rfl⟩
abbrev main_call1_v3 : Ref sig .tc := ⟨.hbm, 136, rfl⟩
abbrev main_call1_cst_0 : Ref sig .tc := ⟨.hbm, 137, rfl⟩
abbrev main_call1_v4 : Ref sig .tc := ⟨.hbm, 138, rfl⟩
abbrev main_call1_v5 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_11 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_12 : Ref sig .tc := ⟨.hbm, 147, rfl⟩
abbrev main_v107 : Ref sig .tc := ⟨.hbm, 148, rfl⟩
abbrev main_v108 : Ref sig .tc := ⟨.hbm, 149, rfl⟩
abbrev main_cst_13 : Ref sig .tc := ⟨.hbm, 150, rfl⟩
abbrev main_v109 : Ref sig .tc := ⟨.hbm, 151, rfl⟩
abbrev main_v110 : Ref sig .tc := ⟨.hbm, 152, rfl⟩
abbrev main_cst_14 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩

abbrev nD : Nat := 1
abbrev τ : Topo := Topo.v7x

variable {F : FTy → Type} [FloatOps F]
-- ==== Half20.lean ====
abbrev S16x256x1024 : Shape := ⟨3, ![16, 256, 1024]⟩
abbrev S8x1024x1024 : Shape := ⟨3, ![8, 1024, 1024]⟩
abbrev S1x9x1024 : Shape := ⟨3, ![1, 9, 1024]⟩
abbrev S8x9x1024 : Shape := ⟨3, ![8, 9, 1024]⟩
abbrev S4x6x1024 : Shape := ⟨3, ![4, 6, 1024]⟩
abbrev S4x2x1024x5632 : Shape := ⟨4, ![4, 2, 1024, 5632]⟩
abbrev S4x2x2816x1024 : Shape := ⟨4, ![4, 2, 2816, 1024]⟩
abbrev S8x1024 : Shape := ⟨2, ![8, 1024]⟩
abbrev S1024 : Shape := ⟨1, ![1024]⟩
abbrev S4x1024x9216 : Shape := ⟨3, ![4, 1024, 9216]⟩
abbrev S4x9216 : Shape := ⟨2, ![4, 9216]⟩
abbrev S8192x1024 : Shape := ⟨2, ![8192, 1024]⟩
abbrev S4096x1024 : Shape := ⟨2, ![4096, 1024]⟩
abbrev S12288x1024 : Shape := ⟨2, ![12288, 1024]⟩
abbrev S_ : Shape := ⟨0, ![]⟩
abbrev S7x9x1024 : Shape := ⟨3, ![7, 9, 1024]⟩
abbrev S16x9x1024 : Shape := ⟨3, ![16, 9, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S1x1024 : Shape := ⟨2, ![1, 1024]⟩
abbrev S7x1024 : Shape := ⟨2, ![7, 1024]⟩
abbrev S16x1024 : Shape := ⟨2, ![16, 1024]⟩
abbrev S4x1x9216 : Shape := ⟨3, ![4, 1, 9216]⟩
abbrev S16x9216 : Shape := ⟨2, ![16, 9216]⟩
abbrev S512x1024 : Shape := ⟨2, ![512, 1024]⟩
abbrev S1x6x1024 : Shape := ⟨3, ![1, 6, 1024]⟩
abbrev S1x1x64x5632 : Shape := ⟨4, ![1, 1, 64, 5632]⟩
abbrev S1x1x128x1024 : Shape := ⟨4, ![1, 1, 128, 1024]⟩
abbrev S1x1024x384 : Shape := ⟨3, ![1, 1024, 384]⟩
abbrev S1x1x384 : Shape := ⟨3, ![1, 1, 384]⟩
abbrev S64x5632 : Shape := ⟨2, ![64, 5632]⟩
abbrev S128x1024 : Shape := ⟨2, ![128, 1024]⟩
abbrev S16x384 : Shape := ⟨2, ![16, 384]⟩
abbrev S1024x384 : Shape := ⟨2, ![1024, 384]⟩
abbrev S1x384 : Shape := ⟨2, ![1, 384]⟩
abbrev S9x1024 : Shape := ⟨2, ![9, 1024]⟩
abbrev S6x1024 : Shape := ⟨2, ![6, 1024]⟩
abbrev S512 : Shape := ⟨1, ![512]⟩
abbrev S512x1 : Shape := ⟨2, ![512, 1]⟩
abbrev S1024x1024 : Shape := ⟨2, ![1024, 1024]⟩
abbrev S1024x768 : Shape := ⟨2, ![1024, 768]⟩
abbrev S512x768 : Shape := ⟨2, ![512, 768]⟩
abbrev S768x1024 : Shape := ⟨2, ![768, 1024]⟩

abbrev nBuf : Space → Nat
  | .hbm => 32
  | .vmem => 24
  | .smem => 0
  | _ => 0

abbrev bufTy : (tb : Table) → Fin (tcTables nBuf tb) → BufTy
  | .hbm, ⟨0, _⟩ => ⟨S16x256x1024, .f32⟩
  | .hbm, ⟨1, _⟩ => ⟨S8x1024x1024, .f32⟩
  | .hbm, ⟨2, _⟩ => ⟨S1x9x1024, .f32⟩
  | .hbm, ⟨3, _⟩ => ⟨S8x9x1024, .f32⟩
  | .hbm, ⟨4, _⟩ => ⟨S4x6x1024, .f32⟩
  | .hbm, ⟨5, _⟩ => ⟨S4x2x1024x5632, .f32⟩
  | .hbm, ⟨6, _⟩ => ⟨S4x2x2816x1024, .f32⟩
  | .hbm, ⟨7, _⟩ => ⟨S8x1024, .f32⟩
  | .hbm, ⟨8, _⟩ => ⟨S1024, .f32⟩
  | .hbm, ⟨9, _⟩ => ⟨S4x1024x9216, .f32⟩
  | .hbm, ⟨10, _⟩ => ⟨S4x9216, .f32⟩
  | .hbm, ⟨11, _⟩ => ⟨S8192x1024, .f32⟩
  | .hbm, ⟨12, _⟩ => ⟨S4096x1024, .f32⟩
  | .hbm, ⟨13, _⟩ => ⟨S12288x1024, .f32⟩
  | .hbm, ⟨14, _⟩ => ⟨S_, .f32⟩
  | .hbm, ⟨15, _⟩ => ⟨S7x9x1024, .f32⟩
  | .hbm, ⟨16, _⟩ => ⟨S16x9x1024, .f32⟩
  | .hbm, ⟨17, _⟩ => ⟨S1x1x1024x5632, .f32⟩
  | .hbm, ⟨18, _⟩ => ⟨S1024x5632, .f32⟩
  | .hbm, ⟨19, _⟩ => ⟨S1024x5632, .bf16⟩
  | .hbm, ⟨20, _⟩ => ⟨S1x1x2816x1024, .f32⟩
  | .hbm, ⟨21, _⟩ => ⟨S2816x1024, .f32⟩
  | .hbm, ⟨22, _⟩ => ⟨S2816x1024, .bf16⟩
  | .hbm, ⟨23, _⟩ => ⟨S1x1024, .f32⟩
  | .hbm, ⟨24, _⟩ => ⟨S_, .f32⟩
  | .hbm, ⟨25, _⟩ => ⟨S7x1024, .f32⟩
  | .hbm, ⟨26, _⟩ => ⟨S16x1024, .f32⟩
  | .hbm, ⟨27, _⟩ => ⟨S4x1x9216, .f32⟩
  | .hbm, ⟨28, _⟩ => ⟨S12288x1024, .f32⟩
  | .hbm, ⟨29, _⟩ => ⟨S1024x5632, .bf16⟩
  | .hbm, ⟨30, _⟩ => ⟨S2816x1024, .bf16⟩
  | .hbm, ⟨31, _⟩ => ⟨S16x9216, .f32⟩
  | .local _ .vmem, ⟨0, _⟩ => ⟨S512x1024, .f32⟩
  | .local _ .vmem, ⟨1, _⟩ => ⟨S512x1024, .f32⟩
  | .local _ .vmem, ⟨2, _⟩ => ⟨S1x9x1024, .f32⟩
  | .local _ .vmem, ⟨3, _⟩ => ⟨S1x9x1024, .f32⟩
  | .local _ .vmem, ⟨4, _⟩ => ⟨S1x6x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x1x64x5632, .f32⟩
  | .local _ .vmem, ⟨8, _⟩ => ⟨S1x1x64x5632, .f32⟩
  | .local _ .vmem, ⟨9, _⟩ => ⟨S1x1x128x1024, .f32⟩
  | .local _ .vmem, ⟨10, _⟩ => ⟨S1x1x128x1024, .f32⟩
  | .local _ .vmem, ⟨11, _⟩ => ⟨S16x1024, .f32⟩
  | .local _ .vmem, ⟨12, _⟩ => ⟨S1x1024x384, .f32⟩
  | .local _ .vmem, ⟨13, _⟩ => ⟨S1x1024x384, .f32⟩
  | .local _ .vmem, ⟨14, _⟩ => ⟨S1x1x384, .f32⟩
  | .local _ .vmem, ⟨15, _⟩ => ⟨S1x1x384, .f32⟩
  | .local _ .vmem, ⟨16, _⟩ => ⟨S512x1024, .f32⟩
  | .local _ .vmem, ⟨17, _⟩ => ⟨S512x1024, .f32⟩
  | .local _ .vmem, ⟨18, _⟩ => ⟨S64x5632, .bf16⟩
  | .local _ .vmem, ⟨19, _⟩ => ⟨S64x5632, .bf16⟩
  | .local _ .vmem, ⟨20, _⟩ => ⟨S128x1024, .bf16⟩
  | .local _ .vmem, ⟨21, _⟩ => ⟨S128x1024, .bf16⟩
  | .local _ .vmem, ⟨22, _⟩ => ⟨S16x384, .f32⟩
  | .local _ .vmem, ⟨23, _⟩ => ⟨S16x384, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_v15_2 : Ref sig .tc := ⟨.hbm, 30, rfl⟩
abbrev main_v15_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.minsi v16 c8_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c15_i32 : BitVec 32 := 15#32
  let v0 : BitVec 32 := Scalar.minsi arg0 c15_i32
  let c2_i32 : BitVec 32 := 2#32
  let c1_i32 : BitVec 32 := 1#32
  let c0_i32 : BitVec 32 := 0#32
  let c0_i32_0 : BitVec 32 := 0#32
  ![c2_i32.toNat, c1_i32.toNat, v0.toNat, c0_i32.toNat]

def cc0_transform_6 (i : grid0.Coords) : Fin 4 → Nat :=
  let arg0 : BitVec 32 := BitVec.ofNat 32 (i 0).val
  let c21_i32 : BitVec 32 := 21#32
  let v0 : BitVec 32 := Scalar.minsi arg0 c21_i32
  let c2_i32 : BitVec 32 := 2#32
  let c1_i32 : BitVec 32 := 1#32
  let c0_i32 : BitVec 32 := 0#32
  let c0_i32_0 : BitVec 32 := 0#32
  ![c2_i32.toNat, c1_i32.toNat, v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat, arg0.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c21_i32 : BitVec 32 := 21#32
  let v0 : BitVec 32 := Scalar.minsi arg0 c21_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x64x5632 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1024x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x384 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Half20RefIdeal.lean ====
abbrev S16x256x1024 : Shape := ⟨3, ![16, 256, 1024]⟩
abbrev S8x1024x1024 : Shape := ⟨3, ![8, 1024, 1024]⟩
abbrev S1x9x1024 : Shape := ⟨3, ![1, 9, 1024]⟩
abbrev S8x9x1024 : Shape := ⟨3, ![8, 9, 1024]⟩
abbrev S4x6x1024 : Shape := ⟨3, ![4, 6, 1024]⟩
abbrev S4x2x1024x5632 : Shape := ⟨4, ![4, 2, 1024, 5632]⟩
abbrev S4x2x2816x1024 : Shape := ⟨4, ![4, 2, 2816, 1024]⟩
abbrev S8x1024 : Shape := ⟨2, ![8, 1024]⟩
abbrev S1024 : Shape := ⟨1, ![1024]⟩
abbrev S4x1024x9216 : Shape := ⟨3, ![4, 1024, 9216]⟩
abbrev S4x9216 : Shape := ⟨2, ![4, 9216]⟩
abbrev S1x6x1024 : Shape := ⟨3, ![1, 6, 1024]⟩
abbrev S6x1024 : Shape := ⟨2, ![6, 1024]⟩
abbrev S8x1x1024 : Shape := ⟨3, ![8, 1, 1024]⟩
abbrev S1x1024 : Shape := ⟨2, ![1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S_ : Shape := ⟨0, ![]⟩
abbrev S8x1024x1 : Shape := ⟨3, ![8, 1024, 1]⟩
abbrev S1x1x1024 : Shape := ⟨3, ![1, 1, 1024]⟩
abbrev S8x1024x5632 : Shape := ⟨3, ![8, 1024, 5632]⟩
abbrev S8x1024x2816 : Shape := ⟨3, ![8, 1024, 2816]⟩
abbrev S16x256 : Shape := ⟨2, ![16, 256]⟩
abbrev S16x256x1 : Shape := ⟨3, ![16, 256, 1]⟩
abbrev S16x256x5632 : Shape := ⟨3, ![16, 256, 5632]⟩
abbrev S16x256x2816 : Shape := ⟨3, ![16, 256, 2816]⟩
abbrev S8192x1024 : Shape := ⟨2, ![8192, 1024]⟩
abbrev S4096x1024 : Shape := ⟨2, ![4096, 1024]⟩
abbrev S12288x1024 : Shape := ⟨2, ![12288, 1024]⟩

abbrev nBuf : Space → Nat
  | .hbm => 168
  | .vmem => 0
  | .smem => 0
  | _ => 0

abbrev hbmTy0_0 (i : Nat) : BufTy := match i % 128 with
  | 0 => ⟨S16x256x1024, .f32⟩
  | 1 => ⟨S8x1024x1024, .f32⟩
  | 2 => ⟨S1x9x1024, .f32⟩
  | 3 => ⟨S8x9x1024, .f32⟩
  | 4 => ⟨S4x6x1024, .f32⟩
  | 5 => ⟨S4x2x1024x5632, .f32⟩
  | 6 => ⟨S4x2x2816x1024, .f32⟩
  | 7 => ⟨S8x1024, .f32⟩
  | 8 => ⟨S1024, .f32⟩
  | 9 => ⟨S4x1024x9216, .f32⟩
  | 10 => ⟨S4x9216, .f32⟩
  | 11 => ⟨S1x6x1024, .f32⟩
  | 12 => ⟨S6x1024, .f32⟩
  | 13 => ⟨S8x1x1024, .f32⟩
  | 14 => ⟨S8x1x1024, .f32⟩
  | 15 => ⟨S8x1x1024, .f32⟩
  | 16 => ⟨S8x1x1024, .f32⟩
  | 17 => ⟨S8x1x1024, .f32⟩
  | 18 => ⟨S8x1x1024, .f32⟩
  | 19 => ⟨S8x1x1024, .f32⟩
  | 20 => ⟨S8x1x1024, .f32⟩
  | 21 => ⟨S8x1x1024, .f32⟩
  | 22 => ⟨S1x1024, .f32⟩
  | 23 => ⟨S1024, .f32⟩
  | 24 => ⟨S1x1024, .f32⟩
  | 25 => ⟨S1024, .f32⟩
  | 26 => ⟨S1x1x1024x5632, .f32⟩
  | 27 => ⟨S1024x5632, .f32⟩
  | 28 => ⟨S1x1x2816x1024, .f32⟩
  | 29 => ⟨S2816x1024, .f32⟩
  | 30 => ⟨S8x1024x1024, .f32⟩
  | 31 => ⟨S_, .f32⟩
  | 32 => ⟨S8x1024, .f32⟩
  | 33 => ⟨S8x1024x1, .f32⟩
  | 34 => ⟨S_, .f32⟩
  | 35 => ⟨S8x1024x1, .f32⟩
  | 36 => ⟨S8x1024x1, .f32⟩
  | 37 => ⟨S_, .f32⟩
  | 38 => ⟨S8x1024x1, .f32⟩
  | 39 => ⟨S8x1024x1, .f32⟩
  | 40 => ⟨S8x1024x1, .f32⟩
  | 41 => ⟨S8x1024x1024, .f32⟩
  | 42 => ⟨S8x1024x1024, .f32⟩
  | 43 => ⟨S1x1x1024, .f32⟩
  | 44 => ⟨S8x1024x1024, .f32⟩
  | 45 => ⟨S8x1024x1024, .f32⟩
  | 46 => ⟨S_, .f32⟩
  | 47 => ⟨S8x1x1024, .f32⟩
  | 48 => ⟨S8x1x1024, .f32⟩
  | 49 => ⟨S8x1024x1024, .f32⟩
  | 50 => ⟨S8x1024x1024, .f32⟩
  | 51 => ⟨S8x1024x1024, .f32⟩
  | 52 => ⟨S8x1024x1024, .f32⟩
  | 53 => ⟨S8x1024x5632, .f32⟩
  | 54 => ⟨S8x1024x2816, .f32⟩
  | 55 => ⟨S8x1024x2816, .f32⟩
  | 56 => ⟨S8x1024x2816, .f32⟩
  | 57 => ⟨S8x1024x2816, .f32⟩
  | 58 => ⟨S_, .f32⟩
  | 59 => ⟨S8x1024x2816, .f32⟩
  | 60 => ⟨S8x1024x2816, .f32⟩
  | 61 => ⟨S_, .f32⟩
  | 62 => ⟨S8x1024x2816, .f32⟩
  | 63 => ⟨S8x1024x2816, .f32⟩
  | 64 => ⟨S8x1024x2816, .f32⟩
  | 65 => ⟨S8x1024x2816, .f32⟩
  | 66 => ⟨S8x1024x1024, .f32⟩
  | 67 => ⟨S_, .f32⟩
  | 68 => ⟨S8x1x1024, .f32⟩
  | 69 => ⟨S8x1x1024, .f32⟩
  | 70 => ⟨S8x1024x1024, .f32⟩
  | 71 => ⟨S_, .f32⟩
  | 72 => ⟨S8x1024, .f32⟩
  | 73 => ⟨S8x1024x1, .f32⟩
  | 74 => ⟨S_, .f32⟩
  | 75 => ⟨S8x1024x1, .f32⟩
  | 76 => ⟨S8x1024x1, .f32⟩
  | 77 => ⟨S_, .f32⟩
  | 78 => ⟨S8x1024x1, .f32⟩
  | 79 => ⟨S8x1024x1, .f32⟩
  | 80 => ⟨S8x1024x1, .f32⟩
  | 81 => ⟨S8x1024x1024, .f32⟩
  | 82 => ⟨S8x1024x1024, .f32⟩
  | 83 => ⟨S1x1x1024, .f32⟩
  | 84 => ⟨S8x1024x1024, .f32⟩
  | 85 => ⟨S8x1024x1024, .f32⟩
  | 86 => ⟨S8x1024x1024, .f32⟩
  | 87 => ⟨S8x1024x1024, .f32⟩
  | 88 => ⟨S8x1024x1024, .f32⟩
  | 89 => ⟨S1x1x1024, .f32⟩
  | 90 => ⟨S1x1x1024, .f32⟩
  | 91 => ⟨S1x1x1024, .f32⟩
  | 92 => ⟨S1x1x1024, .f32⟩
  | 93 => ⟨S1x1x1024, .f32⟩
  | 94 => ⟨S1x1x1024, .f32⟩
  | 95 => ⟨S1x1x1024, .f32⟩
  | 96 => ⟨S1x1x1024, .f32⟩
  | 97 => ⟨S1x1x1024, .f32⟩
  | 98 => ⟨S1x1024, .f32⟩
  | 99 => ⟨S1024, .f32⟩
  | 100 => ⟨S1x1024, .f32⟩
  | 101 => ⟨S1024, .f32⟩
  | 102 => ⟨S1x1x1024x5632, .f32⟩
  | 103 => ⟨S1024x5632, .f32⟩
  | 104 => ⟨S1x1x2816x1024, .f32⟩
  | 105 => ⟨S2816x1024, .f32⟩
  | 106 => ⟨S16x256x1024, .f32⟩
  | 107 => ⟨S_, .f32⟩
  | 108 => ⟨S16x256, .f32⟩
  | 109 => ⟨S16x256x1, .f32⟩
  | 110 => ⟨S_, .f32⟩
  | 111 => ⟨S16x256x1, .f32⟩
  | 112 => ⟨S16x256x1, .f32⟩
  | 113 => ⟨S_, .f32⟩
  | 114 => ⟨S16x256x1, .f32⟩
  | 115 => ⟨S16x256x1, .f32⟩
  | 116 => ⟨S16x256x1, .f32⟩
  | 117 => ⟨S16x256x1024, .f32⟩
  | 118 => ⟨S16x256x1024, .f32⟩
  | 119 => ⟨S1x1x1024, .f32⟩
  | 120 => ⟨S16x256x1024, .f32⟩
  | 121 => ⟨S16x256x1024, .f32⟩
  | 122 => ⟨S_, .f32⟩
  | 123 => ⟨S1x1x1024, .f32⟩
  | 124 => ⟨S1x1x1024, .f32⟩
  | 125 => ⟨S16x256x1024, .f32⟩
  | 126 => ⟨S16x256x1024, .f32⟩
  | 127 => ⟨S16x256x1024, .f32⟩
  | _ => ⟨S16x256x1024, .f32⟩

abbrev hbmTy0_1 (i : Nat) : BufTy := match i % 128 with
  | 0 => ⟨S16x256x1024, .f32⟩
  | 1 => ⟨S16x256x5632, .f32⟩
  | 2 => ⟨S16x256x2816, .f32⟩
  | 3 => ⟨S16x256x2816, .f32⟩
  | 4 => ⟨S16x256x2816, .f32⟩
  | 5 => ⟨S16x256x2816, .f32⟩
  | 6 => ⟨S_, .f32⟩
  | 7 => ⟨S16x256x2816, .f32⟩
  | 8 => ⟨S16x256x2816, .f32⟩
  | 9 => ⟨S_, .f32⟩
  | 10 => ⟨S16x256x2816, .f32⟩
  | 11 => ⟨S16x256x2816, .f32⟩
  | 12 => ⟨S16x256x2816, .f32⟩
  | 13 => ⟨S16x256x2816, .f32⟩
  | 14 => ⟨S16x256x1024, .f32⟩
  | 15 => ⟨S_, .f32⟩
  | 16 => ⟨S1x1x1024, .f32⟩
  | 17 => ⟨S1x1x1024, .f32⟩
  | 18 => ⟨S16x256x1024, .f32⟩
  | 19 => ⟨S_, .f32⟩
  | 20 => ⟨S16x256, .f32⟩
  | 21 => ⟨S16x256x1, .f32⟩
  | 22 => ⟨S_, .f32⟩
  | 23 => ⟨S16x256x1, .f32⟩
  | 24 => ⟨S16x256x1, .f32⟩
  | 25 => ⟨S_, .f32⟩
  | 26 => ⟨S16x256x1, .f32⟩
  | 27 => ⟨S16x256x1, .f32⟩
  | 28 => ⟨S16x256x1, .f32⟩
  | 29 => ⟨S16x256x1024, .f32⟩
  | 30 => ⟨S16x256x1024, .f32⟩
  | 31 => ⟨S1x1x1024, .f32⟩
  | 32 => ⟨S16x256x1024, .f32⟩
  | 33 => ⟨S16x256x1024, .f32⟩
  | 34 => ⟨S16x256x1024, .f32⟩
  | 35 => ⟨S16x256x1024, .f32⟩
  | 36 => ⟨S16x256x1024, .f32⟩
  | 37 => ⟨S8192x1024, .f32⟩
  | 38 => ⟨S4096x1024, .f32⟩
  | 39 => ⟨S12288x1024, .f32⟩
  | _ => ⟨S16x256x1024, .f32⟩

abbrev hbmTy (i : Nat) : BufTy := match i / 128 with
  | 0 => hbmTy0_0 i
  | 1 => hbmTy0_1 i
  | _ => ⟨S16x256x1024, .f32⟩

abbrev bufTy : (tb : Table) → Fin (tcTables nBuf tb) → BufTy
  | .hbm, ⟨i, _⟩ => hbmTy i
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_3 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_4 : Ref sig .tc := ⟨.hbm, 71, rfl⟩
abbrev main_v47 : Ref sig .tc := ⟨.hbm, 72, rfl⟩
abbrev main_v48 : Ref sig .tc := ⟨.hbm, 73, rfl⟩
abbrev main_cst_5 : Ref sig .tc := ⟨.hbm, 74, rfl⟩
abbrev main_v49 : Ref sig .tc := ⟨.hbm, 75, rfl⟩
abbrev main_v50 : Ref sig .tc := ⟨.hbm, 76, rfl⟩
abbrev main_cst_6 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_7 : Ref sig .tc := ⟨.hbm, 107, rfl⟩
abbrev main_v80 : Ref sig .tc := ⟨.hbm, 108, rfl⟩
abbrev main_v81 : Ref sig .tc := ⟨.hbm, 109, rfl⟩
abbrev main_cst_8 : Ref sig .tc := ⟨.hbm, 110, rfl⟩
abbrev main_v82 : Ref sig .tc := ⟨.hbm, 111, rfl⟩
abbrev main_v83 : Ref sig .tc := ⟨.hbm, 112, rfl⟩
abbrev main_cst_9 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_10 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_call1_v0 : Ref sig .tc := ⟨.hbm, 132, rfl⟩
abbrev main_call1_v1 : Ref sig .tc := ⟨.hbm, 133, rfl⟩
abbrev main_call1_cst : Ref sig .tc := ⟨.hbm, 134, rfl⟩
abbrev main_call1_v2 : Ref sig .tc := ⟨.hbm, 135, rfl⟩
abbrev main_call1_v3 : Ref sig .tc := ⟨.hbm, 136, rfl⟩
abbrev main_call1_cst_0 : Ref sig .tc := ⟨.hbm, 137, rfl⟩
abbrev main_call1_v4 : Ref sig .tc := ⟨.hbm, 138, rfl⟩
abbrev main_call1_v5 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_11 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_12 : Ref sig .tc := ⟨.hbm, 147, rfl⟩
abbrev main_v107 : Ref sig .tc := ⟨.hbm, 148, rfl⟩
abbrev main_v108 : Ref sig .tc := ⟨.hbm, 149, rfl⟩
abbrev main_cst_13 : Ref sig .tc := ⟨.hbm, 150, rfl⟩
abbrev main_v109 : Ref sig .tc := ⟨.hbm, 151, rfl⟩
abbrev main_v110 : Ref sig .tc := ⟨.hbm, 152, rfl⟩
abbrev main_cst_14 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩

abbrev nD : Nat := 1
abbrev τ : Topo := Topo.v7x

variable {F : FTy → Type} [FloatOps F]
-- ==== Half00.lean ====
abbrev S16x256x1024 : Shape := ⟨3, ![16, 256, 1024]⟩
abbrev S8x1024x1024 : Shape := ⟨3, ![8, 1024, 1024]⟩
abbrev S1x9x1024 : Shape := ⟨3, ![1, 9, 1024]⟩
abbrev S8x9x1024 : Shape := ⟨3, ![8, 9, 1024]⟩
abbrev S4x6x1024 : Shape := ⟨3, ![4, 6, 1024]⟩
abbrev S4x2x1024x5632 : Shape := ⟨4, ![4, 2, 1024, 5632]⟩
abbrev S4x2x2816x1024 : Shape := ⟨4, ![4, 2, 2816, 1024]⟩
abbrev S8x1024 : Shape := ⟨2, ![8, 1024]⟩
abbrev S1024 : Shape := ⟨1, ![1024]⟩
abbrev S4x1024x9216 : Shape := ⟨3, ![4, 1024, 9216]⟩
abbrev S4x9216 : Shape := ⟨2, ![4, 9216]⟩
abbrev S8192x1024 : Shape := ⟨2, ![8192, 1024]⟩
abbrev S4096x1024 : Shape := ⟨2, ![4096, 1024]⟩
abbrev S_ : Shape := ⟨0, ![]⟩
abbrev S7x9x1024 : Shape := ⟨3, ![7, 9, 1024]⟩
abbrev S16x9x1024 : Shape := ⟨3, ![16, 9, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S1x1024 : Shape := ⟨2, ![1, 1024]⟩
abbrev S7x1024 : Shape := ⟨2, ![7, 1024]⟩
abbrev S16x1024 : Shape := ⟨2, ![16, 1024]⟩
abbrev S4x1x9216 : Shape := ⟨3, ![4, 1, 9216]⟩
abbrev S12288x1024 : Shape := ⟨2, ![12288, 1024]⟩
abbrev S16x9216 : Shape := ⟨2, ![16, 9216]⟩
abbrev S512x1024 : Shape := ⟨2, ![512, 1024]⟩
abbrev S1x6x1024 : Shape := ⟨3, ![1, 6, 1024]⟩
abbrev S1x1x64x5632 : Shape := ⟨4, ![1, 1, 64, 5632]⟩
abbrev S1x1x128x1024 : Shape := ⟨4, ![1, 1, 128, 1024]⟩
abbrev S1x1024x384 : Shape := ⟨3, ![1, 1024, 384]⟩
abbrev S1x1x384 : Shape := ⟨3, ![1, 1, 384]⟩
abbrev S64x5632 : Shape := ⟨2, ![64, 5632]⟩
abbrev S128x1024 : Shape := ⟨2, ![128, 1024]⟩
abbrev S16x384 : Shape := ⟨2, ![16, 384]⟩
abbrev S1024x384 : Shape := ⟨2, ![1024, 384]⟩
abbrev S1x384 : Shape := ⟨2, ![1, 384]⟩
abbrev S9x1024 : Shape := ⟨2, ![9, 1024]⟩
abbrev S6x1024 : Shape := ⟨2, ![6, 1024]⟩
abbrev S512 : Shape := ⟨1, ![512]⟩
abbrev S512x1 : Shape := ⟨2, ![512, 1]⟩
abbrev S1024x1024 : Shape := ⟨2, ![1024, 1024]⟩
abbrev S1024x768 : Shape := ⟨2, ![1024, 768]⟩
abbrev S512x768 : Shape := ⟨2, ![512, 768]⟩
abbrev S768x1024 : Shape := ⟨2, ![768, 1024]⟩

abbrev nBuf : Space → Nat
  | .hbm => 31
  | .vmem => 26
  | .smem => 0
  | _ => 0

abbrev bufTy : (tb : Table) → Fin (tcTables nBuf tb) → BufTy
  | .hbm, ⟨0, _⟩ => ⟨S16x256x1024, .f32⟩
  | .hbm, ⟨1, _⟩ => ⟨S8x1024x1024, .f32⟩
  | .hbm, ⟨2, _⟩ => ⟨S1x9x1024, .f32⟩
  | .hbm, ⟨3, _⟩ => ⟨S8x9x1024, .f32⟩
  | .hbm, ⟨4, _⟩ => ⟨S4x6x1024, .f32⟩
  | .hbm, ⟨5, _⟩ => ⟨S4x2x1024x5632, .f32⟩
  | .hbm, ⟨6, _⟩ => ⟨S4x2x2816x1024, .f32⟩
  | .hbm, ⟨7, _⟩ => ⟨S8x1024, .f32⟩
  | .hbm, ⟨8, _⟩ => ⟨S1024, .f32⟩
  | .hbm, ⟨9, _⟩ => ⟨S4x1024x9216, .f32⟩
  | .hbm, ⟨10, _⟩ => ⟨S4x9216, .f32⟩
  | .hbm, ⟨11, _⟩ => ⟨S8192x1024, .f32⟩
  | .hbm, ⟨12, _⟩ => ⟨S4096x1024, .f32⟩
  | .hbm, ⟨13, _⟩ => ⟨S_, .f32⟩
  | .hbm, ⟨14, _⟩ => ⟨S7x9x1024, .f32⟩
  | .hbm, ⟨15, _⟩ => ⟨S16x9x1024, .f32⟩
  | .hbm, ⟨16, _⟩ => ⟨S1x1x1024x5632, .f32⟩
  | .hbm, ⟨17, _⟩ => ⟨S1024x5632, .f32⟩
  | .hbm, ⟨18, _⟩ => ⟨S1024x5632, .bf16⟩
  | .hbm, ⟨19, _⟩ => ⟨S1x1x2816x1024, .f32⟩
  | .hbm, ⟨20, _⟩ => ⟨S2816x1024, .f32⟩
  | .hbm, ⟨21, _⟩ => ⟨S2816x1024, .bf16⟩
  | .hbm, ⟨22, _⟩ => ⟨S1x1024, .f32⟩
  | .hbm, ⟨23, _⟩ => ⟨S_, .f32⟩
  | .hbm, ⟨24, _⟩ => ⟨S7x1024, .f32⟩
  | .hbm, ⟨25, _⟩ => ⟨S16x1024, .f32⟩
  | .hbm, ⟨26, _⟩ => ⟨S4x1x9216, .f32⟩
  | .hbm, ⟨27, _⟩ => ⟨S12288x1024, .f32⟩
  | .hbm, ⟨28, _⟩ => ⟨S1024x5632, .bf16⟩
  | .hbm, ⟨29, _⟩ => ⟨S2816x1024, .bf16⟩
  | .hbm, ⟨30, _⟩ => ⟨S16x9216, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x9x1024, .f32⟩
  | .local _ .vmem, ⟨5, _⟩ => ⟨S1x9x1024, .f32⟩
  | .local _ .vmem, ⟨6, _⟩ => ⟨S1x6x1024, .f32⟩
  | .local _ .vmem, ⟨7, _⟩ => ⟨S1024x5632, .bf16⟩
  | .local _ .vmem, ⟨8, _⟩ => ⟨S2816x1024, .bf16⟩
  | .local _ .vmem, ⟨9, _⟩ => ⟨S1x1x64x5632, .f32⟩
  | .local _ .vmem, ⟨10, _⟩ => ⟨S1x1x64x5632, .f32⟩
  | .local _ .vmem, ⟨11, _⟩ => ⟨S1x1x128x1024, .f32⟩
  | .local _ .vmem, ⟨12, _⟩ => ⟨S1x1x128x1024, .f32⟩
  | .local _ .vmem, ⟨13, _⟩ => ⟨S16x1024, .f32⟩
  | .local _ .vmem, ⟨14, _⟩ => ⟨S1x1024x384, .f32⟩
  | .local _ .vmem, ⟨15, _⟩ => ⟨S1x1024x384, .f32⟩
  | .local _ .vmem, ⟨16, _⟩ => ⟨S1x1x384, .f32⟩
  | .local _ .vmem, ⟨17, _⟩ => ⟨S1x1x384, .f32⟩
  | .local _ .vmem, ⟨18, _⟩ => ⟨S512x1024, .f32⟩
  | .local _ .vmem, ⟨19, _⟩ => ⟨S512x1024, .f32⟩
  | .local _ .vmem, ⟨20, _⟩ => ⟨S64x5632, .bf16⟩
  | .local _ .vmem, ⟨21, _⟩ => ⟨S64x5632, .bf16⟩
  | .local _ .vmem, ⟨22, _⟩ => ⟨S128x1024, .bf16⟩
  | .local _ .vmem, ⟨23, _⟩ => ⟨S128x1024, .bf16⟩
  | .local _ .vmem, ⟨24, _⟩ => ⟨S16x384, .f32⟩
  | .local _ .vmem, ⟨25, _⟩ => ⟨S16x384, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14_0 : Ref sig .tc := ⟨.hbm, 27, rfl⟩
abbrev main_v14_1 : Ref sig .tc := ⟨.hbm, 28, rfl⟩
abbrev main_v14_2 : Ref sig .tc := ⟨.hbm, 29, rfl⟩
abbrev main_v14_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.minsi v16 c8_i32
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c15_i32 : BitVec 32 := 15#32
  let v0 : BitVec 32 := Scalar.minsi arg0 c15_i32
  let c0_i32 : BitVec 32 := 0#32
  let c1_i32 : BitVec 32 := 1#32
  let c0_i32_0 : BitVec 32 := 0#32
  let c0_i32_1 : BitVec 32 := 0#32
  ![c0_i32.toNat, c1_i32.toNat, v0.toNat, c0_i32_0.toNat]

def cc0_transform_7 (i : grid0.Coords) : Fin 4 → Nat :=
  let arg0 : BitVec 32 := BitVec.ofNat 32 (i 0).val
  let c21_i32 : BitVec 32 := 21#32
  let v0 : BitVec 32 := Scalar.minsi arg0 c21_i32
  let c0_i32 : BitVec 32 := 0#32
  let c1_i32 : BitVec 32 := 1#32
  let c0_i32_0 : BitVec 32 := 0#32
  let c0_i32_1 : BitVec 32 := 0#32
  ![c0_i32.toNat, c1_i32.toNat, v0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c21_i32 : BitVec 32 := 21#32
  let v0 : BitVec 32 := Scalar.minsi arg0 c21_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x9x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x64x5632 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S16x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1024x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x5632 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x384 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Half00RefIdeal.lean ====
abbrev S16x256x1024 : Shape := ⟨3, ![16, 256, 1024]⟩
abbrev S8x1024x1024 : Shape := ⟨3, ![8, 1024, 1024]⟩
abbrev S1x9x1024 : Shape := ⟨3, ![1, 9, 1024]⟩
abbrev S8x9x1024 : Shape := ⟨3, ![8, 9, 1024]⟩
abbrev S4x6x1024 : Shape := ⟨3, ![4, 6, 1024]⟩
abbrev S4x2x1024x5632 : Shape := ⟨4, ![4, 2, 1024, 5632]⟩
abbrev S4x2x2816x1024 : Shape := ⟨4, ![4, 2, 2816, 1024]⟩
abbrev S8x1024 : Shape := ⟨2, ![8, 1024]⟩
abbrev S1024 : Shape := ⟨1, ![1024]⟩
abbrev S4x1024x9216 : Shape := ⟨3, ![4, 1024, 9216]⟩
abbrev S4x9216 : Shape := ⟨2, ![4, 9216]⟩
abbrev S1x6x1024 : Shape := ⟨3, ![1, 6, 1024]⟩
abbrev S6x1024 : Shape := ⟨2, ![6, 1024]⟩
abbrev S8x1x1024 : Shape := ⟨3, ![8, 1, 1024]⟩
abbrev S1x1024 : Shape := ⟨2, ![1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S_ : Shape := ⟨0, ![]⟩
abbrev S8x1024x1 : Shape := ⟨3, ![8, 1024, 1]⟩
abbrev S1x1x1024 : Shape := ⟨3, ![1, 1, 1024]⟩
abbrev S8x1024x5632 : Shape := ⟨3, ![8, 1024, 5632]⟩
abbrev S8x1024x2816 : Shape := ⟨3, ![8, 1024, 2816]⟩
abbrev S16x256 : Shape := ⟨2, ![16, 256]⟩
abbrev S16x256x1 : Shape := ⟨3, ![16, 256, 1]⟩
abbrev S16x256x5632 : Shape := ⟨3, ![16, 256, 5632]⟩
abbrev S16x256x2816 : Shape := ⟨3, ![16, 256, 2816]⟩
abbrev S8192x1024 : Shape := ⟨2, ![8192, 1024]⟩
abbrev S4096x1024 : Shape := ⟨2, ![4096, 1024]⟩
abbrev S12288x1024 : Shape := ⟨2, ![12288, 1024]⟩

abbrev nBuf : Space → Nat
  | .hbm => 168
  | .vmem => 0
  | .smem => 0
  | _ => 0

abbrev hbmTy0_0 (i : Nat) : BufTy := match i % 128 with
  | 0 => ⟨S16x256x1024, .f32⟩
  | 1 => ⟨S8x1024x1024, .f32⟩
  | 2 => ⟨S1x9x1024, .f32⟩
  | 3 => ⟨S8x9x1024, .f32⟩
  | 4 => ⟨S4x6x1024, .f32⟩
  | 5 => ⟨S4x2x1024x5632, .f32⟩
  | 6 => ⟨S4x2x2816x1024, .f32⟩
  | 7 => ⟨S8x1024, .f32⟩
  | 8 => ⟨S1024, .f32⟩
  | 9 => ⟨S4x1024x9216, .f32⟩
  | 10 => ⟨S4x9216, .f32⟩
  | 11 => ⟨S1x6x1024, .f32⟩
  | 12 => ⟨S6x1024, .f32⟩
  | 13 => ⟨S8x1x1024, .f32⟩
  | 14 => ⟨S8x1x1024, .f32⟩
  | 15 => ⟨S8x1x1024, .f32⟩
  | 16 => ⟨S8x1x1024, .f32⟩
  | 17 => ⟨S8x1x1024, .f32⟩
  | 18 => ⟨S8x1x1024, .f32⟩
  | 19 => ⟨S8x1x1024, .f32⟩
  | 20 => ⟨S8x1x1024, .f32⟩
  | 21 => ⟨S8x1x1024, .f32⟩
  | 22 => ⟨S1x1024, .f32⟩
  | 23 => ⟨S1024, .f32⟩
  | 24 => ⟨S1x1024, .f32⟩
  | 25 => ⟨S1024, .f32⟩
  | 26 => ⟨S1x1x1024x5632, .f32⟩
  | 27 => ⟨S1024x5632, .f32⟩
  | 28 => ⟨S1x1x2816x1024, .f32⟩
  | 29 => ⟨S2816x1024, .f32⟩
  | 30 => ⟨S8x1024x1024, .f32⟩
  | 31 => ⟨S_, .f32⟩
  | 32 => ⟨S8x1024, .f32⟩
  | 33 => ⟨S8x1024x1, .f32⟩
  | 34 => ⟨S_, .f32⟩
  | 35 => ⟨S8x1024x1, .f32⟩
  | 36 => ⟨S8x1024x1, .f32⟩
  | 37 => ⟨S_, .f32⟩
  | 38 => ⟨S8x1024x1, .f32⟩
  | 39 => ⟨S8x1024x1, .f32⟩
  | 40 => ⟨S8x1024x1, .f32⟩
  | 41 => ⟨S8x1024x1024, .f32⟩
  | 42 => ⟨S8x1024x1024, .f32⟩
  | 43 => ⟨S1x1x1024, .f32⟩
  | 44 => ⟨S8x1024x1024, .f32⟩
  | 45 => ⟨S8x1024x1024, .f32⟩
  | 46 => ⟨S_, .f32⟩
  | 47 => ⟨S8x1x1024, .f32⟩
  | 48 => ⟨S8x1x1024, .f32⟩
  | 49 => ⟨S8x1024x1024, .f32⟩
  | 50 => ⟨S8x1024x1024, .f32⟩
  | 51 => ⟨S8x1024x1024, .f32⟩
  | 52 => ⟨S8x1024x1024, .f32⟩
  | 53 => ⟨S8x1024x5632, .f32⟩
  | 54 => ⟨S8x1024x2816, .f32⟩
  | 55 => ⟨S8x1024x2816, .f32⟩
  | 56 => ⟨S8x1024x2816, .f32⟩
  | 57 => ⟨S8x1024x2816, .f32⟩
  | 58 => ⟨S_, .f32⟩
  | 59 => ⟨S8x1024x2816, .f32⟩
  | 60 => ⟨S8x1024x2816, .f32⟩
  | 61 => ⟨S_, .f32⟩
  | 62 => ⟨S8x1024x2816, .f32⟩
  | 63 => ⟨S8x1024x2816, .f32⟩
  | 64 => ⟨S8x1024x2816, .f32⟩
  | 65 => ⟨S8x1024x2816, .f32⟩
  | 66 => ⟨S8x1024x1024, .f32⟩
  | 67 => ⟨S_, .f32⟩
  | 68 => ⟨S8x1x1024, .f32⟩
  | 69 => ⟨S8x1x1024, .f32⟩
  | 70 => ⟨S8x1024x1024, .f32⟩
  | 71 => ⟨S_, .f32⟩
  | 72 => ⟨S8x1024, .f32⟩
  | 73 => ⟨S8x1024x1, .f32⟩
  | 74 => ⟨S_, .f32⟩
  | 75 => ⟨S8x1024x1, .f32⟩
  | 76 => ⟨S8x1024x1, .f32⟩
  | 77 => ⟨S_, .f32⟩
  | 78 => ⟨S8x1024x1, .f32⟩
  | 79 => ⟨S8x1024x1, .f32⟩
  | 80 => ⟨S8x1024x1, .f32⟩
  | 81 => ⟨S8x1024x1024, .f32⟩
  | 82 => ⟨S8x1024x1024, .f32⟩
  | 83 => ⟨S1x1x1024, .f32⟩
  | 84 => ⟨S8x1024x1024, .f32⟩
  | 85 => ⟨S8x1024x1024, .f32⟩
  | 86 => ⟨S8x1024x1024, .f32⟩
  | 87 => ⟨S8x1024x1024, .f32⟩
  | 88 => ⟨S8x1024x1024, .f32⟩
  | 89 => ⟨S1x1x1024, .f32⟩
  | 90 => ⟨S1x1x1024, .f32⟩
  | 91 => ⟨S1x1x1024, .f32⟩
  | 92 => ⟨S1x1x1024, .f32⟩
  | 93 => ⟨S1x1x1024, .f32⟩
  | 94 => ⟨S1x1x1024, .f32⟩
  | 95 => ⟨S1x1x1024, .f32⟩
  | 96 => ⟨S1x1x1024, .f32⟩
  | 97 => ⟨S1x1x1024, .f32⟩
  | 98 => ⟨S1x1024, .f32⟩
  | 99 => ⟨S1024, .f32⟩
  | 100 => ⟨S1x1024, .f32⟩
  | 101 => ⟨S1024, .f32⟩
  | 102 => ⟨S1x1x1024x5632, .f32⟩
  | 103 => ⟨S1024x5632, .f32⟩
  | 104 => ⟨S1x1x2816x1024, .f32⟩
  | 105 => ⟨S2816x1024, .f32⟩
  | 106 => ⟨S16x256x1024, .f32⟩
  | 107 => ⟨S_, .f32⟩
  | 108 => ⟨S16x256, .f32⟩
  | 109 => ⟨S16x256x1, .f32⟩
  | 110 => ⟨S_, .f32⟩
  | 111 => ⟨S16x256x1, .f32⟩
  | 112 => ⟨S16x256x1, .f32⟩
  | 113 => ⟨S_, .f32⟩
  | 114 => ⟨S16x256x1, .f32⟩
  | 115 => ⟨S16x256x1, .f32⟩
  | 116 => ⟨S16x256x1, .f32⟩
  | 117 => ⟨S16x256x1024, .f32⟩
  | 118 => ⟨S16x256x1024, .f32⟩
  | 119 => ⟨S1x1x1024, .f32⟩
  | 120 => ⟨S16x256x1024, .f32⟩
  | 121 => ⟨S16x256x1024, .f32⟩
  | 122 => ⟨S_, .f32⟩
  | 123 => ⟨S1x1x1024, .f32⟩
  | 124 => ⟨S1x1x1024, .f32⟩
  | 125 => ⟨S16x256x1024, .f32⟩
  | 126 => ⟨S16x256x1024, .f32⟩
  | 127 => ⟨S16x256x1024, .f32⟩
  | _ => ⟨S16x256x1024, .f32⟩

abbrev hbmTy0_1 (i : Nat) : BufTy := match i % 128 with
  | 0 => ⟨S16x256x1024, .f32⟩
  | 1 => ⟨S16x256x5632, .f32⟩
  | 2 => ⟨S16x256x2816, .f32⟩
  | 3 => ⟨S16x256x2816, .f32⟩
  | 4 => ⟨S16x256x2816, .f32⟩
  | 5 => ⟨S16x256x2816, .f32⟩
  | 6 => ⟨S_, .f32⟩
  | 7 => ⟨S16x256x2816, .f32⟩
  | 8 => ⟨S16x256x2816, .f32⟩
  | 9 => ⟨S_, .f32⟩
  | 10 => ⟨S16x256x2816, .f32⟩
  | 11 => ⟨S16x256x2816, .f32⟩
  | 12 => ⟨S16x256x2816, .f32⟩
  | 13 => ⟨S16x256x2816, .f32⟩
  | 14 => ⟨S16x256x1024, .f32⟩
  | 15 => ⟨S_, .f32⟩
  | 16 => ⟨S1x1x1024, .f32⟩
  | 17 => ⟨S1x1x1024, .f32⟩
  | 18 => ⟨S16x256x1024, .f32⟩
  | 19 => ⟨S_, .f32⟩
  | 20 => ⟨S16x256, .f32⟩
  | 21 => ⟨S16x256x1, .f32⟩
  | 22 => ⟨S_, .f32⟩
  | 23 => ⟨S16x256x1, .f32⟩
  | 24 => ⟨S16x256x1, .f32⟩
  | 25 => ⟨S_, .f32⟩
  | 26 => ⟨S16x256x1, .f32⟩
  | 27 => ⟨S16x256x1, .f32⟩
  | 28 => ⟨S16x256x1, .f32⟩
  | 29 => ⟨S16x256x1024, .f32⟩
  | 30 => ⟨S16x256x1024, .f32⟩
  | 31 => ⟨S1x1x1024, .f32⟩
  | 32 => ⟨S16x256x1024, .f32⟩
  | 33 => ⟨S16x256x1024, .f32⟩
  | 34 => ⟨S16x256x1024, .f32⟩
  | 35 => ⟨S16x256x1024, .f32⟩
  | 36 => ⟨S16x256x1024, .f32⟩
  | 37 => ⟨S8192x1024, .f32⟩
  | 38 => ⟨S4096x1024, .f32⟩
  | 39 => ⟨S12288x1024, .f32⟩
  | _ => ⟨S16x256x1024, .f32⟩

abbrev hbmTy (i : Nat) : BufTy := match i / 128 with
  | 0 => hbmTy0_0 i
  | 1 => hbmTy0_1 i
  | _ => ⟨S16x256x1024, .f32⟩

abbrev bufTy : (tb : Table) → Fin (tcTables nBuf tb) → BufTy
  | .hbm, ⟨i, _⟩ => hbmTy i
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_3 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_4 : Ref sig .tc := ⟨.hbm, 71, rfl⟩
abbrev main_v47 : Ref sig .tc := ⟨.hbm, 72, rfl⟩
abbrev main_v48 : Ref sig .tc := ⟨.hbm, 73, rfl⟩
abbrev main_cst_5 : Ref sig .tc := ⟨.hbm, 74, rfl⟩
abbrev main_v49 : Ref sig .tc := ⟨.hbm, 75, rfl⟩
abbrev main_v50 : Ref sig .tc := ⟨.hbm, 76, rfl⟩
abbrev main_cst_6 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_7 : Ref sig .tc := ⟨.hbm, 107, rfl⟩
abbrev main_v80 : Ref sig .tc := ⟨.hbm, 108, rfl⟩
abbrev main_v81 : Ref sig .tc := ⟨.hbm, 109, rfl⟩
abbrev main_cst_8 : Ref sig .tc := ⟨.hbm, 110, rfl⟩
abbrev main_v82 : Ref sig .tc := ⟨.hbm, 111, rfl⟩
abbrev main_v83 : Ref sig .tc := ⟨.hbm, 112, rfl⟩
abbrev main_cst_9 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_10 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_call1_v0 : Ref sig .tc := ⟨.hbm, 132, rfl⟩
abbrev main_call1_v1 : Ref sig .tc := ⟨.hbm, 133, rfl⟩
abbrev main_call1_cst : Ref sig .tc := ⟨.hbm, 134, rfl⟩
abbrev main_call1_v2 : Ref sig .tc := ⟨.hbm, 135, rfl⟩
abbrev main_call1_v3 : Ref sig .tc := ⟨.hbm, 136, rfl⟩
abbrev main_call1_cst_0 : Ref sig .tc := ⟨.hbm, 137, rfl⟩
abbrev main_call1_v4 : Ref sig .tc := ⟨.hbm, 138, rfl⟩
abbrev main_call1_v5 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_cst_11 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_12 : Ref sig .tc := ⟨.hbm, 147, rfl⟩
abbrev main_v107 : Ref sig .tc := ⟨.hbm, 148, rfl⟩
abbrev main_v108 : Ref sig .tc := ⟨.hbm, 149, rfl⟩
abbrev main_cst_13 : Ref sig .tc := ⟨.hbm, 150, rfl⟩
abbrev main_v109 : Ref sig .tc := ⟨.hbm, 151, rfl⟩
abbrev main_v110 : Ref sig .tc := ⟨.hbm, 152, rfl⟩
abbrev main_cst_14 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩

abbrev nD : Nat := 1
abbrev τ : Topo := Topo.v7x

variable {F : FTy → Type} [FloatOps F]
-- ==== Half01.lean ====
abbrev S16x256x1024 : Shape := ⟨3, ![16, 256, 1024]⟩
abbrev S8x1024x1024 : Shape := ⟨3, ![8, 1024, 1024]⟩
abbrev S1x9x1024 : Shape := ⟨3, ![1, 9, 1024]⟩
abbrev S8x9x1024 : Shape := ⟨3, ![8, 9, 1024]⟩
abbrev S4x6x1024 : Shape := ⟨3, ![4, 6, 1024]⟩
abbrev S4x2x1024x5632 : Shape := ⟨4, ![4, 2, 1024, 5632]⟩
abbrev S4x2x2816x1024 : Shape := ⟨4, ![4, 2, 2816, 1024]⟩
abbrev S2x1024x1024 : Shape := ⟨3, ![2, 1024, 1024]⟩
abbrev S8192x1024 : Shape := ⟨2, ![8192, 1024]⟩
abbrev S4096x1024 : Shape := ⟨2, ![4096, 1024]⟩
abbrev S12288x1024 : Shape := ⟨2, ![12288, 1024]⟩
abbrev S_ : Shape := ⟨0, ![]⟩
abbrev S7x9x1024 : Shape := ⟨3, ![7, 9, 1024]⟩
abbrev S16x9x1024 : Shape := ⟨3, ![16, 9, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S512x1024 : Shape := ⟨2, ![512, 1024]⟩
abbrev S1x1024x1024 : Shape := ⟨3, ![1, 1024, 1024]⟩
abbrev S1x6x1024 : Shape := ⟨3, ![1, 6, 1024]⟩
abbrev S1x1x64x5632 : Shape := ⟨4, ![1, 1, 64, 5632]⟩
abbrev S1x1x128x1024 : Shape := ⟨4, ![1, 1, 128, 1024]⟩
abbrev S64x5632 : Shape := ⟨2, ![64, 5632]⟩
abbrev S128x1024 : Shape := ⟨2, ![128, 1024]⟩
abbrev S9x1024 : Shape := ⟨2, ![9, 1024]⟩
abbrev S6x1024 : Shape := ⟨2, ![6, 1024]⟩
abbrev S1024x1024 : Shape := ⟨2, ![1024, 1024]⟩
abbrev S1x1024 : Shape := ⟨2, ![1, 1024]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S768x1024 : Shape := ⟨2, ![768, 1024]⟩

abbrev nBuf : Space → Nat
  | .hbm => 29
  | .vmem => 22
  | .smem => 0
  | _ => 0

abbrev bufTy : (tb : Table) → Fin (tcTables nBuf tb) → BufTy
  | .hbm, ⟨0, _⟩ => ⟨S16x256x1024, .f32⟩
  | .hbm, ⟨1, _⟩ => ⟨S8x1024x1024, .f32⟩
  | .hbm, ⟨2, _⟩ => ⟨S1x9x1024, .f32⟩
  | .hbm, ⟨3, _⟩ => ⟨S8x9x1024, .f32⟩
  | .hbm, ⟨4, _⟩ => ⟨S4x6x1024, .f32⟩
  | .hbm, ⟨5, _⟩ => ⟨S4x2x1024x5632, .f32⟩
  | .hbm, ⟨6, _⟩ => ⟨S4x2x2816x1024, .f32⟩
  | .hbm, ⟨7, _⟩ => ⟨S16x256x1024, .f32⟩
  | .hbm, ⟨8, _⟩ => ⟨S8x1024x1024, .f32⟩
  | .hbm, ⟨9, _⟩ => ⟨S2x1024x1024, .f32⟩
  | .hbm, ⟨10, _⟩ => ⟨S8192x1024, .f32⟩
  | .hbm, ⟨11, _⟩ => ⟨S4096x1024, .f32⟩
  | .hbm, ⟨12, _⟩ => ⟨S12288x1024, .f32⟩
  | .hbm, ⟨13, _⟩ => ⟨S_, .f32⟩
  | .hbm, ⟨14, _⟩ => ⟨S7x9x1024, .f32⟩
  | .hbm, ⟨15, _⟩ => ⟨S16x9x1024, .f32⟩
  | .hbm, ⟨16, _⟩ => ⟨S1x1x1024x5632, .f32⟩
  | .hbm, ⟨17, _⟩ => ⟨S1024x5632, .f32⟩
  | .hbm, ⟨18, _⟩ => ⟨S1024x5632, .bf16⟩
  | .hbm, ⟨19, _⟩ => ⟨S1x1x2816x1024, .f32⟩
  | .hbm, ⟨20, _⟩ => ⟨S2816x1024, .f32⟩
  | .hbm, ⟨21, _⟩ => ⟨S2816x1024, .bf16⟩
  | .hbm, ⟨22, _⟩ => ⟨S8192x1024, .f32⟩
  | .hbm, ⟨23, _⟩ => ⟨S8192x1024, .bf16⟩
  | .hbm, ⟨24, _⟩ => ⟨S4096x1024, .f32⟩
  | .hbm, ⟨25, _⟩ => ⟨S4096x1024, .bf16⟩
  | .hbm, ⟨26, _⟩ => ⟨S12288x1024, .f32⟩
  | .hbm, ⟨27, _⟩ => ⟨S1024x5632, .bf16⟩
  | .hbm, ⟨28, _⟩ => ⟨S2816x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024x1024, .f32⟩
  | .local _ .vmem, ⟨7, _⟩ => ⟨S1x9x1024, .f32⟩
  | .local _ .vmem, ⟨8, _⟩ => ⟨S1x9x1024, .f32⟩
  | .local _ .vmem, ⟨9, _⟩ => ⟨S1x6x1024, .f32⟩
  | .local _ .vmem, ⟨10, _⟩ => ⟨S1024x5632, .bf16⟩
  | .local _ .vmem, ⟨11, _⟩ => ⟨S2816x1024, .bf16⟩
  | .local _ .vmem, ⟨12, _⟩ => ⟨S1x1x64x5632, .f32⟩
  | .local _ .vmem, ⟨13, _⟩ => ⟨S1x1x64x5632, .f32⟩
  | .local _ .vmem, ⟨14, _⟩ => ⟨S1x1x128x1024, .f32⟩
  | .local _ .vmem, ⟨15, _⟩ => ⟨S1x1x128x1024, .f32⟩
  | .local _ .vmem, ⟨16, _⟩ => ⟨S512x1024, .f32⟩
  | .local _ .vmem, ⟨17, _⟩ => ⟨S512x1024, .f32⟩
  | .local _ .vmem, ⟨18, _⟩ => ⟨S64x5632, .bf16⟩
  | .local _ .vmem, ⟨19, _⟩ => ⟨S64x5632, .bf16⟩
  | .local _ .vmem, ⟨20, _⟩ => ⟨S128x1024, .bf16⟩
  | .local _ .vmem, ⟨21, _⟩ => ⟨S128x1024, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.minsi v16 c8_i32
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c15_i32 : BitVec 32 := 15#32
  let v0 : BitVec 32 := Scalar.minsi arg0 c15_i32
  let c1_i32 : BitVec 32 := 1#32
  let c0_i32 : BitVec 32 := 0#32
  let c0_i32_0 : BitVec 32 := 0#32
  let c0_i32_1 : BitVec 32 := 0#32
  ![c1_i32.toNat, c0_i32.toNat, v0.toNat, c0_i32_0.toNat]

def cc0_transform_9 (i : grid0.Coords) : Fin 4 → Nat :=
  let arg0 : BitVec 32 := BitVec.ofNat 32 (i 0).val
  let c21_i32 : BitVec 32 := 21#32
  let v0 : BitVec 32 := Scalar.minsi arg0 c21_i32
  let c1_i32 : BitVec 32 := 1#32
  let c0_i32 : BitVec 32 := 0#32
  let c0_i32_0 : BitVec 32 := 0#32
  let c0_i32_1 : BitVec 32 := 0#32
  ![c1_i32.toNat, c0_i32.toNat, v0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c21_i32 : BitVec 32 := 21#32
  let v0 : BitVec 32 := Scalar.minsi arg0 c21_i32
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x9x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x6x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x64x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Half01RefIdeal.lean ====
abbrev S16x256x1024 : Shape := ⟨3, ![16, 256, 1024]⟩
abbrev S8x1024x1024 : Shape := ⟨3, ![8, 1024, 1024]⟩
abbrev S1x9x1024 : Shape := ⟨3, ![1, 9, 1024]⟩
abbrev S8x9x1024 : Shape := ⟨3, ![8, 9, 1024]⟩
abbrev S4x6x1024 : Shape := ⟨3, ![4, 6, 1024]⟩
abbrev S4x2x1024x5632 : Shape := ⟨4, ![4, 2, 1024, 5632]⟩
abbrev S4x2x2816x1024 : Shape := ⟨4, ![4, 2, 2816, 1024]⟩
abbrev S2x1024x1024 : Shape := ⟨3, ![2, 1024, 1024]⟩
abbrev S1x6x1024 : Shape := ⟨3, ![1, 6, 1024]⟩
abbrev S6x1024 : Shape := ⟨2, ![6, 1024]⟩
abbrev S8x1x1024 : Shape := ⟨3, ![8, 1, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8x1024 : Shape := ⟨2, ![8, 1024]⟩
abbrev S8x1024x1 : Shape := ⟨3, ![8, 1024, 1]⟩
abbrev S1x1x1024 : Shape := ⟨3, ![1, 1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S8x1024x5632 : Shape := ⟨3, ![8, 1024, 5632]⟩
abbrev S8x1024x2816 : Shape := ⟨3, ![8, 1024, 2816]⟩
abbrev S16x256 : Shape := ⟨2, ![16, 256]⟩
abbrev S16x256x1 : Shape := ⟨3, ![16, 256, 1]⟩
abbrev S16x256x5632 : Shape := ⟨3, ![16, 256, 5632]⟩
abbrev S16x256x2816 : Shape := ⟨3, ![16, 256, 2816]⟩
abbrev S8192x1024 : Shape := ⟨2, ![8192, 1024]⟩
abbrev S4096x1024 : Shape := ⟨2, ![4096, 1024]⟩
abbrev S12288x1024 : Shape := ⟨2, ![12288, 1024]⟩

abbrev nBuf : Space → Nat
  | .hbm => 215
  | .vmem => 0
  | .smem => 0
  | _ => 0

abbrev hbmTy0_0 (i : Nat) : BufTy := match i % 128 with
  | 0 => ⟨S16x256x1024, .f32⟩
  | 1 => ⟨S8x1024x1024, .f32⟩
  | 2 => ⟨S1x9x1024, .f32⟩
  | 3 => ⟨S8x9x1024, .f32⟩
  | 4 => ⟨S4x6x1024, .f32⟩
  | 5 => ⟨S4x2x1024x5632, .f32⟩
  | 6 => ⟨S4x2x2816x1024, .f32⟩
  | 7 => ⟨S16x256x1024, .f32⟩
  | 8 => ⟨S8x1024x1024, .f32⟩
  | 9 => ⟨S2x1024x1024, .f32⟩
  | 10 => ⟨S1x6x1024, .f32⟩
  | 11 => ⟨S6x1024, .f32⟩
  | 12 => ⟨S8x1x1024, .f32⟩
  | 13 => ⟨S8x1x1024, .f32⟩
  | 14 => ⟨S8x1x1024, .f32⟩
  | 15 => ⟨S8x1x1024, .f32⟩
  | 16 => ⟨S8x1x1024, .f32⟩
  | 17 => ⟨S8x1x1024, .f32⟩
  | 18 => ⟨S8x1x1024, .f32⟩
  | 19 => ⟨S8x1x1024, .f32⟩
  | 20 => ⟨S8x1x1024, .f32⟩
  | 21 => ⟨S1x1024x1024, .f32⟩
  | 22 => ⟨S1024x1024, .f32⟩
  | 23 => ⟨S8x1024x1024, .f32⟩
  | 24 => ⟨S1x1024, .f32⟩
  | 25 => ⟨S1024, .f32⟩
  | 26 => ⟨S8x1024x1024, .f32⟩
  | 27 => ⟨S_, .f32⟩
  | 28 => ⟨S8x1024, .f32⟩
  | 29 => ⟨S8x1024x1, .f32⟩
  | 30 => ⟨S_, .f32⟩
  | 31 => ⟨S8x1024x1, .f32⟩
  | 32 => ⟨S8x1024x1, .f32⟩
  | 33 => ⟨S_, .f32⟩
  | 34 => ⟨S8x1024x1, .f32⟩
  | 35 => ⟨S8x1024x1, .f32⟩
  | 36 => ⟨S8x1024x1, .f32⟩
  | 37 => ⟨S8x1024x1024, .f32⟩
  | 38 => ⟨S8x1024x1024, .f32⟩
  | 39 => ⟨S1x1x1024, .f32⟩
  | 40 => ⟨S8x1024x1024, .f32⟩
  | 41 => ⟨S8x1024x1024, .f32⟩
  | 42 => ⟨S8x1024x1024, .f32⟩
  | 43 => ⟨S8x1024x1024, .f32⟩
  | 44 => ⟨S8x1024x1024, .f32⟩
  | 45 => ⟨S1x1024, .f32⟩
  | 46 => ⟨S1024, .f32⟩
  | 47 => ⟨S1x1024, .f32⟩
  | 48 => ⟨S1024, .f32⟩
  | 49 => ⟨S1x1x1024x5632, .f32⟩
  | 50 => ⟨S1024x5632, .f32⟩
  | 51 => ⟨S1x1x2816x1024, .f32⟩
  | 52 => ⟨S2816x1024, .f32⟩
  | 53 => ⟨S8x1024x1024, .f32⟩
  | 54 => ⟨S_, .f32⟩
  | 55 => ⟨S8x1024, .f32⟩
  | 56 => ⟨S8x1024x1, .f32⟩
  | 57 => ⟨S_, .f32⟩
  | 58 => ⟨S8x1024x1, .f32⟩
  | 59 => ⟨S8x1024x1, .f32⟩
  | 60 => ⟨S_, .f32⟩
  | 61 => ⟨S8x1024x1, .f32⟩
  | 62 => ⟨S8x1024x1, .f32⟩
  | 63 => ⟨S8x1024x1, .f32⟩
  | 64 => ⟨S8x1024x1024, .f32⟩
  | 65 => ⟨S8x1024x1024, .f32⟩
  | 66 => ⟨S1x1x1024, .f32⟩
  | 67 => ⟨S8x1024x1024, .f32⟩
  | 68 => ⟨S8x1024x1024, .f32⟩
  | 69 => ⟨S_, .f32⟩
  | 70 => ⟨S8x1x1024, .f32⟩
  | 71 => ⟨S8x1x1024, .f32⟩
  | 72 => ⟨S8x1024x1024, .f32⟩
  | 73 => ⟨S8x1024x1024, .f32⟩
  | 74 => ⟨S8x1024x1024, .f32⟩
  | 75 => ⟨S8x1024x1024, .f32⟩
  | 76 => ⟨S8x1024x5632, .f32⟩
  | 77 => ⟨S8x1024x2816, .f32⟩
  | 78 => ⟨S8x1024x2816, .f32⟩
  | 79 => ⟨S8x1024x2816, .f32⟩
  | 80 => ⟨S8x1024x2816, .f32⟩
  | 81 => ⟨S_, .f32⟩
  | 82 => ⟨S8x1024x2816, .f32⟩
  | 83 => ⟨S8x1024x2816, .f32⟩
  | 84 => ⟨S_, .f32⟩
  | 85 => ⟨S8x1024x2816, .f32⟩
  | 86 => ⟨S8x1024x2816, .f32⟩
  | 87 => ⟨S8x1024x2816, .f32⟩
  | 88 => ⟨S8x1024x2816, .f32⟩
  | 89 => ⟨S8x1024x1024, .f32⟩
  | 90 => ⟨S_, .f32⟩
  | 91 => ⟨S8x1x1024, .f32⟩
  | 92 => ⟨S8x1x1024, .f32⟩
  | 93 => ⟨S8x1024x1024, .f32⟩
  | 94 => ⟨S_, .f32⟩
  | 95 => ⟨S8x1024, .f32⟩
  | 96 => ⟨S8x1024x1, .f32⟩
  | 97 => ⟨S_, .f32⟩
  | 98 => ⟨S8x1024x1, .f32⟩
  | 99 => ⟨S8x1024x1, .f32⟩
  | 100 => ⟨S_, .f32⟩
  | 101 => ⟨S8x1024x1, .f32⟩
  | 102 => ⟨S8x1024x1, .f32⟩
  | 103 => ⟨S8x1024x1, .f32⟩
  | 104 => ⟨S8x1024x1024, .f32⟩
  | 105 => ⟨S8x1024x1024, .f32⟩
  | 106 => ⟨S1x1x1024, .f32⟩
  | 107 => ⟨S8x1024x1024, .f32⟩
  | 108 => ⟨S8x1024x1024, .f32⟩
  | 109 => ⟨S8x1024x1024, .f32⟩
  | 110 => ⟨S8x1024x1024, .f32⟩
  | 111 => ⟨S8x1024x1024, .f32⟩
  | 112 => ⟨S1x1x1024, .f32⟩
  | 113 => ⟨S1x1x1024, .f32⟩
  | 114 => ⟨S1x1x1024, .f32⟩
  | 115 => ⟨S1x1x1024, .f32⟩
  | 116 => ⟨S1x1x1024, .f32⟩
  | 117 => ⟨S1x1x1024, .f32⟩
  | 118 => ⟨S1x1x1024, .f32⟩
  | 119 => ⟨S1x1x1024, .f32⟩
  | 120 => ⟨S1x1x1024, .f32⟩
  | 121 => ⟨S1x1024x1024, .f32⟩
  | 122 => ⟨S1024x1024, .f32⟩
  | 123 => ⟨S16x256x1024, .f32⟩
  | 124 => ⟨S1x1024, .f32⟩
  | 125 => ⟨S1024, .f32⟩
  | 126 => ⟨S16x256x1024, .f32⟩
  | 127 => ⟨S_, .f32⟩
  | _ => ⟨S16x256x1024, .f32⟩

abbrev hbmTy0_1 (i : Nat) : BufTy := match i % 128 with
  | 0 => ⟨S16x256, .f32⟩
  | 1 => ⟨S16x256x1, .f32⟩
  | 2 => ⟨S_, .f32⟩
  | 3 => ⟨S16x256x1, .f32⟩
  | 4 => ⟨S16x256x1, .f32⟩
  | 5 => ⟨S_, .f32⟩
  | 6 => ⟨S16x256x1, .f32⟩
  | 7 => ⟨S16x256x1, .f32⟩
  | 8 => ⟨S16x256x1, .f32⟩
  | 9 => ⟨S16x256x1024, .f32⟩
  | 10 => ⟨S16x256x1024, .f32⟩
  | 11 => ⟨S1x1x1024, .f32⟩
  | 12 => ⟨S16x256x1024, .f32⟩
  | 13 => ⟨S16x256x1024, .f32⟩
  | 14 => ⟨S16x256x1024, .f32⟩
  | 15 => ⟨S16x256x1024, .f32⟩
  | 16 => ⟨S16x256x1024, .f32⟩
  | 17 => ⟨S1x1024, .f32⟩
  | 18 => ⟨S1024, .f32⟩
  | 19 => ⟨S1x1024, .f32⟩
  | 20 => ⟨S1024, .f32⟩
  | 21 => ⟨S1x1x1024x5632, .f32⟩
  | 22 => ⟨S1024x5632, .f32⟩
  | 23 => ⟨S1x1x2816x1024, .f32⟩
  | 24 => ⟨S2816x1024, .f32⟩
  | 25 => ⟨S16x256x1024, .f32⟩
  | 26 => ⟨S_, .f32⟩
  | 27 => ⟨S16x256, .f32⟩
  | 28 => ⟨S16x256x1, .f32⟩
  | 29 => ⟨S_, .f32⟩
  | 30 => ⟨S16x256x1, .f32⟩
  | 31 => ⟨S16x256x1, .f32⟩
  | 32 => ⟨S_, .f32⟩
  | 33 => ⟨S16x256x1, .f32⟩
  | 34 => ⟨S16x256x1, .f32⟩
  | 35 => ⟨S16x256x1, .f32⟩
  | 36 => ⟨S16x256x1024, .f32⟩
  | 37 => ⟨S16x256x1024, .f32⟩
  | 38 => ⟨S1x1x1024, .f32⟩
  | 39 => ⟨S16x256x1024, .f32⟩
  | 40 => ⟨S16x256x1024, .f32⟩
  | 41 => ⟨S_, .f32⟩
  | 42 => ⟨S1x1x1024, .f32⟩
  | 43 => ⟨S1x1x1024, .f32⟩
  | 44 => ⟨S16x256x1024, .f32⟩
  | 45 => ⟨S16x256x1024, .f32⟩
  | 46 => ⟨S16x256x1024, .f32⟩
  | 47 => ⟨S16x256x1024, .f32⟩
  | 48 => ⟨S16x256x5632, .f32⟩
  | 49 => ⟨S16x256x2816, .f32⟩
  | 50 => ⟨S16x256x2816, .f32⟩
  | 51 => ⟨S16x256x2816, .f32⟩
  | 52 => ⟨S16x256x2816, .f32⟩
  | 53 => ⟨S_, .f32⟩
  | 54 => ⟨S16x256x2816, .f32⟩
  | 55 => ⟨S16x256x2816, .f32⟩
  | 56 => ⟨S_, .f32⟩
  | 57 => ⟨S16x256x2816, .f32⟩
  | 58 => ⟨S16x256x2816, .f32⟩
  | 59 => ⟨S16x256x2816, .f32⟩
  | 60 => ⟨S16x256x2816, .f32⟩
  | 61 => ⟨S16x256x1024, .f32⟩
  | 62 => ⟨S_, .f32⟩
  | 63 => ⟨S1x1x1024, .f32⟩
  | 64 => ⟨S1x1x1024, .f32⟩
  | 65 => ⟨S16x256x1024, .f32⟩
  | 66 => ⟨S_, .f32⟩
  | 67 => ⟨S16x256, .f32⟩
  | 68 => ⟨S16x256x1, .f32⟩
  | 69 => ⟨S_, .f32⟩
  | 70 => ⟨S16x256x1, .f32⟩
  | 71 => ⟨S16x256x1, .f32⟩
  | 72 => ⟨S_, .f32⟩
  | 73 => ⟨S16x256x1, .f32⟩
  | 74 => ⟨S16x256x1, .f32⟩
  | 75 => ⟨S16x256x1, .f32⟩
  | 76 => ⟨S16x256x1024, .f32⟩
  | 77 => ⟨S16x256x1024, .f32⟩
  | 78 => ⟨S1x1x1024, .f32⟩
  | 79 => ⟨S16x256x1024, .f32⟩
  | 80 => ⟨S16x256x1024, .f32⟩
  | 81 => ⟨S16x256x1024, .f32⟩
  | 82 => ⟨S16x256x1024, .f32⟩
  | 83 => ⟨S16x256x1024, .f32⟩
  | 84 => ⟨S8192x1024, .f32⟩
  | 85 => ⟨S4096x1024, .f32⟩
  | 86 => ⟨S12288x1024, .f32⟩
  | _ => ⟨S16x256x1024, .f32⟩

abbrev hbmTy (i : Nat) : BufTy := match i / 128 with
  | 0 => hbmTy0_0 i
  | 1 => hbmTy0_1 i
  | _ => ⟨S16x256x1024, .f32⟩

abbrev bufTy : (tb : Table) → Fin (tcTables nBuf tb) → BufTy
  | .hbm, ⟨i, _⟩ => hbmTy i
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_2 : Ref sig .tc := ⟨.hbm, 54, rfl⟩
abbrev main_v41 : Ref sig .tc := ⟨.hbm, 55, rfl⟩
abbrev main_v42 : Ref sig .tc := ⟨.hbm, 56, rfl⟩
abbrev main_cst_3 : Ref sig .tc := ⟨.hbm, 57, rfl⟩
abbrev main_v43 : Ref sig .tc := ⟨.hbm, 58, rfl⟩
abbrev main_v44 : Ref sig .tc := ⟨.hbm, 59, rfl⟩
abbrev main_cst_4 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_5 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_call0_v0 : Ref sig .tc := ⟨.hbm, 79, rfl⟩
abbrev main_call0_v1 : Ref sig .tc := ⟨.hbm, 80, rfl⟩
abbrev main_call0_cst : Ref sig .tc := ⟨.hbm, 81, rfl⟩
abbrev main_call0_v2 : Ref sig .tc := ⟨.hbm, 82, rfl⟩
abbrev main_call0_v3 : Ref sig .tc := ⟨.hbm, 83, rfl⟩
abbrev main_call0_cst_0 : Ref sig .tc := ⟨.hbm, 84, rfl⟩
abbrev main_call0_v4 : Ref sig .tc := ⟨.hbm, 85, rfl⟩
abbrev main_call0_v5 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_6 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_7 : Ref sig .tc := ⟨.hbm, 94, rfl⟩
abbrev main_v68 : Ref sig .tc := ⟨.hbm, 95, rfl⟩
abbrev main_v69 : Ref sig .tc := ⟨.hbm, 96, rfl⟩
abbrev main_cst_8 : Ref sig .tc := ⟨.hbm, 97, rfl⟩
abbrev main_v70 : Ref sig .tc := ⟨.hbm, 98, rfl⟩
abbrev main_v71 : Ref sig .tc := ⟨.hbm, 99, rfl⟩
abbrev main_cst_9 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_10 : Ref sig .tc := ⟨.hbm, 127, rfl⟩
abbrev main_v98 : Ref sig .tc := ⟨.hbm, 128, rfl⟩
abbrev main_v99 : Ref sig .tc := ⟨.hbm, 129, rfl⟩
abbrev main_cst_11 : Ref sig .tc := ⟨.hbm, 130, rfl⟩
abbrev main_v100 : Ref sig .tc := ⟨.hbm, 131, rfl⟩
abbrev main_v101 : Ref sig .tc := ⟨.hbm, 132, rfl⟩
abbrev main_cst_12 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_cst_13 : Ref sig .tc := ⟨.hbm, 154, rfl⟩
abbrev main_v122 : Ref sig .tc := ⟨.hbm, 155, rfl⟩
abbrev main_v123 : Ref sig .tc := ⟨.hbm, 156, rfl⟩
abbrev main_cst_14 : Ref sig .tc := ⟨.hbm, 157, rfl⟩
abbrev main_v124 : Ref sig .tc := ⟨.hbm, 158, rfl⟩
abbrev main_v125 : Ref sig .tc := ⟨.hbm, 159, rfl⟩
abbrev main_cst_15 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_cst_16 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_call1_v0 : Ref sig .tc := ⟨.hbm, 179, rfl⟩
abbrev main_call1_v1 : Ref sig .tc := ⟨.hbm, 180, rfl⟩
abbrev main_call1_cst : Ref sig .tc := ⟨.hbm, 181, rfl⟩
abbrev main_call1_v2 : Ref sig .tc := ⟨.hbm, 182, rfl⟩
abbrev main_call1_v3 : Ref sig .tc := ⟨.hbm, 183, rfl⟩
abbrev main_call1_cst_0 : Ref sig .tc := ⟨.hbm, 184, rfl⟩
abbrev main_call1_v4 : Ref sig .tc := ⟨.hbm, 185, rfl⟩
abbrev main_call1_v5 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_cst_17 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_cst_18 : Ref sig .tc := ⟨.hbm, 194, rfl⟩
abbrev main_v149 : Ref sig .tc := ⟨.hbm, 195, rfl⟩
abbrev main_v150 : Ref sig .tc := ⟨.hbm, 196, rfl⟩
abbrev main_cst_19 : Ref sig .tc := ⟨.hbm, 197, rfl⟩
abbrev main_v151 : Ref sig .tc := ⟨.hbm, 198, rfl⟩
abbrev main_v152 : Ref sig .tc := ⟨.hbm, 199, rfl⟩
abbrev main_cst_20 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩

abbrev nD : Nat := 1
abbrev τ : Topo := Topo.v7x

variable {F : FTy → Type} [FloatOps F]
-- ==== Half21.lean ====
abbrev S16x256x1024 : Shape := ⟨3, ![16, 256, 1024]⟩
abbrev S8x1024x1024 : Shape := ⟨3, ![8, 1024, 1024]⟩
abbrev S1x9x1024 : Shape := ⟨3, ![1, 9, 1024]⟩
abbrev S8x9x1024 : Shape := ⟨3, ![8, 9, 1024]⟩
abbrev S4x6x1024 : Shape := ⟨3, ![4, 6, 1024]⟩
abbrev S4x2x1024x5632 : Shape := ⟨4, ![4, 2, 1024, 5632]⟩
abbrev S4x2x2816x1024 : Shape := ⟨4, ![4, 2, 2816, 1024]⟩
abbrev S1x1024x1024 : Shape := ⟨3, ![1, 1024, 1024]⟩
abbrev S8192x1024 : Shape := ⟨2, ![8192, 1024]⟩
abbrev S4096x1024 : Shape := ⟨2, ![4096, 1024]⟩
abbrev S12288x1024 : Shape := ⟨2, ![12288, 1024]⟩
abbrev S_ : Shape := ⟨0, ![]⟩
abbrev S7x9x1024 : Shape := ⟨3, ![7, 9, 1024]⟩
abbrev S16x9x1024 : Shape := ⟨3, ![16, 9, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S512x1024 : Shape := ⟨2, ![512, 1024]⟩
abbrev S1x6x1024 : Shape := ⟨3, ![1, 6, 1024]⟩
abbrev S1x1x64x5632 : Shape := ⟨4, ![1, 1, 64, 5632]⟩
abbrev S1x1x128x1024 : Shape := ⟨4, ![1, 1, 128, 1024]⟩
abbrev S64x5632 : Shape := ⟨2, ![64, 5632]⟩
abbrev S128x1024 : Shape := ⟨2, ![128, 1024]⟩
abbrev S9x1024 : Shape := ⟨2, ![9, 1024]⟩
abbrev S6x1024 : Shape := ⟨2, ![6, 1024]⟩
abbrev S1024x1024 : Shape := ⟨2, ![1024, 1024]⟩
abbrev S1x1024 : Shape := ⟨2, ![1, 1024]⟩
abbrev S512 : Shape := ⟨1, ![512]⟩
abbrev S512x1 : Shape := ⟨2, ![512, 1]⟩
abbrev S1024x768 : Shape := ⟨2, ![1024, 768]⟩
abbrev S512x768 : Shape := ⟨2, ![512, 768]⟩
abbrev S768x1024 : Shape := ⟨2, ![768, 1024]⟩

abbrev nBuf : Space → Nat
  | .hbm => 29
  | .vmem => 22
  | .smem => 0
  | _ => 0

abbrev bufTy : (tb : Table) → Fin (tcTables nBuf tb) → BufTy
  | .hbm, ⟨0, _⟩ => ⟨S16x256x1024, .f32⟩
  | .hbm, ⟨1, _⟩ => ⟨S8x1024x1024, .f32⟩
  | .hbm, ⟨2, _⟩ => ⟨S1x9x1024, .f32⟩
  | .hbm, ⟨3, _⟩ => ⟨S8x9x1024, .f32⟩
  | .hbm, ⟨4, _⟩ => ⟨S4x6x1024, .f32⟩
  | .hbm, ⟨5, _⟩ => ⟨S4x2x1024x5632, .f32⟩
  | .hbm, ⟨6, _⟩ => ⟨S4x2x2816x1024, .f32⟩
  | .hbm, ⟨7, _⟩ => ⟨S16x256x1024, .f32⟩
  | .hbm, ⟨8, _⟩ => ⟨S8x1024x1024, .f32⟩
  | .hbm, ⟨9, _⟩ => ⟨S1x1024x1024, .f32⟩
  | .hbm, ⟨10, _⟩ => ⟨S8192x1024, .f32⟩
  | .hbm, ⟨11, _⟩ => ⟨S4096x1024, .f32⟩
  | .hbm, ⟨12, _⟩ => ⟨S12288x1024, .f32⟩
  | .hbm, ⟨13, _⟩ => ⟨S_, .f32⟩
  | .hbm, ⟨14, _⟩ => ⟨S7x9x1024, .f32⟩
  | .hbm, ⟨15, _⟩ => ⟨S16x9x1024, .f32⟩
  | .hbm, ⟨16, _⟩ => ⟨S1x1x1024x5632, .f32⟩
  | .hbm, ⟨17, _⟩ => ⟨S1024x5632, .f32⟩
  | .hbm, ⟨18, _⟩ => ⟨S1024x5632, .bf16⟩
  | .hbm, ⟨19, _⟩ => ⟨S1x1x2816x1024, .f32⟩
  | .hbm, ⟨20, _⟩ => ⟨S2816x1024, .f32⟩
  | .hbm, ⟨21, _⟩ => ⟨S2816x1024, .bf16⟩
  | .hbm, ⟨22, _⟩ => ⟨S8192x1024, .f32⟩
  | .hbm, ⟨23, _⟩ => ⟨S8192x1024, .bf16⟩
  | .hbm, ⟨24, _⟩ => ⟨S4096x1024, .f32⟩
  | .hbm, ⟨25, _⟩ => ⟨S4096x1024, .bf16⟩
  | .hbm, ⟨26, _⟩ => ⟨S12288x1024, .f32⟩
  | .hbm, ⟨27, _⟩ => ⟨S1024x5632, .bf16⟩
  | .hbm, ⟨28, _⟩ => ⟨S2816x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024x1024, .f32⟩
  | .local _ .vmem, ⟨7, _⟩ => ⟨S1x9x1024, .f32⟩
  | .local _ .vmem, ⟨8, _⟩ => ⟨S1x9x1024, .f32⟩
  | .local _ .vmem, ⟨9, _⟩ => ⟨S1x6x1024, .f32⟩
  | .local _ .vmem, ⟨10, _⟩ => ⟨S1024x5632, .bf16⟩
  | .local _ .vmem, ⟨11, _⟩ => ⟨S2816x1024, .bf16⟩
  | .local _ .vmem, ⟨12, _⟩ => ⟨S1x1x64x5632, .f32⟩
  | .local _ .vmem, ⟨13, _⟩ => ⟨S1x1x64x5632, .f32⟩
  | .local _ .vmem, ⟨14, _⟩ => ⟨S1x1x128x1024, .f32⟩
  | .local _ .vmem, ⟨15, _⟩ => ⟨S1x1x128x1024, .f32⟩
  | .local _ .vmem, ⟨16, _⟩ => ⟨S512x1024, .f32⟩
  | .local _ .vmem, ⟨17, _⟩ => ⟨S512x1024, .f32⟩
  | .local _ .vmem, ⟨18, _⟩ => ⟨S64x5632, .bf16⟩
  | .local _ .vmem, ⟨19, _⟩ => ⟨S64x5632, .bf16⟩
  | .local _ .vmem, ⟨20, _⟩ => ⟨S128x1024, .bf16⟩
  | .local _ .vmem, ⟨21, _⟩ => ⟨S128x1024, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.minsi v16 c8_i32
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c15_i32 : BitVec 32 := 15#32
  let v0 : BitVec 32 := Scalar.minsi arg0 c15_i32
  let c3_i32 : BitVec 32 := 3#32
  let c0_i32 : BitVec 32 := 0#32
  let c0_i32_0 : BitVec 32 := 0#32
  let c0_i32_1 : BitVec 32 := 0#32
  ![c3_i32.toNat, c0_i32.toNat, v0.toNat, c0_i32_0.toNat]

def cc0_transform_9 (i : grid0.Coords) : Fin 4 → Nat :=
  let arg0 : BitVec 32 := BitVec.ofNat 32 (i 0).val
  let c21_i32 : BitVec 32 := 21#32
  let v0 : BitVec 32 := Scalar.minsi arg0 c21_i32
  let c3_i32 : BitVec 32 := 3#32
  let c0_i32 : BitVec 32 := 0#32
  let c0_i32_0 : BitVec 32 := 0#32
  let c0_i32_1 : BitVec 32 := 0#32
  ![c3_i32.toNat, c0_i32.toNat, v0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c21_i32 : BitVec 32 := 21#32
  let v0 : BitVec 32 := Scalar.minsi arg0 c21_i32
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x9x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x6x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x64x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Half21RefIdeal.lean ====
abbrev S16x256x1024 : Shape := ⟨3, ![16, 256, 1024]⟩
abbrev S8x1024x1024 : Shape := ⟨3, ![8, 1024, 1024]⟩
abbrev S1x9x1024 : Shape := ⟨3, ![1, 9, 1024]⟩
abbrev S8x9x1024 : Shape := ⟨3, ![8, 9, 1024]⟩
abbrev S4x6x1024 : Shape := ⟨3, ![4, 6, 1024]⟩
abbrev S4x2x1024x5632 : Shape := ⟨4, ![4, 2, 1024, 5632]⟩
abbrev S4x2x2816x1024 : Shape := ⟨4, ![4, 2, 2816, 1024]⟩
abbrev S1x1024x1024 : Shape := ⟨3, ![1, 1024, 1024]⟩
abbrev S1x6x1024 : Shape := ⟨3, ![1, 6, 1024]⟩
abbrev S6x1024 : Shape := ⟨2, ![6, 1024]⟩
abbrev S8x1x1024 : Shape := ⟨3, ![8, 1, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8x1024 : Shape := ⟨2, ![8, 1024]⟩
abbrev S8x1024x1 : Shape := ⟨3, ![8, 1024, 1]⟩
abbrev S1x1x1024 : Shape := ⟨3, ![1, 1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S8x1024x5632 : Shape := ⟨3, ![8, 1024, 5632]⟩
abbrev S8x1024x2816 : Shape := ⟨3, ![8, 1024, 2816]⟩
abbrev S16x256 : Shape := ⟨2, ![16, 256]⟩
abbrev S16x256x1 : Shape := ⟨3, ![16, 256, 1]⟩
abbrev S16x256x5632 : Shape := ⟨3, ![16, 256, 5632]⟩
abbrev S16x256x2816 : Shape := ⟨3, ![16, 256, 2816]⟩
abbrev S8192x1024 : Shape := ⟨2, ![8192, 1024]⟩
abbrev S4096x1024 : Shape := ⟨2, ![4096, 1024]⟩
abbrev S12288x1024 : Shape := ⟨2, ![12288, 1024]⟩

abbrev nBuf : Space → Nat
  | .hbm => 213
  | .vmem => 0
  | .smem => 0
  | _ => 0

abbrev hbmTy0_0 (i : Nat) : BufTy := match i % 128 with
  | 0 => ⟨S16x256x1024, .f32⟩
  | 1 => ⟨S8x1024x1024, .f32⟩
  | 2 => ⟨S1x9x1024, .f32⟩
  | 3 => ⟨S8x9x1024, .f32⟩
  | 4 => ⟨S4x6x1024, .f32⟩
  | 5 => ⟨S4x2x1024x5632, .f32⟩
  | 6 => ⟨S4x2x2816x1024, .f32⟩
  | 7 => ⟨S16x256x1024, .f32⟩
  | 8 => ⟨S8x1024x1024, .f32⟩
  | 9 => ⟨S1x1024x1024, .f32⟩
  | 10 => ⟨S1x6x1024, .f32⟩
  | 11 => ⟨S6x1024, .f32⟩
  | 12 => ⟨S8x1x1024, .f32⟩
  | 13 => ⟨S8x1x1024, .f32⟩
  | 14 => ⟨S8x1x1024, .f32⟩
  | 15 => ⟨S8x1x1024, .f32⟩
  | 16 => ⟨S8x1x1024, .f32⟩
  | 17 => ⟨S8x1x1024, .f32⟩
  | 18 => ⟨S8x1x1024, .f32⟩
  | 19 => ⟨S8x1x1024, .f32⟩
  | 20 => ⟨S8x1x1024, .f32⟩
  | 21 => ⟨S1024x1024, .f32⟩
  | 22 => ⟨S8x1024x1024, .f32⟩
  | 23 => ⟨S1x1024, .f32⟩
  | 24 => ⟨S1024, .f32⟩
  | 25 => ⟨S8x1024x1024, .f32⟩
  | 26 => ⟨S_, .f32⟩
  | 27 => ⟨S8x1024, .f32⟩
  | 28 => ⟨S8x1024x1, .f32⟩
  | 29 => ⟨S_, .f32⟩
  | 30 => ⟨S8x1024x1, .f32⟩
  | 31 => ⟨S8x1024x1, .f32⟩
  | 32 => ⟨S_, .f32⟩
  | 33 => ⟨S8x1024x1, .f32⟩
  | 34 => ⟨S8x1024x1, .f32⟩
  | 35 => ⟨S8x1024x1, .f32⟩
  | 36 => ⟨S8x1024x1024, .f32⟩
  | 37 => ⟨S8x1024x1024, .f32⟩
  | 38 => ⟨S1x1x1024, .f32⟩
  | 39 => ⟨S8x1024x1024, .f32⟩
  | 40 => ⟨S8x1024x1024, .f32⟩
  | 41 => ⟨S8x1024x1024, .f32⟩
  | 42 => ⟨S8x1024x1024, .f32⟩
  | 43 => ⟨S8x1024x1024, .f32⟩
  | 44 => ⟨S1x1024, .f32⟩
  | 45 => ⟨S1024, .f32⟩
  | 46 => ⟨S1x1024, .f32⟩
  | 47 => ⟨S1024, .f32⟩
  | 48 => ⟨S1x1x1024x5632, .f32⟩
  | 49 => ⟨S1024x5632, .f32⟩
  | 50 => ⟨S1x1x2816x1024, .f32⟩
  | 51 => ⟨S2816x1024, .f32⟩
  | 52 => ⟨S8x1024x1024, .f32⟩
  | 53 => ⟨S_, .f32⟩
  | 54 => ⟨S8x1024, .f32⟩
  | 55 => ⟨S8x1024x1, .f32⟩
  | 56 => ⟨S_, .f32⟩
  | 57 => ⟨S8x1024x1, .f32⟩
  | 58 => ⟨S8x1024x1, .f32⟩
  | 59 => ⟨S_, .f32⟩
  | 60 => ⟨S8x1024x1, .f32⟩
  | 61 => ⟨S8x1024x1, .f32⟩
  | 62 => ⟨S8x1024x1, .f32⟩
  | 63 => ⟨S8x1024x1024, .f32⟩
  | 64 => ⟨S8x1024x1024, .f32⟩
  | 65 => ⟨S1x1x1024, .f32⟩
  | 66 => ⟨S8x1024x1024, .f32⟩
  | 67 => ⟨S8x1024x1024, .f32⟩
  | 68 => ⟨S_, .f32⟩
  | 69 => ⟨S8x1x1024, .f32⟩
  | 70 => ⟨S8x1x1024, .f32⟩
  | 71 => ⟨S8x1024x1024, .f32⟩
  | 72 => ⟨S8x1024x1024, .f32⟩
  | 73 => ⟨S8x1024x1024, .f32⟩
  | 74 => ⟨S8x1024x1024, .f32⟩
  | 75 => ⟨S8x1024x5632, .f32⟩
  | 76 => ⟨S8x1024x2816, .f32⟩
  | 77 => ⟨S8x1024x2816, .f32⟩
  | 78 => ⟨S8x1024x2816, .f32⟩
  | 79 => ⟨S8x1024x2816, .f32⟩
  | 80 => ⟨S_, .f32⟩
  | 81 => ⟨S8x1024x2816, .f32⟩
  | 82 => ⟨S8x1024x2816, .f32⟩
  | 83 => ⟨S_, .f32⟩
  | 84 => ⟨S8x1024x2816, .f32⟩
  | 85 => ⟨S8x1024x2816, .f32⟩
  | 86 => ⟨S8x1024x2816, .f32⟩
  | 87 => ⟨S8x1024x2816, .f32⟩
  | 88 => ⟨S8x1024x1024, .f32⟩
  | 89 => ⟨S_, .f32⟩
  | 90 => ⟨S8x1x1024, .f32⟩
  | 91 => ⟨S8x1x1024, .f32⟩
  | 92 => ⟨S8x1024x1024, .f32⟩
  | 93 => ⟨S_, .f32⟩
  | 94 => ⟨S8x1024, .f32⟩
  | 95 => ⟨S8x1024x1, .f32⟩
  | 96 => ⟨S_, .f32⟩
  | 97 => ⟨S8x1024x1, .f32⟩
  | 98 => ⟨S8x1024x1, .f32⟩
  | 99 => ⟨S_, .f32⟩
  | 100 => ⟨S8x1024x1, .f32⟩
  | 101 => ⟨S8x1024x1, .f32⟩
  | 102 => ⟨S8x1024x1, .f32⟩
  | 103 => ⟨S8x1024x1024, .f32⟩
  | 104 => ⟨S8x1024x1024, .f32⟩
  | 105 => ⟨S1x1x1024, .f32⟩
  | 106 => ⟨S8x1024x1024, .f32⟩
  | 107 => ⟨S8x1024x1024, .f32⟩
  | 108 => ⟨S8x1024x1024, .f32⟩
  | 109 => ⟨S8x1024x1024, .f32⟩
  | 110 => ⟨S8x1024x1024, .f32⟩
  | 111 => ⟨S1x1x1024, .f32⟩
  | 112 => ⟨S1x1x1024, .f32⟩
  | 113 => ⟨S1x1x1024, .f32⟩
  | 114 => ⟨S1x1x1024, .f32⟩
  | 115 => ⟨S1x1x1024, .f32⟩
  | 116 => ⟨S1x1x1024, .f32⟩
  | 117 => ⟨S1x1x1024, .f32⟩
  | 118 => ⟨S1x1x1024, .f32⟩
  | 119 => ⟨S1x1x1024, .f32⟩
  | 120 => ⟨S1024x1024, .f32⟩
  | 121 => ⟨S16x256x1024, .f32⟩
  | 122 => ⟨S1x1024, .f32⟩
  | 123 => ⟨S1024, .f32⟩
  | 124 => ⟨S16x256x1024, .f32⟩
  | 125 => ⟨S_, .f32⟩
  | 126 => ⟨S16x256, .f32⟩
  | 127 => ⟨S16x256x1, .f32⟩
  | _ => ⟨S16x256x1024, .f32⟩

abbrev hbmTy0_1 (i : Nat) : BufTy := match i % 128 with
  | 0 => ⟨S_, .f32⟩
  | 1 => ⟨S16x256x1, .f32⟩
  | 2 => ⟨S16x256x1, .f32⟩
  | 3 => ⟨S_, .f32⟩
  | 4 => ⟨S16x256x1, .f32⟩
  | 5 => ⟨S16x256x1, .f32⟩
  | 6 => ⟨S16x256x1, .f32⟩
  | 7 => ⟨S16x256x1024, .f32⟩
  | 8 => ⟨S16x256x1024, .f32⟩
  | 9 => ⟨S1x1x1024, .f32⟩
  | 10 => ⟨S16x256x1024, .f32⟩
  | 11 => ⟨S16x256x1024, .f32⟩
  | 12 => ⟨S16x256x1024, .f32⟩
  | 13 => ⟨S16x256x1024, .f32⟩
  | 14 => ⟨S16x256x1024, .f32⟩
  | 15 => ⟨S1x1024, .f32⟩
  | 16 => ⟨S1024, .f32⟩
  | 17 => ⟨S1x1024, .f32⟩
  | 18 => ⟨S1024, .f32⟩
  | 19 => ⟨S1x1x1024x5632, .f32⟩
  | 20 => ⟨S1024x5632, .f32⟩
  | 21 => ⟨S1x1x2816x1024, .f32⟩
  | 22 => ⟨S2816x1024, .f32⟩
  | 23 => ⟨S16x256x1024, .f32⟩
  | 24 => ⟨S_, .f32⟩
  | 25 => ⟨S16x256, .f32⟩
  | 26 => ⟨S16x256x1, .f32⟩
  | 27 => ⟨S_, .f32⟩
  | 28 => ⟨S16x256x1, .f32⟩
  | 29 => ⟨S16x256x1, .f32⟩
  | 30 => ⟨S_, .f32⟩
  | 31 => ⟨S16x256x1, .f32⟩
  | 32 => ⟨S16x256x1, .f32⟩
  | 33 => ⟨S16x256x1, .f32⟩
  | 34 => ⟨S16x256x1024, .f32⟩
  | 35 => ⟨S16x256x1024, .f32⟩
  | 36 => ⟨S1x1x1024, .f32⟩
  | 37 => ⟨S16x256x1024, .f32⟩
  | 38 => ⟨S16x256x1024, .f32⟩
  | 39 => ⟨S_, .f32⟩
  | 40 => ⟨S1x1x1024, .f32⟩
  | 41 => ⟨S1x1x1024, .f32⟩
  | 42 => ⟨S16x256x1024, .f32⟩
  | 43 => ⟨S16x256x1024, .f32⟩
  | 44 => ⟨S16x256x1024, .f32⟩
  | 45 => ⟨S16x256x1024, .f32⟩
  | 46 => ⟨S16x256x5632, .f32⟩
  | 47 => ⟨S16x256x2816, .f32⟩
  | 48 => ⟨S16x256x2816, .f32⟩
  | 49 => ⟨S16x256x2816, .f32⟩
  | 50 => ⟨S16x256x2816, .f32⟩
  | 51 => ⟨S_, .f32⟩
  | 52 => ⟨S16x256x2816, .f32⟩
  | 53 => ⟨S16x256x2816, .f32⟩
  | 54 => ⟨S_, .f32⟩
  | 55 => ⟨S16x256x2816, .f32⟩
  | 56 => ⟨S16x256x2816, .f32⟩
  | 57 => ⟨S16x256x2816, .f32⟩
  | 58 => ⟨S16x256x2816, .f32⟩
  | 59 => ⟨S16x256x1024, .f32⟩
  | 60 => ⟨S_, .f32⟩
  | 61 => ⟨S1x1x1024, .f32⟩
  | 62 => ⟨S1x1x1024, .f32⟩
  | 63 => ⟨S16x256x1024, .f32⟩
  | 64 => ⟨S_, .f32⟩
  | 65 => ⟨S16x256, .f32⟩
  | 66 => ⟨S16x256x1, .f32⟩
  | 67 => ⟨S_, .f32⟩
  | 68 => ⟨S16x256x1, .f32⟩
  | 69 => ⟨S16x256x1, .f32⟩
  | 70 => ⟨S_, .f32⟩
  | 71 => ⟨S16x256x1, .f32⟩
  | 72 => ⟨S16x256x1, .f32⟩
  | 73 => ⟨S16x256x1, .f32⟩
  | 74 => ⟨S16x256x1024, .f32⟩
  | 75 => ⟨S16x256x1024, .f32⟩
  | 76 => ⟨S1x1x1024, .f32⟩
  | 77 => ⟨S16x256x1024, .f32⟩
  | 78 => ⟨S16x256x1024, .f32⟩
  | 79 => ⟨S16x256x1024, .f32⟩
  | 80 => ⟨S16x256x1024, .f32⟩
  | 81 => ⟨S16x256x1024, .f32⟩
  | 82 => ⟨S8192x1024, .f32⟩
  | 83 => ⟨S4096x1024, .f32⟩
  | 84 => ⟨S12288x1024, .f32⟩
  | _ => ⟨S16x256x1024, .f32⟩

abbrev hbmTy (i : Nat) : BufTy := match i / 128 with
  | 0 => hbmTy0_0 i
  | 1 => hbmTy0_1 i
  | _ => ⟨S16x256x1024, .f32⟩

abbrev bufTy : (tb : Table) → Fin (tcTables nBuf tb) → BufTy
  | .hbm, ⟨i, _⟩ => hbmTy i
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_2 : Ref sig .tc := ⟨.hbm, 53, rfl⟩
abbrev main_v40 : Ref sig .tc := ⟨.hbm, 54, rfl⟩
abbrev main_v41 : Ref sig .tc := ⟨.hbm, 55, rfl⟩
abbrev main_cst_3 : Ref sig .tc := ⟨.hbm, 56, rfl⟩
abbrev main_v42 : Ref sig .tc := ⟨.hbm, 57, rfl⟩
abbrev main_v43 : Ref sig .tc := ⟨.hbm, 58, rfl⟩
abbrev main_cst_4 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_5 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_call0_v0 : Ref sig .tc := ⟨.hbm, 78, rfl⟩
abbrev main_call0_v1 : Ref sig .tc := ⟨.hbm, 79, rfl⟩
abbrev main_call0_cst : Ref sig .tc := ⟨.hbm, 80, rfl⟩
abbrev main_call0_v2 : Ref sig .tc := ⟨.hbm, 81, rfl⟩
abbrev main_call0_v3 : Ref sig .tc := ⟨.hbm, 82, rfl⟩
abbrev main_call0_cst_0 : Ref sig .tc := ⟨.hbm, 83, rfl⟩
abbrev main_call0_v4 : Ref sig .tc := ⟨.hbm, 84, rfl⟩
abbrev main_call0_v5 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_6 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_7 : Ref sig .tc := ⟨.hbm, 93, rfl⟩
abbrev main_v67 : Ref sig .tc := ⟨.hbm, 94, rfl⟩
abbrev main_v68 : Ref sig .tc := ⟨.hbm, 95, rfl⟩
abbrev main_cst_8 : Ref sig .tc := ⟨.hbm, 96, rfl⟩
abbrev main_v69 : Ref sig .tc := ⟨.hbm, 97, rfl⟩
abbrev main_v70 : Ref sig .tc := ⟨.hbm, 98, rfl⟩
abbrev main_cst_9 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_cst_10 : Ref sig .tc := ⟨.hbm, 125, rfl⟩
abbrev main_v96 : Ref sig .tc := ⟨.hbm, 126, rfl⟩
abbrev main_v97 : Ref sig .tc := ⟨.hbm, 127, rfl⟩
abbrev main_cst_11 : Ref sig .tc := ⟨.hbm, 128, rfl⟩
abbrev main_v98 : Ref sig .tc := ⟨.hbm, 129, rfl⟩
abbrev main_v99 : Ref sig .tc := ⟨.hbm, 130, rfl⟩
abbrev main_cst_12 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_cst_13 : Ref sig .tc := ⟨.hbm, 152, rfl⟩
abbrev main_v120 : Ref sig .tc := ⟨.hbm, 153, rfl⟩
abbrev main_v121 : Ref sig .tc := ⟨.hbm, 154, rfl⟩
abbrev main_cst_14 : Ref sig .tc := ⟨.hbm, 155, rfl⟩
abbrev main_v122 : Ref sig .tc := ⟨.hbm, 156, rfl⟩
abbrev main_v123 : Ref sig .tc := ⟨.hbm, 157, rfl⟩
abbrev main_cst_15 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_cst_16 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_call1_v0 : Ref sig .tc := ⟨.hbm, 177, rfl⟩
abbrev main_call1_v1 : Ref sig .tc := ⟨.hbm, 178, rfl⟩
abbrev main_call1_cst : Ref sig .tc := ⟨.hbm, 179, rfl⟩
abbrev main_call1_v2 : Ref sig .tc := ⟨.hbm, 180, rfl⟩
abbrev main_call1_v3 : Ref sig .tc := ⟨.hbm, 181, rfl⟩
abbrev main_call1_cst_0 : Ref sig .tc := ⟨.hbm, 182, rfl⟩
abbrev main_call1_v4 : Ref sig .tc := ⟨.hbm, 183, rfl⟩
abbrev main_call1_v5 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_cst_17 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_cst_18 : Ref sig .tc := ⟨.hbm, 192, rfl⟩
abbrev main_v147 : Ref sig .tc := ⟨.hbm, 193, rfl⟩
abbrev main_v148 : Ref sig .tc := ⟨.hbm, 194, rfl⟩
abbrev main_cst_19 : Ref sig .tc := ⟨.hbm, 195, rfl⟩
abbrev main_v149 : Ref sig .tc := ⟨.hbm, 196, rfl⟩
abbrev main_v150 : Ref sig .tc := ⟨.hbm, 197, rfl⟩
abbrev main_cst_20 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩

abbrev nD : Nat := 1
abbrev τ : Topo := Topo.v7x

variable {F : FTy → Type} [FloatOps F]
-- ==== Proof.CtxBlock.lean ====
module

public import proofs.«01_k».proof.Proof.Gen.CtxIdeal.Value
public import Idealize.ShloMosaic.Lib.Pipeline.ValueKit
public import Idealize.ShloMosaic.Lib.Pipeline.ReadBack
public import Idealize.ShloMosaic.Lib.Pointwise

@[expose] public section

set_option maxRecDepth 16384
noncomputable section
open Idealize.ShloMosaic Idealize.ShloMosaic.TcCoe Idealize.SL.Sem
open Idealize.ShloMosaic.Pipeline (Dat)
namespace Cert.CtxIdeal.Block
open Cert.CtxIdeal Cert.CtxIdeal.Gen
variable (m : (ℓ : Loc nD τ sig) → Buf (Elt Ideal) ℓ)

/-- The named constant `log2 e` as the body reads it. -/
abbrev L2E : EReal := Named.named (F := Ideal) (φ := .f32) κ "log2e" 1069066811#32

/-- The named constant `(1/8) log2 e` the body multiplies the queries by. -/
abbrev SC : EReal := Named.named (F := Ideal) (φ := .f32) κ "scale" 0x3E38AA3B#32

/-- One head's output at one query row and one lane, from the sink logit `a`, the row's scores `s` (in base-2
    units) and the keys' values `w`: the weighted sum over the total weight, the largest score taken out. -/
def side (a : EReal) (s w : Fin 256 → EReal) : EReal :=
  Ideal.div (∑ k, FloatOps.exp2 (F := Ideal) (φ := .f32) (s k - max (a * L2E) (Finset.fold max (Ideal.ofBits .f32 4286578688#32) s Finset.univ)) * w k)
    ((∑ k, FloatOps.exp2 (F := Ideal) (φ := .f32) (s k - max (a * L2E) (Finset.fold max (Ideal.ofBits .f32 4286578688#32) s Finset.univ)) * 1)
      + FloatOps.exp2 (F := Ideal) (φ := .f32) (a * L2E - max (a * L2E) (Finset.fold max (Ideal.ofBits .f32 4286578688#32) s Finset.univ)))

/-- A sum over 128 lanes of which only the low 64 count. -/
theorem sum_low (f : Fin 128 → EReal) :
    (∑ l : Fin 128, if (l : ℕ) < 64 then f l else 0) = ∑ d : Fin 64, f ⟨d, by omega⟩ := by
  rw [show (∑ l : Fin 128, if (l : ℕ) < 64 then f l else 0) = ∑ l : Fin (64 + 64), if (l : ℕ) < 64 then f l else 0 from rfl,
    Fin.sum_univ_add]
  simp [Fin.castAdd, Fin.natAdd, Fin.castLE]

/-- A sum over 128 lanes of which only the high 64 count. -/
theorem sum_high (f : Fin 128 → EReal) :
    (∑ l : Fin 128, if (l : ℕ) < 64 then 0 else f l) = ∑ d : Fin 64, f ⟨64 + d, by omega⟩ := by
  rw [show (∑ l : Fin 128, if (l : ℕ) < 64 then 0 else f l) = ∑ l : Fin (64 + 64), if (l : ℕ) < 64 then 0 else f l from rfl,
    Fin.sum_univ_add]
  simp [Fin.castAdd, Fin.natAdd, Fin.castLE]

/-- What one grid point leaves in the output block, from its blocks of sink logits, queries, keys and values. -/
def gb (s : FVec Ideal S16 .f32) (q : FVec Ideal S256x1024 .f32) (k v : FVec Ideal S256x256 .bf16) (y : S256x1024.Idx) : EReal :=
  side (s (ix1 ⟨(y 1 : ℕ) / 64, by have := (y 1).isLt; simp at this; omega⟩))
    (fun j => ∑ d : Fin 64, q (ix2 (y 0) ⟨(y 1 : ℕ) / 64 * 64 + d, by have := (y 1).isLt; simp at this; omega⟩) * SC
      * k (ix2 j ⟨(y 1 : ℕ) / 256 * 64 + d, by have := (y 1).isLt; simp at this; omega⟩))
    (fun j => v (ix2 j ⟨(y 1 : ℕ) / 256 * 64 + (y 1 : ℕ) % 64, by have := (y 1).isLt; simp at this; omega⟩))

set_option maxHeartbeats 8000000 in
/-- The output block after one grid point is `gb` of the input blocks, at every index. -/
theorem point (c : Dev nD) (t : Fin cfg0.N) (y : S256x1024.Idx) :
    outsAt0 m c t y = gb (iblk m c 0 t) (iblk m c 1 t) (iblk m c 2 t) (iblk m c 3 t) y := by
  unfold outsAt0; frame_open
  simp (disch := decide) only [↓View.readCov_skip, ↓View.readCov_cons_toLoadRect, View.readAt_eq_ld, View.read_writes_junk_eq_canon, View.ld_unit_lit', Memref.IsWhole.read_unread]
  generalize iblk m c 0 t = s
  generalize iblk m c 1 t = q
  generalize iblk m c 2 t = k
  generalize iblk m c 3 t = v
  canon_tiles x h
  all_goals
    open_payloads
    unfold gb side
    pointwise [hlo_ix, h0, h1]
    try simp only [Memref.IsWhole.read_unread]
    have hx1 : (x 1 : ℕ) < 128 := (x 1).isLt
    have hx0 : (x 0 : ℕ) < 256 := (x 0).isLt
    have e0 : y 0 = x 0 := Fin.ext (by simpa using h0)
    simp (disch := omega) only [hlo_ix, decide_eq_true_eq, sum_low, sum_high, e0]
    rcases lt_or_ge (x 1 : ℕ) 64 with hl | hl
    · simp (disch := omega) only [hlo_ix, if_pos hl, if_neg (show ¬ ((x 1 : ℕ) + 128 - 64) % 128 < 64 by omega), mul_one]
      blk_point []
    · simp (disch := omega) only [hlo_ix, if_neg (show ¬ (x 1 : ℕ) < 64 by omega), if_pos (show ((x 1 : ℕ) + 128 - 64) % 128 < 64 by omega), mul_one]
      blk_point []

end Cert.CtxIdeal.Block
-- ==== Proof.CtxMath.lean ====
module

public import proofs.«01_k».proof.Proof.CtxBlock

@[expose] public section

set_option maxRecDepth 16384
noncomputable section
open Idealize.ShloMosaic Idealize.ShloMosaic.TcCoe
namespace Cert.CtxIdeal.Block
open Cert.CtxIdeal

/-- A coerced finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A positive real factor moves into a sum of extended reals. -/
theorem sum_mul_coe {ι : Type*} (s : Finset ι) (f : ι → EReal) {r : ℝ} (hr : 0 < r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    rw [mul_comm, EReal.left_distrib_of_nonneg_of_ne_top (by exact_mod_cast hr.le) (EReal.coe_ne_top r), mul_comm, mul_comm (r : EReal)]

/-- The pattern of minus infinity. -/
theorem ofBits_ninf : Ideal.ofBits .f32 4286578688#32 = (⊥ : EReal) := by
  simp [Ideal.ofBits, Ideal.ieee]

/-- The largest of finitely many reals, from minus infinity, is a real, and it is one of them, and bounds all. -/
theorem fold_max_coe {n : ℕ} (f : Fin (n + 1) → ℝ) :
    ∃ M : ℝ, Finset.fold max (⊥ : EReal) (fun i => (f i : EReal)) Finset.univ = M ∧ (∀ i, f i ≤ M) ∧ ∃ i, f i = M := by
  obtain ⟨i, -, hi⟩ := Finset.exists_max_image (Finset.univ : Finset (Fin (n + 1))) f ⟨0, Finset.mem_univ _⟩
  refine ⟨f i, le_antisymm ?_ ?_, fun j => hi j (Finset.mem_univ _), i, rfl⟩
  · rw [Finset.fold_max_le]; exact ⟨bot_le, fun j _ => by exact_mod_cast hi j (Finset.mem_univ _)⟩
  · rw [Finset.le_fold_max]; exact Or.inr ⟨i, Finset.mem_univ _, le_rfl⟩

/-- `log2 e` as a real. -/
abbrev rL : ℝ := (Real.log 2)⁻¹

theorem rL_pos : 0 < rL := inv_pos.mpr (Real.log_pos (by norm_num))

theorem L2E_eq : L2E = (rL : EReal) := rfl

/-- A power of two of a base-2 logit is the exponential of the logit. -/
theorem exp2_mul (x : ℝ) : FloatOps.exp2 (F := Ideal) (φ := .f32) ((x * rL : ℝ) : EReal) = ((Real.exp x : ℝ) : EReal) := by
  show Ideal.exp2 _ = _
  rw [Ideal.exp2_coe]
  congr 1
  show (2 : ℝ) ^ (x * rL) = _
  rw [Real.rpow_def_of_pos (by norm_num)]
  congr 1
  have : Real.log 2 ≠ 0 := (Real.log_pos (by norm_num)).ne'
  unfold rL
  field_simp

/-- The kernel's form of one output (powers of two of scaled scores, the weighted sum divided by the total) is the
    softmax form (each weight divided by the total, then summed), for real scores `σ` and a real sink `a`, whatever
    the values `w`. -/
theorem side_eq (a : ℝ) (σ : Fin 256 → ℝ) (w : Fin 256 → EReal) (X : Fin 257 → EReal)
    (hX : ∀ j : Fin 257, X j = if h : (j : ℕ) < 256 then ((σ ⟨j, h⟩ : ℝ) : EReal) else (a : EReal)) :
    side (a : EReal) (fun k => ((σ k * rL : ℝ) : EReal)) w
      = ∑ k : Fin 256, w k * Ideal.div (Ideal.exp (((σ k : ℝ) : EReal) - Finset.fold max (⊥ : EReal) X Finset.univ))
          (∑ j : Fin 257, Ideal.exp (X j - Finset.fold max (⊥ : EReal) X Finset.univ)) := by
  let Y : Fin 257 → ℝ := fun j => if h : (j : ℕ) < 256 then σ ⟨j, h⟩ else a
  have hXY : X = fun j => ((Y j : ℝ) : EReal) := by
    funext j; rw [hX j]; simp only [Y]; split <;> rfl
  obtain ⟨M, hM, hMb, iM, hMi⟩ := fold_max_coe (n := 256) Y
  obtain ⟨N, hN, hNb, iN, hNi⟩ := fold_max_coe (n := 255) (fun k => σ k * rL)
  have hmax : max (a * rL) N = M * rL := by
    apply le_antisymm
    · apply max_le
      · have := hMb ⟨256, by norm_num⟩
        simp only [Y] at this
        exact mul_le_mul_of_nonneg_right (by simpa using this) rL_pos.le
      · rw [← hNi]
        have := hMb ⟨iN, by omega⟩
        simp only [Y] at this
        rw [dif_pos (by exact iN.isLt)] at this
        exact mul_le_mul_of_nonneg_right this rL_pos.le
    · rw [← hMi]
      by_cases h : (iM : ℕ) < 256
      · have : Y iM = σ ⟨iM, h⟩ := by simp only [Y]; rw [dif_pos h]
        rw [this]; exact le_max_of_le_right (hNb ⟨iM, h⟩)
      · have : Y iM = a := by simp only [Y]; rw [dif_neg h]
        rw [this]; exact le_max_left _ _
  rw [hXY, hM]
  unfold side
  rw [ofBits_ninf, hN, L2E_eq]
  have e1 : max ((a * rL : ℝ) : EReal) (N : EReal) = ((M * rL : ℝ) : EReal) := by
    rw [← hmax]; exact (EReal.coe_strictMono.monotone.map_max).symm
  have e2 : ∀ x : ℝ, FloatOps.exp2 (F := Ideal) (φ := .f32) (((x * rL : ℝ) : EReal) - ((M * rL : ℝ) : EReal)) = ((Real.exp (x - M) : ℝ) : EReal) := by
    intro x
    rw [← EReal.coe_sub, ← sub_mul, exp2_mul]
  have e3 : ∀ x : ℝ, Ideal.exp ((x : EReal) - (M : EReal)) = ((Real.exp (x - M) : ℝ) : EReal) := by
    intro x; rw [← EReal.coe_sub, Ideal.exp_coe]
  simp only [← EReal.coe_mul a, e1, e2, e3, mul_one]
  have hY : (∑ j : Fin 257, Real.exp (Y j - M)) = (∑ k : Fin 256, Real.exp (σ k - M)) + Real.exp (a - M) := by
    rw [Fin.sum_univ_castSucc]
    refine congrArg₂ (· + ·) (Finset.sum_congr rfl fun k _ => ?_) ?_
    · simp only [Y]; rw [dif_pos (by simp)]; rfl
    · simp only [Y]; rw [dif_neg (by simp)]
  have hD : (∑ j : Fin 257, ((Real.exp (Y j - M) : ℝ) : EReal)) = (((∑ k : Fin 256, Real.exp (σ k - M)) + Real.exp (a - M) : ℝ) : EReal) := by
    rw [← coe_sum, hY]
  rw [hD, ← coe_sum, ← EReal.coe_add]
  have hpos : 0 < (∑ k : Fin 256, Real.exp (σ k - M)) + Real.exp (a - M) :=
    add_pos_of_nonneg_of_pos (Finset.sum_nonneg fun _ _ => (Real.exp_pos _).le) (Real.exp_pos _)
  rw [Ideal.div_coe hpos.ne', sum_mul_coe _ _ (one_div_pos.mpr hpos)]
  refine Finset.sum_congr rfl fun k _ => ?_
  rw [Ideal.div_coe hpos.ne']
  rw [mul_comm ((Real.exp (σ k - M) : ℝ) : EReal) (w k), mul_assoc]

end Cert.CtxIdeal.Block
-- ==== Proof.CtxRefAt.lean ====
module

public import proofs.«01_k».proof.Proof.Gen.CtxRefIdeal.Run
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem
namespace Cert.CtxRefIdeal.At
open Cert.CtxRefIdeal Cert.CtxRefIdeal.Gen

/-- The products of the keys with the queries. -/
def products (q : FVec Ideal S12288x1024 .f32) (k : FVec Ideal S12288x256 .f32) : FVec Ideal S16x4x256x256x4 .f32 :=
  Host.dotGeneral dot_S16x256x4x64_S16x256x4x4x64_S16x4x256x256x4_3_4_1_13_02_02 none (shapeCast _ (extractStridedSlice S4096x256 ![8192, 0] k slices_S12288x256_S4096x256_8192_0) shapeCasts_S4096x256_S16x256x4x64) (shapeCast _ (extractStridedSlice S4096x1024 ![8192, 0] q slices_S12288x1024_S4096x1024_8192_0) shapeCasts_S4096x1024_S16x256x4x4x64)

/-- The products laid out by row and multiplied by the scale. -/
def scaled (D : FVec Ideal S16x4x256x256x4 .f32) : FVec Ideal S16x4x4x256x256 .f32 :=
  mulf (transpose S16x4x4x256x256 [0, 1, 4, 3, 2] D transposes_S16x4x256x256x4_S16x4x4x256x256_0_1_4_3_2) (broadcastInDim S16x4x4x256x256 ![] bcast_S_S16x4x4x256x256 (constant S_ .f32 0x3E000000#32))

/-- The reference's logits with the sink's as the last column. -/
def logits (s : FVec Ideal S16 .f32) (q : FVec Ideal S12288x1024 .f32) (k : FVec Ideal S12288x256 .f32) : FVec Ideal S16x4x4x256x257 .f32 :=
  concatenate S16x4x4x256x257 4 [⟨S16x4x4x256x256, scaled (products q k)⟩, ⟨S16x4x4x256x1, (broadcastInDim S16x4x4x256x1 ![0, 1, 2, 3, 4] bcast_S1x4x4x1x1_S16x4x4x256x1_0_1_2_3_4 (shapeCast _ s shapeCasts_S16_S1x4x4x1x1))⟩] concatenates_S16x4x4x256x256_S16x4x4x256x1_S16x4x4x256x257_d4

/-- The maximum of each row. -/
def rowFold (X : FVec Ideal S16x4x4x256x257 .f32) : FVec Ideal S16x4x4x256 .f32 :=
  Host.reduce FloatOps.maximumf X (constant S_ .f32 0xFF800000#32) reducesTo_S16x4x4x256x257_S16x4x4x256_d4 h_S_

/-- The largest logit of each row. -/
def rowMax (X : FVec Ideal S16x4x4x256x257 .f32) : FVec Ideal S16x4x4x256 .f32 :=
  maximumf (broadcastInDim S16x4x4x256 ![] bcast_S_S16x4x4x256 (constant S_ .f32 0xFF800000#32)) (rowFold X)

/-- The exponentials of the logits less their row's maximum. -/
def expo (X : FVec Ideal S16x4x4x256x257 .f32) : FVec Ideal S16x4x4x256x257 .f32 :=
  Host.exp (subf X (broadcastInDim S16x4x4x256x257 ![0, 1, 2, 3, 4] bcast_S16x4x4x256x1_S16x4x4x256x257_0_1_2_3_4 (broadcastInDim S16x4x4x256x1 ![0, 1, 2, 3] bcast_S16x4x4x256_S16x4x4x256x1_0_1_2_3 (rowMax X))))

/-- Each row's sum of exponentials. -/
def total (X : FVec Ideal S16x4x4x256x257 .f32) : FVec Ideal S16x4x4x256 .f32 :=
  Host.reduceAdd (expo X) (constant S_ .f32 0x00000000#32) reducesTo_S16x4x4x256x257_S16x4x4x256_d4 h_S_

/-- The softmax weights. -/
def weights (X : FVec Ideal S16x4x4x256x257 .f32) : FVec Ideal S16x4x4x256x257 .f32 :=
  Host.divf (expo X) (broadcastInDim S16x4x4x256x257 ![0, 1, 2, 3, 4] bcast_S16x4x4x256x1_S16x4x4x256x257_0_1_2_3_4 (broadcastInDim S16x4x4x256x1 ![0, 1, 2, 3] bcast_S16x4x4x256_S16x4x4x256x1_0_1_2_3 (total X)))

/-- The weighted sums of the values, the sink's weight left out. -/
def mix (v : FVec Ideal S12288x256 .f32) (P : FVec Ideal S16x4x4x256x257 .f32) : FVec Ideal S4096x1024 .bf16 :=
  truncf (F := Ideal) .bf16 (shapeCast _ (transpose S16x256x4x4x64 [0, 4, 1, 3, 2] (Host.dotGeneral dot_S16x256x4x64_S16x4x4x256x256_S16x4x64x4x256_1_4_3_23_02_01 none (shapeCast _ (extractStridedSlice S4096x256 ![8192, 0] v slices_S12288x256_S4096x256_8192_0) shapeCasts_S4096x256_S16x256x4x64) (extractStridedSlice S16x4x4x256x256 ![0, 0, 0, 0, 0] P slices_S16x4x4x256x257_S16x4x4x256x256_0_0_0_0_0)) transposes_S16x4x64x4x256_S16x256x4x4x64_0_4_1_3_2) shapeCasts_S16x256x4x4x64_S4096x1024) bitsLt_bf16_f32

/-- The reference's result is the composition of the three. -/
theorem res_eq (m : (ℓ : Loc nD τ sig) → Buf (Elt Ideal) ℓ) (c : Dev nD) :
    Cert.CtxRefIdeal.Value.res_main_v28 m c
      = mix (m ((c.tc : Thread nD τ).loc main_arg3)) (weights (logits (m ((c.tc : Thread nD τ).loc main_arg0))
          (m ((c.tc : Thread nD τ).loc main_arg1)) (m ((c.tc : Thread nD τ).loc main_arg2)))) := rfl

theorem products_at (q : FVec Ideal S12288x1024 .f32) (k : FVec Ideal S12288x256 .f32) (b : Fin 16) (g h : Fin 4) (r j : Fin 256) :
    products q k (ix5 b g j r h) =
      ∑ x : Fin 64, k (ix2 ⟨8192 + ((b : ℕ) * 256 + j), by omega⟩ ⟨(g : ℕ) * 64 + x, by omega⟩)
        * q (ix2 ⟨8192 + ((b : ℕ) * 256 + r), by omega⟩ ⟨(g : ℕ) * 256 + h * 64 + x, by omega⟩) := by
  pointwise [products]

theorem scaled_at (D : FVec Ideal S16x4x256x256x4 .f32) (b : Fin 16) (g h : Fin 4) (r j : Fin 256) :
    scaled D (ix5 b g h r j) = D (ix5 b g j r h) * Ideal.ofBits FTy.f32 1040187392#32 := by
  pointwise [scaled]

theorem logits_at (s : FVec Ideal S16 .f32) (q : FVec Ideal S12288x1024 .f32) (k : FVec Ideal S12288x256 .f32) (b : Fin 16) (g h : Fin 4) (r : Fin 256) (j : Fin 257) :
    logits s q k (ix5 b g h r j) = if hj : (j : ℕ) < 256 then scaled (products q k) (ix5 b g h r ⟨j, hj⟩)
      else s (ix1 ⟨(g : ℕ) * 4 + h, by omega⟩) := by
  unfold logits
  generalize scaled (products q k) = Z
  pointwise []

theorem rowFold_at (X : FVec Ideal S16x4x4x256x257 .f32) (b : Fin 16) (g h : Fin 4) (r : Fin 256) :
    rowFold X (ix4 b g h r) =
      Finset.fold max (Ideal.ofBits FTy.f32 4286578688#32) (fun x : Fin 257 => X (ix5 b g h r x)) Finset.univ := by
  pointwise [rowFold]

theorem max_at (B Y : FVec Ideal S16x4x4x256 .f32) (i : S16x4x4x256.Idx) : maximumf B Y i = max (B i) (Y i) :=
  maximumf_apply _ _ _

theorem spread_at (C : FVec Ideal S_ .f32) (i : S16x4x4x256.Idx) :
    broadcastInDim S16x4x4x256 ![] bcast_S_S16x4x4x256 C i = C ix0 := congrArg C (Subsingleton.elim _ _)

theorem const_at : (constant (F := Ideal) S_ .f32 0xFF800000#32) ix0 = Ideal.ofBits .f32 4286578688#32 := constant_apply _ _ _ _

theorem rowMax_at (X : FVec Ideal S16x4x4x256x257 .f32) (i : S16x4x4x256.Idx) :
    rowMax X i = max (Ideal.ofBits FTy.f32 4286578688#32) (rowFold X i) := by
  unfold rowMax
  rw [max_at, spread_at, const_at]

theorem expo_at (X : FVec Ideal S16x4x4x256x257 .f32) (b : Fin 16) (g h : Fin 4) (r : Fin 256) (j : Fin 257) :
    expo X (ix5 b g h r j) = Ideal.exp (X (ix5 b g h r j) - rowMax X (ix4 b g h r)) := by
  pointwise [expo]

theorem total_at (X : FVec Ideal S16x4x4x256x257 .f32) (b : Fin 16) (g h : Fin 4) (r : Fin 256) :
    total X (ix4 b g h r) = ∑ j : Fin 257, expo X (ix5 b g h r j) := by
  pointwise [total]

theorem weights_at (X : FVec Ideal S16x4x4x256x257 .f32) (b : Fin 16) (g h : Fin 4) (r : Fin 256) (j : Fin 257) :
    weights X (ix5 b g h r j) = Ideal.div (expo X (ix5 b g h r j)) (total X (ix4 b g h r)) := by
  pointwise [weights]

theorem mix_at (v : FVec Ideal S12288x256 .f32) (P : FVec Ideal S16x4x4x256x257 .f32) (i : S4096x1024.Idx) :
    mix v P i = ∑ x : Fin 256, v (ix2 ⟨8192 + ((i 0 : ℕ) / 256 * 256 + x), by have := (i 0).isLt; simp at this; omega⟩
        ⟨(i 1 : ℕ) / 256 * 64 + (i 1 : ℕ) % 64, by have := (i 1).isLt; simp at this; omega⟩) *
      P (ix5 ⟨(i 0 : ℕ) / 256, by have := (i 0).isLt; simp at this; omega⟩ ⟨(i 1 : ℕ) / 256, by have := (i 1).isLt; simp at this; omega⟩
        ⟨(i 1 : ℕ) / 64 % 4, by omega⟩ ⟨(i 0 : ℕ) % 256, by omega⟩ ⟨x, by omega⟩) := by
  pointwise [mix]
end Cert.CtxRefIdeal.At
-- ==== Proof.CtxFinal.lean ====
module

public import proofs.«01_k».proof.Proof.CtxBlock
public import proofs.«01_k».proof.Proof.CtxMath
public import proofs.«01_k».proof.Proof.CtxRefAt
public import proofs.«01_k».proof.Pre_finite_logits
public import Idealize.ShloMosaic.Lib.ReduceAll

@[expose] public section

set_option maxRecDepth 16384
noncomputable section
open Idealize.ShloMosaic Idealize.ShloMosaic.TcCoe Idealize.SL.Sem
open Idealize.ShloMosaic.Pipeline (Dat)
namespace Cert.CtxIdeal.Block
open Cert.CtxIdeal Cert.CtxIdeal.Gen

/-- The kernel's whole result, from the sink logits, queries, keys and values. -/
def G (s : FVec Ideal S16 .f32) (q : FVec Ideal S12288x1024 .f32) (k v : FVec Ideal S12288x256 .f32) (i : S4096x1024.Idx) : EReal :=
  side (s (ix1 ⟨(i 1 : ℕ) / 64, by have := (i 1).isLt; simp at this; omega⟩))
    (fun j => ∑ d : Fin 64, q (ix2 ⟨8192 + (i 0 : ℕ), by have := (i 0).isLt; simp at this; omega⟩ ⟨(i 1 : ℕ) / 64 * 64 + d, by have := (i 1).isLt; simp at this; omega⟩) * SC
      * k (ix2 ⟨8192 + ((i 0 : ℕ) / 256 * 256 + j), by have := (i 0).isLt; simp at this; omega⟩ ⟨(i 1 : ℕ) / 256 * 64 + d, by have := (i 1).isLt; simp at this; omega⟩))
    (fun j => v (ix2 ⟨8192 + ((i 0 : ℕ) / 256 * 256 + j), by have := (i 0).isLt; simp at this; omega⟩ ⟨(i 1 : ℕ) / 256 * 64 + (i 1 : ℕ) % 64, by have := (i 1).isLt; simp at this; omega⟩))

/-- The named scale is `(1/8) log2 e`. -/
theorem SC_eq : SC = (((1 / 8) * rL : ℝ) : EReal) := rfl

/-- The literal of the reference's scale is one eighth. -/
theorem ofBits_eighth : Ideal.ofBits FTy.f32 1040187392#32 = ((1 / 8 : ℝ) : EReal) := by
  simp [Ideal.ofBits, Ideal.ieee]
  rw [← EReal.coe_mul]; norm_num

/-- One real logit of the reference. -/
def σ (q : S12288x1024.Idx → ℝ) (k : S12288x256.Idx → ℝ) (b : Fin 16) (g h : Fin 4) (r j : Fin 256) : ℝ :=
  (∑ x : Fin 64, k (ix2 ⟨8192 + ((b : ℕ) * 256 + j), by omega⟩ ⟨(g : ℕ) * 64 + x, by omega⟩)
    * q (ix2 ⟨8192 + ((b : ℕ) * 256 + r), by omega⟩ ⟨(g : ℕ) * 256 + h * 64 + x, by omega⟩)) * (1 / 8)

/-- The reference's logits of real arguments are real. -/
theorem logits_real (s : S16.Idx → ℝ) (q : S12288x1024.Idx → ℝ) (k : S12288x256.Idx → ℝ) (b : Fin 16) (g h : Fin 4) (r : Fin 256) (j : Fin 257) :
    CtxRefIdeal.At.logits (fun i => (s i : EReal)) (fun i => (q i : EReal)) (fun i => (k i : EReal)) (ix5 b g h r j)
      = if hj : (j : ℕ) < 256 then ((σ q k b g h r ⟨j, hj⟩ : ℝ) : EReal) else ((s (ix1 ⟨(g : ℕ) * 4 + h, by omega⟩) : ℝ) : EReal) := by
  rw [CtxRefIdeal.At.logits_at]
  refine dite_congr rfl (fun hj => ?_) fun _ => rfl
  rw [CtxRefIdeal.At.scaled_at, CtxRefIdeal.At.products_at, ofBits_eighth]
  unfold σ
  rw [EReal.coe_mul, coe_sum]
  simp only [EReal.coe_mul]

/-- The kernel's scores of real arguments are the reference's logits in base-2 units. -/
theorem scores_real (q : S12288x1024.Idx → ℝ) (k : S12288x256.Idx → ℝ) (b : Fin 16) (g h : Fin 4) (r j : Fin 256) (a : Fin 12288) (e : Fin 64 → Fin 1024)
    (ha : (a : ℕ) = 8192 + (b * 256 + r)) (he : ∀ x : Fin 64, ((e x : Fin 1024) : ℕ) = g * 256 + h * 64 + x) :
    (∑ d : Fin 64, (q (ix2 a (e d)) : EReal) * SC * (k (ix2 ⟨8192 + ((b : ℕ) * 256 + j), by omega⟩ ⟨(g : ℕ) * 64 + d, by omega⟩) : EReal))
      = ((σ q k b g h r j * rL : ℝ) : EReal) := by
  unfold σ
  rw [SC_eq, Finset.sum_mul, Finset.sum_mul, coe_sum]
  refine Finset.sum_congr rfl fun d _ => ?_
  rw [← EReal.coe_mul, ← EReal.coe_mul, show a = ⟨8192 + ((b : ℕ) * 256 + r), by omega⟩ from Fin.ext ha,
    show e d = ⟨(g : ℕ) * 256 + h * 64 + d, by omega⟩ from Fin.ext (he d)]
  congr 1
  ring

/-- The reference's result of real arguments, at one index. -/
theorem ref_real (s : S16.Idx → ℝ) (q : S12288x1024.Idx → ℝ) (k : S12288x256.Idx → ℝ) (b : Fin 16) (g h : Fin 4) (r : Fin 256) (w : Fin 256 → EReal) :
    (∑ x : Fin 256, w x * CtxRefIdeal.At.weights (CtxRefIdeal.At.logits (fun i => (s i : EReal)) (fun i => (q i : EReal)) (fun i => (k i : EReal)))
        (ix5 b g h r ⟨x, by omega⟩))
      = side ((s (ix1 ⟨(g : ℕ) * 4 + h, by omega⟩) : ℝ) : EReal) (fun j => ((σ q k b g h r j * rL : ℝ) : EReal)) w := by
  rw [side_eq _ _ _ _ fun j => logits_real s q k b g h r j]
  refine Finset.sum_congr rfl fun x _ => congrArg (w x * ·) ?_
  rw [CtxRefIdeal.At.weights_at, CtxRefIdeal.At.total_at]
  simp only [CtxRefIdeal.At.expo_at, CtxRefIdeal.At.rowMax_at, CtxRefIdeal.At.rowFold_at, ofBits_ninf, bot_le, max_eq_right]
  rw [logits_real s q k b g h r ⟨x, by omega⟩, dif_pos x.isLt]

/-- At real logits' arguments the kernel's formula is the reference's, at every index. -/
theorem G_eq (s : S16.Idx → ℝ) (q : S12288x1024.Idx → ℝ) (k : S12288x256.Idx → ℝ) (v : FVec Ideal S12288x256 .f32) (i : S4096x1024.Idx) :
    G (fun i => (s i : EReal)) (fun i => (q i : EReal)) (fun i => (k i : EReal)) v i
      = CtxRefIdeal.At.mix v (CtxRefIdeal.At.weights (CtxRefIdeal.At.logits (fun i => (s i : EReal)) (fun i => (q i : EReal)) (fun i => (k i : EReal)))) i := by
  have h0 : (i 0 : ℕ) < 4096 := (i 0).isLt
  have h1 : (i 1 : ℕ) < 1024 := (i 1).isLt
  rw [CtxRefIdeal.At.mix_at, ref_real]
  unfold G
  refine congrFun (congr (congrArg side ?_) (funext fun j => ?_)) _
  · exact congrArg (fun n => ((s (ix1 n) : ℝ) : EReal)) (Fin.ext (by show (i 1 : ℕ) / 64 = (i 1 : ℕ) / 256 * 4 + (i 1 : ℕ) / 64 % 4; omega))
  · refine scores_real q k ⟨(i 0 : ℕ) / 256, by omega⟩ ⟨(i 1 : ℕ) / 256, by omega⟩ ⟨(i 1 : ℕ) / 64 % 4, by omega⟩ ⟨(i 0 : ℕ) % 256, by omega⟩ j _ _ ?_ fun x => ?_
    · show 8192 + (i 0 : ℕ) = 8192 + ((i 0 : ℕ) / 256 * 256 + (i 0 : ℕ) % 256); omega
    · show (i 1 : ℕ) / 64 * 64 + (x : ℕ) = (i 1 : ℕ) / 256 * 256 + (i 1 : ℕ) / 64 % 4 * 64 + x; omega

variable (m : (ℓ : Loc nD τ sig) → Buf (Elt Ideal) ℓ)

/-- Where the blocks of each grid point lie. -/
theorem idx : ∀ t : Fin cfg0.N, win0_0.index t = ![0] ∧ win0_1.index t = ![32 + (grid0.coords t 0 : ℕ), 0] ∧ win0_2.index t = ![32 + (grid0.coords t 0 : ℕ), 0]
    ∧ win0_3.index t = ![32 + (grid0.coords t 0 : ℕ), 0] ∧ win0_4.index t = ![(grid0.coords t 0 : ℕ), 0] :=
  (by decide +kernel : ∀ t : Fin grid0.N, _)

set_option maxHeartbeats 4000000 in
/-- The result array after the run, at every index. -/
theorem arr (c : Dev nD) :
    (dats m 0 c).arrAt 4 cfg0.N = G (m ((c.tc : Thread nD τ).loc main_arg0)) (m ((c.tc : Thread nD τ).loc main_arg1))
      (m ((c.tc : Thread nD τ).loc main_arg2)) (m ((c.tc : Thread nD τ).loc main_arg3)) := by
  refine (dats m 0 c).arrAt_eq_of_covers 4 _ (by decide +kernel) fun t _ y => ?_
  blk_simp
  rw [after0_4, point]
  unfold gb G
  refine congr (congr (congrArg side ?_) (funext fun j => Finset.sum_congr rfl fun d _ => ?_)) (funext fun j => ?_)
  · blk_point [iblk, V, idx t]
  · blk_point [iblk, V, idx t]
  · blk_point [iblk, V, idx t]

/-- A word of 1 from `|x| < ∞` says that `x` is a real. -/
theorem real_of_lt (x : EReal) (h : FloatOps.cmpf (F := Ideal) (φ := .f32) .olt (FloatOps.absf (F := Ideal) (φ := .f32) x) (Ideal.ofBits .f32 0x7F800000#32) = 1#1) :
    x = ((x.toReal : ℝ) : EReal) := by
  have ht : Ideal.ofBits .f32 0x7F800000#32 = (⊤ : EReal) := by simp [Ideal.ofBits, Ideal.ieee]
  rw [ht] at h
  have h' : Ideal.cmp .olt (max x (-x)) ⊤ = 1#1 := h
  have hlt : max x (-x) < ⊤ := by
    by_contra hn
    simp [Ideal.cmp, hn] at h'
  refine (EReal.coe_toReal (fun e => ?_) (fun e => ?_)).symm
  · rw [e] at hlt; simp at hlt
  · rw [e] at hlt; simp at hlt

/-- Under the precondition the sink logits, queries and keys are reals. -/
theorem reals (hf : Cert.Pre_finite_logits.Facts) (s : FVec Ideal S16 .f32) (q : FVec Ideal S12288x1024 .f32) (k v : FVec Ideal S12288x256 .f32)
    (h : Cert.Pre_finite_logits.fn (F := Ideal) s q k v = fun _ => 1#1) :
    (∀ i, s i = (((s i).toReal : ℝ) : EReal)) ∧ (∀ i, q i = (((q i).toReal : ℝ) : EReal)) ∧ ∀ i, k i = (((k i).toReal : ℝ) : EReal) := by
  have e := congrFun h ix0
  unfold Cert.Pre_finite_logits.fn at e
  obtain ⟨e12, e3⟩ := IntOp.andi_eq_one.1 e
  obtain ⟨e1, e2⟩ := IntOp.andi_eq_one.1 e12
  have s0 : Subsingleton (Cert.Pre_finite_logits.S_.Idx) := ⟨fun a b => funext fun i => i.elim0⟩
  exact ⟨fun i => real_of_lt _ (Host.reduce_andi_all _ _ _ _ _ e1 i), fun i => real_of_lt _ (Host.reduce_andi_all _ _ _ _ _ e2 i),
    fun i => real_of_lt _ (Host.reduce_andi_all _ _ _ _ _ e3 i)⟩

/-- Under the precondition the kernel's result is the reference's. -/
theorem final (hf : Cert.Pre_finite_logits.Facts) (c : Dev nD)
    (h : Cert.Pre_finite_logits.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1) :
    (dats m 0 c).arrAt 4 cfg0.N = CtxRefIdeal.At.mix (m ((c.tc : Thread nD τ).loc main_arg3)) (CtxRefIdeal.At.weights (CtxRefIdeal.At.logits
      (m ((c.tc : Thread nD τ).loc main_arg0)) (m ((c.tc : Thread nD τ).loc main_arg1)) (m ((c.tc : Thread nD τ).loc main_arg2)))) := by
  rw [arr]
  obtain ⟨a, b, d⟩ := reals hf _ _ _ _ h
  rw [funext a, funext b, funext d]
  exact funext fun i => G_eq _ _ _ _ i
end Cert.CtxIdeal.Block
-- ==== Proof.FfnRunS.lean ====
module

public import proofs.«01_k».proof.Proof.Gen.FfnIdeal.Skeleton
public import proofs.«01_k».proof.Proof.Gen.FfnIdeal.Frame

@[expose] public section

set_option maxRecDepth 16384
noncomputable section
namespace Cert.FfnIdeal.Hand
open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a point of the sample tokens: what it stores in the sample output's buffer, with its triple. The inputs'
    buffers and the other output's come back as they were. -/
def run_sample (c : Dev nD) (i : grid0.Coords) (a0 : Memref sig .tc .vmem S512x1024 .f32) (h0 : a0.IsWhole) (a1 : Memref sig .tc .vmem S512x1024 .bf16) (h1 : a1.IsWhole) (a2 : Memref sig .tc .vmem S512x1024 .bf16) (h2 : a2.IsWhole) (a3 : Memref sig .tc .vmem S1x1024x1024 .f32) (h3 : a3.IsWhole) (a4 : Memref sig .tc .vmem S1x9x1024 .f32) (h4 : a4.IsWhole) (a5 : Memref sig .tc .vmem S1x6x1024 .f32) (h5 : a5.IsWhole) (a6 : Memref sig .tc .vmem S1024x5632 .bf16) (h6 : a6.IsWhole) (a7 : Memref sig .tc .vmem S2816x1024 .bf16) (h7 : a7.IsWhole) (a8 : Memref sig .tc .vmem S512x1024 .f32) (h8 : a8.IsWhole) (a9 : Memref sig .tc .vmem S512x1024 .f32) (h9 : a9.IsWhole) (hs : k0_cond1 i = 1#1) (hp : ¬k0_cond2 i = 1#1)
    (x0 : Vec F S512x1024 .f32) (x1 : Vec F S512x1024 .bf16) (x2 : Vec F S512x1024 .bf16) (x3 : Vec F S1x1024x1024 .f32) (x4 : Vec F S1x9x1024 .f32) (x5 : Vec F S1x6x1024 .f32) (x6 : Vec F S1024x5632 .bf16) (x7 : Vec F S2816x1024 .bf16) :
    { L : List (View.Piece (Elt F) S512x1024 .f32) //
      ∀ (z : Vec F S512x1024 .f32) (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d) ∗ owns (c : Thread nD τ) a9 fullShare z
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ f, a8.view.loc (c : Thread nD τ) ↦[a8.view.set]{fullShare} a8.view.writes (Elt F) f L) ∗ owns (c : Thread nD τ) a9 fullShare z) -∗ K ⟨⟩))
          ⊢ wp frame (wpE (defs₀ (F := F)) Variants.none c none) E (cc0_ffn1 i a0 h0 a1 h1 a2 h2 a3 h3 a4 h4 a5 h5 a6 h6 a7 h7 a8 h8 a9 h9) K } := by
  refine ⟨?_, fun z E K => ?go⟩
  case go =>
    simp only [cc0_ffn1_eq_skeleton]; unfold cc0_ffn1_skel
    simp only [k0_part1_eq_skeleton, k0_part2_eq_skeleton, k0_part3_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%f9, %e9, H9⟩, Hk⟩
    obtain rfl := h0.eq_unread e0
    obtain rfl := h1.eq_unread e1
    obtain rfl := h2.eq_unread e2
    obtain rfl := h3.eq_unread e3
    obtain rfl := h4.eq_unread e4
    obtain rfl := h5.eq_unread e5
    obtain rfl := h6.eq_unread e6
    obtain rfl := h7.eq_unread e7
    obtain rfl := h9.eq_unread e9
    sl_exec (disch := first | sl_exact hs | sl_exact hp)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]; · iexists _; iexact H8
    iexists _; isplitr; · ipureintro; exact h9.read_unread _
    iexact H9

end Cert.FfnIdeal.Hand
end
-- ==== Proof.FfnRunP.lean ====
module

public import proofs.«01_k».proof.Proof.FfnRunS

@[expose] public section

set_option maxRecDepth 16384
noncomputable section
namespace Cert.FfnIdeal.Hand
open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a point of the prompt tokens: what it stores in the prompt output's buffer, with its triple. The inputs'
    buffers and the other output's come back as they were. -/
def run_prompt (c : Dev nD) (i : grid0.Coords) (a0 : Memref sig .tc .vmem S512x1024 .f32) (h0 : a0.IsWhole) (a1 : Memref sig .tc .vmem S512x1024 .bf16) (h1 : a1.IsWhole) (a2 : Memref sig .tc .vmem S512x1024 .bf16) (h2 : a2.IsWhole) (a3 : Memref sig .tc .vmem S1x1024x1024 .f32) (h3 : a3.IsWhole) (a4 : Memref sig .tc .vmem S1x9x1024 .f32) (h4 : a4.IsWhole) (a5 : Memref sig .tc .vmem S1x6x1024 .f32) (h5 : a5.IsWhole) (a6 : Memref sig .tc .vmem S1024x5632 .bf16) (h6 : a6.IsWhole) (a7 : Memref sig .tc .vmem S2816x1024 .bf16) (h7 : a7.IsWhole) (a8 : Memref sig .tc .vmem S512x1024 .f32) (h8 : a8.IsWhole) (a9 : Memref sig .tc .vmem S512x1024 .f32) (h9 : a9.IsWhole) (hs : ¬k0_cond1 i = 1#1) (hp : k0_cond2 i = 1#1)
    (x0 : Vec F S512x1024 .f32) (x1 : Vec F S512x1024 .bf16) (x2 : Vec F S512x1024 .bf16) (x3 : Vec F S1x1024x1024 .f32) (x4 : Vec F S1x9x1024 .f32) (x5 : Vec F S1x6x1024 .f32) (x6 : Vec F S1024x5632 .bf16) (x7 : Vec F S2816x1024 .bf16) :
    { L : List (View.Piece (Elt F) S512x1024 .f32) //
      ∀ (z : Vec F S512x1024 .f32) (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare z ∗ (∃ d, owns (c : Thread nD τ) a9 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare z ∗ (∃ f, a9.view.loc (c : Thread nD τ) ↦[a9.view.set]{fullShare} a9.view.writes (Elt F) f L)) -∗ K ⟨⟩))
          ⊢ wp frame (wpE (defs₀ (F := F)) Variants.none c none) E (cc0_ffn1 i a0 h0 a1 h1 a2 h2 a3 h3 a4 h4 a5 h5 a6 h6 a7 h7 a8 h8 a9 h9) K } := by
  refine ⟨?_, fun z E K => ?go⟩
  case go =>
    simp only [cc0_ffn1_eq_skeleton]; unfold cc0_ffn1_skel
    simp only [k0_part1_eq_skeleton, k0_part2_eq_skeleton, k0_part3_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, Hk⟩
    obtain rfl := h0.eq_unread e0
    obtain rfl := h1.eq_unread e1
    obtain rfl := h2.eq_unread e2
    obtain rfl := h3.eq_unread e3
    obtain rfl := h4.eq_unread e4
    obtain rfl := h5.eq_unread e5
    obtain rfl := h6.eq_unread e6
    obtain rfl := h7.eq_unread e7
    obtain rfl := h8.eq_unread e8
    sl_exec (disch := first | sl_exact hs | sl_exact hp)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    iexists _; iexact H9

end Cert.FfnIdeal.Hand
end
-- ==== Proof.FfnFrame.lean ====
module

public import proofs.«01_k».proof.Proof.FfnRunP
public import Idealize.ShloMosaic.Lib.Pipeline.TableIdle
public import Idealize.ShloMosaic.Lib.Claim

@[expose] public section

set_option maxRecDepth 16384
noncomputable section
namespace Cert.FfnIdeal.Hand
open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first branch is taken at the first 16 points, -/
theorem cond_sample : ∀ t : Fin cfg0.N, k0_cond1 (grid0.coords t) = 1#1 ↔ t.val < 16 :=
  (by decide +kernel : ∀ t : Fin grid0.N, k0_cond1 (grid0.coords t) = 1#1 ↔ t.val < 16)
/-- the second at the others. -/
theorem cond_prompt : ∀ t : Fin cfg0.N, k0_cond2 (grid0.coords t) = 1#1 ↔ 16 ≤ t.val :=
  (by decide +kernel : ∀ t : Fin grid0.N, k0_cond2 (grid0.coords t) = 1#1 ↔ 16 ≤ t.val)

/-- The stores of the sample output's buffer at a point of its own, -/
abbrev pieces_sample (c : Dev nD) (t : Fin cfg0.N) (h : t.val < 16) : List (View.Piece (Elt F) S512x1024 .f32) :=
  (run_sample (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) ((cond_sample t).mpr h) (fun e => by have := (cond_prompt t).mp e; omega) (iblk m c 0 t) (iblk m c 1 t) (iblk m c 2 t) (iblk m c 3 t) (iblk m c 4 t) (iblk m c 5 t) (iblk m c 6 t) (iblk m c 7 t)).1
/-- they fill it, -/
theorem cover_sample (c : Dev nD) (t : Fin cfg0.N) (h : t.val < 16) (y : S512x1024.Idx) : ∃ pc ∈ pieces_sample m c t h, y ∈ pc.1.set :=
  View.cover_of_tiledL (pieces_sample m c t h) S512x1024.size (by sl_kernel_rfl) y
/-- and what they leave there. -/
def out_sample (c : Dev nD) (t : Fin cfg0.N) (h : t.val < 16) : Vec F S512x1024 .f32 :=
  (Memref.whole cc0_stg8_0 : Memref sig .tc .vmem S512x1024 .f32).view.read (Elt F) ((Memref.whole cc0_stg8_0 : Memref sig .tc .vmem S512x1024 .f32).view.writes (Elt F) (View.junk _) (pieces_sample m c t h))

/-- The stores of the prompt output's buffer at a point of its own, -/
abbrev pieces_prompt (c : Dev nD) (t : Fin cfg0.N) (h : 16 ≤ t.val) : List (View.Piece (Elt F) S512x1024 .f32) :=
  (run_prompt (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (fun e => by have := (cond_sample t).mp e; omega) ((cond_prompt t).mpr h) (iblk m c 0 t) (iblk m c 1 t) (iblk m c 2 t) (iblk m c 3 t) (iblk m c 4 t) (iblk m c 5 t) (iblk m c 6 t) (iblk m c 7 t)).1
/-- they fill it, -/
theorem cover_prompt (c : Dev nD) (t : Fin cfg0.N) (h : 16 ≤ t.val) (y : S512x1024.Idx) : ∃ pc ∈ pieces_prompt m c t h, y ∈ pc.1.set :=
  View.cover_of_tiledL (pieces_prompt m c t h) S512x1024.size (by sl_kernel_rfl) y
/-- and what they leave there. -/
def out_prompt (c : Dev nD) (t : Fin cfg0.N) (h : 16 ≤ t.val) : Vec F S512x1024 .f32 :=
  (Memref.whole cc0_stg9_0 : Memref sig .tc .vmem S512x1024 .f32).view.read (Elt F) ((Memref.whole cc0_stg9_0 : Memref sig .tc .vmem S512x1024 .f32).view.writes (Elt F) (View.junk _) (pieces_prompt m c t h))

/-- What each output's buffer holds after a point: the sample output's keeps, after point 15, what that point left. -/
def left8 (c : Dev nD) (t : Fin cfg0.N) : Vec F S512x1024 .f32 :=
  if h : t.val < 16 then out_sample m c t h else out_sample m c ⟨15, by decide⟩ (by decide)
def left9 (c : Dev nD) (t : Fin cfg0.N) : Vec F S512x1024 .f32 :=
  if h : 16 ≤ t.val then out_prompt m c t h else out_prompt m c ⟨16, by decide⟩ (by decide)

/-- The proof data: the arrays as found, each input's block at a point, and the outputs as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => left8 m c t
    | ⟨9, _⟩ => left9 m c t
  Φ _ := Pipeline.ΦA spec0 c
  q _ := fullShare
  owed _ := 0

/-- The arrays are the ones found. -/
theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = left8 m c t := by dsimp only [dats]
theorem after_9 (c : Dev nD) (t : Fin cfg0.N) : (dats m 0 c).after 9 t = left9 m c t := by dsimp only [dats]
theorem before_0 (c : Dev nD) (t : Fin cfg0.N) (d) : (dats m 0 c).before 0 t d = iblk m c 0 t :=
  before0_0_of m (dats m 0 c) (A_eq m c 0) (after_0 m c) t d
theorem leaves_0 (c : Dev nD) (t : Fin cfg0.N) : (dats m 0 c).leavesExact 0 t = owns (c : Thread nD τ) (win0_0.stage (cfg0.slots t 0)) fullShare (iblk m c 0 t) := by
  unfold Dat.leavesExact; rw [show cfg0.idle 0 (grid0.coords t) = false from rfl, after_0]
theorem before_1 (c : Dev nD) (t : Fin cfg0.N) (d) : (dats m 0 c).before 1 t d = iblk m c 1 t :=
  before0_1_of m (dats m 0 c) (A_eq m c 1) (after_1 m c) t d
theorem leaves_1 (c : Dev nD) (t : Fin cfg0.N) : (dats m 0 c).leavesExact 1 t = owns (c : Thread nD τ) (win0_1.stage (cfg0.slots t 1)) fullShare (iblk m c 1 t) := by
  unfold Dat.leavesExact; rw [show cfg0.idle 1 (grid0.coords t) = false from rfl, after_1]
theorem before_2 (c : Dev nD) (t : Fin cfg0.N) (d) : (dats m 0 c).before 2 t d = iblk m c 2 t :=
  before0_2_of m (dats m 0 c) (A_eq m c 2) (after_2 m c) t d
theorem leaves_2 (c : Dev nD) (t : Fin cfg0.N) : (dats m 0 c).leavesExact 2 t = owns (c : Thread nD τ) (win0_2.stage (cfg0.slots t 2)) fullShare (iblk m c 2 t) := by
  unfold Dat.leavesExact; rw [show cfg0.idle 2 (grid0.coords t) = false from rfl, after_2]
theorem before_3 (c : Dev nD) (t : Fin cfg0.N) (d) : (dats m 0 c).before 3 t d = iblk m c 3 t :=
  before0_3_of m (dats m 0 c) (A_eq m c 3) (after_3 m c) t d
theorem leaves_3 (c : Dev nD) (t : Fin cfg0.N) : (dats m 0 c).leavesExact 3 t = owns (c : Thread nD τ) (win0_3.stage (cfg0.slots t 3)) fullShare (iblk m c 3 t) := by
  unfold Dat.leavesExact; rw [show cfg0.idle 3 (grid0.coords t) = false from rfl, after_3]
theorem before_4 (c : Dev nD) (t : Fin cfg0.N) (d) : (dats m 0 c).before 4 t d = iblk m c 4 t :=
  before0_4_of m (dats m 0 c) (A_eq m c 4) (after_4 m c) t d
theorem leaves_4 (c : Dev nD) (t : Fin cfg0.N) : (dats m 0 c).leavesExact 4 t = owns (c : Thread nD τ) (win0_4.stage (cfg0.slots t 4)) fullShare (iblk m c 4 t) := by
  unfold Dat.leavesExact; rw [show cfg0.idle 4 (grid0.coords t) = false from rfl, after_4]
theorem before_5 (c : Dev nD) (t : Fin cfg0.N) (d) : (dats m 0 c).before 5 t d = iblk m c 5 t :=
  before0_5_of m (dats m 0 c) (A_eq m c 5) (after_5 m c) t d
theorem leaves_5 (c : Dev nD) (t : Fin cfg0.N) : (dats m 0 c).leavesExact 5 t = owns (c : Thread nD τ) (win0_5.stage (cfg0.slots t 5)) fullShare (iblk m c 5 t) := by
  unfold Dat.leavesExact; rw [show cfg0.idle 5 (grid0.coords t) = false from rfl, after_5]
theorem before_6 (c : Dev nD) (t : Fin cfg0.N) (d) : (dats m 0 c).before 6 t d = iblk m c 6 t :=
  before0_6_of m (dats m 0 c) (A_eq m c 6) (after_6 m c) t d
theorem leaves_6 (c : Dev nD) (t : Fin cfg0.N) : (dats m 0 c).leavesExact 6 t = owns (c : Thread nD τ) (win0_6.stage (cfg0.slots t 6)) fullShare (iblk m c 6 t) := by
  unfold Dat.leavesExact; rw [show cfg0.idle 6 (grid0.coords t) = false from rfl, after_6]
theorem before_7 (c : Dev nD) (t : Fin cfg0.N) (d) : (dats m 0 c).before 7 t d = iblk m c 7 t :=
  before0_7_of m (dats m 0 c) (A_eq m c 7) (after_7 m c) t d
theorem leaves_7 (c : Dev nD) (t : Fin cfg0.N) : (dats m 0 c).leavesExact 7 t = owns (c : Thread nD τ) (win0_7.stage (cfg0.slots t 7)) fullShare (iblk m c 7 t) := by
  unfold Dat.leavesExact; rw [show cfg0.idle 7 (grid0.coords t) = false from rfl, after_7]

/-- Where the sample output's buffer is left alone, -/
theorem idle_8 : ∀ t : Fin cfg0.N, cfg0.idle 8 (grid0.coords t) = decide (16 ≤ t.val) :=
  (by decide +kernel : ∀ t : Fin grid0.N, cfg0.idle 8 (grid0.coords t) = decide (16 ≤ t.val))
/-- and the prompt output's, which is not written back there. -/
theorem idle_9 : ∀ t : Fin cfg0.N, cfg0.idle 9 (grid0.coords t) = decide (t.val < 16) :=
  (by decide +kernel : ∀ t : Fin grid0.N, cfg0.idle 9 (grid0.coords t) = decide (t.val < 16))
theorem noFlush_9 : ∀ t : Fin cfg0.N, t.val < 16 → (cfg0.win 9).flush t = false :=
  (by decide +kernel : ∀ t : Fin grid0.N, t.val < 16 → (cfg0.win 9).flush t = false)

/-- Where the sample output's buffer holds nothing stored when the body runs. -/
theorem fresh_8 (n : ℕ) (h : n ≤ cfg0.N) : cfg0.fresh 8 n = (decide (n < 16) || decide (n = 24)) :=
  cfg0.fresh_tab 8 (fun n => decide (n < 16) || decide (n = 24)) rfl
    (by decide +kernel : ∀ t : Fin grid0.N, (decide (t.val + 1 < 16) || decide (t.val + 1 = 24)) = ((cfg0.win 8).flush t || (cfg0.idle 8 (cfg0.grid.coords t) && (decide (t.val < 16) || decide (t.val = 24))))) n h

/-- From point 16 on the body finds in the sample output's buffer what it is to hold after the point. -/
theorem before_8 (c : Dev nD) (t : Fin cfg0.N) (h : 16 ≤ t.val) (d) : (dats m 0 c).before 8 t d = left8 m c t := by
  have hN : t.val < 24 := lt_of_lt_of_eq t.isLt N_0
  rw [(dats m 0 c).before_out_traj 8 rfl (fun _ _ => rfl) (fun s h0 hi hf => ?_) t.val t rfl d, fresh_8 _ t.isLt.le, if_neg (by simp; omega), after_8]
  · unfold left8
    rw [dif_neg (by omega : ¬t.val < 16)]
    split
    · rename_i h'
      have e : (⟨t.val - 1, by omega⟩ : Fin cfg0.N) = ⟨15, by decide⟩ := Fin.ext (by simp only at h' ⊢; omega)
      congr 1
    · rfl
  · have hs : s.val < 24 := lt_of_lt_of_eq s.isLt N_0
    have hi' : 16 ≤ s.val := of_decide_eq_true ((idle_8 s).symm.trans hi)
    rw [after_8, after_8]; unfold left8
    rw [dif_neg (by omega : ¬s.val < 16)]
    split
    · rename_i h'
      have e : (⟨s.val - 1, by omega⟩ : Fin cfg0.N) = ⟨15, by decide⟩ := Fin.ext (by simp only at h' ⊢; omega)
      congr 1; exact e.symm
    · rfl

/-- So handing it back is what is asked, written back there or not. -/
theorem leaves_8_prompt (c : Dev nD) (t : Fin cfg0.N) (h : 16 ≤ t.val) :
    (owns (c : Thread nD τ) (win0_8.stage (cfg0.slots t 8)) fullShare (left8 m c t) : sProp 𝕄) ⊢ (dats m 0 c).leavesExact 8 t := by
  unfold Dat.leavesExact
  rw [show cfg0.idle 8 (cfg0.grid.coords t) = true from (idle_8 t).trans (by simpa using h)]
  cases hf : (cfg0.win 8).flush t
  · dsimp only
    iintro H; iexists (fun _ => default); rw [before_8 m c t h]; iexact H
  · dsimp only
    rw [after_8]

/-- What the body is called with at a point, -/
def pre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d)))
/-- and what it returns. -/
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 1600000 in
/-- The body at any point. -/
theorem sound (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5, before_6, before_7, leaves_0, leaves_1, leaves_2, leaves_3, leaves_4, leaves_5, leaves_6, leaves_7]
  rw [show (dats m 0 c).Φ t.succ = (dats m 0 c).Φ t.castSucc from rfl,
    show (dats m 0 c).owesAt () t.succ = (dats m 0 c).owesAt () t.castSucc from rfl]
  have hN : t.val < 24 := lt_of_lt_of_eq t.isLt N_0
  by_cases h : t.val < 16
  · rw [show (dats m 0 c).leavesExact 8 t = owns (c : Thread nD τ) (win0_8.stage (cfg0.slots t 8)) fullShare (out_sample m c t h) from by
      unfold Dat.leavesExact; rw [show cfg0.idle 8 (cfg0.grid.coords t) = false from (idle_8 t).trans (by simpa using h), after_8, left8, dif_pos h]]
    rw [Dat.leavesExact_idle (dats m 0 c) 9 t ((idle_9 t).trans (by simpa using h)) (noFlush_9 t h)]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((run_sample c (grid0.coords t) _ _ _ _ _ _ _ _ _ _ _ _ _ _ _ _ _ _ _ _ ((cond_sample t).mpr h) (fun e => by have := (cond_prompt t).mp e; omega) (iblk m c 0 t) (iblk m c 1 t) (iblk m c 2 t) (iblk m c 3 t) (iblk m c 4 t) (iblk m c 5 t) (iblk m c 6 t) (iblk m c 7 t)).2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    iintro ⟨H0, H1, H2, H3, H4, H5, H6, H7, ⟨%e8, H8⟩, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover_sample m c t h)
    iexists _; iexact H9
  · replace h : 16 ≤ t.val := by omega
    rw [show (dats m 0 c).leavesExact 9 t = owns (c : Thread nD τ) (win0_9.stage (cfg0.slots t 9)) fullShare (out_prompt m c t h) from by
      unfold Dat.leavesExact; rw [show cfg0.idle 9 (cfg0.grid.coords t) = false from (idle_9 t).trans (by simpa using h), after_9, left9, dif_pos h]]
    simp only [before_8 m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((run_prompt c (grid0.coords t) _ _ _ _ _ _ _ _ _ _ _ _ _ _ _ _ _ _ _ _ (fun e => by have := (cond_sample t).mp e; omega) ((cond_prompt t).mpr h) (iblk m c 0 t) (iblk m c 1 t) (iblk m c 2 t) (iblk m c 3 t) (iblk m c 4 t) (iblk m c 5 t) (iblk m c 6 t) (iblk m c 7 t)).2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iintro ⟨H0, H1, H2, H3, H4, H5, H6, H7, H8, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iapply (leaves_8_prompt m c t h); iexact H8
    unfold owns; iexists _; isplitr
    swap; · iexact H9
    ipureintro; exact View.read_writes_of_cover _ _ _ _ _ (cover_prompt m c t h)

/-- The body's row of the table at a point. -/
theorem row (t : Fin cfg0.N) : defs₀ (F := F) .tc cfg0.body (cfg0.bodyArgs t (cfg0.slots t)) = bodyAt0 t := by
  unfold defs₀; rw [Defs.onTc_tc]

/-- The body obligation. -/
theorem obligation (c : Dev nD) : BodyObligation (dats (F := F) m 0 c) (defs₀ (F := F)) Variants.none () Set.univ := fun t => by
  rw [bigSep_W0, bigSep_W0, row]
  exact triple_restated (sound m c t) rfl .rfl fun _ => .rfl

-- the run's implicit arguments are found by unifying through plain definitions
set_option backward.isDefEq.respectTransparency.types false in
/-- Every run of the whole program ends with the arrays as the proof data say and every counter at zero. -/
theorem run_all : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The same, of the arrays only. -/
theorem run_main : θ_run defs (onTc (τ := τ) (main (F := F))) (s₀ m ρ) (Pipeline.FramePost cfgs (dats m) 0 (V m)) :=
  (θ_run defs _ _).mono (fun _ h => h.1) (run_all m ρ)

/-- The frame: every argument ends unchanged and every counter at zero, over any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  θ_run_and (frame_of m ρ (dats m) (A_eq m) (run_main m ρ)) ((θ_run defs _ _).mono (fun _ h => h.2) (run_all m ρ))

end Cert.FfnIdeal.Hand
end
-- ==== Proof.FfnTok.lean ====
module

public import Idealize.ShloMosaic.Lib.Pipeline.ValueKit
public import Idealize.ShloMosaic.Lib.Pointwise

@[expose] public section

noncomputable section
open Idealize.ShloMosaic
namespace Cert.Tok

/-- The literals 1024, 1e-6, 1 and 1/2 of the programs. -/
abbrev width : EReal := Ideal.ofBits .f32 0x44800000#32
abbrev eps : EReal := Ideal.ofBits .f32 0x358637BD#32
abbrev one : EReal := Ideal.ofBits .f32 0x3F800000#32
abbrev half : EReal := Ideal.ofBits .f32 0x3F000000#32

/-- The root-mean-square normalization of one token's row. -/
def rms (f : Fin 1024 → EReal) (j : Fin 1024) : EReal :=
  f j * Ideal.rsqrt (Ideal.div (∑ k, f k * f k) width + eps)

/-- The mixer's output projected. -/
def mixed (o : Fin 1024 → EReal) (w : Fin 1024 → Fin 1024 → EReal) (j : Fin 1024) : EReal := ∑ k, o k * w k j

/-- The row after the mixer's gated residual. -/
def joined (x a : Fin 1024 → EReal) (gate g : Fin 1024 → EReal) (j : Fin 1024) : EReal :=
  x j + gate j * (rms a j * g j)

/-- The row normalized, scaled and shifted. -/
def entered (x : Fin 1024 → EReal) (shift scale g : Fin 1024 → EReal) (j : Fin 1024) : EReal :=
  rms x j * g j * (one + scale j) + shift j

/-- The gated unit `n` of the feed-forward network. -/
def gated (h : Fin 1024 → EReal) (wi : Fin 1024 → Fin 5632 → EReal) (n : Fin 2816) : EReal :=
  (∑ k, h k * wi k ⟨n, by omega⟩) * Ideal.logistic (∑ k, h k * wi k ⟨n, by omega⟩) * ∑ k, h k * wi k ⟨2816 + n, by omega⟩

/-- The network's output row. -/
def folded (u : Fin 2816 → EReal) (wo : Fin 2816 → Fin 1024 → EReal) (j : Fin 1024) : EReal := ∑ n, u n * wo n j

/-- The row after the half-step's residual. -/
def stepped (x a : Fin 1024 → EReal) (gate g : Fin 1024 → EReal) (j : Fin 1024) : EReal :=
  x j + half * gate j * (rms a j * g j)

/-- The whole tail of a layer on one token: the mixer's residual and a feed-forward half-step. -/
def tail (x o : Fin 1024 → EReal) (w : Fin 1024 → Fin 1024 → EReal) (m : Fin 9 → Fin 1024 → EReal) (g : Fin 6 → Fin 1024 → EReal)
    (wi : Fin 1024 → Fin 5632 → EReal) (wo : Fin 2816 → Fin 1024 → EReal) : Fin 1024 → EReal :=
  let y := joined x (mixed o w) (m 5) (g 3)
  stepped y (folded (gated (entered y (m 6) (m 7) (g 4)) wi) wo) (m 8) (g 5)

/-- The first and the second half-step of a layer on one token. -/
def half0 (x : Fin 1024 → EReal) (m : Fin 9 → Fin 1024 → EReal) (g : Fin 6 → Fin 1024 → EReal)
    (wi : Fin 1024 → Fin 5632 → EReal) (wo : Fin 2816 → Fin 1024 → EReal) : Fin 1024 → EReal :=
  stepped x (folded (gated (entered x (m 0) (m 1) (g 0)) wi) wo) (m 2) (g 1)
def half1 (x : Fin 1024 → EReal) (m : Fin 9 → Fin 1024 → EReal) (g : Fin 6 → Fin 1024 → EReal)
    (wi : Fin 1024 → Fin 5632 → EReal) (wo : Fin 2816 → Fin 1024 → EReal) : Fin 1024 → EReal :=
  stepped x (folded (gated (entered x (m 6) (m 7) (g 4)) wi) wo) (m 8) (g 5)

/-- A sum over the 2816 units, in the three parts that the kernel takes it. -/
theorem sum_parts (f : Fin 2816 → EReal) :
    ∑ n, f n = ((∑ n : Fin 1024, f ⟨n, by omega⟩) + ∑ n : Fin 1024, f ⟨1024 + n, by omega⟩) + ∑ n : Fin 768, f ⟨2048 + n, by omega⟩ := by
  rw [show (∑ n, f n) = ∑ n : Fin (1024 + 1024 + 768), f ⟨n, n.isLt⟩ from rfl, Fin.sum_univ_add, Fin.sum_univ_add]
  rfl

end Cert.Tok
end
-- ==== Proof.FfnPay.lean ====
module

public import proofs.«01_k».proof.Proof.FfnFrame
public import proofs.«01_k».proof.Proof.FfnTok
public import Idealize.ShloMosaic.Lib.Pipeline.ReadBack

@[expose] public section

set_option maxRecDepth 16384
noncomputable section
open Idealize.ShloMosaic Idealize.ShloMosaic.TcCoe Idealize.SL.Sem
open Idealize.ShloMosaic.Pipeline (Dat)
namespace Cert.FfnIdeal.Hand
open Cert.FfnIdeal Cert.FfnIdeal.Gen Cert.Tok

/-- The rows of the modulation table and of the gains. -/
theorem pay1_at (a : FVec Ideal S1x9x1024 .f32) (k : Fin 9) (j : Fin 1024) : k0_pay1 (F := Ideal) a (ix2 k j) = a (ix3 0 k j) := by
  pointwise [k0_pay1]
theorem pay2_at (a : FVec Ideal S1x6x1024 .f32) (k : Fin 6) (j : Fin 1024) : k0_pay2 (F := Ideal) a (ix2 k j) = a (ix3 0 k j) := by
  pointwise [k0_pay2]

/-- The row after the mixer's residual. -/
theorem pay3_at (i : grid0.Coords) (v0 : FVec Ideal S512x1024 .f32) (v2 : FVec Ideal S1x9x1024 .f32) (v4 : FVec Ideal S1x6x1024 .f32)
    (v7 v9 : FVec Ideal S512x1024 .bf16) (v12 : FVec Ideal S1x1024x1024 .f32) (r : Fin 512) (j : Fin 1024) :
    k0_pay3 (F := Ideal) i v0 v2 v4 v7 v9 v12 (ix2 r j)
      = joined (fun k => v0 (ix2 r k)) (mixed (fun k => Scalar.select (Scalar.cmpi CmpIPredicate.slt (BitVec.ofNat 32 ↑(i 0)) 16#32) (v7 (ix2 r k)) (v9 (ix2 r k)))
          (fun a b => v12 (ix3 0 a b))) (fun k => v2 (ix3 0 5 k)) (fun k => v4 (ix3 0 3 k)) j := by
  unfold joined rms mixed
  pointwise [k0_pay3]
  rw [pay1_at, pay2_at]

/-- Its sum of squares, and the width. -/
theorem pay4_at (i : grid0.Coords) (v0 : FVec Ideal S512x1024 .f32) (v2 : FVec Ideal S1x9x1024 .f32) (v4 : FVec Ideal S1x6x1024 .f32)
    (v7 v9 : FVec Ideal S512x1024 .bf16) (v12 : FVec Ideal S1x1024x1024 .f32) (r : Fin 512) :
    k0_pay4 (F := Ideal) i v0 v2 v4 v7 v9 v12 (ix2 r 0)
      = ∑ k, k0_pay3 (F := Ideal) i v0 v2 v4 v7 v9 v12 (ix2 r k) * k0_pay3 (F := Ideal) i v0 v2 v4 v7 v9 v12 (ix2 r k) := by
  unfold k0_pay4
  generalize k0_pay3 (F := Ideal) i v0 v2 v4 v7 v9 v12 = X
  pointwise []
theorem pay5_at (r : Fin 512) : k0_pay5 (F := Ideal) (ix2 r 0) = width := by
  pointwise [k0_pay5]

/-- The row that enters the network. -/
theorem pay6_at (v3 : FVec Ideal S9x1024 .f32) (v5 : FVec Ideal S6x1024 .f32) (v32 : FVec Ideal S512x1024 .f32) (v35 v36 : FVec Ideal S512x1 .f32) (r : Fin 512) (j : Fin 1024) :
    k0_pay6 (F := Ideal) v3 v5 v32 v35 v36 (ix2 r j)
      = v32 (ix2 r j) * Ideal.rsqrt (Ideal.div (v35 (ix2 r 0)) (v36 (ix2 r 0)) + eps) * v5 (ix2 4 j) * (one + v3 (ix2 7 j)) + v3 (ix2 6 j) := by
  pointwise [k0_pay6]

/-- The first part of the network's output. -/
theorem pay7_at (v3 : FVec Ideal S9x1024 .f32) (v5 : FVec Ideal S6x1024 .f32) (v32 : FVec Ideal S512x1024 .f32) (v35 v36 : FVec Ideal S512x1 .f32)
    (a b d : FVec Ideal S1024x1024 .bf16) (r : Fin 512) (j : Fin 1024) :
    k0_pay7 (F := Ideal) v3 v5 v32 v35 v36 a b d (ix2 r j)
      = ∑ n : Fin 1024, ((∑ k, k0_pay6 (F := Ideal) v3 v5 v32 v35 v36 (ix2 r k) * a (ix2 k n)) * Ideal.logistic (∑ k, k0_pay6 (F := Ideal) v3 v5 v32 v35 v36 (ix2 r k) * a (ix2 k n))
          * ∑ k, k0_pay6 (F := Ideal) v3 v5 v32 v35 v36 (ix2 r k) * b (ix2 k n)) * d (ix2 n j) := by
  unfold k0_pay7
  generalize k0_pay6 (F := Ideal) v3 v5 v32 v35 v36 = X
  pointwise []

/-- The second part's units. -/
theorem pay8_at (v3 : FVec Ideal S9x1024 .f32) (v5 : FVec Ideal S6x1024 .f32) (v32 : FVec Ideal S512x1024 .f32) (v35 v36 : FVec Ideal S512x1 .f32)
    (a b : FVec Ideal S1024x1024 .bf16) (r : Fin 512) (n : Fin 1024) :
    k0_pay8 (F := Ideal) v3 v5 v32 v35 v36 a b (ix2 r n)
      = (∑ k, k0_pay6 (F := Ideal) v3 v5 v32 v35 v36 (ix2 r k) * a (ix2 k n)) * Ideal.logistic (∑ k, k0_pay6 (F := Ideal) v3 v5 v32 v35 v36 (ix2 r k) * a (ix2 k n))
          * ∑ k, k0_pay6 (F := Ideal) v3 v5 v32 v35 v36 (ix2 r k) * b (ix2 k n) := by
  unfold k0_pay8
  generalize k0_pay6 (F := Ideal) v3 v5 v32 v35 v36 = X
  pointwise []

/-- The network's output row from its three parts. -/
def three (v54 : FVec Ideal S512x1024 .bf16) (v67 : FVec Ideal S512x1024 .f32) (v77 : FVec Ideal S512x1024 .bf16)
    (v78 : FVec Ideal S1024x1024 .bf16) (v82 v85 : FVec Ideal S1024x768 .bf16) (v92 : FVec Ideal S768x1024 .bf16) (r : Fin 512) (j : Fin 1024) : EReal :=
  v67 (ix2 r j) + (∑ n, v77 (ix2 r n) * v78 (ix2 n j))
    + ∑ n : Fin 768, ((∑ k, v54 (ix2 r k) * v82 (ix2 k n)) * Ideal.logistic (∑ k, v54 (ix2 r k) * v82 (ix2 k n)) * ∑ k, v54 (ix2 r k) * v85 (ix2 k n)) * v92 (ix2 n j)

/-- The result row. -/
theorem pay9_at (v3 : FVec Ideal S9x1024 .f32) (v5 : FVec Ideal S6x1024 .f32) (v32 : FVec Ideal S512x1024 .f32)
    (v54 : FVec Ideal S512x1024 .bf16) (v67 : FVec Ideal S512x1024 .f32) (v77 : FVec Ideal S512x1024 .bf16)
    (v78 : FVec Ideal S1024x1024 .bf16) (v82 v85 : FVec Ideal S1024x768 .bf16) (v92 : FVec Ideal S768x1024 .bf16) (r : Fin 512) (j : Fin 1024) :
    k0_pay9 (F := Ideal) v3 v5 v32 v54 v67 v77 v78 v82 v85 v92 (ix2 r j)
      = stepped (fun k => v32 (ix2 r k)) (three v54 v67 v77 v78 v82 v85 v92 r) (fun k => v3 (ix2 8 k)) (fun k => v5 (ix2 5 k)) j := by
  unfold stepped rms three
  pointwise [k0_pay9]

end Cert.FfnIdeal.Hand
end
-- ==== Proof.FfnBlock.lean ====
module

public import proofs.«01_k».proof.Proof.FfnPay

@[expose] public section

set_option maxRecDepth 16384
noncomputable section
open Idealize.ShloMosaic Idealize.ShloMosaic.TcCoe Idealize.SL.Sem
open Idealize.ShloMosaic.Pipeline (Dat)
namespace Cert.FfnIdeal.Hand
open Cert.FfnIdeal Cert.FfnIdeal.Gen Cert.Tok
variable (m : (ℓ : Loc nD τ sig) → Buf (Elt Ideal) ℓ)

/-- The body's composed payload, from its eight input blocks. -/
def payload (i : grid0.Coords) (x0 : FVec Ideal S512x1024 .f32) (x1 x2 : FVec Ideal S512x1024 .bf16) (x3 : FVec Ideal S1x1024x1024 .f32)
    (x4 : FVec Ideal S1x9x1024 .f32) (x5 : FVec Ideal S1x6x1024 .f32) (x6 : FVec Ideal S1024x5632 .bf16) (x7 : FVec Ideal S2816x1024 .bf16) : FVec Ideal S512x1024 .f32 :=
  k0_pay9 (F := Ideal) (k0_pay1 x4) (k0_pay2 x5) (k0_pay3 i x0 x4 x5 x1 x2 x3)
    (k0_pay6 (k0_pay1 x4) (k0_pay2 x5) (k0_pay3 i x0 x4 x5 x1 x2 x3) (k0_pay4 i x0 x4 x5 x1 x2 x3) k0_pay5)
    (k0_pay7 (k0_pay1 x4) (k0_pay2 x5) (k0_pay3 i x0 x4 x5 x1 x2 x3) (k0_pay4 i x0 x4 x5 x1 x2 x3) k0_pay5
      (View.ld (Val := Elt Ideal) (e' := .bf16) x6 (Rect.unit ![0, 0] ![1024, 1024] inb_S1024x5632_S1024x1024_0_0))
      (View.ld (Val := Elt Ideal) (e' := .bf16) x6 (Rect.unit ![0, 2816] ![1024, 1024] inb_S1024x5632_S1024x1024_0_2816))
      (View.ld (Val := Elt Ideal) (e' := .bf16) x7 (Rect.unit ![0, 0] ![1024, 1024] inb_S2816x1024_S1024x1024_0_0)))
    (k0_pay8 (k0_pay1 x4) (k0_pay2 x5) (k0_pay3 i x0 x4 x5 x1 x2 x3) (k0_pay4 i x0 x4 x5 x1 x2 x3) k0_pay5
      (View.ld (Val := Elt Ideal) (e' := .bf16) x6 (Rect.unit ![0, 1024] ![1024, 1024] inb_S1024x5632_S1024x1024_0_1024))
      (View.ld (Val := Elt Ideal) (e' := .bf16) x6 (Rect.unit ![0, 3840] ![1024, 1024] inb_S1024x5632_S1024x1024_0_3840)))
    (View.ld (Val := Elt Ideal) (e' := .bf16) x7 (Rect.unit ![1024, 0] ![1024, 1024] inb_S2816x1024_S1024x1024_1024_0))
    (View.ld (Val := Elt Ideal) (e' := .bf16) x6 (Rect.unit ![0, 2048] ![1024, 768] inb_S1024x5632_S1024x768_0_2048))
    (View.ld (Val := Elt Ideal) (e' := .bf16) x6 (Rect.unit ![0, 4864] ![1024, 768] inb_S1024x5632_S1024x768_0_4864))
    (View.ld (Val := Elt Ideal) (e' := .bf16) x7 (Rect.unit ![2048, 0] ![768, 1024] inb_S2816x1024_S768x1024_2048_0))

set_option maxHeartbeats 4000000 in
/-- Each output's block after a point of its own is the payload of the input blocks. -/
theorem point_sample (c : Dev nD) (t : Fin cfg0.N) (h : t.val < 16) :
    out_sample m c t h = payload (grid0.coords t) (iblk m c 0 t) (iblk m c 1 t) (iblk m c 2 t) (iblk m c 3 t) (iblk m c 4 t) (iblk m c 5 t) (iblk m c 6 t) (iblk m c 7 t) := by
  refine funext fun y => ?_
  unfold out_sample pieces_sample
  frame_open
  simp (disch := decide) only [↓View.readCov_skip, ↓View.readCov_cons_toLoadRect, View.readAt_eq_ld, View.read_writes_junk_eq_canon, View.ld_unit_lit', Memref.IsWhole.read_unread]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  canon_tiles x h
  rw [show y = x from funext (Fin.forall_fin_two.mpr ⟨Fin.ext h0, Fin.ext h1⟩)]
  unfold payload
  rfl

set_option maxHeartbeats 4000000 in
theorem point_prompt (c : Dev nD) (t : Fin cfg0.N) (h : 16 ≤ t.val) :
    out_prompt m c t h = payload (grid0.coords t) (iblk m c 0 t) (iblk m c 1 t) (iblk m c 2 t) (iblk m c 3 t) (iblk m c 4 t) (iblk m c 5 t) (iblk m c 6 t) (iblk m c 7 t) := by
  refine funext fun y => ?_
  unfold out_prompt pieces_prompt
  frame_open
  simp (disch := decide) only [↓View.readCov_skip, ↓View.readCov_cons_toLoadRect, View.readAt_eq_ld, View.read_writes_junk_eq_canon, View.ld_unit_lit', Memref.IsWhole.read_unread]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  canon_tiles x h
  rw [show y = x from funext (Fin.forall_fin_two.mpr ⟨Fin.ext h0, Fin.ext h1⟩)]
  unfold payload
  rfl

/-- A loaded part of a weight block at an index. -/
theorem ld_in (x : FVec Ideal S1024x5632 .bf16) (o w : ℕ) (inb) (h : o + w ≤ 5632) (k : Fin 1024) (n : Fin w) :
    View.ld (Val := Elt Ideal) (S := S1024x5632) (e' := .bf16) x (Rect.unit ![0, o] ![1024, w] inb) (ix2 k n) = x (ix2 k ⟨o + n, by omega⟩) :=
  congrArg x (funext (Fin.forall_fin_two.mpr ⟨Fin.ext (by simp [Rect.unit]), Fin.ext (by simp [Rect.unit])⟩))

theorem ld_out (x : FVec Ideal S2816x1024 .bf16) (o w : ℕ) (inb) (h : o + w ≤ 2816) (n : Fin w) (k : Fin 1024) :
    View.ld (Val := Elt Ideal) (S := S2816x1024) (e' := .bf16) x (Rect.unit ![o, 0] ![w, 1024] inb) (ix2 n k) = x (ix2 ⟨o + n, by omega⟩ k) :=
  congrArg x (funext (Fin.forall_fin_two.mpr ⟨Fin.ext (by simp [Rect.unit]), Fin.ext (by simp [Rect.unit])⟩))

/-- A unit of a part, read through the loads of its three weights' parts, is the network's unit. -/
theorem unit_eq {w : ℕ} (E : Fin 1024 → EReal) (wi : FVec Ideal S1024x5632 .bf16) (wo : FVec Ideal S2816x1024 .bf16)
    (o : ℕ) (inb) (o' : ℕ) (inb') (p : ℕ) (inb'') (N : Fin 2816) (n : Fin w) (h : o + w ≤ 5632) (h' : o' + w ≤ 5632) (h'' : p + w ≤ 2816)
    (e : N.val = o + n) (e' : 2816 + N.val = o' + n) (e'' : N.val = p + n) (l : Fin 1024) :
    ((∑ k, E k * View.ld (Val := Elt Ideal) (S := S1024x5632) (e' := .bf16) wi (Rect.unit ![0, o] ![1024, w] inb) (ix2 k n))
        * Ideal.logistic (∑ k, E k * View.ld (Val := Elt Ideal) (S := S1024x5632) (e' := .bf16) wi (Rect.unit ![0, o] ![1024, w] inb) (ix2 k n))
        * ∑ k, E k * View.ld (Val := Elt Ideal) (S := S1024x5632) (e' := .bf16) wi (Rect.unit ![0, o'] ![1024, w] inb') (ix2 k n))
      * View.ld (Val := Elt Ideal) (S := S2816x1024) (e' := .bf16) wo (Rect.unit ![p, 0] ![w, 1024] inb'') (ix2 n l)
      = gated E (fun a b => wi (ix2 a b)) N * wo (ix2 N l) := by
  unfold gated
  rw [ld_out wo p w inb'' h'' n l, show (⟨p + n, by omega⟩ : Fin 2816) = N from Fin.ext e''.symm]
  simp only [ld_in wi o w inb h _ n, ld_in wi o' w inb' h' _ n,
    show (⟨o + n, by omega⟩ : Fin 5632) = ⟨N, by omega⟩ from Fin.ext e.symm, show (⟨o' + n, by omega⟩ : Fin 5632) = ⟨2816 + N, by omega⟩ from Fin.ext e'.symm]

/-- The payload at an index is the tail of the layer on that token. -/
theorem payload_at (i : grid0.Coords) (x0 : FVec Ideal S512x1024 .f32) (x1 x2 : FVec Ideal S512x1024 .bf16) (x3 : FVec Ideal S1x1024x1024 .f32)
    (x4 : FVec Ideal S1x9x1024 .f32) (x5 : FVec Ideal S1x6x1024 .f32) (x6 : FVec Ideal S1024x5632 .bf16) (x7 : FVec Ideal S2816x1024 .bf16) (r : Fin 512) (j : Fin 1024) :
    payload i x0 x1 x2 x3 x4 x5 x6 x7 (ix2 r j)
      = tail (fun k => x0 (ix2 r k)) (fun k => Scalar.select (Scalar.cmpi CmpIPredicate.slt (BitVec.ofNat 32 ↑(i 0)) 16#32) (x1 (ix2 r k)) (x2 (ix2 r k)))
          (fun a b => x3 (ix3 0 a b)) (fun a b => x4 (ix3 0 a b)) (fun a b => x5 (ix3 0 a b)) (fun a b => x6 (ix2 a b)) (fun a b => x7 (ix2 a b)) j := by
  have a0 : ∀ (k : Fin 1024) (n : Fin 1024), View.ld (Val := Elt Ideal) (S := S1024x5632) (e' := .bf16) x6 (Rect.unit ![0, 0] ![1024, 1024] inb_S1024x5632_S1024x1024_0_0) (ix2 k n) = x6 (ix2 k ⟨n, by omega⟩) :=
    fun k n => (ld_in x6 0 1024 _ (by decide) k n).trans (congrArg (fun q => x6 (ix2 k q)) (Fin.ext (by simp only [] <;> omega)))
  have b0 : ∀ (k : Fin 1024) (n : Fin 1024), View.ld (Val := Elt Ideal) (S := S1024x5632) (e' := .bf16) x6 (Rect.unit ![0, 2816] ![1024, 1024] inb_S1024x5632_S1024x1024_0_2816) (ix2 k n) = x6 (ix2 k ⟨2816 + n, by omega⟩) :=
    fun k n => (ld_in x6 2816 1024 _ (by decide) k n).trans (congrArg (fun q => x6 (ix2 k q)) (Fin.ext (by simp only [] <;> omega)))
  have d0 : ∀ (n : Fin 1024) (k : Fin 1024), View.ld (Val := Elt Ideal) (S := S2816x1024) (e' := .bf16) x7 (Rect.unit ![0, 0] ![1024, 1024] inb_S2816x1024_S1024x1024_0_0) (ix2 n k) = x7 (ix2 ⟨n, by omega⟩ k) :=
    fun n k => (ld_out x7 0 1024 _ (by decide) n k).trans (congrArg (fun q => x7 (ix2 q k)) (Fin.ext (by simp only [] <;> omega)))
  have a1 : ∀ (k : Fin 1024) (n : Fin 1024), View.ld (Val := Elt Ideal) (S := S1024x5632) (e' := .bf16) x6 (Rect.unit ![0, 1024] ![1024, 1024] inb_S1024x5632_S1024x1024_0_1024) (ix2 k n) = x6 (ix2 k ⟨1024 + n, by omega⟩) :=
    fun k n => (ld_in x6 1024 1024 _ (by decide) k n).trans (congrArg (fun q => x6 (ix2 k q)) (Fin.ext (by simp only [] <;> omega)))
  have b1 : ∀ (k : Fin 1024) (n : Fin 1024), View.ld (Val := Elt Ideal) (S := S1024x5632) (e' := .bf16) x6 (Rect.unit ![0, 3840] ![1024, 1024] inb_S1024x5632_S1024x1024_0_3840) (ix2 k n) = x6 (ix2 k ⟨2816 + (1024 + n), by omega⟩) :=
    fun k n => (ld_in x6 3840 1024 _ (by decide) k n).trans (congrArg (fun q => x6 (ix2 k q)) (Fin.ext (by simp only [] <;> omega)))
  have d1 : ∀ (n : Fin 1024) (k : Fin 1024), View.ld (Val := Elt Ideal) (S := S2816x1024) (e' := .bf16) x7 (Rect.unit ![1024, 0] ![1024, 1024] inb_S2816x1024_S1024x1024_1024_0) (ix2 n k) = x7 (ix2 ⟨1024 + n, by omega⟩ k) :=
    fun n k => (ld_out x7 1024 1024 _ (by decide) n k).trans (congrArg (fun q => x7 (ix2 q k)) (Fin.ext (by simp only [] <;> omega)))
  have a2 : ∀ (k : Fin 1024) (n : Fin 768), View.ld (Val := Elt Ideal) (S := S1024x5632) (e' := .bf16) x6 (Rect.unit ![0, 2048] ![1024, 768] inb_S1024x5632_S1024x768_0_2048) (ix2 k n) = x6 (ix2 k ⟨2048 + n, by omega⟩) :=
    fun k n => (ld_in x6 2048 768 _ (by decide) k n).trans (congrArg (fun q => x6 (ix2 k q)) (Fin.ext (by simp only [] <;> omega)))
  have b2 : ∀ (k : Fin 1024) (n : Fin 768), View.ld (Val := Elt Ideal) (S := S1024x5632) (e' := .bf16) x6 (Rect.unit ![0, 4864] ![1024, 768] inb_S1024x5632_S1024x768_0_4864) (ix2 k n) = x6 (ix2 k ⟨2816 + (2048 + n), by omega⟩) :=
    fun k n => (ld_in x6 4864 768 _ (by decide) k n).trans (congrArg (fun q => x6 (ix2 k q)) (Fin.ext (by simp only [] <;> omega)))
  have d2 : ∀ (n : Fin 768) (k : Fin 1024), View.ld (Val := Elt Ideal) (S := S2816x1024) (e' := .bf16) x7 (Rect.unit ![2048, 0] ![768, 1024] inb_S2816x1024_S768x1024_2048_0) (ix2 n k) = x7 (ix2 ⟨2048 + n, by omega⟩ k) :=
    fun n k => (ld_out x7 2048 768 _ (by decide) n k).trans (congrArg (fun q => x7 (ix2 q k)) (Fin.ext (by simp only [] <;> omega)))
  have h3 := fun k => pay3_at i x0 x4 x5 x1 x2 x3 r k
  generalize hY : joined (fun k => x0 (ix2 r k)) (mixed (fun k => Scalar.select (Scalar.cmpi CmpIPredicate.slt (BitVec.ofNat 32 ↑(i 0)) 16#32) (x1 (ix2 r k)) (x2 (ix2 r k)))
    (fun a b => x3 (ix3 0 a b))) (fun k => x4 (ix3 0 5 k)) (fun k => x5 (ix3 0 3 k)) = Y at h3
  have h6 : ∀ k, k0_pay6 (F := Ideal) (k0_pay1 x4) (k0_pay2 x5) (k0_pay3 i x0 x4 x5 x1 x2 x3) (k0_pay4 i x0 x4 x5 x1 x2 x3) k0_pay5 (ix2 r k)
      = entered Y (fun k => x4 (ix3 0 6 k)) (fun k => x4 (ix3 0 7 k)) (fun k => x5 (ix3 0 4 k)) k := fun k => by
    rw [pay6_at, pay4_at, pay5_at, pay1_at, pay1_at, pay2_at]
    simp only [h3]
    rfl
  generalize hE : entered Y (fun k => x4 (ix3 0 6 k)) (fun k => x4 (ix3 0 7 k)) (fun k => x5 (ix3 0 4 k)) = E at h6
  unfold payload
  rw [pay9_at]
  simp only [pay1_at, pay2_at, h3]
  refine Eq.trans ?_ (show stepped Y (folded (gated E (fun a b => x6 (ix2 a b))) (fun a b => x7 (ix2 a b))) (fun k => x4 (ix3 0 8 k)) (fun k => x5 (ix3 0 5 k)) j = _ by
    rw [← hE, ← hY]; rfl)
  refine congrArg (fun f => stepped Y f (fun k => x4 (ix3 0 8 k)) (fun k => x5 (ix3 0 5 k)) j) (funext fun l => ?_)
  unfold three folded
  rw [pay7_at, sum_parts]
  simp only [pay8_at, h6, a0, b0, d0, a1, b1, d1, a2, b2, d2]
  rfl

end Cert.FfnIdeal.Hand
end
-- ==== Proof.FfnRefAt.lean ====
module

public import proofs.«01_k».proof.Proof.Gen.FfnRefIdeal.Run
public import proofs.«01_k».proof.Proof.FfnTok

@[expose] public section

set_option maxRecDepth 16384
noncomputable section
open Idealize.ShloMosaic Idealize.ShloMosaic.TcCoe Idealize.SL.Sem
namespace Cert.FfnRefIdeal.At
open Cert.FfnRefIdeal Cert.FfnRefIdeal.Gen Cert.Tok

/-- The last layer's gains. -/
def gains (g : FVec Ideal S4x6x1024 .f32) : FVec Ideal S6x1024 .f32 :=
  shapeCast _ (extractStridedSlice S1x6x1024 ![3, 0, 0] g slices_S4x6x1024_S1x6x1024_3_0_0) shapeCasts_S1x6x1024_S6x1024
theorem gains_at (g : FVec Ideal S4x6x1024 .f32) (i : Fin 6) (k : Fin 1024) : gains g (ix2 i k) = g (ix3 3 i k) := by
  pointwise [gains]

/-- The unit of the gate is the logistic function of its argument. -/
theorem silu_eq (x : EReal) : Ideal.div (Ideal.ofBits .f32 0x3F800000#32) (Ideal.ofBits .f32 0x3F800000#32 + Ideal.exp (-x)) = Ideal.logistic x := by
  have h : Ideal.ofBits .f32 0x3F800000#32 = 1 := by
    simp [Ideal.ofBits, Ideal.ieee]
    rw [← EReal.coe_mul]; norm_num
  rw [h]; rfl

/-! The sample tokens, stage by stage. -/

def project_sample (o : FVec Ideal S8x1024x1024 .f32) (w : FVec Ideal S2x1024x1024 .f32) : FVec Ideal S8x1024x1024 .f32 :=
  Host.dotGeneral dot_S8x1024x1024_S1024x1024_S8x1024x1024_2_0_01_1_n_n none o (shapeCast _ (extractStridedSlice S1x1024x1024 ![1, 0, 0] w slices_S2x1024x1024_S1x1024x1024_1_0_0) shapeCasts_S1x1024x1024_S1024x1024)
theorem project_sample_at (o : FVec Ideal S8x1024x1024 .f32) (w : FVec Ideal S2x1024x1024 .f32) (b : Fin 8) (s : Fin 1024) (j : Fin 1024) :
    project_sample o w (ix3 b s j) = mixed (fun k => o (ix3 b s k)) (fun a b => w (ix3 1 a b)) j := by
  unfold mixed
  pointwise [project_sample]

def join_sample (y X : FVec Ideal S8x1024x1024 .f32) (μ : FVec Ideal S8x9x1024 .f32) (G : FVec Ideal S6x1024 .f32) : FVec Ideal S8x1024x1024 .f32 :=
  addf y (mulf (broadcastInDim S8x1024x1024 ![0, 1, 2] bcast_S8x1x1024_S8x1024x1024_0_1_2 (extractStridedSlice S8x1x1024 ![0, 5, 0] μ slices_S8x9x1024_S8x1x1024_0_5_0)) (mulf (mulf X (broadcastInDim S8x1024x1024 ![0, 1, 2] bcast_S8x1024x1_S8x1024x1024_0_1_2 (Host.rsqrt (addf (Host.divf (broadcastInDim S8x1024x1 ![0, 1] bcast_S8x1024_S8x1024x1_0_1 (Host.reduceAdd (mulf X X) (constant S_ .f32 0x00000000#32) reducesTo_S8x1024x1024_S8x1024_d2 h_S_)) (broadcastInDim S8x1024x1 ![] bcast_S_S8x1024x1 (constant S_ .f32 0x44800000#32))) (broadcastInDim S8x1024x1 ![] bcast_S_S8x1024x1 (constant S_ .f32 0x358637BD#32)))))) (broadcastInDim S8x1024x1024 ![0, 1, 2] bcast_S1x1x1024_S8x1024x1024_0_1_2 (broadcastInDim S1x1x1024 ![2] bcast_S1024_S1x1x1024_2 (shapeCast _ (extractStridedSlice S1x1024 ![3, 0] G slices_S6x1024_S1x1024_3_0) shapeCasts_S1x1024_S1024)))))
theorem join_sample_at (y X : FVec Ideal S8x1024x1024 .f32) (μ : FVec Ideal S8x9x1024 .f32) (G : FVec Ideal S6x1024 .f32) (b : Fin 8) (s : Fin 1024) (j : Fin 1024) :
    join_sample y X μ G (ix3 b s j) = joined (fun k => y (ix3 b s k)) (fun k => X (ix3 b s k)) (fun k => μ (ix3 b 5 k)) (fun k => G (ix2 3 k)) j := by
  unfold joined rms
  pointwise [join_sample]

def enter_sample (Y : FVec Ideal S8x1024x1024 .f32) (μ : FVec Ideal S8x9x1024 .f32) (G : FVec Ideal S6x1024 .f32) : FVec Ideal S8x1024x1024 .f32 :=
  addf (mulf (mulf (mulf Y (broadcastInDim S8x1024x1024 ![0, 1, 2] bcast_S8x1024x1_S8x1024x1024_0_1_2 (Host.rsqrt (addf (Host.divf (broadcastInDim S8x1024x1 ![0, 1] bcast_S8x1024_S8x1024x1_0_1 (Host.reduceAdd (mulf Y Y) (constant S_ .f32 0x00000000#32) reducesTo_S8x1024x1024_S8x1024_d2 h_S_)) (broadcastInDim S8x1024x1 ![] bcast_S_S8x1024x1 (constant S_ .f32 0x44800000#32))) (broadcastInDim S8x1024x1 ![] bcast_S_S8x1024x1 (constant S_ .f32 0x358637BD#32)))))) (broadcastInDim S8x1024x1024 ![0, 1, 2] bcast_S1x1x1024_S8x1024x1024_0_1_2 (broadcastInDim S1x1x1024 ![2] bcast_S1024_S1x1x1024_2 (shapeCast _ (extractStridedSlice S1x1024 ![4, 0] G slices_S6x1024_S1x1024_4_0) shapeCasts_S1x1024_S1024)))) (broadcastInDim S8x1024x1024 ![0, 1, 2] bcast_S8x1x1024_S8x1024x1024_0_1_2 (addf (broadcastInDim S8x1x1024 ![] bcast_S_S8x1x1024 (constant S_ .f32 0x3F800000#32)) (extractStridedSlice S8x1x1024 ![0, 7, 0] μ slices_S8x9x1024_S8x1x1024_0_7_0)))) (broadcastInDim S8x1024x1024 ![0, 1, 2] bcast_S8x1x1024_S8x1024x1024_0_1_2 (extractStridedSlice S8x1x1024 ![0, 6, 0] μ slices_S8x9x1024_S8x1x1024_0_6_0))
theorem enter_sample_at (Y : FVec Ideal S8x1024x1024 .f32) (μ : FVec Ideal S8x9x1024 .f32) (G : FVec Ideal S6x1024 .f32) (b : Fin 8) (s : Fin 1024) (j : Fin 1024) :
    enter_sample Y μ G (ix3 b s j) = entered (fun k => Y (ix3 b s k)) (fun k => μ (ix3 b 6 k)) (fun k => μ (ix3 b 7 k)) (fun k => G (ix2 4 k)) j := by
  unfold entered rms
  pointwise [enter_sample]

def widen_sample (E : FVec Ideal S8x1024x1024 .f32) (wi : FVec Ideal S4x2x1024x5632 .f32) : FVec Ideal S8x1024x5632 .f32 :=
  Host.dotGeneral dot_S8x1024x1024_S1024x5632_S8x1024x5632_2_0_01_1_n_n none E (shapeCast _ (extractStridedSlice S1x1x1024x5632 ![3, 1, 0, 0] wi slices_S4x2x1024x5632_S1x1x1024x5632_3_1_0_0) shapeCasts_S1x1x1024x5632_S1024x5632)
theorem widen_sample_at (E : FVec Ideal S8x1024x1024 .f32) (wi : FVec Ideal S4x2x1024x5632 .f32) (b : Fin 8) (s : Fin 1024) (n : Fin 5632) :
    widen_sample E wi (ix3 b s n) = ∑ k, E (ix3 b s k) * wi (ix4 3 1 k n) := by
  pointwise [widen_sample]

def half_sample (W : FVec Ideal S8x1024x5632 .f32) : FVec Ideal S8x1024x2816 .f32 :=
  extractStridedSlice S8x1024x2816 ![0, 0, 0] W slices_S8x1024x5632_S8x1024x2816_0_0_0
def gate_sample (W : FVec Ideal S8x1024x5632 .f32) (U : FVec Ideal S8x1024x2816 .f32) : FVec Ideal S8x1024x2816 .f32 :=
  mulf (mulf U (Host.divf (broadcastInDim S8x1024x2816 ![] bcast_S_S8x1024x2816 (constant S_ .f32 0x3F800000#32)) (addf (broadcastInDim S8x1024x2816 ![] bcast_S_S8x1024x2816 (constant S_ .f32 0x3F800000#32)) (Host.exp (Host.negf U))))) (extractStridedSlice S8x1024x2816 ![0, 0, 2816] W slices_S8x1024x5632_S8x1024x2816_0_0_2816)
theorem gate_sample_at (W : FVec Ideal S8x1024x5632 .f32) (b : Fin 8) (s : Fin 1024) (n : Fin 2816) :
    gate_sample W (half_sample W) (ix3 b s n) = W (ix3 b s ⟨n, by omega⟩) * Ideal.logistic (W (ix3 b s ⟨n, by omega⟩)) * W (ix3 b s ⟨2816 + n, by omega⟩) := by
  rw [← silu_eq]
  pointwise [gate_sample, half_sample]

def fold_sample (U : FVec Ideal S8x1024x2816 .f32) (wo : FVec Ideal S4x2x2816x1024 .f32) : FVec Ideal S8x1024x1024 .f32 :=
  Host.dotGeneral dot_S8x1024x2816_S2816x1024_S8x1024x1024_2_0_01_1_n_n none U (shapeCast _ (extractStridedSlice S1x1x2816x1024 ![3, 1, 0, 0] wo slices_S4x2x2816x1024_S1x1x2816x1024_3_1_0_0) shapeCasts_S1x1x2816x1024_S2816x1024)
theorem fold_sample_at (U : FVec Ideal S8x1024x2816 .f32) (wo : FVec Ideal S4x2x2816x1024 .f32) (b : Fin 8) (s : Fin 1024) (j : Fin 1024) :
    fold_sample U wo (ix3 b s j) = folded (fun n => U (ix3 b s n)) (fun n j => wo (ix4 3 1 n j)) j := by
  unfold folded
  pointwise [fold_sample]

def step_sample (Y Z : FVec Ideal S8x1024x1024 .f32) (μ : FVec Ideal S8x9x1024 .f32) (G : FVec Ideal S6x1024 .f32) : FVec Ideal S8x1024x1024 .f32 :=
  addf Y (mulf (broadcastInDim S8x1024x1024 ![0, 1, 2] bcast_S8x1x1024_S8x1024x1024_0_1_2 (mulf (broadcastInDim S8x1x1024 ![] bcast_S_S8x1x1024 (constant S_ .f32 0x3F000000#32)) (extractStridedSlice S8x1x1024 ![0, 8, 0] μ slices_S8x9x1024_S8x1x1024_0_8_0))) (mulf (mulf Z (broadcastInDim S8x1024x1024 ![0, 1, 2] bcast_S8x1024x1_S8x1024x1024_0_1_2 (Host.rsqrt (addf (Host.divf (broadcastInDim S8x1024x1 ![0, 1] bcast_S8x1024_S8x1024x1_0_1 (Host.reduceAdd (mulf Z Z) (constant S_ .f32 0x00000000#32) reducesTo_S8x1024x1024_S8x1024_d2 h_S_)) (broadcastInDim S8x1024x1 ![] bcast_S_S8x1024x1 (constant S_ .f32 0x44800000#32))) (broadcastInDim S8x1024x1 ![] bcast_S_S8x1024x1 (constant S_ .f32 0x358637BD#32)))))) (broadcastInDim S8x1024x1024 ![0, 1, 2] bcast_S1x1x1024_S8x1024x1024_0_1_2 (broadcastInDim S1x1x1024 ![2] bcast_S1024_S1x1x1024_2 (shapeCast _ (extractStridedSlice S1x1024 ![5, 0] G slices_S6x1024_S1x1024_5_0) shapeCasts_S1x1024_S1024)))))
theorem step_sample_at (Y Z : FVec Ideal S8x1024x1024 .f32) (μ : FVec Ideal S8x9x1024 .f32) (G : FVec Ideal S6x1024 .f32) (b : Fin 8) (s : Fin 1024) (j : Fin 1024) :
    step_sample Y Z μ G (ix3 b s j) = stepped (fun k => Y (ix3 b s k)) (fun k => Z (ix3 b s k)) (fun k => μ (ix3 b 8 k)) (fun k => G (ix2 5 k)) j := by
  unfold stepped rms
  pointwise [step_sample]

/-- The sample tokens' whole result before its rows are laid out. -/
def out_sample (y o : FVec Ideal S8x1024x1024 .f32) (w : FVec Ideal S2x1024x1024 .f32) (μ : FVec Ideal S8x9x1024 .f32) (g : FVec Ideal S4x6x1024 .f32) (wi : FVec Ideal S4x2x1024x5632 .f32) (wo : FVec Ideal S4x2x2816x1024 .f32) : FVec Ideal S8x1024x1024 .f32 :=
  let Y := join_sample y (project_sample o w) μ (gains g)
  let W := widen_sample (enter_sample Y μ (gains g)) wi
  step_sample Y (fold_sample (gate_sample W (half_sample W)) wo) μ (gains g)

theorem out_sample_at (y o : FVec Ideal S8x1024x1024 .f32) (w : FVec Ideal S2x1024x1024 .f32) (μ : FVec Ideal S8x9x1024 .f32) (g : FVec Ideal S4x6x1024 .f32) (wi : FVec Ideal S4x2x1024x5632 .f32) (wo : FVec Ideal S4x2x2816x1024 .f32) (b : Fin 8) (s : Fin 1024) (j : Fin 1024) :
    out_sample y o w μ g wi wo (ix3 b s j) = tail (fun k => y (ix3 b s k)) (fun k => o (ix3 b s k)) (fun a b => w (ix3 1 a b)) (fun i k => μ (ix3 b i k)) (fun a b => g (ix3 3 a b))
      (fun a b => wi (ix4 3 1 a b)) (fun a b => wo (ix4 3 1 a b)) j := by
  simp only [out_sample, tail, step_sample_at, fold_sample_at, gate_sample_at, widen_sample_at, enter_sample_at, join_sample_at, project_sample_at, gains_at]
  rfl

/-- The printed result is the composition of the stages. -/
theorem res_sample (m : (ℓ : Loc nD τ sig) → Buf (Elt Ideal) ℓ) (c : Dev nD) (X) (h : X = shapeCast _ (addf (Value.res_main_v31 (StableHlo.launchContents m c)) (mulf (broadcastInDim S8x1024x1024 ![0, 1, 2] bcast_S8x1x1024_S8x1024x1024_0_1_2 (mulf (broadcastInDim S8x1x1024 ![] bcast_S_S8x1x1024 (constant S_ .f32 0x3F000000#32)) (extractStridedSlice S8x1x1024 ![0, 8, 0] ((StableHlo.launchContents m c) (Proc.devRef .tc main_arg5)) slices_S8x9x1024_S8x1x1024_0_8_0))) (mulf (mulf (Value.res_main_v64 (StableHlo.launchContents m c)) (broadcastInDim S8x1024x1024 ![0, 1, 2] bcast_S8x1024x1_S8x1024x1024_0_1_2 (Host.rsqrt (addf (Host.divf (broadcastInDim S8x1024x1 ![0, 1] bcast_S8x1024_S8x1024x1_0_1 (Host.reduceAdd (mulf (Value.res_main_v64 (StableHlo.launchContents m c)) (Value.res_main_v64 (StableHlo.launchContents m c))) (constant S_ .f32 0x00000000#32) reducesTo_S8x1024x1024_S8x1024_d2 h_S_)) (broadcastInDim S8x1024x1 ![] bcast_S_S8x1024x1 (constant S_ .f32 0x44800000#32))) (broadcastInDim S8x1024x1 ![] bcast_S_S8x1024x1 (constant S_ .f32 0x358637BD#32)))))) (broadcastInDim S8x1024x1024 ![0, 1, 2] bcast_S1x1x1024_S8x1024x1024_0_1_2 (broadcastInDim S1x1x1024 ![2] bcast_S1024_S1x1x1024_2 (shapeCast _ (extractStridedSlice S1x1024 ![5, 0] (Value.res_main_v1 (StableHlo.launchContents m c)) slices_S6x1024_S1x1024_5_0) shapeCasts_S1x1024_S1024)))))) shapeCasts_S8x1024x1024_S8192x1024) :
    X = shapeCast _ (out_sample (m ((c.tc : Thread nD τ).loc main_arg1)) (m ((c.tc : Thread nD τ).loc main_arg3)) (m ((c.tc : Thread nD τ).loc main_arg9)) (m ((c.tc : Thread nD τ).loc main_arg5))
      (m ((c.tc : Thread nD τ).loc main_arg6)) (m ((c.tc : Thread nD τ).loc main_arg7)) (m ((c.tc : Thread nD τ).loc main_arg8))) shapeCasts_S8x1024x1024_S8192x1024 := h

/-! The prompt tokens, stage by stage. -/

def project_prompt (o : FVec Ideal S16x256x1024 .f32) (w : FVec Ideal S2x1024x1024 .f32) : FVec Ideal S16x256x1024 .f32 :=
  Host.dotGeneral dot_S16x256x1024_S1024x1024_S16x256x1024_2_0_01_1_n_n none o (shapeCast _ (extractStridedSlice S1x1024x1024 ![1, 0, 0] w slices_S2x1024x1024_S1x1024x1024_1_0_0) shapeCasts_S1x1024x1024_S1024x1024)
theorem project_prompt_at (o : FVec Ideal S16x256x1024 .f32) (w : FVec Ideal S2x1024x1024 .f32) (b : Fin 16) (s : Fin 256) (j : Fin 1024) :
    project_prompt o w (ix3 b s j) = mixed (fun k => o (ix3 b s k)) (fun a b => w (ix3 1 a b)) j := by
  unfold mixed
  pointwise [project_prompt]

def join_prompt (y X : FVec Ideal S16x256x1024 .f32) (μ : FVec Ideal S1x9x1024 .f32) (G : FVec Ideal S6x1024 .f32) : FVec Ideal S16x256x1024 .f32 :=
  addf y (mulf (broadcastInDim S16x256x1024 ![0, 1, 2] bcast_S1x1x1024_S16x256x1024_0_1_2 (extractStridedSlice S1x1x1024 ![0, 5, 0] μ slices_S1x9x1024_S1x1x1024_0_5_0)) (mulf (mulf X (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf X X) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 (shapeCast _ (extractStridedSlice S1x1024 ![3, 0] G slices_S6x1024_S1x1024_3_0) shapeCasts_S1x1024_S1024)))))
theorem join_prompt_at (y X : FVec Ideal S16x256x1024 .f32) (μ : FVec Ideal S1x9x1024 .f32) (G : FVec Ideal S6x1024 .f32) (b : Fin 16) (s : Fin 256) (j : Fin 1024) :
    join_prompt y X μ G (ix3 b s j) = joined (fun k => y (ix3 b s k)) (fun k => X (ix3 b s k)) (fun k => μ (ix3 0 5 k)) (fun k => G (ix2 3 k)) j := by
  unfold joined rms
  pointwise [join_prompt]

def enter_prompt (Y : FVec Ideal S16x256x1024 .f32) (μ : FVec Ideal S1x9x1024 .f32) (G : FVec Ideal S6x1024 .f32) : FVec Ideal S16x256x1024 .f32 :=
  addf (mulf (mulf (mulf Y (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf Y Y) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 (shapeCast _ (extractStridedSlice S1x1024 ![4, 0] G slices_S6x1024_S1x1024_4_0) shapeCasts_S1x1024_S1024)))) (broadcastInDim S16x256x1024 ![0, 1, 2] bcast_S1x1x1024_S16x256x1024_0_1_2 (addf (broadcastInDim S1x1x1024 ![] bcast_S_S1x1x1024 (constant S_ .f32 0x3F800000#32)) (extractStridedSlice S1x1x1024 ![0, 7, 0] μ slices_S1x9x1024_S1x1x1024_0_7_0)))) (broadcastInDim S16x256x1024 ![0, 1, 2] bcast_S1x1x1024_S16x256x1024_0_1_2 (extractStridedSlice S1x1x1024 ![0, 6, 0] μ slices_S1x9x1024_S1x1x1024_0_6_0))
theorem enter_prompt_at (Y : FVec Ideal S16x256x1024 .f32) (μ : FVec Ideal S1x9x1024 .f32) (G : FVec Ideal S6x1024 .f32) (b : Fin 16) (s : Fin 256) (j : Fin 1024) :
    enter_prompt Y μ G (ix3 b s j) = entered (fun k => Y (ix3 b s k)) (fun k => μ (ix3 0 6 k)) (fun k => μ (ix3 0 7 k)) (fun k => G (ix2 4 k)) j := by
  unfold entered rms
  pointwise [enter_prompt]

def widen_prompt (E : FVec Ideal S16x256x1024 .f32) (wi : FVec Ideal S4x2x1024x5632 .f32) : FVec Ideal S16x256x5632 .f32 :=
  Host.dotGeneral dot_S16x256x1024_S1024x5632_S16x256x5632_2_0_01_1_n_n none E (shapeCast _ (extractStridedSlice S1x1x1024x5632 ![3, 1, 0, 0] wi slices_S4x2x1024x5632_S1x1x1024x5632_3_1_0_0) shapeCasts_S1x1x1024x5632_S1024x5632)
theorem widen_prompt_at (E : FVec Ideal S16x256x1024 .f32) (wi : FVec Ideal S4x2x1024x5632 .f32) (b : Fin 16) (s : Fin 256) (n : Fin 5632) :
    widen_prompt E wi (ix3 b s n) = ∑ k, E (ix3 b s k) * wi (ix4 3 1 k n) := by
  pointwise [widen_prompt]

def half_prompt (W : FVec Ideal S16x256x5632 .f32) : FVec Ideal S16x256x2816 .f32 :=
  extractStridedSlice S16x256x2816 ![0, 0, 0] W slices_S16x256x5632_S16x256x2816_0_0_0
def gate_prompt (W : FVec Ideal S16x256x5632 .f32) (U : FVec Ideal S16x256x2816 .f32) : FVec Ideal S16x256x2816 .f32 :=
  mulf (mulf U (Host.divf (broadcastInDim S16x256x2816 ![] bcast_S_S16x256x2816 (constant S_ .f32 0x3F800000#32)) (addf (broadcastInDim S16x256x2816 ![] bcast_S_S16x256x2816 (constant S_ .f32 0x3F800000#32)) (Host.exp (Host.negf U))))) (extractStridedSlice S16x256x2816 ![0, 0, 2816] W slices_S16x256x5632_S16x256x2816_0_0_2816)
theorem gate_prompt_at (W : FVec Ideal S16x256x5632 .f32) (b : Fin 16) (s : Fin 256) (n : Fin 2816) :
    gate_prompt W (half_prompt W) (ix3 b s n) = W (ix3 b s ⟨n, by omega⟩) * Ideal.logistic (W (ix3 b s ⟨n, by omega⟩)) * W (ix3 b s ⟨2816 + n, by omega⟩) := by
  rw [← silu_eq]
  pointwise [gate_prompt, half_prompt]

def fold_prompt (U : FVec Ideal S16x256x2816 .f32) (wo : FVec Ideal S4x2x2816x1024 .f32) : FVec Ideal S16x256x1024 .f32 :=
  Host.dotGeneral dot_S16x256x2816_S2816x1024_S16x256x1024_2_0_01_1_n_n none U (shapeCast _ (extractStridedSlice S1x1x2816x1024 ![3, 1, 0, 0] wo slices_S4x2x2816x1024_S1x1x2816x1024_3_1_0_0) shapeCasts_S1x1x2816x1024_S2816x1024)
theorem fold_prompt_at (U : FVec Ideal S16x256x2816 .f32) (wo : FVec Ideal S4x2x2816x1024 .f32) (b : Fin 16) (s : Fin 256) (j : Fin 1024) :
    fold_prompt U wo (ix3 b s j) = folded (fun n => U (ix3 b s n)) (fun n j => wo (ix4 3 1 n j)) j := by
  unfold folded
  pointwise [fold_prompt]

def step_prompt (Y Z : FVec Ideal S16x256x1024 .f32) (μ : FVec Ideal S1x9x1024 .f32) (G : FVec Ideal S6x1024 .f32) : FVec Ideal S16x256x1024 .f32 :=
  addf Y (mulf (broadcastInDim S16x256x1024 ![0, 1, 2] bcast_S1x1x1024_S16x256x1024_0_1_2 (mulf (broadcastInDim S1x1x1024 ![] bcast_S_S1x1x1024 (constant S_ .f32 0x3F000000#32)) (extractStridedSlice S1x1x1024 ![0, 8, 0] μ slices_S1x9x1024_S1x1x1024_0_8_0))) (mulf (mulf Z (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf Z Z) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 (shapeCast _ (extractStridedSlice S1x1024 ![5, 0] G slices_S6x1024_S1x1024_5_0) shapeCasts_S1x1024_S1024)))))
theorem step_prompt_at (Y Z : FVec Ideal S16x256x1024 .f32) (μ : FVec Ideal S1x9x1024 .f32) (G : FVec Ideal S6x1024 .f32) (b : Fin 16) (s : Fin 256) (j : Fin 1024) :
    step_prompt Y Z μ G (ix3 b s j) = stepped (fun k => Y (ix3 b s k)) (fun k => Z (ix3 b s k)) (fun k => μ (ix3 0 8 k)) (fun k => G (ix2 5 k)) j := by
  unfold stepped rms
  pointwise [step_prompt]

/-- The prompt tokens' whole result before its rows are laid out. -/
def out_prompt (y o : FVec Ideal S16x256x1024 .f32) (w : FVec Ideal S2x1024x1024 .f32) (μ : FVec Ideal S1x9x1024 .f32) (g : FVec Ideal S4x6x1024 .f32) (wi : FVec Ideal S4x2x1024x5632 .f32) (wo : FVec Ideal S4x2x2816x1024 .f32) : FVec Ideal S16x256x1024 .f32 :=
  let Y := join_prompt y (project_prompt o w) μ (gains g)
  let W := widen_prompt (enter_prompt Y μ (gains g)) wi
  step_prompt Y (fold_prompt (gate_prompt W (half_prompt W)) wo) μ (gains g)

theorem out_prompt_at (y o : FVec Ideal S16x256x1024 .f32) (w : FVec Ideal S2x1024x1024 .f32) (μ : FVec Ideal S1x9x1024 .f32) (g : FVec Ideal S4x6x1024 .f32) (wi : FVec Ideal S4x2x1024x5632 .f32) (wo : FVec Ideal S4x2x2816x1024 .f32) (b : Fin 16) (s : Fin 256) (j : Fin 1024) :
    out_prompt y o w μ g wi wo (ix3 b s j) = tail (fun k => y (ix3 b s k)) (fun k => o (ix3 b s k)) (fun a b => w (ix3 1 a b)) (fun i k => μ (ix3 0 i k)) (fun a b => g (ix3 3 a b))
      (fun a b => wi (ix4 3 1 a b)) (fun a b => wo (ix4 3 1 a b)) j := by
  simp only [out_prompt, tail, step_prompt_at, fold_prompt_at, gate_prompt_at, widen_prompt_at, enter_prompt_at, join_prompt_at, project_prompt_at, gains_at]
  rfl

/-- The printed result is the composition of the stages. -/
theorem res_prompt (m : (ℓ : Loc nD τ sig) → Buf (Elt Ideal) ℓ) (c : Dev nD) (X) (h : X = shapeCast _ (addf (Value.res_main_v113 (StableHlo.launchContents m c)) (mulf (broadcastInDim S16x256x1024 ![0, 1, 2] bcast_S1x1x1024_S16x256x1024_0_1_2 (mulf (broadcastInDim S1x1x1024 ![] bcast_S_S1x1x1024 (constant S_ .f32 0x3F000000#32)) (extractStridedSlice S1x1x1024 ![0, 8, 0] ((StableHlo.launchContents m c) (Proc.devRef .tc main_arg4)) slices_S1x9x1024_S1x1x1024_0_8_0))) (mulf (mulf (Value.res_main_v146 (StableHlo.launchContents m c)) (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf (Value.res_main_v146 (StableHlo.launchContents m c)) (Value.res_main_v146 (StableHlo.launchContents m c))) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 (shapeCast _ (extractStridedSlice S1x1024 ![5, 0] (Value.res_main_v1 (StableHlo.launchContents m c)) slices_S6x1024_S1x1024_5_0) shapeCasts_S1x1024_S1024)))))) shapeCasts_S16x256x1024_S4096x1024) :
    X = shapeCast _ (out_prompt (m ((c.tc : Thread nD τ).loc main_arg0)) (m ((c.tc : Thread nD τ).loc main_arg2)) (m ((c.tc : Thread nD τ).loc main_arg9)) (m ((c.tc : Thread nD τ).loc main_arg4))
      (m ((c.tc : Thread nD τ).loc main_arg6)) (m ((c.tc : Thread nD τ).loc main_arg7)) (m ((c.tc : Thread nD τ).loc main_arg8))) shapeCasts_S16x256x1024_S4096x1024 := h

end Cert.FfnRefIdeal.At
end
-- ==== Proof.FfnFinal.lean ====
module

public import proofs.«01_k».proof.Proof.FfnBlock
public import proofs.«01_k».proof.Proof.FfnRefAt

@[expose] public section

set_option maxRecDepth 16384
noncomputable section
open Idealize.ShloMosaic Idealize.ShloMosaic.TcCoe Idealize.SL.Sem
open Idealize.ShloMosaic.Pipeline (Dat)
namespace Cert.FfnIdeal.Hand
open Cert.FfnIdeal Cert.FfnIdeal.Gen Cert.Tok
variable (m : (ℓ : Loc nD τ sig) → Buf (Elt Ideal) ℓ)

/-- The arrays that the host code makes before the launch. -/
theorem V_x (c : Dev nD) : @Eq (FVec Ideal S12288x1024 .f32) (V m c main_v2) (concatenate S12288x1024 0 [⟨S8192x1024, shapeCast S8192x1024 (m ((c : Thread nD τ).loc main_arg1) : FVec Ideal S8x1024x1024 .f32) shapeCasts_S8x1024x1024_S8192x1024⟩,
    ⟨S4096x1024, shapeCast S4096x1024 (m ((c : Thread nD τ).loc main_arg0) : FVec Ideal S16x256x1024 .f32) shapeCasts_S16x256x1024_S4096x1024⟩] concatenates_S8192x1024_S4096x1024_S12288x1024_d0) := by
  show StableHlo.after hostOps0 _ _ = _
  simp only [hostOps0]
  after_results
  try rfl
theorem V_os (c : Dev nD) : @Eq (FVec Ideal S8192x1024 .bf16) (V m c main_v6) (truncf (F := Ideal) .bf16 (shapeCast S8192x1024 (m ((c : Thread nD τ).loc main_arg3) : FVec Ideal S8x1024x1024 .f32) shapeCasts_S8x1024x1024_S8192x1024) bitsLt_bf16_f32) := by
  show StableHlo.after hostOps0 _ _ = _
  simp only [hostOps0]
  after_results
  try rfl
theorem V_op (c : Dev nD) : @Eq (FVec Ideal S4096x1024 .bf16) (V m c main_v8) (truncf (F := Ideal) .bf16 (shapeCast S4096x1024 (m ((c : Thread nD τ).loc main_arg2) : FVec Ideal S16x256x1024 .f32) shapeCasts_S16x256x1024_S4096x1024) bitsLt_bf16_f32) := by
  show StableHlo.after hostOps0 _ _ = _
  simp only [hostOps0]
  after_results
  try rfl
theorem V_in (c : Dev nD) : @Eq (FVec Ideal S1024x5632 .bf16) (V m c main_v11) (truncf (F := Ideal) .bf16 (shapeCast S1024x5632 (extractStridedSlice S1x1x1024x5632 ![3, 1, 0, 0] (m ((c : Thread nD τ).loc main_arg7) : FVec Ideal S4x2x1024x5632 .f32) slices_S4x2x1024x5632_S1x1x1024x5632_3_1_0_0)
    shapeCasts_S1x1x1024x5632_S1024x5632) bitsLt_bf16_f32) := by
  show StableHlo.after hostOps0 _ _ = _
  simp only [hostOps0]
  after_results
  try rfl
theorem V_out (c : Dev nD) : @Eq (FVec Ideal S2816x1024 .bf16) (V m c main_v14) (truncf (F := Ideal) .bf16 (shapeCast S2816x1024 (extractStridedSlice S1x1x2816x1024 ![3, 1, 0, 0] (m ((c : Thread nD τ).loc main_arg8) : FVec Ideal S4x2x2816x1024 .f32) slices_S4x2x2816x1024_S1x1x2816x1024_3_1_0_0)
    shapeCasts_S1x1x2816x1024_S2816x1024) bitsLt_bf16_f32) := by
  show StableHlo.after hostOps0 _ _ = _
  simp only [hostOps0]
  after_results
  try rfl
theorem V_mods (c : Dev nD) : @Eq (FVec Ideal S16x9x1024 .f32) (V m c main_v4) (concatenate S16x9x1024 0 [⟨S8x9x1024, (m ((c : Thread nD τ).loc main_arg5) : FVec Ideal S8x9x1024 .f32)⟩, ⟨S1x9x1024, (m ((c : Thread nD τ).loc main_arg4) : FVec Ideal S1x9x1024 .f32)⟩,
    ⟨S7x9x1024, broadcastInDim S7x9x1024 ![] bcast_S_S7x9x1024 (constant (F := Ideal) S_ .f32 0x00000000#32)⟩] concatenates_S8x9x1024_S1x9x1024_S7x9x1024_S16x9x1024_d0) := by
  show StableHlo.after hostOps0 _ _ = _
  simp only [hostOps0]; after_results; dsimp only [Matrix.cons_val]; after_results_loop; rfl

/-- Where the blocks of each grid point lie. -/
theorem idx : ∀ t : Fin cfg0.N, (grid0.coords t 0 : ℕ) = t ∧ win0_0.index t = ![(t : ℕ), 0] ∧ win0_1.index t = ![min (t : ℕ) 15, 0] ∧ win0_2.index t = ![(t : ℕ) - 16, 0]
    ∧ win0_3.index t = ![1, 0, 0] ∧ win0_4.index t = ![min ((t : ℕ) / 2) 8, 0, 0] ∧ win0_5.index t = ![3, 0, 0] ∧ win0_6.index t = ![0, 0] ∧ win0_7.index t = ![0, 0]
    ∧ win0_8.index t = ![min (t : ℕ) 15, 0] ∧ win0_9.index t = ![(t : ℕ) - 16, 0] :=
  (by decide +kernel : ∀ t : Fin grid0.N, _)

/-- Batches of tokens as rows. -/
theorem rows_s (A : FVec Ideal S8x1024x1024 .f32) (h) (R : Fin 8192) (k : Fin 1024) :
    shapeCast S8192x1024 A h (ix2 R k) = A (ix3 ⟨R / 1024, by omega⟩ ⟨R % 1024, by omega⟩ k) :=
  shapeCast_apply A h _ _ (by
    rw [Shape.rowMajor_val_three, Shape.rowMajor_val_two]
    show ((R : ℕ) / 1024 * 1024 + (R : ℕ) % 1024) * 1024 + (k : ℕ) = (R : ℕ) * 1024 + (k : ℕ)
    omega)
theorem rows_p (A : FVec Ideal S16x256x1024 .f32) (h) (R : Fin 4096) (k : Fin 1024) :
    shapeCast S4096x1024 A h (ix2 R k) = A (ix3 ⟨R / 256, by omega⟩ ⟨R % 256, by omega⟩ k) :=
  shapeCast_apply A h _ _ (by
    rw [Shape.rowMajor_val_three, Shape.rowMajor_val_two]
    show ((R : ℕ) / 256 * 256 + (R : ℕ) % 256) * 1024 + (k : ℕ) = (R : ℕ) * 1024 + (k : ℕ)
    omega)

/-- The arrays at an index. -/
theorem x_s (c : Dev nD) (R : Fin 8192) (k : Fin 1024) : (V m c main_v2 : FVec Ideal S12288x1024 .f32) (ix2 ⟨R, by omega⟩ k) = (m ((c : Thread nD τ).loc main_arg1) : FVec Ideal S8x1024x1024 .f32) (ix3 ⟨R / 1024, by omega⟩ ⟨R % 1024, by omega⟩ k) := by
  rw [V_x]
  refine Eq.trans ?_ (rows_s _ shapeCasts_S8x1024x1024_S8192x1024 R k)
  generalize shapeCast S8192x1024 (m ((c : Thread nD τ).loc main_arg1) : FVec Ideal S8x1024x1024 .f32) _ = A
  generalize shapeCast S4096x1024 (m ((c : Thread nD τ).loc main_arg0) : FVec Ideal S16x256x1024 .f32) _ = B
  pointwise []
theorem x_p (c : Dev nD) (R : Fin 4096) (k : Fin 1024) : (V m c main_v2 : FVec Ideal S12288x1024 .f32) (ix2 ⟨8192 + R, by omega⟩ k) = (m ((c : Thread nD τ).loc main_arg0) : FVec Ideal S16x256x1024 .f32) (ix3 ⟨R / 256, by omega⟩ ⟨R % 256, by omega⟩ k) := by
  rw [V_x]
  refine Eq.trans ?_ (rows_p _ shapeCasts_S16x256x1024_S4096x1024 R k)
  generalize shapeCast S8192x1024 (m ((c : Thread nD τ).loc main_arg1) : FVec Ideal S8x1024x1024 .f32) _ = A
  generalize shapeCast S4096x1024 (m ((c : Thread nD τ).loc main_arg0) : FVec Ideal S16x256x1024 .f32) _ = B
  pointwise []
theorem o_s (c : Dev nD) (R : Fin 8192) (k : Fin 1024) : (V m c main_v6 : FVec Ideal S8192x1024 .bf16) (ix2 R k) = (m ((c : Thread nD τ).loc main_arg3) : FVec Ideal S8x1024x1024 .f32) (ix3 ⟨R / 1024, by omega⟩ ⟨R % 1024, by omega⟩ k) := by
  rw [V_os]
  exact rows_s _ _ R k
theorem o_p (c : Dev nD) (R : Fin 4096) (k : Fin 1024) : (V m c main_v8 : FVec Ideal S4096x1024 .bf16) (ix2 R k) = (m ((c : Thread nD τ).loc main_arg2) : FVec Ideal S16x256x1024 .f32) (ix3 ⟨R / 256, by omega⟩ ⟨R % 256, by omega⟩ k) := by
  rw [V_op]
  exact rows_p _ _ R k
theorem w_in (c : Dev nD) (k : Fin 1024) (n : Fin 5632) : (V m c main_v11 : FVec Ideal S1024x5632 .bf16) (ix2 k n) = (m ((c : Thread nD τ).loc main_arg7) : FVec Ideal S4x2x1024x5632 .f32) (ix4 3 1 k n) := by
  rw [V_in]
  generalize (m ((c : Thread nD τ).loc main_arg7) : FVec Ideal S4x2x1024x5632 .f32) = A
  pointwise []
theorem w_out (c : Dev nD) (n : Fin 2816) (k : Fin 1024) : (V m c main_v14 : FVec Ideal S2816x1024 .bf16) (ix2 n k) = (m ((c : Thread nD τ).loc main_arg8) : FVec Ideal S4x2x2816x1024 .f32) (ix4 3 1 n k) := by
  rw [V_out]
  generalize (m ((c : Thread nD τ).loc main_arg8) : FVec Ideal S4x2x2816x1024 .f32) = A
  pointwise []
theorem m_s (c : Dev nD) (b : Fin 8) (i : Fin 9) (k : Fin 1024) : (V m c main_v4 : FVec Ideal S16x9x1024 .f32) (ix3 ⟨b, by omega⟩ i k) = (m ((c : Thread nD τ).loc main_arg5) : FVec Ideal S8x9x1024 .f32) (ix3 b i k) := by
  rw [V_mods]
  generalize (m ((c : Thread nD τ).loc main_arg5) : FVec Ideal S8x9x1024 .f32) = A
  generalize (m ((c : Thread nD τ).loc main_arg4) : FVec Ideal S1x9x1024 .f32) = B
  pointwise []
theorem m_p (c : Dev nD) (i : Fin 9) (k : Fin 1024) : (V m c main_v4 : FVec Ideal S16x9x1024 .f32) (ix3 8 i k) = (m ((c : Thread nD τ).loc main_arg4) : FVec Ideal S1x9x1024 .f32) (ix3 0 i k) := by
  rw [V_mods]
  generalize (m ((c : Thread nD τ).loc main_arg5) : FVec Ideal S8x9x1024 .f32) = A
  generalize (m ((c : Thread nD τ).loc main_arg4) : FVec Ideal S1x9x1024 .f32) = B
  pointwise []

/-- A point of the sample phase, and one of the prompt phase, at an index of its block. -/
theorem block_sample (c : Dev nD) (t : Fin cfg0.N) (h : t.val < 16) (r : Fin 512) (j : Fin 1024) :
    out_sample m c t h (ix2 r j)
      = tail (fun k => (m ((c : Thread nD τ).loc main_arg1) : FVec Ideal S8x1024x1024 .f32) (ix3 ⟨(t * 512 + r : ℕ) / 1024, by omega⟩ ⟨(t * 512 + r : ℕ) % 1024, by omega⟩ k))
          (fun k => (m ((c : Thread nD τ).loc main_arg3) : FVec Ideal S8x1024x1024 .f32) (ix3 ⟨(t * 512 + r : ℕ) / 1024, by omega⟩ ⟨(t * 512 + r : ℕ) % 1024, by omega⟩ k))
          (fun a b => (m ((c : Thread nD τ).loc main_arg9) : FVec Ideal S2x1024x1024 .f32) (ix3 1 a b))
          (fun a b => (m ((c : Thread nD τ).loc main_arg5) : FVec Ideal S8x9x1024 .f32) (ix3 ⟨(t * 512 + r : ℕ) / 1024, by omega⟩ a b))
          (fun a b => (m ((c : Thread nD τ).loc main_arg6) : FVec Ideal S4x6x1024 .f32) (ix3 3 a b))
          (fun a b => (m ((c : Thread nD τ).loc main_arg7) : FVec Ideal S4x2x1024x5632 .f32) (ix4 3 1 a b))
          (fun a b => (m ((c : Thread nD τ).loc main_arg8) : FVec Ideal S4x2x2816x1024 .f32) (ix4 3 1 a b)) j := by
  have hc : Scalar.cmpi CmpIPredicate.slt (BitVec.ofNat 32 ↑(grid0.coords t 0)) 16#32 = 1#1 := by
    rw [(idx t).1]
    exact (by decide +kernel : ∀ t : Fin grid0.N, t.val < 16 → Scalar.cmpi CmpIPredicate.slt (BitVec.ofNat 32 (t : ℕ)) 16#32 = 1#1) t h
  obtain ⟨-, i0, i1, i2, i3, i4, i5, i6, i7, -, -⟩ := idx t
  rw [point_sample, payload_at, hc]
  refine congrFun (congr (congr (congr (congr (congr (congr (congrArg tail (funext fun k => ?_)) (funext fun k => ?_)) (funext fun a => funext fun b => ?_)) (funext fun a => funext fun b => ?_))
    (funext fun a => funext fun b => ?_)) (funext fun a => funext fun b => ?_)) (funext fun a => funext fun b => ?_)) j
  · rw [← x_s m c ⟨t * 512 + r, by omega⟩ k]
    blk_point [iblk, i0]
  · refine Eq.trans (b := iblk m c 1 t (ix2 r k)) rfl ?_
    rw [← o_s m c ⟨t * 512 + r, by omega⟩ k]
    blk_point [iblk, i1]
  · rw [← V_main_arg9 m c]; blk_point [iblk, i3]
  · rw [← m_s m c ⟨(t * 512 + r : ℕ) / 1024, by omega⟩ a b]
    blk_point [iblk, i4]
  · rw [← V_main_arg6 m c]; blk_point [iblk, i5]
  · rw [← w_in m c]; blk_point [iblk, i6]
  · rw [← w_out m c]; blk_point [iblk, i7]

theorem block_prompt (c : Dev nD) (t : Fin cfg0.N) (h : 16 ≤ t.val) (r : Fin 512) (j : Fin 1024) :
    out_prompt m c t h (ix2 r j)
      = tail (fun k => (m ((c : Thread nD τ).loc main_arg0) : FVec Ideal S16x256x1024 .f32) (ix3 ⟨((t - 16) * 512 + r : ℕ) / 256, by have := t.isLt; have : cfg0.N = 24 := rfl; omega⟩ ⟨((t - 16) * 512 + r : ℕ) % 256, by omega⟩ k))
          (fun k => (m ((c : Thread nD τ).loc main_arg2) : FVec Ideal S16x256x1024 .f32) (ix3 ⟨((t - 16) * 512 + r : ℕ) / 256, by have := t.isLt; have : cfg0.N = 24 := rfl; omega⟩ ⟨((t - 16) * 512 + r : ℕ) % 256, by omega⟩ k))
          (fun a b => (m ((c : Thread nD τ).loc main_arg9) : FVec Ideal S2x1024x1024 .f32) (ix3 1 a b))
          (fun a b => (m ((c : Thread nD τ).loc main_arg4) : FVec Ideal S1x9x1024 .f32) (ix3 0 a b))
          (fun a b => (m ((c : Thread nD τ).loc main_arg6) : FVec Ideal S4x6x1024 .f32) (ix3 3 a b))
          (fun a b => (m ((c : Thread nD τ).loc main_arg7) : FVec Ideal S4x2x1024x5632 .f32) (ix4 3 1 a b))
          (fun a b => (m ((c : Thread nD τ).loc main_arg8) : FVec Ideal S4x2x2816x1024 .f32) (ix4 3 1 a b)) j := by
  have hc : Scalar.cmpi CmpIPredicate.slt (BitVec.ofNat 32 ↑(grid0.coords t 0)) 16#32 = 0#1 := by

    rw [(idx t).1]
    exact (by decide +kernel : ∀ t : Fin grid0.N, 16 ≤ t.val → Scalar.cmpi CmpIPredicate.slt (BitVec.ofNat 32 (t : ℕ)) 16#32 = 0#1) t h
  obtain ⟨-, i0, i1, i2, i3, i4, i5, i6, i7, -, -⟩ := idx t
  rw [point_prompt, payload_at, hc]
  refine congrFun (congr (congr (congr (congr (congr (congr (congrArg tail (funext fun k => ?_)) (funext fun k => ?_)) (funext fun a => funext fun b => ?_)) (funext fun a => funext fun b => ?_))
    (funext fun a => funext fun b => ?_)) (funext fun a => funext fun b => ?_)) (funext fun a => funext fun b => ?_)) j
  · rw [← x_p m c ⟨(t - 16) * 512 + r, by have := t.isLt; have : cfg0.N = 24 := rfl; omega⟩ k]
    blk_point [iblk, i0]
  · refine Eq.trans (b := iblk m c 2 t (ix2 r k)) rfl ?_
    rw [← o_p m c ⟨(t - 16) * 512 + r, by have := t.isLt; have : cfg0.N = 24 := rfl; omega⟩ k]
    blk_point [iblk, i2]
  · rw [← V_main_arg9 m c]; blk_point [iblk, i3]
  · rw [← m_p m c a b]
    blk_point [iblk, i4]
  · rw [← V_main_arg6 m c]; blk_point [iblk, i5]
  · rw [← w_in m c]; blk_point [iblk, i6]
  · rw [← w_out m c]; blk_point [iblk, i7]

/-- The sample tokens' result at an index. -/
def sample (y o : FVec Ideal S8x1024x1024 .f32) (w : FVec Ideal S2x1024x1024 .f32) (μ : FVec Ideal S8x9x1024 .f32) (g : FVec Ideal S4x6x1024 .f32) (wi : FVec Ideal S4x2x1024x5632 .f32)
    (wo : FVec Ideal S4x2x2816x1024 .f32) (b : Fin 8) (s : Fin 1024) : Fin 1024 → EReal :=
  tail (fun k => y (ix3 b s k)) (fun k => o (ix3 b s k)) (fun a b => w (ix3 1 a b)) (fun i k => μ (ix3 b i k)) (fun a b => g (ix3 3 a b)) (fun a b => wi (ix4 3 1 a b)) (fun a b => wo (ix4 3 1 a b))

/-- The prompt tokens' result at an index. -/
def prompt (y o : FVec Ideal S16x256x1024 .f32) (w : FVec Ideal S2x1024x1024 .f32) (μ : FVec Ideal S1x9x1024 .f32) (g : FVec Ideal S4x6x1024 .f32) (wi : FVec Ideal S4x2x1024x5632 .f32)
    (wo : FVec Ideal S4x2x2816x1024 .f32) (b : Fin 16) (s : Fin 256) : Fin 1024 → EReal :=
  tail (fun k => y (ix3 b s k)) (fun k => o (ix3 b s k)) (fun a b => w (ix3 1 a b)) (fun i k => μ (ix3 0 i k)) (fun a b => g (ix3 3 a b)) (fun a b => wi (ix4 3 1 a b)) (fun a b => wo (ix4 3 1 a b))

theorem same {B S : ℕ} (f : Fin B → Fin S → Fin 1024 → EReal) {b b' : Fin B} {s s' : Fin S} {j j' : Fin 1024} (hb : (b : ℕ) = b') (hs : (s : ℕ) = s') (hj : (j : ℕ) = j') :
    f b s j = f b' s' j' := by
  rw [Fin.ext hb, Fin.ext hs, Fin.ext hj]

/-- The point whose block the sample output writes back at `t`. -/
theorem left_sample (c : Dev nD) (t : Fin cfg0.N) : ∃ (u : Fin cfg0.N) (h : u.val < 16), left8 m c t = out_sample m c u h ∧ win0_8.index t = ![(u : ℕ), 0] := by
  by_cases h : t.val < 16
  · refine ⟨t, h, by unfold left8; rw [dif_pos h], ?_⟩
    rw [(idx t).2.2.2.2.2.2.2.2.2.1, min_eq_left (by omega)]
  · refine ⟨⟨15, by decide⟩, by decide, by unfold left8; rw [dif_neg h], ?_⟩
    rw [(idx t).2.2.2.2.2.2.2.2.2.1, min_eq_right (by omega)]

/-- … and the prompt output. -/
theorem left_prompt (c : Dev nD) (t : Fin cfg0.N) : ∃ (u : Fin cfg0.N) (h : 16 ≤ u.val), left9 m c t = out_prompt m c u h ∧ win0_9.index t = ![(u : ℕ) - 16, 0] := by
  by_cases h : 16 ≤ t.val
  · exact ⟨t, h, by unfold left9; rw [dif_pos h], (idx t).2.2.2.2.2.2.2.2.2.2⟩
  · refine ⟨⟨16, by decide⟩, by decide, by unfold left9; rw [dif_neg h], ?_⟩
    rw [(idx t).2.2.2.2.2.2.2.2.2.2, Nat.sub_eq_zero_of_le (by omega)]
    rfl

set_option maxHeartbeats 4000000 in
/-- The sample output after the run. -/
theorem arr_sample (c : Dev nD) :
    (dats m 0 c).arrAt 8 cfg0.N = fun i : S8192x1024.Idx => sample (m ((c : Thread nD τ).loc main_arg1)) (m ((c : Thread nD τ).loc main_arg3)) (m ((c : Thread nD τ).loc main_arg9))
      (m ((c : Thread nD τ).loc main_arg5)) (m ((c : Thread nD τ).loc main_arg6)) (m ((c : Thread nD τ).loc main_arg7)) (m ((c : Thread nD τ).loc main_arg8))
      ⟨(i 0 : ℕ) / 1024, by have := (i 0).isLt; simp at this; omega⟩ ⟨(i 0 : ℕ) % 1024, by omega⟩ ⟨(i 1 : ℕ), (i 1).isLt⟩ := by
  refine (dats m 0 c).arrAt_eq_of_covers 8 _ (by decide +kernel) fun t hf y => ?_
  blk_simp
  obtain ⟨u, hu, e, ei⟩ := left_sample m c t
  have hN : (u : ℕ) < 24 := u.isLt
  rw [after_8, e]
  have h0 : win0_8.index t 0 = (u : ℕ) := congrFun ei 0
  have h1 : win0_8.index t 1 = 0 := congrFun ei 1
  have hy : y = ix2 ⟨(y 0 : ℕ), (y 0).isLt⟩ ⟨(y 1 : ℕ), (y 1).isLt⟩ := funext (Fin.forall_fin_two.mpr ⟨rfl, rfl⟩)
  refine (congrArg (out_sample m c u hu) hy).trans ((block_sample m c u hu _ _).trans (same (sample _ _ _ _ _ _ _) ?_ ?_ ?_))
  · show ((u : ℕ) * 512 + (y 0 : ℕ)) / 1024 = (win0_8.index t 0 * 512 + (y 0 : ℕ)) / 1024
    rw [h0]
  · show ((u : ℕ) * 512 + (y 0 : ℕ)) % 1024 = (win0_8.index t 0 * 512 + (y 0 : ℕ)) % 1024
    rw [h0]
  · show (y 1 : ℕ) = win0_8.index t 1 * 1024 + (y 1 : ℕ)
    rw [h1]; omega

set_option maxHeartbeats 4000000 in
/-- The prompt output after the run. -/
theorem arr_prompt (c : Dev nD) :
    (dats m 0 c).arrAt 9 cfg0.N = fun i : S4096x1024.Idx => prompt (m ((c : Thread nD τ).loc main_arg0)) (m ((c : Thread nD τ).loc main_arg2)) (m ((c : Thread nD τ).loc main_arg9))
      (m ((c : Thread nD τ).loc main_arg4)) (m ((c : Thread nD τ).loc main_arg6)) (m ((c : Thread nD τ).loc main_arg7)) (m ((c : Thread nD τ).loc main_arg8))
      ⟨(i 0 : ℕ) / 256, by have := (i 0).isLt; simp at this; omega⟩ ⟨(i 0 : ℕ) % 256, by omega⟩ ⟨(i 1 : ℕ), (i 1).isLt⟩ := by
  refine (dats m 0 c).arrAt_eq_of_covers 9 _ (by decide +kernel) fun t hf y => ?_
  blk_simp
  obtain ⟨u, hu, e, ei⟩ := left_prompt m c t
  have hN : (u : ℕ) < 24 := u.isLt
  rw [after_9, e]
  have h0 : win0_9.index t 0 = ((u : ℕ) - 16) := congrFun ei 0
  have h1 : win0_9.index t 1 = 0 := congrFun ei 1
  have hy : y = ix2 ⟨(y 0 : ℕ), (y 0).isLt⟩ ⟨(y 1 : ℕ), (y 1).isLt⟩ := funext (Fin.forall_fin_two.mpr ⟨rfl, rfl⟩)
  refine (congrArg (out_prompt m c u hu) hy).trans ((block_prompt m c u hu _ _).trans (same (prompt _ _ _ _ _ _ _) ?_ ?_ ?_))
  · show (((u : ℕ) - 16) * 512 + (y 0 : ℕ)) / 256 = (win0_9.index t 0 * 512 + (y 0 : ℕ)) / 256
    rw [h0]
  · show (((u : ℕ) - 16) * 512 + (y 0 : ℕ)) % 256 = (win0_9.index t 0 * 512 + (y 0 : ℕ)) % 256
    rw [h0]
  · show (y 1 : ℕ) = win0_9.index t 1 * 1024 + (y 1 : ℕ)
    rw [h1]; omega

/-- The sample output is the reference's. -/
theorem final_sample (c : Dev nD) (h : S8x1024x1024.ShapeCasts S8192x1024) :
    (dats m 0 c).arrAt 8 cfg0.N = shapeCast S8192x1024 (FfnRefIdeal.At.out_sample (m ((c.tc : Thread nD τ).loc main_arg1)) (m ((c.tc : Thread nD τ).loc main_arg3)) (m ((c.tc : Thread nD τ).loc main_arg9)) (m ((c.tc : Thread nD τ).loc main_arg5)) (m ((c.tc : Thread nD τ).loc main_arg6)) (m ((c.tc : Thread nD τ).loc main_arg7)) (m ((c.tc : Thread nD τ).loc main_arg8)) : FVec Ideal S8x1024x1024 .f32) h := by
  rw [arr_sample]
  refine funext fun i => ?_
  have hi : i = ix2 ⟨(i 0 : ℕ), (i 0).isLt⟩ ⟨(i 1 : ℕ), (i 1).isLt⟩ := funext (Fin.forall_fin_two.mpr ⟨rfl, rfl⟩)
  refine Eq.symm ((congrArg _ hi).trans ((rows_s _ h _ _).trans ?_))
  exact FfnRefIdeal.At.out_sample_at _ _ _ _ _ _ _ _ _ _

/-- The prompt output is the reference's. -/
theorem final_prompt (c : Dev nD) (h : S16x256x1024.ShapeCasts S4096x1024) :
    (dats m 0 c).arrAt 9 cfg0.N = shapeCast S4096x1024 (FfnRefIdeal.At.out_prompt (m ((c.tc : Thread nD τ).loc main_arg0)) (m ((c.tc : Thread nD τ).loc main_arg2)) (m ((c.tc : Thread nD τ).loc main_arg9)) (m ((c.tc : Thread nD τ).loc main_arg4)) (m ((c.tc : Thread nD τ).loc main_arg6)) (m ((c.tc : Thread nD τ).loc main_arg7)) (m ((c.tc : Thread nD τ).loc main_arg8)) : FVec Ideal S16x256x1024 .f32) h := by
  rw [arr_prompt]
  refine funext fun i => ?_
  have hi : i = ix2 ⟨(i 0 : ℕ), (i 0).isLt⟩ ⟨(i 1 : ℕ), (i 1).isLt⟩ := funext (Fin.forall_fin_two.mpr ⟨rfl, rfl⟩)
  refine Eq.symm ((congrArg _ hi).trans ((rows_p _ h _ _).trans ?_))
  exact FfnRefIdeal.At.out_prompt_at _ _ _ _ _ _ _ _ _ _

end Cert.FfnIdeal.Hand
end
-- ==== Proof.FfnSame.lean ====
module

public import proofs.«01_k».proof.Proof.FfnFrame
public import proofs.«01_k».proof.Defs
public import proofs.«01_k».proof.Proof.Gen.Ffn

/-! The feed-forward program and its ideal twin have the same text, no operation being replaced:
over the same float values they have the same body table. -/

@[expose] public section

noncomputable section

open Idealize.ShloMosaic Idealize.SL.Sem

namespace Cert.Proof

/-- One label, one body: the two tables agree at it. -/
theorem ffn_bodies : Cert.Ffn.defs₀ (F := Bits) = Cert.FfnIdeal.defs₀ (F := Bits) := by
  refine congrArg Defs.onTc (funext fun l => funext fun a => ?_)
  match l, a with
  | ⟨0, _⟩, (_, _) => rfl
  | ⟨_ + 1, h⟩, _ => exact absurd h (Nat.not_lt.2 (Nat.le_add_left _ _))

/-- The whole tables agree. -/
theorem ffn_defs : Cert.Ffn.defs (F := Bits) = Cert.FfnIdeal.defs (F := Bits) :=
  congrArg (Pipeline.defs Cert.FfnIdeal.pcfgs) ffn_bodies

end Cert.Proof
-- ==== Proof.Half30Block.lean ====
module

public import proofs.«01_k».proof.Proof.Gen.Half30Ideal.Frame
public import proofs.«01_k».proof.Proof.FfnBlock

@[expose] public section

set_option maxRecDepth 16384
noncomputable section
open Idealize.ShloMosaic Idealize.ShloMosaic.TcCoe Idealize.SL.Sem
namespace Cert.Half30Ideal.Hand
open Cert.Half30Ideal Cert.Half30Ideal.Gen Cert.Tok

/-- The state's rows, the rows of the modulation table and of the gains. -/
theorem pay4_at (a : FVec Ideal S512x1024 .f32) (r : Fin 512) (j : Fin 1024) : k0_pay4 (F := Ideal) a (ix2 r j) = a (ix2 r j) := by
  pointwise [k0_pay4]
theorem pay5_at (a : FVec Ideal S1x9x1024 .f32) (k : Fin 9) (j : Fin 1024) : k0_pay5 (F := Ideal) a (ix2 k j) = a (ix3 0 k j) := by
  pointwise [k0_pay5]
theorem pay6_at (a : FVec Ideal S1x6x1024 .f32) (k : Fin 6) (j : Fin 1024) : k0_pay6 (F := Ideal) a (ix2 k j) = a (ix3 0 k j) := by
  pointwise [k0_pay6]

/-- The row that enters the network, before its shift; the shift; and the row. -/
theorem pay7_at (x : FVec Ideal S512x1024 .f32) (u : FVec Ideal S1x9x1024 .f32) (g : FVec Ideal S1x6x1024 .f32) (r : Fin 512) (j : Fin 1024) :
    k0_pay7 (F := Ideal) x u g (ix2 r j) = rms (fun k => x (ix2 r k)) j * g (ix3 0 0 j) * (one + u (ix3 0 1 j)) := by
  unfold rms k0_pay7
  pointwise [k0_pay4, k0_pay5, k0_pay6]
theorem pay8_at (u : FVec Ideal S1x9x1024 .f32) (j : Fin 1024) : k0_pay8 (F := Ideal) u (ix2 0 j) = u (ix3 0 0 j) := by
  pointwise [k0_pay8, k0_pay5]
theorem pay9_at (a : FVec Ideal S512x1024 .f32) (b : FVec Ideal S1x1024 .f32) (r : Fin 512) (j : Fin 1024) :
    k0_pay9 (F := Ideal) a b (ix2 r j) = a (ix2 r j) + b (ix2 0 j) := by
  pointwise [k0_pay9]

/-- One part of the network's output, and its two factors. -/
def part {w : ℕ} (X : FVec Ideal S512x1024 .bf16) (a b : FVec Ideal ⟨2, ![1024, w]⟩ .bf16) (d : FVec Ideal ⟨2, ![w, 1024]⟩ .bf16) (r : Fin 512) (j : Fin 1024) : EReal :=
  ∑ n : Fin w, ((∑ k, X (ix2 r k) * a (ix2 k n)) * Ideal.logistic (∑ k, X (ix2 r k) * a (ix2 k n)) * ∑ k, X (ix2 r k) * b (ix2 k n)) * d (ix2 n j)
theorem pay10_at (p : FVec Ideal S512x1024 .f32) (q : FVec Ideal S1x1024 .f32) (a b d a' b' d' : FVec Ideal S1024x1024 .bf16) (r : Fin 512) (j : Fin 1024) :
    k0_pay10 (F := Ideal) p q a b d a' b' d' (ix2 r j) = part (k0_pay9 (F := Ideal) p q) a b d r j + part (k0_pay9 (F := Ideal) p q) a' b' d' r j := by
  unfold k0_pay10 part
  generalize k0_pay9 (F := Ideal) p q = X
  pointwise []
theorem pay11_at (p : FVec Ideal S512x1024 .f32) (q : FVec Ideal S1x1024 .f32) (a : FVec Ideal S1024x768 .bf16) (r : Fin 512) (n : Fin 768) :
    k0_pay11 (F := Ideal) p q a (ix2 r n) = ∑ k, k0_pay9 (F := Ideal) p q (ix2 r k) * a (ix2 k n) := by
  unfold k0_pay11
  generalize k0_pay9 (F := Ideal) p q = X
  pointwise []
theorem pay12_at (p : FVec Ideal S512x1024 .f32) (q : FVec Ideal S1x1024 .f32) (a : FVec Ideal S1024x768 .bf16) (r : Fin 512) (n : Fin 768) :
    k0_pay12 (F := Ideal) p q a (ix2 r n) = ∑ k, k0_pay9 (F := Ideal) p q (ix2 r k) * a (ix2 k n) := by
  unfold k0_pay12
  generalize k0_pay9 (F := Ideal) p q = X
  pointwise []

/-- The result row. -/
theorem pay1_at (x : FVec Ideal S512x1024 .f32) (u : FVec Ideal S9x1024 .f32) (g : FVec Ideal S6x1024 .f32) (s : FVec Ideal S512x1024 .f32)
    (a b : FVec Ideal S512x768 .f32) (d : FVec Ideal S768x1024 .bf16) (r : Fin 512) (j : Fin 1024) :
    k0_pay1 (F := Ideal) x u g s a b d (ix2 r j)
      = stepped (fun k => x (ix2 r k)) (fun l => s (ix2 r l) + ∑ n, (a (ix2 r n) * Ideal.logistic (a (ix2 r n)) * b (ix2 r n)) * d (ix2 n l)) (fun k => u (ix2 2 k)) (fun k => g (ix2 1 k)) j := by
  unfold stepped rms
  pointwise [k0_pay1]

/-- The body's composed payload, from its five input blocks. -/
def payload (x : FVec Ideal S512x1024 .f32) (u : FVec Ideal S1x9x1024 .f32) (g : FVec Ideal S1x6x1024 .f32) (wi : FVec Ideal S1024x5632 .bf16) (wo : FVec Ideal S2816x1024 .bf16) : FVec Ideal S512x1024 .f32 :=
  k0_pay1 (F := Ideal) (k0_pay4 x) (k0_pay5 u) (k0_pay6 g)
    (k0_pay10 (k0_pay7 x u g) (k0_pay8 u)
      (View.ld (Val := Elt Ideal) (e' := .bf16) wi (Rect.unit ![0, 0] ![1024, 1024] inb_S1024x5632_S1024x1024_0_0))
      (View.ld (Val := Elt Ideal) (e' := .bf16) wi (Rect.unit ![0, 2816] ![1024, 1024] inb_S1024x5632_S1024x1024_0_2816))
      (View.ld (Val := Elt Ideal) (e' := .bf16) wo (Rect.unit ![0, 0] ![1024, 1024] inb_S2816x1024_S1024x1024_0_0))
      (View.ld (Val := Elt Ideal) (e' := .bf16) wi (Rect.unit ![0, 1024] ![1024, 1024] inb_S1024x5632_S1024x1024_0_1024))
      (View.ld (Val := Elt Ideal) (e' := .bf16) wi (Rect.unit ![0, 3840] ![1024, 1024] inb_S1024x5632_S1024x1024_0_3840))
      (View.ld (Val := Elt Ideal) (e' := .bf16) wo (Rect.unit ![1024, 0] ![1024, 1024] inb_S2816x1024_S1024x1024_1024_0)))
    (k0_pay11 (k0_pay7 x u g) (k0_pay8 u) (View.ld (Val := Elt Ideal) (e' := .bf16) wi (Rect.unit ![0, 2048] ![1024, 768] inb_S1024x5632_S1024x768_0_2048)))
    (k0_pay12 (k0_pay7 x u g) (k0_pay8 u) (View.ld (Val := Elt Ideal) (e' := .bf16) wi (Rect.unit ![0, 4864] ![1024, 768] inb_S1024x5632_S1024x768_0_4864)))
    (View.ld (Val := Elt Ideal) (e' := .bf16) wo (Rect.unit ![2048, 0] ![768, 1024] inb_S2816x1024_S768x1024_2048_0))

/-- The payload at an index is the half-step on that token. -/
theorem payload_at (x : FVec Ideal S512x1024 .f32) (u : FVec Ideal S1x9x1024 .f32) (g : FVec Ideal S1x6x1024 .f32) (wi : FVec Ideal S1024x5632 .bf16) (wo : FVec Ideal S2816x1024 .bf16) (r : Fin 512) (j : Fin 1024) :
    payload x u g wi wo (ix2 r j)
      = half0 (fun k => x (ix2 r k)) (fun a b => u (ix3 0 a b)) (fun a b => g (ix3 0 a b)) (fun a b => wi (ix2 a b)) (fun a b => wo (ix2 a b)) j := by
  have h9 : ∀ k, k0_pay9 (F := Ideal) (k0_pay7 x u g) (k0_pay8 u) (ix2 r k)
      = entered (fun k => x (ix2 r k)) (fun k => u (ix3 0 0 k)) (fun k => u (ix3 0 1 k)) (fun k => g (ix3 0 0 k)) k := fun k => by
    rw [pay9_at, pay7_at, pay8_at]
    rfl
  generalize hE : entered (fun k => x (ix2 r k)) (fun k => u (ix3 0 0 k)) (fun k => u (ix3 0 1 k)) (fun k => g (ix3 0 0 k)) = E at h9
  unfold payload half0
  rw [pay1_at, hE]
  simp only [pay4_at, pay5_at, pay6_at]
  refine congrArg (fun f => stepped (fun k => x (ix2 r k)) f (fun k => u (ix3 0 2 k)) (fun k => g (ix3 0 1 k)) j) (funext fun l => ?_)
  unfold folded
  rw [pay10_at, sum_parts]
  unfold part
  simp only [pay11_at, pay12_at, h9]
  refine congrArg₂ (· + ·) (congrArg₂ (· + ·) (Finset.sum_congr rfl fun n _ => ?_) (Finset.sum_congr rfl fun n _ => ?_)) (Finset.sum_congr rfl fun n _ => ?_)
  · exact Cert.FfnIdeal.Hand.unit_eq E wi wo 0 _ 2816 _ 0 _ ⟨n, by omega⟩ n (by decide) (by decide) (by decide) (by simp) (by simp) (by simp) l
  · exact Cert.FfnIdeal.Hand.unit_eq E wi wo 1024 _ 3840 _ 1024 _ ⟨1024 + n, by omega⟩ n (by decide) (by decide) (by decide) (by simp) (by simp; omega) (by simp) l
  · exact Cert.FfnIdeal.Hand.unit_eq E wi wo 2048 _ 4864 _ 2048 _ ⟨2048 + n, by omega⟩ n (by decide) (by decide) (by decide) (by simp) (by simp; omega) (by simp) l

end Cert.Half30Ideal.Hand
end
-- ==== Proof.HalfRef.lean ====
module

public import proofs.«01_k».proof.Proof.Gen.Half30RefIdeal.Run
public import proofs.«01_k».proof.Proof.FfnRefAt

@[expose] public section

set_option maxRecDepth 16384
noncomputable section
open Idealize.ShloMosaic Idealize.ShloMosaic.TcCoe Idealize.SL.Sem
namespace Cert.Half30RefIdeal.At
open Cert.Half30RefIdeal Cert.Half30RefIdeal.Gen Cert.Tok

/-! The sample tokens, stage by stage, on one layer's gains and weights. -/

def enter_sample (Y : FVec Ideal S8x1024x1024 .f32) (μ : FVec Ideal S8x9x1024 .f32) (G : FVec Ideal S6x1024 .f32) : FVec Ideal S8x1024x1024 .f32 :=
  addf (mulf (mulf (mulf Y (broadcastInDim S8x1024x1024 ![0, 1, 2] bcast_S8x1024x1_S8x1024x1024_0_1_2 (Host.rsqrt (addf (Host.divf (broadcastInDim S8x1024x1 ![0, 1] bcast_S8x1024_S8x1024x1_0_1 (Host.reduceAdd (mulf Y Y) (constant S_ .f32 0x00000000#32) reducesTo_S8x1024x1024_S8x1024_d2 h_S_)) (broadcastInDim S8x1024x1 ![] bcast_S_S8x1024x1 (constant S_ .f32 0x44800000#32))) (broadcastInDim S8x1024x1 ![] bcast_S_S8x1024x1 (constant S_ .f32 0x358637BD#32)))))) (broadcastInDim S8x1024x1024 ![0, 1, 2] bcast_S1x1x1024_S8x1024x1024_0_1_2 (broadcastInDim S1x1x1024 ![2] bcast_S1024_S1x1x1024_2 (shapeCast _ (extractStridedSlice S1x1024 ![0, 0] G slices_S6x1024_S1x1024_0_0) shapeCasts_S1x1024_S1024)))) (broadcastInDim S8x1024x1024 ![0, 1, 2] bcast_S8x1x1024_S8x1024x1024_0_1_2 (addf (broadcastInDim S8x1x1024 ![] bcast_S_S8x1x1024 (constant S_ .f32 0x3F800000#32)) (extractStridedSlice S8x1x1024 ![0, 1, 0] μ slices_S8x9x1024_S8x1x1024_0_1_0)))) (broadcastInDim S8x1024x1024 ![0, 1, 2] bcast_S8x1x1024_S8x1024x1024_0_1_2 (extractStridedSlice S8x1x1024 ![0, 0, 0] μ slices_S8x9x1024_S8x1x1024_0_0_0))
theorem enter_sample_at (Y : FVec Ideal S8x1024x1024 .f32) (μ : FVec Ideal S8x9x1024 .f32) (G : FVec Ideal S6x1024 .f32) (b : Fin 8) (s : Fin 1024) (j : Fin 1024) :
    enter_sample Y μ G (ix3 b s j) = entered (fun k => Y (ix3 b s k)) (fun k => μ (ix3 b 0 k)) (fun k => μ (ix3 b 1 k)) (fun k => G (ix2 0 k)) j := by
  unfold entered rms
  pointwise [enter_sample]

def step_sample (Y Z : FVec Ideal S8x1024x1024 .f32) (μ : FVec Ideal S8x9x1024 .f32) (G : FVec Ideal S6x1024 .f32) : FVec Ideal S8x1024x1024 .f32 :=
  addf Y (mulf (broadcastInDim S8x1024x1024 ![0, 1, 2] bcast_S8x1x1024_S8x1024x1024_0_1_2 (mulf (broadcastInDim S8x1x1024 ![] bcast_S_S8x1x1024 (constant S_ .f32 0x3F000000#32)) (extractStridedSlice S8x1x1024 ![0, 2, 0] μ slices_S8x9x1024_S8x1x1024_0_2_0))) (mulf (mulf Z (broadcastInDim S8x1024x1024 ![0, 1, 2] bcast_S8x1024x1_S8x1024x1024_0_1_2 (Host.rsqrt (addf (Host.divf (broadcastInDim S8x1024x1 ![0, 1] bcast_S8x1024_S8x1024x1_0_1 (Host.reduceAdd (mulf Z Z) (constant S_ .f32 0x00000000#32) reducesTo_S8x1024x1024_S8x1024_d2 h_S_)) (broadcastInDim S8x1024x1 ![] bcast_S_S8x1024x1 (constant S_ .f32 0x44800000#32))) (broadcastInDim S8x1024x1 ![] bcast_S_S8x1024x1 (constant S_ .f32 0x358637BD#32)))))) (broadcastInDim S8x1024x1024 ![0, 1, 2] bcast_S1x1x1024_S8x1024x1024_0_1_2 (broadcastInDim S1x1x1024 ![2] bcast_S1024_S1x1x1024_2 (shapeCast _ (extractStridedSlice S1x1024 ![1, 0] G slices_S6x1024_S1x1024_1_0) shapeCasts_S1x1024_S1024)))))
theorem step_sample_at (Y Z : FVec Ideal S8x1024x1024 .f32) (μ : FVec Ideal S8x9x1024 .f32) (G : FVec Ideal S6x1024 .f32) (b : Fin 8) (s : Fin 1024) (j : Fin 1024) :
    step_sample Y Z μ G (ix3 b s j) = stepped (fun k => Y (ix3 b s k)) (fun k => Z (ix3 b s k)) (fun k => μ (ix3 b 2 k)) (fun k => G (ix2 1 k)) j := by
  unfold stepped rms
  pointwise [step_sample]

def widen_sample (E : FVec Ideal S8x1024x1024 .f32) (w : FVec Ideal S1024x5632 .f32) : FVec Ideal S8x1024x5632 .f32 :=
  Host.dotGeneral dot_S8x1024x1024_S1024x5632_S8x1024x5632_2_0_01_1_n_n none E w
theorem widen_sample_at (E : FVec Ideal S8x1024x1024 .f32) (w : FVec Ideal S1024x5632 .f32) (b : Fin 8) (s : Fin 1024) (n : Fin 5632) :
    widen_sample E w (ix3 b s n) = ∑ k, E (ix3 b s k) * w (ix2 k n) := by
  pointwise [widen_sample]
def fold_sample (U : FVec Ideal S8x1024x2816 .f32) (w : FVec Ideal S2816x1024 .f32) : FVec Ideal S8x1024x1024 .f32 :=
  Host.dotGeneral dot_S8x1024x2816_S2816x1024_S8x1024x1024_2_0_01_1_n_n none U w
theorem fold_sample_at (U : FVec Ideal S8x1024x2816 .f32) (w : FVec Ideal S2816x1024 .f32) (b : Fin 8) (s : Fin 1024) (j : Fin 1024) :
    fold_sample U w (ix3 b s j) = folded (fun n => U (ix3 b s n)) (fun n j => w (ix2 n j)) j := by
  unfold folded
  pointwise [fold_sample]
def project_sample (o : FVec Ideal S8x1024x1024 .f32) (w : FVec Ideal FfnRefIdeal.S1024x1024 .f32) : FVec Ideal S8x1024x1024 .f32 :=
  Host.dotGeneral FfnRefIdeal.dot_S8x1024x1024_S1024x1024_S8x1024x1024_2_0_01_1_n_n none o w
theorem project_sample_at (o : FVec Ideal S8x1024x1024 .f32) (w : FVec Ideal FfnRefIdeal.S1024x1024 .f32) (b : Fin 8) (s : Fin 1024) (j : Fin 1024) :
    project_sample o w (ix3 b s j) = mixed (fun k => o (ix3 b s k)) (fun a b => w (ix2 a b)) j := by
  unfold mixed
  pointwise [project_sample, FfnRefIdeal.dot_S8x1024x1024_S1024x1024_S8x1024x1024_2_0_01_1_n_n]

/-- The first half-step, the second one, and the mixer's residual with the second one. -/
def half0_sample (y : FVec Ideal S8x1024x1024 .f32) (μ : FVec Ideal S8x9x1024 .f32) (G : FVec Ideal S6x1024 .f32) (wi : FVec Ideal S1024x5632 .f32) (wo : FVec Ideal S2816x1024 .f32) : FVec Ideal S8x1024x1024 .f32 :=
  let W := widen_sample (enter_sample y μ G) wi
  step_sample y (fold_sample (FfnRefIdeal.At.gate_sample W (FfnRefIdeal.At.half_sample W)) wo) μ G
theorem half0_sample_at (y : FVec Ideal S8x1024x1024 .f32) (μ : FVec Ideal S8x9x1024 .f32) (G : FVec Ideal S6x1024 .f32) (wi : FVec Ideal S1024x5632 .f32) (wo : FVec Ideal S2816x1024 .f32) (b : Fin 8) (s : Fin 1024) (j : Fin 1024) :
    half0_sample y μ G wi wo (ix3 b s j) = half0 (fun k => y (ix3 b s k)) (fun i k => μ (ix3 b i k)) (fun a b => G (ix2 a b)) (fun a b => wi (ix2 a b)) (fun a b => wo (ix2 a b)) j := by
  simp only [half0_sample, half0, step_sample_at, fold_sample_at, FfnRefIdeal.At.gate_sample_at, widen_sample_at, enter_sample_at]
  rfl
def half1_sample (y : FVec Ideal S8x1024x1024 .f32) (μ : FVec Ideal S8x9x1024 .f32) (G : FVec Ideal S6x1024 .f32) (wi : FVec Ideal S1024x5632 .f32) (wo : FVec Ideal S2816x1024 .f32) : FVec Ideal S8x1024x1024 .f32 :=
  let W := widen_sample (FfnRefIdeal.At.enter_sample y μ G) wi
  FfnRefIdeal.At.step_sample y (fold_sample (FfnRefIdeal.At.gate_sample W (FfnRefIdeal.At.half_sample W)) wo) μ G
theorem half1_sample_at (y : FVec Ideal S8x1024x1024 .f32) (μ : FVec Ideal S8x9x1024 .f32) (G : FVec Ideal S6x1024 .f32) (wi : FVec Ideal S1024x5632 .f32) (wo : FVec Ideal S2816x1024 .f32) (b : Fin 8) (s : Fin 1024) (j : Fin 1024) :
    half1_sample y μ G wi wo (ix3 b s j) = half1 (fun k => y (ix3 b s k)) (fun i k => μ (ix3 b i k)) (fun a b => G (ix2 a b)) (fun a b => wi (ix2 a b)) (fun a b => wo (ix2 a b)) j := by
  simp only [half1_sample, half1, FfnRefIdeal.At.step_sample_at, fold_sample_at, FfnRefIdeal.At.gate_sample_at, widen_sample_at, FfnRefIdeal.At.enter_sample_at]
  rfl
def tail_sample (y o : FVec Ideal S8x1024x1024 .f32) (w : FVec Ideal FfnRefIdeal.S1024x1024 .f32) (μ : FVec Ideal S8x9x1024 .f32) (G : FVec Ideal S6x1024 .f32) (wi : FVec Ideal S1024x5632 .f32) (wo : FVec Ideal S2816x1024 .f32) : FVec Ideal S8x1024x1024 .f32 :=
  half1_sample (FfnRefIdeal.At.join_sample y (project_sample o w) μ G) μ G wi wo
theorem tail_sample_at (y o : FVec Ideal S8x1024x1024 .f32) (w : FVec Ideal FfnRefIdeal.S1024x1024 .f32) (μ : FVec Ideal S8x9x1024 .f32) (G : FVec Ideal S6x1024 .f32) (wi : FVec Ideal S1024x5632 .f32) (wo : FVec Ideal S2816x1024 .f32) (b : Fin 8) (s : Fin 1024) (j : Fin 1024) :
    tail_sample y o w μ G wi wo (ix3 b s j) = tail (fun k => y (ix3 b s k)) (fun k => o (ix3 b s k)) (fun a b => w (ix2 a b)) (fun i k => μ (ix3 b i k)) (fun a b => G (ix2 a b)) (fun a b => wi (ix2 a b)) (fun a b => wo (ix2 a b)) j := by
  unfold tail_sample
  rw [half1_sample_at]
  simp only [FfnRefIdeal.At.join_sample_at, project_sample_at]
  rfl

/-! The prompt tokens, stage by stage, on one layer's gains and weights. -/

def enter_prompt (Y : FVec Ideal S16x256x1024 .f32) (μ : FVec Ideal S1x9x1024 .f32) (G : FVec Ideal S6x1024 .f32) : FVec Ideal S16x256x1024 .f32 :=
  addf (mulf (mulf (mulf Y (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf Y Y) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 (shapeCast _ (extractStridedSlice S1x1024 ![0, 0] G slices_S6x1024_S1x1024_0_0) shapeCasts_S1x1024_S1024)))) (broadcastInDim S16x256x1024 ![0, 1, 2] bcast_S1x1x1024_S16x256x1024_0_1_2 (addf (broadcastInDim S1x1x1024 ![] bcast_S_S1x1x1024 (constant S_ .f32 0x3F800000#32)) (extractStridedSlice S1x1x1024 ![0, 1, 0] μ slices_S1x9x1024_S1x1x1024_0_1_0)))) (broadcastInDim S16x256x1024 ![0, 1, 2] bcast_S1x1x1024_S16x256x1024_0_1_2 (extractStridedSlice S1x1x1024 ![0, 0, 0] μ slices_S1x9x1024_S1x1x1024_0_0_0))
theorem enter_prompt_at (Y : FVec Ideal S16x256x1024 .f32) (μ : FVec Ideal S1x9x1024 .f32) (G : FVec Ideal S6x1024 .f32) (b : Fin 16) (s : Fin 256) (j : Fin 1024) :
    enter_prompt Y μ G (ix3 b s j) = entered (fun k => Y (ix3 b s k)) (fun k => μ (ix3 0 0 k)) (fun k => μ (ix3 0 1 k)) (fun k => G (ix2 0 k)) j := by
  unfold entered rms
  pointwise [enter_prompt]

def step_prompt (Y Z : FVec Ideal S16x256x1024 .f32) (μ : FVec Ideal S1x9x1024 .f32) (G : FVec Ideal S6x1024 .f32) : FVec Ideal S16x256x1024 .f32 :=
  addf Y (mulf (broadcastInDim S16x256x1024 ![0, 1, 2] bcast_S1x1x1024_S16x256x1024_0_1_2 (mulf (broadcastInDim S1x1x1024 ![] bcast_S_S1x1x1024 (constant S_ .f32 0x3F000000#32)) (extractStridedSlice S1x1x1024 ![0, 2, 0] μ slices_S1x9x1024_S1x1x1024_0_2_0))) (mulf (mulf Z (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf Z Z) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 (shapeCast _ (extractStridedSlice S1x1024 ![1, 0] G slices_S6x1024_S1x1024_1_0) shapeCasts_S1x1024_S1024)))))
theorem step_prompt_at (Y Z : FVec Ideal S16x256x1024 .f32) (μ : FVec Ideal S1x9x1024 .f32) (G : FVec Ideal S6x1024 .f32) (b : Fin 16) (s : Fin 256) (j : Fin 1024) :
    step_prompt Y Z μ G (ix3 b s j) = stepped (fun k => Y (ix3 b s k)) (fun k => Z (ix3 b s k)) (fun k => μ (ix3 0 2 k)) (fun k => G (ix2 1 k)) j := by
  unfold stepped rms
  pointwise [step_prompt]

def widen_prompt (E : FVec Ideal S16x256x1024 .f32) (w : FVec Ideal S1024x5632 .f32) : FVec Ideal S16x256x5632 .f32 :=
  Host.dotGeneral dot_S16x256x1024_S1024x5632_S16x256x5632_2_0_01_1_n_n none E w
theorem widen_prompt_at (E : FVec Ideal S16x256x1024 .f32) (w : FVec Ideal S1024x5632 .f32) (b : Fin 16) (s : Fin 256) (n : Fin 5632) :
    widen_prompt E w (ix3 b s n) = ∑ k, E (ix3 b s k) * w (ix2 k n) := by
  pointwise [widen_prompt]
def fold_prompt (U : FVec Ideal S16x256x2816 .f32) (w : FVec Ideal S2816x1024 .f32) : FVec Ideal S16x256x1024 .f32 :=
  Host.dotGeneral dot_S16x256x2816_S2816x1024_S16x256x1024_2_0_01_1_n_n none U w
theorem fold_prompt_at (U : FVec Ideal S16x256x2816 .f32) (w : FVec Ideal S2816x1024 .f32) (b : Fin 16) (s : Fin 256) (j : Fin 1024) :
    fold_prompt U w (ix3 b s j) = folded (fun n => U (ix3 b s n)) (fun n j => w (ix2 n j)) j := by
  unfold folded
  pointwise [fold_prompt]
def project_prompt (o : FVec Ideal S16x256x1024 .f32) (w : FVec Ideal FfnRefIdeal.S1024x1024 .f32) : FVec Ideal S16x256x1024 .f32 :=
  Host.dotGeneral FfnRefIdeal.dot_S16x256x1024_S1024x1024_S16x256x1024_2_0_01_1_n_n none o w
theorem project_prompt_at (o : FVec Ideal S16x256x1024 .f32) (w : FVec Ideal FfnRefIdeal.S1024x1024 .f32) (b : Fin 16) (s : Fin 256) (j : Fin 1024) :
    project_prompt o w (ix3 b s j) = mixed (fun k => o (ix3 b s k)) (fun a b => w (ix2 a b)) j := by
  unfold mixed
  pointwise [project_prompt, FfnRefIdeal.dot_S16x256x1024_S1024x1024_S16x256x1024_2_0_01_1_n_n]

/-- The first half-step, the second one, and the mixer's residual with the second one. -/
def half0_prompt (y : FVec Ideal S16x256x1024 .f32) (μ : FVec Ideal S1x9x1024 .f32) (G : FVec Ideal S6x1024 .f32) (wi : FVec Ideal S1024x5632 .f32) (wo : FVec Ideal S2816x1024 .f32) : FVec Ideal S16x256x1024 .f32 :=
  let W := widen_prompt (enter_prompt y μ G) wi
  step_prompt y (fold_prompt (FfnRefIdeal.At.gate_prompt W (FfnRefIdeal.At.half_prompt W)) wo) μ G
theorem half0_prompt_at (y : FVec Ideal S16x256x1024 .f32) (μ : FVec Ideal S1x9x1024 .f32) (G : FVec Ideal S6x1024 .f32) (wi : FVec Ideal S1024x5632 .f32) (wo : FVec Ideal S2816x1024 .f32) (b : Fin 16) (s : Fin 256) (j : Fin 1024) :
    half0_prompt y μ G wi wo (ix3 b s j) = half0 (fun k => y (ix3 b s k)) (fun i k => μ (ix3 0 i k)) (fun a b => G (ix2 a b)) (fun a b => wi (ix2 a b)) (fun a b => wo (ix2 a b)) j := by
  simp only [half0_prompt, half0, step_prompt_at, fold_prompt_at, FfnRefIdeal.At.gate_prompt_at, widen_prompt_at, enter_prompt_at]
  rfl
def half1_prompt (y : FVec Ideal S16x256x1024 .f32) (μ : FVec Ideal S1x9x1024 .f32) (G : FVec Ideal S6x1024 .f32) (wi : FVec Ideal S1024x5632 .f32) (wo : FVec Ideal S2816x1024 .f32) : FVec Ideal S16x256x1024 .f32 :=
  let W := widen_prompt (FfnRefIdeal.At.enter_prompt y μ G) wi
  FfnRefIdeal.At.step_prompt y (fold_prompt (FfnRefIdeal.At.gate_prompt W (FfnRefIdeal.At.half_prompt W)) wo) μ G
theorem half1_prompt_at (y : FVec Ideal S16x256x1024 .f32) (μ : FVec Ideal S1x9x1024 .f32) (G : FVec Ideal S6x1024 .f32) (wi : FVec Ideal S1024x5632 .f32) (wo : FVec Ideal S2816x1024 .f32) (b : Fin 16) (s : Fin 256) (j : Fin 1024) :
    half1_prompt y μ G wi wo (ix3 b s j) = half1 (fun k => y (ix3 b s k)) (fun i k => μ (ix3 0 i k)) (fun a b => G (ix2 a b)) (fun a b => wi (ix2 a b)) (fun a b => wo (ix2 a b)) j := by
  simp only [half1_prompt, half1, FfnRefIdeal.At.step_prompt_at, fold_prompt_at, FfnRefIdeal.At.gate_prompt_at, widen_prompt_at, FfnRefIdeal.At.enter_prompt_at]
  rfl
def tail_prompt (y o : FVec Ideal S16x256x1024 .f32) (w : FVec Ideal FfnRefIdeal.S1024x1024 .f32) (μ : FVec Ideal S1x9x1024 .f32) (G : FVec Ideal S6x1024 .f32) (wi : FVec Ideal S1024x5632 .f32) (wo : FVec Ideal S2816x1024 .f32) : FVec Ideal S16x256x1024 .f32 :=
  half1_prompt (FfnRefIdeal.At.join_prompt y (project_prompt o w) μ G) μ G wi wo
theorem tail_prompt_at (y o : FVec Ideal S16x256x1024 .f32) (w : FVec Ideal FfnRefIdeal.S1024x1024 .f32) (μ : FVec Ideal S1x9x1024 .f32) (G : FVec Ideal S6x1024 .f32) (wi : FVec Ideal S1024x5632 .f32) (wo : FVec Ideal S2816x1024 .f32) (b : Fin 16) (s : Fin 256) (j : Fin 1024) :
    tail_prompt y o w μ G wi wo (ix3 b s j) = tail (fun k => y (ix3 b s k)) (fun k => o (ix3 b s k)) (fun a b => w (ix2 a b)) (fun i k => μ (ix3 0 i k)) (fun a b => G (ix2 a b)) (fun a b => wi (ix2 a b)) (fun a b => wo (ix2 a b)) j := by
  unfold tail_prompt
  rw [half1_prompt_at]
  simp only [FfnRefIdeal.At.join_prompt_at, project_prompt_at]
  rfl

end Cert.Half30RefIdeal.At
end
-- ==== Proof.HalfRows.lean ====
module

public import proofs.«01_k».proof.Proof.FfnFinal

@[expose] public section

set_option maxRecDepth 16384
noncomputable section
open Idealize.ShloMosaic Idealize.ShloMosaic.TcCoe Idealize.SL.Sem
namespace Cert.FfnIdeal.Hand
open Cert.FfnIdeal Cert.FfnIdeal.Gen Cert.Tok

/-- The rows of the two phases laid one after the other. -/
theorem cat_s (A : FVec Ideal S8192x1024 .f32) (B : FVec Ideal S4096x1024 .f32) (h) (R : Fin 8192) (k : Fin 1024) :
    concatenate S12288x1024 0 [⟨S8192x1024, A⟩, ⟨S4096x1024, B⟩] h (ix2 ⟨R, by omega⟩ k) = A (ix2 R k) := by
  pointwise []
theorem cat_p (A : FVec Ideal S8192x1024 .f32) (B : FVec Ideal S4096x1024 .f32) (h) (R : Fin 4096) (k : Fin 1024) :
    concatenate S12288x1024 0 [⟨S8192x1024, A⟩, ⟨S4096x1024, B⟩] h (ix2 ⟨8192 + R, by omega⟩ k) = B (ix2 R k) := by
  pointwise []

/-- The modulations of the two phases in one table. -/
theorem mods_s (A : FVec Ideal S8x9x1024 .f32) (B : FVec Ideal S1x9x1024 .f32) (Z : FVec Ideal S7x9x1024 .f32) (h) (b : Fin 8) (i : Fin 9) (k : Fin 1024) :
    concatenate S16x9x1024 0 [⟨S8x9x1024, A⟩, ⟨S1x9x1024, B⟩, ⟨S7x9x1024, Z⟩] h (ix3 ⟨b, by omega⟩ i k) = A (ix3 b i k) := by
  pointwise []
theorem mods_p (A : FVec Ideal S8x9x1024 .f32) (B : FVec Ideal S1x9x1024 .f32) (Z : FVec Ideal S7x9x1024 .f32) (h) (i : Fin 9) (k : Fin 1024) :
    concatenate S16x9x1024 0 [⟨S8x9x1024, A⟩, ⟨S1x9x1024, B⟩, ⟨S7x9x1024, Z⟩] h (ix3 8 i k) = B (ix3 0 i k) := by
  pointwise []

/-- An index of the output's block at its place in the whole. -/
theorem place (ι : Fin 2 → ℕ) (T : ℕ) (y : S512x1024.Idx) (h0 : ι 0 = T) (h1 : ι 1 = 0) (i : S12288x1024.Idx) (e0 : (i 0 : ℕ) = ι 0 * 512 + (y 0 : ℕ)) (e1 : (i 1 : ℕ) = ι 1 * 1024 + (y 1 : ℕ)) (R : Fin 12288) (hR : (R : ℕ) = T * 512 + (y 0 : ℕ)) :
    ix2 R ⟨(y 1 : ℕ), (y 1).isLt⟩ = i := by
  refine funext (Fin.forall_fin_two.mpr ⟨Fin.ext ?_, Fin.ext ?_⟩)
  · rw [e0, h0]; exact hR
  · rw [e1, h1]; show (y 1 : ℕ) = 0 * _ + _; omega

end Cert.FfnIdeal.Hand
end
-- ==== Proof.Half30Final.lean ====
module

public import proofs.«01_k».proof.Proof.Gen.Half30Ideal.Frame
public import proofs.«01_k».proof.Proof.Gen.Half30RefIdeal.Run
public import proofs.«01_k».proof.Proof.Half30Block
public import proofs.«01_k».proof.Proof.HalfRef
public import proofs.«01_k».proof.Proof.HalfRows

@[expose] public section

set_option maxRecDepth 16384
noncomputable section
open Idealize.ShloMosaic Idealize.ShloMosaic.TcCoe Idealize.SL.Sem
namespace Cert.Half30Ideal.Hand
open Cert.Half30Ideal Cert.Half30Ideal.Gen Cert.Tok
variable (m : (ℓ : Loc nD τ sig) → Buf (Elt Ideal) ℓ)

/-- The arrays that the host code makes before the launch. -/
theorem V_x (c : Dev nD) : @Eq (FVec Ideal S12288x1024 .f32) (V m c main_v2) (concatenate S12288x1024 0 [⟨S8192x1024, shapeCast S8192x1024 (m ((c : Thread nD τ).loc main_arg1) : FVec Ideal S8x1024x1024 .f32) shapeCasts_S8x1024x1024_S8192x1024⟩,
    ⟨S4096x1024, shapeCast S4096x1024 (m ((c : Thread nD τ).loc main_arg0) : FVec Ideal S16x256x1024 .f32) shapeCasts_S16x256x1024_S4096x1024⟩] concatenates_S8192x1024_S4096x1024_S12288x1024_d0) := by
  show StableHlo.after hostOps0 _ _ = _
  simp only [hostOps0]; after_results; dsimp only [Matrix.cons_val]; after_results_loop; rfl
theorem V_mods (c : Dev nD) : @Eq (FVec Ideal S16x9x1024 .f32) (V m c main_v4) (concatenate S16x9x1024 0 [⟨S8x9x1024, (m ((c : Thread nD τ).loc main_arg3) : FVec Ideal S8x9x1024 .f32)⟩, ⟨S1x9x1024, (m ((c : Thread nD τ).loc main_arg2) : FVec Ideal S1x9x1024 .f32)⟩,
    ⟨S7x9x1024, broadcastInDim S7x9x1024 ![] bcast_S_S7x9x1024 (constant (F := Ideal) S_ .f32 0x00000000#32)⟩] concatenates_S8x9x1024_S1x9x1024_S7x9x1024_S16x9x1024_d0) := by
  show StableHlo.after hostOps0 _ _ = _
  simp only [hostOps0]; after_results; dsimp only [Matrix.cons_val]; after_results_loop; rfl
theorem V_in (c : Dev nD) : @Eq (FVec Ideal S1024x5632 .bf16) (V m c main_v7) (truncf (F := Ideal) .bf16 (shapeCast S1024x5632 (extractStridedSlice S1x1x1024x5632 ![3, 0, 0, 0] (m ((c : Thread nD τ).loc main_arg5) : FVec Ideal S4x2x1024x5632 .f32) slices_S4x2x1024x5632_S1x1x1024x5632_3_0_0_0)
    shapeCasts_S1x1x1024x5632_S1024x5632) bitsLt_bf16_f32) := by
  show StableHlo.after hostOps0 _ _ = _
  simp only [hostOps0]
  after_results
  try rfl
theorem V_out (c : Dev nD) : @Eq (FVec Ideal S2816x1024 .bf16) (V m c main_v10) (truncf (F := Ideal) .bf16 (shapeCast S2816x1024 (extractStridedSlice S1x1x2816x1024 ![3, 0, 0, 0] (m ((c : Thread nD τ).loc main_arg6) : FVec Ideal S4x2x2816x1024 .f32) slices_S4x2x2816x1024_S1x1x2816x1024_3_0_0_0)
    shapeCasts_S1x1x2816x1024_S2816x1024) bitsLt_bf16_f32) := by
  show StableHlo.after hostOps0 _ _ = _
  simp only [hostOps0]
  after_results
  try rfl

/-- Where the blocks of each grid point lie. -/
theorem idx : ∀ t : Fin cfg0.N, (grid0.coords t 0 : ℕ) = t ∧ win0_0.index t = ![(t : ℕ), 0] ∧ win0_1.index t = ![min ((t : ℕ) / 2) 8, 0, 0] ∧ win0_2.index t = ![3, 0, 0] ∧ win0_3.index t = ![0, 0] ∧ win0_4.index t = ![0, 0]
    ∧ win0_7.index t = ![(t : ℕ), 0] :=
  (by decide +kernel : ∀ t : Fin grid0.N, _)

/-- The weights at an index. -/
theorem w_in (c : Dev nD) (a : Fin 1024) (b : Fin 5632) : (V m c main_v7 : FVec Ideal S1024x5632 .bf16) (ix2 a b) = (m ((c : Thread nD τ).loc main_arg5) : FVec Ideal S4x2x1024x5632 .f32) (ix4 3 0 a b) := by
  rw [V_in]
  generalize (m ((c : Thread nD τ).loc main_arg5) : FVec Ideal S4x2x1024x5632 .f32) = A
  pointwise []
theorem w_out (c : Dev nD) (a : Fin 2816) (b : Fin 1024) : (V m c main_v10 : FVec Ideal S2816x1024 .bf16) (ix2 a b) = (m ((c : Thread nD τ).loc main_arg6) : FVec Ideal S4x2x2816x1024 .f32) (ix4 3 0 a b) := by
  rw [V_out]
  generalize (m ((c : Thread nD τ).loc main_arg6) : FVec Ideal S4x2x2816x1024 .f32) = A
  pointwise []

set_option maxHeartbeats 4000000 in
/-- The output's block after a point is the payload of the input blocks. -/
theorem point (c : Dev nD) (t : Fin cfg0.N) : (dats m 0 c).after 7 t = payload (iblk m c 0 t) (iblk m c 1 t) (iblk m c 2 t) (iblk m c 3 t) (iblk m c 4 t) := by
  rw [after0_7]
  generalize iblk m c 0 t = x0
  generalize iblk m c 1 t = x1
  generalize iblk m c 2 t = x2
  generalize iblk m c 3 t = x3
  generalize iblk m c 4 t = x4
  generalize iblk m c 5 t = x5
  generalize iblk m c 6 t = x6
  refine funext fun y => ?_
  unfold_out out0_7
  simp (disch := decide) only [View.ld_unit_lit']
  canon_tiles x h
  rw [show y = x from funext (Fin.forall_fin_two.mpr ⟨Fin.ext h0, Fin.ext h1⟩)]
  rfl

/-- A block of sample rows, and one of prompt rows, at an index. -/
theorem block_s (c : Dev nD) (t : Fin cfg0.N) (h : t.val < 16) (r : Fin 512) (j : Fin 1024) :
    (dats m 0 c).after 7 t (ix2 r j)
      = half0 (fun k => (m ((c : Thread nD τ).loc main_arg1) : FVec Ideal S8x1024x1024 .f32) (ix3 ⟨(t * 512 + r : ℕ) / 1024, by omega⟩ ⟨(t * 512 + r : ℕ) % 1024, by omega⟩ k))
          (fun a b => (m ((c : Thread nD τ).loc main_arg3) : FVec Ideal S8x9x1024 .f32) (ix3 ⟨(t * 512 + r : ℕ) / 1024, by omega⟩ a b))
          (fun a b => (m ((c : Thread nD τ).loc main_arg4) : FVec Ideal S4x6x1024 .f32) (ix3 3 a b))
          (fun a b => (m ((c : Thread nD τ).loc main_arg5) : FVec Ideal S4x2x1024x5632 .f32) (ix4 3 0 a b))
          (fun a b => (m ((c : Thread nD τ).loc main_arg6) : FVec Ideal S4x2x2816x1024 .f32) (ix4 3 0 a b)) j := by
  obtain ⟨-, i0, i1, i2, i3, i4, -⟩ := idx t
  refine (congrFun (point m c t) (ix2 r j)).trans ((payload_at _ _ _ _ _ _ _).trans ?_)
  refine congrFun (congr (congr (congr (congr (congrArg half0 (funext fun k => ?_)) (funext fun a => funext fun b => ?_)) (funext fun a => funext fun b => ?_)) (funext fun a => funext fun b => ?_)) (funext fun a => funext fun b => ?_)) j
  · refine Eq.trans ?_ ((congrFun (V_x m c) (ix2 ⟨t * 512 + r, by have := t.isLt; have : cfg0.N = 24 := rfl; omega⟩ k)).trans ((FfnIdeal.Hand.cat_s _ _ _ ⟨t * 512 + r, by omega⟩ k).trans (FfnIdeal.Hand.rows_s _ _ ⟨t * 512 + r, by omega⟩ k)))
    blk_point [iblk, i0]
  · refine Eq.trans ?_ ((congrFun (V_mods m c) (ix3 ⟨(t * 512 + r : ℕ) / 1024, by omega⟩ a b)).trans (FfnIdeal.Hand.mods_s _ _ _ _ ⟨(t * 512 + r : ℕ) / 1024, by omega⟩ a b))
    blk_point [iblk, i1]
  · rw [← V_main_arg4 m c]; blk_point [iblk, i2]
  · rw [← w_in m c]; blk_point [iblk, i3]
  · rw [← w_out m c]; blk_point [iblk, i4]

theorem block_p (c : Dev nD) (t : Fin cfg0.N) (h : 16 ≤ t.val) (r : Fin 512) (j : Fin 1024) :
    (dats m 0 c).after 7 t (ix2 r j)
      = half0 (fun k => (m ((c : Thread nD τ).loc main_arg0) : FVec Ideal S16x256x1024 .f32) (ix3 ⟨((t - 16) * 512 + r : ℕ) / 256, by have := t.isLt; have : cfg0.N = 24 := rfl; omega⟩ ⟨((t - 16) * 512 + r : ℕ) % 256, by omega⟩ k))
          (fun a b => (m ((c : Thread nD τ).loc main_arg2) : FVec Ideal S1x9x1024 .f32) (ix3 0 a b))
          (fun a b => (m ((c : Thread nD τ).loc main_arg4) : FVec Ideal S4x6x1024 .f32) (ix3 3 a b))
          (fun a b => (m ((c : Thread nD τ).loc main_arg5) : FVec Ideal S4x2x1024x5632 .f32) (ix4 3 0 a b))
          (fun a b => (m ((c : Thread nD τ).loc main_arg6) : FVec Ideal S4x2x2816x1024 .f32) (ix4 3 0 a b)) j := by
  obtain ⟨-, i0, i1, i2, i3, i4, -⟩ := idx t
  refine (congrFun (point m c t) (ix2 r j)).trans ((payload_at _ _ _ _ _ _ _).trans ?_)
  refine congrFun (congr (congr (congr (congr (congrArg half0 (funext fun k => ?_)) (funext fun a => funext fun b => ?_)) (funext fun a => funext fun b => ?_)) (funext fun a => funext fun b => ?_)) (funext fun a => funext fun b => ?_)) j
  · refine Eq.trans ?_ ((congrFun (V_x m c) (ix2 ⟨8192 + ((t - 16) * 512 + r), by have := t.isLt; have : cfg0.N = 24 := rfl; omega⟩ k)).trans ((FfnIdeal.Hand.cat_p _ _ _ ⟨(t - 16) * 512 + r, by have := t.isLt; have : cfg0.N = 24 := rfl; omega⟩ k).trans (FfnIdeal.Hand.rows_p _ _ ⟨(t - 16) * 512 + r, by have := t.isLt; have : cfg0.N = 24 := rfl; omega⟩ k)))
    blk_point [iblk, i0]
  · refine Eq.trans ?_ ((congrFun (V_mods m c) (ix3 8 a b)).trans (FfnIdeal.Hand.mods_p _ _ _ _ a b))
    blk_point [iblk, i1]
  · rw [← V_main_arg4 m c]; blk_point [iblk, i2]
  · rw [← w_in m c]; blk_point [iblk, i3]
  · rw [← w_out m c]; blk_point [iblk, i4]

/-- The layer's gains and weights, cut out of the stacks. -/
theorem cut_g (A : FVec Ideal S4x6x1024 .f32) (a : Fin 6) (b : Fin 1024) : (shapeCast S6x1024 (extractStridedSlice S1x6x1024 ![3, 0, 0] A Half30RefIdeal.Gen.slices_S4x6x1024_S1x6x1024_3_0_0) Half30RefIdeal.Gen.shapeCasts_S1x6x1024_S6x1024) (ix2 a b) = A (ix3 3 a b) := by
  pointwise []
theorem cut_in (A : FVec Ideal S4x2x1024x5632 .f32) (a : Fin 1024) (b : Fin 5632) : (shapeCast S1024x5632 (extractStridedSlice S1x1x1024x5632 ![3, 0, 0, 0] A slices_S4x2x1024x5632_S1x1x1024x5632_3_0_0_0) shapeCasts_S1x1x1024x5632_S1024x5632) (ix2 a b) = A (ix4 3 0 a b) := by
  pointwise []
theorem cut_out (A : FVec Ideal S4x2x2816x1024 .f32) (a : Fin 2816) (b : Fin 1024) : (shapeCast S2816x1024 (extractStridedSlice S1x1x2816x1024 ![3, 0, 0, 0] A slices_S4x2x2816x1024_S1x1x2816x1024_3_0_0_0) shapeCasts_S1x1x2816x1024_S2816x1024) (ix2 a b) = A (ix4 3 0 a b) := by
  pointwise []

/-- The sample tokens' result before its rows are laid out. -/
def out_sample (y : FVec Ideal S8x1024x1024 .f32) (μ : FVec Ideal S8x9x1024 .f32) (g : FVec Ideal S4x6x1024 .f32) (wi : FVec Ideal S4x2x1024x5632 .f32) (wo : FVec Ideal S4x2x2816x1024 .f32) : FVec Ideal S8x1024x1024 .f32 :=
  Half30RefIdeal.At.half0_sample y μ (shapeCast S6x1024 (extractStridedSlice S1x6x1024 ![3, 0, 0] g Half30RefIdeal.Gen.slices_S4x6x1024_S1x6x1024_3_0_0) Half30RefIdeal.Gen.shapeCasts_S1x6x1024_S6x1024) (shapeCast S1024x5632 (extractStridedSlice S1x1x1024x5632 ![3, 0, 0, 0] wi slices_S4x2x1024x5632_S1x1x1024x5632_3_0_0_0) shapeCasts_S1x1x1024x5632_S1024x5632) (shapeCast S2816x1024 (extractStridedSlice S1x1x2816x1024 ![3, 0, 0, 0] wo slices_S4x2x2816x1024_S1x1x2816x1024_3_0_0_0) shapeCasts_S1x1x2816x1024_S2816x1024)
theorem out_sample_at (y : FVec Ideal S8x1024x1024 .f32) (μ : FVec Ideal S8x9x1024 .f32) (g : FVec Ideal S4x6x1024 .f32) (wi : FVec Ideal S4x2x1024x5632 .f32) (wo : FVec Ideal S4x2x2816x1024 .f32) (b : Fin 8) (s : Fin 1024) (j : Fin 1024) :
    out_sample y μ g wi wo (ix3 b s j) = half0 (fun k => y (ix3 b s k)) (fun i k => μ (ix3 b i k)) (fun a b => g (ix3 3 a b)) (fun a b => wi (ix4 3 0 a b)) (fun a b => wo (ix4 3 0 a b)) j := by
  unfold out_sample
  refine (Half30RefIdeal.At.half0_sample_at _ _ _ _ _ _ _ _).trans ?_
  simp only [cut_g, cut_in, cut_out]

/-- The prompt tokens' result before its rows are laid out. -/
def out_prompt (y : FVec Ideal S16x256x1024 .f32) (μ : FVec Ideal S1x9x1024 .f32) (g : FVec Ideal S4x6x1024 .f32) (wi : FVec Ideal S4x2x1024x5632 .f32) (wo : FVec Ideal S4x2x2816x1024 .f32) : FVec Ideal S16x256x1024 .f32 :=
  Half30RefIdeal.At.half0_prompt y μ (shapeCast S6x1024 (extractStridedSlice S1x6x1024 ![3, 0, 0] g Half30RefIdeal.Gen.slices_S4x6x1024_S1x6x1024_3_0_0) Half30RefIdeal.Gen.shapeCasts_S1x6x1024_S6x1024) (shapeCast S1024x5632 (extractStridedSlice S1x1x1024x5632 ![3, 0, 0, 0] wi slices_S4x2x1024x5632_S1x1x1024x5632_3_0_0_0) shapeCasts_S1x1x1024x5632_S1024x5632) (shapeCast S2816x1024 (extractStridedSlice S1x1x2816x1024 ![3, 0, 0, 0] wo slices_S4x2x2816x1024_S1x1x2816x1024_3_0_0_0) shapeCasts_S1x1x2816x1024_S2816x1024)
theorem out_prompt_at (y : FVec Ideal S16x256x1024 .f32) (μ : FVec Ideal S1x9x1024 .f32) (g : FVec Ideal S4x6x1024 .f32) (wi : FVec Ideal S4x2x1024x5632 .f32) (wo : FVec Ideal S4x2x2816x1024 .f32) (b : Fin 16) (s : Fin 256) (j : Fin 1024) :
    out_prompt y μ g wi wo (ix3 b s j) = half0 (fun k => y (ix3 b s k)) (fun i k => μ (ix3 0 i k)) (fun a b => g (ix3 3 a b)) (fun a b => wi (ix4 3 0 a b)) (fun a b => wo (ix4 3 0 a b)) j := by
  unfold out_prompt
  refine (Half30RefIdeal.At.half0_prompt_at _ _ _ _ _ _ _ _).trans ?_
  simp only [cut_g, cut_in, cut_out]

/-- The result that the two programs are compared by: the rows of the two phases, one after the other. -/
def rows (yp : FVec Ideal S16x256x1024 .f32) (ys : FVec Ideal S8x1024x1024 .f32) (mp : FVec Ideal S1x9x1024 .f32) (ms : FVec Ideal S8x9x1024 .f32) (g : FVec Ideal S4x6x1024 .f32)
    (wi : FVec Ideal S4x2x1024x5632 .f32) (wo : FVec Ideal S4x2x2816x1024 .f32) : FVec Ideal S12288x1024 .f32 :=
  concatenate S12288x1024 0 [⟨S8192x1024, shapeCast S8192x1024 (out_sample ys ms g wi wo) Half30RefIdeal.Gen.shapeCasts_S8x1024x1024_S8192x1024⟩,
    ⟨S4096x1024, shapeCast S4096x1024 (out_prompt yp mp g wi wo) Half30RefIdeal.Gen.shapeCasts_S16x256x1024_S4096x1024⟩] Half30RefIdeal.Gen.concatenates_S8192x1024_S4096x1024_S12288x1024_d0

set_option maxHeartbeats 4000000 in
/-- The output after the run. -/
theorem final (c : Dev nD) : (dats m 0 c).arrAt 7 cfg0.N = rows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 7 _ (by decide +kernel) fun t hf y => ?_
  blk_simp
  have ei : win0_7.index t = ![(t : ℕ), 0] := by have := idx t; tauto
  have hN : (t : ℕ) < 24 := t.isLt
  have hr : (y 0 : ℕ) < 512 := (y 0).isLt
  have hy : y = ix2 ⟨(y 0 : ℕ), (y 0).isLt⟩ ⟨(y 1 : ℕ), (y 1).isLt⟩ := funext (Fin.forall_fin_two.mpr ⟨rfl, rfl⟩)
  refine (congrArg ((dats m 0 c).after 7 t) hy).trans ?_
  rcases lt_or_ge (t : ℕ) 16 with h | h
  · refine (block_s m c t h _ _).trans (Eq.trans ?_ (congrArg (rows _ _ _ _ _ _ _) (FfnIdeal.Hand.place _ t y (congrFun ei 0) (congrFun ei 1) _ (by blk_simp; try rfl) (by blk_simp; try rfl) ⟨t * 512 + (y 0 : ℕ), by omega⟩ rfl)))
    refine Eq.symm ((FfnIdeal.Hand.cat_s _ _ _ ⟨t * 512 + (y 0 : ℕ), by omega⟩ _).trans ((FfnIdeal.Hand.rows_s _ _ _ _).trans ?_))
    exact out_sample_at _ _ _ _ _ _ _ _
  · refine (block_p m c t h _ _).trans (Eq.trans ?_ (congrArg (rows _ _ _ _ _ _ _) (FfnIdeal.Hand.place _ t y (congrFun ei 0) (congrFun ei 1) _ (by blk_simp; try rfl) (by blk_simp; try rfl) ⟨8192 + ((t - 16) * 512 + (y 0 : ℕ)), by omega⟩ (by show 8192 + ((t - 16) * 512 + (y 0 : ℕ)) = _; omega))))
    refine Eq.symm ((FfnIdeal.Hand.cat_p _ _ _ ⟨(t - 16) * 512 + (y 0 : ℕ), by omega⟩ _).trans ((FfnIdeal.Hand.rows_p _ _ _ _).trans ?_))
    exact out_prompt_at _ _ _ _ _ _ _ _

end Cert.Half30Ideal.Hand
end
-- ==== Proof.Half11Block.lean ====
module

public import proofs.«01_k».proof.Proof.Gen.Half11Ideal.Frame
public import proofs.«01_k».proof.Proof.FfnBlock

@[expose] public section

set_option maxRecDepth 16384
noncomputable section
open Idealize.ShloMosaic Idealize.ShloMosaic.TcCoe Idealize.SL.Sem
namespace Cert.Half11Ideal.Hand
open Cert.Half11Ideal Cert.Half11Ideal.Gen Cert.Tok

/-- The state's rows, the rows of the modulation table and of the gains. -/
theorem pay4_at (a : FVec Ideal S512x1024 .f32) (r : Fin 512) (j : Fin 1024) : k0_pay4 (F := Ideal) a (ix2 r j) = a (ix2 r j) := by
  pointwise [k0_pay4]
theorem pay5_at (a : FVec Ideal S1x9x1024 .f32) (k : Fin 9) (j : Fin 1024) : k0_pay5 (F := Ideal) a (ix2 k j) = a (ix3 0 k j) := by
  pointwise [k0_pay5]
theorem pay6_at (a : FVec Ideal S1x6x1024 .f32) (k : Fin 6) (j : Fin 1024) : k0_pay6 (F := Ideal) a (ix2 k j) = a (ix3 0 k j) := by
  pointwise [k0_pay6]

/-- The row that enters the network, before its shift; the shift; and the row. -/
theorem pay7_at (x : FVec Ideal S512x1024 .f32) (u : FVec Ideal S1x9x1024 .f32) (g : FVec Ideal S1x6x1024 .f32) (r : Fin 512) (j : Fin 1024) :
    k0_pay7 (F := Ideal) x u g (ix2 r j) = rms (fun k => x (ix2 r k)) j * g (ix3 0 4 j) * (one + u (ix3 0 7 j)) := by
  unfold rms k0_pay7
  pointwise [k0_pay4, k0_pay5, k0_pay6]
theorem pay8_at (u : FVec Ideal S1x9x1024 .f32) (j : Fin 1024) : k0_pay8 (F := Ideal) u (ix2 0 j) = u (ix3 0 6 j) := by
  pointwise [k0_pay8, k0_pay5]
theorem pay9_at (a : FVec Ideal S512x1024 .f32) (b : FVec Ideal S1x1024 .f32) (r : Fin 512) (j : Fin 1024) :
    k0_pay9 (F := Ideal) a b (ix2 r j) = a (ix2 r j) + b (ix2 0 j) := by
  pointwise [k0_pay9]

/-- One part of the network's output, and its two factors. -/
def part {w : ℕ} (X : FVec Ideal S512x1024 .bf16) (a b : FVec Ideal ⟨2, ![1024, w]⟩ .bf16) (d : FVec Ideal ⟨2, ![w, 1024]⟩ .bf16) (r : Fin 512) (j : Fin 1024) : EReal :=
  ∑ n : Fin w, ((∑ k, X (ix2 r k) * a (ix2 k n)) * Ideal.logistic (∑ k, X (ix2 r k) * a (ix2 k n)) * ∑ k, X (ix2 r k) * b (ix2 k n)) * d (ix2 n j)
theorem pay10_at (p : FVec Ideal S512x1024 .f32) (q : FVec Ideal S1x1024 .f32) (a b d a' b' d' : FVec Ideal S1024x1024 .bf16) (r : Fin 512) (j : Fin 1024) :
    k0_pay10 (F := Ideal) p q a b d a' b' d' (ix2 r j) = part (k0_pay9 (F := Ideal) p q) a b d r j + part (k0_pay9 (F := Ideal) p q) a' b' d' r j := by
  unfold k0_pay10 part
  generalize k0_pay9 (F := Ideal) p q = X
  pointwise []
theorem pay11_at (p : FVec Ideal S512x1024 .f32) (q : FVec Ideal S1x1024 .f32) (a : FVec Ideal S1024x768 .bf16) (r : Fin 512) (n : Fin 768) :
    k0_pay11 (F := Ideal) p q a (ix2 r n) = ∑ k, k0_pay9 (F := Ideal) p q (ix2 r k) * a (ix2 k n) := by
  unfold k0_pay11
  generalize k0_pay9 (F := Ideal) p q = X
  pointwise []
theorem pay12_at (p : FVec Ideal S512x1024 .f32) (q : FVec Ideal S1x1024 .f32) (a : FVec Ideal S1024x768 .bf16) (r : Fin 512) (n : Fin 768) :
    k0_pay12 (F := Ideal) p q a (ix2 r n) = ∑ k, k0_pay9 (F := Ideal) p q (ix2 r k) * a (ix2 k n) := by
  unfold k0_pay12
  generalize k0_pay9 (F := Ideal) p q = X
  pointwise []

/-- The result row. -/
theorem pay1_at (x : FVec Ideal S512x1024 .f32) (u : FVec Ideal S9x1024 .f32) (g : FVec Ideal S6x1024 .f32) (s : FVec Ideal S512x1024 .f32)
    (a b : FVec Ideal S512x768 .f32) (d : FVec Ideal S768x1024 .bf16) (r : Fin 512) (j : Fin 1024) :
    k0_pay1 (F := Ideal) x u g s a b d (ix2 r j)
      = stepped (fun k => x (ix2 r k)) (fun l => s (ix2 r l) + ∑ n, (a (ix2 r n) * Ideal.logistic (a (ix2 r n)) * b (ix2 r n)) * d (ix2 n l)) (fun k => u (ix2 8 k)) (fun k => g (ix2 5 k)) j := by
  unfold stepped rms
  pointwise [k0_pay1]

/-- The body's composed payload, from its five input blocks. -/
def payload (x : FVec Ideal S512x1024 .f32) (u : FVec Ideal S1x9x1024 .f32) (g : FVec Ideal S1x6x1024 .f32) (wi : FVec Ideal S1024x5632 .bf16) (wo : FVec Ideal S2816x1024 .bf16) : FVec Ideal S512x1024 .f32 :=
  k0_pay1 (F := Ideal) (k0_pay4 x) (k0_pay5 u) (k0_pay6 g)
    (k0_pay10 (k0_pay7 x u g) (k0_pay8 u)
      (View.ld (Val := Elt Ideal) (e' := .bf16) wi (Rect.unit ![0, 0] ![1024, 1024] inb_S1024x5632_S1024x1024_0_0))
      (View.ld (Val := Elt Ideal) (e' := .bf16) wi (Rect.unit ![0, 2816] ![1024, 1024] inb_S1024x5632_S1024x1024_0_2816))
      (View.ld (Val := Elt Ideal) (e' := .bf16) wo (Rect.unit ![0, 0] ![1024, 1024] inb_S2816x1024_S1024x1024_0_0))
      (View.ld (Val := Elt Ideal) (e' := .bf16) wi (Rect.unit ![0, 1024] ![1024, 1024] inb_S1024x5632_S1024x1024_0_1024))
      (View.ld (Val := Elt Ideal) (e' := .bf16) wi (Rect.unit ![0, 3840] ![1024, 1024] inb_S1024x5632_S1024x1024_0_3840))
      (View.ld (Val := Elt Ideal) (e' := .bf16) wo (Rect.unit ![1024, 0] ![1024, 1024] inb_S2816x1024_S1024x1024_1024_0)))
    (k0_pay11 (k0_pay7 x u g) (k0_pay8 u) (View.ld (Val := Elt Ideal) (e' := .bf16) wi (Rect.unit ![0, 2048] ![1024, 768] inb_S1024x5632_S1024x768_0_2048)))
    (k0_pay12 (k0_pay7 x u g) (k0_pay8 u) (View.ld (Val := Elt Ideal) (e' := .bf16) wi (Rect.unit ![0, 4864] ![1024, 768] inb_S1024x5632_S1024x768_0_4864)))
    (View.ld (Val := Elt Ideal) (e' := .bf16) wo (Rect.unit ![2048, 0] ![768, 1024] inb_S2816x1024_S768x1024_2048_0))

/-- The payload at an index is the half-step on that token. -/
theorem payload_at (x : FVec Ideal S512x1024 .f32) (u : FVec Ideal S1x9x1024 .f32) (g : FVec Ideal S1x6x1024 .f32) (wi : FVec Ideal S1024x5632 .bf16) (wo : FVec Ideal S2816x1024 .bf16) (r : Fin 512) (j : Fin 1024) :
    payload x u g wi wo (ix2 r j)
      = half1 (fun k => x (ix2 r k)) (fun a b => u (ix3 0 a b)) (fun a b => g (ix3 0 a b)) (fun a b => wi (ix2 a b)) (fun a b => wo (ix2 a b)) j := by
  have h9 : ∀ k, k0_pay9 (F := Ideal) (k0_pay7 x u g) (k0_pay8 u) (ix2 r k)
      = entered (fun k => x (ix2 r k)) (fun k => u (ix3 0 6 k)) (fun k => u (ix3 0 7 k)) (fun k => g (ix3 0 4 k)) k := fun k => by
    rw [pay9_at, pay7_at, pay8_at]
    rfl
  generalize hE : entered (fun k => x (ix2 r k)) (fun k => u (ix3 0 6 k)) (fun k => u (ix3 0 7 k)) (fun k => g (ix3 0 4 k)) = E at h9
  unfold payload half1
  rw [pay1_at, hE]
  simp only [pay4_at, pay5_at, pay6_at]
  refine congrArg (fun f => stepped (fun k => x (ix2 r k)) f (fun k => u (ix3 0 8 k)) (fun k => g (ix3 0 5 k)) j) (funext fun l => ?_)
  unfold folded
  rw [pay10_at, sum_parts]
  unfold part
  simp only [pay11_at, pay12_at, h9]
  refine congrArg₂ (· + ·) (congrArg₂ (· + ·) (Finset.sum_congr rfl fun n _ => ?_) (Finset.sum_congr rfl fun n _ => ?_)) (Finset.sum_congr rfl fun n _ => ?_)
  · exact Cert.FfnIdeal.Hand.unit_eq E wi wo 0 _ 2816 _ 0 _ ⟨n, by omega⟩ n (by decide) (by decide) (by decide) (by simp) (by simp) (by simp) l
  · exact Cert.FfnIdeal.Hand.unit_eq E wi wo 1024 _ 3840 _ 1024 _ ⟨1024 + n, by omega⟩ n (by decide) (by decide) (by decide) (by simp) (by simp; omega) (by simp) l
  · exact Cert.FfnIdeal.Hand.unit_eq E wi wo 2048 _ 4864 _ 2048 _ ⟨2048 + n, by omega⟩ n (by decide) (by decide) (by decide) (by simp) (by simp; omega) (by simp) l

end Cert.Half11Ideal.Hand
end
-- ==== Proof.Half11Final.lean ====
module

public import proofs.«01_k».proof.Proof.Gen.Half11Ideal.Frame
public import proofs.«01_k».proof.Proof.Gen.Half11RefIdeal.Run
public import proofs.«01_k».proof.Proof.Half11Block
public import proofs.«01_k».proof.Proof.HalfRef
public import proofs.«01_k».proof.Proof.HalfRows

@[expose] public section

set_option maxRecDepth 16384
noncomputable section
open Idealize.ShloMosaic Idealize.ShloMosaic.TcCoe Idealize.SL.Sem
namespace Cert.Half11Ideal.Hand
open Cert.Half11Ideal Cert.Half11Ideal.Gen Cert.Tok
variable (m : (ℓ : Loc nD τ sig) → Buf (Elt Ideal) ℓ)

/-- The arrays that the host code makes before the launch. -/
theorem V_x (c : Dev nD) : @Eq (FVec Ideal S12288x1024 .f32) (V m c main_v2) (concatenate S12288x1024 0 [⟨S8192x1024, shapeCast S8192x1024 (m ((c : Thread nD τ).loc main_arg1) : FVec Ideal S8x1024x1024 .f32) shapeCasts_S8x1024x1024_S8192x1024⟩,
    ⟨S4096x1024, shapeCast S4096x1024 (m ((c : Thread nD τ).loc main_arg0) : FVec Ideal S16x256x1024 .f32) shapeCasts_S16x256x1024_S4096x1024⟩] concatenates_S8192x1024_S4096x1024_S12288x1024_d0) := by
  show StableHlo.after hostOps0 _ _ = _
  simp only [hostOps0]; after_results; dsimp only [Matrix.cons_val]; after_results_loop; rfl
theorem V_mods (c : Dev nD) : @Eq (FVec Ideal S16x9x1024 .f32) (V m c main_v4) (concatenate S16x9x1024 0 [⟨S8x9x1024, (m ((c : Thread nD τ).loc main_arg3) : FVec Ideal S8x9x1024 .f32)⟩, ⟨S1x9x1024, (m ((c : Thread nD τ).loc main_arg2) : FVec Ideal S1x9x1024 .f32)⟩,
    ⟨S7x9x1024, broadcastInDim S7x9x1024 ![] bcast_S_S7x9x1024 (constant (F := Ideal) S_ .f32 0x00000000#32)⟩] concatenates_S8x9x1024_S1x9x1024_S7x9x1024_S16x9x1024_d0) := by
  show StableHlo.after hostOps0 _ _ = _
  simp only [hostOps0]; after_results; dsimp only [Matrix.cons_val]; after_results_loop; rfl
theorem V_in (c : Dev nD) : @Eq (FVec Ideal S1024x5632 .bf16) (V m c main_v7) (truncf (F := Ideal) .bf16 (shapeCast S1024x5632 (extractStridedSlice S1x1x1024x5632 ![1, 1, 0, 0] (m ((c : Thread nD τ).loc main_arg5) : FVec Ideal S4x2x1024x5632 .f32) slices_S4x2x1024x5632_S1x1x1024x5632_1_1_0_0)
    shapeCasts_S1x1x1024x5632_S1024x5632) bitsLt_bf16_f32) := by
  show StableHlo.after hostOps0 _ _ = _
  simp only [hostOps0]
  after_results
  try rfl
theorem V_out (c : Dev nD) : @Eq (FVec Ideal S2816x1024 .bf16) (V m c main_v10) (truncf (F := Ideal) .bf16 (shapeCast S2816x1024 (extractStridedSlice S1x1x2816x1024 ![1, 1, 0, 0] (m ((c : Thread nD τ).loc main_arg6) : FVec Ideal S4x2x2816x1024 .f32) slices_S4x2x2816x1024_S1x1x2816x1024_1_1_0_0)
    shapeCasts_S1x1x2816x1024_S2816x1024) bitsLt_bf16_f32) := by
  show StableHlo.after hostOps0 _ _ = _
  simp only [hostOps0]
  after_results
  try rfl

/-- Where the blocks of each grid point lie. -/
theorem idx : ∀ t : Fin cfg0.N, (grid0.coords t 0 : ℕ) = t ∧ win0_0.index t = ![(t : ℕ), 0] ∧ win0_1.index t = ![min ((t : ℕ) / 2) 8, 0, 0] ∧ win0_2.index t = ![1, 0, 0] ∧ win0_3.index t = ![0, 0] ∧ win0_4.index t = ![0, 0]
    ∧ win0_7.index t = ![(t : ℕ), 0] :=
  (by decide +kernel : ∀ t : Fin grid0.N, _)

/-- The weights at an index. -/
theorem w_in (c : Dev nD) (a : Fin 1024) (b : Fin 5632) : (V m c main_v7 : FVec Ideal S1024x5632 .bf16) (ix2 a b) = (m ((c : Thread nD τ).loc main_arg5) : FVec Ideal S4x2x1024x5632 .f32) (ix4 1 1 a b) := by
  rw [V_in]
  generalize (m ((c : Thread nD τ).loc main_arg5) : FVec Ideal S4x2x1024x5632 .f32) = A
  pointwise []
theorem w_out (c : Dev nD) (a : Fin 2816) (b : Fin 1024) : (V m c main_v10 : FVec Ideal S2816x1024 .bf16) (ix2 a b) = (m ((c : Thread nD τ).loc main_arg6) : FVec Ideal S4x2x2816x1024 .f32) (ix4 1 1 a b) := by
  rw [V_out]
  generalize (m ((c : Thread nD τ).loc main_arg6) : FVec Ideal S4x2x2816x1024 .f32) = A
  pointwise []

set_option maxHeartbeats 4000000 in
/-- The output's block after a point is the payload of the input blocks. -/
theorem point (c : Dev nD) (t : Fin cfg0.N) : (dats m 0 c).after 7 t = payload (iblk m c 0 t) (iblk m c 1 t) (iblk m c 2 t) (iblk m c 3 t) (iblk m c 4 t) := by
  rw [after0_7]
  generalize iblk m c 0 t = x0
  generalize iblk m c 1 t = x1
  generalize iblk m c 2 t = x2
  generalize iblk m c 3 t = x3
  generalize iblk m c 4 t = x4
  generalize iblk m c 5 t = x5
  generalize iblk m c 6 t = x6
  refine funext fun y => ?_
  unfold_out out0_7
  simp (disch := decide) only [View.ld_unit_lit']
  canon_tiles x h
  rw [show y = x from funext (Fin.forall_fin_two.mpr ⟨Fin.ext h0, Fin.ext h1⟩)]
  rfl

/-- A block of sample rows, and one of prompt rows, at an index. -/
theorem block_s (c : Dev nD) (t : Fin cfg0.N) (h : t.val < 16) (r : Fin 512) (j : Fin 1024) :
    (dats m 0 c).after 7 t (ix2 r j)
      = half1 (fun k => (m ((c : Thread nD τ).loc main_arg1) : FVec Ideal S8x1024x1024 .f32) (ix3 ⟨(t * 512 + r : ℕ) / 1024, by omega⟩ ⟨(t * 512 + r : ℕ) % 1024, by omega⟩ k))
          (fun a b => (m ((c : Thread nD τ).loc main_arg3) : FVec Ideal S8x9x1024 .f32) (ix3 ⟨(t * 512 + r : ℕ) / 1024, by omega⟩ a b))
          (fun a b => (m ((c : Thread nD τ).loc main_arg4) : FVec Ideal S4x6x1024 .f32) (ix3 1 a b))
          (fun a b => (m ((c : Thread nD τ).loc main_arg5) : FVec Ideal S4x2x1024x5632 .f32) (ix4 1 1 a b))
          (fun a b => (m ((c : Thread nD τ).loc main_arg6) : FVec Ideal S4x2x2816x1024 .f32) (ix4 1 1 a b)) j := by
  obtain ⟨-, i0, i1, i2, i3, i4, -⟩ := idx t
  refine (congrFun (point m c t) (ix2 r j)).trans ((payload_at _ _ _ _ _ _ _).trans ?_)
  refine congrFun (congr (congr (congr (congr (congrArg half1 (funext fun k => ?_)) (funext fun a => funext fun b => ?_)) (funext fun a => funext fun b => ?_)) (funext fun a => funext fun b => ?_)) (funext fun a => funext fun b => ?_)) j
  · refine Eq.trans ?_ ((congrFun (V_x m c) (ix2 ⟨t * 512 + r, by have := t.isLt; have : cfg0.N = 24 := rfl; omega⟩ k)).trans ((FfnIdeal.Hand.cat_s _ _ _ ⟨t * 512 + r, by omega⟩ k).trans (FfnIdeal.Hand.rows_s _ _ ⟨t * 512 + r, by omega⟩ k)))
    blk_point [iblk, i0]
  · refine Eq.trans ?_ ((congrFun (V_mods m c) (ix3 ⟨(t * 512 + r : ℕ) / 1024, by omega⟩ a b)).trans (FfnIdeal.Hand.mods_s _ _ _ _ ⟨(t * 512 + r : ℕ) / 1024, by omega⟩ a b))
    blk_point [iblk, i1]
  · rw [← V_main_arg4 m c]; blk_point [iblk, i2]
  · rw [← w_in m c]; blk_point [iblk, i3]
  · rw [← w_out m c]; blk_point [iblk, i4]

theorem block_p (c : Dev nD) (t : Fin cfg0.N) (h : 16 ≤ t.val) (r : Fin 512) (j : Fin 1024) :
    (dats m 0 c).after 7 t (ix2 r j)
      = half1 (fun k => (m ((c : Thread nD τ).loc main_arg0) : FVec Ideal S16x256x1024 .f32) (ix3 ⟨((t - 16) * 512 + r : ℕ) / 256, by have := t.isLt; have : cfg0.N = 24 := rfl; omega⟩ ⟨((t - 16) * 512 + r : ℕ) % 256, by omega⟩ k))
          (fun a b => (m ((c : Thread nD τ).loc main_arg2) : FVec Ideal S1x9x1024 .f32) (ix3 0 a b))
          (fun a b => (m ((c : Thread nD τ).loc main_arg4) : FVec Ideal S4x6x1024 .f32) (ix3 1 a b))
          (fun a b => (m ((c : Thread nD τ).loc main_arg5) : FVec Ideal S4x2x1024x5632 .f32) (ix4 1 1 a b))
          (fun a b => (m ((c : Thread nD τ).loc main_arg6) : FVec Ideal S4x2x2816x1024 .f32) (ix4 1 1 a b)) j := by
  obtain ⟨-, i0, i1, i2, i3, i4, -⟩ := idx t
  refine (congrFun (point m c t) (ix2 r j)).trans ((payload_at _ _ _ _ _ _ _).trans ?_)
  refine congrFun (congr (congr (congr (congr (congrArg half1 (funext fun k => ?_)) (funext fun a => funext fun b => ?_)) (funext fun a => funext fun b => ?_)) (funext fun a => funext fun b => ?_)) (funext fun a => funext fun b => ?_)) j
  · refine Eq.trans ?_ ((congrFun (V_x m c) (ix2 ⟨8192 + ((t - 16) * 512 + r), by have := t.isLt; have : cfg0.N = 24 := rfl; omega⟩ k)).trans ((FfnIdeal.Hand.cat_p _ _ _ ⟨(t - 16) * 512 + r, by have := t.isLt; have : cfg0.N = 24 := rfl; omega⟩ k).trans (FfnIdeal.Hand.rows_p _ _ ⟨(t - 16) * 512 + r, by have := t.isLt; have : cfg0.N = 24 := rfl; omega⟩ k)))
    blk_point [iblk, i0]
  · refine Eq.trans ?_ ((congrFun (V_mods m c) (ix3 8 a b)).trans (FfnIdeal.Hand.mods_p _ _ _ _ a b))
    blk_point [iblk, i1]
  · rw [← V_main_arg4 m c]; blk_point [iblk, i2]
  · rw [← w_in m c]; blk_point [iblk, i3]
  · rw [← w_out m c]; blk_point [iblk, i4]

/-- The layer's gains and weights, cut out of the stacks. -/
theorem cut_g (A : FVec Ideal S4x6x1024 .f32) (a : Fin 6) (b : Fin 1024) : (shapeCast S6x1024 (extractStridedSlice S1x6x1024 ![1, 0, 0] A Half11RefIdeal.Gen.slices_S4x6x1024_S1x6x1024_1_0_0) Half11RefIdeal.Gen.shapeCasts_S1x6x1024_S6x1024) (ix2 a b) = A (ix3 1 a b) := by
  pointwise []
theorem cut_in (A : FVec Ideal S4x2x1024x5632 .f32) (a : Fin 1024) (b : Fin 5632) : (shapeCast S1024x5632 (extractStridedSlice S1x1x1024x5632 ![1, 1, 0, 0] A slices_S4x2x1024x5632_S1x1x1024x5632_1_1_0_0) shapeCasts_S1x1x1024x5632_S1024x5632) (ix2 a b) = A (ix4 1 1 a b) := by
  pointwise []
theorem cut_out (A : FVec Ideal S4x2x2816x1024 .f32) (a : Fin 2816) (b : Fin 1024) : (shapeCast S2816x1024 (extractStridedSlice S1x1x2816x1024 ![1, 1, 0, 0] A slices_S4x2x2816x1024_S1x1x2816x1024_1_1_0_0) shapeCasts_S1x1x2816x1024_S2816x1024) (ix2 a b) = A (ix4 1 1 a b) := by
  pointwise []

/-- The sample tokens' result before its rows are laid out. -/
def out_sample (y : FVec Ideal S8x1024x1024 .f32) (μ : FVec Ideal S8x9x1024 .f32) (g : FVec Ideal S4x6x1024 .f32) (wi : FVec Ideal S4x2x1024x5632 .f32) (wo : FVec Ideal S4x2x2816x1024 .f32) : FVec Ideal S8x1024x1024 .f32 :=
  Half30RefIdeal.At.half1_sample y μ (shapeCast S6x1024 (extractStridedSlice S1x6x1024 ![1, 0, 0] g Half11RefIdeal.Gen.slices_S4x6x1024_S1x6x1024_1_0_0) Half11RefIdeal.Gen.shapeCasts_S1x6x1024_S6x1024) (shapeCast S1024x5632 (extractStridedSlice S1x1x1024x5632 ![1, 1, 0, 0] wi slices_S4x2x1024x5632_S1x1x1024x5632_1_1_0_0) shapeCasts_S1x1x1024x5632_S1024x5632) (shapeCast S2816x1024 (extractStridedSlice S1x1x2816x1024 ![1, 1, 0, 0] wo slices_S4x2x2816x1024_S1x1x2816x1024_1_1_0_0) shapeCasts_S1x1x2816x1024_S2816x1024)
theorem out_sample_at (y : FVec Ideal S8x1024x1024 .f32) (μ : FVec Ideal S8x9x1024 .f32) (g : FVec Ideal S4x6x1024 .f32) (wi : FVec Ideal S4x2x1024x5632 .f32) (wo : FVec Ideal S4x2x2816x1024 .f32) (b : Fin 8) (s : Fin 1024) (j : Fin 1024) :
    out_sample y μ g wi wo (ix3 b s j) = half1 (fun k => y (ix3 b s k)) (fun i k => μ (ix3 b i k)) (fun a b => g (ix3 1 a b)) (fun a b => wi (ix4 1 1 a b)) (fun a b => wo (ix4 1 1 a b)) j := by
  unfold out_sample
  refine (Half30RefIdeal.At.half1_sample_at _ _ _ _ _ _ _ _).trans ?_
  simp only [cut_g, cut_in, cut_out]

/-- The prompt tokens' result before its rows are laid out. -/
def out_prompt (y : FVec Ideal S16x256x1024 .f32) (μ : FVec Ideal S1x9x1024 .f32) (g : FVec Ideal S4x6x1024 .f32) (wi : FVec Ideal S4x2x1024x5632 .f32) (wo : FVec Ideal S4x2x2816x1024 .f32) : FVec Ideal S16x256x1024 .f32 :=
  Half30RefIdeal.At.half1_prompt y μ (shapeCast S6x1024 (extractStridedSlice S1x6x1024 ![1, 0, 0] g Half11RefIdeal.Gen.slices_S4x6x1024_S1x6x1024_1_0_0) Half11RefIdeal.Gen.shapeCasts_S1x6x1024_S6x1024) (shapeCast S1024x5632 (extractStridedSlice S1x1x1024x5632 ![1, 1, 0, 0] wi slices_S4x2x1024x5632_S1x1x1024x5632_1_1_0_0) shapeCasts_S1x1x1024x5632_S1024x5632) (shapeCast S2816x1024 (extractStridedSlice S1x1x2816x1024 ![1, 1, 0, 0] wo slices_S4x2x2816x1024_S1x1x2816x1024_1_1_0_0) shapeCasts_S1x1x2816x1024_S2816x1024)
theorem out_prompt_at (y : FVec Ideal S16x256x1024 .f32) (μ : FVec Ideal S1x9x1024 .f32) (g : FVec Ideal S4x6x1024 .f32) (wi : FVec Ideal S4x2x1024x5632 .f32) (wo : FVec Ideal S4x2x2816x1024 .f32) (b : Fin 16) (s : Fin 256) (j : Fin 1024) :
    out_prompt y μ g wi wo (ix3 b s j) = half1 (fun k => y (ix3 b s k)) (fun i k => μ (ix3 0 i k)) (fun a b => g (ix3 1 a b)) (fun a b => wi (ix4 1 1 a b)) (fun a b => wo (ix4 1 1 a b)) j := by
  unfold out_prompt
  refine (Half30RefIdeal.At.half1_prompt_at _ _ _ _ _ _ _ _).trans ?_
  simp only [cut_g, cut_in, cut_out]

/-- The result that the two programs are compared by: the rows of the two phases, one after the other. -/
def rows (yp : FVec Ideal S16x256x1024 .f32) (ys : FVec Ideal S8x1024x1024 .f32) (mp : FVec Ideal S1x9x1024 .f32) (ms : FVec Ideal S8x9x1024 .f32) (g : FVec Ideal S4x6x1024 .f32)
    (wi : FVec Ideal S4x2x1024x5632 .f32) (wo : FVec Ideal S4x2x2816x1024 .f32) : FVec Ideal S12288x1024 .f32 :=
  concatenate S12288x1024 0 [⟨S8192x1024, shapeCast S8192x1024 (out_sample ys ms g wi wo) Half11RefIdeal.Gen.shapeCasts_S8x1024x1024_S8192x1024⟩,
    ⟨S4096x1024, shapeCast S4096x1024 (out_prompt yp mp g wi wo) Half11RefIdeal.Gen.shapeCasts_S16x256x1024_S4096x1024⟩] Half11RefIdeal.Gen.concatenates_S8192x1024_S4096x1024_S12288x1024_d0

set_option maxHeartbeats 4000000 in
/-- The output after the run. -/
theorem final (c : Dev nD) : (dats m 0 c).arrAt 7 cfg0.N = rows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 7 _ (by decide +kernel) fun t hf y => ?_
  blk_simp
  have ei : win0_7.index t = ![(t : ℕ), 0] := by have := idx t; tauto
  have hN : (t : ℕ) < 24 := t.isLt
  have hr : (y 0 : ℕ) < 512 := (y 0).isLt
  have hy : y = ix2 ⟨(y 0 : ℕ), (y 0).isLt⟩ ⟨(y 1 : ℕ), (y 1).isLt⟩ := funext (Fin.forall_fin_two.mpr ⟨rfl, rfl⟩)
  refine (congrArg ((dats m 0 c).after 7 t) hy).trans ?_
  rcases lt_or_ge (t : ℕ) 16 with h | h
  · refine (block_s m c t h _ _).trans (Eq.trans ?_ (congrArg (rows _ _ _ _ _ _ _) (FfnIdeal.Hand.place _ t y (congrFun ei 0) (congrFun ei 1) _ (by blk_simp; try rfl) (by blk_simp; try rfl) ⟨t * 512 + (y 0 : ℕ), by omega⟩ rfl)))
    refine Eq.symm ((FfnIdeal.Hand.cat_s _ _ _ ⟨t * 512 + (y 0 : ℕ), by omega⟩ _).trans ((FfnIdeal.Hand.rows_s _ _ _ _).trans ?_))
    exact out_sample_at _ _ _ _ _ _ _ _
  · refine (block_p m c t h _ _).trans (Eq.trans ?_ (congrArg (rows _ _ _ _ _ _ _) (FfnIdeal.Hand.place _ t y (congrFun ei 0) (congrFun ei 1) _ (by blk_simp; try rfl) (by blk_simp; try rfl) ⟨8192 + ((t - 16) * 512 + (y 0 : ℕ)), by omega⟩ (by show 8192 + ((t - 16) * 512 + (y 0 : ℕ)) = _; omega))))
    refine Eq.symm ((FfnIdeal.Hand.cat_p _ _ _ ⟨(t - 16) * 512 + (y 0 : ℕ), by omega⟩ _).trans ((FfnIdeal.Hand.rows_p _ _ _ _).trans ?_))
    exact out_prompt_at _ _ _ _ _ _ _ _

end Cert.Half11Ideal.Hand
end
-- ==== Proof.Half10Final.lean ====
module

public import proofs.«01_k».proof.Proof.Gen.Half10Ideal.Frame
public import proofs.«01_k».proof.Proof.Gen.Half10RefIdeal.Run
public import proofs.«01_k».proof.Proof.Half30Block
public import proofs.«01_k».proof.Proof.HalfRef
public import proofs.«01_k».proof.Proof.HalfRows

@[expose] public section

set_option maxRecDepth 16384
noncomputable section
open Idealize.ShloMosaic Idealize.ShloMosaic.TcCoe Idealize.SL.Sem
namespace Cert.Half10Ideal.Hand
open Cert.Half10Ideal Cert.Half10Ideal.Gen Cert.Tok
variable (m : (ℓ : Loc nD τ sig) → Buf (Elt Ideal) ℓ)

/-- The arrays that the host code makes before the launch. -/
theorem V_x (c : Dev nD) : @Eq (FVec Ideal S12288x1024 .f32) (V m c main_v2) (concatenate S12288x1024 0 [⟨S8192x1024, shapeCast S8192x1024 (m ((c : Thread nD τ).loc main_arg1) : FVec Ideal S8x1024x1024 .f32) shapeCasts_S8x1024x1024_S8192x1024⟩,
    ⟨S4096x1024, shapeCast S4096x1024 (m ((c : Thread nD τ).loc main_arg0) : FVec Ideal S16x256x1024 .f32) shapeCasts_S16x256x1024_S4096x1024⟩] concatenates_S8192x1024_S4096x1024_S12288x1024_d0) := by
  show StableHlo.after hostOps0 _ _ = _
  simp only [hostOps0]; after_results; dsimp only [Matrix.cons_val]; after_results_loop; rfl
theorem V_mods (c : Dev nD) : @Eq (FVec Ideal S16x9x1024 .f32) (V m c main_v4) (concatenate S16x9x1024 0 [⟨S8x9x1024, (m ((c : Thread nD τ).loc main_arg3) : FVec Ideal S8x9x1024 .f32)⟩, ⟨S1x9x1024, (m ((c : Thread nD τ).loc main_arg2) : FVec Ideal S1x9x1024 .f32)⟩,
    ⟨S7x9x1024, broadcastInDim S7x9x1024 ![] bcast_S_S7x9x1024 (constant (F := Ideal) S_ .f32 0x00000000#32)⟩] concatenates_S8x9x1024_S1x9x1024_S7x9x1024_S16x9x1024_d0) := by
  show StableHlo.after hostOps0 _ _ = _
  simp only [hostOps0]; after_results; dsimp only [Matrix.cons_val]; after_results_loop; rfl
theorem V_in (c : Dev nD) : @Eq (FVec Ideal S1024x5632 .bf16) (V m c main_v7) (truncf (F := Ideal) .bf16 (shapeCast S1024x5632 (extractStridedSlice S1x1x1024x5632 ![1, 0, 0, 0] (m ((c : Thread nD τ).loc main_arg5) : FVec Ideal S4x2x1024x5632 .f32) slices_S4x2x1024x5632_S1x1x1024x5632_1_0_0_0)
    shapeCasts_S1x1x1024x5632_S1024x5632) bitsLt_bf16_f32) := by
  show StableHlo.after hostOps0 _ _ = _
  simp only [hostOps0]
  after_results
  try rfl
theorem V_out (c : Dev nD) : @Eq (FVec Ideal S2816x1024 .bf16) (V m c main_v10) (truncf (F := Ideal) .bf16 (shapeCast S2816x1024 (extractStridedSlice S1x1x2816x1024 ![1, 0, 0, 0] (m ((c : Thread nD τ).loc main_arg6) : FVec Ideal S4x2x2816x1024 .f32) slices_S4x2x2816x1024_S1x1x2816x1024_1_0_0_0)
    shapeCasts_S1x1x2816x1024_S2816x1024) bitsLt_bf16_f32) := by
  show StableHlo.after hostOps0 _ _ = _
  simp only [hostOps0]
  after_results
  try rfl

/-- Where the blocks of each grid point lie. -/
theorem idx : ∀ t : Fin cfg0.N, (grid0.coords t 0 : ℕ) = t ∧ win0_0.index t = ![(t : ℕ), 0] ∧ win0_1.index t = ![min ((t : ℕ) / 2) 8, 0, 0] ∧ win0_2.index t = ![1, 0, 0] ∧ win0_3.index t = ![0, 0] ∧ win0_4.index t = ![0, 0]
    ∧ win0_10.index t = ![(t : ℕ), 0] :=
  (by decide +kernel : ∀ t : Fin grid0.N, _)

/-- The weights at an index. -/
theorem w_in (c : Dev nD) (a : Fin 1024) (b : Fin 5632) : (V m c main_v7 : FVec Ideal S1024x5632 .bf16) (ix2 a b) = (m ((c : Thread nD τ).loc main_arg5) : FVec Ideal S4x2x1024x5632 .f32) (ix4 1 0 a b) := by
  rw [V_in]
  generalize (m ((c : Thread nD τ).loc main_arg5) : FVec Ideal S4x2x1024x5632 .f32) = A
  pointwise []
theorem w_out (c : Dev nD) (a : Fin 2816) (b : Fin 1024) : (V m c main_v10 : FVec Ideal S2816x1024 .bf16) (ix2 a b) = (m ((c : Thread nD τ).loc main_arg6) : FVec Ideal S4x2x2816x1024 .f32) (ix4 1 0 a b) := by
  rw [V_out]
  generalize (m ((c : Thread nD τ).loc main_arg6) : FVec Ideal S4x2x2816x1024 .f32) = A
  pointwise []

set_option maxHeartbeats 4000000 in
/-- The output's block after a point is the payload of the input blocks. -/
theorem point (c : Dev nD) (t : Fin cfg0.N) : (dats m 0 c).after 10 t = Half30Ideal.Hand.payload (iblk m c 0 t) (iblk m c 1 t) (iblk m c 2 t) (iblk m c 3 t) (iblk m c 4 t) := by
  rw [after0_10]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  refine funext fun y => ?_
  unfold_out out0_10
  simp (disch := decide) only [View.ld_unit_lit']
  canon_tiles x h
  rw [show y = x from funext (Fin.forall_fin_two.mpr ⟨Fin.ext h0, Fin.ext h1⟩)]
  rfl

/-- A block of sample rows, and one of prompt rows, at an index. -/
theorem block_s (c : Dev nD) (t : Fin cfg0.N) (h : t.val < 16) (r : Fin 512) (j : Fin 1024) :
    (dats m 0 c).after 10 t (ix2 r j)
      = half0 (fun k => (m ((c : Thread nD τ).loc main_arg1) : FVec Ideal S8x1024x1024 .f32) (ix3 ⟨(t * 512 + r : ℕ) / 1024, by omega⟩ ⟨(t * 512 + r : ℕ) % 1024, by omega⟩ k))
          (fun a b => (m ((c : Thread nD τ).loc main_arg3) : FVec Ideal S8x9x1024 .f32) (ix3 ⟨(t * 512 + r : ℕ) / 1024, by omega⟩ a b))
          (fun a b => (m ((c : Thread nD τ).loc main_arg4) : FVec Ideal S4x6x1024 .f32) (ix3 1 a b))
          (fun a b => (m ((c : Thread nD τ).loc main_arg5) : FVec Ideal S4x2x1024x5632 .f32) (ix4 1 0 a b))
          (fun a b => (m ((c : Thread nD τ).loc main_arg6) : FVec Ideal S4x2x2816x1024 .f32) (ix4 1 0 a b)) j := by
  obtain ⟨-, i0, i1, i2, i3, i4, -⟩ := idx t
  refine (congrFun (point m c t) (ix2 r j)).trans ((Half30Ideal.Hand.payload_at _ _ _ _ _ _ _).trans ?_)
  refine congrFun (congr (congr (congr (congr (congrArg half0 (funext fun k => ?_)) (funext fun a => funext fun b => ?_)) (funext fun a => funext fun b => ?_)) (funext fun a => funext fun b => ?_)) (funext fun a => funext fun b => ?_)) j
  · refine Eq.trans ?_ ((congrFun (V_x m c) (ix2 ⟨t * 512 + r, by have := t.isLt; have : cfg0.N = 24 := rfl; omega⟩ k)).trans ((FfnIdeal.Hand.cat_s _ _ _ ⟨t * 512 + r, by omega⟩ k).trans (FfnIdeal.Hand.rows_s _ _ ⟨t * 512 + r, by omega⟩ k)))
    blk_point [iblk, i0]
  · refine Eq.trans ?_ ((congrFun (V_mods m c) (ix3 ⟨(t * 512 + r : ℕ) / 1024, by omega⟩ a b)).trans (FfnIdeal.Hand.mods_s _ _ _ _ ⟨(t * 512 + r : ℕ) / 1024, by omega⟩ a b))
    blk_point [iblk, i1]
  · rw [← V_main_arg4 m c]; blk_point [iblk, i2]
  · rw [← w_in m c]; blk_point [iblk, i3]
  · rw [← w_out m c]; blk_point [iblk, i4]

theorem block_p (c : Dev nD) (t : Fin cfg0.N) (h : 16 ≤ t.val) (r : Fin 512) (j : Fin 1024) :
    (dats m 0 c).after 10 t (ix2 r j)
      = half0 (fun k => (m ((c : Thread nD τ).loc main_arg0) : FVec Ideal S16x256x1024 .f32) (ix3 ⟨((t - 16) * 512 + r : ℕ) / 256, by have := t.isLt; have : cfg0.N = 24 := rfl; omega⟩ ⟨((t - 16) * 512 + r : ℕ) % 256, by omega⟩ k))
          (fun a b => (m ((c : Thread nD τ).loc main_arg2) : FVec Ideal S1x9x1024 .f32) (ix3 0 a b))
          (fun a b => (m ((c : Thread nD τ).loc main_arg4) : FVec Ideal S4x6x1024 .f32) (ix3 1 a b))
          (fun a b => (m ((c : Thread nD τ).loc main_arg5) : FVec Ideal S4x2x1024x5632 .f32) (ix4 1 0 a b))
          (fun a b => (m ((c : Thread nD τ).loc main_arg6) : FVec Ideal S4x2x2816x1024 .f32) (ix4 1 0 a b)) j := by
  obtain ⟨-, i0, i1, i2, i3, i4, -⟩ := idx t
  refine (congrFun (point m c t) (ix2 r j)).trans ((Half30Ideal.Hand.payload_at _ _ _ _ _ _ _).trans ?_)
  refine congrFun (congr (congr (congr (congr (congrArg half0 (funext fun k => ?_)) (funext fun a => funext fun b => ?_)) (funext fun a => funext fun b => ?_)) (funext fun a => funext fun b => ?_)) (funext fun a => funext fun b => ?_)) j
  · refine Eq.trans ?_ ((congrFun (V_x m c) (ix2 ⟨8192 + ((t - 16) * 512 + r), by have := t.isLt; have : cfg0.N = 24 := rfl; omega⟩ k)).trans ((FfnIdeal.Hand.cat_p _ _ _ ⟨(t - 16) * 512 + r, by have := t.isLt; have : cfg0.N = 24 := rfl; omega⟩ k).trans (FfnIdeal.Hand.rows_p _ _ ⟨(t - 16) * 512 + r, by have := t.isLt; have : cfg0.N = 24 := rfl; omega⟩ k)))
    blk_point [iblk, i0]
  · refine Eq.trans ?_ ((congrFun (V_mods m c) (ix3 8 a b)).trans (FfnIdeal.Hand.mods_p _ _ _ _ a b))
    blk_point [iblk, i1]
  · rw [← V_main_arg4 m c]; blk_point [iblk, i2]
  · rw [← w_in m c]; blk_point [iblk, i3]
  · rw [← w_out m c]; blk_point [iblk, i4]

/-- The layer's gains and weights, cut out of the stacks. -/
theorem cut_g (A : FVec Ideal S4x6x1024 .f32) (a : Fin 6) (b : Fin 1024) : (shapeCast S6x1024 (extractStridedSlice S1x6x1024 ![1, 0, 0] A Half10RefIdeal.Gen.slices_S4x6x1024_S1x6x1024_1_0_0) Half10RefIdeal.Gen.shapeCasts_S1x6x1024_S6x1024) (ix2 a b) = A (ix3 1 a b) := by
  pointwise []
theorem cut_in (A : FVec Ideal S4x2x1024x5632 .f32) (a : Fin 1024) (b : Fin 5632) : (shapeCast S1024x5632 (extractStridedSlice S1x1x1024x5632 ![1, 0, 0, 0] A slices_S4x2x1024x5632_S1x1x1024x5632_1_0_0_0) shapeCasts_S1x1x1024x5632_S1024x5632) (ix2 a b) = A (ix4 1 0 a b) := by
  pointwise []
theorem cut_out (A : FVec Ideal S4x2x2816x1024 .f32) (a : Fin 2816) (b : Fin 1024) : (shapeCast S2816x1024 (extractStridedSlice S1x1x2816x1024 ![1, 0, 0, 0] A slices_S4x2x2816x1024_S1x1x2816x1024_1_0_0_0) shapeCasts_S1x1x2816x1024_S2816x1024) (ix2 a b) = A (ix4 1 0 a b) := by
  pointwise []

/-- The sample tokens' result before its rows are laid out. -/
def out_sample (y : FVec Ideal S8x1024x1024 .f32) (μ : FVec Ideal S8x9x1024 .f32) (g : FVec Ideal S4x6x1024 .f32) (wi : FVec Ideal S4x2x1024x5632 .f32) (wo : FVec Ideal S4x2x2816x1024 .f32) : FVec Ideal S8x1024x1024 .f32 :=
  Half30RefIdeal.At.half0_sample y μ (shapeCast S6x1024 (extractStridedSlice S1x6x1024 ![1, 0, 0] g Half10RefIdeal.Gen.slices_S4x6x1024_S1x6x1024_1_0_0) Half10RefIdeal.Gen.shapeCasts_S1x6x1024_S6x1024) (shapeCast S1024x5632 (extractStridedSlice S1x1x1024x5632 ![1, 0, 0, 0] wi slices_S4x2x1024x5632_S1x1x1024x5632_1_0_0_0) shapeCasts_S1x1x1024x5632_S1024x5632) (shapeCast S2816x1024 (extractStridedSlice S1x1x2816x1024 ![1, 0, 0, 0] wo slices_S4x2x2816x1024_S1x1x2816x1024_1_0_0_0) shapeCasts_S1x1x2816x1024_S2816x1024)
theorem out_sample_at (y : FVec Ideal S8x1024x1024 .f32) (μ : FVec Ideal S8x9x1024 .f32) (g : FVec Ideal S4x6x1024 .f32) (wi : FVec Ideal S4x2x1024x5632 .f32) (wo : FVec Ideal S4x2x2816x1024 .f32) (b : Fin 8) (s : Fin 1024) (j : Fin 1024) :
    out_sample y μ g wi wo (ix3 b s j) = half0 (fun k => y (ix3 b s k)) (fun i k => μ (ix3 b i k)) (fun a b => g (ix3 1 a b)) (fun a b => wi (ix4 1 0 a b)) (fun a b => wo (ix4 1 0 a b)) j := by
  unfold out_sample
  refine (Half30RefIdeal.At.half0_sample_at _ _ _ _ _ _ _ _).trans ?_
  simp only [cut_g, cut_in, cut_out]

/-- The prompt tokens' result before its rows are laid out. -/
def out_prompt (y : FVec Ideal S16x256x1024 .f32) (μ : FVec Ideal S1x9x1024 .f32) (g : FVec Ideal S4x6x1024 .f32) (wi : FVec Ideal S4x2x1024x5632 .f32) (wo : FVec Ideal S4x2x2816x1024 .f32) : FVec Ideal S16x256x1024 .f32 :=
  Half30RefIdeal.At.half0_prompt y μ (shapeCast S6x1024 (extractStridedSlice S1x6x1024 ![1, 0, 0] g Half10RefIdeal.Gen.slices_S4x6x1024_S1x6x1024_1_0_0) Half10RefIdeal.Gen.shapeCasts_S1x6x1024_S6x1024) (shapeCast S1024x5632 (extractStridedSlice S1x1x1024x5632 ![1, 0, 0, 0] wi slices_S4x2x1024x5632_S1x1x1024x5632_1_0_0_0) shapeCasts_S1x1x1024x5632_S1024x5632) (shapeCast S2816x1024 (extractStridedSlice S1x1x2816x1024 ![1, 0, 0, 0] wo slices_S4x2x2816x1024_S1x1x2816x1024_1_0_0_0) shapeCasts_S1x1x2816x1024_S2816x1024)
theorem out_prompt_at (y : FVec Ideal S16x256x1024 .f32) (μ : FVec Ideal S1x9x1024 .f32) (g : FVec Ideal S4x6x1024 .f32) (wi : FVec Ideal S4x2x1024x5632 .f32) (wo : FVec Ideal S4x2x2816x1024 .f32) (b : Fin 16) (s : Fin 256) (j : Fin 1024) :
    out_prompt y μ g wi wo (ix3 b s j) = half0 (fun k => y (ix3 b s k)) (fun i k => μ (ix3 0 i k)) (fun a b => g (ix3 1 a b)) (fun a b => wi (ix4 1 0 a b)) (fun a b => wo (ix4 1 0 a b)) j := by
  unfold out_prompt
  refine (Half30RefIdeal.At.half0_prompt_at _ _ _ _ _ _ _ _).trans ?_
  simp only [cut_g, cut_in, cut_out]

/-- The result that the two programs are compared by: the rows of the two phases, one after the other. -/
def rows (yp : FVec Ideal S16x256x1024 .f32) (ys : FVec Ideal S8x1024x1024 .f32) (mp : FVec Ideal S1x9x1024 .f32) (ms : FVec Ideal S8x9x1024 .f32) (g : FVec Ideal S4x6x1024 .f32)
    (wi : FVec Ideal S4x2x1024x5632 .f32) (wo : FVec Ideal S4x2x2816x1024 .f32) : FVec Ideal S12288x1024 .f32 :=
  concatenate S12288x1024 0 [⟨S8192x1024, shapeCast S8192x1024 (out_sample ys ms g wi wo) Half10RefIdeal.Gen.shapeCasts_S8x1024x1024_S8192x1024⟩,
    ⟨S4096x1024, shapeCast S4096x1024 (out_prompt yp mp g wi wo) Half10RefIdeal.Gen.shapeCasts_S16x256x1024_S4096x1024⟩] Half10RefIdeal.Gen.concatenates_S8192x1024_S4096x1024_S12288x1024_d0

set_option maxHeartbeats 4000000 in
/-- The output after the run. -/
theorem final (c : Dev nD) : (dats m 0 c).arrAt 10 cfg0.N = rows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 10 _ (by decide +kernel) fun t hf y => ?_
  blk_simp
  have ei : win0_10.index t = ![(t : ℕ), 0] := by have := idx t; tauto
  have hN : (t : ℕ) < 24 := t.isLt
  have hr : (y 0 : ℕ) < 512 := (y 0).isLt
  have hy : y = ix2 ⟨(y 0 : ℕ), (y 0).isLt⟩ ⟨(y 1 : ℕ), (y 1).isLt⟩ := funext (Fin.forall_fin_two.mpr ⟨rfl, rfl⟩)
  refine (congrArg ((dats m 0 c).after 10 t) hy).trans ?_
  rcases lt_or_ge (t : ℕ) 16 with h | h
  · refine (block_s m c t h _ _).trans (Eq.trans ?_ (congrArg (rows _ _ _ _ _ _ _) (FfnIdeal.Hand.place _ t y (congrFun ei 0) (congrFun ei 1) _ (by blk_simp; try rfl) (by blk_simp; try rfl) ⟨t * 512 + (y 0 : ℕ), by omega⟩ rfl)))
    refine Eq.symm ((FfnIdeal.Hand.cat_s _ _ _ ⟨t * 512 + (y 0 : ℕ), by omega⟩ _).trans ((FfnIdeal.Hand.rows_s _ _ _ _).trans ?_))
    exact out_sample_at _ _ _ _ _ _ _ _
  · refine (block_p m c t h _ _).trans (Eq.trans ?_ (congrArg (rows _ _ _ _ _ _ _) (FfnIdeal.Hand.place _ t y (congrFun ei 0) (congrFun ei 1) _ (by blk_simp; try rfl) (by blk_simp; try rfl) ⟨8192 + ((t - 16) * 512 + (y 0 : ℕ)), by omega⟩ (by show 8192 + ((t - 16) * 512 + (y 0 : ℕ)) = _; omega))))
    refine Eq.symm ((FfnIdeal.Hand.cat_p _ _ _ ⟨(t - 16) * 512 + (y 0 : ℕ), by omega⟩ _).trans ((FfnIdeal.Hand.rows_p _ _ _ _).trans ?_))
    exact out_prompt_at _ _ _ _ _ _ _ _

end Cert.Half10Ideal.Hand
end
-- ==== Proof.Half20Final.lean ====
module

public import proofs.«01_k».proof.Proof.Gen.Half20Ideal.Frame
public import proofs.«01_k».proof.Proof.Gen.Half20RefIdeal.Run
public import proofs.«01_k».proof.Proof.Half30Block
public import proofs.«01_k».proof.Proof.HalfRef
public import proofs.«01_k».proof.Proof.HalfRows

@[expose] public section

set_option maxRecDepth 16384
noncomputable section
open Idealize.ShloMosaic Idealize.ShloMosaic.TcCoe Idealize.SL.Sem
namespace Cert.Half20Ideal.Hand
open Cert.Half20Ideal Cert.Half20Ideal.Gen Cert.Tok
variable (m : (ℓ : Loc nD τ sig) → Buf (Elt Ideal) ℓ)

/-- The arrays that the host code makes before the launch. -/
theorem V_x (c : Dev nD) : @Eq (FVec Ideal S12288x1024 .f32) (V m c main_v2) (concatenate S12288x1024 0 [⟨S8192x1024, shapeCast S8192x1024 (m ((c : Thread nD τ).loc main_arg1) : FVec Ideal S8x1024x1024 .f32) shapeCasts_S8x1024x1024_S8192x1024⟩,
    ⟨S4096x1024, shapeCast S4096x1024 (m ((c : Thread nD τ).loc main_arg0) : FVec Ideal S16x256x1024 .f32) shapeCasts_S16x256x1024_S4096x1024⟩] concatenates_S8192x1024_S4096x1024_S12288x1024_d0) := by
  show StableHlo.after hostOps0 _ _ = _
  simp only [hostOps0]; after_results; dsimp only [Matrix.cons_val]; after_results_loop; rfl
theorem V_mods (c : Dev nD) : @Eq (FVec Ideal S16x9x1024 .f32) (V m c main_v4) (concatenate S16x9x1024 0 [⟨S8x9x1024, (m ((c : Thread nD τ).loc main_arg3) : FVec Ideal S8x9x1024 .f32)⟩, ⟨S1x9x1024, (m ((c : Thread nD τ).loc main_arg2) : FVec Ideal S1x9x1024 .f32)⟩,
    ⟨S7x9x1024, broadcastInDim S7x9x1024 ![] bcast_S_S7x9x1024 (constant (F := Ideal) S_ .f32 0x00000000#32)⟩] concatenates_S8x9x1024_S1x9x1024_S7x9x1024_S16x9x1024_d0) := by
  show StableHlo.after hostOps0 _ _ = _
  simp only [hostOps0]; after_results; dsimp only [Matrix.cons_val]; after_results_loop; rfl
theorem V_in (c : Dev nD) : @Eq (FVec Ideal S1024x5632 .bf16) (V m c main_v7) (truncf (F := Ideal) .bf16 (shapeCast S1024x5632 (extractStridedSlice S1x1x1024x5632 ![2, 0, 0, 0] (m ((c : Thread nD τ).loc main_arg5) : FVec Ideal S4x2x1024x5632 .f32) slices_S4x2x1024x5632_S1x1x1024x5632_2_0_0_0)
    shapeCasts_S1x1x1024x5632_S1024x5632) bitsLt_bf16_f32) := by
  show StableHlo.after hostOps0 _ _ = _
  simp only [hostOps0]
  after_results
  try rfl
theorem V_out (c : Dev nD) : @Eq (FVec Ideal S2816x1024 .bf16) (V m c main_v10) (truncf (F := Ideal) .bf16 (shapeCast S2816x1024 (extractStridedSlice S1x1x2816x1024 ![2, 0, 0, 0] (m ((c : Thread nD τ).loc main_arg6) : FVec Ideal S4x2x2816x1024 .f32) slices_S4x2x2816x1024_S1x1x2816x1024_2_0_0_0)
    shapeCasts_S1x1x2816x1024_S2816x1024) bitsLt_bf16_f32) := by
  show StableHlo.after hostOps0 _ _ = _
  simp only [hostOps0]
  after_results
  try rfl

/-- Where the blocks of each grid point lie. -/
theorem idx : ∀ t : Fin cfg0.N, (grid0.coords t 0 : ℕ) = t ∧ win0_0.index t = ![(t : ℕ), 0] ∧ win0_1.index t = ![min ((t : ℕ) / 2) 8, 0, 0] ∧ win0_2.index t = ![2, 0, 0] ∧ win0_3.index t = ![0, 0] ∧ win0_4.index t = ![0, 0]
    ∧ win0_10.index t = ![(t : ℕ), 0] :=
  (by decide +kernel : ∀ t : Fin grid0.N, _)

/-- The weights at an index. -/
theorem w_in (c : Dev nD) (a : Fin 1024) (b : Fin 5632) : (V m c main_v7 : FVec Ideal S1024x5632 .bf16) (ix2 a b) = (m ((c : Thread nD τ).loc main_arg5) : FVec Ideal S4x2x1024x5632 .f32) (ix4 2 0 a b) := by
  rw [V_in]
  generalize (m ((c : Thread nD τ).loc main_arg5) : FVec Ideal S4x2x1024x5632 .f32) = A
  pointwise []
theorem w_out (c : Dev nD) (a : Fin 2816) (b : Fin 1024) : (V m c main_v10 : FVec Ideal S2816x1024 .bf16) (ix2 a b) = (m ((c : Thread nD τ).loc main_arg6) : FVec Ideal S4x2x2816x1024 .f32) (ix4 2 0 a b) := by
  rw [V_out]
  generalize (m ((c : Thread nD τ).loc main_arg6) : FVec Ideal S4x2x2816x1024 .f32) = A
  pointwise []

set_option maxHeartbeats 4000000 in
/-- The output's block after a point is the payload of the input blocks. -/
theorem point (c : Dev nD) (t : Fin cfg0.N) : (dats m 0 c).after 10 t = Half30Ideal.Hand.payload (iblk m c 0 t) (iblk m c 1 t) (iblk m c 2 t) (iblk m c 3 t) (iblk m c 4 t) := by
  rw [after0_10]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  refine funext fun y => ?_
  unfold_out out0_10
  simp (disch := decide) only [View.ld_unit_lit']
  canon_tiles x h
  rw [show y = x from funext (Fin.forall_fin_two.mpr ⟨Fin.ext h0, Fin.ext h1⟩)]
  rfl

/-- A block of sample rows, and one of prompt rows, at an index. -/
theorem block_s (c : Dev nD) (t : Fin cfg0.N) (h : t.val < 16) (r : Fin 512) (j : Fin 1024) :
    (dats m 0 c).after 10 t (ix2 r j)
      = half0 (fun k => (m ((c : Thread nD τ).loc main_arg1) : FVec Ideal S8x1024x1024 .f32) (ix3 ⟨(t * 512 + r : ℕ) / 1024, by omega⟩ ⟨(t * 512 + r : ℕ) % 1024, by omega⟩ k))
          (fun a b => (m ((c : Thread nD τ).loc main_arg3) : FVec Ideal S8x9x1024 .f32) (ix3 ⟨(t * 512 + r : ℕ) / 1024, by omega⟩ a b))
          (fun a b => (m ((c : Thread nD τ).loc main_arg4) : FVec Ideal S4x6x1024 .f32) (ix3 2 a b))
          (fun a b => (m ((c : Thread nD τ).loc main_arg5) : FVec Ideal S4x2x1024x5632 .f32) (ix4 2 0 a b))
          (fun a b => (m ((c : Thread nD τ).loc main_arg6) : FVec Ideal S4x2x2816x1024 .f32) (ix4 2 0 a b)) j := by
  obtain ⟨-, i0, i1, i2, i3, i4, -⟩ := idx t
  refine (congrFun (point m c t) (ix2 r j)).trans ((Half30Ideal.Hand.payload_at _ _ _ _ _ _ _).trans ?_)
  refine congrFun (congr (congr (congr (congr (congrArg half0 (funext fun k => ?_)) (funext fun a => funext fun b => ?_)) (funext fun a => funext fun b => ?_)) (funext fun a => funext fun b => ?_)) (funext fun a => funext fun b => ?_)) j
  · refine Eq.trans ?_ ((congrFun (V_x m c) (ix2 ⟨t * 512 + r, by have := t.isLt; have : cfg0.N = 24 := rfl; omega⟩ k)).trans ((FfnIdeal.Hand.cat_s _ _ _ ⟨t * 512 + r, by omega⟩ k).trans (FfnIdeal.Hand.rows_s _ _ ⟨t * 512 + r, by omega⟩ k)))
    blk_point [iblk, i0]
  · refine Eq.trans ?_ ((congrFun (V_mods m c) (ix3 ⟨(t * 512 + r : ℕ) / 1024, by omega⟩ a b)).trans (FfnIdeal.Hand.mods_s _ _ _ _ ⟨(t * 512 + r : ℕ) / 1024, by omega⟩ a b))
    blk_point [iblk, i1]
  · rw [← V_main_arg4 m c]; blk_point [iblk, i2]
  · rw [← w_in m c]; blk_point [iblk, i3]
  · rw [← w_out m c]; blk_point [iblk, i4]

theorem block_p (c : Dev nD) (t : Fin cfg0.N) (h : 16 ≤ t.val) (r : Fin 512) (j : Fin 1024) :
    (dats m 0 c).after 10 t (ix2 r j)
      = half0 (fun k => (m ((c : Thread nD τ).loc main_arg0) : FVec Ideal S16x256x1024 .f32) (ix3 ⟨((t - 16) * 512 + r : ℕ) / 256, by have := t.isLt; have : cfg0.N = 24 := rfl; omega⟩ ⟨((t - 16) * 512 + r : ℕ) % 256, by omega⟩ k))
          (fun a b => (m ((c : Thread nD τ).loc main_arg2) : FVec Ideal S1x9x1024 .f32) (ix3 0 a b))
          (fun a b => (m ((c : Thread nD τ).loc main_arg4) : FVec Ideal S4x6x1024 .f32) (ix3 2 a b))
          (fun a b => (m ((c : Thread nD τ).loc main_arg5) : FVec Ideal S4x2x1024x5632 .f32) (ix4 2 0 a b))
          (fun a b => (m ((c : Thread nD τ).loc main_arg6) : FVec Ideal S4x2x2816x1024 .f32) (ix4 2 0 a b)) j := by
  obtain ⟨-, i0, i1, i2, i3, i4, -⟩ := idx t
  refine (congrFun (point m c t) (ix2 r j)).trans ((Half30Ideal.Hand.payload_at _ _ _ _ _ _ _).trans ?_)
  refine congrFun (congr (congr (congr (congr (congrArg half0 (funext fun k => ?_)) (funext fun a => funext fun b => ?_)) (funext fun a => funext fun b => ?_)) (funext fun a => funext fun b => ?_)) (funext fun a => funext fun b => ?_)) j
  · refine Eq.trans ?_ ((congrFun (V_x m c) (ix2 ⟨8192 + ((t - 16) * 512 + r), by have := t.isLt; have : cfg0.N = 24 := rfl; omega⟩ k)).trans ((FfnIdeal.Hand.cat_p _ _ _ ⟨(t - 16) * 512 + r, by have := t.isLt; have : cfg0.N = 24 := rfl; omega⟩ k).trans (FfnIdeal.Hand.rows_p _ _ ⟨(t - 16) * 512 + r, by have := t.isLt; have : cfg0.N = 24 := rfl; omega⟩ k)))
    blk_point [iblk, i0]
  · refine Eq.trans ?_ ((congrFun (V_mods m c) (ix3 8 a b)).trans (FfnIdeal.Hand.mods_p _ _ _ _ a b))
    blk_point [iblk, i1]
  · rw [← V_main_arg4 m c]; blk_point [iblk, i2]
  · rw [← w_in m c]; blk_point [iblk, i3]
  · rw [← w_out m c]; blk_point [iblk, i4]

/-- The layer's gains and weights, cut out of the stacks. -/
theorem cut_g (A : FVec Ideal S4x6x1024 .f32) (a : Fin 6) (b : Fin 1024) : (shapeCast S6x1024 (extractStridedSlice S1x6x1024 ![2, 0, 0] A Half20RefIdeal.Gen.slices_S4x6x1024_S1x6x1024_2_0_0) Half20RefIdeal.Gen.shapeCasts_S1x6x1024_S6x1024) (ix2 a b) = A (ix3 2 a b) := by
  pointwise []
theorem cut_in (A : FVec Ideal S4x2x1024x5632 .f32) (a : Fin 1024) (b : Fin 5632) : (shapeCast S1024x5632 (extractStridedSlice S1x1x1024x5632 ![2, 0, 0, 0] A slices_S4x2x1024x5632_S1x1x1024x5632_2_0_0_0) shapeCasts_S1x1x1024x5632_S1024x5632) (ix2 a b) = A (ix4 2 0 a b) := by
  pointwise []
theorem cut_out (A : FVec Ideal S4x2x2816x1024 .f32) (a : Fin 2816) (b : Fin 1024) : (shapeCast S2816x1024 (extractStridedSlice S1x1x2816x1024 ![2, 0, 0, 0] A slices_S4x2x2816x1024_S1x1x2816x1024_2_0_0_0) shapeCasts_S1x1x2816x1024_S2816x1024) (ix2 a b) = A (ix4 2 0 a b) := by
  pointwise []

/-- The sample tokens' result before its rows are laid out. -/
def out_sample (y : FVec Ideal S8x1024x1024 .f32) (μ : FVec Ideal S8x9x1024 .f32) (g : FVec Ideal S4x6x1024 .f32) (wi : FVec Ideal S4x2x1024x5632 .f32) (wo : FVec Ideal S4x2x2816x1024 .f32) : FVec Ideal S8x1024x1024 .f32 :=
  Half30RefIdeal.At.half0_sample y μ (shapeCast S6x1024 (extractStridedSlice S1x6x1024 ![2, 0, 0] g Half20RefIdeal.Gen.slices_S4x6x1024_S1x6x1024_2_0_0) Half20RefIdeal.Gen.shapeCasts_S1x6x1024_S6x1024) (shapeCast S1024x5632 (extractStridedSlice S1x1x1024x5632 ![2, 0, 0, 0] wi slices_S4x2x1024x5632_S1x1x1024x5632_2_0_0_0) shapeCasts_S1x1x1024x5632_S1024x5632) (shapeCast S2816x1024 (extractStridedSlice S1x1x2816x1024 ![2, 0, 0, 0] wo slices_S4x2x2816x1024_S1x1x2816x1024_2_0_0_0) shapeCasts_S1x1x2816x1024_S2816x1024)
theorem out_sample_at (y : FVec Ideal S8x1024x1024 .f32) (μ : FVec Ideal S8x9x1024 .f32) (g : FVec Ideal S4x6x1024 .f32) (wi : FVec Ideal S4x2x1024x5632 .f32) (wo : FVec Ideal S4x2x2816x1024 .f32) (b : Fin 8) (s : Fin 1024) (j : Fin 1024) :
    out_sample y μ g wi wo (ix3 b s j) = half0 (fun k => y (ix3 b s k)) (fun i k => μ (ix3 b i k)) (fun a b => g (ix3 2 a b)) (fun a b => wi (ix4 2 0 a b)) (fun a b => wo (ix4 2 0 a b)) j := by
  unfold out_sample
  refine (Half30RefIdeal.At.half0_sample_at _ _ _ _ _ _ _ _).trans ?_
  simp only [cut_g, cut_in, cut_out]

/-- The prompt tokens' result before its rows are laid out. -/
def out_prompt (y : FVec Ideal S16x256x1024 .f32) (μ : FVec Ideal S1x9x1024 .f32) (g : FVec Ideal S4x6x1024 .f32) (wi : FVec Ideal S4x2x1024x5632 .f32) (wo : FVec Ideal S4x2x2816x1024 .f32) : FVec Ideal S16x256x1024 .f32 :=
  Half30RefIdeal.At.half0_prompt y μ (shapeCast S6x1024 (extractStridedSlice S1x6x1024 ![2, 0, 0] g Half20RefIdeal.Gen.slices_S4x6x1024_S1x6x1024_2_0_0) Half20RefIdeal.Gen.shapeCasts_S1x6x1024_S6x1024) (shapeCast S1024x5632 (extractStridedSlice S1x1x1024x5632 ![2, 0, 0, 0] wi slices_S4x2x1024x5632_S1x1x1024x5632_2_0_0_0) shapeCasts_S1x1x1024x5632_S1024x5632) (shapeCast S2816x1024 (extractStridedSlice S1x1x2816x1024 ![2, 0, 0, 0] wo slices_S4x2x2816x1024_S1x1x2816x1024_2_0_0_0) shapeCasts_S1x1x2816x1024_S2816x1024)
theorem out_prompt_at (y : FVec Ideal S16x256x1024 .f32) (μ : FVec Ideal S1x9x1024 .f32) (g : FVec Ideal S4x6x1024 .f32) (wi : FVec Ideal S4x2x1024x5632 .f32) (wo : FVec Ideal S4x2x2816x1024 .f32) (b : Fin 16) (s : Fin 256) (j : Fin 1024) :
    out_prompt y μ g wi wo (ix3 b s j) = half0 (fun k => y (ix3 b s k)) (fun i k => μ (ix3 0 i k)) (fun a b => g (ix3 2 a b)) (fun a b => wi (ix4 2 0 a b)) (fun a b => wo (ix4 2 0 a b)) j := by
  unfold out_prompt
  refine (Half30RefIdeal.At.half0_prompt_at _ _ _ _ _ _ _ _).trans ?_
  simp only [cut_g, cut_in, cut_out]

/-- The result that the two programs are compared by: the rows of the two phases, one after the other. -/
def rows (yp : FVec Ideal S16x256x1024 .f32) (ys : FVec Ideal S8x1024x1024 .f32) (mp : FVec Ideal S1x9x1024 .f32) (ms : FVec Ideal S8x9x1024 .f32) (g : FVec Ideal S4x6x1024 .f32)
    (wi : FVec Ideal S4x2x1024x5632 .f32) (wo : FVec Ideal S4x2x2816x1024 .f32) : FVec Ideal S12288x1024 .f32 :=
  concatenate S12288x1024 0 [⟨S8192x1024, shapeCast S8192x1024 (out_sample ys ms g wi wo) Half20RefIdeal.Gen.shapeCasts_S8x1024x1024_S8192x1024⟩,
    ⟨S4096x1024, shapeCast S4096x1024 (out_prompt yp mp g wi wo) Half20RefIdeal.Gen.shapeCasts_S16x256x1024_S4096x1024⟩] Half20RefIdeal.Gen.concatenates_S8192x1024_S4096x1024_S12288x1024_d0

set_option maxHeartbeats 4000000 in
/-- The output after the run. -/
theorem final (c : Dev nD) : (dats m 0 c).arrAt 10 cfg0.N = rows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 10 _ (by decide +kernel) fun t hf y => ?_
  blk_simp
  have ei : win0_10.index t = ![(t : ℕ), 0] := by have := idx t; tauto
  have hN : (t : ℕ) < 24 := t.isLt
  have hr : (y 0 : ℕ) < 512 := (y 0).isLt
  have hy : y = ix2 ⟨(y 0 : ℕ), (y 0).isLt⟩ ⟨(y 1 : ℕ), (y 1).isLt⟩ := funext (Fin.forall_fin_two.mpr ⟨rfl, rfl⟩)
  refine (congrArg ((dats m 0 c).after 10 t) hy).trans ?_
  rcases lt_or_ge (t : ℕ) 16 with h | h
  · refine (block_s m c t h _ _).trans (Eq.trans ?_ (congrArg (rows _ _ _ _ _ _ _) (FfnIdeal.Hand.place _ t y (congrFun ei 0) (congrFun ei 1) _ (by blk_simp; try rfl) (by blk_simp; try rfl) ⟨t * 512 + (y 0 : ℕ), by omega⟩ rfl)))
    refine Eq.symm ((FfnIdeal.Hand.cat_s _ _ _ ⟨t * 512 + (y 0 : ℕ), by omega⟩ _).trans ((FfnIdeal.Hand.rows_s _ _ _ _).trans ?_))
    exact out_sample_at _ _ _ _ _ _ _ _
  · refine (block_p m c t h _ _).trans (Eq.trans ?_ (congrArg (rows _ _ _ _ _ _ _) (FfnIdeal.Hand.place _ t y (congrFun ei 0) (congrFun ei 1) _ (by blk_simp; try rfl) (by blk_simp; try rfl) ⟨8192 + ((t - 16) * 512 + (y 0 : ℕ)), by omega⟩ (by show 8192 + ((t - 16) * 512 + (y 0 : ℕ)) = _; omega))))
    refine Eq.symm ((FfnIdeal.Hand.cat_p _ _ _ ⟨(t - 16) * 512 + (y 0 : ℕ), by omega⟩ _).trans ((FfnIdeal.Hand.rows_p _ _ _ _).trans ?_))
    exact out_prompt_at _ _ _ _ _ _ _ _

end Cert.Half20Ideal.Hand
end
-- ==== Proof.Half00Final.lean ====
module

public import proofs.«01_k».proof.Proof.Gen.Half00Ideal.Frame
public import proofs.«01_k».proof.Proof.Gen.Half00RefIdeal.Run
public import proofs.«01_k».proof.Proof.Half30Block
public import proofs.«01_k».proof.Proof.HalfRef
public import proofs.«01_k».proof.Proof.HalfRows

@[expose] public section

set_option maxRecDepth 16384
noncomputable section
open Idealize.ShloMosaic Idealize.ShloMosaic.TcCoe Idealize.SL.Sem
namespace Cert.Half00Ideal.Hand
open Cert.Half00Ideal Cert.Half00Ideal.Gen Cert.Tok
variable (m : (ℓ : Loc nD τ sig) → Buf (Elt Ideal) ℓ)

/-- The arrays that the host code makes before the launch. -/
theorem V_xs (c : Dev nD) : @Eq (FVec Ideal S8192x1024 .f32) (V m c main_v0) (shapeCast S8192x1024 (m ((c : Thread nD τ).loc main_arg1) : FVec Ideal S8x1024x1024 .f32) shapeCasts_S8x1024x1024_S8192x1024) := by
  show StableHlo.after hostOps0 _ _ = _
  simp only [hostOps0]
  after_results
  try rfl
theorem V_xp (c : Dev nD) : @Eq (FVec Ideal S4096x1024 .f32) (V m c main_v1) (shapeCast S4096x1024 (m ((c : Thread nD τ).loc main_arg0) : FVec Ideal S16x256x1024 .f32) shapeCasts_S16x256x1024_S4096x1024) := by
  show StableHlo.after hostOps0 _ _ = _
  simp only [hostOps0]
  after_results
  try rfl
theorem V_mods (c : Dev nD) : @Eq (FVec Ideal S16x9x1024 .f32) (V m c main_v3) (concatenate S16x9x1024 0 [⟨S8x9x1024, (m ((c : Thread nD τ).loc main_arg3) : FVec Ideal S8x9x1024 .f32)⟩, ⟨S1x9x1024, (m ((c : Thread nD τ).loc main_arg2) : FVec Ideal S1x9x1024 .f32)⟩,
    ⟨S7x9x1024, broadcastInDim S7x9x1024 ![] bcast_S_S7x9x1024 (constant (F := Ideal) S_ .f32 0x00000000#32)⟩] concatenates_S8x9x1024_S1x9x1024_S7x9x1024_S16x9x1024_d0) := by
  show StableHlo.after hostOps0 _ _ = _
  simp only [hostOps0]; after_results; dsimp only [Matrix.cons_val]; after_results_loop; rfl
theorem V_in (c : Dev nD) : @Eq (FVec Ideal S1024x5632 .bf16) (V m c main_v6) (truncf (F := Ideal) .bf16 (shapeCast S1024x5632 (extractStridedSlice S1x1x1024x5632 ![0, 0, 0, 0] (m ((c : Thread nD τ).loc main_arg5) : FVec Ideal S4x2x1024x5632 .f32) slices_S4x2x1024x5632_S1x1x1024x5632_0_0_0_0)
    shapeCasts_S1x1x1024x5632_S1024x5632) bitsLt_bf16_f32) := by
  show StableHlo.after hostOps0 _ _ = _
  simp only [hostOps0]
  after_results
  try rfl
theorem V_out (c : Dev nD) : @Eq (FVec Ideal S2816x1024 .bf16) (V m c main_v9) (truncf (F := Ideal) .bf16 (shapeCast S2816x1024 (extractStridedSlice S1x1x2816x1024 ![0, 0, 0, 0] (m ((c : Thread nD τ).loc main_arg6) : FVec Ideal S4x2x2816x1024 .f32) slices_S4x2x2816x1024_S1x1x2816x1024_0_0_0_0)
    shapeCasts_S1x1x2816x1024_S2816x1024) bitsLt_bf16_f32) := by
  show StableHlo.after hostOps0 _ _ = _
  simp only [hostOps0]
  after_results
  try rfl

/-- Where the blocks of each grid point lie. -/
theorem idx : ∀ t : Fin cfg0.N, (grid0.coords t 0 : ℕ) = t ∧ win0_0.index t = ![min (t : ℕ) 15, 0] ∧ win0_1.index t = ![(t : ℕ) - 16, 0] ∧ win0_2.index t = ![min ((t : ℕ) / 2) 8, 0, 0] ∧ win0_3.index t = ![0, 0, 0] ∧ win0_4.index t = ![0, 0] ∧ win0_5.index t = ![0, 0]
    ∧ win0_11.index t = ![(t : ℕ), 0] :=
  (by decide +kernel : ∀ t : Fin grid0.N, _)

/-- The weights at an index. -/
theorem w_in (c : Dev nD) (a : Fin 1024) (b : Fin 5632) : (V m c main_v6 : FVec Ideal S1024x5632 .bf16) (ix2 a b) = (m ((c : Thread nD τ).loc main_arg5) : FVec Ideal S4x2x1024x5632 .f32) (ix4 0 0 a b) := by
  rw [V_in]
  generalize (m ((c : Thread nD τ).loc main_arg5) : FVec Ideal S4x2x1024x5632 .f32) = A
  pointwise []
theorem w_out (c : Dev nD) (a : Fin 2816) (b : Fin 1024) : (V m c main_v9 : FVec Ideal S2816x1024 .bf16) (ix2 a b) = (m ((c : Thread nD τ).loc main_arg6) : FVec Ideal S4x2x2816x1024 .f32) (ix4 0 0 a b) := by
  rw [V_out]
  generalize (m ((c : Thread nD τ).loc main_arg6) : FVec Ideal S4x2x2816x1024 .f32) = A
  pointwise []

/-- The state's block: the sample rows in their phase, the prompt rows in theirs. -/
theorem state_at (i : grid0.Coords) (a b : FVec Ideal S512x1024 .f32) (r : Fin 512) (j : Fin 1024) :
    k0_pay5 (F := Ideal) i a b (ix2 r j) = Scalar.select (Scalar.cmpi CmpIPredicate.slt (BitVec.ofNat 32 ↑(i 0)) 16#32) (a (ix2 r j)) (b (ix2 r j)) := by
  pointwise [k0_pay5]
theorem same_rows (a : FVec Ideal S512x1024 .f32) : Half30Ideal.Gen.k0_pay4 (F := Ideal) a = a := funext fun y => by
  rw [show y = ix2 ⟨(y 0 : ℕ), (y 0).isLt⟩ ⟨(y 1 : ℕ), (y 1).isLt⟩ from funext (Fin.forall_fin_two.mpr ⟨rfl, rfl⟩)]
  exact Half30Ideal.Hand.pay4_at a _ _

set_option maxHeartbeats 4000000 in
/-- The output's block after a point is the payload of the input blocks. -/
theorem point (c : Dev nD) (t : Fin cfg0.N) : (dats m 0 c).after 11 t = Half30Ideal.Hand.payload (k0_pay5 (F := Ideal) (grid0.coords t) (iblk m c 0 t) (iblk m c 1 t)) (iblk m c 2 t) (iblk m c 3 t) (iblk m c 4 t) (iblk m c 5 t) := by
  rw [after0_11]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  refine funext fun y => ?_
  unfold_out out0_11
  simp (disch := decide) only [View.ld_unit_lit']
  canon_tiles x h
  rw [show y = x from funext (Fin.forall_fin_two.mpr ⟨Fin.ext h0, Fin.ext h1⟩)]
  generalize k0_pay5 (F := Ideal) (grid0.coords t) x0 x1 = X
  unfold Half30Ideal.Hand.payload Half30Ideal.Gen.k0_pay10 Half30Ideal.Gen.k0_pay11 Half30Ideal.Gen.k0_pay12 Half30Ideal.Gen.k0_pay7
  rw [same_rows X]
  rfl

/-- A block of sample rows, and one of prompt rows, at an index. -/
theorem block_s (c : Dev nD) (t : Fin cfg0.N) (h : t.val < 16) (r : Fin 512) (j : Fin 1024) :
    (dats m 0 c).after 11 t (ix2 r j)
      = half0 (fun k => (m ((c : Thread nD τ).loc main_arg1) : FVec Ideal S8x1024x1024 .f32) (ix3 ⟨(t * 512 + r : ℕ) / 1024, by omega⟩ ⟨(t * 512 + r : ℕ) % 1024, by omega⟩ k))
          (fun a b => (m ((c : Thread nD τ).loc main_arg3) : FVec Ideal S8x9x1024 .f32) (ix3 ⟨(t * 512 + r : ℕ) / 1024, by omega⟩ a b))
          (fun a b => (m ((c : Thread nD τ).loc main_arg4) : FVec Ideal S4x6x1024 .f32) (ix3 0 a b))
          (fun a b => (m ((c : Thread nD τ).loc main_arg5) : FVec Ideal S4x2x1024x5632 .f32) (ix4 0 0 a b))
          (fun a b => (m ((c : Thread nD τ).loc main_arg6) : FVec Ideal S4x2x2816x1024 .f32) (ix4 0 0 a b)) j := by
  have hc : Scalar.cmpi CmpIPredicate.slt (BitVec.ofNat 32 ↑(grid0.coords t 0)) 16#32 = 1#1 := by
    rw [(idx t).1]
    exact (by decide +kernel : ∀ t : Fin grid0.N, t.val < 16 → Scalar.cmpi CmpIPredicate.slt (BitVec.ofNat 32 (t : ℕ)) 16#32 = 1#1) t h
  obtain ⟨-, i0, i1, i2, i3, i4, i5, -⟩ := idx t
  refine (congrFun (point m c t) (ix2 r j)).trans ((Half30Ideal.Hand.payload_at _ _ _ _ _ _ _).trans ?_)
  simp only [state_at]
  rw [hc]
  refine congrFun (congr (congr (congr (congr (congrArg half0 (funext fun k => ?_)) (funext fun a => funext fun b => ?_)) (funext fun a => funext fun b => ?_)) (funext fun a => funext fun b => ?_)) (funext fun a => funext fun b => ?_)) j
  · refine Eq.trans (b := iblk m c 0 t (ix2 r k)) rfl (Eq.trans ?_ ((congrFun (V_xs m c) (ix2 ⟨t * 512 + r, by omega⟩ k)).trans (FfnIdeal.Hand.rows_s _ _ ⟨t * 512 + r, by omega⟩ k)))
    blk_point [iblk, i0]
  · refine Eq.trans ?_ ((congrFun (V_mods m c) (ix3 ⟨(t * 512 + r : ℕ) / 1024, by omega⟩ a b)).trans (FfnIdeal.Hand.mods_s _ _ _ _ ⟨(t * 512 + r : ℕ) / 1024, by omega⟩ a b))
    blk_point [iblk, i2]
  · rw [← V_main_arg4 m c]; blk_point [iblk, i3]
  · rw [← w_in m c]; blk_point [iblk, i4]
  · rw [← w_out m c]; blk_point [iblk, i5]

theorem block_p (c : Dev nD) (t : Fin cfg0.N) (h : 16 ≤ t.val) (r : Fin 512) (j : Fin 1024) :
    (dats m 0 c).after 11 t (ix2 r j)
      = half0 (fun k => (m ((c : Thread nD τ).loc main_arg0) : FVec Ideal S16x256x1024 .f32) (ix3 ⟨((t - 16) * 512 + r : ℕ) / 256, by have := t.isLt; have : cfg0.N = 24 := rfl; omega⟩ ⟨((t - 16) * 512 + r : ℕ) % 256, by omega⟩ k))
          (fun a b => (m ((c : Thread nD τ).loc main_arg2) : FVec Ideal S1x9x1024 .f32) (ix3 0 a b))
          (fun a b => (m ((c : Thread nD τ).loc main_arg4) : FVec Ideal S4x6x1024 .f32) (ix3 0 a b))
          (fun a b => (m ((c : Thread nD τ).loc main_arg5) : FVec Ideal S4x2x1024x5632 .f32) (ix4 0 0 a b))
          (fun a b => (m ((c : Thread nD τ).loc main_arg6) : FVec Ideal S4x2x2816x1024 .f32) (ix4 0 0 a b)) j := by
  have hc : Scalar.cmpi CmpIPredicate.slt (BitVec.ofNat 32 ↑(grid0.coords t 0)) 16#32 = 0#1 := by
    rw [(idx t).1]
    exact (by decide +kernel : ∀ t : Fin grid0.N, 16 ≤ t.val → Scalar.cmpi CmpIPredicate.slt (BitVec.ofNat 32 (t : ℕ)) 16#32 = 0#1) t h
  obtain ⟨-, i0, i1, i2, i3, i4, i5, -⟩ := idx t
  refine (congrFun (point m c t) (ix2 r j)).trans ((Half30Ideal.Hand.payload_at _ _ _ _ _ _ _).trans ?_)
  simp only [state_at]
  rw [hc]
  refine congrFun (congr (congr (congr (congr (congrArg half0 (funext fun k => ?_)) (funext fun a => funext fun b => ?_)) (funext fun a => funext fun b => ?_)) (funext fun a => funext fun b => ?_)) (funext fun a => funext fun b => ?_)) j
  · refine Eq.trans (b := iblk m c 1 t (ix2 r k)) rfl (Eq.trans ?_ ((congrFun (V_xp m c) (ix2 ⟨(t - 16) * 512 + r, by have := t.isLt; have : cfg0.N = 24 := rfl; omega⟩ k)).trans (FfnIdeal.Hand.rows_p _ _ ⟨(t - 16) * 512 + r, by have := t.isLt; have : cfg0.N = 24 := rfl; omega⟩ k)))
    blk_point [iblk, i1]
  · refine Eq.trans ?_ ((congrFun (V_mods m c) (ix3 8 a b)).trans (FfnIdeal.Hand.mods_p _ _ _ _ a b))
    blk_point [iblk, i2]
  · rw [← V_main_arg4 m c]; blk_point [iblk, i3]
  · rw [← w_in m c]; blk_point [iblk, i4]
  · rw [← w_out m c]; blk_point [iblk, i5]

/-- The layer's gains and weights, cut out of the stacks. -/
theorem cut_g (A : FVec Ideal S4x6x1024 .f32) (a : Fin 6) (b : Fin 1024) : (shapeCast S6x1024 (extractStridedSlice S1x6x1024 ![0, 0, 0] A Half00RefIdeal.Gen.slices_S4x6x1024_S1x6x1024_0_0_0) Half00RefIdeal.Gen.shapeCasts_S1x6x1024_S6x1024) (ix2 a b) = A (ix3 0 a b) := by
  pointwise []
theorem cut_in (A : FVec Ideal S4x2x1024x5632 .f32) (a : Fin 1024) (b : Fin 5632) : (shapeCast S1024x5632 (extractStridedSlice S1x1x1024x5632 ![0, 0, 0, 0] A slices_S4x2x1024x5632_S1x1x1024x5632_0_0_0_0) shapeCasts_S1x1x1024x5632_S1024x5632) (ix2 a b) = A (ix4 0 0 a b) := by
  pointwise []
theorem cut_out (A : FVec Ideal S4x2x2816x1024 .f32) (a : Fin 2816) (b : Fin 1024) : (shapeCast S2816x1024 (extractStridedSlice S1x1x2816x1024 ![0, 0, 0, 0] A slices_S4x2x2816x1024_S1x1x2816x1024_0_0_0_0) shapeCasts_S1x1x2816x1024_S2816x1024) (ix2 a b) = A (ix4 0 0 a b) := by
  pointwise []

/-- The sample tokens' result before its rows are laid out. -/
def out_sample (y : FVec Ideal S8x1024x1024 .f32) (μ : FVec Ideal S8x9x1024 .f32) (g : FVec Ideal S4x6x1024 .f32) (wi : FVec Ideal S4x2x1024x5632 .f32) (wo : FVec Ideal S4x2x2816x1024 .f32) : FVec Ideal S8x1024x1024 .f32 :=
  Half30RefIdeal.At.half0_sample y μ (shapeCast S6x1024 (extractStridedSlice S1x6x1024 ![0, 0, 0] g Half00RefIdeal.Gen.slices_S4x6x1024_S1x6x1024_0_0_0) Half00RefIdeal.Gen.shapeCasts_S1x6x1024_S6x1024) (shapeCast S1024x5632 (extractStridedSlice S1x1x1024x5632 ![0, 0, 0, 0] wi slices_S4x2x1024x5632_S1x1x1024x5632_0_0_0_0) shapeCasts_S1x1x1024x5632_S1024x5632) (shapeCast S2816x1024 (extractStridedSlice S1x1x2816x1024 ![0, 0, 0, 0] wo slices_S4x2x2816x1024_S1x1x2816x1024_0_0_0_0) shapeCasts_S1x1x2816x1024_S2816x1024)
theorem out_sample_at (y : FVec Ideal S8x1024x1024 .f32) (μ : FVec Ideal S8x9x1024 .f32) (g : FVec Ideal S4x6x1024 .f32) (wi : FVec Ideal S4x2x1024x5632 .f32) (wo : FVec Ideal S4x2x2816x1024 .f32) (b : Fin 8) (s : Fin 1024) (j : Fin 1024) :
    out_sample y μ g wi wo (ix3 b s j) = half0 (fun k => y (ix3 b s k)) (fun i k => μ (ix3 b i k)) (fun a b => g (ix3 0 a b)) (fun a b => wi (ix4 0 0 a b)) (fun a b => wo (ix4 0 0 a b)) j := by
  unfold out_sample
  refine (Half30RefIdeal.At.half0_sample_at _ _ _ _ _ _ _ _).trans ?_
  simp only [cut_g, cut_in, cut_out]

/-- The prompt tokens' result before its rows are laid out. -/
def out_prompt (y : FVec Ideal S16x256x1024 .f32) (μ : FVec Ideal S1x9x1024 .f32) (g : FVec Ideal S4x6x1024 .f32) (wi : FVec Ideal S4x2x1024x5632 .f32) (wo : FVec Ideal S4x2x2816x1024 .f32) : FVec Ideal S16x256x1024 .f32 :=
  Half30RefIdeal.At.half0_prompt y μ (shapeCast S6x1024 (extractStridedSlice S1x6x1024 ![0, 0, 0] g Half00RefIdeal.Gen.slices_S4x6x1024_S1x6x1024_0_0_0) Half00RefIdeal.Gen.shapeCasts_S1x6x1024_S6x1024) (shapeCast S1024x5632 (extractStridedSlice S1x1x1024x5632 ![0, 0, 0, 0] wi slices_S4x2x1024x5632_S1x1x1024x5632_0_0_0_0) shapeCasts_S1x1x1024x5632_S1024x5632) (shapeCast S2816x1024 (extractStridedSlice S1x1x2816x1024 ![0, 0, 0, 0] wo slices_S4x2x2816x1024_S1x1x2816x1024_0_0_0_0) shapeCasts_S1x1x2816x1024_S2816x1024)
theorem out_prompt_at (y : FVec Ideal S16x256x1024 .f32) (μ : FVec Ideal S1x9x1024 .f32) (g : FVec Ideal S4x6x1024 .f32) (wi : FVec Ideal S4x2x1024x5632 .f32) (wo : FVec Ideal S4x2x2816x1024 .f32) (b : Fin 16) (s : Fin 256) (j : Fin 1024) :
    out_prompt y μ g wi wo (ix3 b s j) = half0 (fun k => y (ix3 b s k)) (fun i k => μ (ix3 0 i k)) (fun a b => g (ix3 0 a b)) (fun a b => wi (ix4 0 0 a b)) (fun a b => wo (ix4 0 0 a b)) j := by
  unfold out_prompt
  refine (Half30RefIdeal.At.half0_prompt_at _ _ _ _ _ _ _ _).trans ?_
  simp only [cut_g, cut_in, cut_out]

/-- The result that the two programs are compared by: the rows of the two phases, one after the other. -/
def rows (yp : FVec Ideal S16x256x1024 .f32) (ys : FVec Ideal S8x1024x1024 .f32) (mp : FVec Ideal S1x9x1024 .f32) (ms : FVec Ideal S8x9x1024 .f32) (g : FVec Ideal S4x6x1024 .f32)
    (wi : FVec Ideal S4x2x1024x5632 .f32) (wo : FVec Ideal S4x2x2816x1024 .f32) : FVec Ideal S12288x1024 .f32 :=
  concatenate S12288x1024 0 [⟨S8192x1024, shapeCast S8192x1024 (out_sample ys ms g wi wo) Half00RefIdeal.Gen.shapeCasts_S8x1024x1024_S8192x1024⟩,
    ⟨S4096x1024, shapeCast S4096x1024 (out_prompt yp mp g wi wo) Half00RefIdeal.Gen.shapeCasts_S16x256x1024_S4096x1024⟩] Half00RefIdeal.Gen.concatenates_S8192x1024_S4096x1024_S12288x1024_d0

set_option maxHeartbeats 4000000 in
/-- The output after the run. -/
theorem final (c : Dev nD) : (dats m 0 c).arrAt 11 cfg0.N = rows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (dats m 0 c).arrAt_eq_of_covers 11 _ (by decide +kernel) fun t hf y => ?_
  blk_simp
  have ei : win0_11.index t = ![(t : ℕ), 0] := by have := idx t; tauto
  have hN : (t : ℕ) < 24 := t.isLt
  have hr : (y 0 : ℕ) < 512 := (y 0).isLt
  have hy : y = ix2 ⟨(y 0 : ℕ), (y 0).isLt⟩ ⟨(y 1 : ℕ), (y 1).isLt⟩ := funext (Fin.forall_fin_two.mpr ⟨rfl, rfl⟩)
  refine (congrArg ((dats m 0 c).after 11 t) hy).trans ?_
  rcases lt_or_ge (t : ℕ) 16 with h | h
  · refine (block_s m c t h _ _).trans (Eq.trans ?_ (congrArg (rows _ _ _ _ _ _ _) (FfnIdeal.Hand.place _ t y (congrFun ei 0) (congrFun ei 1) _ (by blk_simp; try rfl) (by blk_simp; try rfl) ⟨t * 512 + (y 0 : ℕ), by omega⟩ rfl)))
    refine Eq.symm ((FfnIdeal.Hand.cat_s _ _ _ ⟨t * 512 + (y 0 : ℕ), by omega⟩ _).trans ((FfnIdeal.Hand.rows_s _ _ _ _).trans ?_))
    exact out_sample_at _ _ _ _ _ _ _ _
  · refine (block_p m c t h _ _).trans (Eq.trans ?_ (congrArg (rows _ _ _ _ _ _ _) (FfnIdeal.Hand.place _ t y (congrFun ei 0) (congrFun ei 1) _ (by blk_simp; try rfl) (by blk_simp; try rfl) ⟨8192 + ((t - 16) * 512 + (y 0 : ℕ)), by omega⟩ (by show 8192 + ((t - 16) * 512 + (y 0 : ℕ)) = _; omega))))
    refine Eq.symm ((FfnIdeal.Hand.cat_p _ _ _ ⟨(t - 16) * 512 + (y 0 : ℕ), by omega⟩ _).trans ((FfnIdeal.Hand.rows_p _ _ _ _).trans ?_))
    exact out_prompt_at _ _ _ _ _ _ _ _

end Cert.Half00Ideal.Hand
end
-- ==== Proof.Half01Final.lean ====
module

public import proofs.«01_k».proof.Proof.Gen.Half01Ideal.Frame
public import proofs.«01_k».proof.Proof.Gen.Half01RefIdeal.Run
public import proofs.«01_k».proof.Proof.FfnBlock
public import proofs.«01_k».proof.Proof.HalfRef
public import proofs.«01_k».proof.Proof.HalfRows

@[expose] public section

set_option maxRecDepth 16384
noncomputable section
open Idealize.ShloMosaic Idealize.ShloMosaic.TcCoe Idealize.SL.Sem
namespace Cert.Half01Ideal.Hand
open Cert.Half01Ideal Cert.Half01Ideal.Gen Cert.Tok
variable (m : (ℓ : Loc nD τ sig) → Buf (Elt Ideal) ℓ)

/-- The arrays that the host code makes before the launch. -/
theorem V_x (c : Dev nD) : @Eq (FVec Ideal S12288x1024 .f32) (V m c main_v2) (concatenate S12288x1024 0 [⟨S8192x1024, shapeCast S8192x1024 (m ((c : Thread nD τ).loc main_arg1) : FVec Ideal S8x1024x1024 .f32) shapeCasts_S8x1024x1024_S8192x1024⟩,
    ⟨S4096x1024, shapeCast S4096x1024 (m ((c : Thread nD τ).loc main_arg0) : FVec Ideal S16x256x1024 .f32) shapeCasts_S16x256x1024_S4096x1024⟩] concatenates_S8192x1024_S4096x1024_S12288x1024_d0) := by
  show StableHlo.after hostOps0 _ _ = _
  simp only [hostOps0]; after_results; dsimp only [Matrix.cons_val]; after_results_loop; rfl
theorem V_os (c : Dev nD) : @Eq (FVec Ideal S8192x1024 .bf16) (V m c main_v12) (truncf (F := Ideal) .bf16 (shapeCast S8192x1024 (m ((c : Thread nD τ).loc main_arg8) : FVec Ideal S8x1024x1024 .f32) shapeCasts_S8x1024x1024_S8192x1024) bitsLt_bf16_f32) := by
  show StableHlo.after hostOps0 _ _ = _
  simp only [hostOps0]
  after_results
  try rfl
theorem V_op (c : Dev nD) : @Eq (FVec Ideal S4096x1024 .bf16) (V m c main_v14) (truncf (F := Ideal) .bf16 (shapeCast S4096x1024 (m ((c : Thread nD τ).loc main_arg7) : FVec Ideal S16x256x1024 .f32) shapeCasts_S16x256x1024_S4096x1024) bitsLt_bf16_f32) := by
  show StableHlo.after hostOps0 _ _ = _
  simp only [hostOps0]
  after_results
  try rfl
theorem V_mods (c : Dev nD) : @Eq (FVec Ideal S16x9x1024 .f32) (V m c main_v4) (concatenate S16x9x1024 0 [⟨S8x9x1024, (m ((c : Thread nD τ).loc main_arg3) : FVec Ideal S8x9x1024 .f32)⟩, ⟨S1x9x1024, (m ((c : Thread nD τ).loc main_arg2) : FVec Ideal S1x9x1024 .f32)⟩,
    ⟨S7x9x1024, broadcastInDim S7x9x1024 ![] bcast_S_S7x9x1024 (constant (F := Ideal) S_ .f32 0x00000000#32)⟩] concatenates_S8x9x1024_S1x9x1024_S7x9x1024_S16x9x1024_d0) := by
  show StableHlo.after hostOps0 _ _ = _
  simp only [hostOps0]; after_results; dsimp only [Matrix.cons_val]; after_results_loop; rfl
theorem V_in (c : Dev nD) : @Eq (FVec Ideal S1024x5632 .bf16) (V m c main_v7) (truncf (F := Ideal) .bf16 (shapeCast S1024x5632 (extractStridedSlice S1x1x1024x5632 ![0, 1, 0, 0] (m ((c : Thread nD τ).loc main_arg5) : FVec Ideal S4x2x1024x5632 .f32) slices_S4x2x1024x5632_S1x1x1024x5632_0_1_0_0)
    shapeCasts_S1x1x1024x5632_S1024x5632) bitsLt_bf16_f32) := by
  show StableHlo.after hostOps0 _ _ = _
  simp only [hostOps0]
  after_results
  try rfl
theorem V_out (c : Dev nD) : @Eq (FVec Ideal S2816x1024 .bf16) (V m c main_v10) (truncf (F := Ideal) .bf16 (shapeCast S2816x1024 (extractStridedSlice S1x1x2816x1024 ![0, 1, 0, 0] (m ((c : Thread nD τ).loc main_arg6) : FVec Ideal S4x2x2816x1024 .f32) slices_S4x2x2816x1024_S1x1x2816x1024_0_1_0_0)
    shapeCasts_S1x1x2816x1024_S2816x1024) bitsLt_bf16_f32) := by
  show StableHlo.after hostOps0 _ _ = _
  simp only [hostOps0]
  after_results
  try rfl

/-- Where the blocks of each grid point lie. -/
theorem idx : ∀ t : Fin cfg0.N, (grid0.coords t 0 : ℕ) = t ∧ win0_0.index t = ![(t : ℕ), 0] ∧ win0_1.index t = ![min (t : ℕ) 15, 0] ∧ win0_2.index t = ![(t : ℕ) - 16, 0] ∧ win0_3.index t = ![0, 0, 0] ∧ win0_4.index t = ![min ((t : ℕ) / 2) 8, 0, 0] ∧ win0_5.index t = ![0, 0, 0] ∧ win0_6.index t = ![0, 0] ∧ win0_7.index t = ![0, 0]
    ∧ win0_10.index t = ![(t : ℕ), 0] :=
  (by decide +kernel : ∀ t : Fin grid0.N, _)

/-- The weights at an index. -/
theorem w_in (c : Dev nD) (a : Fin 1024) (b : Fin 5632) : (V m c main_v7 : FVec Ideal S1024x5632 .bf16) (ix2 a b) = (m ((c : Thread nD τ).loc main_arg5) : FVec Ideal S4x2x1024x5632 .f32) (ix4 0 1 a b) := by
  rw [V_in]
  generalize (m ((c : Thread nD τ).loc main_arg5) : FVec Ideal S4x2x1024x5632 .f32) = A
  pointwise []
theorem w_out (c : Dev nD) (a : Fin 2816) (b : Fin 1024) : (V m c main_v10 : FVec Ideal S2816x1024 .bf16) (ix2 a b) = (m ((c : Thread nD τ).loc main_arg6) : FVec Ideal S4x2x2816x1024 .f32) (ix4 0 1 a b) := by
  rw [V_out]
  generalize (m ((c : Thread nD τ).loc main_arg6) : FVec Ideal S4x2x2816x1024 .f32) = A
  pointwise []

set_option maxHeartbeats 4000000 in
/-- The output's block after a point is the payload of the input blocks. -/
theorem point (c : Dev nD) (t : Fin cfg0.N) : (dats m 0 c).after 10 t = FfnIdeal.Hand.payload (grid0.coords t) (iblk m c 0 t) (iblk m c 1 t) (iblk m c 2 t) (iblk m c 3 t) (iblk m c 4 t) (iblk m c 5 t) (iblk m c 6 t) (iblk m c 7 t) := by
  rw [after0_10]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  refine funext fun y => ?_
  unfold_out out0_10
  simp (disch := decide) only [View.ld_unit_lit']
  canon_tiles x h
  rw [show y = x from funext (Fin.forall_fin_two.mpr ⟨Fin.ext h0, Fin.ext h1⟩)]
  rfl

/-- A block of sample rows, and one of prompt rows, at an index. -/
theorem block_s (c : Dev nD) (t : Fin cfg0.N) (h : t.val < 16) (r : Fin 512) (j : Fin 1024) :
    (dats m 0 c).after 10 t (ix2 r j)
      = tail (fun k => (m ((c : Thread nD τ).loc main_arg1) : FVec Ideal S8x1024x1024 .f32) (ix3 ⟨(t * 512 + r : ℕ) / 1024, by omega⟩ ⟨(t * 512 + r : ℕ) % 1024, by omega⟩ k))
          (fun k => (m ((c : Thread nD τ).loc main_arg8) : FVec Ideal S8x1024x1024 .f32) (ix3 ⟨(t * 512 + r : ℕ) / 1024, by omega⟩ ⟨(t * 512 + r : ℕ) % 1024, by omega⟩ k))
          (fun a b => (m ((c : Thread nD τ).loc main_arg9) : FVec Ideal S2x1024x1024 .f32) (ix3 0 a b))
          (fun a b => (m ((c : Thread nD τ).loc main_arg3) : FVec Ideal S8x9x1024 .f32) (ix3 ⟨(t * 512 + r : ℕ) / 1024, by omega⟩ a b))
          (fun a b => (m ((c : Thread nD τ).loc main_arg4) : FVec Ideal S4x6x1024 .f32) (ix3 0 a b))
          (fun a b => (m ((c : Thread nD τ).loc main_arg5) : FVec Ideal S4x2x1024x5632 .f32) (ix4 0 1 a b))
          (fun a b => (m ((c : Thread nD τ).loc main_arg6) : FVec Ideal S4x2x2816x1024 .f32) (ix4 0 1 a b)) j := by
  have hc : Scalar.cmpi CmpIPredicate.slt (BitVec.ofNat 32 ↑(grid0.coords t 0)) 16#32 = 1#1 := by
    rw [(idx t).1]
    exact (by decide +kernel : ∀ t : Fin grid0.N, t.val < 16 → Scalar.cmpi CmpIPredicate.slt (BitVec.ofNat 32 (t : ℕ)) 16#32 = 1#1) t h
  obtain ⟨-, i0, i1, i2, i3, i4, i5, i6, i7, -⟩ := idx t
  refine (congrFun (point m c t) (ix2 r j)).trans ((FfnIdeal.Hand.payload_at _ _ _ _ _ _ _ _ _ _ _).trans ?_)
  rw [hc]
  refine congrFun (congr (congr (congr (congr (congr (congr (congrArg tail (funext fun k => ?_)) (funext fun k => ?_)) (funext fun a => funext fun b => ?_)) (funext fun a => funext fun b => ?_)) (funext fun a => funext fun b => ?_)) (funext fun a => funext fun b => ?_)) (funext fun a => funext fun b => ?_)) j
  · refine Eq.trans ?_ ((congrFun (V_x m c) (ix2 ⟨t * 512 + r, by have := t.isLt; have : cfg0.N = 24 := rfl; omega⟩ k)).trans ((FfnIdeal.Hand.cat_s _ _ _ ⟨t * 512 + r, by omega⟩ k).trans (FfnIdeal.Hand.rows_s _ _ ⟨t * 512 + r, by omega⟩ k)))
    blk_point [iblk, i0]
  · refine Eq.trans (b := iblk m c 1 t (ix2 r k)) rfl (Eq.trans ?_ ((congrFun (V_os m c) (ix2 ⟨t * 512 + r, by omega⟩ k)).trans (FfnIdeal.Hand.rows_s _ _ ⟨t * 512 + r, by omega⟩ k)))
    blk_point [iblk, i1]
  · rw [← V_main_arg9 m c]; blk_point [iblk, i3]
  · refine Eq.trans ?_ ((congrFun (V_mods m c) (ix3 ⟨(t * 512 + r : ℕ) / 1024, by omega⟩ a b)).trans (FfnIdeal.Hand.mods_s _ _ _ _ ⟨(t * 512 + r : ℕ) / 1024, by omega⟩ a b))
    blk_point [iblk, i4]
  · rw [← V_main_arg4 m c]; blk_point [iblk, i5]
  · rw [← w_in m c]; blk_point [iblk, i6]
  · rw [← w_out m c]; blk_point [iblk, i7]

theorem block_p (c : Dev nD) (t : Fin cfg0.N) (h : 16 ≤ t.val) (r : Fin 512) (j : Fin 1024) :
    (dats m 0 c).after 10 t (ix2 r j)
      = tail (fun k => (m ((c : Thread nD τ).loc main_arg0) : FVec Ideal S16x256x1024 .f32) (ix3 ⟨((t - 16) * 512 + r : ℕ) / 256, by have := t.isLt; have : cfg0.N = 24 := rfl; omega⟩ ⟨((t - 16) * 512 + r : ℕ) % 256, by omega⟩ k))
          (fun k => (m ((c : Thread nD τ).loc main_arg7) : FVec Ideal S16x256x1024 .f32) (ix3 ⟨((t - 16) * 512 + r : ℕ) / 256, by have := t.isLt; have : cfg0.N = 24 := rfl; omega⟩ ⟨((t - 16) * 512 + r : ℕ) % 256, by omega⟩ k))
          (fun a b => (m ((c : Thread nD τ).loc main_arg9) : FVec Ideal S2x1024x1024 .f32) (ix3 0 a b))
          (fun a b => (m ((c : Thread nD τ).loc main_arg2) : FVec Ideal S1x9x1024 .f32) (ix3 0 a b))
          (fun a b => (m ((c : Thread nD τ).loc main_arg4) : FVec Ideal S4x6x1024 .f32) (ix3 0 a b))
          (fun a b => (m ((c : Thread nD τ).loc main_arg5) : FVec Ideal S4x2x1024x5632 .f32) (ix4 0 1 a b))
          (fun a b => (m ((c : Thread nD τ).loc main_arg6) : FVec Ideal S4x2x2816x1024 .f32) (ix4 0 1 a b)) j := by
  have hc : Scalar.cmpi CmpIPredicate.slt (BitVec.ofNat 32 ↑(grid0.coords t 0)) 16#32 = 0#1 := by
    rw [(idx t).1]
    exact (by decide +kernel : ∀ t : Fin grid0.N, 16 ≤ t.val → Scalar.cmpi CmpIPredicate.slt (BitVec.ofNat 32 (t : ℕ)) 16#32 = 0#1) t h
  obtain ⟨-, i0, i1, i2, i3, i4, i5, i6, i7, -⟩ := idx t
  refine (congrFun (point m c t) (ix2 r j)).trans ((FfnIdeal.Hand.payload_at _ _ _ _ _ _ _ _ _ _ _).trans ?_)
  rw [hc]
  refine congrFun (congr (congr (congr (congr (congr (congr (congrArg tail (funext fun k => ?_)) (funext fun k => ?_)) (funext fun a => funext fun b => ?_)) (funext fun a => funext fun b => ?_)) (funext fun a => funext fun b => ?_)) (funext fun a => funext fun b => ?_)) (funext fun a => funext fun b => ?_)) j
  · refine Eq.trans ?_ ((congrFun (V_x m c) (ix2 ⟨8192 + ((t - 16) * 512 + r), by have := t.isLt; have : cfg0.N = 24 := rfl; omega⟩ k)).trans ((FfnIdeal.Hand.cat_p _ _ _ ⟨(t - 16) * 512 + r, by have := t.isLt; have : cfg0.N = 24 := rfl; omega⟩ k).trans (FfnIdeal.Hand.rows_p _ _ ⟨(t - 16) * 512 + r, by have := t.isLt; have : cfg0.N = 24 := rfl; omega⟩ k)))
    blk_point [iblk, i0]
  · refine Eq.trans (b := iblk m c 2 t (ix2 r k)) rfl (Eq.trans ?_ ((congrFun (V_op m c) (ix2 ⟨(t - 16) * 512 + r, by have := t.isLt; have : cfg0.N = 24 := rfl; omega⟩ k)).trans (FfnIdeal.Hand.rows_p _ _ ⟨(t - 16) * 512 + r, by have := t.isLt; have : cfg0.N = 24 := rfl; omega⟩ k)))
    blk_point [iblk, i2]
  · rw [← V_main_arg9 m c]; blk_point [iblk, i3]
  · refine Eq.trans ?_ ((congrFun (V_mods m c) (ix3 8 a b)).trans (FfnIdeal.Hand.mods_p _ _ _ _ a b))
    blk_point [iblk, i4]
  · rw [← V_main_arg4 m c]; blk_point [iblk, i5]
  · rw [← w_in m c]; blk_point [iblk, i6]
  · rw [← w_out m c]; blk_point [iblk, i7]

/-- The layer's gains and weights, cut out of the stacks. -/
theorem cut_g (A : FVec Ideal S4x6x1024 .f32) (a : Fin 6) (b : Fin 1024) : (shapeCast S6x1024 (extractStridedSlice S1x6x1024 ![0, 0, 0] A Half01RefIdeal.Gen.slices_S4x6x1024_S1x6x1024_0_0_0) Half01RefIdeal.Gen.shapeCasts_S1x6x1024_S6x1024) (ix2 a b) = A (ix3 0 a b) := by
  pointwise []
theorem cut_in (A : FVec Ideal S4x2x1024x5632 .f32) (a : Fin 1024) (b : Fin 5632) : (shapeCast S1024x5632 (extractStridedSlice S1x1x1024x5632 ![0, 1, 0, 0] A slices_S4x2x1024x5632_S1x1x1024x5632_0_1_0_0) shapeCasts_S1x1x1024x5632_S1024x5632) (ix2 a b) = A (ix4 0 1 a b) := by
  pointwise []
theorem cut_out (A : FVec Ideal S4x2x2816x1024 .f32) (a : Fin 2816) (b : Fin 1024) : (shapeCast S2816x1024 (extractStridedSlice S1x1x2816x1024 ![0, 1, 0, 0] A slices_S4x2x2816x1024_S1x1x2816x1024_0_1_0_0) shapeCasts_S1x1x2816x1024_S2816x1024) (ix2 a b) = A (ix4 0 1 a b) := by
  pointwise []
theorem cut_mix (A : FVec Ideal S2x1024x1024 .f32) (a : Fin 1024) (b : Fin 1024) : (shapeCast FfnIdeal.S1024x1024 (extractStridedSlice S1x1024x1024 ![0, 0, 0] A Half01RefIdeal.Gen.slices_S2x1024x1024_S1x1024x1024_0_0_0) Half01RefIdeal.Gen.shapeCasts_S1x1024x1024_S1024x1024) (ix2 a b) = A (ix3 0 a b) := by
  pointwise []

/-- The sample tokens' result before its rows are laid out. -/
def out_sample (y : FVec Ideal S8x1024x1024 .f32) (o : FVec Ideal S8x1024x1024 .f32) (w : FVec Ideal S2x1024x1024 .f32) (μ : FVec Ideal S8x9x1024 .f32) (g : FVec Ideal S4x6x1024 .f32) (wi : FVec Ideal S4x2x1024x5632 .f32) (wo : FVec Ideal S4x2x2816x1024 .f32) : FVec Ideal S8x1024x1024 .f32 :=
  Half30RefIdeal.At.tail_sample y o (shapeCast FfnIdeal.S1024x1024 (extractStridedSlice S1x1024x1024 ![0, 0, 0] w Half01RefIdeal.Gen.slices_S2x1024x1024_S1x1024x1024_0_0_0) Half01RefIdeal.Gen.shapeCasts_S1x1024x1024_S1024x1024) μ (shapeCast S6x1024 (extractStridedSlice S1x6x1024 ![0, 0, 0] g Half01RefIdeal.Gen.slices_S4x6x1024_S1x6x1024_0_0_0) Half01RefIdeal.Gen.shapeCasts_S1x6x1024_S6x1024) (shapeCast S1024x5632 (extractStridedSlice S1x1x1024x5632 ![0, 1, 0, 0] wi slices_S4x2x1024x5632_S1x1x1024x5632_0_1_0_0) shapeCasts_S1x1x1024x5632_S1024x5632) (shapeCast S2816x1024 (extractStridedSlice S1x1x2816x1024 ![0, 1, 0, 0] wo slices_S4x2x2816x1024_S1x1x2816x1024_0_1_0_0) shapeCasts_S1x1x2816x1024_S2816x1024)
theorem out_sample_at (y : FVec Ideal S8x1024x1024 .f32) (o : FVec Ideal S8x1024x1024 .f32) (w : FVec Ideal S2x1024x1024 .f32) (μ : FVec Ideal S8x9x1024 .f32) (g : FVec Ideal S4x6x1024 .f32) (wi : FVec Ideal S4x2x1024x5632 .f32) (wo : FVec Ideal S4x2x2816x1024 .f32) (b : Fin 8) (s : Fin 1024) (j : Fin 1024) :
    out_sample y o w μ g wi wo (ix3 b s j) = tail (fun k => y (ix3 b s k)) (fun k => o (ix3 b s k)) (fun a b => w (ix3 0 a b)) (fun i k => μ (ix3 b i k)) (fun a b => g (ix3 0 a b)) (fun a b => wi (ix4 0 1 a b)) (fun a b => wo (ix4 0 1 a b)) j := by
  unfold out_sample
  refine (Half30RefIdeal.At.tail_sample_at _ _ _ _ _ _ _ _ _ _).trans ?_
  simp only [cut_g, cut_in, cut_out, cut_mix]

/-- The prompt tokens' result before its rows are laid out. -/
def out_prompt (y : FVec Ideal S16x256x1024 .f32) (o : FVec Ideal S16x256x1024 .f32) (w : FVec Ideal S2x1024x1024 .f32) (μ : FVec Ideal S1x9x1024 .f32) (g : FVec Ideal S4x6x1024 .f32) (wi : FVec Ideal S4x2x1024x5632 .f32) (wo : FVec Ideal S4x2x2816x1024 .f32) : FVec Ideal S16x256x1024 .f32 :=
  Half30RefIdeal.At.tail_prompt y o (shapeCast FfnIdeal.S1024x1024 (extractStridedSlice S1x1024x1024 ![0, 0, 0] w Half01RefIdeal.Gen.slices_S2x1024x1024_S1x1024x1024_0_0_0) Half01RefIdeal.Gen.shapeCasts_S1x1024x1024_S1024x1024) μ (shapeCast S6x1024 (extractStridedSlice S1x6x1024 ![0, 0, 0] g Half01RefIdeal.Gen.slices_S4x6x1024_S1x6x1024_0_0_0) Half01RefIdeal.Gen.shapeCasts_S1x6x1024_S6x1024) (shapeCast S1024x5632 (extractStridedSlice S1x1x1024x5632 ![0, 1, 0, 0] wi slices_S4x2x1024x5632_S1x1x1024x5632_0_1_0_0) shapeCasts_S1x1x1024x5632_S1024x5632) (shapeCast S2816x1024 (extractStridedSlice S1x1x2816x1024 ![0, 1, 0, 0] wo slices_S4x2x2816x1024_S1x1x2816x1024_0_1_0_0) shapeCasts_S1x1x2816x1024_S2816x1024)
theorem out_prompt_at (y : FVec Ideal S16x256x1024 .f32) (o : FVec Ideal S16x256x1024 .f32) (w : FVec Ideal S2x1024x1024 .f32) (μ : FVec Ideal S1x9x1024 .f32) (g : FVec Ideal S4x6x1024 .f32) (wi : FVec Ideal S4x2x1024x5632 .f32) (wo : FVec Ideal S4x2x2816x1024 .f32) (b : Fin 16) (s : Fin 256) (j : Fin 1024) :
    out_prompt y o w μ g wi wo (ix3 b s j) = tail (fun k => y (ix3 b s k)) (fun k => o (ix3 b s k)) (fun a b => w (ix3 0 a b)) (fun i k => μ (ix3 0 i k)) (fun a b => g (ix3 0 a b)) (fun a b => wi (ix4 0 1 a b)) (fun a b => wo (ix4 0 1 a b)) j := by
  unfold out_prompt
  refine (Half30RefIdeal.At.tail_prompt_at _ _ _ _ _ _ _ _ _ _).trans ?_
  simp only [cut_g, cut_in, cut_out, cut_mix]

/-- The result that the two programs are compared by: the rows of the two phases, one after the other. -/
def rows (yp : FVec Ideal S16x256x1024 .f32) (ys : FVec Ideal S8x1024x1024 .f32) (mp : FVec Ideal S1x9x1024 .f32) (ms : FVec Ideal S8x9x1024 .f32) (g : FVec Ideal S4x6x1024 .f32)
    (wi : FVec Ideal S4x2x1024x5632 .f32) (wo : FVec Ideal S4x2x2816x1024 .f32) (op : FVec Ideal S16x256x1024 .f32) (os : FVec Ideal S8x1024x1024 .f32) (w : FVec Ideal S2x1024x1024 .f32) : FVec Ideal S12288x1024 .f32 :=
  concatenate S12288x1024 0 [⟨S8192x1024, shapeCast S8192x1024 (out_sample ys os w ms g wi wo) Half01RefIdeal.Gen.shapeCasts_S8x1024x1024_S8192x1024⟩,
    ⟨S4096x1024, shapeCast S4096x1024 (out_prompt yp op w mp g wi wo) Half01RefIdeal.Gen.shapeCasts_S16x256x1024_S4096x1024⟩] Half01RefIdeal.Gen.concatenates_S8192x1024_S4096x1024_S12288x1024_d0

set_option maxHeartbeats 4000000 in
/-- The output after the run. -/
theorem final (c : Dev nD) : (dats m 0 c).arrAt 10 cfg0.N = rows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (dats m 0 c).arrAt_eq_of_covers 10 _ (by decide +kernel) fun t hf y => ?_
  blk_simp
  have ei : win0_10.index t = ![(t : ℕ), 0] := by have := idx t; tauto
  have hN : (t : ℕ) < 24 := t.isLt
  have hr : (y 0 : ℕ) < 512 := (y 0).isLt
  have hy : y = ix2 ⟨(y 0 : ℕ), (y 0).isLt⟩ ⟨(y 1 : ℕ), (y 1).isLt⟩ := funext (Fin.forall_fin_two.mpr ⟨rfl, rfl⟩)
  refine (congrArg ((dats m 0 c).after 10 t) hy).trans ?_
  rcases lt_or_ge (t : ℕ) 16 with h | h
  · refine (block_s m c t h _ _).trans (Eq.trans ?_ (congrArg (rows _ _ _ _ _ _ _ _ _ _) (FfnIdeal.Hand.place _ t y (congrFun ei 0) (congrFun ei 1) _ (by blk_simp; try rfl) (by blk_simp; try rfl) ⟨t * 512 + (y 0 : ℕ), by omega⟩ rfl)))
    refine Eq.symm ((FfnIdeal.Hand.cat_s _ _ _ ⟨t * 512 + (y 0 : ℕ), by omega⟩ _).trans ((FfnIdeal.Hand.rows_s _ _ _ _).trans ?_))
    exact out_sample_at _ _ _ _ _ _ _ _ _ _
  · refine (block_p m c t h _ _).trans (Eq.trans ?_ (congrArg (rows _ _ _ _ _ _ _ _ _ _) (FfnIdeal.Hand.place _ t y (congrFun ei 0) (congrFun ei 1) _ (by blk_simp; try rfl) (by blk_simp; try rfl) ⟨8192 + ((t - 16) * 512 + (y 0 : ℕ)), by omega⟩ (by show 8192 + ((t - 16) * 512 + (y 0 : ℕ)) = _; omega))))
    refine Eq.symm ((FfnIdeal.Hand.cat_p _ _ _ ⟨(t - 16) * 512 + (y 0 : ℕ), by omega⟩ _).trans ((FfnIdeal.Hand.rows_p _ _ _ _).trans ?_))
    exact out_prompt_at _ _ _ _ _ _ _ _ _ _

end Cert.Half01Ideal.Hand
end
-- ==== Proof.Half21Final.lean ====
module

public import proofs.«01_k».proof.Proof.Gen.Half21Ideal.Frame
public import proofs.«01_k».proof.Proof.Gen.Half21RefIdeal.Run
public import proofs.«01_k».proof.Proof.FfnBlock
public import proofs.«01_k».proof.Proof.HalfRef
public import proofs.«01_k».proof.Proof.HalfRows

@[expose] public section

set_option maxRecDepth 16384
noncomputable section
open Idealize.ShloMosaic Idealize.ShloMosaic.TcCoe Idealize.SL.Sem
namespace Cert.Half21Ideal.Hand
open Cert.Half21Ideal Cert.Half21Ideal.Gen Cert.Tok
variable (m : (ℓ : Loc nD τ sig) → Buf (Elt Ideal) ℓ)

/-- The arrays that the host code makes before the launch. -/
theorem V_x (c : Dev nD) : @Eq (FVec Ideal S12288x1024 .f32) (V m c main_v2) (concatenate S12288x1024 0 [⟨S8192x1024, shapeCast S8192x1024 (m ((c : Thread nD τ).loc main_arg1) : FVec Ideal S8x1024x1024 .f32) shapeCasts_S8x1024x1024_S8192x1024⟩,
    ⟨S4096x1024, shapeCast S4096x1024 (m ((c : Thread nD τ).loc main_arg0) : FVec Ideal S16x256x1024 .f32) shapeCasts_S16x256x1024_S4096x1024⟩] concatenates_S8192x1024_S4096x1024_S12288x1024_d0) := by
  show StableHlo.after hostOps0 _ _ = _
  simp only [hostOps0]; after_results; dsimp only [Matrix.cons_val]; after_results_loop; rfl
theorem V_os (c : Dev nD) : @Eq (FVec Ideal S8192x1024 .bf16) (V m c main_v12) (truncf (F := Ideal) .bf16 (shapeCast S8192x1024 (m ((c : Thread nD τ).loc main_arg8) : FVec Ideal S8x1024x1024 .f32) shapeCasts_S8x1024x1024_S8192x1024) bitsLt_bf16_f32) := by
  show StableHlo.after hostOps0 _ _ = _
  simp only [hostOps0]
  after_results
  try rfl
theorem V_op (c : Dev nD) : @Eq (FVec Ideal S4096x1024 .bf16) (V m c main_v14) (truncf (F := Ideal) .bf16 (shapeCast S4096x1024 (m ((c : Thread nD τ).loc main_arg7) : FVec Ideal S16x256x1024 .f32) shapeCasts_S16x256x1024_S4096x1024) bitsLt_bf16_f32) := by
  show StableHlo.after hostOps0 _ _ = _
  simp only [hostOps0]
  after_results
  try rfl
theorem V_mods (c : Dev nD) : @Eq (FVec Ideal S16x9x1024 .f32) (V m c main_v4) (concatenate S16x9x1024 0 [⟨S8x9x1024, (m ((c : Thread nD τ).loc main_arg3) : FVec Ideal S8x9x1024 .f32)⟩, ⟨S1x9x1024, (m ((c : Thread nD τ).loc main_arg2) : FVec Ideal S1x9x1024 .f32)⟩,
    ⟨S7x9x1024, broadcastInDim S7x9x1024 ![] bcast_S_S7x9x1024 (constant (F := Ideal) S_ .f32 0x00000000#32)⟩] concatenates_S8x9x1024_S1x9x1024_S7x9x1024_S16x9x1024_d0) := by
  show StableHlo.after hostOps0 _ _ = _
  simp only [hostOps0]; after_results; dsimp only [Matrix.cons_val]; after_results_loop; rfl
theorem V_in (c : Dev nD) : @Eq (FVec Ideal S1024x5632 .bf16) (V m c main_v7) (truncf (F := Ideal) .bf16 (shapeCast S1024x5632 (extractStridedSlice S1x1x1024x5632 ![2, 1, 0, 0] (m ((c : Thread nD τ).loc main_arg5) : FVec Ideal S4x2x1024x5632 .f32) slices_S4x2x1024x5632_S1x1x1024x5632_2_1_0_0)
    shapeCasts_S1x1x1024x5632_S1024x5632) bitsLt_bf16_f32) := by
  show StableHlo.after hostOps0 _ _ = _
  simp only [hostOps0]
  after_results
  try rfl
theorem V_out (c : Dev nD) : @Eq (FVec Ideal S2816x1024 .bf16) (V m c main_v10) (truncf (F := Ideal) .bf16 (shapeCast S2816x1024 (extractStridedSlice S1x1x2816x1024 ![2, 1, 0, 0] (m ((c : Thread nD τ).loc main_arg6) : FVec Ideal S4x2x2816x1024 .f32) slices_S4x2x2816x1024_S1x1x2816x1024_2_1_0_0)
    shapeCasts_S1x1x2816x1024_S2816x1024) bitsLt_bf16_f32) := by
  show StableHlo.after hostOps0 _ _ = _
  simp only [hostOps0]
  after_results
  try rfl

/-- Where the blocks of each grid point lie. -/
theorem idx : ∀ t : Fin cfg0.N, (grid0.coords t 0 : ℕ) = t ∧ win0_0.index t = ![(t : ℕ), 0] ∧ win0_1.index t = ![min (t : ℕ) 15, 0] ∧ win0_2.index t = ![(t : ℕ) - 16, 0] ∧ win0_3.index t = ![0, 0, 0] ∧ win0_4.index t = ![min ((t : ℕ) / 2) 8, 0, 0] ∧ win0_5.index t = ![2, 0, 0] ∧ win0_6.index t = ![0, 0] ∧ win0_7.index t = ![0, 0]
    ∧ win0_10.index t = ![(t : ℕ), 0] :=
  (by decide +kernel : ∀ t : Fin grid0.N, _)

/-- The weights at an index. -/
theorem w_in (c : Dev nD) (a : Fin 1024) (b : Fin 5632) : (V m c main_v7 : FVec Ideal S1024x5632 .bf16) (ix2 a b) = (m ((c : Thread nD τ).loc main_arg5) : FVec Ideal S4x2x1024x5632 .f32) (ix4 2 1 a b) := by
  rw [V_in]
  generalize (m ((c : Thread nD τ).loc main_arg5) : FVec Ideal S4x2x1024x5632 .f32) = A
  pointwise []
theorem w_out (c : Dev nD) (a : Fin 2816) (b : Fin 1024) : (V m c main_v10 : FVec Ideal S2816x1024 .bf16) (ix2 a b) = (m ((c : Thread nD τ).loc main_arg6) : FVec Ideal S4x2x2816x1024 .f32) (ix4 2 1 a b) := by
  rw [V_out]
  generalize (m ((c : Thread nD τ).loc main_arg6) : FVec Ideal S4x2x2816x1024 .f32) = A
  pointwise []

set_option maxHeartbeats 4000000 in
/-- The output's block after a point is the payload of the input blocks. -/
theorem point (c : Dev nD) (t : Fin cfg0.N) : (dats m 0 c).after 10 t = FfnIdeal.Hand.payload (grid0.coords t) (iblk m c 0 t) (iblk m c 1 t) (iblk m c 2 t) (iblk m c 3 t) (iblk m c 4 t) (iblk m c 5 t) (iblk m c 6 t) (iblk m c 7 t) := by
  rw [after0_10]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  refine funext fun y => ?_
  unfold_out out0_10
  simp (disch := decide) only [View.ld_unit_lit']
  canon_tiles x h
  rw [show y = x from funext (Fin.forall_fin_two.mpr ⟨Fin.ext h0, Fin.ext h1⟩)]
  rfl

/-- A block of sample rows, and one of prompt rows, at an index. -/
theorem block_s (c : Dev nD) (t : Fin cfg0.N) (h : t.val < 16) (r : Fin 512) (j : Fin 1024) :
    (dats m 0 c).after 10 t (ix2 r j)
      = tail (fun k => (m ((c : Thread nD τ).loc main_arg1) : FVec Ideal S8x1024x1024 .f32) (ix3 ⟨(t * 512 + r : ℕ) / 1024, by omega⟩ ⟨(t * 512 + r : ℕ) % 1024, by omega⟩ k))
          (fun k => (m ((c : Thread nD τ).loc main_arg8) : FVec Ideal S8x1024x1024 .f32) (ix3 ⟨(t * 512 + r : ℕ) / 1024, by omega⟩ ⟨(t * 512 + r : ℕ) % 1024, by omega⟩ k))
          (fun a b => (m ((c : Thread nD τ).loc main_arg9) : FVec Ideal S1x1024x1024 .f32) (ix3 0 a b))
          (fun a b => (m ((c : Thread nD τ).loc main_arg3) : FVec Ideal S8x9x1024 .f32) (ix3 ⟨(t * 512 + r : ℕ) / 1024, by omega⟩ a b))
          (fun a b => (m ((c : Thread nD τ).loc main_arg4) : FVec Ideal S4x6x1024 .f32) (ix3 2 a b))
          (fun a b => (m ((c : Thread nD τ).loc main_arg5) : FVec Ideal S4x2x1024x5632 .f32) (ix4 2 1 a b))
          (fun a b => (m ((c : Thread nD τ).loc main_arg6) : FVec Ideal S4x2x2816x1024 .f32) (ix4 2 1 a b)) j := by
  have hc : Scalar.cmpi CmpIPredicate.slt (BitVec.ofNat 32 ↑(grid0.coords t 0)) 16#32 = 1#1 := by
    rw [(idx t).1]
    exact (by decide +kernel : ∀ t : Fin grid0.N, t.val < 16 → Scalar.cmpi CmpIPredicate.slt (BitVec.ofNat 32 (t : ℕ)) 16#32 = 1#1) t h
  obtain ⟨-, i0, i1, i2, i3, i4, i5, i6, i7, -⟩ := idx t
  refine (congrFun (point m c t) (ix2 r j)).trans ((FfnIdeal.Hand.payload_at _ _ _ _ _ _ _ _ _ _ _).trans ?_)
  rw [hc]
  refine congrFun (congr (congr (congr (congr (congr (congr (congrArg tail (funext fun k => ?_)) (funext fun k => ?_)) (funext fun a => funext fun b => ?_)) (funext fun a => funext fun b => ?_)) (funext fun a => funext fun b => ?_)) (funext fun a => funext fun b => ?_)) (funext fun a => funext fun b => ?_)) j
  · refine Eq.trans ?_ ((congrFun (V_x m c) (ix2 ⟨t * 512 + r, by have := t.isLt; have : cfg0.N = 24 := rfl; omega⟩ k)).trans ((FfnIdeal.Hand.cat_s _ _ _ ⟨t * 512 + r, by omega⟩ k).trans (FfnIdeal.Hand.rows_s _ _ ⟨t * 512 + r, by omega⟩ k)))
    blk_point [iblk, i0]
  · refine Eq.trans (b := iblk m c 1 t (ix2 r k)) rfl (Eq.trans ?_ ((congrFun (V_os m c) (ix2 ⟨t * 512 + r, by omega⟩ k)).trans (FfnIdeal.Hand.rows_s _ _ ⟨t * 512 + r, by omega⟩ k)))
    blk_point [iblk, i1]
  · rw [← V_main_arg9 m c]; blk_point [iblk, i3]
  · refine Eq.trans ?_ ((congrFun (V_mods m c) (ix3 ⟨(t * 512 + r : ℕ) / 1024, by omega⟩ a b)).trans (FfnIdeal.Hand.mods_s _ _ _ _ ⟨(t * 512 + r : ℕ) / 1024, by omega⟩ a b))
    blk_point [iblk, i4]
  · rw [← V_main_arg4 m c]; blk_point [iblk, i5]
  · rw [← w_in m c]; blk_point [iblk, i6]
  · rw [← w_out m c]; blk_point [iblk, i7]

theorem block_p (c : Dev nD) (t : Fin cfg0.N) (h : 16 ≤ t.val) (r : Fin 512) (j : Fin 1024) :
    (dats m 0 c).after 10 t (ix2 r j)
      = tail (fun k => (m ((c : Thread nD τ).loc main_arg0) : FVec Ideal S16x256x1024 .f32) (ix3 ⟨((t - 16) * 512 + r : ℕ) / 256, by have := t.isLt; have : cfg0.N = 24 := rfl; omega⟩ ⟨((t - 16) * 512 + r : ℕ) % 256, by omega⟩ k))
          (fun k => (m ((c : Thread nD τ).loc main_arg7) : FVec Ideal S16x256x1024 .f32) (ix3 ⟨((t - 16) * 512 + r : ℕ) / 256, by have := t.isLt; have : cfg0.N = 24 := rfl; omega⟩ ⟨((t - 16) * 512 + r : ℕ) % 256, by omega⟩ k))
          (fun a b => (m ((c : Thread nD τ).loc main_arg9) : FVec Ideal S1x1024x1024 .f32) (ix3 0 a b))
          (fun a b => (m ((c : Thread nD τ).loc main_arg2) : FVec Ideal S1x9x1024 .f32) (ix3 0 a b))
          (fun a b => (m ((c : Thread nD τ).loc main_arg4) : FVec Ideal S4x6x1024 .f32) (ix3 2 a b))
          (fun a b => (m ((c : Thread nD τ).loc main_arg5) : FVec Ideal S4x2x1024x5632 .f32) (ix4 2 1 a b))
          (fun a b => (m ((c : Thread nD τ).loc main_arg6) : FVec Ideal S4x2x2816x1024 .f32) (ix4 2 1 a b)) j := by
  have hc : Scalar.cmpi CmpIPredicate.slt (BitVec.ofNat 32 ↑(grid0.coords t 0)) 16#32 = 0#1 := by
    rw [(idx t).1]
    exact (by decide +kernel : ∀ t : Fin grid0.N, 16 ≤ t.val → Scalar.cmpi CmpIPredicate.slt (BitVec.ofNat 32 (t : ℕ)) 16#32 = 0#1) t h
  obtain ⟨-, i0, i1, i2, i3, i4, i5, i6, i7, -⟩ := idx t
  refine (congrFun (point m c t) (ix2 r j)).trans ((FfnIdeal.Hand.payload_at _ _ _ _ _ _ _ _ _ _ _).trans ?_)
  rw [hc]
  refine congrFun (congr (congr (congr (congr (congr (congr (congrArg tail (funext fun k => ?_)) (funext fun k => ?_)) (funext fun a => funext fun b => ?_)) (funext fun a => funext fun b => ?_)) (funext fun a => funext fun b => ?_)) (funext fun a => funext fun b => ?_)) (funext fun a => funext fun b => ?_)) j
  · refine Eq.trans ?_ ((congrFun (V_x m c) (ix2 ⟨8192 + ((t - 16) * 512 + r), by have := t.isLt; have : cfg0.N = 24 := rfl; omega⟩ k)).trans ((FfnIdeal.Hand.cat_p _ _ _ ⟨(t - 16) * 512 + r, by have := t.isLt; have : cfg0.N = 24 := rfl; omega⟩ k).trans (FfnIdeal.Hand.rows_p _ _ ⟨(t - 16) * 512 + r, by have := t.isLt; have : cfg0.N = 24 := rfl; omega⟩ k)))
    blk_point [iblk, i0]
  · refine Eq.trans (b := iblk m c 2 t (ix2 r k)) rfl (Eq.trans ?_ ((congrFun (V_op m c) (ix2 ⟨(t - 16) * 512 + r, by have := t.isLt; have : cfg0.N = 24 := rfl; omega⟩ k)).trans (FfnIdeal.Hand.rows_p _ _ ⟨(t - 16) * 512 + r, by have := t.isLt; have : cfg0.N = 24 := rfl; omega⟩ k)))
    blk_point [iblk, i2]
  · rw [← V_main_arg9 m c]; blk_point [iblk, i3]
  · refine Eq.trans ?_ ((congrFun (V_mods m c) (ix3 8 a b)).trans (FfnIdeal.Hand.mods_p _ _ _ _ a b))
    blk_point [iblk, i4]
  · rw [← V_main_arg4 m c]; blk_point [iblk, i5]
  · rw [← w_in m c]; blk_point [iblk, i6]
  · rw [← w_out m c]; blk_point [iblk, i7]

/-- The layer's gains and weights, cut out of the stacks. -/
theorem cut_g (A : FVec Ideal S4x6x1024 .f32) (a : Fin 6) (b : Fin 1024) : (shapeCast S6x1024 (extractStridedSlice S1x6x1024 ![2, 0, 0] A Half21RefIdeal.Gen.slices_S4x6x1024_S1x6x1024_2_0_0) Half21RefIdeal.Gen.shapeCasts_S1x6x1024_S6x1024) (ix2 a b) = A (ix3 2 a b) := by
  pointwise []
theorem cut_in (A : FVec Ideal S4x2x1024x5632 .f32) (a : Fin 1024) (b : Fin 5632) : (shapeCast S1024x5632 (extractStridedSlice S1x1x1024x5632 ![2, 1, 0, 0] A slices_S4x2x1024x5632_S1x1x1024x5632_2_1_0_0) shapeCasts_S1x1x1024x5632_S1024x5632) (ix2 a b) = A (ix4 2 1 a b) := by
  pointwise []
theorem cut_out (A : FVec Ideal S4x2x2816x1024 .f32) (a : Fin 2816) (b : Fin 1024) : (shapeCast S2816x1024 (extractStridedSlice S1x1x2816x1024 ![2, 1, 0, 0] A slices_S4x2x2816x1024_S1x1x2816x1024_2_1_0_0) shapeCasts_S1x1x2816x1024_S2816x1024) (ix2 a b) = A (ix4 2 1 a b) := by
  pointwise []
theorem cut_mix (A : FVec Ideal S1x1024x1024 .f32) (a : Fin 1024) (b : Fin 1024) : (shapeCast FfnIdeal.S1024x1024 A Half21RefIdeal.Gen.shapeCasts_S1x1024x1024_S1024x1024) (ix2 a b) = A (ix3 0 a b) := by
  pointwise []

/-- The sample tokens' result before its rows are laid out. -/
def out_sample (y : FVec Ideal S8x1024x1024 .f32) (o : FVec Ideal S8x1024x1024 .f32) (w : FVec Ideal S1x1024x1024 .f32) (μ : FVec Ideal S8x9x1024 .f32) (g : FVec Ideal S4x6x1024 .f32) (wi : FVec Ideal S4x2x1024x5632 .f32) (wo : FVec Ideal S4x2x2816x1024 .f32) : FVec Ideal S8x1024x1024 .f32 :=
  Half30RefIdeal.At.tail_sample y o (shapeCast FfnIdeal.S1024x1024 w Half21RefIdeal.Gen.shapeCasts_S1x1024x1024_S1024x1024) μ (shapeCast S6x1024 (extractStridedSlice S1x6x1024 ![2, 0, 0] g Half21RefIdeal.Gen.slices_S4x6x1024_S1x6x1024_2_0_0) Half21RefIdeal.Gen.shapeCasts_S1x6x1024_S6x1024) (shapeCast S1024x5632 (extractStridedSlice S1x1x1024x5632 ![2, 1, 0, 0] wi slices_S4x2x1024x5632_S1x1x1024x5632_2_1_0_0) shapeCasts_S1x1x1024x5632_S1024x5632) (shapeCast S2816x1024 (extractStridedSlice S1x1x2816x1024 ![2, 1, 0, 0] wo slices_S4x2x2816x1024_S1x1x2816x1024_2_1_0_0) shapeCasts_S1x1x2816x1024_S2816x1024)
theorem out_sample_at (y : FVec Ideal S8x1024x1024 .f32) (o : FVec Ideal S8x1024x1024 .f32) (w : FVec Ideal S1x1024x1024 .f32) (μ : FVec Ideal S8x9x1024 .f32) (g : FVec Ideal S4x6x1024 .f32) (wi : FVec Ideal S4x2x1024x5632 .f32) (wo : FVec Ideal S4x2x2816x1024 .f32) (b : Fin 8) (s : Fin 1024) (j : Fin 1024) :
    out_sample y o w μ g wi wo (ix3 b s j) = tail (fun k => y (ix3 b s k)) (fun k => o (ix3 b s k)) (fun a b => w (ix3 0 a b)) (fun i k => μ (ix3 b i k)) (fun a b => g (ix3 2 a b)) (fun a b => wi (ix4 2 1 a b)) (fun a b => wo (ix4 2 1 a b)) j := by
  unfold out_sample
  refine (Half30RefIdeal.At.tail_sample_at _ _ _ _ _ _ _ _ _ _).trans ?_
  simp only [cut_g, cut_in, cut_out, cut_mix]

/-- The prompt tokens' result before its rows are laid out. -/
def out_prompt (y : FVec Ideal S16x256x1024 .f32) (o : FVec Ideal S16x256x1024 .f32) (w : FVec Ideal S1x1024x1024 .f32) (μ : FVec Ideal S1x9x1024 .f32) (g : FVec Ideal S4x6x1024 .f32) (wi : FVec Ideal S4x2x1024x5632 .f32) (wo : FVec Ideal S4x2x2816x1024 .f32) : FVec Ideal S16x256x1024 .f32 :=
  Half30RefIdeal.At.tail_prompt y o (shapeCast FfnIdeal.S1024x1024 w Half21RefIdeal.Gen.shapeCasts_S1x1024x1024_S1024x1024) μ (shapeCast S6x1024 (extractStridedSlice S1x6x1024 ![2, 0, 0] g Half21RefIdeal.Gen.slices_S4x6x1024_S1x6x1024_2_0_0) Half21RefIdeal.Gen.shapeCasts_S1x6x1024_S6x1024) (shapeCast S1024x5632 (extractStridedSlice S1x1x1024x5632 ![2, 1, 0, 0] wi slices_S4x2x1024x5632_S1x1x1024x5632_2_1_0_0) shapeCasts_S1x1x1024x5632_S1024x5632) (shapeCast S2816x1024 (extractStridedSlice S1x1x2816x1024 ![2, 1, 0, 0] wo slices_S4x2x2816x1024_S1x1x2816x1024_2_1_0_0) shapeCasts_S1x1x2816x1024_S2816x1024)
theorem out_prompt_at (y : FVec Ideal S16x256x1024 .f32) (o : FVec Ideal S16x256x1024 .f32) (w : FVec Ideal S1x1024x1024 .f32) (μ : FVec Ideal S1x9x1024 .f32) (g : FVec Ideal S4x6x1024 .f32) (wi : FVec Ideal S4x2x1024x5632 .f32) (wo : FVec Ideal S4x2x2816x1024 .f32) (b : Fin 16) (s : Fin 256) (j : Fin 1024) :
    out_prompt y o w μ g wi wo (ix3 b s j) = tail (fun k => y (ix3 b s k)) (fun k => o (ix3 b s k)) (fun a b => w (ix3 0 a b)) (fun i k => μ (ix3 0 i k)) (fun a b => g (ix3 2 a b)) (fun a b => wi (ix4 2 1 a b)) (fun a b => wo (ix4 2 1 a b)) j := by
  unfold out_prompt
  refine (Half30RefIdeal.At.tail_prompt_at _ _ _ _ _ _ _ _ _ _).trans ?_
  simp only [cut_g, cut_in, cut_out, cut_mix]

/-- The result that the two programs are compared by: the rows of the two phases, one after the other. -/
def rows (yp : FVec Ideal S16x256x1024 .f32) (ys : FVec Ideal S8x1024x1024 .f32) (mp : FVec Ideal S1x9x1024 .f32) (ms : FVec Ideal S8x9x1024 .f32) (g : FVec Ideal S4x6x1024 .f32)
    (wi : FVec Ideal S4x2x1024x5632 .f32) (wo : FVec Ideal S4x2x2816x1024 .f32) (op : FVec Ideal S16x256x1024 .f32) (os : FVec Ideal S8x1024x1024 .f32) (w : FVec Ideal S1x1024x1024 .f32) : FVec Ideal S12288x1024 .f32 :=
  concatenate S12288x1024 0 [⟨S8192x1024, shapeCast S8192x1024 (out_sample ys os w ms g wi wo) Half21RefIdeal.Gen.shapeCasts_S8x1024x1024_S8192x1024⟩,
    ⟨S4096x1024, shapeCast S4096x1024 (out_prompt yp op w mp g wi wo) Half21RefIdeal.Gen.shapeCasts_S16x256x1024_S4096x1024⟩] Half21RefIdeal.Gen.concatenates_S8192x1024_S4096x1024_S12288x1024_d0

set_option maxHeartbeats 4000000 in
/-- The output after the run. -/
theorem final (c : Dev nD) : (dats m 0 c).arrAt 10 cfg0.N = rows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (dats m 0 c).arrAt_eq_of_covers 10 _ (by decide +kernel) fun t hf y => ?_
  blk_simp
  have ei : win0_10.index t = ![(t : ℕ), 0] := by have := idx t; tauto
  have hN : (t : ℕ) < 24 := t.isLt
  have hr : (y 0 : ℕ) < 512 := (y 0).isLt
  have hy : y = ix2 ⟨(y 0 : ℕ), (y 0).isLt⟩ ⟨(y 1 : ℕ), (y 1).isLt⟩ := funext (Fin.forall_fin_two.mpr ⟨rfl, rfl⟩)
  refine (congrArg ((dats m 0 c).after 10 t) hy).trans ?_
  rcases lt_or_ge (t : ℕ) 16 with h | h
  · refine (block_s m c t h _ _).trans (Eq.trans ?_ (congrArg (rows _ _ _ _ _ _ _ _ _ _) (FfnIdeal.Hand.place _ t y (congrFun ei 0) (congrFun ei 1) _ (by blk_simp; try rfl) (by blk_simp; try rfl) ⟨t * 512 + (y 0 : ℕ), by omega⟩ rfl)))
    refine Eq.symm ((FfnIdeal.Hand.cat_s _ _ _ ⟨t * 512 + (y 0 : ℕ), by omega⟩ _).trans ((FfnIdeal.Hand.rows_s _ _ _ _).trans ?_))
    exact out_sample_at _ _ _ _ _ _ _ _ _ _
  · refine (block_p m c t h _ _).trans (Eq.trans ?_ (congrArg (rows _ _ _ _ _ _ _ _ _ _) (FfnIdeal.Hand.place _ t y (congrFun ei 0) (congrFun ei 1) _ (by blk_simp; try rfl) (by blk_simp; try rfl) ⟨8192 + ((t - 16) * 512 + (y 0 : ℕ)), by omega⟩ (by show 8192 + ((t - 16) * 512 + (y 0 : ℕ)) = _; omega))))
    refine Eq.symm ((FfnIdeal.Hand.cat_p _ _ _ ⟨(t - 16) * 512 + (y 0 : ℕ), by omega⟩ _).trans ((FfnIdeal.Hand.rows_p _ _ _ _).trans ?_))
    exact out_prompt_at _ _ _ _ _ _ _ _ _ _

end Cert.Half21Ideal.Hand
end
-- ==== Proof.MixRef.lean ====
module

public import proofs.«01_k».proof.Proof.Gen.ProjRefIdeal.Run
public import proofs.«01_k».proof.Proof.FfnTok

@[expose] public section

set_option maxRecDepth 16384
noncomputable section
open Idealize.ShloMosaic Idealize.ShloMosaic.TcCoe Idealize.SL.Sem
namespace Cert.ProjRefIdeal.At
open Cert.ProjRefIdeal Cert.ProjRefIdeal.Gen Cert.Tok

/-- One token's row, as a mixer takes it, projected. -/
def projected {w : ℕ} (x : Fin 1024 → EReal) (m : Fin 9 → Fin 1024 → EReal) (g : Fin 6 → Fin 1024 → EReal) (W : Fin 1024 → Fin w → EReal) (n : Fin w) : EReal :=
  ∑ k, entered x (m 3) (m 4) (g 2) k * W k n

/-- The gains and the weights, cut out of the stacks. -/
theorem cut_g (A : FVec Ideal S4x6x1024 .f32) (a : Fin 6) (b : Fin 1024) : (shapeCast S6x1024 (extractStridedSlice S1x6x1024 ![2, 0, 0] A slices_S4x6x1024_S1x6x1024_2_0_0) shapeCasts_S1x6x1024_S6x1024) (ix2 a b) = A (ix3 2 a b) := by
  pointwise []
theorem cut_w (A : FVec Ideal S1x1024x5120 .f32) (a : Fin 1024) (b : Fin 5120) : (shapeCast S1024x5120 A shapeCasts_S1x1024x5120_S1024x5120) (ix2 a b) = A (ix3 0 a b) := by
  pointwise []

/-! The sample tokens. -/

def enter_sample (Y : FVec Ideal S8x1024x1024 .f32) (μ : FVec Ideal S8x9x1024 .f32) (G : FVec Ideal S6x1024 .f32) : FVec Ideal S8x1024x1024 .f32 :=
  addf (mulf (mulf (mulf Y (broadcastInDim S8x1024x1024 ![0, 1, 2] bcast_S8x1024x1_S8x1024x1024_0_1_2 (Host.rsqrt (addf (Host.divf (broadcastInDim S8x1024x1 ![0, 1] bcast_S8x1024_S8x1024x1_0_1 (Host.reduceAdd (mulf Y Y) (constant S_ .f32 0x00000000#32) reducesTo_S8x1024x1024_S8x1024_d2 h_S_)) (broadcastInDim S8x1024x1 ![] bcast_S_S8x1024x1 (constant S_ .f32 0x44800000#32))) (broadcastInDim S8x1024x1 ![] bcast_S_S8x1024x1 (constant S_ .f32 0x358637BD#32)))))) (broadcastInDim S8x1024x1024 ![0, 1, 2] bcast_S1x1x1024_S8x1024x1024_0_1_2 (broadcastInDim S1x1x1024 ![2] bcast_S1024_S1x1x1024_2 (shapeCast _ (extractStridedSlice S1x1024 ![2, 0] G slices_S6x1024_S1x1024_2_0) shapeCasts_S1x1024_S1024)))) (broadcastInDim S8x1024x1024 ![0, 1, 2] bcast_S8x1x1024_S8x1024x1024_0_1_2 (addf (broadcastInDim S8x1x1024 ![] bcast_S_S8x1x1024 (constant S_ .f32 0x3F800000#32)) (extractStridedSlice S8x1x1024 ![0, 4, 0] μ slices_S8x9x1024_S8x1x1024_0_4_0)))) (broadcastInDim S8x1024x1024 ![0, 1, 2] bcast_S8x1x1024_S8x1024x1024_0_1_2 (extractStridedSlice S8x1x1024 ![0, 3, 0] μ slices_S8x9x1024_S8x1x1024_0_3_0))
theorem enter_sample_at (Y : FVec Ideal S8x1024x1024 .f32) (μ : FVec Ideal S8x9x1024 .f32) (G : FVec Ideal S6x1024 .f32) (b : Fin 8) (s : Fin 1024) (j : Fin 1024) :
    enter_sample Y μ G (ix3 b s j) = entered (fun k => Y (ix3 b s k)) (fun k => μ (ix3 b 3 k)) (fun k => μ (ix3 b 4 k)) (fun k => G (ix2 2 k)) j := by
  unfold entered rms
  pointwise [enter_sample]

def project_sample (E : FVec Ideal S8x1024x1024 .f32) (w : FVec Ideal S1024x5120 .f32) : FVec Ideal S8x1024x5120 .f32 :=
  Host.dotGeneral dot_S8x1024x1024_S1024x5120_S8x1024x5120_2_0_01_1_n_n none E w
theorem project_sample_at (E : FVec Ideal S8x1024x1024 .f32) (w : FVec Ideal S1024x5120 .f32) (b : Fin 8) (s : Fin 1024) (n : Fin 5120) :
    project_sample E w (ix3 b s n) = ∑ k, E (ix3 b s k) * w (ix2 k n) := by
  pointwise [project_sample]

/-- The rows projected, on the stacks of gains and weights. -/
def out_sample (y : FVec Ideal S8x1024x1024 .f32) (μ : FVec Ideal S8x9x1024 .f32) (g : FVec Ideal S4x6x1024 .f32) (w : FVec Ideal S1x1024x5120 .f32) : FVec Ideal S8x1024x5120 .f32 :=
  project_sample (enter_sample y μ (shapeCast S6x1024 (extractStridedSlice S1x6x1024 ![2, 0, 0] g slices_S4x6x1024_S1x6x1024_2_0_0) shapeCasts_S1x6x1024_S6x1024)) (shapeCast S1024x5120 w shapeCasts_S1x1024x5120_S1024x5120)
theorem out_sample_at (y : FVec Ideal S8x1024x1024 .f32) (μ : FVec Ideal S8x9x1024 .f32) (g : FVec Ideal S4x6x1024 .f32) (w : FVec Ideal S1x1024x5120 .f32) (b : Fin 8) (s : Fin 1024) (n : Fin 5120) :
    out_sample y μ g w (ix3 b s n) = projected (fun k => y (ix3 b s k)) (fun i k => μ (ix3 b i k)) (fun a b => g (ix3 2 a b)) (fun a b => w (ix3 0 a b)) n := by
  unfold out_sample projected
  rw [project_sample_at]
  simp only [enter_sample_at, cut_g, cut_w]

/-! The prompt tokens. -/

def enter_prompt (Y : FVec Ideal S16x256x1024 .f32) (μ : FVec Ideal S1x9x1024 .f32) (G : FVec Ideal S6x1024 .f32) : FVec Ideal S16x256x1024 .f32 :=
  addf (mulf (mulf (mulf Y (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf Y Y) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 (shapeCast _ (extractStridedSlice S1x1024 ![2, 0] G slices_S6x1024_S1x1024_2_0) shapeCasts_S1x1024_S1024)))) (broadcastInDim S16x256x1024 ![0, 1, 2] bcast_S1x1x1024_S16x256x1024_0_1_2 (addf (broadcastInDim S1x1x1024 ![] bcast_S_S1x1x1024 (constant S_ .f32 0x3F800000#32)) (extractStridedSlice S1x1x1024 ![0, 4, 0] μ slices_S1x9x1024_S1x1x1024_0_4_0)))) (broadcastInDim S16x256x1024 ![0, 1, 2] bcast_S1x1x1024_S16x256x1024_0_1_2 (extractStridedSlice S1x1x1024 ![0, 3, 0] μ slices_S1x9x1024_S1x1x1024_0_3_0))
theorem enter_prompt_at (Y : FVec Ideal S16x256x1024 .f32) (μ : FVec Ideal S1x9x1024 .f32) (G : FVec Ideal S6x1024 .f32) (b : Fin 16) (s : Fin 256) (j : Fin 1024) :
    enter_prompt Y μ G (ix3 b s j) = entered (fun k => Y (ix3 b s k)) (fun k => μ (ix3 0 3 k)) (fun k => μ (ix3 0 4 k)) (fun k => G (ix2 2 k)) j := by
  unfold entered rms
  pointwise [enter_prompt]

def project_prompt (E : FVec Ideal S16x256x1024 .f32) (w : FVec Ideal S1024x5120 .f32) : FVec Ideal S16x256x5120 .f32 :=
  Host.dotGeneral dot_S16x256x1024_S1024x5120_S16x256x5120_2_0_01_1_n_n none E w
theorem project_prompt_at (E : FVec Ideal S16x256x1024 .f32) (w : FVec Ideal S1024x5120 .f32) (b : Fin 16) (s : Fin 256) (n : Fin 5120) :
    project_prompt E w (ix3 b s n) = ∑ k, E (ix3 b s k) * w (ix2 k n) := by
  pointwise [project_prompt]

/-- The rows projected, on the stacks of gains and weights. -/
def out_prompt (y : FVec Ideal S16x256x1024 .f32) (μ : FVec Ideal S1x9x1024 .f32) (g : FVec Ideal S4x6x1024 .f32) (w : FVec Ideal S1x1024x5120 .f32) : FVec Ideal S16x256x5120 .f32 :=
  project_prompt (enter_prompt y μ (shapeCast S6x1024 (extractStridedSlice S1x6x1024 ![2, 0, 0] g slices_S4x6x1024_S1x6x1024_2_0_0) shapeCasts_S1x6x1024_S6x1024)) (shapeCast S1024x5120 w shapeCasts_S1x1024x5120_S1024x5120)
theorem out_prompt_at (y : FVec Ideal S16x256x1024 .f32) (μ : FVec Ideal S1x9x1024 .f32) (g : FVec Ideal S4x6x1024 .f32) (w : FVec Ideal S1x1024x5120 .f32) (b : Fin 16) (s : Fin 256) (n : Fin 5120) :
    out_prompt y μ g w (ix3 b s n) = projected (fun k => y (ix3 b s k)) (fun i k => μ (ix3 0 i k)) (fun a b => g (ix3 2 a b)) (fun a b => w (ix3 0 a b)) n := by
  unfold out_prompt projected
  rw [project_prompt_at]
  simp only [enter_prompt_at, cut_g, cut_w]

end Cert.ProjRefIdeal.At
end
-- ==== Proof.ProjBlock.lean ====
module

public import proofs.«01_k».proof.Proof.Gen.ProjIdeal.Frame
public import proofs.«01_k».proof.Proof.MixRef

@[expose] public section

set_option maxRecDepth 16384
noncomputable section
open Idealize.ShloMosaic Idealize.ShloMosaic.TcCoe Idealize.SL.Sem
namespace Cert.ProjIdeal.Hand
open Cert.ProjIdeal Cert.ProjIdeal.Gen Cert.Tok
variable (m : (ℓ : Loc nD τ sig) → Buf (Elt Ideal) ℓ)

/-- The row that the projection takes, and 512 of its columns. -/
theorem pay4_at (u : FVec Ideal S1x9x1024 .f32) (x : FVec Ideal S512x1024 .f32) (g : FVec Ideal S1x1x1024 .f32) (r : Fin 512) (j : Fin 1024) :
    k0_pay4 (F := Ideal) u x g (ix2 r j) = entered (fun k => x (ix2 r k)) (fun k => u (ix3 0 3 k)) (fun k => u (ix3 0 4 k)) (fun k => g (ix3 0 0 k)) j := by
  unfold entered rms
  pointwise [k0_pay4]
theorem pay3_at (h : FVec Ideal S512x1024 .bf16) (w : FVec Ideal S1x1024x512 .f32) (r n : Fin 512) :
    k0_pay3 (F := Ideal) h w (ix2 r n) = ∑ k, h (ix2 r k) * w (ix3 0 k n) := by
  pointwise [k0_pay3]

/-- A part of the gains' block and of the weights' block at an index. -/
theorem ld_g (g : FVec Ideal S1x6x1024 .f32) (k : Fin 1024) :
    View.ld (Val := Elt Ideal) (S := S1x6x1024) (e' := .f32) g (Rect.unit ![0, 2, 0] ![1, 1, 1024] inb_S1x6x1024_S1x1x1024_0_2_0) (ix3 0 0 k) = g (ix3 0 2 k) := by
  refine congrArg g (funext (Fin.forall_fin_succ.mpr ⟨Fin.ext ?_, Fin.forall_fin_two.mpr ⟨Fin.ext ?_, Fin.ext ?_⟩⟩))
  · show 0 + 1 * 0 = 0; rfl
  · show 2 + 1 * 0 = 2; rfl
  · show 0 + 1 * (k : ℕ) = k; omega
theorem ld_w (w : FVec Ideal S1x1024x5120 .f32) (o : ℕ) (inb) (h : o + 512 ≤ 5120) (k : Fin 1024) (n : Fin 512) (N : Fin 5120) (e : (N : ℕ) = o + n) :
    View.ld (Val := Elt Ideal) (S := S1x1024x5120) (e' := .f32) w (Rect.unit ![0, 0, o] ![1, 1024, 512] inb) (ix3 0 k n) = w (ix3 0 k N) := by
  refine congrArg w (funext (Fin.forall_fin_succ.mpr ⟨Fin.ext ?_, Fin.forall_fin_two.mpr ⟨Fin.ext ?_, Fin.ext ?_⟩⟩))
  · show 0 + 1 * 0 = 0; rfl
  · show 0 + 1 * (k : ℕ) = k; omega
  · show o + 1 * (n : ℕ) = N; omega

/-- The body's rows and their projection from the input blocks. -/
def taken (x : FVec Ideal S512x1024 .f32) (u : FVec Ideal S1x9x1024 .f32) (g : FVec Ideal S1x6x1024 .f32) : FVec Ideal S512x1024 .bf16 :=
  k0_pay4 (F := Ideal) u x (View.ld (Val := Elt Ideal) (e' := .f32) g (Rect.unit ![0, 2, 0] ![1, 1, 1024] inb_S1x6x1024_S1x1x1024_0_2_0))
theorem taken_at (x : FVec Ideal S512x1024 .f32) (u : FVec Ideal S1x9x1024 .f32) (g : FVec Ideal S1x6x1024 .f32) (r : Fin 512) (j : Fin 1024) :
    taken x u g (ix2 r j) = entered (fun k => x (ix2 r k)) (fun k => u (ix3 0 3 k)) (fun k => u (ix3 0 4 k)) (fun k => g (ix3 0 2 k)) j := by
  unfold taken
  rw [pay4_at]
  exact congrArg (fun f => entered _ _ _ f j) (funext fun k => ld_g g k)

/-- One part of the output's columns, at an index. -/
theorem tile_eq (x : FVec Ideal S512x1024 .f32) (u : FVec Ideal S1x9x1024 .f32) (g : FVec Ideal S1x6x1024 .f32) (w : FVec Ideal S1x1024x5120 .f32)
    (o : ℕ) (inb) (h : o + 512 ≤ 5120) (y : S512x5120.Idx) (z : S512x512.Idx) (e0 : (y 0 : ℕ) = z 0) (e1 : (y 1 : ℕ) = o + z 1) :
    k0_pay3 (F := Ideal) (taken x u g) (View.ld (Val := Elt Ideal) (S := S1x1024x5120) (e' := .f32) w (Rect.unit ![0, 0, o] ![1, 1024, 512] inb)) z
      = ∑ k, taken x u g (ix2 (y 0) k) * w (ix3 0 k (y 1)) := by
  have hz : z = ix2 ⟨(z 0 : ℕ), (z 0).isLt⟩ ⟨(z 1 : ℕ), (z 1).isLt⟩ := funext (Fin.forall_fin_two.mpr ⟨rfl, rfl⟩)
  refine (congrArg (k0_pay3 (F := Ideal) (taken x u g) _) hz).trans ((pay3_at _ _ _ _).trans ?_)
  refine Finset.sum_congr rfl fun k _ => congrArg₂ (· * ·) (congrArg (fun a => taken x u g (ix2 a k)) (Fin.ext e0.symm)) ?_
  exact ld_w w o inb h k _ (y 1) e1

set_option maxHeartbeats 4000000 in
/-- The output's block after a point, at an index. -/
theorem point (c : Dev nD) (t : Fin cfg0.N) (y : S512x5120.Idx) :
    (dats m 0 c).after 4 t y = ∑ k, taken (iblk m c 0 t) (iblk m c 1 t) (iblk m c 2 t) (ix2 (y 0) k) * (iblk m c 3 t : FVec Ideal S1x1024x5120 .f32) (ix3 0 k (y 1)) := by
  rw [after0_4]
  generalize iblk m c 0 t = x0
  generalize iblk m c 1 t = x1
  generalize iblk m c 2 t = x2
  generalize iblk m c 3 t = x3
  unfold_out out0_4
  simp (disch := decide) only [View.ld_unit_lit']
  canon_tiles x h
  all_goals exact tile_eq x0 x1 x2 x3 _ _ (by decide) y x h0 (by omega)

end Cert.ProjIdeal.Hand
end
-- ==== Proof.ProjFinal.lean ====
module

public import proofs.«01_k».proof.Proof.ProjBlock
public import proofs.«01_k».proof.Proof.HalfRows

@[expose] public section

set_option maxRecDepth 16384
noncomputable section
open Idealize.ShloMosaic Idealize.ShloMosaic.TcCoe Idealize.SL.Sem
namespace Cert.ProjIdeal.Hand
open Cert.ProjIdeal Cert.ProjIdeal.Gen Cert.Tok
open Cert.ProjRefIdeal.At (projected out_sample out_prompt out_sample_at out_prompt_at)
variable (m : (ℓ : Loc nD τ sig) → Buf (Elt Ideal) ℓ)

/-- The arrays that the host code makes before the launch. -/
theorem V_x (c : Dev nD) : @Eq (FVec Ideal S12288x1024 .f32) (V m c main_v4) (concatenate S12288x1024 0 [⟨S8192x1024, shapeCast S8192x1024 (m ((c : Thread nD τ).loc main_arg1) : FVec Ideal S8x1024x1024 .f32) shapeCasts_S8x1024x1024_S8192x1024⟩,
    ⟨S4096x1024, shapeCast S4096x1024 (m ((c : Thread nD τ).loc main_arg0) : FVec Ideal S16x256x1024 .f32) shapeCasts_S16x256x1024_S4096x1024⟩] concatenates_S8192x1024_S4096x1024_S12288x1024_d0) := by
  show StableHlo.after hostOps0 _ _ = _
  simp only [hostOps0]; after_results; dsimp only [Matrix.cons_val]; after_results_loop; rfl
theorem V_mods (c : Dev nD) : @Eq (FVec Ideal S16x9x1024 .f32) (V m c main_v1) (concatenate S16x9x1024 0 [⟨S8x9x1024, (m ((c : Thread nD τ).loc main_arg3) : FVec Ideal S8x9x1024 .f32)⟩, ⟨S1x9x1024, (m ((c : Thread nD τ).loc main_arg2) : FVec Ideal S1x9x1024 .f32)⟩,
    ⟨S7x9x1024, broadcastInDim S7x9x1024 ![] bcast_S_S7x9x1024 (constant (F := Ideal) S_ .f32 0x00000000#32)⟩] concatenates_S8x9x1024_S1x9x1024_S7x9x1024_S16x9x1024_d0) := by
  show StableHlo.after hostOps0 _ _ = _
  simp only [hostOps0]; after_results; dsimp only [Matrix.cons_val]; after_results_loop; rfl
/-- Where the blocks of each grid point lie. -/
theorem idx : ∀ t : Fin cfg0.N, (grid0.coords t 0 : ℕ) = t ∧ win0_0.index t = ![(t : ℕ), 0] ∧ win0_1.index t = ![min ((t : ℕ) / 2) 8, 0, 0] ∧ win0_2.index t = ![2, 0, 0] ∧ win0_3.index t = ![0, 0, 0]
    ∧ win0_4.index t = ![(t : ℕ), 0] :=
  (by decide +kernel : ∀ t : Fin grid0.N, _)

/-- The output's block after a point, from the token's row. -/
theorem payload_at (c : Dev nD) (t : Fin cfg0.N) (r : Fin 512) (n : Fin 5120) :
    (dats m 0 c).after 4 t (ix2 r n) = projected (fun k => (iblk m c 0 t : FVec Ideal S512x1024 .f32) (ix2 r k)) (fun a b => (iblk m c 1 t : FVec Ideal S1x9x1024 .f32) (ix3 0 a b))
      (fun a b => (iblk m c 2 t : FVec Ideal S1x6x1024 .f32) (ix3 0 a b)) (fun a b => (iblk m c 3 t : FVec Ideal S1x1024x5120 .f32) (ix3 0 a b)) n := by
  refine (point m c t (ix2 r n)).trans ?_
  unfold projected
  exact Finset.sum_congr (M := EReal) rfl fun k _ => congrArg (fun a : EReal => a * (iblk m c 3 t : FVec Ideal S1x1024x5120 .f32) (ix3 0 k n)) (taken_at _ _ _ r k)

/-- A block of sample rows, and one of prompt rows, at an index. -/
theorem block_s (c : Dev nD) (t : Fin cfg0.N) (h : t.val < 16) (r : Fin 512) (n : Fin 5120) :
    (dats m 0 c).after 4 t (ix2 r n)
      = projected (fun k => (m ((c : Thread nD τ).loc main_arg1) : FVec Ideal S8x1024x1024 .f32) (ix3 ⟨(t * 512 + r : ℕ) / 1024, by omega⟩ ⟨(t * 512 + r : ℕ) % 1024, by omega⟩ k))
          (fun a b => (m ((c : Thread nD τ).loc main_arg3) : FVec Ideal S8x9x1024 .f32) (ix3 ⟨(t * 512 + r : ℕ) / 1024, by omega⟩ a b))
          (fun a b => (m ((c : Thread nD τ).loc main_arg4) : FVec Ideal S4x6x1024 .f32) (ix3 2 a b))
          (fun a b => (m ((c : Thread nD τ).loc main_arg5) : FVec Ideal S1x1024x5120 .f32) (ix3 0 a b)) n := by
  obtain ⟨-, i0, i1, i2, i3, -⟩ := idx t
  refine (payload_at m c t r n).trans ?_
  refine congrFun (congr (congr (congr (congrArg projected (funext fun k => ?_)) (funext fun a => funext fun b => ?_)) (funext fun a => funext fun b => ?_)) (funext fun a => funext fun b => ?_)) n
  · refine Eq.trans ?_ ((congrFun (V_x m c) (ix2 ⟨t * 512 + r, by have := t.isLt; have : cfg0.N = 24 := rfl; omega⟩ k)).trans ((FfnIdeal.Hand.cat_s _ _ _ ⟨t * 512 + r, by omega⟩ k).trans (FfnIdeal.Hand.rows_s _ _ ⟨t * 512 + r, by omega⟩ k)))
    blk_point [iblk, i0]
  · refine Eq.trans ?_ ((congrFun (V_mods m c) (ix3 ⟨(t * 512 + r : ℕ) / 1024, by omega⟩ a b)).trans (FfnIdeal.Hand.mods_s _ _ _ _ ⟨(t * 512 + r : ℕ) / 1024, by omega⟩ a b))
    blk_point [iblk, i1]
  · rw [← V_main_arg4 m c]; blk_point [iblk, i2]
  · rw [← V_main_arg5 m c]; blk_point [iblk, i3]

theorem block_p (c : Dev nD) (t : Fin cfg0.N) (h : 16 ≤ t.val) (r : Fin 512) (n : Fin 5120) :
    (dats m 0 c).after 4 t (ix2 r n)
      = projected (fun k => (m ((c : Thread nD τ).loc main_arg0) : FVec Ideal S16x256x1024 .f32) (ix3 ⟨((t - 16) * 512 + r : ℕ) / 256, by have := t.isLt; have : cfg0.N = 24 := rfl; omega⟩ ⟨((t - 16) * 512 + r : ℕ) % 256, by omega⟩ k))
          (fun a b => (m ((c : Thread nD τ).loc main_arg2) : FVec Ideal S1x9x1024 .f32) (ix3 0 a b))
          (fun a b => (m ((c : Thread nD τ).loc main_arg4) : FVec Ideal S4x6x1024 .f32) (ix3 2 a b))
          (fun a b => (m ((c : Thread nD τ).loc main_arg5) : FVec Ideal S1x1024x5120 .f32) (ix3 0 a b)) n := by
  obtain ⟨-, i0, i1, i2, i3, -⟩ := idx t
  refine (payload_at m c t r n).trans ?_
  refine congrFun (congr (congr (congr (congrArg projected (funext fun k => ?_)) (funext fun a => funext fun b => ?_)) (funext fun a => funext fun b => ?_)) (funext fun a => funext fun b => ?_)) n
  · refine Eq.trans ?_ ((congrFun (V_x m c) (ix2 ⟨8192 + ((t - 16) * 512 + r), by have := t.isLt; have : cfg0.N = 24 := rfl; omega⟩ k)).trans ((FfnIdeal.Hand.cat_p _ _ _ ⟨(t - 16) * 512 + r, by have := t.isLt; have : cfg0.N = 24 := rfl; omega⟩ k).trans (FfnIdeal.Hand.rows_p _ _ ⟨(t - 16) * 512 + r, by have := t.isLt; have : cfg0.N = 24 := rfl; omega⟩ k)))
    blk_point [iblk, i0]
  · refine Eq.trans ?_ ((congrFun (V_mods m c) (ix3 8 a b)).trans (FfnIdeal.Hand.mods_p _ _ _ _ a b))
    blk_point [iblk, i1]
  · rw [← V_main_arg4 m c]; blk_point [iblk, i2]
  · rw [← V_main_arg5 m c]; blk_point [iblk, i3]

/-- The rows of the two phases laid one after the other, and each phase's rows of its tokens. -/
theorem cat_s (A : FVec Ideal ProjRefIdeal.S8192x5120 .f32) (B : FVec Ideal ProjRefIdeal.S4096x5120 .f32) (h) (R : Fin 8192) (k : Fin 5120) :
    concatenate S12288x5120 0 [⟨ProjRefIdeal.S8192x5120, A⟩, ⟨ProjRefIdeal.S4096x5120, B⟩] h (ix2 ⟨R, by omega⟩ k) = A (ix2 R k) := by
  pointwise []
theorem cat_p (A : FVec Ideal ProjRefIdeal.S8192x5120 .f32) (B : FVec Ideal ProjRefIdeal.S4096x5120 .f32) (h) (R : Fin 4096) (k : Fin 5120) :
    concatenate S12288x5120 0 [⟨ProjRefIdeal.S8192x5120, A⟩, ⟨ProjRefIdeal.S4096x5120, B⟩] h (ix2 ⟨8192 + R, by omega⟩ k) = B (ix2 R k) := by
  pointwise []
theorem rows_s (A : FVec Ideal ProjRefIdeal.S8x1024x5120 .f32) (h) (R : Fin 8192) (k : Fin 5120) :
    (shapeCast ProjRefIdeal.S8192x5120 A h) (ix2 R k) = A (ix3 ⟨(R : ℕ) / 1024, by omega⟩ ⟨(R : ℕ) % 1024, by omega⟩ k) := by
  pointwise []
theorem rows_p (A : FVec Ideal ProjRefIdeal.S16x256x5120 .f32) (h) (R : Fin 4096) (k : Fin 5120) :
    (shapeCast ProjRefIdeal.S4096x5120 A h) (ix2 R k) = A (ix3 ⟨(R : ℕ) / 256, by omega⟩ ⟨(R : ℕ) % 256, by omega⟩ k) := by
  pointwise []

/-- An index of the output's block at its place in the whole. -/
theorem place (ι : Fin 2 → ℕ) (T : ℕ) (y : S512x5120.Idx) (h0 : ι 0 = T) (h1 : ι 1 = 0) (i : S12288x5120.Idx) (e0 : (i 0 : ℕ) = ι 0 * 512 + (y 0 : ℕ)) (e1 : (i 1 : ℕ) = ι 1 * 5120 + (y 1 : ℕ)) (R : Fin 12288) (hR : (R : ℕ) = T * 512 + (y 0 : ℕ)) :
    ix2 R ⟨(y 1 : ℕ), (y 1).isLt⟩ = i := by
  refine funext (Fin.forall_fin_two.mpr ⟨Fin.ext ?_, Fin.ext ?_⟩)
  · rw [e0, h0]; exact hR
  · rw [e1, h1]; show (y 1 : ℕ) = 0 * _ + _; omega

/-- The result that the two programs are compared by: the rows of the two phases, one after the other. -/
def rows (yp : FVec Ideal S16x256x1024 .f32) (ys : FVec Ideal S8x1024x1024 .f32) (mp : FVec Ideal S1x9x1024 .f32) (ms : FVec Ideal S8x9x1024 .f32) (g : FVec Ideal S4x6x1024 .f32)
    (w : FVec Ideal S1x1024x5120 .f32) : FVec Ideal S12288x5120 .f32 :=
  concatenate S12288x5120 0 [⟨ProjRefIdeal.S8192x5120, shapeCast ProjRefIdeal.S8192x5120 (out_sample ys ms g w) ProjRefIdeal.Gen.shapeCasts_S8x1024x5120_S8192x5120⟩,
    ⟨ProjRefIdeal.S4096x5120, shapeCast ProjRefIdeal.S4096x5120 (out_prompt yp mp g w) ProjRefIdeal.Gen.shapeCasts_S16x256x5120_S4096x5120⟩] ProjRefIdeal.Gen.concatenates_S8192x5120_S4096x5120_S12288x5120_d0

set_option maxHeartbeats 4000000 in
/-- The output after the run. -/
theorem final (c : Dev nD) : (dats m 0 c).arrAt 4 cfg0.N = rows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (dats m 0 c).arrAt_eq_of_covers 4 _ (by decide +kernel) fun t hf y => ?_
  blk_simp
  have ei : win0_4.index t = ![(t : ℕ), 0] := by have := idx t; tauto
  have hN : (t : ℕ) < 24 := t.isLt
  have hr : (y 0 : ℕ) < 512 := (y 0).isLt
  have hy : y = ix2 ⟨(y 0 : ℕ), (y 0).isLt⟩ ⟨(y 1 : ℕ), (y 1).isLt⟩ := funext (Fin.forall_fin_two.mpr ⟨rfl, rfl⟩)
  refine (congrArg ((dats m 0 c).after 4 t) hy).trans ?_
  rcases lt_or_ge (t : ℕ) 16 with h | h
  · refine (block_s m c t h _ _).trans (Eq.trans ?_ (congrArg (rows _ _ _ _ _ _) (place _ t y (congrFun ei 0) (congrFun ei 1) _ (by blk_simp; try rfl) (by blk_simp; try rfl) ⟨t * 512 + (y 0 : ℕ), by omega⟩ rfl)))
    refine Eq.symm ((cat_s _ _ _ ⟨t * 512 + (y 0 : ℕ), by omega⟩ _).trans ((rows_s _ _ _ _).trans ?_))
    exact out_sample_at _ _ _ _ _ _ _
  · refine (block_p m c t h _ _).trans (Eq.trans ?_ (congrArg (rows _ _ _ _ _ _) (place _ t y (congrFun ei 0) (congrFun ei 1) _ (by blk_simp; try rfl) (by blk_simp; try rfl) ⟨8192 + ((t - 16) * 512 + (y 0 : ℕ)), by omega⟩ (by show 8192 + ((t - 16) * 512 + (y 0 : ℕ)) = _; omega))))
    refine Eq.symm ((cat_p _ _ _ ⟨(t - 16) * 512 + (y 0 : ℕ), by omega⟩ _).trans ((rows_p _ _ _ _).trans ?_))
    exact out_prompt_at _ _ _ _ _ _ _

end Cert.ProjIdeal.Hand
end
-- ==== Proof.ConvTok.lean ====
module

public import proofs.«01_k».proof.Proof.FfnTok

@[expose] public section

noncomputable section
open Idealize.ShloMosaic
namespace Cert.Tok

/-- The two gates of a token's row multiplied: what the convolution runs over. -/
def product (h : Fin 1024 → EReal) (W : Fin 1024 → Fin 3072 → EReal) (c : Fin 1024) : EReal :=
  (∑ k, h k * W k ⟨1024 + c, by omega⟩) * ∑ k, h k * W k ⟨2048 + c, by omega⟩

/-- The gated convolution of three neighbours: the rows before and after the token's enter as their products. -/
def convolved (h l r : Fin 1024 → EReal) (W : Fin 1024 → Fin 3072 → EReal) (cw : Fin 3 → Fin 1024 → EReal) (cb : Fin 1024 → EReal) (c : Fin 1024) : EReal :=
  (∑ k, h k * W k ⟨c, by omega⟩) * (cb c + l c * cw 0 c + product h W c * cw 1 c + r c * cw 2 c)

/-- A row or zero. -/
def orZero (p : Prop) [Decidable p] (f : Fin 1024 → EReal) (c : Fin 1024) : EReal := if p then 0 else f c

/-- The convolution layer on one token, from its row and those of its neighbours, which are left out at the ends. -/
def convLayer (p q : Prop) [Decidable p] [Decidable q] (x l r : Fin 1024 → EReal) (m : Fin 9 → Fin 1024 → EReal) (g : Fin 6 → Fin 1024 → EReal)
    (W : Fin 1024 → Fin 3072 → EReal) (cw : Fin 3 → Fin 1024 → EReal) (cb : Fin 1024 → EReal) (wo : Fin 1024 → Fin 1024 → EReal) : Fin 1024 → EReal :=
  let e := fun y => entered y (m 3) (m 4) (g 2)
  joined x (mixed (convolved (e x) (orZero p (product (e l) W)) (orZero q (product (e r) W)) W cw cb) wo) (m 5) (g 3)

theorem orZero_congr {p p' : Prop} [Decidable p] [Decidable p'] {f f' : Fin 1024 → EReal} (hp : p ↔ p') (hf : ¬p → f = f') : orZero p f = orZero p' f' := by
  funext c
  unfold orZero
  by_cases h : p
  · rw [if_pos h, if_pos (hp.mp h)]
  · rw [if_neg h, if_neg (mt hp.mpr h), hf h]

/-- At an end the neighbour is not read. -/
theorem convLayer_congr {p p' q q' : Prop} [Decidable p] [Decidable p'] [Decidable q] [Decidable q'] {x x' l l' r r' : Fin 1024 → EReal} {m m' : Fin 9 → Fin 1024 → EReal} {g g' : Fin 6 → Fin 1024 → EReal}
    {W W' : Fin 1024 → Fin 3072 → EReal} {cw cw' : Fin 3 → Fin 1024 → EReal} {cb cb' : Fin 1024 → EReal} {wo wo' : Fin 1024 → Fin 1024 → EReal}
    (hp : p ↔ p') (hq : q ↔ q') (hx : x = x') (hl : ¬p → l = l') (hr : ¬q → r = r') (hm : m = m') (hg : g = g') (hW : W = W') (hcw : cw = cw') (hcb : cb = cb') (hwo : wo = wo') :
    convLayer p q x l r m g W cw cb wo = convLayer p' q' x' l' r' m' g' W' cw' cb' wo' := by
  subst hx hm hg hW hcw hcb hwo
  unfold convLayer
  dsimp only
  rw [orZero_congr hp fun h => congrArg (fun f => product (entered f (m 3) (m 4) (g 2)) W) (hl h), orZero_congr hq fun h => congrArg (fun f => product (entered f (m 3) (m 4) (g 2)) W) (hr h)]

end Cert.Tok
end
-- ==== Proof.ConvBlock.lean ====
module

public import proofs.«01_k».proof.Proof.Gen.ConvIdeal.Frame
public import proofs.«01_k».proof.Proof.ConvTok
public import Idealize.ShloMosaic.Lib.Pipeline.ReadBack

@[expose] public section

set_option maxRecDepth 16384
noncomputable section
open Idealize.ShloMosaic Idealize.ShloMosaic.TcCoe Idealize.SL.Sem
namespace Cert.ConvIdeal.Hand
open Cert.ConvIdeal Cert.ConvIdeal.Gen Cert.Tok
variable (m : (ℓ : Loc nD τ sig) → Buf (Elt Ideal) ℓ)

/-- The rows that the layer takes. -/
theorem pay2_at (u : FVec Ideal S1x9x1024 .f32) (x : FVec Ideal S1024x1024 .f32) (g : FVec Ideal S1x1x1024 .f32) (r j : Fin 1024) :
    k0_pay2 (F := Ideal) u x g (ix2 r j) = entered (fun k => x (ix2 r k)) (fun k => u (ix3 0 3 k)) (fun k => u (ix3 0 4 k)) (fun k => g (ix3 0 0 k)) j := by
  unfold entered rms
  pointwise [k0_pay2]

/-- The rows that the layer gives. -/
theorem pay1_at (a : FVec Ideal S1024x1024 .bf16) (w : FVec Ideal S1x1024x1024 .f32) (g : FVec Ideal S1x1x1024 .f32) (x : FVec Ideal S1024x1024 .f32) (u : FVec Ideal S1x1x1024 .f32) (r j : Fin 1024) :
    k0_pay1 (F := Ideal) a w g x u (ix2 r j) = joined (fun k => x (ix2 r k)) (mixed (fun k => a (ix2 r k)) (fun k n => w (ix3 0 k n))) (fun k => u (ix3 0 0 k)) (fun k => g (ix3 0 0 k)) j := by
  unfold joined rms mixed
  pointwise [k0_pay1]

/-- The two gates multiplied in a part of the columns, and one column's gated convolution there. -/
def prod (h : FVec Ideal S1024x1024 .bf16) (wz wu : FVec Ideal S1x1024x256 .f32) (r : Fin 1024) (n : Fin 256) : EReal :=
  (∑ k, h (ix2 r k) * wz (ix3 0 k n)) * ∑ k, h (ix2 r k) * wu (ix3 0 k n)
def chunk (h : FVec Ideal S1024x1024 .bf16) (f l : IVec S1024x256 1) (cw0 cw1 cw2 cb : EReal) (wz wu wg : FVec Ideal S1x1024x256 .f32) (r : Fin 1024) (n : Fin 256) : EReal :=
  (∑ k, h (ix2 r k) * wg (ix3 0 k n)) * (cb + Scalar.select (f (ix2 r n)) 0 (prod h wz wu ⟨(r + 1024 - 1) % 1024, by omega⟩ n) * cw0
    + prod h wz wu r n * cw1 + Scalar.select (l (ix2 r n)) 0 (prod h wz wu ⟨(r + 1024 - 1023) % 1024, by omega⟩ n) * cw2)

theorem pay8_at (h : FVec Ideal S1024x1024 .bf16) (f l : IVec S1024x256 1) (cw : FVec Ideal S1x3x1024 .f32) (cb : FVec Ideal S1x1x1024 .f32) (wz wu wg : FVec Ideal S1x1024x256 .f32) (r : Fin 1024) (n : Fin 256) :
    k0_pay8 (F := Ideal) h f l cw cb wz wu wg (ix2 r n)
      = chunk h f l (cw (ix3 0 0 ⟨n, by omega⟩)) (cw (ix3 0 1 ⟨n, by omega⟩)) (cw (ix3 0 2 ⟨n, by omega⟩)) (cb (ix3 0 0 ⟨n, by omega⟩)) wz wu wg r n := by
  unfold chunk prod
  pointwise [k0_pay8, k0_pay6, k0_pay7]
theorem pay10_at (h : FVec Ideal S1024x1024 .bf16) (f l : IVec S1024x256 1) (cw : FVec Ideal S1x3x1024 .f32) (cb : FVec Ideal S1x1x1024 .f32) (wz wu wg : FVec Ideal S1x1024x256 .f32) (r : Fin 1024) (n : Fin 256) :
    k0_pay10 (F := Ideal) h f l (k0_pay6 (F := Ideal) cw) (k0_pay7 (F := Ideal) cb) wz wu wg (ix2 r n)
      = chunk h f l (cw (ix3 0 0 ⟨256 + n, by omega⟩)) (cw (ix3 0 1 ⟨256 + n, by omega⟩)) (cw (ix3 0 2 ⟨256 + n, by omega⟩)) (cb (ix3 0 0 ⟨256 + n, by omega⟩)) wz wu wg r n := by
  unfold chunk prod
  pointwise [k0_pay10, k0_pay6, k0_pay7]
theorem pay11_at (h : FVec Ideal S1024x1024 .bf16) (f l : IVec S1024x256 1) (cw : FVec Ideal S1x3x1024 .f32) (cb : FVec Ideal S1x1x1024 .f32) (wz wu wg : FVec Ideal S1x1024x256 .f32) (r : Fin 1024) (n : Fin 256) :
    k0_pay11 (F := Ideal) h f l (k0_pay6 (F := Ideal) cw) (k0_pay7 (F := Ideal) cb) wz wu wg (ix2 r n)
      = chunk h f l (cw (ix3 0 0 ⟨512 + n, by omega⟩)) (cw (ix3 0 1 ⟨512 + n, by omega⟩)) (cw (ix3 0 2 ⟨512 + n, by omega⟩)) (cb (ix3 0 0 ⟨512 + n, by omega⟩)) wz wu wg r n := by
  unfold chunk prod
  pointwise [k0_pay11, k0_pay6, k0_pay7]
theorem pay12_at (h : FVec Ideal S1024x1024 .bf16) (f l : IVec S1024x256 1) (cw : FVec Ideal S1x3x1024 .f32) (cb : FVec Ideal S1x1x1024 .f32) (wz wu wg : FVec Ideal S1x1024x256 .f32) (r : Fin 1024) (n : Fin 256) :
    k0_pay12 (F := Ideal) h f l (k0_pay6 (F := Ideal) cw) (k0_pay7 (F := Ideal) cb) wz wu wg (ix2 r n)
      = chunk h f l (cw (ix3 0 0 ⟨768 + n, by omega⟩)) (cw (ix3 0 1 ⟨768 + n, by omega⟩)) (cw (ix3 0 2 ⟨768 + n, by omega⟩)) (cb (ix3 0 0 ⟨768 + n, by omega⟩)) wz wu wg r n := by
  unfold chunk prod
  pointwise [k0_pay12, k0_pay6, k0_pay7]
theorem pay9_at (a : FVec Ideal S1024x256 .bf16) (r : Fin 1024) (n : Fin 256) : k0_pay9 (F := Ideal) a (ix2 r n) = a (ix2 r n) := by
  pointwise [k0_pay9]

/-- The length of a sequence: a sample's, then a prompt's. -/
def seq (t : ℕ) : ℕ := if t < 8 then 1024 else 256

/-- The masks of the first and of the last row of each sequence. -/
theorem first_bit : ∀ (t : Fin 12) (r : Fin 1024),
    IntOp.cmpi .eq (IntOp.andi (BitVec.ofNat 32 r) (Scalar.subi (Scalar.select (Scalar.cmpi .slt (BitVec.ofNat 32 t) 8#32) 1024#32 256#32) 1#32)) 0#32 = if (r : ℕ) % seq t = 0 then 1#1 else 0#1 := by
  decide +kernel
theorem last_bit : ∀ (t : Fin 12) (r : Fin 1024),
    IntOp.cmpi .eq (IntOp.andi (BitVec.ofNat 32 r) (Scalar.subi (Scalar.select (Scalar.cmpi .slt (BitVec.ofNat 32 t) 8#32) 1024#32 256#32) 1#32)) (Scalar.subi (Scalar.select (Scalar.cmpi .slt (BitVec.ofNat 32 t) 8#32) 1024#32 256#32) 1#32)
      = if (r : ℕ) % seq t + 1 = seq t then 1#1 else 0#1 := by
  decide +kernel
theorem pay4_at (i : grid0.Coords) (r : Fin 1024) (n : Fin 256) : k0_pay4 i (ix2 r n) = if (r : ℕ) % seq (i 0) = 0 then 1#1 else 0#1 := by
  refine Eq.trans ?_ (first_bit ⟨i 0, (i 0).isLt⟩ r)
  pointwise [k0_pay4, k0_pay3]
theorem pay5_at (i : grid0.Coords) (r : Fin 1024) (n : Fin 256) : k0_pay5 i (ix2 r n) = if (r : ℕ) % seq (i 0) + 1 = seq (i 0) then 1#1 else 0#1 := by
  refine Eq.trans ?_ (last_bit ⟨i 0, (i 0).isLt⟩ r)
  pointwise [k0_pay5, k0_pay3]
theorem select_bit (p : Prop) [Decidable p] (f : Fin 1024 → EReal) (c : Fin 1024) : Scalar.select (if p then 1#1 else 0#1) 0 (f c) = orZero p f c := by
  unfold orZero; split <;> rfl

/-- Parts of the blocks of gains, modulation and weights at an index. -/
theorem ld_g (g : FVec Ideal S1x6x1024 .f32) (a : ℕ) (inb) (A : Fin 6) (e : (A : ℕ) = a) (k : Fin 1024) :
    View.ld (Val := Elt Ideal) (S := S1x6x1024) (e' := .f32) g (Rect.unit ![0, a, 0] ![1, 1, 1024] inb) (ix3 0 0 k) = g (ix3 0 A k) := by
  refine congrArg g (funext (Fin.forall_fin_succ.mpr ⟨Fin.ext ?_, Fin.forall_fin_two.mpr ⟨Fin.ext ?_, Fin.ext ?_⟩⟩))
  · show 0 + 1 * 0 = 0; rfl
  · show a + 1 * 0 = A; omega
  · show 0 + 1 * (k : ℕ) = k; omega
theorem ld_u (u : FVec Ideal S1x9x1024 .f32) (a : ℕ) (inb) (A : Fin 9) (e : (A : ℕ) = a) (k : Fin 1024) :
    View.ld (Val := Elt Ideal) (S := S1x9x1024) (e' := .f32) u (Rect.unit ![0, a, 0] ![1, 1, 1024] inb) (ix3 0 0 k) = u (ix3 0 A k) := by
  refine congrArg u (funext (Fin.forall_fin_succ.mpr ⟨Fin.ext ?_, Fin.forall_fin_two.mpr ⟨Fin.ext ?_, Fin.ext ?_⟩⟩))
  · show 0 + 1 * 0 = 0; rfl
  · show a + 1 * 0 = A; omega
  · show 0 + 1 * (k : ℕ) = k; omega
theorem ld_w (w : FVec Ideal S1x1024x3072 .f32) (o : ℕ) (inb) (k : Fin 1024) (n : Fin 256) (N : Fin 3072) (e : (N : ℕ) = o + n) :
    View.ld (Val := Elt Ideal) (S := S1x1024x3072) (e' := .f32) w (Rect.unit ![0, 0, o] ![1, 1024, 256] inb) (ix3 0 k n) = w (ix3 0 k N) := by
  refine congrArg w (funext (Fin.forall_fin_succ.mpr ⟨Fin.ext ?_, Fin.forall_fin_two.mpr ⟨Fin.ext ?_, Fin.ext ?_⟩⟩))
  · show 0 + 1 * 0 = 0; rfl
  · show 0 + 1 * (k : ℕ) = k; omega
  · show o + 1 * (n : ℕ) = N; omega

/-- What the body's scratch holds at a row and a column. -/
def conv (i : grid0.Coords) (h : FVec Ideal S1024x1024 .bf16) (w : FVec Ideal S1x1024x3072 .f32) (cw : FVec Ideal S1x3x1024 .f32) (cb : FVec Ideal S1x1x1024 .f32) (r C : Fin 1024) : EReal :=
  convolved (fun k => h (ix2 r k)) (orZero ((r : ℕ) % seq (i 0) = 0) (product (fun k => h (ix2 ⟨(r + 1023) % 1024, by omega⟩ k)) (fun a b => w (ix3 0 a b))))
    (orZero ((r : ℕ) % seq (i 0) + 1 = seq (i 0)) (product (fun k => h (ix2 ⟨(r + 1) % 1024, by omega⟩ k)) (fun a b => w (ix3 0 a b))))
    (fun a b => w (ix3 0 a b)) (fun a b => cw (ix3 0 a b)) (fun b => cb (ix3 0 0 b)) C

/-- The parts of the columns are parts of it. -/
theorem prod_eq (h : FVec Ideal S1024x1024 .bf16) (w : FVec Ideal S1x1024x3072 .f32) (o₁ o₂ : ℕ) (inb₁ inb₂) (r : Fin 1024) (n : Fin 256) (C : Fin 1024) (e₁ : 1024 + (C : ℕ) = o₁ + n) (e₂ : 2048 + (C : ℕ) = o₂ + n) :
    prod h (View.ld (Val := Elt Ideal) (S := S1x1024x3072) (e' := .f32) w (Rect.unit ![0, 0, o₁] ![1, 1024, 256] inb₁)) (View.ld (Val := Elt Ideal) (S := S1x1024x3072) (e' := .f32) w (Rect.unit ![0, 0, o₂] ![1, 1024, 256] inb₂)) r n
      = product (fun k => h (ix2 r k)) (fun a b => w (ix3 0 a b)) C := by
  unfold prod product
  exact congrArg₂ (· * ·) (Finset.sum_congr (M := EReal) rfl fun k _ => congrArg (fun a : EReal => h (ix2 r k) * a) (ld_w w o₁ inb₁ k n _ e₁))
    (Finset.sum_congr (M := EReal) rfl fun k _ => congrArg (fun a : EReal => h (ix2 r k) * a) (ld_w w o₂ inb₂ k n _ e₂))
theorem chunk_eq (i : grid0.Coords) (h : FVec Ideal S1024x1024 .bf16) (w : FVec Ideal S1x1024x3072 .f32) (cw : FVec Ideal S1x3x1024 .f32) (cb : FVec Ideal S1x1x1024 .f32)
    (o₁ o₂ o : ℕ) (inb₁ inb₂ inb) (r : Fin 1024) (n : Fin 256) (C : Fin 1024) (e₁ : 1024 + (C : ℕ) = o₁ + n) (e₂ : 2048 + (C : ℕ) = o₂ + n) (e : (C : ℕ) = o + n) :
    chunk h (k0_pay4 i) (k0_pay5 i) (cw (ix3 0 0 C)) (cw (ix3 0 1 C)) (cw (ix3 0 2 C)) (cb (ix3 0 0 C))
        (View.ld (Val := Elt Ideal) (S := S1x1024x3072) (e' := .f32) w (Rect.unit ![0, 0, o₁] ![1, 1024, 256] inb₁)) (View.ld (Val := Elt Ideal) (S := S1x1024x3072) (e' := .f32) w (Rect.unit ![0, 0, o₂] ![1, 1024, 256] inb₂))
        (View.ld (Val := Elt Ideal) (S := S1x1024x3072) (e' := .f32) w (Rect.unit ![0, 0, o] ![1, 1024, 256] inb)) r n
      = conv i h w cw cb r C := by
  unfold chunk conv convolved
  rw [show (⟨(r + 1024 - 1) % 1024, by omega⟩ : Fin 1024) = ⟨(r + 1023) % 1024, by omega⟩ from rfl, show (⟨(r + 1024 - 1023) % 1024, by omega⟩ : Fin 1024) = ⟨(r + 1) % 1024, by omega⟩ from rfl,
    prod_eq h w o₁ o₂ inb₁ inb₂ _ n C e₁ e₂, prod_eq h w o₁ o₂ inb₁ inb₂ _ n C e₁ e₂, prod_eq h w o₁ o₂ inb₁ inb₂ _ n C e₁ e₂, pay4_at, pay5_at, select_bit, select_bit]
  exact congrArg (fun a : EReal => a * _) (Finset.sum_congr (M := EReal) rfl fun k _ => congrArg (fun a : EReal => h (ix2 r k) * a) (ld_w w o inb k n _ e))

/-- The body's rows from the input blocks. -/
def taken (x : FVec Ideal S1024x1024 .f32) (u : FVec Ideal S1x9x1024 .f32) (g : FVec Ideal S1x6x1024 .f32) : FVec Ideal S1024x1024 .bf16 :=
  k0_pay2 (F := Ideal) u x (View.ld (Val := Elt Ideal) (e' := .f32) g (Rect.unit ![0, 2, 0] ![1, 1, 1024] inb_S1x6x1024_S1x1x1024_0_2_0))
theorem taken_at (x : FVec Ideal S1024x1024 .f32) (u : FVec Ideal S1x9x1024 .f32) (g : FVec Ideal S1x6x1024 .f32) (r : Fin 1024) :
    (fun j => taken x u g (ix2 r j)) = entered (fun k => x (ix2 r k)) (fun k => u (ix3 0 3 k)) (fun k => u (ix3 0 4 k)) (fun k => g (ix3 0 2 k)) := by
  funext j
  unfold taken
  rw [pay2_at]
  exact congrArg (fun f => entered _ _ _ f j) (funext fun k => ld_g g 2 _ 2 rfl k)

/-- A part of the columns that agrees with `G` there, at an index of the whole. -/
theorem part_eq (G : Fin 1024 → Fin 1024 → EReal) (p : FVec Ideal S1024x256 .bf16) (o : ℕ) (ho : o + 256 ≤ 1024) (h : ∀ r n, p (ix2 r n) = G r ⟨o + n, by omega⟩)
    (y : S1024x1024.Idx) (x : S1024x256.Idx) (e0 : (y 0 : ℕ) = x 0) (e1 : (y 1 : ℕ) = o + x 1) : p x = G (y 0) (y 1) := by
  have hx : x = ix2 ⟨(x 0 : ℕ), (x 0).isLt⟩ ⟨(x 1 : ℕ), (x 1).isLt⟩ := funext (Fin.forall_fin_two.mpr ⟨rfl, rfl⟩)
  exact (congrArg p hx).trans ((h _ _).trans (congrArg₂ G (Fin.ext e0.symm) (Fin.ext e1.symm)))

/-- A read of the whole scratch after its four parts. -/
theorem scratch_eq (v : View sig .tc .vmem S1024x1024 .bf16) (G : Fin 1024 → Fin 1024 → EReal) (p3 p2 p1 p0 : FVec Ideal S1024x256 .bf16)
    (h3' : ∀ r n, p3 (ix2 r n) = G r ⟨768 + n, by omega⟩) (h2' : ∀ r n, p2 (ix2 r n) = G r ⟨512 + n, by omega⟩) (h1' : ∀ r n, p1 (ix2 r n) = G r ⟨256 + n, by omega⟩) (h0' : ∀ r n, p0 (ix2 r n) = G r ⟨0 + n, by omega⟩) (y : S1024x1024.Idx) :
    v.readCov (Val := Elt Ideal) [⟨Rect.unit ![0, 768] ![1024, 256] inb_S1024x1024_S1024x256_0_768, p3⟩, ⟨Rect.unit ![0, 512] ![1024, 256] inb_S1024x1024_S1024x256_0_512, p2⟩, ⟨Rect.unit ![0, 256] ![1024, 256] inb_S1024x1024_S1024x256_0_256, p1⟩, ⟨Rect.unit ![0, 0] ![1024, 256] inb_S1024x1024_S1024x256_0_0, p0⟩] (Rect.unit (s := S1024x1024) ![0, 0] ![1024, 1024] inb_S1024x1024_S1024x1024_0_0).toLoadRect y = G (y 0) (y 1) := by
  have e : (Rect.unit (s := S1024x1024) ![0, 0] ![1024, 1024] inb_S1024x1024_S1024x1024_0_0).toLoadRect.idx y = y :=
    funext (Fin.forall_fin_two.mpr ⟨Fin.ext (by show 0 + 1 * (y 0 : ℕ) = y 0; omega), Fin.ext (by show 0 + 1 * (y 1 : ℕ) = y 1; omega)⟩)
  rw [View.readCov_eq_canon']
  refine (congrArg _ e).trans ?_
  canon_tiles x h
  · exact part_eq G p3 768 (by decide) h3' y x h0 (by omega)
  · exact part_eq G p2 512 (by decide) h2' y x h0 (by omega)
  · exact part_eq G p1 256 (by decide) h1' y x h0 (by omega)
  · exact part_eq G p0 0 (by decide) h0' y x h0 (by omega)

set_option maxHeartbeats 4000000 in
/-- The output's block after a point, at an index. -/
theorem point (c : Dev nD) (t : Fin cfg0.N) (r j : Fin 1024) :
    (dats m 0 c).after 7 t (ix2 r j)
      = convLayer ((r : ℕ) % seq (grid0.coords t 0) = 0) ((r : ℕ) % seq (grid0.coords t 0) + 1 = seq (grid0.coords t 0))
          (fun k => (iblk m c 0 t : FVec Ideal S1024x1024 .f32) (ix2 r k)) (fun k => (iblk m c 0 t : FVec Ideal S1024x1024 .f32) (ix2 ⟨(r + 1023) % 1024, by omega⟩ k)) (fun k => (iblk m c 0 t : FVec Ideal S1024x1024 .f32) (ix2 ⟨(r + 1) % 1024, by omega⟩ k))
          (fun a b => (iblk m c 1 t : FVec Ideal S1x9x1024 .f32) (ix3 0 a b)) (fun a b => (iblk m c 2 t : FVec Ideal S1x6x1024 .f32) (ix3 0 a b)) (fun a b => (iblk m c 3 t : FVec Ideal S1x1024x3072 .f32) (ix3 0 a b))
          (fun a b => (iblk m c 4 t : FVec Ideal S1x3x1024 .f32) (ix3 0 a b)) (fun b => (iblk m c 5 t : FVec Ideal S1x1x1024 .f32) (ix3 0 0 b)) (fun a b => (iblk m c 6 t : FVec Ideal S1x1024x1024 .f32) (ix3 0 a b)) j := by
  rw [after0_7]
  unfold outsAt0; frame_open
  simp (disch := decide) only [View.readAt_eq_ld, View.read_writes_junk_eq_canon, View.ld_unit_lit', Memref.IsWhole.read_unread]
  generalize iblk m c 0 t = x0
  generalize iblk m c 1 t = x1
  generalize iblk m c 2 t = x2
  generalize iblk m c 3 t = x3
  generalize iblk m c 4 t = x4
  generalize iblk m c 5 t = x5
  generalize iblk m c 6 t = x6
  rw [View.canon_cons_unit_lit _ _ _ (by decide)]
  refine (pay1_at _ _ _ _ _ r j).trans ?_
  unfold convLayer
  dsimp only
  refine congrFun (congr (congr (congrArg (joined _) (congrArg (fun f => mixed f _) (funext fun C => ?_))) (funext fun k => ld_u x1 5 _ 5 rfl k)) (funext fun k => ld_g x2 3 _ 3 rfl k)) j
  refine (scratch_eq _ (conv (grid0.coords t) (taken x0 x1 x2) x3 x4 x5) _ _ _ _ (fun r n => ?_) (fun r n => ?_) (fun r n => ?_) (fun r n => ?_) (ix2 r C)).trans ?_
  · exact (pay12_at _ _ _ _ _ _ _ _ r n).trans (chunk_eq _ (taken x0 x1 x2) x3 x4 x5 1792 2816 768 _ _ _ r n _ (by show 1024 + (768 + (n : ℕ)) = _; omega) (by show 2048 + (768 + (n : ℕ)) = _; omega) rfl)
  · exact (pay11_at _ _ _ _ _ _ _ _ r n).trans (chunk_eq _ (taken x0 x1 x2) x3 x4 x5 1536 2560 512 _ _ _ r n _ (by show 1024 + (512 + (n : ℕ)) = _; omega) (by show 2048 + (512 + (n : ℕ)) = _; omega) rfl)
  · exact (pay10_at _ _ _ _ _ _ _ _ r n).trans (chunk_eq _ (taken x0 x1 x2) x3 x4 x5 1280 2304 256 _ _ _ r n _ (by show 1024 + (256 + (n : ℕ)) = _; omega) (by show 2048 + (256 + (n : ℕ)) = _; omega) rfl)
  · rw [show (⟨0 + (n : ℕ), by omega⟩ : Fin 1024) = ⟨n, by omega⟩ from Fin.ext (by show 0 + (n : ℕ) = n; omega)]
    exact (pay9_at _ r n).trans ((pay8_at _ _ _ _ _ _ _ _ r n).trans (chunk_eq _ (taken x0 x1 x2) x3 x4 x5 1024 2048 0 _ _ _ r n _ rfl rfl (by show (n : ℕ) = _; omega)))
  · show conv (grid0.coords t) (taken x0 x1 x2) x3 x4 x5 r C = _
    unfold conv
    rw [taken_at, taken_at, taken_at]

end Cert.ConvIdeal.Hand
end
-- ==== Proof.ConvRef.lean ====
module

public import proofs.«01_k».proof.Proof.Gen.ConvRefIdeal.Run
public import proofs.«01_k».proof.Proof.FfnRefAt
public import proofs.«01_k».proof.Proof.MixRef
public import proofs.«01_k».proof.Proof.ConvTok
public import Idealize.ShloMosaic.Lib.KernelVsHost

@[expose] public section

set_option maxRecDepth 16384
noncomputable section
open Idealize.ShloMosaic Idealize.ShloMosaic.TcCoe Idealize.SL.Sem
namespace Cert.ConvRefIdeal.At
open Cert.ConvRefIdeal Cert.ConvRefIdeal.Gen Cert.Tok

/-- The arguments, cut out of the stacks. -/
theorem cut_g (A : FVec Ideal S4x6x1024 .f32) (a : Fin 6) (b : Fin 1024) : (shapeCast S6x1024 (extractStridedSlice S1x6x1024 ![1, 0, 0] A slices_S4x6x1024_S1x6x1024_1_0_0) shapeCasts_S1x6x1024_S6x1024) (ix2 a b) = A (ix3 1 a b) := by
  pointwise []
theorem cut_w (A : FVec Ideal S1x1024x3072 .f32) (a : Fin 1024) (b : Fin 3072) : (shapeCast S1024x3072 A shapeCasts_S1x1024x3072_S1024x3072) (ix2 a b) = A (ix3 0 a b) := by
  pointwise []
theorem cut_c (A : FVec Ideal S1x3x1024 .f32) (a : Fin 3) (b : Fin 1024) : (shapeCast S3x1024 A shapeCasts_S1x3x1024_S3x1024) (ix2 a b) = A (ix3 0 a b) := by
  pointwise []
theorem cut_b (A : FVec Ideal S1x1024 .f32) (b : Fin 1024) : (shapeCast S1024 A shapeCasts_S1x1024_S1024) (ix1 b) = A (ix2 0 b) := by
  pointwise []
theorem cut_o (A : FVec Ideal S1x1024x1024 .f32) (a b : Fin 1024) : (shapeCast S1024x1024 A shapeCasts_S1x1024x1024_S1024x1024) (ix2 a b) = A (ix3 0 a b) := by
  pointwise []

/-- The taps and the bias, summed as the reference sums them. -/
theorem taps (b u v w : EReal) : b + (((0 + u) + v) + w) = b + u + v + w := by
  rw [zero_add, add_assoc b u v, add_assoc b (u + v) w]

/-! The sample tokens. -/

def wide_sample (E : FVec Ideal S8x1024x1024 .f32) (W : FVec Ideal S1024x3072 .f32) : FVec Ideal S8x1024x3072 .f32 :=
  Host.dotGeneral dot_S8x1024x1024_S1024x3072_S8x1024x3072_2_0_01_1_n_n none E W
theorem wide_sample_at (E : FVec Ideal S8x1024x1024 .f32) (W : FVec Ideal S1024x3072 .f32) (b : Fin 8) (s : Fin 1024) (n : Fin 3072) :
    wide_sample E W (ix3 b s n) = ∑ k, E (ix3 b s k) * W (ix2 k n) := by
  pointwise [wide_sample]

def gates_sample (N : FVec Ideal S8x1024x3072 .f32) : FVec Ideal S8x1024x1024 .f32 :=
  mulf (extractStridedSlice S8x1024x1024 ![0, 0, 1024] N slices_S8x1024x3072_S8x1024x1024_0_0_1024) (extractStridedSlice S8x1024x1024 ![0, 0, 2048] N slices_S8x1024x3072_S8x1024x1024_0_0_2048)
theorem gates_sample_at (N : FVec Ideal S8x1024x3072 .f32) (b : Fin 8) (s : Fin 1024) (k : Fin 1024) :
    gates_sample N (ix3 b s k) = N (ix3 b s ⟨1024 + k, by omega⟩) * N (ix3 b s ⟨2048 + k, by omega⟩) := by
  pointwise [gates_sample]

/-- The gates' product with a row of zeros before and after. -/
def padded_sample (Z : FVec Ideal S8x1024x1024 .f32) : FVec Ideal S8x1026x1024 .f32 :=
  pad S8x1026x1024 ![0, 1, 0] ![0, 1, 0] ![0, 0, 0] Z (sitofp .f32 (constantI S_ 32 0#32)) pads_S8x1024x1024_S8x1026x1024_000_110_000 h_S_
theorem padded_sample_in (Z : FVec Ideal S8x1024x1024 .f32) (b : Fin 8) (s : Fin 1026) (z : Fin 1024) (k : Fin 1024) (e : (s : ℕ) = 1 + z) : padded_sample Z (ix3 b s k) = Z (ix3 b z k) := by
  refine pad_apply_of_inside _ _ _ _ _ _ _ _ (ix3 b z k) (Fin.forall_fin_succ.mpr ⟨?_, Fin.forall_fin_two.mpr ⟨?_, ?_⟩⟩)
  · show (b : ℕ) = 0 + b * (0 + 1); omega
  · show (s : ℕ) = 1 + z * (0 + 1); omega
  · show (k : ℕ) = 0 + k * (0 + 1); omega
theorem padded_sample_out (Z : FVec Ideal S8x1024x1024 .f32) (b : Fin 8) (s : Fin 1026) (k : Fin 1024) (e : (s : ℕ) = 0 ∨ (s : ℕ) = 1025) : padded_sample Z (ix3 b s k) = (0 : EReal) := by
  refine (pad_apply_of_not_inside _ _ _ _ _ _ _ _ (1 : Fin 3) fun h => ?_).trans ?_
  · obtain ⟨h1, -, h3⟩ := h
    have h1 : 1 ≤ (s : ℕ) := h1
    have h3 : ((s : ℕ) - 1) / (0 + 1) < 1024 := h3
    omega
  · show (((0#32).toInt : ℝ) : EReal) = 0
    simp
theorem padded_sample_before (Z : FVec Ideal S8x1024x1024 .f32) (b : Fin 8) (s : Fin 1024) (k : Fin 1024) :
    padded_sample Z (ix3 b ⟨s, by omega⟩ k) = orZero ((s : ℕ) = 0) (fun k => Z (ix3 b ⟨(s + 1023) % 1024, by omega⟩ k)) k := by
  unfold orZero
  split
  · exact padded_sample_out Z b _ k (.inl ‹_›)
  · exact padded_sample_in Z b _ _ k (by show (s : ℕ) = 1 + (s + 1023) % 1024; omega)
theorem padded_sample_after (Z : FVec Ideal S8x1024x1024 .f32) (b : Fin 8) (s : Fin 1024) (k : Fin 1024) :
    padded_sample Z (ix3 b ⟨2 + s, by omega⟩ k) = orZero ((s : ℕ) + 1 = 1024) (fun k => Z (ix3 b ⟨(s + 1) % 1024, by omega⟩ k)) k := by
  unfold orZero
  split
  · exact padded_sample_out Z b _ k (.inr (by show 2 + (s : ℕ) = 1025; omega))
  · exact padded_sample_in Z b _ _ k (by show 2 + (s : ℕ) = 1 + (s + 1) % 1024; omega)

def convolve_sample (N : FVec Ideal S8x1024x3072 .f32) (P : FVec Ideal S8x1026x1024 .f32) (cb : FVec Ideal S1024 .f32) (cw : FVec Ideal S3x1024 .f32) (wo : FVec Ideal S1024x1024 .f32) : FVec Ideal S8x1024x1024 .f32 :=
  Host.dotGeneral dot_S8x1024x1024_S1024x1024_S8x1024x1024_2_0_01_1_n_n none (mulf (extractStridedSlice S8x1024x1024 ![0, 0, 0] N slices_S8x1024x3072_S8x1024x1024_0_0_0) (addf (broadcastInDim S8x1024x1024 ![0, 1, 2] bcast_S1x1x1024_S8x1024x1024_0_1_2 (broadcastInDim S1x1x1024 ![2] bcast_S1024_S1x1x1024_2 cb)) (addf (addf (addf (broadcastInDim S8x1024x1024 ![] bcast_S_S8x1024x1024 (constant S_ .f32 0x00000000#32)) (mulf (extractStridedSlice S8x1024x1024 ![0, 0, 0] P slices_S8x1026x1024_S8x1024x1024_0_0_0) (broadcastInDim S8x1024x1024 ![0, 1, 2] bcast_S1x1x1024_S8x1024x1024_0_1_2 (broadcastInDim S1x1x1024 ![2] bcast_S1024_S1x1x1024_2 (shapeCast _ (extractStridedSlice S1x1024 ![0, 0] cw slices_S3x1024_S1x1024_0_0) shapeCasts_S1x1024_S1024))))) (mulf (extractStridedSlice S8x1024x1024 ![0, 1, 0] P slices_S8x1026x1024_S8x1024x1024_0_1_0) (broadcastInDim S8x1024x1024 ![0, 1, 2] bcast_S1x1x1024_S8x1024x1024_0_1_2 (broadcastInDim S1x1x1024 ![2] bcast_S1024_S1x1x1024_2 (shapeCast _ (extractStridedSlice S1x1024 ![1, 0] cw slices_S3x1024_S1x1024_1_0) shapeCasts_S1x1024_S1024))))) (mulf (extractStridedSlice S8x1024x1024 ![0, 2, 0] P slices_S8x1026x1024_S8x1024x1024_0_2_0) (broadcastInDim S8x1024x1024 ![0, 1, 2] bcast_S1x1x1024_S8x1024x1024_0_1_2 (broadcastInDim S1x1x1024 ![2] bcast_S1024_S1x1x1024_2 (shapeCast _ (extractStridedSlice S1x1024 ![2, 0] cw slices_S3x1024_S1x1024_2_0) shapeCasts_S1x1024_S1024))))))) wo
theorem convolve_sample_at (N : FVec Ideal S8x1024x3072 .f32) (P : FVec Ideal S8x1026x1024 .f32) (cb : FVec Ideal S1024 .f32) (cw : FVec Ideal S3x1024 .f32) (wo : FVec Ideal S1024x1024 .f32) (b : Fin 8) (s : Fin 1024) (j : Fin 1024) :
    convolve_sample N P cb cw wo (ix3 b s j) = ∑ k : Fin 1024, N (ix3 b s ⟨k, by omega⟩) * (cb (ix1 k) + (((0 + P (ix3 b ⟨s, by omega⟩ k) * cw (ix2 0 k)) + P (ix3 b ⟨1 + s, by omega⟩ k) * cw (ix2 1 k)) + P (ix3 b ⟨2 + s, by omega⟩ k) * cw (ix2 2 k))) * wo (ix2 k j) := by
  pointwise [convolve_sample]

/-- The layer's rows, on the stacks of gains and weights. -/
def out_sample (y : FVec Ideal S8x1024x1024 .f32) (μ : FVec Ideal S8x9x1024 .f32) (g : FVec Ideal S4x6x1024 .f32) (w : FVec Ideal S1x1024x3072 .f32) (cw : FVec Ideal S1x3x1024 .f32) (cb : FVec Ideal S1x1024 .f32) (wo : FVec Ideal S1x1024x1024 .f32) : FVec Ideal S8x1024x1024 .f32 :=
  have G : FVec Ideal S6x1024 .f32 := shapeCast S6x1024 (extractStridedSlice S1x6x1024 ![1, 0, 0] g slices_S4x6x1024_S1x6x1024_1_0_0) shapeCasts_S1x6x1024_S6x1024
  have N : FVec Ideal S8x1024x3072 .f32 := wide_sample (ProjRefIdeal.At.enter_sample y μ G) (shapeCast S1024x3072 w shapeCasts_S1x1024x3072_S1024x3072)
  FfnRefIdeal.At.join_sample y (convolve_sample N (padded_sample (gates_sample N)) (shapeCast S1024 cb shapeCasts_S1x1024_S1024) (shapeCast S3x1024 cw shapeCasts_S1x3x1024_S3x1024) (shapeCast S1024x1024 wo shapeCasts_S1x1024x1024_S1024x1024)) μ G
set_option maxHeartbeats 1000000 in
theorem out_sample_at (y : FVec Ideal S8x1024x1024 .f32) (μ : FVec Ideal S8x9x1024 .f32) (g : FVec Ideal S4x6x1024 .f32) (w : FVec Ideal S1x1024x3072 .f32) (cw : FVec Ideal S1x3x1024 .f32) (cb : FVec Ideal S1x1024 .f32) (wo : FVec Ideal S1x1024x1024 .f32) (b : Fin 8) (s : Fin 1024) (j : Fin 1024) :
    out_sample y μ g w cw cb wo (ix3 b s j) = convLayer ((s : ℕ) = 0) ((s : ℕ) + 1 = 1024) (fun k => y (ix3 b s k)) (fun k => y (ix3 b ⟨(s + 1023) % 1024, by omega⟩ k)) (fun k => y (ix3 b ⟨(s + 1) % 1024, by omega⟩ k))
      (fun i k => μ (ix3 b i k)) (fun a b => g (ix3 1 a b)) (fun a b => w (ix3 0 a b)) (fun a b => cw (ix3 0 a b)) (fun b => cb (ix2 0 b)) (fun a b => wo (ix3 0 a b)) j := by
  unfold out_sample convLayer
  dsimp only
  rw [FfnRefIdeal.At.join_sample_at]
  simp only [cut_g]
  refine congrArg (fun f => joined _ f _ _ j) (funext fun k => (convolve_sample_at _ _ _ _ _ b s k).trans ?_)
  unfold mixed
  refine Finset.sum_congr (M := EReal) rfl fun i _ => ?_
  rw [cut_o, cut_b, cut_c, cut_c, cut_c, taps, padded_sample_before, padded_sample_after, padded_sample_in _ b ⟨1 + s, by omega⟩ s i rfl]
  unfold convolved product
  simp only [gates_sample_at, wide_sample_at, cut_w, ProjRefIdeal.At.enter_sample_at, cut_g]

/-! The prompt tokens. -/

def wide_prompt (E : FVec Ideal S16x256x1024 .f32) (W : FVec Ideal S1024x3072 .f32) : FVec Ideal S16x256x3072 .f32 :=
  Host.dotGeneral dot_S16x256x1024_S1024x3072_S16x256x3072_2_0_01_1_n_n none E W
theorem wide_prompt_at (E : FVec Ideal S16x256x1024 .f32) (W : FVec Ideal S1024x3072 .f32) (b : Fin 16) (s : Fin 256) (n : Fin 3072) :
    wide_prompt E W (ix3 b s n) = ∑ k, E (ix3 b s k) * W (ix2 k n) := by
  pointwise [wide_prompt]

def gates_prompt (N : FVec Ideal S16x256x3072 .f32) : FVec Ideal S16x256x1024 .f32 :=
  mulf (extractStridedSlice S16x256x1024 ![0, 0, 1024] N slices_S16x256x3072_S16x256x1024_0_0_1024) (extractStridedSlice S16x256x1024 ![0, 0, 2048] N slices_S16x256x3072_S16x256x1024_0_0_2048)
theorem gates_prompt_at (N : FVec Ideal S16x256x3072 .f32) (b : Fin 16) (s : Fin 256) (k : Fin 1024) :
    gates_prompt N (ix3 b s k) = N (ix3 b s ⟨1024 + k, by omega⟩) * N (ix3 b s ⟨2048 + k, by omega⟩) := by
  pointwise [gates_prompt]

/-- The gates' product with a row of zeros before and after. -/
def padded_prompt (Z : FVec Ideal S16x256x1024 .f32) : FVec Ideal S16x258x1024 .f32 :=
  pad S16x258x1024 ![0, 1, 0] ![0, 1, 0] ![0, 0, 0] Z (sitofp .f32 (constantI S_ 32 0#32)) pads_S16x256x1024_S16x258x1024_000_110_000 h_S_
theorem padded_prompt_in (Z : FVec Ideal S16x256x1024 .f32) (b : Fin 16) (s : Fin 258) (z : Fin 256) (k : Fin 1024) (e : (s : ℕ) = 1 + z) : padded_prompt Z (ix3 b s k) = Z (ix3 b z k) := by
  refine pad_apply_of_inside _ _ _ _ _ _ _ _ (ix3 b z k) (Fin.forall_fin_succ.mpr ⟨?_, Fin.forall_fin_two.mpr ⟨?_, ?_⟩⟩)
  · show (b : ℕ) = 0 + b * (0 + 1); omega
  · show (s : ℕ) = 1 + z * (0 + 1); omega
  · show (k : ℕ) = 0 + k * (0 + 1); omega
theorem padded_prompt_out (Z : FVec Ideal S16x256x1024 .f32) (b : Fin 16) (s : Fin 258) (k : Fin 1024) (e : (s : ℕ) = 0 ∨ (s : ℕ) = 257) : padded_prompt Z (ix3 b s k) = (0 : EReal) := by
  refine (pad_apply_of_not_inside _ _ _ _ _ _ _ _ (1 : Fin 3) fun h => ?_).trans ?_
  · obtain ⟨h1, -, h3⟩ := h
    have h1 : 1 ≤ (s : ℕ) := h1
    have h3 : ((s : ℕ) - 1) / (0 + 1) < 256 := h3
    omega
  · show (((0#32).toInt : ℝ) : EReal) = 0
    simp
theorem padded_prompt_before (Z : FVec Ideal S16x256x1024 .f32) (b : Fin 16) (s : Fin 256) (k : Fin 1024) :
    padded_prompt Z (ix3 b ⟨s, by omega⟩ k) = orZero ((s : ℕ) = 0) (fun k => Z (ix3 b ⟨(s + 255) % 256, by omega⟩ k)) k := by
  unfold orZero
  split
  · exact padded_prompt_out Z b _ k (.inl ‹_›)
  · exact padded_prompt_in Z b _ _ k (by show (s : ℕ) = 1 + (s + 255) % 256; omega)
theorem padded_prompt_after (Z : FVec Ideal S16x256x1024 .f32) (b : Fin 16) (s : Fin 256) (k : Fin 1024) :
    padded_prompt Z (ix3 b ⟨2 + s, by omega⟩ k) = orZero ((s : ℕ) + 1 = 256) (fun k => Z (ix3 b ⟨(s + 1) % 256, by omega⟩ k)) k := by
  unfold orZero
  split
  · exact padded_prompt_out Z b _ k (.inr (by show 2 + (s : ℕ) = 257; omega))
  · exact padded_prompt_in Z b _ _ k (by show 2 + (s : ℕ) = 1 + (s + 1) % 256; omega)

def convolve_prompt (N : FVec Ideal S16x256x3072 .f32) (P : FVec Ideal S16x258x1024 .f32) (cb : FVec Ideal S1024 .f32) (cw : FVec Ideal S3x1024 .f32) (wo : FVec Ideal S1024x1024 .f32) : FVec Ideal S16x256x1024 .f32 :=
  Host.dotGeneral dot_S16x256x1024_S1024x1024_S16x256x1024_2_0_01_1_n_n none (mulf (extractStridedSlice S16x256x1024 ![0, 0, 0] N slices_S16x256x3072_S16x256x1024_0_0_0) (addf (broadcastInDim S16x256x1024 ![0, 1, 2] bcast_S1x1x1024_S16x256x1024_0_1_2 (broadcastInDim S1x1x1024 ![2] bcast_S1024_S1x1x1024_2 cb)) (addf (addf (addf (broadcastInDim S16x256x1024 ![] bcast_S_S16x256x1024 (constant S_ .f32 0x00000000#32)) (mulf (extractStridedSlice S16x256x1024 ![0, 0, 0] P slices_S16x258x1024_S16x256x1024_0_0_0) (broadcastInDim S16x256x1024 ![0, 1, 2] bcast_S1x1x1024_S16x256x1024_0_1_2 (broadcastInDim S1x1x1024 ![2] bcast_S1024_S1x1x1024_2 (shapeCast _ (extractStridedSlice S1x1024 ![0, 0] cw slices_S3x1024_S1x1024_0_0) shapeCasts_S1x1024_S1024))))) (mulf (extractStridedSlice S16x256x1024 ![0, 1, 0] P slices_S16x258x1024_S16x256x1024_0_1_0) (broadcastInDim S16x256x1024 ![0, 1, 2] bcast_S1x1x1024_S16x256x1024_0_1_2 (broadcastInDim S1x1x1024 ![2] bcast_S1024_S1x1x1024_2 (shapeCast _ (extractStridedSlice S1x1024 ![1, 0] cw slices_S3x1024_S1x1024_1_0) shapeCasts_S1x1024_S1024))))) (mulf (extractStridedSlice S16x256x1024 ![0, 2, 0] P slices_S16x258x1024_S16x256x1024_0_2_0) (broadcastInDim S16x256x1024 ![0, 1, 2] bcast_S1x1x1024_S16x256x1024_0_1_2 (broadcastInDim S1x1x1024 ![2] bcast_S1024_S1x1x1024_2 (shapeCast _ (extractStridedSlice S1x1024 ![2, 0] cw slices_S3x1024_S1x1024_2_0) shapeCasts_S1x1024_S1024))))))) wo
theorem convolve_prompt_at (N : FVec Ideal S16x256x3072 .f32) (P : FVec Ideal S16x258x1024 .f32) (cb : FVec Ideal S1024 .f32) (cw : FVec Ideal S3x1024 .f32) (wo : FVec Ideal S1024x1024 .f32) (b : Fin 16) (s : Fin 256) (j : Fin 1024) :
    convolve_prompt N P cb cw wo (ix3 b s j) = ∑ k : Fin 1024, N (ix3 b s ⟨k, by omega⟩) * (cb (ix1 k) + (((0 + P (ix3 b ⟨s, by omega⟩ k) * cw (ix2 0 k)) + P (ix3 b ⟨1 + s, by omega⟩ k) * cw (ix2 1 k)) + P (ix3 b ⟨2 + s, by omega⟩ k) * cw (ix2 2 k))) * wo (ix2 k j) := by
  pointwise [convolve_prompt]

/-- The layer's rows, on the stacks of gains and weights. -/
def out_prompt (y : FVec Ideal S16x256x1024 .f32) (μ : FVec Ideal S1x9x1024 .f32) (g : FVec Ideal S4x6x1024 .f32) (w : FVec Ideal S1x1024x3072 .f32) (cw : FVec Ideal S1x3x1024 .f32) (cb : FVec Ideal S1x1024 .f32) (wo : FVec Ideal S1x1024x1024 .f32) : FVec Ideal S16x256x1024 .f32 :=
  have G : FVec Ideal S6x1024 .f32 := shapeCast S6x1024 (extractStridedSlice S1x6x1024 ![1, 0, 0] g slices_S4x6x1024_S1x6x1024_1_0_0) shapeCasts_S1x6x1024_S6x1024
  have N : FVec Ideal S16x256x3072 .f32 := wide_prompt (ProjRefIdeal.At.enter_prompt y μ G) (shapeCast S1024x3072 w shapeCasts_S1x1024x3072_S1024x3072)
  FfnRefIdeal.At.join_prompt y (convolve_prompt N (padded_prompt (gates_prompt N)) (shapeCast S1024 cb shapeCasts_S1x1024_S1024) (shapeCast S3x1024 cw shapeCasts_S1x3x1024_S3x1024) (shapeCast S1024x1024 wo shapeCasts_S1x1024x1024_S1024x1024)) μ G
set_option maxHeartbeats 1000000 in
theorem out_prompt_at (y : FVec Ideal S16x256x1024 .f32) (μ : FVec Ideal S1x9x1024 .f32) (g : FVec Ideal S4x6x1024 .f32) (w : FVec Ideal S1x1024x3072 .f32) (cw : FVec Ideal S1x3x1024 .f32) (cb : FVec Ideal S1x1024 .f32) (wo : FVec Ideal S1x1024x1024 .f32) (b : Fin 16) (s : Fin 256) (j : Fin 1024) :
    out_prompt y μ g w cw cb wo (ix3 b s j) = convLayer ((s : ℕ) = 0) ((s : ℕ) + 1 = 256) (fun k => y (ix3 b s k)) (fun k => y (ix3 b ⟨(s + 255) % 256, by omega⟩ k)) (fun k => y (ix3 b ⟨(s + 1) % 256, by omega⟩ k))
      (fun i k => μ (ix3 0 i k)) (fun a b => g (ix3 1 a b)) (fun a b => w (ix3 0 a b)) (fun a b => cw (ix3 0 a b)) (fun b => cb (ix2 0 b)) (fun a b => wo (ix3 0 a b)) j := by
  unfold out_prompt convLayer
  dsimp only
  rw [FfnRefIdeal.At.join_prompt_at]
  simp only [cut_g]
  refine congrArg (fun f => joined _ f _ _ j) (funext fun k => (convolve_prompt_at _ _ _ _ _ b s k).trans ?_)
  unfold mixed
  refine Finset.sum_congr (M := EReal) rfl fun i _ => ?_
  rw [cut_o, cut_b, cut_c, cut_c, cut_c, taps, padded_prompt_before, padded_prompt_after, padded_prompt_in _ b ⟨1 + s, by omega⟩ s i rfl]
  unfold convolved product
  simp only [gates_prompt_at, wide_prompt_at, cut_w, ProjRefIdeal.At.enter_prompt_at, cut_g]

end Cert.ConvRefIdeal.At
end
-- ==== Proof.ConvFinal.lean ====
module

public import proofs.«01_k».proof.Proof.ConvBlock
public import proofs.«01_k».proof.Proof.ConvRef
public import proofs.«01_k».proof.Proof.HalfRows

@[expose] public section

set_option maxRecDepth 16384
noncomputable section
open Idealize.ShloMosaic Idealize.ShloMosaic.TcCoe Idealize.SL.Sem
namespace Cert.ConvIdeal.Hand
open Cert.ConvIdeal Cert.ConvIdeal.Gen Cert.Tok
open Cert.ConvRefIdeal.At (out_sample out_prompt out_sample_at out_prompt_at)
variable (m : (ℓ : Loc nD τ sig) → Buf (Elt Ideal) ℓ)

/-- The arrays that the host code makes before the launch. -/
theorem V_x (c : Dev nD) : @Eq (FVec Ideal S12288x1024 .f32) (V m c main_v2) (concatenate S12288x1024 0 [⟨S8192x1024, shapeCast S8192x1024 (m ((c : Thread nD τ).loc main_arg1) : FVec Ideal S8x1024x1024 .f32) shapeCasts_S8x1024x1024_S8192x1024⟩,
    ⟨S4096x1024, shapeCast S4096x1024 (m ((c : Thread nD τ).loc main_arg0) : FVec Ideal S16x256x1024 .f32) shapeCasts_S16x256x1024_S4096x1024⟩] concatenates_S8192x1024_S4096x1024_S12288x1024_d0) := by
  show StableHlo.after hostOps0 _ _ = _
  simp only [hostOps0]; after_results; dsimp only [Matrix.cons_val]; after_results_loop; rfl
theorem V_mods (c : Dev nD) : @Eq (FVec Ideal S16x9x1024 .f32) (V m c main_v4) (concatenate S16x9x1024 0 [⟨S8x9x1024, (m ((c : Thread nD τ).loc main_arg3) : FVec Ideal S8x9x1024 .f32)⟩, ⟨S1x9x1024, (m ((c : Thread nD τ).loc main_arg2) : FVec Ideal S1x9x1024 .f32)⟩,
    ⟨S7x9x1024, broadcastInDim S7x9x1024 ![] bcast_S_S7x9x1024 (constant (F := Ideal) S_ .f32 0x00000000#32)⟩] concatenates_S8x9x1024_S1x9x1024_S7x9x1024_S16x9x1024_d0) := by
  show StableHlo.after hostOps0 _ _ = _
  simp only [hostOps0]; after_results; dsimp only [Matrix.cons_val]; after_results_loop; rfl
theorem V_b (c : Dev nD) (k : Fin 1024) : (V m c main_v5 : FVec Ideal S1x1x1024 .f32) (ix3 0 0 k) = (m ((c : Thread nD τ).loc main_arg7) : FVec Ideal S1x1024 .f32) (ix2 0 k) := by
  have e : @Eq (FVec Ideal S1x1x1024 .f32) (V m c main_v5) (shapeCast S1x1x1024 (m ((c : Thread nD τ).loc main_arg7) : FVec Ideal S1x1024 .f32) shapeCasts_S1x1024_S1x1x1024) := by
    show StableHlo.after hostOps0 _ _ = _
    simp only [hostOps0]; after_results; try rfl
  rw [e]
  pointwise []

/-- Where the blocks of each grid point lie. -/
theorem idx : ∀ t : Fin cfg0.N, (grid0.coords t 0 : ℕ) = t ∧ win0_0.index t = ![(t : ℕ), 0] ∧ win0_1.index t = ![min (t : ℕ) 8, 0, 0] ∧ win0_2.index t = ![1, 0, 0] ∧ win0_3.index t = ![0, 0, 0]
    ∧ win0_4.index t = ![0, 0, 0] ∧ win0_5.index t = ![0, 0, 0] ∧ win0_6.index t = ![0, 0, 0] ∧ win0_7.index t = ![(t : ℕ), 0] :=
  (by decide +kernel : ∀ t : Fin grid0.N, _)

/-- A token's row in a block of sample rows, and in one of prompt rows. -/
theorem x_s (c : Dev nD) (t : Fin cfg0.N) (h : t.val < 8) (r : Fin 1024) (b : Fin 8) (s : Fin 1024) (e : (b : ℕ) * 1024 + s = t * 1024 + r) (k : Fin 1024) :
    (iblk m c 0 t : FVec Ideal S1024x1024 .f32) (ix2 r k) = (m ((c : Thread nD τ).loc main_arg1) : FVec Ideal S8x1024x1024 .f32) (ix3 b s k) := by
  obtain ⟨-, i0, -⟩ := idx t
  refine Eq.trans ?_ ((congrFun (V_x m c) (ix2 ⟨t * 1024 + r, by omega⟩ k)).trans ((FfnIdeal.Hand.cat_s _ _ _ ⟨t * 1024 + r, by omega⟩ k).trans ((FfnIdeal.Hand.rows_s _ _ ⟨t * 1024 + r, by omega⟩ k).trans
    (congrArg₂ (fun b s => (m ((c : Thread nD τ).loc main_arg1) : FVec Ideal S8x1024x1024 .f32) (ix3 b s k)) (Fin.ext (by show (t * 1024 + r : ℕ) / 1024 = b; omega)) (Fin.ext (by show (t * 1024 + r : ℕ) % 1024 = s; omega))))))
  blk_point [iblk, i0]
theorem x_p (c : Dev nD) (t : Fin cfg0.N) (h : 8 ≤ t.val) (r : Fin 1024) (b : Fin 16) (s : Fin 256) (e : (b : ℕ) * 256 + s = (t - 8) * 1024 + r) (k : Fin 1024) :
    (iblk m c 0 t : FVec Ideal S1024x1024 .f32) (ix2 r k) = (m ((c : Thread nD τ).loc main_arg0) : FVec Ideal S16x256x1024 .f32) (ix3 b s k) := by
  obtain ⟨-, i0, -⟩ := idx t
  have hN : (t : ℕ) < 12 := t.isLt
  refine Eq.trans ?_ ((congrFun (V_x m c) (ix2 ⟨8192 + ((t - 8) * 1024 + r), by omega⟩ k)).trans ((FfnIdeal.Hand.cat_p _ _ _ ⟨(t - 8) * 1024 + r, by omega⟩ k).trans ((FfnIdeal.Hand.rows_p _ _ ⟨(t - 8) * 1024 + r, by omega⟩ k).trans
    (congrArg₂ (fun b s => (m ((c : Thread nD τ).loc main_arg0) : FVec Ideal S16x256x1024 .f32) (ix3 b s k)) (Fin.ext (by show ((t - 8) * 1024 + r : ℕ) / 256 = b; omega)) (Fin.ext (by show ((t - 8) * 1024 + r : ℕ) % 256 = s; omega))))))
  blk_point [iblk, i0]

/-- A block of sample rows, and one of prompt rows, at an index. -/
theorem block_s (c : Dev nD) (t : Fin cfg0.N) (h : t.val < 8) (r j : Fin 1024) :
    (dats m 0 c).after 7 t (ix2 r j)
      = convLayer ((t * 1024 + r : ℕ) % 1024 = 0) ((t * 1024 + r : ℕ) % 1024 + 1 = 1024) (fun k => (m ((c : Thread nD τ).loc main_arg1) : FVec Ideal S8x1024x1024 .f32) (ix3 ⟨(t * 1024 + r : ℕ) / 1024, by have hN : (t : ℕ) < 12 := t.isLt; omega⟩ ⟨(t * 1024 + r : ℕ) % 1024, by omega⟩ k))
          (fun k => (m ((c : Thread nD τ).loc main_arg1) : FVec Ideal S8x1024x1024 .f32) (ix3 ⟨(t * 1024 + r : ℕ) / 1024, by have hN : (t : ℕ) < 12 := t.isLt; omega⟩ ⟨((t * 1024 + r : ℕ) % 1024 + 1023) % 1024, by omega⟩ k)) (fun k => (m ((c : Thread nD τ).loc main_arg1) : FVec Ideal S8x1024x1024 .f32) (ix3 ⟨(t * 1024 + r : ℕ) / 1024, by have hN : (t : ℕ) < 12 := t.isLt; omega⟩ ⟨((t * 1024 + r : ℕ) % 1024 + 1) % 1024, by omega⟩ k))
          (fun a b => (m ((c : Thread nD τ).loc main_arg3) : FVec Ideal S8x9x1024 .f32) (ix3 ⟨(t * 1024 + r : ℕ) / 1024, by have hN : (t : ℕ) < 12 := t.isLt; omega⟩ a b)) (fun a b => (m ((c : Thread nD τ).loc main_arg4) : FVec Ideal S4x6x1024 .f32) (ix3 1 a b)) (fun a b => (m ((c : Thread nD τ).loc main_arg5) : FVec Ideal S1x1024x3072 .f32) (ix3 0 a b))
          (fun a b => (m ((c : Thread nD τ).loc main_arg6) : FVec Ideal S1x3x1024 .f32) (ix3 0 a b)) (fun b => (m ((c : Thread nD τ).loc main_arg7) : FVec Ideal S1x1024 .f32) (ix2 0 b)) (fun a b => (m ((c : Thread nD τ).loc main_arg8) : FVec Ideal S1x1024x1024 .f32) (ix3 0 a b)) j := by
  obtain ⟨ic, i0, i1, i2, i3, i4, i5, i6, -⟩ := idx t
  have hN : (t : ℕ) < 12 := t.isLt
  have hs : seq (grid0.coords t 0) = 1024 := by unfold seq; rw [ic]; exact if_pos (by omega)
  refine (point m c t r j).trans (congrFun (convLayer_congr ?_ ?_ (funext fun k => ?_) (fun hn => funext fun k => ?_) (fun hn => funext fun k => ?_) (funext fun a => funext fun b => ?_) (funext fun a => funext fun b => ?_) (funext fun a => funext fun b => ?_)
    (funext fun a => funext fun b => ?_) (funext fun b => ?_) (funext fun a => funext fun b => ?_)) j)
  · rw [hs]; omega
  · rw [hs]; omega
  · exact x_s m c t h r _ _ (by show (t * 1024 + r : ℕ) / 1024 * 1024 + (t * 1024 + r : ℕ) % 1024 = _; omega) k
  · rw [hs] at hn
    exact x_s m c t h _ _ _ (by show (t * 1024 + r : ℕ) / 1024 * 1024 + ((t * 1024 + r : ℕ) % 1024 + 1023) % 1024 = t * 1024 + (r + 1023) % 1024; omega) k
  · rw [hs] at hn
    exact x_s m c t h _ _ _ (by show (t * 1024 + r : ℕ) / 1024 * 1024 + ((t * 1024 + r : ℕ) % 1024 + 1) % 1024 = t * 1024 + (r + 1) % 1024; omega) k
  · refine Eq.trans ?_ ((congrFun (V_mods m c) (ix3 ⟨(t * 1024 + r : ℕ) / 1024, by omega⟩ a b)).trans (FfnIdeal.Hand.mods_s _ _ _ _ ⟨(t * 1024 + r : ℕ) / 1024, by omega⟩ a b))
    blk_point [iblk, i1]
  · rw [← V_main_arg4 m c]; blk_point [iblk, i2]
  · rw [← V_main_arg5 m c]; blk_point [iblk, i3]
  · rw [← V_main_arg6 m c]; blk_point [iblk, i4]
  · rw [← V_b m c]; blk_point [iblk, i5]
  · rw [← V_main_arg8 m c]; blk_point [iblk, i6]

theorem block_p (c : Dev nD) (t : Fin cfg0.N) (h : 8 ≤ t.val) (r j : Fin 1024) :
    (dats m 0 c).after 7 t (ix2 r j)
      = convLayer (((t - 8) * 1024 + r : ℕ) % 256 = 0) (((t - 8) * 1024 + r : ℕ) % 256 + 1 = 256) (fun k => (m ((c : Thread nD τ).loc main_arg0) : FVec Ideal S16x256x1024 .f32) (ix3 ⟨((t - 8) * 1024 + r : ℕ) / 256, by have hN : (t : ℕ) < 12 := t.isLt; omega⟩ ⟨((t - 8) * 1024 + r : ℕ) % 256, by omega⟩ k))
          (fun k => (m ((c : Thread nD τ).loc main_arg0) : FVec Ideal S16x256x1024 .f32) (ix3 ⟨((t - 8) * 1024 + r : ℕ) / 256, by have hN : (t : ℕ) < 12 := t.isLt; omega⟩ ⟨(((t - 8) * 1024 + r : ℕ) % 256 + 255) % 256, by omega⟩ k)) (fun k => (m ((c : Thread nD τ).loc main_arg0) : FVec Ideal S16x256x1024 .f32) (ix3 ⟨((t - 8) * 1024 + r : ℕ) / 256, by have hN : (t : ℕ) < 12 := t.isLt; omega⟩ ⟨(((t - 8) * 1024 + r : ℕ) % 256 + 1) % 256, by omega⟩ k))
          (fun a b => (m ((c : Thread nD τ).loc main_arg2) : FVec Ideal S1x9x1024 .f32) (ix3 0 a b)) (fun a b => (m ((c : Thread nD τ).loc main_arg4) : FVec Ideal S4x6x1024 .f32) (ix3 1 a b)) (fun a b => (m ((c : Thread nD τ).loc main_arg5) : FVec Ideal S1x1024x3072 .f32) (ix3 0 a b))
          (fun a b => (m ((c : Thread nD τ).loc main_arg6) : FVec Ideal S1x3x1024 .f32) (ix3 0 a b)) (fun b => (m ((c : Thread nD τ).loc main_arg7) : FVec Ideal S1x1024 .f32) (ix2 0 b)) (fun a b => (m ((c : Thread nD τ).loc main_arg8) : FVec Ideal S1x1024x1024 .f32) (ix3 0 a b)) j := by
  obtain ⟨ic, i0, i1, i2, i3, i4, i5, i6, -⟩ := idx t
  have hN : (t : ℕ) < 12 := t.isLt
  have hs : seq (grid0.coords t 0) = 256 := by unfold seq; rw [ic]; exact if_neg (by omega)
  refine (point m c t r j).trans (congrFun (convLayer_congr ?_ ?_ (funext fun k => ?_) (fun hn => funext fun k => ?_) (fun hn => funext fun k => ?_) (funext fun a => funext fun b => ?_) (funext fun a => funext fun b => ?_) (funext fun a => funext fun b => ?_)
    (funext fun a => funext fun b => ?_) (funext fun b => ?_) (funext fun a => funext fun b => ?_)) j)
  · rw [hs]; omega
  · rw [hs]; omega
  · exact x_p m c t h r _ _ (by show ((t - 8) * 1024 + r : ℕ) / 256 * 256 + ((t - 8) * 1024 + r : ℕ) % 256 = _; omega) k
  · rw [hs] at hn
    exact x_p m c t h _ _ _ (by show ((t - 8) * 1024 + r : ℕ) / 256 * 256 + (((t - 8) * 1024 + r : ℕ) % 256 + 255) % 256 = (t - 8) * 1024 + (r + 1023) % 1024; omega) k
  · rw [hs] at hn
    exact x_p m c t h _ _ _ (by show ((t - 8) * 1024 + r : ℕ) / 256 * 256 + (((t - 8) * 1024 + r : ℕ) % 256 + 1) % 256 = (t - 8) * 1024 + (r + 1) % 1024; omega) k
  · refine Eq.trans ?_ ((congrFun (V_mods m c) (ix3 8 a b)).trans (FfnIdeal.Hand.mods_p _ _ _ _ a b))
    blk_point [iblk, i1]
  · rw [← V_main_arg4 m c]; blk_point [iblk, i2]
  · rw [← V_main_arg5 m c]; blk_point [iblk, i3]
  · rw [← V_main_arg6 m c]; blk_point [iblk, i4]
  · rw [← V_b m c]; blk_point [iblk, i5]
  · rw [← V_main_arg8 m c]; blk_point [iblk, i6]

/-- An index of the output's block at its place in the whole. -/
theorem place (ι : Fin 2 → ℕ) (T : ℕ) (y : S1024x1024.Idx) (h0 : ι 0 = T) (h1 : ι 1 = 0) (i : S12288x1024.Idx) (e0 : (i 0 : ℕ) = ι 0 * 1024 + (y 0 : ℕ)) (e1 : (i 1 : ℕ) = ι 1 * 1024 + (y 1 : ℕ)) (R : Fin 12288) (hR : (R : ℕ) = T * 1024 + (y 0 : ℕ)) :
    ix2 R ⟨(y 1 : ℕ), (y 1).isLt⟩ = i := by
  refine funext (Fin.forall_fin_two.mpr ⟨Fin.ext ?_, Fin.ext ?_⟩)
  · rw [e0, h0]; exact hR
  · rw [e1, h1]; show (y 1 : ℕ) = 0 * _ + _; omega

/-- The result that the two programs are compared by: the rows of the two phases, one after the other. -/
def rows (yp : FVec Ideal S16x256x1024 .f32) (ys : FVec Ideal S8x1024x1024 .f32) (mp : FVec Ideal S1x9x1024 .f32) (ms : FVec Ideal S8x9x1024 .f32) (g : FVec Ideal S4x6x1024 .f32) (w : FVec Ideal S1x1024x3072 .f32) (cw : FVec Ideal S1x3x1024 .f32) (cb : FVec Ideal S1x1024 .f32) (wo : FVec Ideal S1x1024x1024 .f32) : FVec Ideal S12288x1024 .f32 :=
  concatenate S12288x1024 0 [⟨S8192x1024, shapeCast S8192x1024 (out_sample ys ms g w cw cb wo) shapeCasts_S8x1024x1024_S8192x1024⟩,
    ⟨S4096x1024, shapeCast S4096x1024 (out_prompt yp mp g w cw cb wo) shapeCasts_S16x256x1024_S4096x1024⟩] concatenates_S8192x1024_S4096x1024_S12288x1024_d0

set_option maxHeartbeats 4000000 in
/-- The output after the run. -/
theorem final (c : Dev nD) : (dats m 0 c).arrAt 7 cfg0.N = rows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (dats m 0 c).arrAt_eq_of_covers 7 _ (by decide +kernel) fun t hf y => ?_
  blk_simp
  have ei : win0_7.index t = ![(t : ℕ), 0] := by have := idx t; tauto
  have hN : (t : ℕ) < 12 := t.isLt
  have hr : (y 0 : ℕ) < 1024 := (y 0).isLt
  have hy : y = ix2 ⟨(y 0 : ℕ), (y 0).isLt⟩ ⟨(y 1 : ℕ), (y 1).isLt⟩ := funext (Fin.forall_fin_two.mpr ⟨rfl, rfl⟩)
  refine (congrArg ((dats m 0 c).after 7 t) hy).trans ?_
  rcases lt_or_ge (t : ℕ) 8 with h | h
  · refine (block_s m c t h _ _).trans (Eq.trans ?_ (congrArg (rows _ _ _ _ _ _ _ _ _) (place _ t y (congrFun ei 0) (congrFun ei 1) _ (by blk_simp; try rfl) (by blk_simp; try rfl) ⟨t * 1024 + (y 0 : ℕ), by omega⟩ rfl)))
    refine Eq.symm ((FfnIdeal.Hand.cat_s _ _ _ ⟨t * 1024 + (y 0 : ℕ), by omega⟩ _).trans ((FfnIdeal.Hand.rows_s _ _ _ _).trans ?_))
    exact out_sample_at _ _ _ _ _ _ _ _ _ _
  · refine (block_p m c t h _ _).trans (Eq.trans ?_ (congrArg (rows _ _ _ _ _ _ _ _ _) (place _ t y (congrFun ei 0) (congrFun ei 1) _ (by blk_simp; try rfl) (by blk_simp; try rfl) ⟨8192 + ((t - 8) * 1024 + (y 0 : ℕ)), by omega⟩ (by show 8192 + ((t - 8) * 1024 + (y 0 : ℕ)) = _; omega))))
    refine Eq.symm ((FfnIdeal.Hand.cat_p _ _ _ ⟨(t - 8) * 1024 + (y 0 : ℕ), by omega⟩ _).trans ((FfnIdeal.Hand.rows_p _ _ _ _).trans ?_))
    exact out_prompt_at _ _ _ _ _ _ _ _ _ _

end Cert.ConvIdeal.Hand
end
-- ==== Proof.lean ====
module

public import proofs.«01_k».proof.Defs
public import proofs.«01_k».proof.Proof.Gen.Ctx
public import proofs.«01_k».proof.Proof.Gen.Ctx.Frame
public import proofs.«01_k».proof.Proof.Gen.CtxIdeal
public import proofs.«01_k».proof.Proof.Gen.CtxIdeal.Value
public import proofs.«01_k».proof.Proof.Gen.CtxRefIdeal
public import proofs.«01_k».proof.Proof.Gen.CtxRefIdeal.Run
public import proofs.«01_k».proof.Proof.Gen.FfnRefIdeal.Run
public import proofs.«01_k».proof.Proof.Gen.Pre_finite_logits
public import proofs.«01_k».proof.Proof.Gen.Ctx.Skeleton
public import proofs.«01_k».proof.Proof.Gen.Ctx.Launch
public import proofs.«01_k».proof.Proof.Gen.Ctx.Points
public import proofs.«01_k».proof.Proof.Gen.CtxIdeal.Skeleton
public import proofs.«01_k».proof.Proof.Gen.CtxIdeal.Launch
public import proofs.«01_k».proof.Proof.Gen.CtxIdeal.Points
public import proofs.«01_k».proof.Proof.Gen.CtxIdeal.Frame
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.CtxFinal
public import proofs.«01_k».proof.Proof.FfnFinal
public import proofs.«01_k».proof.Proof.FfnSame
public import proofs.«01_k».proof.Proof.FfnRefAt
public import Idealize.ShloMosaic.Adequacy
public import Idealize.ShloMosaic.Init
public import proofs.«01_k».proof.Proof.Gen.Half30
public import proofs.«01_k».proof.Proof.Gen.Half30.Skeleton
public import proofs.«01_k».proof.Proof.Gen.Half30.Launch
public import proofs.«01_k».proof.Proof.Gen.Half30.Points
public import proofs.«01_k».proof.Proof.Gen.Half30.Frame
public import proofs.«01_k».proof.Proof.Gen.Half30Ideal
public import proofs.«01_k».proof.Proof.Gen.Half30Ideal.Skeleton
public import proofs.«01_k».proof.Proof.Gen.Half30Ideal.Launch
public import proofs.«01_k».proof.Proof.Gen.Half30Ideal.Points
public import proofs.«01_k».proof.Proof.Gen.Half30Ideal.Frame
public import proofs.«01_k».proof.Proof.Gen.Half30RefIdeal
public import proofs.«01_k».proof.Proof.Gen.Half30RefIdeal.Run
public import proofs.«01_k».proof.Proof.Half30Final
public import proofs.«01_k».proof.Proof.Gen.Half11
public import proofs.«01_k».proof.Proof.Gen.Half11.Skeleton
public import proofs.«01_k».proof.Proof.Gen.Half11.Launch
public import proofs.«01_k».proof.Proof.Gen.Half11.Points
public import proofs.«01_k».proof.Proof.Gen.Half11.Frame
public import proofs.«01_k».proof.Proof.Gen.Half11Ideal
public import proofs.«01_k».proof.Proof.Gen.Half11Ideal.Skeleton
public import proofs.«01_k».proof.Proof.Gen.Half11Ideal.Launch
public import proofs.«01_k».proof.Proof.Gen.Half11Ideal.Points
public import proofs.«01_k».proof.Proof.Gen.Half11Ideal.Frame
public import proofs.«01_k».proof.Proof.Gen.Half11RefIdeal
public import proofs.«01_k».proof.Proof.Gen.Half11RefIdeal.Run
public import proofs.«01_k».proof.Proof.Half11Final
public import proofs.«01_k».proof.Proof.Gen.Half10
public import proofs.«01_k».proof.Proof.Gen.Half10.Skeleton
public import proofs.«01_k».proof.Proof.Gen.Half10.Launch
public import proofs.«01_k».proof.Proof.Gen.Half10.Points
public import proofs.«01_k».proof.Proof.Gen.Half10.Frame
public import proofs.«01_k».proof.Proof.Gen.Half10Ideal
public import proofs.«01_k».proof.Proof.Gen.Half10Ideal.Skeleton
public import proofs.«01_k».proof.Proof.Gen.Half10Ideal.Launch
public import proofs.«01_k».proof.Proof.Gen.Half10Ideal.Points
public import proofs.«01_k».proof.Proof.Gen.Half10Ideal.Frame
public import proofs.«01_k».proof.Proof.Gen.Half10RefIdeal
public import proofs.«01_k».proof.Proof.Gen.Half10RefIdeal.Run
public import proofs.«01_k».proof.Proof.Half10Final
public import proofs.«01_k».proof.Proof.Gen.Half20
public import proofs.«01_k».proof.Proof.Gen.Half20.Skeleton
public import proofs.«01_k».proof.Proof.Gen.Half20.Launch
public import proofs.«01_k».proof.Proof.Gen.Half20.Points
public import proofs.«01_k».proof.Proof.Gen.Half20.Frame
public import proofs.«01_k».proof.Proof.Gen.Half20Ideal
public import proofs.«01_k».proof.Proof.Gen.Half20Ideal.Skeleton
public import proofs.«01_k».proof.Proof.Gen.Half20Ideal.Launch
public import proofs.«01_k».proof.Proof.Gen.Half20Ideal.Points
public import proofs.«01_k».proof.Proof.Gen.Half20Ideal.Frame
public import proofs.«01_k».proof.Proof.Gen.Half20RefIdeal
public import proofs.«01_k».proof.Proof.Gen.Half20RefIdeal.Run
public import proofs.«01_k».proof.Proof.Half20Final
public import proofs.«01_k».proof.Proof.Gen.Half00
public import proofs.«01_k».proof.Proof.Gen.Half00.Skeleton
public import proofs.«01_k».proof.Proof.Gen.Half00.Launch
public import proofs.«01_k».proof.Proof.Gen.Half00.Points
public import proofs.«01_k».proof.Proof.Gen.Half00.Frame
public import proofs.«01_k».proof.Proof.Gen.Half00Ideal
public import proofs.«01_k».proof.Proof.Gen.Half00Ideal.Skeleton
public import proofs.«01_k».proof.Proof.Gen.Half00Ideal.Launch
public import proofs.«01_k».proof.Proof.Gen.Half00Ideal.Points
public import proofs.«01_k».proof.Proof.Gen.Half00Ideal.Frame
public import proofs.«01_k».proof.Proof.Gen.Half00RefIdeal
public import proofs.«01_k».proof.Proof.Gen.Half00RefIdeal.Run
public import proofs.«01_k».proof.Proof.Half00Final
public import proofs.«01_k».proof.Proof.Gen.Half01
public import proofs.«01_k».proof.Proof.Gen.Half01.Skeleton
public import proofs.«01_k».proof.Proof.Gen.Half01.Launch
public import proofs.«01_k».proof.Proof.Gen.Half01.Points
public import proofs.«01_k».proof.Proof.Gen.Half01.Frame
public import proofs.«01_k».proof.Proof.Gen.Half01Ideal
public import proofs.«01_k».proof.Proof.Gen.Half01Ideal.Skeleton
public import proofs.«01_k».proof.Proof.Gen.Half01Ideal.Launch
public import proofs.«01_k».proof.Proof.Gen.Half01Ideal.Points
public import proofs.«01_k».proof.Proof.Gen.Half01Ideal.Frame
public import proofs.«01_k».proof.Proof.Gen.Half01RefIdeal
public import proofs.«01_k».proof.Proof.Gen.Half01RefIdeal.Run
public import proofs.«01_k».proof.Proof.Half01Final
public import proofs.«01_k».proof.Proof.Gen.Half21
public import proofs.«01_k».proof.Proof.Gen.Half21.Skeleton
public import proofs.«01_k».proof.Proof.Gen.Half21.Launch
public import proofs.«01_k».proof.Proof.Gen.Half21.Points
public import proofs.«01_k».proof.Proof.Gen.Half21.Frame
public import proofs.«01_k».proof.Proof.Gen.Half21Ideal
public import proofs.«01_k».proof.Proof.Gen.Half21Ideal.Skeleton
public import proofs.«01_k».proof.Proof.Gen.Half21Ideal.Launch
public import proofs.«01_k».proof.Proof.Gen.Half21Ideal.Points
public import proofs.«01_k».proof.Proof.Gen.Half21Ideal.Frame
public import proofs.«01_k».proof.Proof.Gen.Half21RefIdeal
public import proofs.«01_k».proof.Proof.Gen.Half21RefIdeal.Run
public import proofs.«01_k».proof.Proof.Half21Final
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjRefIdeal.Run
public import proofs.«01_k».proof.Proof.ProjFinal
public import proofs.«01_k».proof.Proof.ConvFinal
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.ConvRefIdeal.Run

@[expose] public section

noncomputable section

namespace Cert.Proof

open Idealize.ShloMosaic Idealize.SL.Sem

/-- Every run of the context attention ends, faults nowhere and leaves its arguments alone. -/
theorem frame_ctx : Cert.quiescent_Ctx (hCtx := Cert.Ctx.Gen.facts) := fun m ρ _ => Cert.Ctx.Gen.frame m ρ

/-- The two named constants are the rounded literals' reals. -/
theorem preserves_ctx : Cert.preserves_Ctx_CtxIdeal :=
  ⟨IdealRules.named_const.statement _ _ _ _ _ rfl, IdealRules.named_const.statement _ _ _ _ _ rfl⟩

/-- The context attention's kernel computes the reference's attention. -/
theorem value_ctx : Cert.algebraic_CtxIdeal_CtxRefIdeal_pre_finite_logits (hCtxIdeal := Cert.CtxIdeal.Gen.facts)
    (hCtxRefIdeal := Cert.CtxRefIdeal.Gen.facts) (hPre_finite_logits := Cert.Pre_finite_logits.Gen.facts) := by
  pair_intro
  · run_from Cert.CtxIdeal.Gen.run_main m g
  · run_from Cert.CtxRefIdeal.Value.run m' g'
    obtain ⟨a0, a1, a2, a3⟩ := hagree c
    rw [Cert.CtxRefIdeal.At.res_eq, a0, a1, a2, a3]
    exact (Cert.CtxIdeal.Block.final m Cert.Pre_finite_logits.Gen.facts c (hpre c)).symm

/-- Every run of the reference ends, faults nowhere and leaves its arguments alone. -/
theorem frame_ctxRef : Cert.quiescent_CtxRefIdeal (hCtxRefIdeal := Cert.CtxRefIdeal.Gen.facts) := fun m ρ _ =>
  (θ_run Cert.CtxRefIdeal.defs _ _).mono (fun r h => ⟨fun c => (h c).2, Idealize.ShloMosaic.sem_eq_zero_of_no_sems (by decide) r.2⟩)
    (Cert.CtxRefIdeal.Value.run (F := Ideal) m ρ)

/-- Every run of the last feed-forward call ends, faults nowhere and leaves its arguments alone. -/
theorem frame_ffn : Cert.quiescent_Ffn (hFfn := Cert.Ffn.Gen.facts) := fun m ρ _ => by
  rw [ffn_defs]
  exact (θ_run Cert.FfnIdeal.defs _ _).mono (fun _ h => h) (Cert.FfnIdeal.Hand.frame (F := Bits) m ρ)

/-- The same of its ideal twin. -/
theorem frame_ffnIdeal : Cert.quiescent_FfnIdeal (hFfnIdeal := Cert.FfnIdeal.Gen.facts) := fun m ρ _ =>
  Cert.FfnIdeal.Hand.frame (F := Ideal) m ρ

/-- The same of the reference. -/
theorem frame_ffnRef : Cert.quiescent_FfnRefIdeal (hFfnRefIdeal := Cert.FfnRefIdeal.Gen.facts) := fun m ρ _ =>
  (θ_run Cert.FfnRefIdeal.defs _ _).mono (fun r h => ⟨fun c => (h c).2.2, Idealize.ShloMosaic.sem_eq_zero_of_no_sems (by decide) r.2⟩)
    (Cert.FfnRefIdeal.Value.run (F := Ideal) m ρ)

/-- The feed-forward kernel computes the reference's two results. -/
theorem value_ffn : Cert.algebraic_FfnIdeal_FfnRefIdeal (hFfnIdeal := Cert.FfnIdeal.Gen.facts) (hFfnRefIdeal := Cert.FfnRefIdeal.Gen.facts) := by
  pair_intro
  · run_from Cert.FfnIdeal.Hand.run_main m g
  · refine (θ_run Cert.FfnRefIdeal.defs _ _).mono (fun r h c => ?_) (Cert.FfnRefIdeal.Value.run (F := Ideal) m' g')
    obtain ⟨a0, a1, a2, a3, a4, a5, a6, a7, a8, a9⟩ := hagree c
    refine ⟨?_, ?_, (h c).2.2⟩
    · refine (Cert.FfnRefIdeal.At.res_sample m' c _ (h c).1).trans ?_
      rw [a1, a3, a5, a6, a7, a8, a9]
      exact (Cert.FfnIdeal.Hand.final_sample m c _).symm
    · refine (Cert.FfnRefIdeal.At.res_prompt m' c _ (h c).2.1).trans ?_
      rw [a0, a2, a4, a6, a7, a8, a9]
      exact (Cert.FfnIdeal.Hand.final_prompt m c _).symm

/-- The frame of the reference of the third layer's input projection. -/
theorem frame_projRef : Cert.quiescent_ProjRefIdeal (hProjRefIdeal := Cert.ProjRefIdeal.Gen.facts) := fun m ρ _ =>
  (θ_run Cert.ProjRefIdeal.defs _ _).mono (fun r h => ⟨fun c => (h c).2, Idealize.ShloMosaic.sem_eq_zero_of_no_sems (by decide) r.2⟩)
    (Cert.ProjRefIdeal.Value.run (F := Ideal) m ρ)

/-- The kernel of the third layer's input projection computes the reference's rows. -/
theorem value_proj : Cert.algebraic_ProjIdeal_ProjRefIdeal (hProjIdeal := Cert.ProjIdeal.Gen.facts) (hProjRefIdeal := Cert.ProjRefIdeal.Gen.facts) := by
  pair_intro
  · run_from Cert.ProjIdeal.Gen.run_main m g
  · refine (θ_run Cert.ProjRefIdeal.defs _ _).mono (fun r h c => ?_) (Cert.ProjRefIdeal.Value.run (F := Ideal) m' g')
    obtain ⟨a0, a1, a2, a3, a4, a5⟩ := hagree c
    refine ⟨?_, (h c).2⟩
    refine Eq.trans (b := Cert.ProjIdeal.Hand.rows (m' ((c.tc : Thread _ _).loc Cert.ProjRefIdeal.main_arg0)) (m' ((c.tc : Thread _ _).loc Cert.ProjRefIdeal.main_arg1)) (m' ((c.tc : Thread _ _).loc Cert.ProjRefIdeal.main_arg2)) (m' ((c.tc : Thread _ _).loc Cert.ProjRefIdeal.main_arg3)) (m' ((c.tc : Thread _ _).loc Cert.ProjRefIdeal.main_arg4)) (m' ((c.tc : Thread _ _).loc Cert.ProjRefIdeal.main_arg5))) (h c).1 ?_
    rw [a0, a1, a2, a3, a4, a5]
    exact (Cert.ProjIdeal.Hand.final m c).symm

/-- The frame of the reference of the convolution layer. -/
theorem frame_convRef : Cert.quiescent_ConvRefIdeal (hConvRefIdeal := Cert.ConvRefIdeal.Gen.facts) := fun m ρ _ =>
  (θ_run Cert.ConvRefIdeal.defs _ _).mono (fun r h => ⟨fun c => (h c).2, Idealize.ShloMosaic.sem_eq_zero_of_no_sems (by decide) r.2⟩)
    (Cert.ConvRefIdeal.Value.run (F := Ideal) m ρ)

/-- The kernel of the convolution layer computes the reference's rows. -/
theorem value_conv : Cert.algebraic_ConvIdeal_ConvRefIdeal (hConvIdeal := Cert.ConvIdeal.Gen.facts) (hConvRefIdeal := Cert.ConvRefIdeal.Gen.facts) := by
  pair_intro
  · run_from Cert.ConvIdeal.Gen.run_main m g
  · refine (θ_run Cert.ConvRefIdeal.defs _ _).mono (fun r h c => ?_) (Cert.ConvRefIdeal.Value.run (F := Ideal) m' g')
    obtain ⟨a0, a1, a2, a3, a4, a5, a6, a7, a8⟩ := hagree c
    refine ⟨?_, (h c).2⟩
    refine Eq.trans (b := Cert.ConvIdeal.Hand.rows (m' ((c.tc : Thread _ _).loc Cert.ConvRefIdeal.main_arg0)) (m' ((c.tc : Thread _ _).loc Cert.ConvRefIdeal.main_arg1)) (m' ((c.tc : Thread _ _).loc Cert.ConvRefIdeal.main_arg2)) (m' ((c.tc : Thread _ _).loc Cert.ConvRefIdeal.main_arg3)) (m' ((c.tc : Thread _ _).loc Cert.ConvRefIdeal.main_arg4)) (m' ((c.tc : Thread _ _).loc Cert.ConvRefIdeal.main_arg5)) (m' ((c.tc : Thread _ _).loc Cert.ConvRefIdeal.main_arg6)) (m' ((c.tc : Thread _ _).loc Cert.ConvRefIdeal.main_arg7)) (m' ((c.tc : Thread _ _).loc Cert.ConvRefIdeal.main_arg8))) (h c).1 ?_
    rw [a0, a1, a2, a3, a4, a5, a6, a7, a8]
    exact (Cert.ConvIdeal.Hand.final m c).symm

/-- The frame of the reference of the last layer's first half-step. -/
theorem frame_30Ref : Cert.quiescent_Half30RefIdeal (hHalf30RefIdeal := Cert.Half30RefIdeal.Gen.facts) := fun m ρ _ =>
  (θ_run Cert.Half30RefIdeal.defs _ _).mono (fun r h => ⟨fun c => (h c).2, Idealize.ShloMosaic.sem_eq_zero_of_no_sems (by decide) r.2⟩)
    (Cert.Half30RefIdeal.Value.run (F := Ideal) m ρ)

/-- The kernel of the last layer's first half-step computes the reference's state. -/
theorem value_30 : Cert.algebraic_Half30Ideal_Half30RefIdeal (hHalf30Ideal := Cert.Half30Ideal.Gen.facts) (hHalf30RefIdeal := Cert.Half30RefIdeal.Gen.facts) := by
  pair_intro
  · run_from Cert.Half30Ideal.Gen.run_main m g
  · refine (θ_run Cert.Half30RefIdeal.defs _ _).mono (fun r h c => ?_) (Cert.Half30RefIdeal.Value.run (F := Ideal) m' g')
    obtain ⟨a0, a1, a2, a3, a4, a5, a6⟩ := hagree c
    refine ⟨?_, (h c).2⟩
    refine Eq.trans (b := Cert.Half30Ideal.Hand.rows (m' ((c.tc : Thread _ _).loc Cert.Half30RefIdeal.main_arg0)) (m' ((c.tc : Thread _ _).loc Cert.Half30RefIdeal.main_arg1)) (m' ((c.tc : Thread _ _).loc Cert.Half30RefIdeal.main_arg2)) (m' ((c.tc : Thread _ _).loc Cert.Half30RefIdeal.main_arg3)) (m' ((c.tc : Thread _ _).loc Cert.Half30RefIdeal.main_arg4)) (m' ((c.tc : Thread _ _).loc Cert.Half30RefIdeal.main_arg5)) (m' ((c.tc : Thread _ _).loc Cert.Half30RefIdeal.main_arg6))) (h c).1 ?_
    rw [a0, a1, a2, a3, a4, a5, a6]
    exact (Cert.Half30Ideal.Hand.final m c).symm

/-- The frame of the reference of the second layer's second half-step. -/
theorem frame_11Ref : Cert.quiescent_Half11RefIdeal (hHalf11RefIdeal := Cert.Half11RefIdeal.Gen.facts) := fun m ρ _ =>
  (θ_run Cert.Half11RefIdeal.defs _ _).mono (fun r h => ⟨fun c => (h c).2, Idealize.ShloMosaic.sem_eq_zero_of_no_sems (by decide) r.2⟩)
    (Cert.Half11RefIdeal.Value.run (F := Ideal) m ρ)

/-- The kernel of the second layer's second half-step computes the reference's state. -/
theorem value_11 : Cert.algebraic_Half11Ideal_Half11RefIdeal (hHalf11Ideal := Cert.Half11Ideal.Gen.facts) (hHalf11RefIdeal := Cert.Half11RefIdeal.Gen.facts) := by
  pair_intro
  · run_from Cert.Half11Ideal.Gen.run_main m g
  · refine (θ_run Cert.Half11RefIdeal.defs _ _).mono (fun r h c => ?_) (Cert.Half11RefIdeal.Value.run (F := Ideal) m' g')
    obtain ⟨a0, a1, a2, a3, a4, a5, a6⟩ := hagree c
    refine ⟨?_, (h c).2⟩
    refine Eq.trans (b := Cert.Half11Ideal.Hand.rows (m' ((c.tc : Thread _ _).loc Cert.Half11RefIdeal.main_arg0)) (m' ((c.tc : Thread _ _).loc Cert.Half11RefIdeal.main_arg1)) (m' ((c.tc : Thread _ _).loc Cert.Half11RefIdeal.main_arg2)) (m' ((c.tc : Thread _ _).loc Cert.Half11RefIdeal.main_arg3)) (m' ((c.tc : Thread _ _).loc Cert.Half11RefIdeal.main_arg4)) (m' ((c.tc : Thread _ _).loc Cert.Half11RefIdeal.main_arg5)) (m' ((c.tc : Thread _ _).loc Cert.Half11RefIdeal.main_arg6))) (h c).1 ?_
    rw [a0, a1, a2, a3, a4, a5, a6]
    exact (Cert.Half11Ideal.Hand.final m c).symm

/-- The frame of the reference of the second layer's first half-step. -/
theorem frame_10Ref : Cert.quiescent_Half10RefIdeal (hHalf10RefIdeal := Cert.Half10RefIdeal.Gen.facts) := fun m ρ _ =>
  (θ_run Cert.Half10RefIdeal.defs _ _).mono (fun r h => ⟨fun c => (h c).2, Idealize.ShloMosaic.sem_eq_zero_of_no_sems (by decide) r.2⟩)
    (Cert.Half10RefIdeal.Value.run (F := Ideal) m ρ)

/-- The kernel of the second layer's first half-step computes the reference's state. -/
theorem value_10 : Cert.algebraic_Half10Ideal_Half10RefIdeal (hHalf10Ideal := Cert.Half10Ideal.Gen.facts) (hHalf10RefIdeal := Cert.Half10RefIdeal.Gen.facts) := by
  pair_intro
  · run_from Cert.Half10Ideal.Gen.run_main m g
  · refine (θ_run Cert.Half10RefIdeal.defs _ _).mono (fun r h c => ?_) (Cert.Half10RefIdeal.Value.run (F := Ideal) m' g')
    obtain ⟨a0, a1, a2, a3, a4, a5, a6, a7, a8, a9, a10⟩ := hagree c
    refine ⟨?_, (h c).2⟩
    refine Eq.trans (b := Cert.Half10Ideal.Hand.rows (m' ((c.tc : Thread _ _).loc Cert.Half10RefIdeal.main_arg0)) (m' ((c.tc : Thread _ _).loc Cert.Half10RefIdeal.main_arg1)) (m' ((c.tc : Thread _ _).loc Cert.Half10RefIdeal.main_arg2)) (m' ((c.tc : Thread _ _).loc Cert.Half10RefIdeal.main_arg3)) (m' ((c.tc : Thread _ _).loc Cert.Half10RefIdeal.main_arg4)) (m' ((c.tc : Thread _ _).loc Cert.Half10RefIdeal.main_arg5)) (m' ((c.tc : Thread _ _).loc Cert.Half10RefIdeal.main_arg6))) (h c).1 ?_
    rw [a0, a1, a2, a3, a4, a5, a6]
    exact (Cert.Half10Ideal.Hand.final m c).symm

/-- The frame of the reference of the third layer's first half-step. -/
theorem frame_20Ref : Cert.quiescent_Half20RefIdeal (hHalf20RefIdeal := Cert.Half20RefIdeal.Gen.facts) := fun m ρ _ =>
  (θ_run Cert.Half20RefIdeal.defs _ _).mono (fun r h => ⟨fun c => (h c).2, Idealize.ShloMosaic.sem_eq_zero_of_no_sems (by decide) r.2⟩)
    (Cert.Half20RefIdeal.Value.run (F := Ideal) m ρ)

/-- The kernel of the third layer's first half-step computes the reference's state. -/
theorem value_20 : Cert.algebraic_Half20Ideal_Half20RefIdeal (hHalf20Ideal := Cert.Half20Ideal.Gen.facts) (hHalf20RefIdeal := Cert.Half20RefIdeal.Gen.facts) := by
  pair_intro
  · run_from Cert.Half20Ideal.Gen.run_main m g
  · refine (θ_run Cert.Half20RefIdeal.defs _ _).mono (fun r h c => ?_) (Cert.Half20RefIdeal.Value.run (F := Ideal) m' g')
    obtain ⟨a0, a1, a2, a3, a4, a5, a6, a7, a8, a9, a10⟩ := hagree c
    refine ⟨?_, (h c).2⟩
    refine Eq.trans (b := Cert.Half20Ideal.Hand.rows (m' ((c.tc : Thread _ _).loc Cert.Half20RefIdeal.main_arg0)) (m' ((c.tc : Thread _ _).loc Cert.Half20RefIdeal.main_arg1)) (m' ((c.tc : Thread _ _).loc Cert.Half20RefIdeal.main_arg2)) (m' ((c.tc : Thread _ _).loc Cert.Half20RefIdeal.main_arg3)) (m' ((c.tc : Thread _ _).loc Cert.Half20RefIdeal.main_arg4)) (m' ((c.tc : Thread _ _).loc Cert.Half20RefIdeal.main_arg5)) (m' ((c.tc : Thread _ _).loc Cert.Half20RefIdeal.main_arg6))) (h c).1 ?_
    rw [a0, a1, a2, a3, a4, a5, a6]
    exact (Cert.Half20Ideal.Hand.final m c).symm

/-- The frame of the reference of the first layer's first half-step. -/
theorem frame_00Ref : Cert.quiescent_Half00RefIdeal (hHalf00RefIdeal := Cert.Half00RefIdeal.Gen.facts) := fun m ρ _ =>
  (θ_run Cert.Half00RefIdeal.defs _ _).mono (fun r h => ⟨fun c => (h c).2, Idealize.ShloMosaic.sem_eq_zero_of_no_sems (by decide) r.2⟩)
    (Cert.Half00RefIdeal.Value.run (F := Ideal) m ρ)

/-- The kernel of the first layer's first half-step computes the reference's state. -/
theorem value_00 : Cert.algebraic_Half00Ideal_Half00RefIdeal (hHalf00Ideal := Cert.Half00Ideal.Gen.facts) (hHalf00RefIdeal := Cert.Half00RefIdeal.Gen.facts) := by
  pair_intro
  · run_from Cert.Half00Ideal.Gen.run_main m g
  · refine (θ_run Cert.Half00RefIdeal.defs _ _).mono (fun r h c => ?_) (Cert.Half00RefIdeal.Value.run (F := Ideal) m' g')
    obtain ⟨a0, a1, a2, a3, a4, a5, a6, a7, a8, a9, a10⟩ := hagree c
    refine ⟨?_, (h c).2⟩
    refine Eq.trans (b := Cert.Half00Ideal.Hand.rows (m' ((c.tc : Thread _ _).loc Cert.Half00RefIdeal.main_arg0)) (m' ((c.tc : Thread _ _).loc Cert.Half00RefIdeal.main_arg1)) (m' ((c.tc : Thread _ _).loc Cert.Half00RefIdeal.main_arg2)) (m' ((c.tc : Thread _ _).loc Cert.Half00RefIdeal.main_arg3)) (m' ((c.tc : Thread _ _).loc Cert.Half00RefIdeal.main_arg4)) (m' ((c.tc : Thread _ _).loc Cert.Half00RefIdeal.main_arg5)) (m' ((c.tc : Thread _ _).loc Cert.Half00RefIdeal.main_arg6))) (h c).1 ?_
    rw [a0, a1, a2, a3, a4, a5, a6]
    exact (Cert.Half00Ideal.Hand.final m c).symm

/-- The frame of the reference of the first layer's mixer residual and second half-step. -/
theorem frame_01Ref : Cert.quiescent_Half01RefIdeal (hHalf01RefIdeal := Cert.Half01RefIdeal.Gen.facts) := fun m ρ _ =>
  (θ_run Cert.Half01RefIdeal.defs _ _).mono (fun r h => ⟨fun c => (h c).2, Idealize.ShloMosaic.sem_eq_zero_of_no_sems (by decide) r.2⟩)
    (Cert.Half01RefIdeal.Value.run (F := Ideal) m ρ)

/-- The kernel of the first layer's mixer residual and second half-step computes the reference's state. -/
theorem value_01 : Cert.algebraic_Half01Ideal_Half01RefIdeal (hHalf01Ideal := Cert.Half01Ideal.Gen.facts) (hHalf01RefIdeal := Cert.Half01RefIdeal.Gen.facts) := by
  pair_intro
  · run_from Cert.Half01Ideal.Gen.run_main m g
  · refine (θ_run Cert.Half01RefIdeal.defs _ _).mono (fun r h c => ?_) (Cert.Half01RefIdeal.Value.run (F := Ideal) m' g')
    obtain ⟨a0, a1, a2, a3, a4, a5, a6, a7, a8, a9⟩ := hagree c
    refine ⟨?_, (h c).2⟩
    refine Eq.trans (b := Cert.Half01Ideal.Hand.rows (m' ((c.tc : Thread _ _).loc Cert.Half01RefIdeal.main_arg0)) (m' ((c.tc : Thread _ _).loc Cert.Half01RefIdeal.main_arg1)) (m' ((c.tc : Thread _ _).loc Cert.Half01RefIdeal.main_arg2)) (m' ((c.tc : Thread _ _).loc Cert.Half01RefIdeal.main_arg3)) (m' ((c.tc : Thread _ _).loc Cert.Half01RefIdeal.main_arg4)) (m' ((c.tc : Thread _ _).loc Cert.Half01RefIdeal.main_arg5)) (m' ((c.tc : Thread _ _).loc Cert.Half01RefIdeal.main_arg6)) (m' ((c.tc : Thread _ _).loc Cert.Half01RefIdeal.main_arg7)) (m' ((c.tc : Thread _ _).loc Cert.Half01RefIdeal.main_arg8)) (m' ((c.tc : Thread _ _).loc Cert.Half01RefIdeal.main_arg9))) (h c).1 ?_
    rw [a0, a1, a2, a3, a4, a5, a6, a7, a8, a9]
    exact (Cert.Half01Ideal.Hand.final m c).symm

/-- The frame of the reference of the third layer's mixer residual and second half-step. -/
theorem frame_21Ref : Cert.quiescent_Half21RefIdeal (hHalf21RefIdeal := Cert.Half21RefIdeal.Gen.facts) := fun m ρ _ =>
  (θ_run Cert.Half21RefIdeal.defs _ _).mono (fun r h => ⟨fun c => (h c).2, Idealize.ShloMosaic.sem_eq_zero_of_no_sems (by decide) r.2⟩)
    (Cert.Half21RefIdeal.Value.run (F := Ideal) m ρ)

/-- The kernel of the third layer's mixer residual and second half-step computes the reference's state. -/
theorem value_21 : Cert.algebraic_Half21Ideal_Half21RefIdeal (hHalf21Ideal := Cert.Half21Ideal.Gen.facts) (hHalf21RefIdeal := Cert.Half21RefIdeal.Gen.facts) := by
  pair_intro
  · run_from Cert.Half21Ideal.Gen.run_main m g
  · refine (θ_run Cert.Half21RefIdeal.defs _ _).mono (fun r h c => ?_) (Cert.Half21RefIdeal.Value.run (F := Ideal) m' g')
    obtain ⟨a0, a1, a2, a3, a4, a5, a6, a7, a8, a9⟩ := hagree c
    refine ⟨?_, (h c).2⟩
    refine Eq.trans (b := Cert.Half21Ideal.Hand.rows (m' ((c.tc : Thread _ _).loc Cert.Half21RefIdeal.main_arg0)) (m' ((c.tc : Thread _ _).loc Cert.Half21RefIdeal.main_arg1)) (m' ((c.tc : Thread _ _).loc Cert.Half21RefIdeal.main_arg2)) (m' ((c.tc : Thread _ _).loc Cert.Half21RefIdeal.main_arg3)) (m' ((c.tc : Thread _ _).loc Cert.Half21RefIdeal.main_arg4)) (m' ((c.tc : Thread _ _).loc Cert.Half21RefIdeal.main_arg5)) (m' ((c.tc : Thread _ _).loc Cert.Half21RefIdeal.main_arg6)) (m' ((c.tc : Thread _ _).loc Cert.Half21RefIdeal.main_arg7)) (m' ((c.tc : Thread _ _).loc Cert.Half21RefIdeal.main_arg8)) (m' ((c.tc : Thread _ _).loc Cert.Half21RefIdeal.main_arg9))) (h c).1 ?_
    rw [a0, a1, a2, a3, a4, a5, a6, a7, a8, a9]
    exact (Cert.Half21Ideal.Hand.final m c).symm

/-- Every claim of the certificate. -/
theorem claim : Cert.Claim := ⟨Cert.Ctx.Gen.facts, Cert.CtxIdeal.Gen.facts, Cert.CtxRefIdeal.Gen.facts,
  Cert.Ffn.Gen.facts, Cert.FfnIdeal.Gen.facts, Cert.FfnRefIdeal.Gen.facts,
  Cert.Proj.Gen.facts, Cert.ProjIdeal.Gen.facts, Cert.ProjRefIdeal.Gen.facts,
  Cert.Conv.Gen.facts, Cert.ConvIdeal.Gen.facts, Cert.ConvRefIdeal.Gen.facts,
  Cert.Half30.Gen.facts, Cert.Half30Ideal.Gen.facts, Cert.Half30RefIdeal.Gen.facts,
  Cert.Half11.Gen.facts, Cert.Half11Ideal.Gen.facts, Cert.Half11RefIdeal.Gen.facts,
  Cert.Half10.Gen.facts, Cert.Half10Ideal.Gen.facts, Cert.Half10RefIdeal.Gen.facts,
  Cert.Half20.Gen.facts, Cert.Half20Ideal.Gen.facts, Cert.Half20RefIdeal.Gen.facts,
  Cert.Half00.Gen.facts, Cert.Half00Ideal.Gen.facts, Cert.Half00RefIdeal.Gen.facts,
  Cert.Half01.Gen.facts, Cert.Half01Ideal.Gen.facts, Cert.Half01RefIdeal.Gen.facts,
  Cert.Half21.Gen.facts, Cert.Half21Ideal.Gen.facts, Cert.Half21RefIdeal.Gen.facts,
  Cert.Pre_finite_logits.Gen.facts,
  frame_ctx, fun m ρ _ => Cert.CtxIdeal.Gen.frame m ρ, fun m ρ _ => Cert.CtxIdeal.Gen.frame m ρ,
  frame_ctxRef, fun m ρ _ => frame_ctxRef m ρ trivial,
  frame_ffn, frame_ffnIdeal, frame_ffnRef,
  fun m ρ _ => Cert.Proj.Gen.frame m ρ, fun m ρ _ => Cert.ProjIdeal.Gen.frame m ρ, frame_projRef,
  fun m ρ _ => Cert.Conv.Gen.frame m ρ, fun m ρ _ => Cert.ConvIdeal.Gen.frame m ρ, frame_convRef,
  fun m ρ _ => Cert.Half30.Gen.frame m ρ, fun m ρ _ => Cert.Half30Ideal.Gen.frame m ρ, frame_30Ref,
  fun m ρ _ => Cert.Half11.Gen.frame m ρ, fun m ρ _ => Cert.Half11Ideal.Gen.frame m ρ, frame_11Ref,
  fun m ρ _ => Cert.Half10.Gen.frame m ρ, fun m ρ _ => Cert.Half10Ideal.Gen.frame m ρ, frame_10Ref,
  fun m ρ _ => Cert.Half20.Gen.frame m ρ, fun m ρ _ => Cert.Half20Ideal.Gen.frame m ρ, frame_20Ref,
  fun m ρ _ => Cert.Half00.Gen.frame m ρ, fun m ρ _ => Cert.Half00Ideal.Gen.frame m ρ, frame_00Ref,
  fun m ρ _ => Cert.Half01.Gen.frame m ρ, fun m ρ _ => Cert.Half01Ideal.Gen.frame m ρ, frame_01Ref,
  fun m ρ _ => Cert.Half21.Gen.frame m ρ, fun m ρ _ => Cert.Half21Ideal.Gen.frame m ρ, frame_21Ref,
  preserves_ctx, value_ctx, trivial, value_ffn, trivial, value_proj, trivial, value_conv, trivial, value_30, trivial, value_11, trivial, value_10, trivial, value_20, trivial, value_00, trivial, value_01, trivial, value_21⟩

end Cert.Proof

end
